-- ==== Defs.lean ====
def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_ReluBwd (m : (ℓ : Loc Cert.ReluBwd.nD Cert.ReluBwd.τ Cert.ReluBwd.sig) → Buf (Elt Bits) ℓ) : Prop :=
  True

def Pre_ReluBwdIdeal (m : (ℓ : Loc Cert.ReluBwdIdeal.nD Cert.ReluBwdIdeal.τ Cert.ReluBwdIdeal.sig) → Buf (Elt Ideal) ℓ) : Prop :=
  True

def Pre_ReluRefIdeal (m : (ℓ : Loc Cert.ReluRefIdeal.nD Cert.ReluRefIdeal.τ Cert.ReluRefIdeal.sig) → Buf (Elt Ideal) ℓ) : Prop :=
  True

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_finite [hPre_finite : Cert.Pre_finite.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).1 = (fun _ => 1#1)
    ∧ (Cert.Pre_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).2.1 = (fun _ => 1#1)
    ∧ (Cert.Pre_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).2.2.1 = (fun _ => 1#1)
    ∧ (Cert.Pre_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.2 = (fun _ => 1#1)

def Pre_QropeBwd (m : (ℓ : Loc Cert.QropeBwd.nD Cert.QropeBwd.τ Cert.QropeBwd.sig) → Buf (Elt Bits) ℓ) : Prop :=
  True

def Pre_QropeBwdIdeal (m : (ℓ : Loc Cert.QropeBwdIdeal.nD Cert.QropeBwdIdeal.τ Cert.QropeBwdIdeal.sig) → Buf (Elt Ideal) ℓ) : Prop :=
  True

def Pre_QropeRefIdeal (m : (ℓ : Loc Cert.QropeRefIdeal.nD Cert.QropeRefIdeal.τ Cert.QropeRefIdeal.sig) → Buf (Elt Ideal) ℓ) : Prop :=
  True

def Pre_MemqBwd (m : (ℓ : Loc Cert.MemqBwd.nD Cert.MemqBwd.τ Cert.MemqBwd.sig) → Buf (Elt Bits) ℓ) : Prop :=
  True

def Pre_MemqBwdIdeal (m : (ℓ : Loc Cert.MemqBwdIdeal.nD Cert.MemqBwdIdeal.τ Cert.MemqBwdIdeal.sig) → Buf (Elt Ideal) ℓ) : Prop :=
  True

def Pre_MemqRefIdeal (m : (ℓ : Loc Cert.MemqRefIdeal.nD Cert.MemqRefIdeal.τ Cert.MemqRefIdeal.sig) → Buf (Elt Ideal) ℓ) : Prop :=
  True

def Pre_LossBwd (m : (ℓ : Loc Cert.LossBwd.nD Cert.LossBwd.τ Cert.LossBwd.sig) → Buf (Elt Bits) ℓ) : Prop :=
  True

def Pre_LossBwdIdeal (m : (ℓ : Loc Cert.LossBwdIdeal.nD Cert.LossBwdIdeal.τ Cert.LossBwdIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_MlpupBwd (m : (ℓ : Loc Cert.MlpupBwd.nD Cert.MlpupBwd.τ Cert.MlpupBwd.sig) → Buf (Elt Bits) ℓ) : Prop :=
  True

def Pre_MlpupBwdIdeal (m : (ℓ : Loc Cert.MlpupBwdIdeal.nD Cert.MlpupBwdIdeal.τ Cert.MlpupBwdIdeal.sig) → Buf (Elt Ideal) ℓ) : Prop :=
  True

def Pre_MlpupRefIdeal (m : (ℓ : Loc Cert.MlpupRefIdeal.nD Cert.MlpupRefIdeal.τ Cert.MlpupRefIdeal.sig) → Buf (Elt Ideal) ℓ) : Prop :=
  True

def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_PrepBwd (m : (ℓ : Loc Cert.PrepBwd.nD Cert.PrepBwd.τ Cert.PrepBwd.sig) → Buf (Elt Bits) ℓ) : Prop :=
  True

def Pre_PrepBwdIdeal (m : (ℓ : Loc Cert.PrepBwdIdeal.nD Cert.PrepBwdIdeal.τ Cert.PrepBwdIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def Pre_XattnBwd (m : (ℓ : Loc Cert.XattnBwd.nD Cert.XattnBwd.τ Cert.XattnBwd.sig) → Buf (Elt Bits) ℓ) : Prop :=
  True

def Pre_XattnBwdIdeal (m : (ℓ : Loc Cert.XattnBwdIdeal.nD Cert.XattnBwdIdeal.τ Cert.XattnBwdIdeal.sig) → Buf (Elt Ideal) ℓ) : Prop :=
  True

def Pre_XattnBwdIdeal_xattn_finite [hPre_xattn_finite : Cert.Pre_xattn_finite.Facts] (m : (ℓ : Loc Cert.XattnBwdIdeal.nD Cert.XattnBwdIdeal.τ Cert.XattnBwdIdeal.sig) → Buf (Elt Ideal) ℓ) : Prop :=
  ∀ c : Dev Cert.XattnBwdIdeal.nD,
    (Cert.Pre_xattn_finite.fn (F := Ideal) (m ((c.tc : Thread Cert.XattnBwdIdeal.nD Cert.XattnBwdIdeal.τ).loc Cert.XattnBwdIdeal.main_arg0)) (m ((c.tc : Thread Cert.XattnBwdIdeal.nD Cert.XattnBwdIdeal.τ).loc Cert.XattnBwdIdeal.main_arg1)) (m ((c.tc : Thread Cert.XattnBwdIdeal.nD Cert.XattnBwdIdeal.τ).loc Cert.XattnBwdIdeal.main_arg2)) (m ((c.tc : Thread Cert.XattnBwdIdeal.nD Cert.XattnBwdIdeal.τ).loc Cert.XattnBwdIdeal.main_arg3))).1 = (fun _ => 1#1)
    ∧ (Cert.Pre_xattn_finite.fn (F := Ideal) (m ((c.tc : Thread Cert.XattnBwdIdeal.nD Cert.XattnBwdIdeal.τ).loc Cert.XattnBwdIdeal.main_arg0)) (m ((c.tc : Thread Cert.XattnBwdIdeal.nD Cert.XattnBwdIdeal.τ).loc Cert.XattnBwdIdeal.main_arg1)) (m ((c.tc : Thread Cert.XattnBwdIdeal.nD Cert.XattnBwdIdeal.τ).loc Cert.XattnBwdIdeal.main_arg2)) (m ((c.tc : Thread Cert.XattnBwdIdeal.nD Cert.XattnBwdIdeal.τ).loc Cert.XattnBwdIdeal.main_arg3))).2.1 = (fun _ => 1#1)
    ∧ (Cert.Pre_xattn_finite.fn (F := Ideal) (m ((c.tc : Thread Cert.XattnBwdIdeal.nD Cert.XattnBwdIdeal.τ).loc Cert.XattnBwdIdeal.main_arg0)) (m ((c.tc : Thread Cert.XattnBwdIdeal.nD Cert.XattnBwdIdeal.τ).loc Cert.XattnBwdIdeal.main_arg1)) (m ((c.tc : Thread Cert.XattnBwdIdeal.nD Cert.XattnBwdIdeal.τ).loc Cert.XattnBwdIdeal.main_arg2)) (m ((c.tc : Thread Cert.XattnBwdIdeal.nD Cert.XattnBwdIdeal.τ).loc Cert.XattnBwdIdeal.main_arg3))).2.2.1 = (fun _ => 1#1)
    ∧ (Cert.Pre_xattn_finite.fn (F := Ideal) (m ((c.tc : Thread Cert.XattnBwdIdeal.nD Cert.XattnBwdIdeal.τ).loc Cert.XattnBwdIdeal.main_arg0)) (m ((c.tc : Thread Cert.XattnBwdIdeal.nD Cert.XattnBwdIdeal.τ).loc Cert.XattnBwdIdeal.main_arg1)) (m ((c.tc : Thread Cert.XattnBwdIdeal.nD Cert.XattnBwdIdeal.τ).loc Cert.XattnBwdIdeal.main_arg2)) (m ((c.tc : Thread Cert.XattnBwdIdeal.nD Cert.XattnBwdIdeal.τ).loc Cert.XattnBwdIdeal.main_arg3))).2.2.2 = (fun _ => 1#1)

def Pre_XattnRefIdeal (m : (ℓ : Loc Cert.XattnRefIdeal.nD Cert.XattnRefIdeal.τ Cert.XattnRefIdeal.sig) → Buf (Elt Ideal) ℓ) : Prop :=
  True

def Pre_XattnRefIdeal_xattn_finite [hPre_xattn_finite : Cert.Pre_xattn_finite.Facts] (m : (ℓ : Loc Cert.XattnRefIdeal.nD Cert.XattnRefIdeal.τ Cert.XattnRefIdeal.sig) → Buf (Elt Ideal) ℓ) : Prop :=
  ∀ c : Dev Cert.XattnRefIdeal.nD,
    (Cert.Pre_xattn_finite.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2)) (m ((c.tc : Thread Cert.XattnRefIdeal.nD Cert.XattnRefIdeal.τ).loc Cert.XattnRefIdeal.main_arg3))).1 = (fun _ => 1#1)
    ∧ (Cert.Pre_xattn_finite.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2)) (m ((c.tc : Thread Cert.XattnRefIdeal.nD Cert.XattnRefIdeal.τ).loc Cert.XattnRefIdeal.main_arg3))).2.1 = (fun _ => 1#1)
    ∧ (Cert.Pre_xattn_finite.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2)) (m ((c.tc : Thread Cert.XattnRefIdeal.nD Cert.XattnRefIdeal.τ).loc Cert.XattnRefIdeal.main_arg3))).2.2.1 = (fun _ => 1#1)
    ∧ (Cert.Pre_xattn_finite.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2)) (m ((c.tc : Thread Cert.XattnRefIdeal.nD Cert.XattnRefIdeal.τ).loc Cert.XattnRefIdeal.main_arg3))).2.2.2 = (fun _ => 1#1)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3)
      ∧ r.2.mem ((c.tc : Thread Cert.ConvBwd.nD Cert.ConvBwd.τ).loc Cert.ConvBwd.main_arg4) = m ((c.tc : Thread Cert.ConvBwd.nD Cert.ConvBwd.τ).loc Cert.ConvBwd.main_arg4)
      ∧ r.2.mem ((c.tc : Thread Cert.ConvBwd.nD Cert.ConvBwd.τ).loc Cert.ConvBwd.main_arg5) = m ((c.tc : Thread Cert.ConvBwd.nD Cert.ConvBwd.τ).loc Cert.ConvBwd.main_arg5)
      ∧ r.2.mem ((c.tc : Thread Cert.ConvBwd.nD Cert.ConvBwd.τ).loc Cert.ConvBwd.main_arg6) = m ((c.tc : Thread Cert.ConvBwd.nD Cert.ConvBwd.τ).loc Cert.ConvBwd.main_arg6)
      ∧ r.2.mem ((c.tc : Thread Cert.ConvBwd.nD Cert.ConvBwd.τ).loc Cert.ConvBwd.main_arg7) = m ((c.tc : Thread Cert.ConvBwd.nD Cert.ConvBwd.τ).loc Cert.ConvBwd.main_arg7))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
      ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4)
      ∧ r.2.mem ((c.tc : Thread Cert.ConvBwdIdeal.nD Cert.ConvBwdIdeal.τ).loc Cert.ConvBwdIdeal.main_arg5) = m ((c.tc : Thread Cert.ConvBwdIdeal.nD Cert.ConvBwdIdeal.τ).loc Cert.ConvBwdIdeal.main_arg5)
      ∧ r.2.mem ((c.tc : Thread Cert.ConvBwdIdeal.nD Cert.ConvBwdIdeal.τ).loc Cert.ConvBwdIdeal.main_arg6) = m ((c.tc : Thread Cert.ConvBwdIdeal.nD Cert.ConvBwdIdeal.τ).loc Cert.ConvBwdIdeal.main_arg6)
      ∧ r.2.mem ((c.tc : Thread Cert.ConvBwdIdeal.nD Cert.ConvBwdIdeal.τ).loc Cert.ConvBwdIdeal.main_arg7) = m ((c.tc : Thread Cert.ConvBwdIdeal.nD Cert.ConvBwdIdeal.τ).loc Cert.ConvBwdIdeal.main_arg7))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5)
      ∧ r.2.mem ((c.tc : Thread Cert.ConvRefIdeal.nD Cert.ConvRefIdeal.τ).loc Cert.ConvRefIdeal.main_arg6) = m ((c.tc : Thread Cert.ConvRefIdeal.nD Cert.ConvRefIdeal.τ).loc Cert.ConvRefIdeal.main_arg6)
      ∧ r.2.mem ((c.tc : Thread Cert.ConvRefIdeal.nD Cert.ConvRefIdeal.τ).loc Cert.ConvRefIdeal.main_arg7) = m ((c.tc : Thread Cert.ConvRefIdeal.nD Cert.ConvRefIdeal.τ).loc Cert.ConvRefIdeal.main_arg7))
      ∧ r.2.sem = fun _ => 0)

def quiescent_ReluBwd [hReluBwd : Cert.ReluBwd.Facts] : Prop :=
  ∀ (m : (ℓ : Loc Cert.ReluBwd.nD Cert.ReluBwd.τ Cert.ReluBwd.sig) → Buf (Elt Bits) ℓ) (g : Dev Cert.ReluBwd.nD → PrngReg), Pre_ReluBwd m →
    θ_run (Cert.ReluBwd.defs (F := Bits)) (onTc (τ := Cert.ReluBwd.τ) (Cert.ReluBwd.main (F := Bits))) ⟨m, fun _ => 0, g⟩ (fun r => (∀ c : Dev Cert.ReluBwd.nD,
      r.2.mem ((c.tc : Thread Cert.ReluBwd.nD Cert.ReluBwd.τ).loc Cert.ReluBwd.main_arg0) = m ((c.tc : Thread Cert.ReluBwd.nD Cert.ReluBwd.τ).loc Cert.ReluBwd.main_arg0)
      ∧ r.2.mem ((c.tc : Thread Cert.ReluBwd.nD Cert.ReluBwd.τ).loc Cert.ReluBwd.main_arg1) = m ((c.tc : Thread Cert.ReluBwd.nD Cert.ReluBwd.τ).loc Cert.ReluBwd.main_arg1)
      ∧ r.2.mem ((c.tc : Thread Cert.ReluBwd.nD Cert.ReluBwd.τ).loc Cert.ReluBwd.main_arg2) = m ((c.tc : Thread Cert.ReluBwd.nD Cert.ReluBwd.τ).loc Cert.ReluBwd.main_arg2)
      ∧ r.2.mem ((c.tc : Thread Cert.ReluBwd.nD Cert.ReluBwd.τ).loc Cert.ReluBwd.main_arg3) = m ((c.tc : Thread Cert.ReluBwd.nD Cert.ReluBwd.τ).loc Cert.ReluBwd.main_arg3))
      ∧ r.2.sem = fun _ => 0)

def quiescent_ReluBwdIdeal [hReluBwdIdeal : Cert.ReluBwdIdeal.Facts] : Prop :=
  ∀ (m : (ℓ : Loc Cert.ReluBwdIdeal.nD Cert.ReluBwdIdeal.τ Cert.ReluBwdIdeal.sig) → Buf (Elt Ideal) ℓ) (g : Dev Cert.ReluBwdIdeal.nD → PrngReg), Pre_ReluBwdIdeal m →
    θ_run (Cert.ReluBwdIdeal.defs (F := Ideal)) (onTc (τ := Cert.ReluBwdIdeal.τ) (Cert.ReluBwdIdeal.main (F := Ideal))) ⟨m, fun _ => 0, g⟩ (fun r => (∀ c : Dev Cert.ReluBwdIdeal.nD,
      r.2.mem ((c.tc : Thread Cert.ReluBwdIdeal.nD Cert.ReluBwdIdeal.τ).loc Cert.ReluBwdIdeal.main_arg0) = m ((c.tc : Thread Cert.ReluBwdIdeal.nD Cert.ReluBwdIdeal.τ).loc Cert.ReluBwdIdeal.main_arg0)
      ∧ r.2.mem ((c.tc : Thread Cert.ReluBwdIdeal.nD Cert.ReluBwdIdeal.τ).loc Cert.ReluBwdIdeal.main_arg1) = m ((c.tc : Thread Cert.ReluBwdIdeal.nD Cert.ReluBwdIdeal.τ).loc Cert.ReluBwdIdeal.main_arg1)
      ∧ r.2.mem ((c.tc : Thread Cert.ReluBwdIdeal.nD Cert.ReluBwdIdeal.τ).loc Cert.ReluBwdIdeal.main_arg2) = m ((c.tc : Thread Cert.ReluBwdIdeal.nD Cert.ReluBwdIdeal.τ).loc Cert.ReluBwdIdeal.main_arg2)
      ∧ r.2.mem ((c.tc : Thread Cert.ReluBwdIdeal.nD Cert.ReluBwdIdeal.τ).loc Cert.ReluBwdIdeal.main_arg3) = m ((c.tc : Thread Cert.ReluBwdIdeal.nD Cert.ReluBwdIdeal.τ).loc Cert.ReluBwdIdeal.main_arg3))
      ∧ r.2.sem = fun _ => 0)

def quiescent_ReluRefIdeal [hReluRefIdeal : Cert.ReluRefIdeal.Facts] : Prop :=
  ∀ (m : (ℓ : Loc Cert.ReluRefIdeal.nD Cert.ReluRefIdeal.τ Cert.ReluRefIdeal.sig) → Buf (Elt Ideal) ℓ) (g : Dev Cert.ReluRefIdeal.nD → PrngReg), Pre_ReluRefIdeal m →
    θ_run (Cert.ReluRefIdeal.defs (F := Ideal)) (onTc (τ := Cert.ReluRefIdeal.τ) (Cert.ReluRefIdeal.main (F := Ideal))) ⟨m, fun _ => 0, g⟩ (fun r => (∀ c : Dev Cert.ReluRefIdeal.nD,
      r.2.mem ((c.tc : Thread Cert.ReluRefIdeal.nD Cert.ReluRefIdeal.τ).loc Cert.ReluRefIdeal.main_arg0) = m ((c.tc : Thread Cert.ReluRefIdeal.nD Cert.ReluRefIdeal.τ).loc Cert.ReluRefIdeal.main_arg0)
      ∧ r.2.mem ((c.tc : Thread Cert.ReluRefIdeal.nD Cert.ReluRefIdeal.τ).loc Cert.ReluRefIdeal.main_arg1) = m ((c.tc : Thread Cert.ReluRefIdeal.nD Cert.ReluRefIdeal.τ).loc Cert.ReluRefIdeal.main_arg1)
      ∧ r.2.mem ((c.tc : Thread Cert.ReluRefIdeal.nD Cert.ReluRefIdeal.τ).loc Cert.ReluRefIdeal.main_arg2) = m ((c.tc : Thread Cert.ReluRefIdeal.nD Cert.ReluRefIdeal.τ).loc Cert.ReluRefIdeal.main_arg2)
      ∧ r.2.mem ((c.tc : Thread Cert.ReluRefIdeal.nD Cert.ReluRefIdeal.τ).loc Cert.ReluRefIdeal.main_arg3) = m ((c.tc : Thread Cert.ReluRefIdeal.nD Cert.ReluRefIdeal.τ).loc Cert.ReluRefIdeal.main_arg3))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdIdeal_pre_finite [hAttnBwdIdeal : Cert.AttnBwdIdeal.Facts] [hPre_finite : Cert.Pre_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_finite m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_QropeBwd [hQropeBwd : Cert.QropeBwd.Facts] : Prop :=
  ∀ (m : (ℓ : Loc Cert.QropeBwd.nD Cert.QropeBwd.τ Cert.QropeBwd.sig) → Buf (Elt Bits) ℓ) (g : Dev Cert.QropeBwd.nD → PrngReg), Pre_QropeBwd m →
    θ_run (Cert.QropeBwd.defs (F := Bits)) (onTc (τ := Cert.QropeBwd.τ) (Cert.QropeBwd.main (F := Bits))) ⟨m, fun _ => 0, g⟩ (fun r => (∀ c : Dev Cert.QropeBwd.nD,
      r.2.mem ((c.tc : Thread Cert.QropeBwd.nD Cert.QropeBwd.τ).loc Cert.QropeBwd.main_arg0) = m ((c.tc : Thread Cert.QropeBwd.nD Cert.QropeBwd.τ).loc Cert.QropeBwd.main_arg0)
      ∧ r.2.mem ((c.tc : Thread Cert.QropeBwd.nD Cert.QropeBwd.τ).loc Cert.QropeBwd.main_arg1) = m ((c.tc : Thread Cert.QropeBwd.nD Cert.QropeBwd.τ).loc Cert.QropeBwd.main_arg1)
      ∧ r.2.mem ((c.tc : Thread Cert.QropeBwd.nD Cert.QropeBwd.τ).loc Cert.QropeBwd.main_arg2) = m ((c.tc : Thread Cert.QropeBwd.nD Cert.QropeBwd.τ).loc Cert.QropeBwd.main_arg2))
      ∧ r.2.sem = fun _ => 0)

def quiescent_QropeBwdIdeal [hQropeBwdIdeal : Cert.QropeBwdIdeal.Facts] : Prop :=
  ∀ (m : (ℓ : Loc Cert.QropeBwdIdeal.nD Cert.QropeBwdIdeal.τ Cert.QropeBwdIdeal.sig) → Buf (Elt Ideal) ℓ) (g : Dev Cert.QropeBwdIdeal.nD → PrngReg), Pre_QropeBwdIdeal m →
    θ_run (Cert.QropeBwdIdeal.defs (F := Ideal)) (onTc (τ := Cert.QropeBwdIdeal.τ) (Cert.QropeBwdIdeal.main (F := Ideal))) ⟨m, fun _ => 0, g⟩ (fun r => (∀ c : Dev Cert.QropeBwdIdeal.nD,
      r.2.mem ((c.tc : Thread Cert.QropeBwdIdeal.nD Cert.QropeBwdIdeal.τ).loc Cert.QropeBwdIdeal.main_arg0) = m ((c.tc : Thread Cert.QropeBwdIdeal.nD Cert.QropeBwdIdeal.τ).loc Cert.QropeBwdIdeal.main_arg0)
      ∧ r.2.mem ((c.tc : Thread Cert.QropeBwdIdeal.nD Cert.QropeBwdIdeal.τ).loc Cert.QropeBwdIdeal.main_arg1) = m ((c.tc : Thread Cert.QropeBwdIdeal.nD Cert.QropeBwdIdeal.τ).loc Cert.QropeBwdIdeal.main_arg1)
      ∧ r.2.mem ((c.tc : Thread Cert.QropeBwdIdeal.nD Cert.QropeBwdIdeal.τ).loc Cert.QropeBwdIdeal.main_arg2) = m ((c.tc : Thread Cert.QropeBwdIdeal.nD Cert.QropeBwdIdeal.τ).loc Cert.QropeBwdIdeal.main_arg2))
      ∧ r.2.sem = fun _ => 0)

def quiescent_QropeRefIdeal [hQropeRefIdeal : Cert.QropeRefIdeal.Facts] : Prop :=
  ∀ (m : (ℓ : Loc Cert.QropeRefIdeal.nD Cert.QropeRefIdeal.τ Cert.QropeRefIdeal.sig) → Buf (Elt Ideal) ℓ) (g : Dev Cert.QropeRefIdeal.nD → PrngReg), Pre_QropeRefIdeal m →
    θ_run (Cert.QropeRefIdeal.defs (F := Ideal)) (onTc (τ := Cert.QropeRefIdeal.τ) (Cert.QropeRefIdeal.main (F := Ideal))) ⟨m, fun _ => 0, g⟩ (fun r => (∀ c : Dev Cert.QropeRefIdeal.nD,
      r.2.mem ((c.tc : Thread Cert.QropeRefIdeal.nD Cert.QropeRefIdeal.τ).loc Cert.QropeRefIdeal.main_arg0) = m ((c.tc : Thread Cert.QropeRefIdeal.nD Cert.QropeRefIdeal.τ).loc Cert.QropeRefIdeal.main_arg0)
      ∧ r.2.mem ((c.tc : Thread Cert.QropeRefIdeal.nD Cert.QropeRefIdeal.τ).loc Cert.QropeRefIdeal.main_arg1) = m ((c.tc : Thread Cert.QropeRefIdeal.nD Cert.QropeRefIdeal.τ).loc Cert.QropeRefIdeal.main_arg1)
      ∧ r.2.mem ((c.tc : Thread Cert.QropeRefIdeal.nD Cert.QropeRefIdeal.τ).loc Cert.QropeRefIdeal.main_arg2) = m ((c.tc : Thread Cert.QropeRefIdeal.nD Cert.QropeRefIdeal.τ).loc Cert.QropeRefIdeal.main_arg2))
      ∧ r.2.sem = fun _ => 0)

def quiescent_MemqBwd [hMemqBwd : Cert.MemqBwd.Facts] : Prop :=
  ∀ (m : (ℓ : Loc Cert.MemqBwd.nD Cert.MemqBwd.τ Cert.MemqBwd.sig) → Buf (Elt Bits) ℓ) (g : Dev Cert.MemqBwd.nD → PrngReg), Pre_MemqBwd m →
    θ_run (Cert.MemqBwd.defs (F := Bits)) (onTc (τ := Cert.MemqBwd.τ) (Cert.MemqBwd.main (F := Bits))) ⟨m, fun _ => 0, g⟩ (fun r => (∀ c : Dev Cert.MemqBwd.nD,
      r.2.mem ((c.tc : Thread Cert.MemqBwd.nD Cert.MemqBwd.τ).loc Cert.MemqBwd.main_arg0) = m ((c.tc : Thread Cert.MemqBwd.nD Cert.MemqBwd.τ).loc Cert.MemqBwd.main_arg0)
      ∧ r.2.mem ((c.tc : Thread Cert.MemqBwd.nD Cert.MemqBwd.τ).loc Cert.MemqBwd.main_arg1) = m ((c.tc : Thread Cert.MemqBwd.nD Cert.MemqBwd.τ).loc Cert.MemqBwd.main_arg1)
      ∧ r.2.mem ((c.tc : Thread Cert.MemqBwd.nD Cert.MemqBwd.τ).loc Cert.MemqBwd.main_arg2) = m ((c.tc : Thread Cert.MemqBwd.nD Cert.MemqBwd.τ).loc Cert.MemqBwd.main_arg2)
      ∧ r.2.mem ((c.tc : Thread Cert.MemqBwd.nD Cert.MemqBwd.τ).loc Cert.MemqBwd.main_arg3) = m ((c.tc : Thread Cert.MemqBwd.nD Cert.MemqBwd.τ).loc Cert.MemqBwd.main_arg3)
      ∧ r.2.mem ((c.tc : Thread Cert.MemqBwd.nD Cert.MemqBwd.τ).loc Cert.MemqBwd.main_arg4) = m ((c.tc : Thread Cert.MemqBwd.nD Cert.MemqBwd.τ).loc Cert.MemqBwd.main_arg4))
      ∧ r.2.sem = fun _ => 0)

def quiescent_MemqBwdIdeal [hMemqBwdIdeal : Cert.MemqBwdIdeal.Facts] : Prop :=
  ∀ (m : (ℓ : Loc Cert.MemqBwdIdeal.nD Cert.MemqBwdIdeal.τ Cert.MemqBwdIdeal.sig) → Buf (Elt Ideal) ℓ) (g : Dev Cert.MemqBwdIdeal.nD → PrngReg), Pre_MemqBwdIdeal m →
    θ_run (Cert.MemqBwdIdeal.defs (F := Ideal)) (onTc (τ := Cert.MemqBwdIdeal.τ) (Cert.MemqBwdIdeal.main (F := Ideal))) ⟨m, fun _ => 0, g⟩ (fun r => (∀ c : Dev Cert.MemqBwdIdeal.nD,
      r.2.mem ((c.tc : Thread Cert.MemqBwdIdeal.nD Cert.MemqBwdIdeal.τ).loc Cert.MemqBwdIdeal.main_arg0) = m ((c.tc : Thread Cert.MemqBwdIdeal.nD Cert.MemqBwdIdeal.τ).loc Cert.MemqBwdIdeal.main_arg0)
      ∧ r.2.mem ((c.tc : Thread Cert.MemqBwdIdeal.nD Cert.MemqBwdIdeal.τ).loc Cert.MemqBwdIdeal.main_arg1) = m ((c.tc : Thread Cert.MemqBwdIdeal.nD Cert.MemqBwdIdeal.τ).loc Cert.MemqBwdIdeal.main_arg1)
      ∧ r.2.mem ((c.tc : Thread Cert.MemqBwdIdeal.nD Cert.MemqBwdIdeal.τ).loc Cert.MemqBwdIdeal.main_arg2) = m ((c.tc : Thread Cert.MemqBwdIdeal.nD Cert.MemqBwdIdeal.τ).loc Cert.MemqBwdIdeal.main_arg2)
      ∧ r.2.mem ((c.tc : Thread Cert.MemqBwdIdeal.nD Cert.MemqBwdIdeal.τ).loc Cert.MemqBwdIdeal.main_arg3) = m ((c.tc : Thread Cert.MemqBwdIdeal.nD Cert.MemqBwdIdeal.τ).loc Cert.MemqBwdIdeal.main_arg3)
      ∧ r.2.mem ((c.tc : Thread Cert.MemqBwdIdeal.nD Cert.MemqBwdIdeal.τ).loc Cert.MemqBwdIdeal.main_arg4) = m ((c.tc : Thread Cert.MemqBwdIdeal.nD Cert.MemqBwdIdeal.τ).loc Cert.MemqBwdIdeal.main_arg4))
      ∧ r.2.sem = fun _ => 0)

def quiescent_MemqRefIdeal [hMemqRefIdeal : Cert.MemqRefIdeal.Facts] : Prop :=
  ∀ (m : (ℓ : Loc Cert.MemqRefIdeal.nD Cert.MemqRefIdeal.τ Cert.MemqRefIdeal.sig) → Buf (Elt Ideal) ℓ) (g : Dev Cert.MemqRefIdeal.nD → PrngReg), Pre_MemqRefIdeal m →
    θ_run (Cert.MemqRefIdeal.defs (F := Ideal)) (onTc (τ := Cert.MemqRefIdeal.τ) (Cert.MemqRefIdeal.main (F := Ideal))) ⟨m, fun _ => 0, g⟩ (fun r => (∀ c : Dev Cert.MemqRefIdeal.nD,
      r.2.mem ((c.tc : Thread Cert.MemqRefIdeal.nD Cert.MemqRefIdeal.τ).loc Cert.MemqRefIdeal.main_arg0) = m ((c.tc : Thread Cert.MemqRefIdeal.nD Cert.MemqRefIdeal.τ).loc Cert.MemqRefIdeal.main_arg0)
      ∧ r.2.mem ((c.tc : Thread Cert.MemqRefIdeal.nD Cert.MemqRefIdeal.τ).loc Cert.MemqRefIdeal.main_arg1) = m ((c.tc : Thread Cert.MemqRefIdeal.nD Cert.MemqRefIdeal.τ).loc Cert.MemqRefIdeal.main_arg1)
      ∧ r.2.mem ((c.tc : Thread Cert.MemqRefIdeal.nD Cert.MemqRefIdeal.τ).loc Cert.MemqRefIdeal.main_arg2) = m ((c.tc : Thread Cert.MemqRefIdeal.nD Cert.MemqRefIdeal.τ).loc Cert.MemqRefIdeal.main_arg2)
      ∧ r.2.mem ((c.tc : Thread Cert.MemqRefIdeal.nD Cert.MemqRefIdeal.τ).loc Cert.MemqRefIdeal.main_arg3) = m ((c.tc : Thread Cert.MemqRefIdeal.nD Cert.MemqRefIdeal.τ).loc Cert.MemqRefIdeal.main_arg3)
      ∧ r.2.mem ((c.tc : Thread Cert.MemqRefIdeal.nD Cert.MemqRefIdeal.τ).loc Cert.MemqRefIdeal.main_arg4) = m ((c.tc : Thread Cert.MemqRefIdeal.nD Cert.MemqRefIdeal.τ).loc Cert.MemqRefIdeal.main_arg4))
      ∧ r.2.sem = fun _ => 0)

def quiescent_LossBwd [hLossBwd : Cert.LossBwd.Facts] : Prop :=
  ∀ (m : (ℓ : Loc Cert.LossBwd.nD Cert.LossBwd.τ Cert.LossBwd.sig) → Buf (Elt Bits) ℓ) (g : Dev Cert.LossBwd.nD → PrngReg), Pre_LossBwd m →
    θ_run (Cert.LossBwd.defs (F := Bits)) (onTc (τ := Cert.LossBwd.τ) (Cert.LossBwd.main (F := Bits))) ⟨m, fun _ => 0, g⟩ (fun r => (∀ c : Dev Cert.LossBwd.nD,
      r.2.mem ((c.tc : Thread Cert.LossBwd.nD Cert.LossBwd.τ).loc Cert.LossBwd.main_arg0) = m ((c.tc : Thread Cert.LossBwd.nD Cert.LossBwd.τ).loc Cert.LossBwd.main_arg0)
      ∧ r.2.mem ((c.tc : Thread Cert.LossBwd.nD Cert.LossBwd.τ).loc Cert.LossBwd.main_arg1) = m ((c.tc : Thread Cert.LossBwd.nD Cert.LossBwd.τ).loc Cert.LossBwd.main_arg1)
      ∧ r.2.mem ((c.tc : Thread Cert.LossBwd.nD Cert.LossBwd.τ).loc Cert.LossBwd.main_arg2) = m ((c.tc : Thread Cert.LossBwd.nD Cert.LossBwd.τ).loc Cert.LossBwd.main_arg2))
      ∧ r.2.sem = fun _ => 0)

def quiescent_LossBwdIdeal [hLossBwdIdeal : Cert.LossBwdIdeal.Facts] : Prop :=
  ∀ (m : (ℓ : Loc Cert.LossBwdIdeal.nD Cert.LossBwdIdeal.τ Cert.LossBwdIdeal.sig) → Buf (Elt Ideal) ℓ) (g : Dev Cert.LossBwdIdeal.nD → PrngReg), Pre_LossBwdIdeal m →
    θ_run (Cert.LossBwdIdeal.defs (F := Ideal)) (onTc (τ := Cert.LossBwdIdeal.τ) (Cert.LossBwdIdeal.main (F := Ideal))) ⟨m, fun _ => 0, g⟩ (fun r => (∀ c : Dev Cert.LossBwdIdeal.nD,
      r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
      ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
      ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_MlpupBwd [hMlpupBwd : Cert.MlpupBwd.Facts] : Prop :=
  ∀ (m : (ℓ : Loc Cert.MlpupBwd.nD Cert.MlpupBwd.τ Cert.MlpupBwd.sig) → Buf (Elt Bits) ℓ) (g : Dev Cert.MlpupBwd.nD → PrngReg), Pre_MlpupBwd m →
    θ_run (Cert.MlpupBwd.defs (F := Bits)) (onTc (τ := Cert.MlpupBwd.τ) (Cert.MlpupBwd.main (F := Bits))) ⟨m, fun _ => 0, g⟩ (fun r => (∀ c : Dev Cert.MlpupBwd.nD,
      r.2.mem ((c.tc : Thread Cert.MlpupBwd.nD Cert.MlpupBwd.τ).loc Cert.MlpupBwd.main_arg0) = m ((c.tc : Thread Cert.MlpupBwd.nD Cert.MlpupBwd.τ).loc Cert.MlpupBwd.main_arg0)
      ∧ r.2.mem ((c.tc : Thread Cert.MlpupBwd.nD Cert.MlpupBwd.τ).loc Cert.MlpupBwd.main_arg1) = m ((c.tc : Thread Cert.MlpupBwd.nD Cert.MlpupBwd.τ).loc Cert.MlpupBwd.main_arg1)
      ∧ r.2.mem ((c.tc : Thread Cert.MlpupBwd.nD Cert.MlpupBwd.τ).loc Cert.MlpupBwd.main_arg2) = m ((c.tc : Thread Cert.MlpupBwd.nD Cert.MlpupBwd.τ).loc Cert.MlpupBwd.main_arg2)
      ∧ r.2.mem ((c.tc : Thread Cert.MlpupBwd.nD Cert.MlpupBwd.τ).loc Cert.MlpupBwd.main_arg3) = m ((c.tc : Thread Cert.MlpupBwd.nD Cert.MlpupBwd.τ).loc Cert.MlpupBwd.main_arg3)
      ∧ r.2.mem ((c.tc : Thread Cert.MlpupBwd.nD Cert.MlpupBwd.τ).loc Cert.MlpupBwd.main_arg4) = m ((c.tc : Thread Cert.MlpupBwd.nD Cert.MlpupBwd.τ).loc Cert.MlpupBwd.main_arg4))
      ∧ r.2.sem = fun _ => 0)

def quiescent_MlpupBwdIdeal [hMlpupBwdIdeal : Cert.MlpupBwdIdeal.Facts] : Prop :=
  ∀ (m : (ℓ : Loc Cert.MlpupBwdIdeal.nD Cert.MlpupBwdIdeal.τ Cert.MlpupBwdIdeal.sig) → Buf (Elt Ideal) ℓ) (g : Dev Cert.MlpupBwdIdeal.nD → PrngReg), Pre_MlpupBwdIdeal m →
    θ_run (Cert.MlpupBwdIdeal.defs (F := Ideal)) (onTc (τ := Cert.MlpupBwdIdeal.τ) (Cert.MlpupBwdIdeal.main (F := Ideal))) ⟨m, fun _ => 0, g⟩ (fun r => (∀ c : Dev Cert.MlpupBwdIdeal.nD,
      r.2.mem ((c.tc : Thread Cert.MlpupBwdIdeal.nD Cert.MlpupBwdIdeal.τ).loc Cert.MlpupBwdIdeal.main_arg0) = m ((c.tc : Thread Cert.MlpupBwdIdeal.nD Cert.MlpupBwdIdeal.τ).loc Cert.MlpupBwdIdeal.main_arg0)
      ∧ r.2.mem ((c.tc : Thread Cert.MlpupBwdIdeal.nD Cert.MlpupBwdIdeal.τ).loc Cert.MlpupBwdIdeal.main_arg1) = m ((c.tc : Thread Cert.MlpupBwdIdeal.nD Cert.MlpupBwdIdeal.τ).loc Cert.MlpupBwdIdeal.main_arg1)
      ∧ r.2.mem ((c.tc : Thread Cert.MlpupBwdIdeal.nD Cert.MlpupBwdIdeal.τ).loc Cert.MlpupBwdIdeal.main_arg2) = m ((c.tc : Thread Cert.MlpupBwdIdeal.nD Cert.MlpupBwdIdeal.τ).loc Cert.MlpupBwdIdeal.main_arg2)
      ∧ r.2.mem ((c.tc : Thread Cert.MlpupBwdIdeal.nD Cert.MlpupBwdIdeal.τ).loc Cert.MlpupBwdIdeal.main_arg3) = m ((c.tc : Thread Cert.MlpupBwdIdeal.nD Cert.MlpupBwdIdeal.τ).loc Cert.MlpupBwdIdeal.main_arg3)
      ∧ r.2.mem ((c.tc : Thread Cert.MlpupBwdIdeal.nD Cert.MlpupBwdIdeal.τ).loc Cert.MlpupBwdIdeal.main_arg4) = m ((c.tc : Thread Cert.MlpupBwdIdeal.nD Cert.MlpupBwdIdeal.τ).loc Cert.MlpupBwdIdeal.main_arg4))
      ∧ r.2.sem = fun _ => 0)

def quiescent_MlpupRefIdeal [hMlpupRefIdeal : Cert.MlpupRefIdeal.Facts] : Prop :=
  ∀ (m : (ℓ : Loc Cert.MlpupRefIdeal.nD Cert.MlpupRefIdeal.τ Cert.MlpupRefIdeal.sig) → Buf (Elt Ideal) ℓ) (g : Dev Cert.MlpupRefIdeal.nD → PrngReg), Pre_MlpupRefIdeal m →
    θ_run (Cert.MlpupRefIdeal.defs (F := Ideal)) (onTc (τ := Cert.MlpupRefIdeal.τ) (Cert.MlpupRefIdeal.main (F := Ideal))) ⟨m, fun _ => 0, g⟩ (fun r => (∀ c : Dev Cert.MlpupRefIdeal.nD,
      r.2.mem ((c.tc : Thread Cert.MlpupRefIdeal.nD Cert.MlpupRefIdeal.τ).loc Cert.MlpupRefIdeal.main_arg0) = m ((c.tc : Thread Cert.MlpupRefIdeal.nD Cert.MlpupRefIdeal.τ).loc Cert.MlpupRefIdeal.main_arg0)
      ∧ r.2.mem ((c.tc : Thread Cert.MlpupRefIdeal.nD Cert.MlpupRefIdeal.τ).loc Cert.MlpupRefIdeal.main_arg1) = m ((c.tc : Thread Cert.MlpupRefIdeal.nD Cert.MlpupRefIdeal.τ).loc Cert.MlpupRefIdeal.main_arg1)
      ∧ r.2.mem ((c.tc : Thread Cert.MlpupRefIdeal.nD Cert.MlpupRefIdeal.τ).loc Cert.MlpupRefIdeal.main_arg2) = m ((c.tc : Thread Cert.MlpupRefIdeal.nD Cert.MlpupRefIdeal.τ).loc Cert.MlpupRefIdeal.main_arg2)
      ∧ r.2.mem ((c.tc : Thread Cert.MlpupRefIdeal.nD Cert.MlpupRefIdeal.τ).loc Cert.MlpupRefIdeal.main_arg3) = m ((c.tc : Thread Cert.MlpupRefIdeal.nD Cert.MlpupRefIdeal.τ).loc Cert.MlpupRefIdeal.main_arg3)
      ∧ r.2.mem ((c.tc : Thread Cert.MlpupRefIdeal.nD Cert.MlpupRefIdeal.τ).loc Cert.MlpupRefIdeal.main_arg4) = m ((c.tc : Thread Cert.MlpupRefIdeal.nD Cert.MlpupRefIdeal.τ).loc Cert.MlpupRefIdeal.main_arg4))
      ∧ r.2.sem = fun _ => 0)

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2)
      ∧ r.2.mem ((c.tc : Thread Cert.MixBwd.nD Cert.MixBwd.τ).loc Cert.MixBwd.main_arg3) = m ((c.tc : Thread Cert.MixBwd.nD Cert.MixBwd.τ).loc Cert.MixBwd.main_arg3)
      ∧ r.2.mem ((c.tc : Thread Cert.MixBwd.nD Cert.MixBwd.τ).loc Cert.MixBwd.main_arg4) = m ((c.tc : Thread Cert.MixBwd.nD Cert.MixBwd.τ).loc Cert.MixBwd.main_arg4)
      ∧ r.2.mem ((c.tc : Thread Cert.MixBwd.nD Cert.MixBwd.τ).loc Cert.MixBwd.main_arg5) = m ((c.tc : Thread Cert.MixBwd.nD Cert.MixBwd.τ).loc Cert.MixBwd.main_arg5)
      ∧ r.2.mem ((c.tc : Thread Cert.MixBwd.nD Cert.MixBwd.τ).loc Cert.MixBwd.main_arg6) = m ((c.tc : Thread Cert.MixBwd.nD Cert.MixBwd.τ).loc Cert.MixBwd.main_arg6)
      ∧ r.2.mem ((c.tc : Thread Cert.MixBwd.nD Cert.MixBwd.τ).loc Cert.MixBwd.main_arg7) = m ((c.tc : Thread Cert.MixBwd.nD Cert.MixBwd.τ).loc Cert.MixBwd.main_arg7)
      ∧ r.2.mem ((c.tc : Thread Cert.MixBwd.nD Cert.MixBwd.τ).loc Cert.MixBwd.main_arg8) = m ((c.tc : Thread Cert.MixBwd.nD Cert.MixBwd.τ).loc Cert.MixBwd.main_arg8))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
      ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
      ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7)
      ∧ r.2.mem ((c.tc : Thread Cert.MixBwdIdeal.nD Cert.MixBwdIdeal.τ).loc Cert.MixBwdIdeal.main_arg8) = m ((c.tc : Thread Cert.MixBwdIdeal.nD Cert.MixBwdIdeal.τ).loc Cert.MixBwdIdeal.main_arg8))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8))
      ∧ r.2.sem = fun _ => 0)

def quiescent_PrepBwd [hPrepBwd : Cert.PrepBwd.Facts] : Prop :=
  ∀ (m : (ℓ : Loc Cert.PrepBwd.nD Cert.PrepBwd.τ Cert.PrepBwd.sig) → Buf (Elt Bits) ℓ) (g : Dev Cert.PrepBwd.nD → PrngReg), Pre_PrepBwd m →
    θ_run (Cert.PrepBwd.defs (F := Bits)) (onTc (τ := Cert.PrepBwd.τ) (Cert.PrepBwd.main (F := Bits))) ⟨m, fun _ => 0, g⟩ (fun r => (∀ c : Dev Cert.PrepBwd.nD,
      r.2.mem ((c.tc : Thread Cert.PrepBwd.nD Cert.PrepBwd.τ).loc Cert.PrepBwd.main_arg0) = m ((c.tc : Thread Cert.PrepBwd.nD Cert.PrepBwd.τ).loc Cert.PrepBwd.main_arg0)
      ∧ r.2.mem ((c.tc : Thread Cert.PrepBwd.nD Cert.PrepBwd.τ).loc Cert.PrepBwd.main_arg1) = m ((c.tc : Thread Cert.PrepBwd.nD Cert.PrepBwd.τ).loc Cert.PrepBwd.main_arg1)
      ∧ r.2.mem ((c.tc : Thread Cert.PrepBwd.nD Cert.PrepBwd.τ).loc Cert.PrepBwd.main_arg2) = m ((c.tc : Thread Cert.PrepBwd.nD Cert.PrepBwd.τ).loc Cert.PrepBwd.main_arg2)
      ∧ r.2.mem ((c.tc : Thread Cert.PrepBwd.nD Cert.PrepBwd.τ).loc Cert.PrepBwd.main_arg3) = m ((c.tc : Thread Cert.PrepBwd.nD Cert.PrepBwd.τ).loc Cert.PrepBwd.main_arg3)
      ∧ r.2.mem ((c.tc : Thread Cert.PrepBwd.nD Cert.PrepBwd.τ).loc Cert.PrepBwd.main_arg4) = m ((c.tc : Thread Cert.PrepBwd.nD Cert.PrepBwd.τ).loc Cert.PrepBwd.main_arg4)
      ∧ r.2.mem ((c.tc : Thread Cert.PrepBwd.nD Cert.PrepBwd.τ).loc Cert.PrepBwd.main_arg5) = m ((c.tc : Thread Cert.PrepBwd.nD Cert.PrepBwd.τ).loc Cert.PrepBwd.main_arg5)
      ∧ r.2.mem ((c.tc : Thread Cert.PrepBwd.nD Cert.PrepBwd.τ).loc Cert.PrepBwd.main_arg6) = m ((c.tc : Thread Cert.PrepBwd.nD Cert.PrepBwd.τ).loc Cert.PrepBwd.main_arg6)
      ∧ r.2.mem ((c.tc : Thread Cert.PrepBwd.nD Cert.PrepBwd.τ).loc Cert.PrepBwd.main_arg7) = m ((c.tc : Thread Cert.PrepBwd.nD Cert.PrepBwd.τ).loc Cert.PrepBwd.main_arg7)
      ∧ r.2.mem ((c.tc : Thread Cert.PrepBwd.nD Cert.PrepBwd.τ).loc Cert.PrepBwd.main_arg8) = m ((c.tc : Thread Cert.PrepBwd.nD Cert.PrepBwd.τ).loc Cert.PrepBwd.main_arg8))
      ∧ r.2.sem = fun _ => 0)

def quiescent_PrepBwdIdeal [hPrepBwdIdeal : Cert.PrepBwdIdeal.Facts] : Prop :=
  ∀ (m : (ℓ : Loc Cert.PrepBwdIdeal.nD Cert.PrepBwdIdeal.τ Cert.PrepBwdIdeal.sig) → Buf (Elt Ideal) ℓ) (g : Dev Cert.PrepBwdIdeal.nD → PrngReg), Pre_PrepBwdIdeal m →
    θ_run (Cert.PrepBwdIdeal.defs (F := Ideal)) (onTc (τ := Cert.PrepBwdIdeal.τ) (Cert.PrepBwdIdeal.main (F := Ideal))) ⟨m, fun _ => 0, g⟩ (fun r => (∀ c : Dev Cert.PrepBwdIdeal.nD,
      r.2.mem ((c.tc : Thread Cert.PrepBwdIdeal.nD Cert.PrepBwdIdeal.τ).loc Cert.PrepBwdIdeal.main_arg0) = m ((c.tc : Thread Cert.PrepBwdIdeal.nD Cert.PrepBwdIdeal.τ).loc Cert.PrepBwdIdeal.main_arg0)
      ∧ r.2.mem ((c.tc : Thread Cert.PrepBwdIdeal.nD Cert.PrepBwdIdeal.τ).loc Cert.PrepBwdIdeal.main_arg1) = m ((c.tc : Thread Cert.PrepBwdIdeal.nD Cert.PrepBwdIdeal.τ).loc Cert.PrepBwdIdeal.main_arg1)
      ∧ r.2.mem ((c.tc : Thread Cert.PrepBwdIdeal.nD Cert.PrepBwdIdeal.τ).loc Cert.PrepBwdIdeal.main_arg2) = m ((c.tc : Thread Cert.PrepBwdIdeal.nD Cert.PrepBwdIdeal.τ).loc Cert.PrepBwdIdeal.main_arg2)
      ∧ r.2.mem ((c.tc : Thread Cert.PrepBwdIdeal.nD Cert.PrepBwdIdeal.τ).loc Cert.PrepBwdIdeal.main_arg3) = m ((c.tc : Thread Cert.PrepBwdIdeal.nD Cert.PrepBwdIdeal.τ).loc Cert.PrepBwdIdeal.main_arg3)
      ∧ r.2.mem ((c.tc : Thread Cert.PrepBwdIdeal.nD Cert.PrepBwdIdeal.τ).loc Cert.PrepBwdIdeal.main_arg4) = m ((c.tc : Thread Cert.PrepBwdIdeal.nD Cert.PrepBwdIdeal.τ).loc Cert.PrepBwdIdeal.main_arg4)
      ∧ r.2.mem ((c.tc : Thread Cert.PrepBwdIdeal.nD Cert.PrepBwdIdeal.τ).loc Cert.PrepBwdIdeal.main_arg5) = m ((c.tc : Thread Cert.PrepBwdIdeal.nD Cert.PrepBwdIdeal.τ).loc Cert.PrepBwdIdeal.main_arg5)
      ∧ r.2.mem ((c.tc : Thread Cert.PrepBwdIdeal.nD Cert.PrepBwdIdeal.τ).loc Cert.PrepBwdIdeal.main_arg6) = m ((c.tc : Thread Cert.PrepBwdIdeal.nD Cert.PrepBwdIdeal.τ).loc Cert.PrepBwdIdeal.main_arg6)
      ∧ r.2.mem ((c.tc : Thread Cert.PrepBwdIdeal.nD Cert.PrepBwdIdeal.τ).loc Cert.PrepBwdIdeal.main_arg7) = m ((c.tc : Thread Cert.PrepBwdIdeal.nD Cert.PrepBwdIdeal.τ).loc Cert.PrepBwdIdeal.main_arg7)
      ∧ r.2.mem ((c.tc : Thread Cert.PrepBwdIdeal.nD Cert.PrepBwdIdeal.τ).loc Cert.PrepBwdIdeal.main_arg8) = m ((c.tc : Thread Cert.PrepBwdIdeal.nD Cert.PrepBwdIdeal.τ).loc Cert.PrepBwdIdeal.main_arg8))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8))
      ∧ r.2.sem = fun _ => 0)

def quiescent_XattnBwd [hXattnBwd : Cert.XattnBwd.Facts] : Prop :=
  ∀ (m : (ℓ : Loc Cert.XattnBwd.nD Cert.XattnBwd.τ Cert.XattnBwd.sig) → Buf (Elt Bits) ℓ) (g : Dev Cert.XattnBwd.nD → PrngReg), Pre_XattnBwd m →
    θ_run (Cert.XattnBwd.defs (F := Bits)) (onTc (τ := Cert.XattnBwd.τ) (Cert.XattnBwd.main (F := Bits))) ⟨m, fun _ => 0, g⟩ (fun r => (∀ c : Dev Cert.XattnBwd.nD,
      r.2.mem ((c.tc : Thread Cert.XattnBwd.nD Cert.XattnBwd.τ).loc Cert.XattnBwd.main_arg0) = m ((c.tc : Thread Cert.XattnBwd.nD Cert.XattnBwd.τ).loc Cert.XattnBwd.main_arg0)
      ∧ r.2.mem ((c.tc : Thread Cert.XattnBwd.nD Cert.XattnBwd.τ).loc Cert.XattnBwd.main_arg1) = m ((c.tc : Thread Cert.XattnBwd.nD Cert.XattnBwd.τ).loc Cert.XattnBwd.main_arg1)
      ∧ r.2.mem ((c.tc : Thread Cert.XattnBwd.nD Cert.XattnBwd.τ).loc Cert.XattnBwd.main_arg2) = m ((c.tc : Thread Cert.XattnBwd.nD Cert.XattnBwd.τ).loc Cert.XattnBwd.main_arg2)
      ∧ r.2.mem ((c.tc : Thread Cert.XattnBwd.nD Cert.XattnBwd.τ).loc Cert.XattnBwd.main_arg3) = m ((c.tc : Thread Cert.XattnBwd.nD Cert.XattnBwd.τ).loc Cert.XattnBwd.main_arg3))
      ∧ r.2.sem = fun _ => 0)

def quiescent_XattnBwdIdeal [hXattnBwdIdeal : Cert.XattnBwdIdeal.Facts] : Prop :=
  ∀ (m : (ℓ : Loc Cert.XattnBwdIdeal.nD Cert.XattnBwdIdeal.τ Cert.XattnBwdIdeal.sig) → Buf (Elt Ideal) ℓ) (g : Dev Cert.XattnBwdIdeal.nD → PrngReg), Pre_XattnBwdIdeal m →
    θ_run (Cert.XattnBwdIdeal.defs (F := Ideal)) (onTc (τ := Cert.XattnBwdIdeal.τ) (Cert.XattnBwdIdeal.main (F := Ideal))) ⟨m, fun _ => 0, g⟩ (fun r => (∀ c : Dev Cert.XattnBwdIdeal.nD,
      r.2.mem ((c.tc : Thread Cert.XattnBwdIdeal.nD Cert.XattnBwdIdeal.τ).loc Cert.XattnBwdIdeal.main_arg0) = m ((c.tc : Thread Cert.XattnBwdIdeal.nD Cert.XattnBwdIdeal.τ).loc Cert.XattnBwdIdeal.main_arg0)
      ∧ r.2.mem ((c.tc : Thread Cert.XattnBwdIdeal.nD Cert.XattnBwdIdeal.τ).loc Cert.XattnBwdIdeal.main_arg1) = m ((c.tc : Thread Cert.XattnBwdIdeal.nD Cert.XattnBwdIdeal.τ).loc Cert.XattnBwdIdeal.main_arg1)
      ∧ r.2.mem ((c.tc : Thread Cert.XattnBwdIdeal.nD Cert.XattnBwdIdeal.τ).loc Cert.XattnBwdIdeal.main_arg2) = m ((c.tc : Thread Cert.XattnBwdIdeal.nD Cert.XattnBwdIdeal.τ).loc Cert.XattnBwdIdeal.main_arg2)
      ∧ r.2.mem ((c.tc : Thread Cert.XattnBwdIdeal.nD Cert.XattnBwdIdeal.τ).loc Cert.XattnBwdIdeal.main_arg3) = m ((c.tc : Thread Cert.XattnBwdIdeal.nD Cert.XattnBwdIdeal.τ).loc Cert.XattnBwdIdeal.main_arg3))
      ∧ r.2.sem = fun _ => 0)

def quiescent_XattnBwdIdeal_pre_xattn_finite [hXattnBwdIdeal : Cert.XattnBwdIdeal.Facts] [hPre_xattn_finite : Cert.Pre_xattn_finite.Facts] : Prop :=
  ∀ (m : (ℓ : Loc Cert.XattnBwdIdeal.nD Cert.XattnBwdIdeal.τ Cert.XattnBwdIdeal.sig) → Buf (Elt Ideal) ℓ) (g : Dev Cert.XattnBwdIdeal.nD → PrngReg), Pre_XattnBwdIdeal_xattn_finite m →
    θ_run (Cert.XattnBwdIdeal.defs (F := Ideal)) (onTc (τ := Cert.XattnBwdIdeal.τ) (Cert.XattnBwdIdeal.main (F := Ideal))) ⟨m, fun _ => 0, g⟩ (fun r => (∀ c : Dev Cert.XattnBwdIdeal.nD,
      r.2.mem ((c.tc : Thread Cert.XattnBwdIdeal.nD Cert.XattnBwdIdeal.τ).loc Cert.XattnBwdIdeal.main_arg0) = m ((c.tc : Thread Cert.XattnBwdIdeal.nD Cert.XattnBwdIdeal.τ).loc Cert.XattnBwdIdeal.main_arg0)
      ∧ r.2.mem ((c.tc : Thread Cert.XattnBwdIdeal.nD Cert.XattnBwdIdeal.τ).loc Cert.XattnBwdIdeal.main_arg1) = m ((c.tc : Thread Cert.XattnBwdIdeal.nD Cert.XattnBwdIdeal.τ).loc Cert.XattnBwdIdeal.main_arg1)
      ∧ r.2.mem ((c.tc : Thread Cert.XattnBwdIdeal.nD Cert.XattnBwdIdeal.τ).loc Cert.XattnBwdIdeal.main_arg2) = m ((c.tc : Thread Cert.XattnBwdIdeal.nD Cert.XattnBwdIdeal.τ).loc Cert.XattnBwdIdeal.main_arg2)
      ∧ r.2.mem ((c.tc : Thread Cert.XattnBwdIdeal.nD Cert.XattnBwdIdeal.τ).loc Cert.XattnBwdIdeal.main_arg3) = m ((c.tc : Thread Cert.XattnBwdIdeal.nD Cert.XattnBwdIdeal.τ).loc Cert.XattnBwdIdeal.main_arg3))
      ∧ r.2.sem = fun _ => 0)

def quiescent_XattnRefIdeal [hXattnRefIdeal : Cert.XattnRefIdeal.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2)
      ∧ r.2.mem ((c.tc : Thread Cert.XattnRefIdeal.nD Cert.XattnRefIdeal.τ).loc Cert.XattnRefIdeal.main_arg3) = m ((c.tc : Thread Cert.XattnRefIdeal.nD Cert.XattnRefIdeal.τ).loc Cert.XattnRefIdeal.main_arg3))
      ∧ r.2.sem = fun _ => 0)

def quiescent_XattnRefIdeal_pre_xattn_finite [hXattnRefIdeal : Cert.XattnRefIdeal.Facts] [hPre_xattn_finite : Cert.Pre_xattn_finite.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal_xattn_finite m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2)
      ∧ r.2.mem ((c.tc : Thread Cert.XattnRefIdeal.nD Cert.XattnRefIdeal.τ).loc Cert.XattnRefIdeal.main_arg3) = m ((c.tc : Thread Cert.XattnRefIdeal.nD Cert.XattnRefIdeal.τ).loc Cert.XattnRefIdeal.main_arg3))
      ∧ r.2.sem = fun _ => 0)

def preserves_NormBwd_NormBwdIdeal : Prop :=
  True

def algebraic_NormBwdIdeal_NormRefIdeal [hNormBwdIdeal : Cert.NormBwdIdeal.Facts] [hNormRefIdeal : Cert.NormRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormBwdIdeal m →
    (∀ c : Dev Cert.NormBwdIdeal.nD,
      m' ((c.tc : Thread Cert.NormRefIdeal.nD Cert.NormRefIdeal.τ).loc Cert.NormRefIdeal.main_arg0) = m ((c.tc : Thread Cert.NormBwdIdeal.nD Cert.NormBwdIdeal.τ).loc Cert.NormBwdIdeal.main_arg0)
      ∧ m' ((c.tc : Thread Cert.NormRefIdeal.nD Cert.NormRefIdeal.τ).loc Cert.NormRefIdeal.main_arg1) = m ((c.tc : Thread Cert.NormBwdIdeal.nD Cert.NormBwdIdeal.τ).loc Cert.NormBwdIdeal.main_arg1)
      ∧ m' ((c.tc : Thread Cert.NormRefIdeal.nD Cert.NormRefIdeal.τ).loc Cert.NormRefIdeal.main_arg2) = m ((c.tc : Thread Cert.NormBwdIdeal.nD Cert.NormBwdIdeal.τ).loc Cert.NormBwdIdeal.main_arg2)) →
    ∃ (v0 : (c : Dev Cert.NormBwdIdeal.nD) → Buf (Elt Ideal) ((c.tc : Thread Cert.NormBwdIdeal.nD Cert.NormBwdIdeal.τ).loc Cert.NormBwdIdeal.main_v1_0)) (v1 : (c : Dev Cert.NormBwdIdeal.nD) → Buf (Elt Ideal) ((c.tc : Thread Cert.NormBwdIdeal.nD Cert.NormBwdIdeal.τ).loc Cert.NormBwdIdeal.main_v1_2)) (v2 : (c : Dev Cert.NormBwdIdeal.nD) → Buf (Elt Ideal) ((c.tc : Thread Cert.NormBwdIdeal.nD Cert.NormBwdIdeal.τ).loc Cert.NormBwdIdeal.main_v1_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v1_0) = v0 c
          ∧ r.2.mem ((c.tc : Thread Cert.NormBwdIdeal.nD Cert.NormBwdIdeal.τ).loc Cert.NormBwdIdeal.main_v1_2) = v1 c
          ∧ r.2.mem ((c.tc : Thread Cert.NormBwdIdeal.nD Cert.NormBwdIdeal.τ).loc Cert.NormBwdIdeal.main_v1_1) = v2 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v35) = v0 c
          ∧ r.2.mem ((c.tc : Thread Cert.NormRefIdeal.nD Cert.NormRefIdeal.τ).loc Cert.NormRefIdeal.main_v36) = v1 c
          ∧ r.2.mem ((c.tc : Thread Cert.NormRefIdeal.nD Cert.NormRefIdeal.τ).loc Cert.NormRefIdeal.main_v37) = v2 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2))

def preserves_ConvBwd_ConvBwdIdeal : Prop :=
  True

def algebraic_ConvBwdIdeal_ConvRefIdeal [hConvBwdIdeal : Cert.ConvBwdIdeal.Facts] [hConvRefIdeal : Cert.ConvRefIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvBwdIdeal m →
    (∀ c : Dev Cert.ConvBwdIdeal.nD,
      m' ((c.tc : Thread Cert.ConvRefIdeal.nD Cert.ConvRefIdeal.τ).loc Cert.ConvRefIdeal.main_arg0) = m ((c.tc : Thread Cert.ConvBwdIdeal.nD Cert.ConvBwdIdeal.τ).loc Cert.ConvBwdIdeal.main_arg0)
      ∧ m' ((c.tc : Thread Cert.ConvRefIdeal.nD Cert.ConvRefIdeal.τ).loc Cert.ConvRefIdeal.main_arg1) = m ((c.tc : Thread Cert.ConvBwdIdeal.nD Cert.ConvBwdIdeal.τ).loc Cert.ConvBwdIdeal.main_arg1)
      ∧ m' ((c.tc : Thread Cert.ConvRefIdeal.nD Cert.ConvRefIdeal.τ).loc Cert.ConvRefIdeal.main_arg2) = m ((c.tc : Thread Cert.ConvBwdIdeal.nD Cert.ConvBwdIdeal.τ).loc Cert.ConvBwdIdeal.main_arg2)
      ∧ m' ((c.tc : Thread Cert.ConvRefIdeal.nD Cert.ConvRefIdeal.τ).loc Cert.ConvRefIdeal.main_arg3) = m ((c.tc : Thread Cert.ConvBwdIdeal.nD Cert.ConvBwdIdeal.τ).loc Cert.ConvBwdIdeal.main_arg3)
      ∧ m' ((c.tc : Thread Cert.ConvRefIdeal.nD Cert.ConvRefIdeal.τ).loc Cert.ConvRefIdeal.main_arg4) = m ((c.tc : Thread Cert.ConvBwdIdeal.nD Cert.ConvBwdIdeal.τ).loc Cert.ConvBwdIdeal.main_arg4)
      ∧ m' ((c.tc : Thread Cert.ConvRefIdeal.nD Cert.ConvRefIdeal.τ).loc Cert.ConvRefIdeal.main_arg5) = m ((c.tc : Thread Cert.ConvBwdIdeal.nD Cert.ConvBwdIdeal.τ).loc Cert.ConvBwdIdeal.main_arg5)
      ∧ m' ((c.tc : Thread Cert.ConvRefIdeal.nD Cert.ConvRefIdeal.τ).loc Cert.ConvRefIdeal.main_arg6) = m ((c.tc : Thread Cert.ConvBwdIdeal.nD Cert.ConvBwdIdeal.τ).loc Cert.ConvBwdIdeal.main_arg6)
      ∧ m' ((c.tc : Thread Cert.ConvRefIdeal.nD Cert.ConvRefIdeal.τ).loc Cert.ConvRefIdeal.main_arg7) = m ((c.tc : Thread Cert.ConvBwdIdeal.nD Cert.ConvBwdIdeal.τ).loc Cert.ConvBwdIdeal.main_arg7)) →
    ∃ (v0 : (c : Dev Cert.ConvBwdIdeal.nD) → Buf (Elt Ideal) ((c.tc : Thread Cert.ConvBwdIdeal.nD Cert.ConvBwdIdeal.τ).loc Cert.ConvBwdIdeal.main_v3_0)) (v1 : (c : Dev Cert.ConvBwdIdeal.nD) → Buf (Elt Ideal) ((c.tc : Thread Cert.ConvBwdIdeal.nD Cert.ConvBwdIdeal.τ).loc Cert.ConvBwdIdeal.main_v3_1)) (v2 : (c : Dev Cert.ConvBwdIdeal.nD) → Buf (Elt Ideal) ((c.tc : Thread Cert.ConvBwdIdeal.nD Cert.ConvBwdIdeal.τ).loc Cert.ConvBwdIdeal.main_v3_2)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v3_0) = v0 c
          ∧ r.2.mem ((c.tc : Thread Cert.ConvBwdIdeal.nD Cert.ConvBwdIdeal.τ).loc Cert.ConvBwdIdeal.main_v3_1) = v1 c
          ∧ r.2.mem ((c.tc : Thread Cert.ConvBwdIdeal.nD Cert.ConvBwdIdeal.τ).loc Cert.ConvBwdIdeal.main_v3_2) = v2 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
          ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
          ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4)
          ∧ r.2.mem ((c.tc : Thread Cert.ConvBwdIdeal.nD Cert.ConvBwdIdeal.τ).loc Cert.ConvBwdIdeal.main_arg5) = m ((c.tc : Thread Cert.ConvBwdIdeal.nD Cert.ConvBwdIdeal.τ).loc Cert.ConvBwdIdeal.main_arg5)
          ∧ r.2.mem ((c.tc : Thread Cert.ConvBwdIdeal.nD Cert.ConvBwdIdeal.τ).loc Cert.ConvBwdIdeal.main_arg6) = m ((c.tc : Thread Cert.ConvBwdIdeal.nD Cert.ConvBwdIdeal.τ).loc Cert.ConvBwdIdeal.main_arg6)
          ∧ r.2.mem ((c.tc : Thread Cert.ConvBwdIdeal.nD Cert.ConvBwdIdeal.τ).loc Cert.ConvBwdIdeal.main_arg7) = m ((c.tc : Thread Cert.ConvBwdIdeal.nD Cert.ConvBwdIdeal.τ).loc Cert.ConvBwdIdeal.main_arg7))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v165) = v0 c
          ∧ r.2.mem ((c.tc : Thread Cert.ConvRefIdeal.nD Cert.ConvRefIdeal.τ).loc Cert.ConvRefIdeal.main_v167) = v1 c
          ∧ r.2.mem ((c.tc : Thread Cert.ConvRefIdeal.nD Cert.ConvRefIdeal.τ).loc Cert.ConvRefIdeal.main_v169) = v2 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5)
          ∧ r.2.mem ((c.tc : Thread Cert.ConvRefIdeal.nD Cert.ConvRefIdeal.τ).loc Cert.ConvRefIdeal.main_arg6) = m' ((c.tc : Thread Cert.ConvRefIdeal.nD Cert.ConvRefIdeal.τ).loc Cert.ConvRefIdeal.main_arg6)
          ∧ r.2.mem ((c.tc : Thread Cert.ConvRefIdeal.nD Cert.ConvRefIdeal.τ).loc Cert.ConvRefIdeal.main_arg7) = m' ((c.tc : Thread Cert.ConvRefIdeal.nD Cert.ConvRefIdeal.τ).loc Cert.ConvRefIdeal.main_arg7))

def preserves_ReluBwd_ReluBwdIdeal : Prop :=
  True

def algebraic_ReluBwdIdeal_ReluRefIdeal [hReluBwdIdeal : Cert.ReluBwdIdeal.Facts] [hReluRefIdeal : Cert.ReluRefIdeal.Facts] : Prop :=
  ∀ (m : (ℓ : Loc Cert.ReluBwdIdeal.nD Cert.ReluBwdIdeal.τ Cert.ReluBwdIdeal.sig) → Buf (Elt Ideal) ℓ) (g : Dev Cert.ReluBwdIdeal.nD → PrngReg)
    (m' : (ℓ : Loc Cert.ReluRefIdeal.nD Cert.ReluRefIdeal.τ Cert.ReluRefIdeal.sig) → Buf (Elt Ideal) ℓ) (g' : Dev Cert.ReluRefIdeal.nD → PrngReg), Pre_ReluBwdIdeal m →
    (∀ c : Dev Cert.ReluBwdIdeal.nD,
      m' ((c.tc : Thread Cert.ReluRefIdeal.nD Cert.ReluRefIdeal.τ).loc Cert.ReluRefIdeal.main_arg0) = m ((c.tc : Thread Cert.ReluBwdIdeal.nD Cert.ReluBwdIdeal.τ).loc Cert.ReluBwdIdeal.main_arg0)
      ∧ m' ((c.tc : Thread Cert.ReluRefIdeal.nD Cert.ReluRefIdeal.τ).loc Cert.ReluRefIdeal.main_arg1) = m ((c.tc : Thread Cert.ReluBwdIdeal.nD Cert.ReluBwdIdeal.τ).loc Cert.ReluBwdIdeal.main_arg1)
      ∧ m' ((c.tc : Thread Cert.ReluRefIdeal.nD Cert.ReluRefIdeal.τ).loc Cert.ReluRefIdeal.main_arg2) = m ((c.tc : Thread Cert.ReluBwdIdeal.nD Cert.ReluBwdIdeal.τ).loc Cert.ReluBwdIdeal.main_arg2)
      ∧ m' ((c.tc : Thread Cert.ReluRefIdeal.nD Cert.ReluRefIdeal.τ).loc Cert.ReluRefIdeal.main_arg3) = m ((c.tc : Thread Cert.ReluBwdIdeal.nD Cert.ReluBwdIdeal.τ).loc Cert.ReluBwdIdeal.main_arg3)) →
    ∃ (v0 : (c : Dev Cert.ReluBwdIdeal.nD) → Buf (Elt Ideal) ((c.tc : Thread Cert.ReluBwdIdeal.nD Cert.ReluBwdIdeal.τ).loc Cert.ReluBwdIdeal.main_v6)),
      θ_run (Cert.ReluBwdIdeal.defs (F := Ideal)) (onTc (τ := Cert.ReluBwdIdeal.τ) (Cert.ReluBwdIdeal.main (F := Ideal))) ⟨m, fun _ => 0, g⟩ (fun r => ∀ c : Dev Cert.ReluBwdIdeal.nD,
          r.2.mem ((c.tc : Thread Cert.ReluBwdIdeal.nD Cert.ReluBwdIdeal.τ).loc Cert.ReluBwdIdeal.main_v6) = v0 c
          ∧ r.2.mem ((c.tc : Thread Cert.ReluBwdIdeal.nD Cert.ReluBwdIdeal.τ).loc Cert.ReluBwdIdeal.main_arg0) = m ((c.tc : Thread Cert.ReluBwdIdeal.nD Cert.ReluBwdIdeal.τ).loc Cert.ReluBwdIdeal.main_arg0)
          ∧ r.2.mem ((c.tc : Thread Cert.ReluBwdIdeal.nD Cert.ReluBwdIdeal.τ).loc Cert.ReluBwdIdeal.main_arg1) = m ((c.tc : Thread Cert.ReluBwdIdeal.nD Cert.ReluBwdIdeal.τ).loc Cert.ReluBwdIdeal.main_arg1)
          ∧ r.2.mem ((c.tc : Thread Cert.ReluBwdIdeal.nD Cert.ReluBwdIdeal.τ).loc Cert.ReluBwdIdeal.main_arg2) = m ((c.tc : Thread Cert.ReluBwdIdeal.nD Cert.ReluBwdIdeal.τ).loc Cert.ReluBwdIdeal.main_arg2)
          ∧ r.2.mem ((c.tc : Thread Cert.ReluBwdIdeal.nD Cert.ReluBwdIdeal.τ).loc Cert.ReluBwdIdeal.main_arg3) = m ((c.tc : Thread Cert.ReluBwdIdeal.nD Cert.ReluBwdIdeal.τ).loc Cert.ReluBwdIdeal.main_arg3))
      ∧ θ_run (Cert.ReluRefIdeal.defs (F := Ideal)) (onTc (τ := Cert.ReluRefIdeal.τ) (Cert.ReluRefIdeal.main (F := Ideal))) ⟨m', fun _ => 0, g'⟩ (fun r => ∀ c : Dev Cert.ReluRefIdeal.nD,
          r.2.mem ((c.tc : Thread Cert.ReluRefIdeal.nD Cert.ReluRefIdeal.τ).loc Cert.ReluRefIdeal.main_v13) = v0 c
          ∧ r.2.mem ((c.tc : Thread Cert.ReluRefIdeal.nD Cert.ReluRefIdeal.τ).loc Cert.ReluRefIdeal.main_arg0) = m' ((c.tc : Thread Cert.ReluRefIdeal.nD Cert.ReluRefIdeal.τ).loc Cert.ReluRefIdeal.main_arg0)
          ∧ r.2.mem ((c.tc : Thread Cert.ReluRefIdeal.nD Cert.ReluRefIdeal.τ).loc Cert.ReluRefIdeal.main_arg1) = m' ((c.tc : Thread Cert.ReluRefIdeal.nD Cert.ReluRefIdeal.τ).loc Cert.ReluRefIdeal.main_arg1)
          ∧ r.2.mem ((c.tc : Thread Cert.ReluRefIdeal.nD Cert.ReluRefIdeal.τ).loc Cert.ReluRefIdeal.main_arg2) = m' ((c.tc : Thread Cert.ReluRefIdeal.nD Cert.ReluRefIdeal.τ).loc Cert.ReluRefIdeal.main_arg2)
          ∧ r.2.mem ((c.tc : Thread Cert.ReluRefIdeal.nD Cert.ReluRefIdeal.τ).loc Cert.ReluRefIdeal.main_arg3) = m' ((c.tc : Thread Cert.ReluRefIdeal.nD Cert.ReluRefIdeal.τ).loc Cert.ReluRefIdeal.main_arg3))

def preserves_AttnBwd_AttnBwdIdeal : Prop :=
  IdealRules.named_const.Statement Cert.AttnBwdIdeal.κ "l2l2" .f32 0xBF075D3C#32 (((Real.log (Real.log 2)) * (Real.log 2)⁻¹ : ℝ) : EReal)
  ∧ IdealRules.named_const.Statement Cert.AttnBwdIdeal.κ "log2e" .f32 0x3FB8AA3B#32 (((Real.log 2)⁻¹ : ℝ) : EReal)

def algebraic_AttnBwdIdeal_AttnRefIdeal_pre_finite [hAttnBwdIdeal : Cert.AttnBwdIdeal.Facts] [hAttnRefIdeal : Cert.AttnRefIdeal.Facts] [hPre_finite : Cert.Pre_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnBwdIdeal_finite m →
    (∀ c : Dev Cert.AttnBwdIdeal.nD,
      m' ((c.tc : Thread Cert.AttnRefIdeal.nD Cert.AttnRefIdeal.τ).loc Cert.AttnRefIdeal.main_arg0) = m ((c.tc : Thread Cert.AttnBwdIdeal.nD Cert.AttnBwdIdeal.τ).loc Cert.AttnBwdIdeal.main_arg0)
      ∧ m' ((c.tc : Thread Cert.AttnRefIdeal.nD Cert.AttnRefIdeal.τ).loc Cert.AttnRefIdeal.main_arg1) = m ((c.tc : Thread Cert.AttnBwdIdeal.nD Cert.AttnBwdIdeal.τ).loc Cert.AttnBwdIdeal.main_arg1)
      ∧ m' ((c.tc : Thread Cert.AttnRefIdeal.nD Cert.AttnRefIdeal.τ).loc Cert.AttnRefIdeal.main_arg2) = m ((c.tc : Thread Cert.AttnBwdIdeal.nD Cert.AttnBwdIdeal.τ).loc Cert.AttnBwdIdeal.main_arg2)
      ∧ m' ((c.tc : Thread Cert.AttnRefIdeal.nD Cert.AttnRefIdeal.τ).loc Cert.AttnRefIdeal.main_arg3) = m ((c.tc : Thread Cert.AttnBwdIdeal.nD Cert.AttnBwdIdeal.τ).loc Cert.AttnBwdIdeal.main_arg3)) →
    ∃ (v0 : (c : Dev Cert.AttnBwdIdeal.nD) → Buf (Elt Ideal) ((c.tc : Thread Cert.AttnBwdIdeal.nD Cert.AttnBwdIdeal.τ).loc Cert.AttnBwdIdeal.main_v53_0)) (v1 : (c : Dev Cert.AttnBwdIdeal.nD) → Buf (Elt Ideal) ((c.tc : Thread Cert.AttnBwdIdeal.nD Cert.AttnBwdIdeal.τ).loc Cert.AttnBwdIdeal.main_v53_1)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v53_0) = v0 c
          ∧ r.2.mem ((c.tc : Thread Cert.AttnBwdIdeal.nD Cert.AttnBwdIdeal.τ).loc Cert.AttnBwdIdeal.main_v53_1) = v1 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v74) = v0 c
          ∧ r.2.mem ((c.tc : Thread Cert.AttnRefIdeal.nD Cert.AttnRefIdeal.τ).loc Cert.AttnRefIdeal.main_v79) = v1 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_QropeBwd_QropeBwdIdeal : Prop :=
  True

def algebraic_QropeBwdIdeal_QropeRefIdeal [hQropeBwdIdeal : Cert.QropeBwdIdeal.Facts] [hQropeRefIdeal : Cert.QropeRefIdeal.Facts] : Prop :=
  ∀ (m : (ℓ : Loc Cert.QropeBwdIdeal.nD Cert.QropeBwdIdeal.τ Cert.QropeBwdIdeal.sig) → Buf (Elt Ideal) ℓ) (g : Dev Cert.QropeBwdIdeal.nD → PrngReg)
    (m' : (ℓ : Loc Cert.QropeRefIdeal.nD Cert.QropeRefIdeal.τ Cert.QropeRefIdeal.sig) → Buf (Elt Ideal) ℓ) (g' : Dev Cert.QropeRefIdeal.nD → PrngReg), Pre_QropeBwdIdeal m →
    (∀ c : Dev Cert.QropeBwdIdeal.nD,
      m' ((c.tc : Thread Cert.QropeRefIdeal.nD Cert.QropeRefIdeal.τ).loc Cert.QropeRefIdeal.main_arg0) = m ((c.tc : Thread Cert.QropeBwdIdeal.nD Cert.QropeBwdIdeal.τ).loc Cert.QropeBwdIdeal.main_arg0)
      ∧ m' ((c.tc : Thread Cert.QropeRefIdeal.nD Cert.QropeRefIdeal.τ).loc Cert.QropeRefIdeal.main_arg1) = m ((c.tc : Thread Cert.QropeBwdIdeal.nD Cert.QropeBwdIdeal.τ).loc Cert.QropeBwdIdeal.main_arg1)
      ∧ m' ((c.tc : Thread Cert.QropeRefIdeal.nD Cert.QropeRefIdeal.τ).loc Cert.QropeRefIdeal.main_arg2) = m ((c.tc : Thread Cert.QropeBwdIdeal.nD Cert.QropeBwdIdeal.τ).loc Cert.QropeBwdIdeal.main_arg2)) →
    ∃ (v0 : (c : Dev Cert.QropeBwdIdeal.nD) → Buf (Elt Ideal) ((c.tc : Thread Cert.QropeBwdIdeal.nD Cert.QropeBwdIdeal.τ).loc Cert.QropeBwdIdeal.main_v50)),
      θ_run (Cert.QropeBwdIdeal.defs (F := Ideal)) (onTc (τ := Cert.QropeBwdIdeal.τ) (Cert.QropeBwdIdeal.main (F := Ideal))) ⟨m, fun _ => 0, g⟩ (fun r => ∀ c : Dev Cert.QropeBwdIdeal.nD,
          r.2.mem ((c.tc : Thread Cert.QropeBwdIdeal.nD Cert.QropeBwdIdeal.τ).loc Cert.QropeBwdIdeal.main_v50) = v0 c
          ∧ r.2.mem ((c.tc : Thread Cert.QropeBwdIdeal.nD Cert.QropeBwdIdeal.τ).loc Cert.QropeBwdIdeal.main_arg0) = m ((c.tc : Thread Cert.QropeBwdIdeal.nD Cert.QropeBwdIdeal.τ).loc Cert.QropeBwdIdeal.main_arg0)
          ∧ r.2.mem ((c.tc : Thread Cert.QropeBwdIdeal.nD Cert.QropeBwdIdeal.τ).loc Cert.QropeBwdIdeal.main_arg1) = m ((c.tc : Thread Cert.QropeBwdIdeal.nD Cert.QropeBwdIdeal.τ).loc Cert.QropeBwdIdeal.main_arg1)
          ∧ r.2.mem ((c.tc : Thread Cert.QropeBwdIdeal.nD Cert.QropeBwdIdeal.τ).loc Cert.QropeBwdIdeal.main_arg2) = m ((c.tc : Thread Cert.QropeBwdIdeal.nD Cert.QropeBwdIdeal.τ).loc Cert.QropeBwdIdeal.main_arg2))
      ∧ θ_run (Cert.QropeRefIdeal.defs (F := Ideal)) (onTc (τ := Cert.QropeRefIdeal.τ) (Cert.QropeRefIdeal.main (F := Ideal))) ⟨m', fun _ => 0, g'⟩ (fun r => ∀ c : Dev Cert.QropeRefIdeal.nD,
          r.2.mem ((c.tc : Thread Cert.QropeRefIdeal.nD Cert.QropeRefIdeal.τ).loc Cert.QropeRefIdeal.main_v60) = v0 c
          ∧ r.2.mem ((c.tc : Thread Cert.QropeRefIdeal.nD Cert.QropeRefIdeal.τ).loc Cert.QropeRefIdeal.main_arg0) = m' ((c.tc : Thread Cert.QropeRefIdeal.nD Cert.QropeRefIdeal.τ).loc Cert.QropeRefIdeal.main_arg0)
          ∧ r.2.mem ((c.tc : Thread Cert.QropeRefIdeal.nD Cert.QropeRefIdeal.τ).loc Cert.QropeRefIdeal.main_arg1) = m' ((c.tc : Thread Cert.QropeRefIdeal.nD Cert.QropeRefIdeal.τ).loc Cert.QropeRefIdeal.main_arg1)
          ∧ r.2.mem ((c.tc : Thread Cert.QropeRefIdeal.nD Cert.QropeRefIdeal.τ).loc Cert.QropeRefIdeal.main_arg2) = m' ((c.tc : Thread Cert.QropeRefIdeal.nD Cert.QropeRefIdeal.τ).loc Cert.QropeRefIdeal.main_arg2))

def preserves_MemqBwd_MemqBwdIdeal : Prop :=
  True

def algebraic_MemqBwdIdeal_MemqRefIdeal [hMemqBwdIdeal : Cert.MemqBwdIdeal.Facts] [hMemqRefIdeal : Cert.MemqRefIdeal.Facts] : Prop :=
  ∀ (m : (ℓ : Loc Cert.MemqBwdIdeal.nD Cert.MemqBwdIdeal.τ Cert.MemqBwdIdeal.sig) → Buf (Elt Ideal) ℓ) (g : Dev Cert.MemqBwdIdeal.nD → PrngReg)
    (m' : (ℓ : Loc Cert.MemqRefIdeal.nD Cert.MemqRefIdeal.τ Cert.MemqRefIdeal.sig) → Buf (Elt Ideal) ℓ) (g' : Dev Cert.MemqRefIdeal.nD → PrngReg), Pre_MemqBwdIdeal m →
    (∀ c : Dev Cert.MemqBwdIdeal.nD,
      m' ((c.tc : Thread Cert.MemqRefIdeal.nD Cert.MemqRefIdeal.τ).loc Cert.MemqRefIdeal.main_arg0) = m ((c.tc : Thread Cert.MemqBwdIdeal.nD Cert.MemqBwdIdeal.τ).loc Cert.MemqBwdIdeal.main_arg0)
      ∧ m' ((c.tc : Thread Cert.MemqRefIdeal.nD Cert.MemqRefIdeal.τ).loc Cert.MemqRefIdeal.main_arg1) = m ((c.tc : Thread Cert.MemqBwdIdeal.nD Cert.MemqBwdIdeal.τ).loc Cert.MemqBwdIdeal.main_arg1)
      ∧ m' ((c.tc : Thread Cert.MemqRefIdeal.nD Cert.MemqRefIdeal.τ).loc Cert.MemqRefIdeal.main_arg2) = m ((c.tc : Thread Cert.MemqBwdIdeal.nD Cert.MemqBwdIdeal.τ).loc Cert.MemqBwdIdeal.main_arg2)
      ∧ m' ((c.tc : Thread Cert.MemqRefIdeal.nD Cert.MemqRefIdeal.τ).loc Cert.MemqRefIdeal.main_arg3) = m ((c.tc : Thread Cert.MemqBwdIdeal.nD Cert.MemqBwdIdeal.τ).loc Cert.MemqBwdIdeal.main_arg3)
      ∧ m' ((c.tc : Thread Cert.MemqRefIdeal.nD Cert.MemqRefIdeal.τ).loc Cert.MemqRefIdeal.main_arg4) = m ((c.tc : Thread Cert.MemqBwdIdeal.nD Cert.MemqBwdIdeal.τ).loc Cert.MemqBwdIdeal.main_arg4)) →
    ∃ (v0 : (c : Dev Cert.MemqBwdIdeal.nD) → Buf (Elt Ideal) ((c.tc : Thread Cert.MemqBwdIdeal.nD Cert.MemqBwdIdeal.τ).loc Cert.MemqBwdIdeal.main_v3_0)) (v1 : (c : Dev Cert.MemqBwdIdeal.nD) → Buf (Elt Ideal) ((c.tc : Thread Cert.MemqBwdIdeal.nD Cert.MemqBwdIdeal.τ).loc Cert.MemqBwdIdeal.main_v3_1)) (v2 : (c : Dev Cert.MemqBwdIdeal.nD) → Buf (Elt Ideal) ((c.tc : Thread Cert.MemqBwdIdeal.nD Cert.MemqBwdIdeal.τ).loc Cert.MemqBwdIdeal.main_v3_2)),
      θ_run (Cert.MemqBwdIdeal.defs (F := Ideal)) (onTc (τ := Cert.MemqBwdIdeal.τ) (Cert.MemqBwdIdeal.main (F := Ideal))) ⟨m, fun _ => 0, g⟩ (fun r => ∀ c : Dev Cert.MemqBwdIdeal.nD,
          r.2.mem ((c.tc : Thread Cert.MemqBwdIdeal.nD Cert.MemqBwdIdeal.τ).loc Cert.MemqBwdIdeal.main_v3_0) = v0 c
          ∧ r.2.mem ((c.tc : Thread Cert.MemqBwdIdeal.nD Cert.MemqBwdIdeal.τ).loc Cert.MemqBwdIdeal.main_v3_1) = v1 c
          ∧ r.2.mem ((c.tc : Thread Cert.MemqBwdIdeal.nD Cert.MemqBwdIdeal.τ).loc Cert.MemqBwdIdeal.main_v3_2) = v2 c
          ∧ r.2.mem ((c.tc : Thread Cert.MemqBwdIdeal.nD Cert.MemqBwdIdeal.τ).loc Cert.MemqBwdIdeal.main_arg0) = m ((c.tc : Thread Cert.MemqBwdIdeal.nD Cert.MemqBwdIdeal.τ).loc Cert.MemqBwdIdeal.main_arg0)
          ∧ r.2.mem ((c.tc : Thread Cert.MemqBwdIdeal.nD Cert.MemqBwdIdeal.τ).loc Cert.MemqBwdIdeal.main_arg1) = m ((c.tc : Thread Cert.MemqBwdIdeal.nD Cert.MemqBwdIdeal.τ).loc Cert.MemqBwdIdeal.main_arg1)
          ∧ r.2.mem ((c.tc : Thread Cert.MemqBwdIdeal.nD Cert.MemqBwdIdeal.τ).loc Cert.MemqBwdIdeal.main_arg2) = m ((c.tc : Thread Cert.MemqBwdIdeal.nD Cert.MemqBwdIdeal.τ).loc Cert.MemqBwdIdeal.main_arg2)
          ∧ r.2.mem ((c.tc : Thread Cert.MemqBwdIdeal.nD Cert.MemqBwdIdeal.τ).loc Cert.MemqBwdIdeal.main_arg3) = m ((c.tc : Thread Cert.MemqBwdIdeal.nD Cert.MemqBwdIdeal.τ).loc Cert.MemqBwdIdeal.main_arg3)
          ∧ r.2.mem ((c.tc : Thread Cert.MemqBwdIdeal.nD Cert.MemqBwdIdeal.τ).loc Cert.MemqBwdIdeal.main_arg4) = m ((c.tc : Thread Cert.MemqBwdIdeal.nD Cert.MemqBwdIdeal.τ).loc Cert.MemqBwdIdeal.main_arg4))
      ∧ θ_run (Cert.MemqRefIdeal.defs (F := Ideal)) (onTc (τ := Cert.MemqRefIdeal.τ) (Cert.MemqRefIdeal.main (F := Ideal))) ⟨m', fun _ => 0, g'⟩ (fun r => ∀ c : Dev Cert.MemqRefIdeal.nD,
          r.2.mem ((c.tc : Thread Cert.MemqRefIdeal.nD Cert.MemqRefIdeal.τ).loc Cert.MemqRefIdeal.main_v38) = v0 c
          ∧ r.2.mem ((c.tc : Thread Cert.MemqRefIdeal.nD Cert.MemqRefIdeal.τ).loc Cert.MemqRefIdeal.main_v39) = v1 c
          ∧ r.2.mem ((c.tc : Thread Cert.MemqRefIdeal.nD Cert.MemqRefIdeal.τ).loc Cert.MemqRefIdeal.main_v40) = v2 c
          ∧ r.2.mem ((c.tc : Thread Cert.MemqRefIdeal.nD Cert.MemqRefIdeal.τ).loc Cert.MemqRefIdeal.main_arg0) = m' ((c.tc : Thread Cert.MemqRefIdeal.nD Cert.MemqRefIdeal.τ).loc Cert.MemqRefIdeal.main_arg0)
          ∧ r.2.mem ((c.tc : Thread Cert.MemqRefIdeal.nD Cert.MemqRefIdeal.τ).loc Cert.MemqRefIdeal.main_arg1) = m' ((c.tc : Thread Cert.MemqRefIdeal.nD Cert.MemqRefIdeal.τ).loc Cert.MemqRefIdeal.main_arg1)
          ∧ r.2.mem ((c.tc : Thread Cert.MemqRefIdeal.nD Cert.MemqRefIdeal.τ).loc Cert.MemqRefIdeal.main_arg2) = m' ((c.tc : Thread Cert.MemqRefIdeal.nD Cert.MemqRefIdeal.τ).loc Cert.MemqRefIdeal.main_arg2)
          ∧ r.2.mem ((c.tc : Thread Cert.MemqRefIdeal.nD Cert.MemqRefIdeal.τ).loc Cert.MemqRefIdeal.main_arg3) = m' ((c.tc : Thread Cert.MemqRefIdeal.nD Cert.MemqRefIdeal.τ).loc Cert.MemqRefIdeal.main_arg3)
          ∧ r.2.mem ((c.tc : Thread Cert.MemqRefIdeal.nD Cert.MemqRefIdeal.τ).loc Cert.MemqRefIdeal.main_arg4) = m' ((c.tc : Thread Cert.MemqRefIdeal.nD Cert.MemqRefIdeal.τ).loc Cert.MemqRefIdeal.main_arg4))

def preserves_LossBwd_LossBwdIdeal : Prop :=
  True

def algebraic_LossBwdIdeal_LossRefIdeal [hLossBwdIdeal : Cert.LossBwdIdeal.Facts] [hLossRefIdeal : Cert.LossRefIdeal.Facts] : Prop :=
  ∀ (m : (ℓ : Loc Cert.LossBwdIdeal.nD Cert.LossBwdIdeal.τ Cert.LossBwdIdeal.sig) → Buf (Elt Ideal) ℓ) (g : Dev Cert.LossBwdIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossBwdIdeal m →
    (∀ c : Dev Cert.LossBwdIdeal.nD,
      m' ((c.tc : Thread Cert.LossRefIdeal.nD Cert.LossRefIdeal.τ).loc Cert.LossRefIdeal.main_arg0) = m ((c.tc : Thread Cert.LossBwdIdeal.nD Cert.LossBwdIdeal.τ).loc Cert.LossBwdIdeal.main_arg0)
      ∧ m' ((c.tc : Thread Cert.LossRefIdeal.nD Cert.LossRefIdeal.τ).loc Cert.LossRefIdeal.main_arg1) = m ((c.tc : Thread Cert.LossBwdIdeal.nD Cert.LossBwdIdeal.τ).loc Cert.LossBwdIdeal.main_arg1)
      ∧ m' ((c.tc : Thread Cert.LossRefIdeal.nD Cert.LossRefIdeal.τ).loc Cert.LossRefIdeal.main_arg2) = m ((c.tc : Thread Cert.LossBwdIdeal.nD Cert.LossBwdIdeal.τ).loc Cert.LossBwdIdeal.main_arg2)) →
    ∃ (v0 : (c : Dev Cert.LossBwdIdeal.nD) → Buf (Elt Ideal) ((c.tc : Thread Cert.LossBwdIdeal.nD Cert.LossBwdIdeal.τ).loc Cert.LossBwdIdeal.main_v1_0)) (v1 : (c : Dev Cert.LossBwdIdeal.nD) → Buf (Elt Ideal) ((c.tc : Thread Cert.LossBwdIdeal.nD Cert.LossBwdIdeal.τ).loc Cert.LossBwdIdeal.main_v1_1)) (v2 : (c : Dev Cert.LossBwdIdeal.nD) → Buf (Elt Ideal) ((c.tc : Thread Cert.LossBwdIdeal.nD Cert.LossBwdIdeal.τ).loc Cert.LossBwdIdeal.main_v1_2)) (v3 : (c : Dev Cert.LossBwdIdeal.nD) → Buf (Elt Ideal) ((c.tc : Thread Cert.LossBwdIdeal.nD Cert.LossBwdIdeal.τ).loc Cert.LossBwdIdeal.main_v1_3)),
      θ_run (Cert.LossBwdIdeal.defs (F := Ideal)) (onTc (τ := Cert.LossBwdIdeal.τ) (Cert.LossBwdIdeal.main (F := Ideal))) ⟨m, fun _ => 0, g⟩ (fun r => ∀ c : Dev Cert.LossBwdIdeal.nD,
          r.2.mem ((c.tc : Thread Cert.LossBwdIdeal.nD Cert.LossBwdIdeal.τ).loc Cert.LossBwdIdeal.main_v1_0) = v0 c
          ∧ r.2.mem ((c.tc : Thread Cert.LossBwdIdeal.nD Cert.LossBwdIdeal.τ).loc Cert.LossBwdIdeal.main_v1_1) = v1 c
          ∧ r.2.mem ((c.tc : Thread Cert.LossBwdIdeal.nD Cert.LossBwdIdeal.τ).loc Cert.LossBwdIdeal.main_v1_2) = v2 c
          ∧ r.2.mem ((c.tc : Thread Cert.LossBwdIdeal.nD Cert.LossBwdIdeal.τ).loc Cert.LossBwdIdeal.main_v1_3) = v3 c
          ∧ r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
          ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
          ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v51) = v0 c
          ∧ r.2.mem ((c.tc : Thread Cert.LossRefIdeal.nD Cert.LossRefIdeal.τ).loc Cert.LossRefIdeal.main_v50) = v1 c
          ∧ r.2.mem ((c.tc : Thread Cert.LossRefIdeal.nD Cert.LossRefIdeal.τ).loc Cert.LossRefIdeal.main_v52) = v2 c
          ∧ r.2.mem ((c.tc : Thread Cert.LossRefIdeal.nD Cert.LossRefIdeal.τ).loc Cert.LossRefIdeal.main_v53) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_MlpupBwd_MlpupBwdIdeal : Prop :=
  True

def algebraic_MlpupBwdIdeal_MlpupRefIdeal [hMlpupBwdIdeal : Cert.MlpupBwdIdeal.Facts] [hMlpupRefIdeal : Cert.MlpupRefIdeal.Facts] : Prop :=
  ∀ (m : (ℓ : Loc Cert.MlpupBwdIdeal.nD Cert.MlpupBwdIdeal.τ Cert.MlpupBwdIdeal.sig) → Buf (Elt Ideal) ℓ) (g : Dev Cert.MlpupBwdIdeal.nD → PrngReg)
    (m' : (ℓ : Loc Cert.MlpupRefIdeal.nD Cert.MlpupRefIdeal.τ Cert.MlpupRefIdeal.sig) → Buf (Elt Ideal) ℓ) (g' : Dev Cert.MlpupRefIdeal.nD → PrngReg), Pre_MlpupBwdIdeal m →
    (∀ c : Dev Cert.MlpupBwdIdeal.nD,
      m' ((c.tc : Thread Cert.MlpupRefIdeal.nD Cert.MlpupRefIdeal.τ).loc Cert.MlpupRefIdeal.main_arg0) = m ((c.tc : Thread Cert.MlpupBwdIdeal.nD Cert.MlpupBwdIdeal.τ).loc Cert.MlpupBwdIdeal.main_arg0)
      ∧ m' ((c.tc : Thread Cert.MlpupRefIdeal.nD Cert.MlpupRefIdeal.τ).loc Cert.MlpupRefIdeal.main_arg1) = m ((c.tc : Thread Cert.MlpupBwdIdeal.nD Cert.MlpupBwdIdeal.τ).loc Cert.MlpupBwdIdeal.main_arg1)
      ∧ m' ((c.tc : Thread Cert.MlpupRefIdeal.nD Cert.MlpupRefIdeal.τ).loc Cert.MlpupRefIdeal.main_arg2) = m ((c.tc : Thread Cert.MlpupBwdIdeal.nD Cert.MlpupBwdIdeal.τ).loc Cert.MlpupBwdIdeal.main_arg2)
      ∧ m' ((c.tc : Thread Cert.MlpupRefIdeal.nD Cert.MlpupRefIdeal.τ).loc Cert.MlpupRefIdeal.main_arg3) = m ((c.tc : Thread Cert.MlpupBwdIdeal.nD Cert.MlpupBwdIdeal.τ).loc Cert.MlpupBwdIdeal.main_arg3)
      ∧ m' ((c.tc : Thread Cert.MlpupRefIdeal.nD Cert.MlpupRefIdeal.τ).loc Cert.MlpupRefIdeal.main_arg4) = m ((c.tc : Thread Cert.MlpupBwdIdeal.nD Cert.MlpupBwdIdeal.τ).loc Cert.MlpupBwdIdeal.main_arg4)) →
    ∃ (v0 : (c : Dev Cert.MlpupBwdIdeal.nD) → Buf (Elt Ideal) ((c.tc : Thread Cert.MlpupBwdIdeal.nD Cert.MlpupBwdIdeal.τ).loc Cert.MlpupBwdIdeal.main_v4_0)) (v1 : (c : Dev Cert.MlpupBwdIdeal.nD) → Buf (Elt Ideal) ((c.tc : Thread Cert.MlpupBwdIdeal.nD Cert.MlpupBwdIdeal.τ).loc Cert.MlpupBwdIdeal.main_v4_1)) (v2 : (c : Dev Cert.MlpupBwdIdeal.nD) → Buf (Elt Ideal) ((c.tc : Thread Cert.MlpupBwdIdeal.nD Cert.MlpupBwdIdeal.τ).loc Cert.MlpupBwdIdeal.main_v4_2)),
      θ_run (Cert.MlpupBwdIdeal.defs (F := Ideal)) (onTc (τ := Cert.MlpupBwdIdeal.τ) (Cert.MlpupBwdIdeal.main (F := Ideal))) ⟨m, fun _ => 0, g⟩ (fun r => ∀ c : Dev Cert.MlpupBwdIdeal.nD,
          r.2.mem ((c.tc : Thread Cert.MlpupBwdIdeal.nD Cert.MlpupBwdIdeal.τ).loc Cert.MlpupBwdIdeal.main_v4_0) = v0 c
          ∧ r.2.mem ((c.tc : Thread Cert.MlpupBwdIdeal.nD Cert.MlpupBwdIdeal.τ).loc Cert.MlpupBwdIdeal.main_v4_1) = v1 c
          ∧ r.2.mem ((c.tc : Thread Cert.MlpupBwdIdeal.nD Cert.MlpupBwdIdeal.τ).loc Cert.MlpupBwdIdeal.main_v4_2) = v2 c
          ∧ r.2.mem ((c.tc : Thread Cert.MlpupBwdIdeal.nD Cert.MlpupBwdIdeal.τ).loc Cert.MlpupBwdIdeal.main_arg0) = m ((c.tc : Thread Cert.MlpupBwdIdeal.nD Cert.MlpupBwdIdeal.τ).loc Cert.MlpupBwdIdeal.main_arg0)
          ∧ r.2.mem ((c.tc : Thread Cert.MlpupBwdIdeal.nD Cert.MlpupBwdIdeal.τ).loc Cert.MlpupBwdIdeal.main_arg1) = m ((c.tc : Thread Cert.MlpupBwdIdeal.nD Cert.MlpupBwdIdeal.τ).loc Cert.MlpupBwdIdeal.main_arg1)
          ∧ r.2.mem ((c.tc : Thread Cert.MlpupBwdIdeal.nD Cert.MlpupBwdIdeal.τ).loc Cert.MlpupBwdIdeal.main_arg2) = m ((c.tc : Thread Cert.MlpupBwdIdeal.nD Cert.MlpupBwdIdeal.τ).loc Cert.MlpupBwdIdeal.main_arg2)
          ∧ r.2.mem ((c.tc : Thread Cert.MlpupBwdIdeal.nD Cert.MlpupBwdIdeal.τ).loc Cert.MlpupBwdIdeal.main_arg3) = m ((c.tc : Thread Cert.MlpupBwdIdeal.nD Cert.MlpupBwdIdeal.τ).loc Cert.MlpupBwdIdeal.main_arg3)
          ∧ r.2.mem ((c.tc : Thread Cert.MlpupBwdIdeal.nD Cert.MlpupBwdIdeal.τ).loc Cert.MlpupBwdIdeal.main_arg4) = m ((c.tc : Thread Cert.MlpupBwdIdeal.nD Cert.MlpupBwdIdeal.τ).loc Cert.MlpupBwdIdeal.main_arg4))
      ∧ θ_run (Cert.MlpupRefIdeal.defs (F := Ideal)) (onTc (τ := Cert.MlpupRefIdeal.τ) (Cert.MlpupRefIdeal.main (F := Ideal))) ⟨m', fun _ => 0, g'⟩ (fun r => ∀ c : Dev Cert.MlpupRefIdeal.nD,
          r.2.mem ((c.tc : Thread Cert.MlpupRefIdeal.nD Cert.MlpupRefIdeal.τ).loc Cert.MlpupRefIdeal.main_v38) = v0 c
          ∧ r.2.mem ((c.tc : Thread Cert.MlpupRefIdeal.nD Cert.MlpupRefIdeal.τ).loc Cert.MlpupRefIdeal.main_v39) = v1 c
          ∧ r.2.mem ((c.tc : Thread Cert.MlpupRefIdeal.nD Cert.MlpupRefIdeal.τ).loc Cert.MlpupRefIdeal.main_v40) = v2 c
          ∧ r.2.mem ((c.tc : Thread Cert.MlpupRefIdeal.nD Cert.MlpupRefIdeal.τ).loc Cert.MlpupRefIdeal.main_arg0) = m' ((c.tc : Thread Cert.MlpupRefIdeal.nD Cert.MlpupRefIdeal.τ).loc Cert.MlpupRefIdeal.main_arg0)
          ∧ r.2.mem ((c.tc : Thread Cert.MlpupRefIdeal.nD Cert.MlpupRefIdeal.τ).loc Cert.MlpupRefIdeal.main_arg1) = m' ((c.tc : Thread Cert.MlpupRefIdeal.nD Cert.MlpupRefIdeal.τ).loc Cert.MlpupRefIdeal.main_arg1)
          ∧ r.2.mem ((c.tc : Thread Cert.MlpupRefIdeal.nD Cert.MlpupRefIdeal.τ).loc Cert.MlpupRefIdeal.main_arg2) = m' ((c.tc : Thread Cert.MlpupRefIdeal.nD Cert.MlpupRefIdeal.τ).loc Cert.MlpupRefIdeal.main_arg2)
          ∧ r.2.mem ((c.tc : Thread Cert.MlpupRefIdeal.nD Cert.MlpupRefIdeal.τ).loc Cert.MlpupRefIdeal.main_arg3) = m' ((c.tc : Thread Cert.MlpupRefIdeal.nD Cert.MlpupRefIdeal.τ).loc Cert.MlpupRefIdeal.main_arg3)
          ∧ r.2.mem ((c.tc : Thread Cert.MlpupRefIdeal.nD Cert.MlpupRefIdeal.τ).loc Cert.MlpupRefIdeal.main_arg4) = m' ((c.tc : Thread Cert.MlpupRefIdeal.nD Cert.MlpupRefIdeal.τ).loc Cert.MlpupRefIdeal.main_arg4))

def preserves_MixBwd_MixBwdIdeal : Prop :=
  True

def algebraic_MixBwdIdeal_MixRefIdeal [hMixBwdIdeal : Cert.MixBwdIdeal.Facts] [hMixRefIdeal : Cert.MixRefIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixBwdIdeal m →
    (∀ c : Dev Cert.MixBwdIdeal.nD,
      m' ((c.tc : Thread Cert.MixRefIdeal.nD Cert.MixRefIdeal.τ).loc Cert.MixRefIdeal.main_arg0) = m ((c.tc : Thread Cert.MixBwdIdeal.nD Cert.MixBwdIdeal.τ).loc Cert.MixBwdIdeal.main_arg0)
      ∧ m' ((c.tc : Thread Cert.MixRefIdeal.nD Cert.MixRefIdeal.τ).loc Cert.MixRefIdeal.main_arg1) = m ((c.tc : Thread Cert.MixBwdIdeal.nD Cert.MixBwdIdeal.τ).loc Cert.MixBwdIdeal.main_arg1)
      ∧ m' ((c.tc : Thread Cert.MixRefIdeal.nD Cert.MixRefIdeal.τ).loc Cert.MixRefIdeal.main_arg2) = m ((c.tc : Thread Cert.MixBwdIdeal.nD Cert.MixBwdIdeal.τ).loc Cert.MixBwdIdeal.main_arg2)
      ∧ m' ((c.tc : Thread Cert.MixRefIdeal.nD Cert.MixRefIdeal.τ).loc Cert.MixRefIdeal.main_arg3) = m ((c.tc : Thread Cert.MixBwdIdeal.nD Cert.MixBwdIdeal.τ).loc Cert.MixBwdIdeal.main_arg3)
      ∧ m' ((c.tc : Thread Cert.MixRefIdeal.nD Cert.MixRefIdeal.τ).loc Cert.MixRefIdeal.main_arg4) = m ((c.tc : Thread Cert.MixBwdIdeal.nD Cert.MixBwdIdeal.τ).loc Cert.MixBwdIdeal.main_arg4)
      ∧ m' ((c.tc : Thread Cert.MixRefIdeal.nD Cert.MixRefIdeal.τ).loc Cert.MixRefIdeal.main_arg5) = m ((c.tc : Thread Cert.MixBwdIdeal.nD Cert.MixBwdIdeal.τ).loc Cert.MixBwdIdeal.main_arg5)
      ∧ m' ((c.tc : Thread Cert.MixRefIdeal.nD Cert.MixRefIdeal.τ).loc Cert.MixRefIdeal.main_arg6) = m ((c.tc : Thread Cert.MixBwdIdeal.nD Cert.MixBwdIdeal.τ).loc Cert.MixBwdIdeal.main_arg6)
      ∧ m' ((c.tc : Thread Cert.MixRefIdeal.nD Cert.MixRefIdeal.τ).loc Cert.MixRefIdeal.main_arg7) = m ((c.tc : Thread Cert.MixBwdIdeal.nD Cert.MixBwdIdeal.τ).loc Cert.MixBwdIdeal.main_arg7)
      ∧ m' ((c.tc : Thread Cert.MixRefIdeal.nD Cert.MixRefIdeal.τ).loc Cert.MixRefIdeal.main_arg8) = m ((c.tc : Thread Cert.MixBwdIdeal.nD Cert.MixBwdIdeal.τ).loc Cert.MixBwdIdeal.main_arg8)) →
    ∃ (v0 : (c : Dev Cert.MixBwdIdeal.nD) → Buf (Elt Ideal) ((c.tc : Thread Cert.MixBwdIdeal.nD Cert.MixBwdIdeal.τ).loc Cert.MixBwdIdeal.main_v19)) (v1 : (c : Dev Cert.MixBwdIdeal.nD) → Buf (Elt Ideal) ((c.tc : Thread Cert.MixBwdIdeal.nD Cert.MixBwdIdeal.τ).loc Cert.MixBwdIdeal.main_v15_1)) (v2 : (c : Dev Cert.MixBwdIdeal.nD) → Buf (Elt Ideal) ((c.tc : Thread Cert.MixBwdIdeal.nD Cert.MixBwdIdeal.τ).loc Cert.MixBwdIdeal.main_v15_2)) (v3 : (c : Dev Cert.MixBwdIdeal.nD) → Buf (Elt Ideal) ((c.tc : Thread Cert.MixBwdIdeal.nD Cert.MixBwdIdeal.τ).loc Cert.MixBwdIdeal.main_v20)) (v4 : (c : Dev Cert.MixBwdIdeal.nD) → Buf (Elt Ideal) ((c.tc : Thread Cert.MixBwdIdeal.nD Cert.MixBwdIdeal.τ).loc Cert.MixBwdIdeal.main_v23)) (v5 : (c : Dev Cert.MixBwdIdeal.nD) → Buf (Elt Ideal) ((c.tc : Thread Cert.MixBwdIdeal.nD Cert.MixBwdIdeal.τ).loc Cert.MixBwdIdeal.main_v15_5)),
      θ_run (Cert.MixBwdIdeal.defs (F := Ideal)) (onTc (τ := Cert.MixBwdIdeal.τ) (Cert.MixBwdIdeal.main (F := Ideal))) ⟨m, fun _ => 0, g⟩ (fun r => ∀ c : Dev Cert.MixBwdIdeal.nD,
          r.2.mem ((c.tc : Thread Cert.MixBwdIdeal.nD Cert.MixBwdIdeal.τ).loc Cert.MixBwdIdeal.main_v19) = v0 c
          ∧ r.2.mem ((c.tc : Thread Cert.MixBwdIdeal.nD Cert.MixBwdIdeal.τ).loc Cert.MixBwdIdeal.main_v15_1) = v1 c
          ∧ r.2.mem ((c.tc : Thread Cert.MixBwdIdeal.nD Cert.MixBwdIdeal.τ).loc Cert.MixBwdIdeal.main_v15_2) = v2 c
          ∧ r.2.mem ((c.tc : Thread Cert.MixBwdIdeal.nD Cert.MixBwdIdeal.τ).loc Cert.MixBwdIdeal.main_v20) = v3 c
          ∧ r.2.mem ((c.tc : Thread Cert.MixBwdIdeal.nD Cert.MixBwdIdeal.τ).loc Cert.MixBwdIdeal.main_v23) = v4 c
          ∧ r.2.mem ((c.tc : Thread Cert.MixBwdIdeal.nD Cert.MixBwdIdeal.τ).loc Cert.MixBwdIdeal.main_v15_5) = v5 c
          ∧ r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
          ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
          ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
          ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
          ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
          ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
          ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
          ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7)
          ∧ r.2.mem ((c.tc : Thread Cert.MixBwdIdeal.nD Cert.MixBwdIdeal.τ).loc Cert.MixBwdIdeal.main_arg8) = m ((c.tc : Thread Cert.MixBwdIdeal.nD Cert.MixBwdIdeal.τ).loc Cert.MixBwdIdeal.main_arg8))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v97) = v0 c
          ∧ r.2.mem ((c.tc : Thread Cert.MixRefIdeal.nD Cert.MixRefIdeal.τ).loc Cert.MixRefIdeal.main_v56) = v1 c
          ∧ r.2.mem ((c.tc : Thread Cert.MixRefIdeal.nD Cert.MixRefIdeal.τ).loc Cert.MixRefIdeal.main_v99) = v2 c
          ∧ r.2.mem ((c.tc : Thread Cert.MixRefIdeal.nD Cert.MixRefIdeal.τ).loc Cert.MixRefIdeal.main_v111) = v3 c
          ∧ r.2.mem ((c.tc : Thread Cert.MixRefIdeal.nD Cert.MixRefIdeal.τ).loc Cert.MixRefIdeal.main_v112) = v4 c
          ∧ r.2.mem ((c.tc : Thread Cert.MixRefIdeal.nD Cert.MixRefIdeal.τ).loc Cert.MixRefIdeal.main_v113) = v5 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8))

def preserves_PrepBwd_PrepBwdIdeal : Prop :=
  True

def algebraic_PrepBwdIdeal_PrepRefIdeal [hPrepBwdIdeal : Cert.PrepBwdIdeal.Facts] [hPrepRefIdeal : Cert.PrepRefIdeal.Facts] : Prop :=
  ∀ (m : (ℓ : Loc Cert.PrepBwdIdeal.nD Cert.PrepBwdIdeal.τ Cert.PrepBwdIdeal.sig) → Buf (Elt Ideal) ℓ) (g : Dev Cert.PrepBwdIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepBwdIdeal m →
    (∀ c : Dev Cert.PrepBwdIdeal.nD,
      m' ((c.tc : Thread Cert.PrepRefIdeal.nD Cert.PrepRefIdeal.τ).loc Cert.PrepRefIdeal.main_arg0) = m ((c.tc : Thread Cert.PrepBwdIdeal.nD Cert.PrepBwdIdeal.τ).loc Cert.PrepBwdIdeal.main_arg0)
      ∧ m' ((c.tc : Thread Cert.PrepRefIdeal.nD Cert.PrepRefIdeal.τ).loc Cert.PrepRefIdeal.main_arg1) = m ((c.tc : Thread Cert.PrepBwdIdeal.nD Cert.PrepBwdIdeal.τ).loc Cert.PrepBwdIdeal.main_arg1)
      ∧ m' ((c.tc : Thread Cert.PrepRefIdeal.nD Cert.PrepRefIdeal.τ).loc Cert.PrepRefIdeal.main_arg2) = m ((c.tc : Thread Cert.PrepBwdIdeal.nD Cert.PrepBwdIdeal.τ).loc Cert.PrepBwdIdeal.main_arg2)
      ∧ m' ((c.tc : Thread Cert.PrepRefIdeal.nD Cert.PrepRefIdeal.τ).loc Cert.PrepRefIdeal.main_arg3) = m ((c.tc : Thread Cert.PrepBwdIdeal.nD Cert.PrepBwdIdeal.τ).loc Cert.PrepBwdIdeal.main_arg3)
      ∧ m' ((c.tc : Thread Cert.PrepRefIdeal.nD Cert.PrepRefIdeal.τ).loc Cert.PrepRefIdeal.main_arg4) = m ((c.tc : Thread Cert.PrepBwdIdeal.nD Cert.PrepBwdIdeal.τ).loc Cert.PrepBwdIdeal.main_arg4)
      ∧ m' ((c.tc : Thread Cert.PrepRefIdeal.nD Cert.PrepRefIdeal.τ).loc Cert.PrepRefIdeal.main_arg5) = m ((c.tc : Thread Cert.PrepBwdIdeal.nD Cert.PrepBwdIdeal.τ).loc Cert.PrepBwdIdeal.main_arg5)
      ∧ m' ((c.tc : Thread Cert.PrepRefIdeal.nD Cert.PrepRefIdeal.τ).loc Cert.PrepRefIdeal.main_arg6) = m ((c.tc : Thread Cert.PrepBwdIdeal.nD Cert.PrepBwdIdeal.τ).loc Cert.PrepBwdIdeal.main_arg6)
      ∧ m' ((c.tc : Thread Cert.PrepRefIdeal.nD Cert.PrepRefIdeal.τ).loc Cert.PrepRefIdeal.main_arg7) = m ((c.tc : Thread Cert.PrepBwdIdeal.nD Cert.PrepBwdIdeal.τ).loc Cert.PrepBwdIdeal.main_arg7)
      ∧ m' ((c.tc : Thread Cert.PrepRefIdeal.nD Cert.PrepRefIdeal.τ).loc Cert.PrepRefIdeal.main_arg8) = m ((c.tc : Thread Cert.PrepBwdIdeal.nD Cert.PrepBwdIdeal.τ).loc Cert.PrepBwdIdeal.main_arg8)) →
    ∃ (v0 : (c : Dev Cert.PrepBwdIdeal.nD) → Buf (Elt Ideal) ((c.tc : Thread Cert.PrepBwdIdeal.nD Cert.PrepBwdIdeal.τ).loc Cert.PrepBwdIdeal.main_v42)) (v1 : (c : Dev Cert.PrepBwdIdeal.nD) → Buf (Elt Ideal) ((c.tc : Thread Cert.PrepBwdIdeal.nD Cert.PrepBwdIdeal.τ).loc Cert.PrepBwdIdeal.main_v43)) (v2 : (c : Dev Cert.PrepBwdIdeal.nD) → Buf (Elt Ideal) ((c.tc : Thread Cert.PrepBwdIdeal.nD Cert.PrepBwdIdeal.τ).loc Cert.PrepBwdIdeal.main_v49)) (v3 : (c : Dev Cert.PrepBwdIdeal.nD) → Buf (Elt Ideal) ((c.tc : Thread Cert.PrepBwdIdeal.nD Cert.PrepBwdIdeal.τ).loc Cert.PrepBwdIdeal.main_v40_1)) (v4 : (c : Dev Cert.PrepBwdIdeal.nD) → Buf (Elt Ideal) ((c.tc : Thread Cert.PrepBwdIdeal.nD Cert.PrepBwdIdeal.τ).loc Cert.PrepBwdIdeal.main_v40_2)),
      θ_run (Cert.PrepBwdIdeal.defs (F := Ideal)) (onTc (τ := Cert.PrepBwdIdeal.τ) (Cert.PrepBwdIdeal.main (F := Ideal))) ⟨m, fun _ => 0, g⟩ (fun r => ∀ c : Dev Cert.PrepBwdIdeal.nD,
          r.2.mem ((c.tc : Thread Cert.PrepBwdIdeal.nD Cert.PrepBwdIdeal.τ).loc Cert.PrepBwdIdeal.main_v42) = v0 c
          ∧ r.2.mem ((c.tc : Thread Cert.PrepBwdIdeal.nD Cert.PrepBwdIdeal.τ).loc Cert.PrepBwdIdeal.main_v43) = v1 c
          ∧ r.2.mem ((c.tc : Thread Cert.PrepBwdIdeal.nD Cert.PrepBwdIdeal.τ).loc Cert.PrepBwdIdeal.main_v49) = v2 c
          ∧ r.2.mem ((c.tc : Thread Cert.PrepBwdIdeal.nD Cert.PrepBwdIdeal.τ).loc Cert.PrepBwdIdeal.main_v40_1) = v3 c
          ∧ r.2.mem ((c.tc : Thread Cert.PrepBwdIdeal.nD Cert.PrepBwdIdeal.τ).loc Cert.PrepBwdIdeal.main_v40_2) = v4 c
          ∧ r.2.mem ((c.tc : Thread Cert.PrepBwdIdeal.nD Cert.PrepBwdIdeal.τ).loc Cert.PrepBwdIdeal.main_arg0) = m ((c.tc : Thread Cert.PrepBwdIdeal.nD Cert.PrepBwdIdeal.τ).loc Cert.PrepBwdIdeal.main_arg0)
          ∧ r.2.mem ((c.tc : Thread Cert.PrepBwdIdeal.nD Cert.PrepBwdIdeal.τ).loc Cert.PrepBwdIdeal.main_arg1) = m ((c.tc : Thread Cert.PrepBwdIdeal.nD Cert.PrepBwdIdeal.τ).loc Cert.PrepBwdIdeal.main_arg1)
          ∧ r.2.mem ((c.tc : Thread Cert.PrepBwdIdeal.nD Cert.PrepBwdIdeal.τ).loc Cert.PrepBwdIdeal.main_arg2) = m ((c.tc : Thread Cert.PrepBwdIdeal.nD Cert.PrepBwdIdeal.τ).loc Cert.PrepBwdIdeal.main_arg2)
          ∧ r.2.mem ((c.tc : Thread Cert.PrepBwdIdeal.nD Cert.PrepBwdIdeal.τ).loc Cert.PrepBwdIdeal.main_arg3) = m ((c.tc : Thread Cert.PrepBwdIdeal.nD Cert.PrepBwdIdeal.τ).loc Cert.PrepBwdIdeal.main_arg3)
          ∧ r.2.mem ((c.tc : Thread Cert.PrepBwdIdeal.nD Cert.PrepBwdIdeal.τ).loc Cert.PrepBwdIdeal.main_arg4) = m ((c.tc : Thread Cert.PrepBwdIdeal.nD Cert.PrepBwdIdeal.τ).loc Cert.PrepBwdIdeal.main_arg4)
          ∧ r.2.mem ((c.tc : Thread Cert.PrepBwdIdeal.nD Cert.PrepBwdIdeal.τ).loc Cert.PrepBwdIdeal.main_arg5) = m ((c.tc : Thread Cert.PrepBwdIdeal.nD Cert.PrepBwdIdeal.τ).loc Cert.PrepBwdIdeal.main_arg5)
          ∧ r.2.mem ((c.tc : Thread Cert.PrepBwdIdeal.nD Cert.PrepBwdIdeal.τ).loc Cert.PrepBwdIdeal.main_arg6) = m ((c.tc : Thread Cert.PrepBwdIdeal.nD Cert.PrepBwdIdeal.τ).loc Cert.PrepBwdIdeal.main_arg6)
          ∧ r.2.mem ((c.tc : Thread Cert.PrepBwdIdeal.nD Cert.PrepBwdIdeal.τ).loc Cert.PrepBwdIdeal.main_arg7) = m ((c.tc : Thread Cert.PrepBwdIdeal.nD Cert.PrepBwdIdeal.τ).loc Cert.PrepBwdIdeal.main_arg7)
          ∧ r.2.mem ((c.tc : Thread Cert.PrepBwdIdeal.nD Cert.PrepBwdIdeal.τ).loc Cert.PrepBwdIdeal.main_arg8) = m ((c.tc : Thread Cert.PrepBwdIdeal.nD Cert.PrepBwdIdeal.τ).loc Cert.PrepBwdIdeal.main_arg8))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v108) = v0 c
          ∧ r.2.mem ((c.tc : Thread Cert.PrepRefIdeal.nD Cert.PrepRefIdeal.τ).loc Cert.PrepRefIdeal.main_v88) = v1 c
          ∧ r.2.mem ((c.tc : Thread Cert.PrepRefIdeal.nD Cert.PrepRefIdeal.τ).loc Cert.PrepRefIdeal.main_v68) = v2 c
          ∧ r.2.mem ((c.tc : Thread Cert.PrepRefIdeal.nD Cert.PrepRefIdeal.τ).loc Cert.PrepRefIdeal.main_v109) = v3 c
          ∧ r.2.mem ((c.tc : Thread Cert.PrepRefIdeal.nD Cert.PrepRefIdeal.τ).loc Cert.PrepRefIdeal.main_v110) = v4 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6)
          ∧ r.2.mem ((c.tc : Thread Cert.PrepRefIdeal.nD Cert.PrepRefIdeal.τ).loc Cert.PrepRefIdeal.main_arg7) = m' ((c.tc : Thread Cert.PrepRefIdeal.nD Cert.PrepRefIdeal.τ).loc Cert.PrepRefIdeal.main_arg7)
          ∧ r.2.mem ((c.tc : Thread Cert.PrepRefIdeal.nD Cert.PrepRefIdeal.τ).loc Cert.PrepRefIdeal.main_arg8) = m' ((c.tc : Thread Cert.PrepRefIdeal.nD Cert.PrepRefIdeal.τ).loc Cert.PrepRefIdeal.main_arg8))

def preserves_XattnBwd_XattnBwdIdeal : Prop :=
  True

def algebraic_XattnBwdIdeal_XattnRefIdeal_pre_xattn_finite [hXattnBwdIdeal : Cert.XattnBwdIdeal.Facts] [hXattnRefIdeal : Cert.XattnRefIdeal.Facts] [hPre_xattn_finite : Cert.Pre_xattn_finite.Facts] : Prop :=
  ∀ (m : (ℓ : Loc Cert.XattnBwdIdeal.nD Cert.XattnBwdIdeal.τ Cert.XattnBwdIdeal.sig) → Buf (Elt Ideal) ℓ) (g : Dev Cert.XattnBwdIdeal.nD → PrngReg)
    (m' : (ℓ : Loc Cert.XattnRefIdeal.nD Cert.XattnRefIdeal.τ Cert.XattnRefIdeal.sig) → Buf (Elt Ideal) ℓ) (g' : Dev Cert.XattnRefIdeal.nD → PrngReg), Pre_XattnBwdIdeal_xattn_finite m →
    (∀ c : Dev Cert.XattnBwdIdeal.nD,
      m' ((c.tc : Thread Cert.XattnRefIdeal.nD Cert.XattnRefIdeal.τ).loc Cert.XattnRefIdeal.main_arg0) = m ((c.tc : Thread Cert.XattnBwdIdeal.nD Cert.XattnBwdIdeal.τ).loc Cert.XattnBwdIdeal.main_arg0)
      ∧ m' ((c.tc : Thread Cert.XattnRefIdeal.nD Cert.XattnRefIdeal.τ).loc Cert.XattnRefIdeal.main_arg1) = m ((c.tc : Thread Cert.XattnBwdIdeal.nD Cert.XattnBwdIdeal.τ).loc Cert.XattnBwdIdeal.main_arg1)
      ∧ m' ((c.tc : Thread Cert.XattnRefIdeal.nD Cert.XattnRefIdeal.τ).loc Cert.XattnRefIdeal.main_arg2) = m ((c.tc : Thread Cert.XattnBwdIdeal.nD Cert.XattnBwdIdeal.τ).loc Cert.XattnBwdIdeal.main_arg2)
      ∧ m' ((c.tc : Thread Cert.XattnRefIdeal.nD Cert.XattnRefIdeal.τ).loc Cert.XattnRefIdeal.main_arg3) = m ((c.tc : Thread Cert.XattnBwdIdeal.nD Cert.XattnBwdIdeal.τ).loc Cert.XattnBwdIdeal.main_arg3)) →
    ∃ (v0 : (c : Dev Cert.XattnBwdIdeal.nD) → Buf (Elt Ideal) ((c.tc : Thread Cert.XattnBwdIdeal.nD Cert.XattnBwdIdeal.τ).loc Cert.XattnBwdIdeal.main_v4_0)) (v1 : (c : Dev Cert.XattnBwdIdeal.nD) → Buf (Elt Ideal) ((c.tc : Thread Cert.XattnBwdIdeal.nD Cert.XattnBwdIdeal.τ).loc Cert.XattnBwdIdeal.main_v4_1)) (v2 : (c : Dev Cert.XattnBwdIdeal.nD) → Buf (Elt Ideal) ((c.tc : Thread Cert.XattnBwdIdeal.nD Cert.XattnBwdIdeal.τ).loc Cert.XattnBwdIdeal.main_v4_2)),
      θ_run (Cert.XattnBwdIdeal.defs (F := Ideal)) (onTc (τ := Cert.XattnBwdIdeal.τ) (Cert.XattnBwdIdeal.main (F := Ideal))) ⟨m, fun _ => 0, g⟩ (fun r => ∀ c : Dev Cert.XattnBwdIdeal.nD,
          r.2.mem ((c.tc : Thread Cert.XattnBwdIdeal.nD Cert.XattnBwdIdeal.τ).loc Cert.XattnBwdIdeal.main_v4_0) = v0 c
          ∧ r.2.mem ((c.tc : Thread Cert.XattnBwdIdeal.nD Cert.XattnBwdIdeal.τ).loc Cert.XattnBwdIdeal.main_v4_1) = v1 c
          ∧ r.2.mem ((c.tc : Thread Cert.XattnBwdIdeal.nD Cert.XattnBwdIdeal.τ).loc Cert.XattnBwdIdeal.main_v4_2) = v2 c
          ∧ r.2.mem ((c.tc : Thread Cert.XattnBwdIdeal.nD Cert.XattnBwdIdeal.τ).loc Cert.XattnBwdIdeal.main_arg0) = m ((c.tc : Thread Cert.XattnBwdIdeal.nD Cert.XattnBwdIdeal.τ).loc Cert.XattnBwdIdeal.main_arg0)
          ∧ r.2.mem ((c.tc : Thread Cert.XattnBwdIdeal.nD Cert.XattnBwdIdeal.τ).loc Cert.XattnBwdIdeal.main_arg1) = m ((c.tc : Thread Cert.XattnBwdIdeal.nD Cert.XattnBwdIdeal.τ).loc Cert.XattnBwdIdeal.main_arg1)
          ∧ r.2.mem ((c.tc : Thread Cert.XattnBwdIdeal.nD Cert.XattnBwdIdeal.τ).loc Cert.XattnBwdIdeal.main_arg2) = m ((c.tc : Thread Cert.XattnBwdIdeal.nD Cert.XattnBwdIdeal.τ).loc Cert.XattnBwdIdeal.main_arg2)
          ∧ r.2.mem ((c.tc : Thread Cert.XattnBwdIdeal.nD Cert.XattnBwdIdeal.τ).loc Cert.XattnBwdIdeal.main_arg3) = m ((c.tc : Thread Cert.XattnBwdIdeal.nD Cert.XattnBwdIdeal.τ).loc Cert.XattnBwdIdeal.main_arg3))
      ∧ θ_run (Cert.XattnRefIdeal.defs (F := Ideal)) (onTc (τ := Cert.XattnRefIdeal.τ) (Cert.XattnRefIdeal.main (F := Ideal))) ⟨m', fun _ => 0, g'⟩ (fun r => ∀ c : Dev Cert.XattnRefIdeal.nD,
          r.2.mem ((c.tc : Thread Cert.XattnRefIdeal.nD Cert.XattnRefIdeal.τ).loc Cert.XattnRefIdeal.main_v63) = v0 c
          ∧ r.2.mem ((c.tc : Thread Cert.XattnRefIdeal.nD Cert.XattnRefIdeal.τ).loc Cert.XattnRefIdeal.main_v61) = v1 c
          ∧ r.2.mem ((c.tc : Thread Cert.XattnRefIdeal.nD Cert.XattnRefIdeal.τ).loc Cert.XattnRefIdeal.main_v60) = v2 c
          ∧ r.2.mem ((c.tc : Thread Cert.XattnRefIdeal.nD Cert.XattnRefIdeal.τ).loc Cert.XattnRefIdeal.main_arg0) = m' ((c.tc : Thread Cert.XattnRefIdeal.nD Cert.XattnRefIdeal.τ).loc Cert.XattnRefIdeal.main_arg0)
          ∧ r.2.mem ((c.tc : Thread Cert.XattnRefIdeal.nD Cert.XattnRefIdeal.τ).loc Cert.XattnRefIdeal.main_arg1) = m' ((c.tc : Thread Cert.XattnRefIdeal.nD Cert.XattnRefIdeal.τ).loc Cert.XattnRefIdeal.main_arg1)
          ∧ r.2.mem ((c.tc : Thread Cert.XattnRefIdeal.nD Cert.XattnRefIdeal.τ).loc Cert.XattnRefIdeal.main_arg2) = m' ((c.tc : Thread Cert.XattnRefIdeal.nD Cert.XattnRefIdeal.τ).loc Cert.XattnRefIdeal.main_arg2)
          ∧ r.2.mem ((c.tc : Thread Cert.XattnRefIdeal.nD Cert.XattnRefIdeal.τ).loc Cert.XattnRefIdeal.main_arg3) = m' ((c.tc : Thread Cert.XattnRefIdeal.nD Cert.XattnRefIdeal.τ).loc Cert.XattnRefIdeal.main_arg3))

def Claim : Prop :=
  ∃ (hNormBwd : Cert.NormBwd.Facts) (hNormBwdIdeal : Cert.NormBwdIdeal.Facts) (hNormRefIdeal : Cert.NormRefIdeal.Facts) (hConvBwd : Cert.ConvBwd.Facts) (hConvBwdIdeal : Cert.ConvBwdIdeal.Facts) (hConvRefIdeal : Cert.ConvRefIdeal.Facts) (hReluBwd : Cert.ReluBwd.Facts) (hReluBwdIdeal : Cert.ReluBwdIdeal.Facts) (hReluRefIdeal : Cert.ReluRefIdeal.Facts) (hAttnBwd : Cert.AttnBwd.Facts) (hAttnBwdIdeal : Cert.AttnBwdIdeal.Facts) (hAttnRefIdeal : Cert.AttnRefIdeal.Facts) (hQropeBwd : Cert.QropeBwd.Facts) (hQropeBwdIdeal : Cert.QropeBwdIdeal.Facts) (hQropeRefIdeal : Cert.QropeRefIdeal.Facts) (hMemqBwd : Cert.MemqBwd.Facts) (hMemqBwdIdeal : Cert.MemqBwdIdeal.Facts) (hMemqRefIdeal : Cert.MemqRefIdeal.Facts) (hLossBwd : Cert.LossBwd.Facts) (hLossBwdIdeal : Cert.LossBwdIdeal.Facts) (hLossRefIdeal : Cert.LossRefIdeal.Facts) (hMlpupBwd : Cert.MlpupBwd.Facts) (hMlpupBwdIdeal : Cert.MlpupBwdIdeal.Facts) (hMlpupRefIdeal : Cert.MlpupRefIdeal.Facts) (hMixBwd : Cert.MixBwd.Facts) (hMixBwdIdeal : Cert.MixBwdIdeal.Facts) (hMixRefIdeal : Cert.MixRefIdeal.Facts) (hPrepBwd : Cert.PrepBwd.Facts) (hPrepBwdIdeal : Cert.PrepBwdIdeal.Facts) (hPrepRefIdeal : Cert.PrepRefIdeal.Facts) (hXattnBwd : Cert.XattnBwd.Facts) (hXattnBwdIdeal : Cert.XattnBwdIdeal.Facts) (hXattnRefIdeal : Cert.XattnRefIdeal.Facts) (hPre_finite : Cert.Pre_finite.Facts) (hPre_xattn_finite : Cert.Pre_xattn_finite.Facts),
    quiescent_NormBwd (hNormBwd := hNormBwd)
    ∧ quiescent_NormBwdIdeal (hNormBwdIdeal := hNormBwdIdeal)
    ∧ quiescent_NormRefIdeal (hNormRefIdeal := hNormRefIdeal)
    ∧ quiescent_ConvBwd (hConvBwd := hConvBwd)
    ∧ quiescent_ConvBwdIdeal (hConvBwdIdeal := hConvBwdIdeal)
    ∧ quiescent_ConvRefIdeal (hConvRefIdeal := hConvRefIdeal)
    ∧ quiescent_ReluBwd (hReluBwd := hReluBwd)
    ∧ quiescent_ReluBwdIdeal (hReluBwdIdeal := hReluBwdIdeal)
    ∧ quiescent_ReluRefIdeal (hReluRefIdeal := hReluRefIdeal)
    ∧ quiescent_AttnBwd (hAttnBwd := hAttnBwd)
    ∧ quiescent_AttnBwdIdeal (hAttnBwdIdeal := hAttnBwdIdeal)
    ∧ quiescent_AttnBwdIdeal_pre_finite (hAttnBwdIdeal := hAttnBwdIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_QropeBwd (hQropeBwd := hQropeBwd)
    ∧ quiescent_QropeBwdIdeal (hQropeBwdIdeal := hQropeBwdIdeal)
    ∧ quiescent_QropeRefIdeal (hQropeRefIdeal := hQropeRefIdeal)
    ∧ quiescent_MemqBwd (hMemqBwd := hMemqBwd)
    ∧ quiescent_MemqBwdIdeal (hMemqBwdIdeal := hMemqBwdIdeal)
    ∧ quiescent_MemqRefIdeal (hMemqRefIdeal := hMemqRefIdeal)
    ∧ quiescent_LossBwd (hLossBwd := hLossBwd)
    ∧ quiescent_LossBwdIdeal (hLossBwdIdeal := hLossBwdIdeal)
    ∧ quiescent_LossRefIdeal (hLossRefIdeal := hLossRefIdeal)
    ∧ quiescent_MlpupBwd (hMlpupBwd := hMlpupBwd)
    ∧ quiescent_MlpupBwdIdeal (hMlpupBwdIdeal := hMlpupBwdIdeal)
    ∧ quiescent_MlpupRefIdeal (hMlpupRefIdeal := hMlpupRefIdeal)
    ∧ quiescent_MixBwd (hMixBwd := hMixBwd)
    ∧ quiescent_MixBwdIdeal (hMixBwdIdeal := hMixBwdIdeal)
    ∧ quiescent_MixRefIdeal (hMixRefIdeal := hMixRefIdeal)
    ∧ quiescent_PrepBwd (hPrepBwd := hPrepBwd)
    ∧ quiescent_PrepBwdIdeal (hPrepBwdIdeal := hPrepBwdIdeal)
    ∧ quiescent_PrepRefIdeal (hPrepRefIdeal := hPrepRefIdeal)
    ∧ quiescent_XattnBwd (hXattnBwd := hXattnBwd)
    ∧ quiescent_XattnBwdIdeal (hXattnBwdIdeal := hXattnBwdIdeal)
    ∧ quiescent_XattnBwdIdeal_pre_xattn_finite (hXattnBwdIdeal := hXattnBwdIdeal) (hPre_xattn_finite := hPre_xattn_finite)
    ∧ quiescent_XattnRefIdeal (hXattnRefIdeal := hXattnRefIdeal)
    ∧ quiescent_XattnRefIdeal_pre_xattn_finite (hXattnRefIdeal := hXattnRefIdeal) (hPre_xattn_finite := hPre_xattn_finite)
    ∧ preserves_NormBwd_NormBwdIdeal
    ∧ algebraic_NormBwdIdeal_NormRefIdeal (hNormBwdIdeal := hNormBwdIdeal) (hNormRefIdeal := hNormRefIdeal)
    ∧ preserves_ConvBwd_ConvBwdIdeal
    ∧ algebraic_ConvBwdIdeal_ConvRefIdeal (hConvBwdIdeal := hConvBwdIdeal) (hConvRefIdeal := hConvRefIdeal)
    ∧ preserves_ReluBwd_ReluBwdIdeal
    ∧ algebraic_ReluBwdIdeal_ReluRefIdeal (hReluBwdIdeal := hReluBwdIdeal) (hReluRefIdeal := hReluRefIdeal)
    ∧ preserves_AttnBwd_AttnBwdIdeal
    ∧ algebraic_AttnBwdIdeal_AttnRefIdeal_pre_finite (hAttnBwdIdeal := hAttnBwdIdeal) (hAttnRefIdeal := hAttnRefIdeal) (hPre_finite := hPre_finite)
    ∧ preserves_QropeBwd_QropeBwdIdeal
    ∧ algebraic_QropeBwdIdeal_QropeRefIdeal (hQropeBwdIdeal := hQropeBwdIdeal) (hQropeRefIdeal := hQropeRefIdeal)
    ∧ preserves_MemqBwd_MemqBwdIdeal
    ∧ algebraic_MemqBwdIdeal_MemqRefIdeal (hMemqBwdIdeal := hMemqBwdIdeal) (hMemqRefIdeal := hMemqRefIdeal)
    ∧ preserves_LossBwd_LossBwdIdeal
    ∧ algebraic_LossBwdIdeal_LossRefIdeal (hLossBwdIdeal := hLossBwdIdeal) (hLossRefIdeal := hLossRefIdeal)
    ∧ preserves_MlpupBwd_MlpupBwdIdeal
    ∧ algebraic_MlpupBwdIdeal_MlpupRefIdeal (hMlpupBwdIdeal := hMlpupBwdIdeal) (hMlpupRefIdeal := hMlpupRefIdeal)
    ∧ preserves_MixBwd_MixBwdIdeal
    ∧ algebraic_MixBwdIdeal_MixRefIdeal (hMixBwdIdeal := hMixBwdIdeal) (hMixRefIdeal := hMixRefIdeal)
    ∧ preserves_PrepBwd_PrepBwdIdeal
    ∧ algebraic_PrepBwdIdeal_PrepRefIdeal (hPrepBwdIdeal := hPrepBwdIdeal) (hPrepRefIdeal := hPrepRefIdeal)
    ∧ preserves_XattnBwd_XattnBwdIdeal
    ∧ algebraic_XattnBwdIdeal_XattnRefIdeal_pre_xattn_finite (hXattnBwdIdeal := hXattnBwdIdeal) (hXattnRefIdeal := hXattnRefIdeal) (hPre_xattn_finite := hPre_xattn_finite)
-- ==== Pre_finite.lean ====
abbrev S8192x8x96 : Shape := ⟨3, ![8192, 8, 96]⟩
abbrev S8192x8x64 : Shape := ⟨3, ![8192, 8, 64]⟩
abbrev S8192x512 : Shape := ⟨2, ![8192, 512]⟩
abbrev S_ : Shape := ⟨0, ![]⟩

class Facts : Prop where
  bcast_S_S8192x8x96 : S_.BroadcastsInDim S8192x8x96 (![] : Fin 0 → Fin S8192x8x96.rank)
  bcast_S_S8192x8x64 : S_.BroadcastsInDim S8192x8x64 (![] : Fin 0 → Fin S8192x8x64.rank)
  bcast_S_S8192x512 : S_.BroadcastsInDim S8192x512 (![] : Fin 0 → Fin S8192x512.rank)

variable [Facts]

def fn {F : FTy → Type} [FloatOps F] (main_arg0 : FVec F S8192x8x96 .f32) (main_arg1 : FVec F S8192x8x96 .f32) (main_arg2 : FVec F S8192x8x64 .f32) (main_arg3 : FVec F S8192x512 .f32) : IVec S8192x8x96 1 × IVec S8192x8x96 1 × IVec S8192x8x64 1 × IVec S8192x512 1 :=
  let main_v0 : FVec F S8192x8x96 .f32 := Host.absf main_arg0
  let main_cst : FVec F S_ .f32 := constant S_ .f32 0x7F800000#32
  let main_v1 : FVec F S8192x8x96 .f32 := broadcastInDim S8192x8x96 ![] bcast_S_S8192x8x96 main_cst
  let main_v2 : IVec S8192x8x96 1 := cmpf .olt main_v0 main_v1
  let main_v3 : FVec F S8192x8x96 .f32 := Host.absf main_arg1
  let main_cst_0 : FVec F S_ .f32 := constant S_ .f32 0x7F800000#32
  let main_v4 : FVec F S8192x8x96 .f32 := broadcastInDim S8192x8x96 ![] bcast_S_S8192x8x96 main_cst_0
  let main_v5 : IVec S8192x8x96 1 := cmpf .olt main_v3 main_v4
  let main_v6 : FVec F S8192x8x64 .f32 := Host.absf main_arg2
  let main_cst_1 : FVec F S_ .f32 := constant S_ .f32 0x7F800000#32
  let main_v7 : FVec F S8192x8x64 .f32 := broadcastInDim S8192x8x64 ![] bcast_S_S8192x8x64 main_cst_1
  let main_v8 : IVec S8192x8x64 1 := cmpf .olt main_v6 main_v7
  let main_v9 : FVec F S8192x512 .f32 := Host.absf main_arg3
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  (main_v2, main_v5, main_v8, main_v11)
-- ==== Pre_xattn_finite.lean ====
abbrev S8192x1024 : Shape := ⟨2, ![8192, 1024]⟩
abbrev S256x1024 : Shape := ⟨2, ![256, 1024]⟩
abbrev S_ : Shape := ⟨0, ![]⟩

class Facts : Prop where
  bcast_S_S8192x1024 : S_.BroadcastsInDim S8192x1024 (![] : Fin 0 → Fin S8192x1024.rank)
  bcast_S_S256x1024 : S_.BroadcastsInDim S256x1024 (![] : Fin 0 → Fin S256x1024.rank)

variable [Facts]

def fn {F : FTy → Type} [FloatOps F] (main_arg0 : FVec F S8192x1024 .f32) (main_arg1 : FVec F S256x1024 .f32) (main_arg2 : FVec F S256x1024 .f32) (main_arg3 : FVec F S8192x1024 .f32) : IVec S8192x1024 1 × IVec S256x1024 1 × IVec S256x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S256x1024 .f32 := Host.absf main_arg1
  let main_cst_0 : FVec F S_ .f32 := constant S_ .f32 0x7F800000#32
  let main_v4 : FVec F S256x1024 .f32 := broadcastInDim S256x1024 ![] bcast_S_S256x1024 main_cst_0
  let main_v5 : IVec S256x1024 1 := cmpf .olt main_v3 main_v4
  let main_v6 : FVec F S256x1024 .f32 := Host.absf main_arg2
  let main_cst_1 : FVec F S_ .f32 := constant S_ .f32 0x7F800000#32
  let main_v7 : FVec F S256x1024 .f32 := broadcastInDim S256x1024 ![] bcast_S_S256x1024 main_cst_1
  let main_v8 : IVec S256x1024 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  (main_v2, main_v5, main_v8, main_v11)
-- ==== NormBwd.lean ====
abbrev S256x1024 : Shape := ⟨2, ![256, 1024]⟩
abbrev S1024 : Shape := ⟨1, ![1024]⟩
abbrev S1x1024 : Shape := ⟨2, ![1, 1024]⟩
abbrev S256 : Shape := ⟨1, ![256]⟩
abbrev S256x1 : Shape := ⟨2, ![256, 1]⟩

abbrev nBuf : Space → Nat
  | .hbm => 7
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x1024, .f32⟩
  | .hbm, ⟨3, _⟩ => ⟨S1x1024, .f32⟩
  | .hbm, ⟨4, _⟩ => ⟨S256x1024, .f32⟩
  | .hbm, ⟨5, _⟩ => ⟨S1x1024, .f32⟩
  | .hbm, ⟨6, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== NormRefIdeal.lean ====
abbrev S256x1024 : Shape := ⟨2, ![256, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x1024, .f32⟩
  | .hbm, ⟨19, _⟩ => ⟨S256x1024, .f32⟩
  | .hbm, ⟨20, _⟩ => ⟨S1x1024, .f32⟩
  | .hbm, ⟨21, _⟩ => ⟨S256x1024, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S1024, .f32⟩
  | .hbm, ⟨31, _⟩ => ⟨S256x1024, .f32⟩
  | .hbm, ⟨32, _⟩ => ⟨S_, .f32⟩
  | .hbm, ⟨33, _⟩ => ⟨S256, .f32⟩
  | .hbm, ⟨34, _⟩ => ⟨S256x1, .f32⟩
  | .hbm, ⟨35, _⟩ => ⟨S256x1024, .f32⟩
  | .hbm, ⟨36, _⟩ => ⟨S256x1024, .f32⟩
  | .hbm, ⟨37, _⟩ => ⟨S256x1, .f32⟩
  | .hbm, ⟨38, _⟩ => ⟨S_, .f32⟩
  | .hbm, ⟨39, _⟩ => ⟨S256x1, .f32⟩
  | .hbm, ⟨40, _⟩ => ⟨S256x1, .f32⟩
  | .hbm, ⟨41, _⟩ => ⟨S_, .f32⟩
  | .hbm, ⟨42, _⟩ => ⟨S256, .f32⟩
  | .hbm, ⟨43, _⟩ => ⟨S256x1024, .f32⟩
  | .hbm, ⟨44, _⟩ => ⟨S256x1024, .f32⟩
  | .hbm, ⟨45, _⟩ => ⟨S256x1024, .f32⟩
  | .hbm, ⟨46, _⟩ => ⟨S256x1024, .f32⟩
  | .hbm, ⟨47, _⟩ => ⟨S256x1024, .f32⟩
  | .hbm, ⟨48, _⟩ => ⟨S256x1024, .bf16⟩
  | .hbm, ⟨49, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== ConvBwd.lean ====
abbrev S8192x512 : Shape := ⟨2, ![8192, 512]⟩
abbrev S4x512 : Shape := ⟨2, ![4, 512]⟩
abbrev S512 : Shape := ⟨1, ![512]⟩
abbrev S8192x256 : Shape := ⟨2, ![8192, 256]⟩
abbrev S4x256 : Shape := ⟨2, ![4, 256]⟩
abbrev S256 : Shape := ⟨1, ![256]⟩
abbrev S8192x768 : Shape := ⟨2, ![8192, 768]⟩
abbrev S4x768 : Shape := ⟨2, ![4, 768]⟩
abbrev S_ : Shape := ⟨0, ![]⟩
abbrev S8x768 : Shape := ⟨2, ![8, 768]⟩
abbrev S1x768 : Shape := ⟨2, ![1, 768]⟩
abbrev S512x768 : Shape := ⟨2, ![512, 768]⟩
abbrev S512x512 : Shape := ⟨2, ![512, 512]⟩
abbrev S8x512 : Shape := ⟨2, ![8, 512]⟩
abbrev S512x256 : Shape := ⟨2, ![512, 256]⟩
abbrev S8x256 : Shape := ⟨2, ![8, 256]⟩
abbrev S520x768 : Shape := ⟨2, ![520, 768]⟩
abbrev S768 : Shape := ⟨1, ![768]⟩

abbrev nBuf : Space → Nat
  | .hbm => 16
  | .vmem => 19
  | .smem => 0
  | _ => 0

abbrev bufTy : (tb : Table) → Fin (tcTables nBuf tb) → BufTy
  | .hbm, ⟨0, _⟩ => ⟨S8192x512, .f32⟩
  | .hbm, ⟨1, _⟩ => ⟨S4x512, .f32⟩
  | .hbm, ⟨2, _⟩ => ⟨S512, .f32⟩
  | .hbm, ⟨3, _⟩ => ⟨S8192x256, .f32⟩
  | .hbm, ⟨4, _⟩ => ⟨S4x256, .f32⟩
  | .hbm, ⟨5, _⟩ => ⟨S256, .f32⟩
  | .hbm, ⟨6, _⟩ => ⟨S8192x512, .f32⟩
  | .hbm, ⟨7, _⟩ => ⟨S8192x256, .f32⟩
  | .hbm, ⟨8, _⟩ => ⟨S8192x768, .f32⟩
  | .hbm, ⟨9, _⟩ => ⟨S4x768, .f32⟩
  | .hbm, ⟨10, _⟩ => ⟨S_, .i32⟩
  | .hbm, ⟨11, _⟩ => ⟨S_, .f32⟩
  | .hbm, ⟨12, _⟩ => ⟨S8x768, .f32⟩
  | .hbm, ⟨13, _⟩ => ⟨S8192x768, .f32⟩
  | .hbm, ⟨14, _⟩ => ⟨S8x768, .f32⟩
  | .hbm, ⟨15, _⟩ => ⟨S1x768, .f32⟩
  | .local _ .vmem, ⟨0, _⟩ => ⟨S512x768, .f32⟩
  | .local _ .vmem, ⟨1, _⟩ => ⟨S512x768, .f32⟩
  | .local _ .vmem, ⟨2, _⟩ => ⟨S8x768, .f32⟩
  | .local _ .vmem, ⟨3, _⟩ => ⟨S8x768, .f32⟩
  | .local _ .vmem, ⟨4, _⟩ => ⟨S512x512, .f32⟩
  | .local _ .vmem, ⟨5, _⟩ => ⟨S512x512, .f32⟩
  | .local _ .vmem, ⟨6, _⟩ => ⟨S8x512, .f32⟩
  | .local _ .vmem, ⟨7, _⟩ => ⟨S8x512, .f32⟩
  | .local _ .vmem, ⟨8, _⟩ => ⟨S512x256, .f32⟩
  | .local _ .vmem, ⟨9, _⟩ => ⟨S512x256, .f32⟩
  | .local _ .vmem, ⟨10, _⟩ => ⟨S8x256, .f32⟩
  | .local _ .vmem, ⟨11, _⟩ => ⟨S8x256, .f32⟩
  | .local _ .vmem, ⟨12, _⟩ => ⟨S8x768, .f32⟩
  | .local _ .vmem, ⟨13, _⟩ => ⟨S512x768, .f32⟩
  | .local _ .vmem, ⟨14, _⟩ => ⟨S512x768, .f32⟩
  | .local _ .vmem, ⟨15, _⟩ => ⟨S8x768, .f32⟩
  | .local _ .vmem, ⟨16, _⟩ => ⟨S1x768, .f32⟩
  | .local _ .vmem, ⟨17, _⟩ => ⟨S520x768, .f32⟩
  | .local _ .vmem, ⟨18, _⟩ => ⟨S520x768, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ConvRefIdeal.lean ====
abbrev S8192x512 : Shape := ⟨2, ![8192, 512]⟩
abbrev S4x512 : Shape := ⟨2, ![4, 512]⟩
abbrev S512 : Shape := ⟨1, ![512]⟩
abbrev S8192x256 : Shape := ⟨2, ![8192, 256]⟩
abbrev S4x256 : Shape := ⟨2, ![4, 256]⟩
abbrev S256 : Shape := ⟨1, ![256]⟩
abbrev S_ : Shape := ⟨0, ![]⟩
abbrev S3x512 : Shape := ⟨2, ![3, 512]⟩
abbrev S8195x512 : Shape := ⟨2, ![8195, 512]⟩
abbrev S1x512 : Shape := ⟨2, ![1, 512]⟩
abbrev S3x256 : Shape := ⟨2, ![3, 256]⟩
abbrev S8195x256 : Shape := ⟨2, ![8195, 256]⟩
abbrev S1x256 : Shape := ⟨2, ![1, 256]⟩
abbrev S4x768 : Shape := ⟨2, ![4, 768]⟩
abbrev S8192x768 : Shape := ⟨2, ![8192, 768]⟩
abbrev S8x768 : Shape := ⟨2, ![8, 768]⟩
abbrev S768 : Shape := ⟨1, ![768]⟩
abbrev S1x768 : Shape := ⟨2, ![1, 768]⟩

abbrev nBuf : Space → Nat
  | .hbm => 219
  | .vmem => 0
  | .smem => 0
  | _ => 0

abbrev hbmTy0_0 (i : Nat) : BufTy := match i % 128 with
  | 0 => ⟨S8192x512, .f32⟩
  | 1 => ⟨S4x512, .f32⟩
  | 2 => ⟨S512, .f32⟩
  | 3 => ⟨S8192x256, .f32⟩
  | 4 => ⟨S4x256, .f32⟩
  | 5 => ⟨S256, .f32⟩
  | 6 => ⟨S8192x512, .f32⟩
  | 7 => ⟨S8192x256, .f32⟩
  | 8 => ⟨S_, .f32⟩
  | 9 => ⟨S3x512, .f32⟩
  | 10 => ⟨S8195x512, .f32⟩
  | 11 => ⟨S_, .f32⟩
  | 12 => ⟨S3x512, .f32⟩
  | 13 => ⟨S8192x512, .f32⟩
  | 14 => ⟨S1x512, .f32⟩
  | 15 => ⟨S512, .f32⟩
  | 16 => ⟨S1x512, .f32⟩
  | 17 => ⟨S8192x512, .f32⟩
  | 18 => ⟨S8192x512, .f32⟩
  | 19 => ⟨S1x512, .f32⟩
  | 20 => ⟨S8192x512, .f32⟩
  | 21 => ⟨S8192x512, .f32⟩
  | 22 => ⟨S8192x512, .f32⟩
  | 23 => ⟨S1x512, .f32⟩
  | 24 => ⟨S512, .f32⟩
  | 25 => ⟨S1x512, .f32⟩
  | 26 => ⟨S8192x512, .f32⟩
  | 27 => ⟨S8192x512, .f32⟩
  | 28 => ⟨S8192x512, .f32⟩
  | 29 => ⟨S8192x512, .f32⟩
  | 30 => ⟨S1x512, .f32⟩
  | 31 => ⟨S512, .f32⟩
  | 32 => ⟨S1x512, .f32⟩
  | 33 => ⟨S8192x512, .f32⟩
  | 34 => ⟨S8192x512, .f32⟩
  | 35 => ⟨S8192x512, .f32⟩
  | 36 => ⟨S8192x512, .f32⟩
  | 37 => ⟨S1x512, .f32⟩
  | 38 => ⟨S512, .f32⟩
  | 39 => ⟨S1x512, .f32⟩
  | 40 => ⟨S8192x512, .f32⟩
  | 41 => ⟨S8192x512, .f32⟩
  | 42 => ⟨S8192x512, .f32⟩
  | 43 => ⟨S8192x512, .f32⟩
  | 44 => ⟨S8192x512, .f32⟩
  | 45 => ⟨S8192x512, .f32⟩
  | 46 => ⟨S_, .f32⟩
  | 47 => ⟨S512, .f32⟩
  | 48 => ⟨S1x512, .f32⟩
  | 49 => ⟨S8192x512, .f32⟩
  | 50 => ⟨S8192x512, .f32⟩
  | 51 => ⟨S_, .f32⟩
  | 52 => ⟨S512, .f32⟩
  | 53 => ⟨S1x512, .f32⟩
  | 54 => ⟨S_, .f32⟩
  | 55 => ⟨S4x512, .f32⟩
  | 56 => ⟨S_, .f32⟩
  | 57 => ⟨S8195x512, .f32⟩
  | 58 => ⟨S8192x512, .f32⟩
  | 59 => ⟨S_, .f32⟩
  | 60 => ⟨S512, .f32⟩
  | 61 => ⟨S1x512, .f32⟩
  | 62 => ⟨S8192x512, .f32⟩
  | 63 => ⟨S8192x512, .f32⟩
  | 64 => ⟨S_, .f32⟩
  | 65 => ⟨S512, .f32⟩
  | 66 => ⟨S1x512, .f32⟩
  | 67 => ⟨S_, .f32⟩
  | 68 => ⟨S4x512, .f32⟩
  | 69 => ⟨S4x512, .f32⟩
  | 70 => ⟨S_, .f32⟩
  | 71 => ⟨S8195x512, .f32⟩
  | 72 => ⟨S8195x512, .f32⟩
  | 73 => ⟨S8192x512, .f32⟩
  | 74 => ⟨S_, .f32⟩
  | 75 => ⟨S512, .f32⟩
  | 76 => ⟨S1x512, .f32⟩
  | 77 => ⟨S8192x512, .f32⟩
  | 78 => ⟨S8192x512, .f32⟩
  | 79 => ⟨S_, .f32⟩
  | 80 => ⟨S512, .f32⟩
  | 81 => ⟨S1x512, .f32⟩
  | 82 => ⟨S_, .f32⟩
  | 83 => ⟨S4x512, .f32⟩
  | 84 => ⟨S4x512, .f32⟩
  | 85 => ⟨S_, .f32⟩
  | 86 => ⟨S8195x512, .f32⟩
  | 87 => ⟨S8195x512, .f32⟩
  | 88 => ⟨S_, .f32⟩
  | 89 => ⟨S512, .f32⟩
  | 90 => ⟨S1x512, .f32⟩
  | 91 => ⟨S_, .f32⟩
  | 92 => ⟨S512, .f32⟩
  | 93 => ⟨S8192x512, .f32⟩
  | 94 => ⟨S_, .f32⟩
  | 95 => ⟨S512, .f32⟩
  | 96 => ⟨S1x512, .f32⟩
  | 97 => ⟨S8192x512, .f32⟩
  | 98 => ⟨S8192x512, .f32⟩
  | 99 => ⟨S_, .f32⟩
  | 100 => ⟨S512, .f32⟩
  | 101 => ⟨S1x512, .f32⟩
  | 102 => ⟨S_, .f32⟩
  | 103 => ⟨S4x512, .f32⟩
  | 104 => ⟨S4x512, .f32⟩
  | 105 => ⟨S_, .f32⟩
  | 106 => ⟨S8195x512, .f32⟩
  | 107 => ⟨S8195x512, .f32⟩
  | 108 => ⟨S3x512, .f32⟩
  | 109 => ⟨S8192x512, .f32⟩
  | 110 => ⟨S_, .f32⟩
  | 111 => ⟨S3x256, .f32⟩
  | 112 => ⟨S8195x256, .f32⟩
  | 113 => ⟨S_, .f32⟩
  | 114 => ⟨S3x256, .f32⟩
  | 115 => ⟨S8192x256, .f32⟩
  | 116 => ⟨S1x256, .f32⟩
  | 117 => ⟨S256, .f32⟩
  | 118 => ⟨S1x256, .f32⟩
  | 119 => ⟨S8192x256, .f32⟩
  | 120 => ⟨S8192x256, .f32⟩
  | 121 => ⟨S1x256, .f32⟩
  | 122 => ⟨S8192x256, .f32⟩
  | 123 => ⟨S8192x256, .f32⟩
  | 124 => ⟨S8192x256, .f32⟩
  | 125 => ⟨S1x256, .f32⟩
  | 126 => ⟨S256, .f32⟩
  | 127 => ⟨S1x256, .f32⟩
  | _ => ⟨S8192x512, .f32⟩

abbrev hbmTy0_1 (i : Nat) : BufTy := match i % 128 with
  | 0 => ⟨S8192x256, .f32⟩
  | 1 => ⟨S8192x256, .f32⟩
  | 2 => ⟨S8192x256, .f32⟩
  | 3 => ⟨S8192x256, .f32⟩
  | 4 => ⟨S1x256, .f32⟩
  | 5 => ⟨S256, .f32⟩
  | 6 => ⟨S1x256, .f32⟩
  | 7 => ⟨S8192x256, .f32⟩
  | 8 => ⟨S8192x256, .f32⟩
  | 9 => ⟨S8192x256, .f32⟩
  | 10 => ⟨S8192x256, .f32⟩
  | 11 => ⟨S1x256, .f32⟩
  | 12 => ⟨S256, .f32⟩
  | 13 => ⟨S1x256, .f32⟩
  | 14 => ⟨S8192x256, .f32⟩
  | 15 => ⟨S8192x256, .f32⟩
  | 16 => ⟨S8192x256, .f32⟩
  | 17 => ⟨S8192x256, .f32⟩
  | 18 => ⟨S8192x256, .f32⟩
  | 19 => ⟨S8192x256, .f32⟩
  | 20 => ⟨S_, .f32⟩
  | 21 => ⟨S256, .f32⟩
  | 22 => ⟨S1x256, .f32⟩
  | 23 => ⟨S8192x256, .f32⟩
  | 24 => ⟨S8192x256, .f32⟩
  | 25 => ⟨S_, .f32⟩
  | 26 => ⟨S256, .f32⟩
  | 27 => ⟨S1x256, .f32⟩
  | 28 => ⟨S_, .f32⟩
  | 29 => ⟨S4x256, .f32⟩
  | 30 => ⟨S_, .f32⟩
  | 31 => ⟨S8195x256, .f32⟩
  | 32 => ⟨S8192x256, .f32⟩
  | 33 => ⟨S_, .f32⟩
  | 34 => ⟨S256, .f32⟩
  | 35 => ⟨S1x256, .f32⟩
  | 36 => ⟨S8192x256, .f32⟩
  | 37 => ⟨S8192x256, .f32⟩
  | 38 => ⟨S_, .f32⟩
  | 39 => ⟨S256, .f32⟩
  | 40 => ⟨S1x256, .f32⟩
  | 41 => ⟨S_, .f32⟩
  | 42 => ⟨S4x256, .f32⟩
  | 43 => ⟨S4x256, .f32⟩
  | 44 => ⟨S_, .f32⟩
  | 45 => ⟨S8195x256, .f32⟩
  | 46 => ⟨S8195x256, .f32⟩
  | 47 => ⟨S8192x256, .f32⟩
  | 48 => ⟨S_, .f32⟩
  | 49 => ⟨S256, .f32⟩
  | 50 => ⟨S1x256, .f32⟩
  | 51 => ⟨S8192x256, .f32⟩
  | 52 => ⟨S8192x256, .f32⟩
  | 53 => ⟨S_, .f32⟩
  | 54 => ⟨S256, .f32⟩
  | 55 => ⟨S1x256, .f32⟩
  | 56 => ⟨S_, .f32⟩
  | 57 => ⟨S4x256, .f32⟩
  | 58 => ⟨S4x256, .f32⟩
  | 59 => ⟨S_, .f32⟩
  | 60 => ⟨S8195x256, .f32⟩
  | 61 => ⟨S8195x256, .f32⟩
  | 62 => ⟨S_, .f32⟩
  | 63 => ⟨S256, .f32⟩
  | 64 => ⟨S1x256, .f32⟩
  | 65 => ⟨S_, .f32⟩
  | 66 => ⟨S256, .f32⟩
  | 67 => ⟨S8192x256, .f32⟩
  | 68 => ⟨S_, .f32⟩
  | 69 => ⟨S256, .f32⟩
  | 70 => ⟨S1x256, .f32⟩
  | 71 => ⟨S8192x256, .f32⟩
  | 72 => ⟨S8192x256, .f32⟩
  | 73 => ⟨S_, .f32⟩
  | 74 => ⟨S256, .f32⟩
  | 75 => ⟨S1x256, .f32⟩
  | 76 => ⟨S_, .f32⟩
  | 77 => ⟨S4x256, .f32⟩
  | 78 => ⟨S4x256, .f32⟩
  | 79 => ⟨S_, .f32⟩
  | 80 => ⟨S8195x256, .f32⟩
  | 81 => ⟨S8195x256, .f32⟩
  | 82 => ⟨S3x256, .f32⟩
  | 83 => ⟨S8192x256, .f32⟩
  | 84 => ⟨S4x768, .f32⟩
  | 85 => ⟨S8192x768, .f32⟩
  | 86 => ⟨S_, .f32⟩
  | 87 => ⟨S4x768, .f32⟩
  | 88 => ⟨S8x768, .f32⟩
  | 89 => ⟨S768, .f32⟩
  | 90 => ⟨S1x768, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_1 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_2 : Ref sig .tc := ⟨.hbm, 51, rfl⟩
abbrev main_v40 : Ref sig .tc := ⟨.hbm, 52, rfl⟩
abbrev main_v41 : Ref sig .tc := ⟨.hbm, 53, rfl⟩
abbrev main_cst_3 : Ref sig .tc := ⟨.hbm, 54, rfl⟩
abbrev main_v42 : Ref sig .tc := ⟨.hbm, 55, rfl⟩
abbrev main_cst_4 : Ref sig .tc := ⟨.hbm, 56, rfl⟩
abbrev main_v43 : Ref sig .tc := ⟨.hbm, 57, rfl⟩
abbrev main_v44 : Ref sig .tc := ⟨.hbm, 58, rfl⟩
abbrev main_cst_5 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_6 : Ref sig .tc := ⟨.hbm, 64, rfl⟩
abbrev main_v49 : Ref sig .tc := ⟨.hbm, 65, rfl⟩
abbrev main_v50 : Ref sig .tc := ⟨.hbm, 66, rfl⟩
abbrev main_cst_7 : Ref sig .tc := ⟨.hbm, 67, rfl⟩
abbrev main_v51 : Ref sig .tc := ⟨.hbm, 68, rfl⟩
abbrev main_v52 : Ref sig .tc := ⟨.hbm, 69, rfl⟩
abbrev main_cst_8 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_9 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_10 : Ref sig .tc := ⟨.hbm, 79, rfl⟩
abbrev main_v60 : Ref sig .tc := ⟨.hbm, 80, rfl⟩
abbrev main_v61 : Ref sig .tc := ⟨.hbm, 81, rfl⟩
abbrev main_cst_11 : Ref sig .tc := ⟨.hbm, 82, rfl⟩
abbrev main_v62 : Ref sig .tc := ⟨.hbm, 83, rfl⟩
abbrev main_v63 : Ref sig .tc := ⟨.hbm, 84, rfl⟩
abbrev main_cst_12 : Ref sig .tc := ⟨.hbm, 85, rfl⟩
abbrev main_v64 : Ref sig .tc := ⟨.hbm, 86, rfl⟩
abbrev main_v65 : Ref sig .tc := ⟨.hbm, 87, rfl⟩
abbrev main_cst_13 : Ref sig .tc := ⟨.hbm, 88, rfl⟩
abbrev main_v66 : Ref sig .tc := ⟨.hbm, 89, rfl⟩
abbrev main_v67 : Ref sig .tc := ⟨.hbm, 90, rfl⟩
abbrev main_cst_14 : Ref sig .tc := ⟨.hbm, 91, rfl⟩
abbrev main_v68 : Ref sig .tc := ⟨.hbm, 92, rfl⟩
abbrev main_v69 : Ref sig .tc := ⟨.hbm, 93, rfl⟩
abbrev main_cst_15 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_16 : Ref sig .tc := ⟨.hbm, 99, rfl⟩
abbrev main_v74 : Ref sig .tc := ⟨.hbm, 100, rfl⟩
abbrev main_v75 : Ref sig .tc := ⟨.hbm, 101, rfl⟩
abbrev main_cst_17 : Ref sig .tc := ⟨.hbm, 102, rfl⟩
abbrev main_v76 : Ref sig .tc := ⟨.hbm, 103, rfl⟩
abbrev main_v77 : Ref sig .tc := ⟨.hbm, 104, rfl⟩
abbrev main_cst_18 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_19 : Ref sig .tc := ⟨.hbm, 110, rfl⟩
abbrev main_v82 : Ref sig .tc := ⟨.hbm, 111, rfl⟩
abbrev main_v83 : Ref sig .tc := ⟨.hbm, 112, rfl⟩
abbrev main_cst_20 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_cst_21 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_cst_22 : Ref sig .tc := ⟨.hbm, 153, rfl⟩
abbrev main_v122 : Ref sig .tc := ⟨.hbm, 154, rfl⟩
abbrev main_v123 : Ref sig .tc := ⟨.hbm, 155, rfl⟩
abbrev main_cst_23 : Ref sig .tc := ⟨.hbm, 156, rfl⟩
abbrev main_v124 : Ref sig .tc := ⟨.hbm, 157, rfl⟩
abbrev main_cst_24 : Ref sig .tc := ⟨.hbm, 158, rfl⟩
abbrev main_v125 : Ref sig .tc := ⟨.hbm, 159, rfl⟩
abbrev main_v126 : Ref sig .tc := ⟨.hbm, 160, rfl⟩
abbrev main_cst_25 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_cst_26 : Ref sig .tc := ⟨.hbm, 166, rfl⟩
abbrev main_v131 : Ref sig .tc := ⟨.hbm, 167, rfl⟩
abbrev main_v132 : Ref sig .tc := ⟨.hbm, 168, rfl⟩
abbrev main_cst_27 : Ref sig .tc := ⟨.hbm, 169, rfl⟩
abbrev main_v133 : Ref sig .tc := ⟨.hbm, 170, rfl⟩
abbrev main_v134 : Ref sig .tc := ⟨.hbm, 171, rfl⟩
abbrev main_cst_28 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_cst_29 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_cst_30 : Ref sig .tc := ⟨.hbm, 181, rfl⟩
abbrev main_v142 : Ref sig .tc := ⟨.hbm, 182, rfl⟩
abbrev main_v143 : Ref sig .tc := ⟨.hbm, 183, rfl⟩
abbrev main_cst_31 : Ref sig .tc := ⟨.hbm, 184, rfl⟩
abbrev main_v144 : Ref sig .tc := ⟨.hbm, 185, rfl⟩
abbrev main_v145 : Ref sig .tc := ⟨.hbm, 186, rfl⟩
abbrev main_cst_32 : Ref sig .tc := ⟨.hbm, 187, rfl⟩
abbrev main_v146 : Ref sig .tc := ⟨.hbm, 188, rfl⟩
abbrev main_v147 : Ref sig .tc := ⟨.hbm, 189, rfl⟩
abbrev main_cst_33 : Ref sig .tc := ⟨.hbm, 190, rfl⟩
abbrev main_v148 : Ref sig .tc := ⟨.hbm, 191, rfl⟩
abbrev main_v149 : Ref sig .tc := ⟨.hbm, 192, rfl⟩
abbrev main_cst_34 : Ref sig .tc := ⟨.hbm, 193, rfl⟩
abbrev main_v150 : Ref sig .tc := ⟨.hbm, 194, rfl⟩
abbrev main_v151 : Ref sig .tc := ⟨.hbm, 195, rfl⟩
abbrev main_cst_35 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_cst_36 : Ref sig .tc := ⟨.hbm, 201, rfl⟩
abbrev main_v156 : Ref sig .tc := ⟨.hbm, 202, rfl⟩
abbrev main_v157 : Ref sig .tc := ⟨.hbm, 203, rfl⟩
abbrev main_cst_37 : Ref sig .tc := ⟨.hbm, 204, rfl⟩
abbrev main_v158 : Ref sig .tc := ⟨.hbm, 205, rfl⟩
abbrev main_v159 : Ref sig .tc := ⟨.hbm, 206, rfl⟩
abbrev main_cst_38 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_cst_39 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩

abbrev nD : Nat := 1
abbrev τ : Topo := Topo.v7x

variable {F : FTy → Type} [FloatOps F]
-- ==== ReluBwd.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S1024x1024 : Shape := ⟨2, ![1024, 1024]⟩

abbrev nBuf : Space → Nat
  | .hbm => 12
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096x1024, .f32⟩
  | .hbm, ⟨3, _⟩ => ⟨S8192x1024, .f32⟩
  | .hbm, ⟨4, _⟩ => ⟨S8192x1024, .bf16⟩
  | .hbm, ⟨5, _⟩ => ⟨S4096x1024, .f32⟩
  | .hbm, ⟨6, _⟩ => ⟨S4096x1024, .bf16⟩
  | .hbm, ⟨7, _⟩ => ⟨S8192x4096, .bf16⟩
  | .hbm, ⟨8, _⟩ => ⟨S8192x4096, .bf16⟩
  | .hbm, ⟨9, _⟩ => ⟨S8192x1024, .bf16⟩
  | .hbm, ⟨10, _⟩ => ⟨S4096x1024, .bf16⟩
  | .hbm, ⟨11, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![8, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]
-- ==== ReluRefIdeal.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096x1024, .f32⟩
  | .hbm, ⟨3, _⟩ => ⟨S8192x1024, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .i1⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x1024, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== AttnBwd.lean ====
abbrev S8192x8x96 : Shape := ⟨3, ![8192, 8, 96]⟩
abbrev S8192x8x64 : Shape := ⟨3, ![8192, 8, 64]⟩
abbrev S8192x512 : Shape := ⟨2, ![8192, 512]⟩
abbrev S_ : Shape := ⟨0, ![]⟩
abbrev S8192x8x128 : Shape := ⟨3, ![8192, 8, 128]⟩
abbrev S8192x1024 : Shape := ⟨2, ![8192, 1024]⟩
abbrev S8192x8x256 : Shape := ⟨3, ![8192, 8, 256]⟩
abbrev S8192x2048 : Shape := ⟨2, ![8192, 2048]⟩
abbrev S8x8192x8192 : Shape := ⟨3, ![8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x64x8192 : Shape := ⟨3, ![8, 64, 8192]⟩
abbrev S8x16x1x512 : Shape := ⟨4, ![8, 16, 1, 512]⟩
abbrev S8x16x8x512 : Shape := ⟨4, ![8, 16, 8, 512]⟩
abbrev S8192x8 : Shape := ⟨2, ![8192, 8]⟩
abbrev S8x16x128x512 : Shape := ⟨4, ![8, 16, 128, 512]⟩
abbrev S8192x128 : Shape := ⟨2, ![8192, 128]⟩
abbrev S512x256 : Shape := ⟨2, ![512, 256]⟩
abbrev S1x16x8x512 : Shape := ⟨4, ![1, 16, 8, 512]⟩
abbrev S1x16x128x512 : Shape := ⟨4, ![1, 16, 128, 512]⟩
abbrev S16x128x512 : Shape := ⟨3, ![16, 128, 512]⟩
abbrev S512x128 : Shape := ⟨2, ![512, 128]⟩
abbrev S128x512 : Shape := ⟨2, ![128, 512]⟩
abbrev S512x512 : Shape := ⟨2, ![512, 512]⟩
abbrev S1x1x1x512 : Shape := ⟨4, ![1, 1, 1, 512]⟩
abbrev S1x512 : Shape := ⟨2, ![1, 512]⟩
abbrev S1x1x128x512 : Shape := ⟨4, ![1, 1, 128, 512]⟩

abbrev nBuf : Space → Nat
  | .hbm => 78
  | .vmem => 14
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S8192x512, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8192x8x96, .f32⟩
  | .hbm, ⟨10, _⟩ => ⟨S8192x8x96, .f32⟩
  | .hbm, ⟨11, _⟩ => ⟨S_, .i32⟩
  | .hbm, ⟨12, _⟩ => ⟨S_, .f32⟩
  | .hbm, ⟨13, _⟩ => ⟨S8192x8x128, .f32⟩
  | .hbm, ⟨14, _⟩ => ⟨S8192x1024, .f32⟩
  | .hbm, ⟨15, _⟩ => ⟨S8192x1024, .bf16⟩
  | .hbm, ⟨16, _⟩ => ⟨S_, .i32⟩
  | .hbm, ⟨17, _⟩ => ⟨S_, .f32⟩
  | .hbm, ⟨18, _⟩ => ⟨S8192x8x128, .f32⟩
  | .hbm, ⟨19, _⟩ => ⟨S_, .i32⟩
  | .hbm, ⟨20, _⟩ => ⟨S_, .f32⟩
  | .hbm, ⟨21, _⟩ => ⟨S8192x8x128, .f32⟩
  | .hbm, ⟨22, _⟩ => ⟨S8192x8x256, .f32⟩
  | .hbm, ⟨23, _⟩ => ⟨S8192x2048, .f32⟩
  | .hbm, ⟨24, _⟩ => ⟨S8192x2048, .bf16⟩
  | .hbm, ⟨25, _⟩ => ⟨S8x8192x8192, .f32⟩
  | .hbm, ⟨26, _⟩ => ⟨S_, .f32⟩
  | .hbm, ⟨27, _⟩ => ⟨S8x8192x8192, .f32⟩
  | .hbm, ⟨28, _⟩ => ⟨S8x8192x8192, .f32⟩
  | .hbm, ⟨29, _⟩ => ⟨S8192, .i32⟩
  | .hbm, ⟨30, _⟩ => ⟨S1x8192, .i32⟩
  | .hbm, ⟨31, _⟩ => ⟨S8192, .i32⟩
  | .hbm, ⟨32, _⟩ => ⟨S8192x1, .i32⟩
  | .hbm, ⟨33, _⟩ => ⟨S8192x8192, .i32⟩
  | .hbm, ⟨34, _⟩ => ⟨S8192x8192, .i32⟩
  | .hbm, ⟨35, _⟩ => ⟨S8192x8192, .i1⟩
  | .hbm, ⟨36, _⟩ => ⟨S1x8192x8192, .i1⟩
  | .hbm, ⟨37, _⟩ => ⟨S_, .f32⟩
  | .hbm, ⟨38, _⟩ => ⟨S_, .f32⟩
  | .hbm, ⟨39, _⟩ => ⟨S8x8192x8192, .i1⟩
  | .hbm, ⟨40, _⟩ => ⟨S8x8192x8192, .f32⟩
  | .hbm, ⟨41, _⟩ => ⟨S8x8192x8192, .f32⟩
  | .hbm, ⟨42, _⟩ => ⟨S_, .f32⟩
  | .hbm, ⟨43, _⟩ => ⟨S8x8192, .f32⟩
  | .hbm, ⟨44, _⟩ => ⟨S8x8192x1, .f32⟩
  | .hbm, ⟨45, _⟩ => ⟨S8x8192x8192, .f32⟩
  | .hbm, ⟨46, _⟩ => ⟨S8x8192x8192, .f32⟩
  | .hbm, ⟨47, _⟩ => ⟨S8x8192x8192, .f32⟩
  | .hbm, ⟨48, _⟩ => ⟨S_, .f32⟩
  | .hbm, ⟨49, _⟩ => ⟨S8x8192, .f32⟩
  | .hbm, ⟨50, _⟩ => ⟨S8x8192x1, .f32⟩
  | .hbm, ⟨51, _⟩ => ⟨S8x8192x8192, .f32⟩
  | .hbm, ⟨52, _⟩ => ⟨S8x8192x8192, .f32⟩
  | .hbm, ⟨53, _⟩ => ⟨S8x64x8192, .f32⟩
  | .hbm, ⟨54, _⟩ => ⟨S8192x8x64, .f32⟩
  | .hbm, ⟨55, _⟩ => ⟨S8x8192, .f32⟩
  | .hbm, ⟨56, _⟩ => ⟨S8x8192, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S8x8192, .f32⟩
  | .hbm, ⟨61, _⟩ => ⟨S8x8192, .f32⟩
  | .hbm, ⟨62, _⟩ => ⟨S8x16x1x512, .f32⟩
  | .hbm, ⟨63, _⟩ => ⟨S8x16x8x512, .f32⟩
  | .hbm, ⟨64, _⟩ => ⟨S8192x8x64, .f32⟩
  | .hbm, ⟨65, _⟩ => ⟨S8192x8x64, .f32⟩
  | .hbm, ⟨66, _⟩ => ⟨S_, .f32⟩
  | .hbm, ⟨67, _⟩ => ⟨S8192x8, .f32⟩
  | .hbm, ⟨68, _⟩ => ⟨S8x8192, .f32⟩
  | .hbm, ⟨69, _⟩ => ⟨S8x16x1x512, .f32⟩
  | .hbm, ⟨70, _⟩ => ⟨S8x16x8x512, .f32⟩
  | .hbm, ⟨71, _⟩ => ⟨S_, .i32⟩
  | .hbm, ⟨72, _⟩ => ⟨S_, .f32⟩
  | .hbm, ⟨73, _⟩ => ⟨S8192x8x128, .f32⟩
  | .hbm, ⟨74, _⟩ => ⟨S8192x1024, .f32⟩
  | .hbm, ⟨75, _⟩ => ⟨S8192x1024, .bf16⟩
  | .hbm, ⟨76, _⟩ => ⟨S8x16x128x512, .f32⟩
  | .hbm, ⟨77, _⟩ => ⟨S8192x2048, .bf16⟩
  | .local _ .vmem, ⟨0, _⟩ => ⟨S8192x128, .bf16⟩
  | .local _ .vmem, ⟨1, _⟩ => ⟨S8192x128, .bf16⟩
  | .local _ .vmem, ⟨2, _⟩ => ⟨S512x256, .bf16⟩
  | .local _ .vmem, ⟨3, _⟩ => ⟨S512x256, .bf16⟩
  | .local _ .vmem, ⟨4, _⟩ => ⟨S8192x128, .bf16⟩
  | .local _ .vmem, ⟨5, _⟩ => ⟨S8192x128, .bf16⟩
  | .local _ .vmem, ⟨6, _⟩ => ⟨S1x16x8x512, .f32⟩
  | .local _ .vmem, ⟨7, _⟩ => ⟨S1x16x8x512, .f32⟩
  | .local _ .vmem, ⟨8, _⟩ => ⟨S1x16x8x512, .f32⟩
  | .local _ .vmem, ⟨9, _⟩ => ⟨S1x16x8x512, .f32⟩
  | .local _ .vmem, ⟨10, _⟩ => ⟨S1x16x128x512, .f32⟩
  | .local _ .vmem, ⟨11, _⟩ => ⟨S1x16x128x512, .f32⟩
  | .local _ .vmem, ⟨12, _⟩ => ⟨S512x256, .bf16⟩
  | .local _ .vmem, ⟨13, _⟩ => ⟨S512x256, .bf16⟩
  | _, _ => ⟨S8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_call1_v0 : Ref sig .tc := ⟨.hbm, 17, rfl⟩
abbrev main_v8 : Ref sig .tc := ⟨.hbm, 18, rfl⟩
abbrev main_c_2 : Ref sig .tc := ⟨.hbm, 19, rfl⟩
abbrev main_call2_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_call3_v0 : Ref sig .tc := ⟨.hbm, 38, rfl⟩
abbrev main_call3_v1 : Ref sig .tc := ⟨.hbm, 39, rfl⟩
abbrev main_call3_v2 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_8 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_call4_v0 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53_0 : Ref sig .tc := ⟨.hbm, 76, rfl⟩
abbrev main_v53_1 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c512_i32_3 : BitVec 32 := 512#32
  let v15 : BitVec 32 := Scalar.muli arg1 c512_i32_3
  v15
def k0_off1 (i : grid0.Coords) : Fin 2 → Nat :=
  let arg1 : BitVec 32 := BitVec.ofNat 32 (i 1).val
  let c512_i32_3 : BitVec 32 := 512#32
  let v15 : BitVec 32 := Scalar.muli arg1 c512_i32_3
  let v16 : BitVec 32 := v15
  let v17 : Index := Scalar.indexCast v16
  let c0_4 : Index := 0#32
  ![v17.toNat, 0]
def k0_off2 (i : grid0.Coords) : Fin 4 → Nat :=
  let c0_9 : Index := 0#32
  let arg1 : BitVec 32 := BitVec.ofNat 32 (i 1).val
  let v31 : Index := Scalar.indexCast arg1
  let c0_10 : Index := 0#32
  let c0_11 : Index := 0#32
  ![0, v31.toNat, 0, 0]
def k0_off3 (i : grid0.Coords) : Fin 4 → Nat :=
  let c0_19 : Index := 0#32
  let arg1 : BitVec 32 := BitVec.ofNat 32 (i 1).val
  let v52 : Index := Scalar.indexCast arg1
  let c0_20 : Index := 0#32
  let c0_21 : Index := 0#32
  ![0, v52.toNat, 0, 0]
@[reducible] def k0_t1_loop (i : grid0.Coords) : Scf.Loop 32 :=
  let c0_i32_31 : BitVec 32 := 0#32
  let c15_i32 : BitVec 32 := 15#32
  let arg1 : BitVec 32 := BitVec.ofNat 32 (i 1).val
  let v62 : BitVec 32 := Scalar.subi c15_i32 arg1
  let c0_i32_26 : BitVec 32 := 0#32
  let v64 : BitVec 1 := Scalar.cmpi .sgt v62 c0_i32_26
  let v65 : BitVec 32 := Scalar.extui v64
  let c0_i32_27 : BitVec 32 := 0#32
  let v66 : BitVec 1 := Scalar.cmpi .slt v62 c0_i32_27
  let v67 : BitVec 32 := Scalar.extui v66
  let v68 : BitVec 32 := Scalar.subi v65 v67
  let c4_i32 : BitVec 32 := 4#32
  let c0_i32_28 : BitVec 32 := 0#32
  let v69 : BitVec 1 := Scalar.cmpi .sgt c4_i32 c0_i32_28
  let v70 : BitVec 32 := Scalar.extui v69
  let c0_i32_29 : BitVec 32 := 0#32
  let v71 : BitVec 1 := Scalar.cmpi .slt c4_i32 c0_i32_29
  let v72 : BitVec 32 := Scalar.extui v71
  let v73 : BitVec 32 := Scalar.subi v70 v72
  let v74 : BitVec 1 := Scalar.cmpi .ne v68 v73
  let v75 : BitVec 32 := Scalar.remsi v62 c4_i32
  let c0_i32_30 : BitVec 32 := 0#32
  let v76 : BitVec 1 := Scalar.cmpi .ne v75 c0_i32_30
  let v77 : BitVec 1 := Scalar.andi v74 v76
  let v63 : BitVec 32 := Scalar.divsi v62 c4_i32
  let c1_i32 : BitVec 32 := 1#32
  let v78 : BitVec 32 := Scalar.subi v63 c1_i32
  let v79 : BitVec 32 := Scalar.select v77 v78 v63
  let v80 : BitVec 32 := Scalar.subi v79 c0_i32_31
  let c1_i32_32 : BitVec 32 := 1#32
  let v82 : BitVec 32 := Scalar.divsi v80 c1_i32_32
  let v83 : BitVec 32 := Scalar.muli v82 c1_i32_32
  let v84 : BitVec 32 := Scalar.addi c0_i32_31 v83
  let c1_i32_33 : BitVec 32 := 1#32
  ⟨c0_i32_31, v84, c1_i32_33⟩
def k0_mult2 (i : grid0.Coords) (k0_t1 : Fin (k0_t1_loop i).trips) : BitVec 32 :=
  let arg1 : BitVec 32 := BitVec.ofNat 32 (i 1).val
  let c1_i32_52 : BitVec 32 := 1#32
  let v120 : BitVec 32 := Scalar.addi arg1 c1_i32_52
  let c4_i32_53 : BitVec 32 := 4#32
  let c0_i32_31 : BitVec 32 := 0#32
  let c1_i32_33 : BitVec 32 := 1#32
  let arg9 : BitVec 32 := Scf.iv c0_i32_31 c1_i32_33 k0_t1
  let v121 : BitVec 32 := Scalar.muli c4_i32_53 arg9
  let v122 : BitVec 32 := Scalar.addi v120 v121
  let c0_i32_54 : BitVec 32 := 0#32
  let v123 : BitVec 32 := Scalar.addi v122 c0_i32_54
  let c512_i32_55 : BitVec 32 := 512#32
  let v124 : BitVec 32 := Scalar.muli v123 c512_i32_55
  v124
def k0_off4 (i : grid0.Coords) (k0_t1 : Fin (k0_t1_loop i).trips) (c0_i32_54 : BitVec 32) : Fin 2 → Nat :=
  let arg1 : BitVec 32 := BitVec.ofNat 32 (i 1).val
  let c1_i32_52 : BitVec 32 := 1#32
  let v120 : BitVec 32 := Scalar.addi arg1 c1_i32_52
  let c4_i32_53 : BitVec 32 := 4#32
  let c0_i32_31 : BitVec 32 := 0#32
  let c1_i32_33 : BitVec 32 := 1#32
  let arg9 : BitVec 32 := Scf.iv c0_i32_31 c1_i32_33 k0_t1
  let v121 : BitVec 32 := Scalar.muli c4_i32_53 arg9
  let v122 : BitVec 32 := Scalar.addi v120 v121
  let v123 : BitVec 32 := Scalar.addi v122 c0_i32_54
  let c512_i32_55 : BitVec 32 := 512#32
  let v124 : BitVec 32 := Scalar.muli v123 c512_i32_55
  let v125 : BitVec 32 := v124
  let v126 : Index := Scalar.indexCast v125
  let c0_56 : Index := 0#32
  ![v126.toNat, 0]
def k0_off5 (i : grid0.Coords) (k0_t1 : Fin (k0_t1_loop i).trips) (c0_i32_54 : BitVec 32) : Fin 4 → Nat :=
  let c0_59 : Index := 0#32
  let arg1 : BitVec 32 := BitVec.ofNat 32 (i 1).val
  let c1_i32_52 : BitVec 32 := 1#32
  let v120 : BitVec 32 := Scalar.addi arg1 c1_i32_52
  let c4_i32_53 : BitVec 32 := 4#32
  let c0_i32_31 : BitVec 32 := 0#32
  let c1_i32_33 : BitVec 32 := 1#32
  let arg9 : BitVec 32 := Scf.iv c0_i32_31 c1_i32_33 k0_t1
  let v121 : BitVec 32 := Scalar.muli c4_i32_53 arg9
  let v122 : BitVec 32 := Scalar.addi v120 v121
  let v123 : BitVec 32 := Scalar.addi v122 c0_i32_54
  let v133 : Index := Scalar.indexCast v123
  let c0_60 : Index := 0#32
  let c0_61 : Index := 0#32
  ![0, v133.toNat, 0, 0]
def k0_off6 (i : grid0.Coords) (k0_t1 : Fin (k0_t1_loop i).trips) (c0_i32_54 : BitVec 32) : Fin 4 → Nat :=
  let c0_69 : Index := 0#32
  let arg1 : BitVec 32 := BitVec.ofNat 32 (i 1).val
  let c1_i32_52 : BitVec 32 := 1#32
  let v120 : BitVec 32 := Scalar.addi arg1 c1_i32_52
  let c4_i32_53 : BitVec 32 := 4#32
  let c0_i32_31 : BitVec 32 := 0#32
  let c1_i32_33 : BitVec 32 := 1#32
  let arg9 : BitVec 32 := Scf.iv c0_i32_31 c1_i32_33 k0_t1
  let v121 : BitVec 32 := Scalar.muli c4_i32_53 arg9
  let v122 : BitVec 32 := Scalar.addi v120 v121
  let v123 : BitVec 32 := Scalar.addi v122 c0_i32_54
  let v154 : Index := Scalar.indexCast v123
  let c0_70 : Index := 0#32
  let c0_71 : Index := 0#32
  ![0, v154.toNat, 0, 0]
def k0_mult3 (i : grid0.Coords) (k0_t1 : Fin (k0_t1_loop i).trips) : BitVec 32 :=
  let arg1 : BitVec 32 := BitVec.ofNat 32 (i 1).val
  let c1_i32_76 : BitVec 32 := 1#32
  let v164 : BitVec 32 := Scalar.addi arg1 c1_i32_76
  let c4_i32_77 : BitVec 32 := 4#32
  let c0_i32_31 : BitVec 32 := 0#32
  let c1_i32_33 : BitVec 32 := 1#32
  let arg9 : BitVec 32 := Scf.iv c0_i32_31 c1_i32_33 k0_t1
  let v165 : BitVec 32 := Scalar.muli c4_i32_77 arg9
  let v166 : BitVec 32 := Scalar.addi v164 v165
  let c1_i32_78 : BitVec 32 := 1#32
  let v167 : BitVec 32 := Scalar.addi v166 c1_i32_78
  let c512_i32_79 : BitVec 32 := 512#32
  let v168 : BitVec 32 := Scalar.muli v167 c512_i32_79
  v168
def k0_mult4 (i : grid0.Coords) (k0_t1 : Fin (k0_t1_loop i).trips) : BitVec 32 :=
  let arg1 : BitVec 32 := BitVec.ofNat 32 (i 1).val
  let c1_i32_100 : BitVec 32 := 1#32
  let v208 : BitVec 32 := Scalar.addi arg1 c1_i32_100
  let c4_i32_101 : BitVec 32 := 4#32
  let c0_i32_31 : BitVec 32 := 0#32
  let c1_i32_33 : BitVec 32 := 1#32
  let arg9 : BitVec 32 := Scf.iv c0_i32_31 c1_i32_33 k0_t1
  let v209 : BitVec 32 := Scalar.muli c4_i32_101 arg9
  let v210 : BitVec 32 := Scalar.addi v208 v209
  let c2_i32 : BitVec 32 := 2#32
  let v211 : BitVec 32 := Scalar.addi v210 c2_i32
  let c512_i32_102 : BitVec 32 := 512#32
  let v212 : BitVec 32 := Scalar.muli v211 c512_i32_102
  v212
def k0_mult5 (i : grid0.Coords) (k0_t1 : Fin (k0_t1_loop i).trips) : BitVec 32 :=
  let arg1 : BitVec 32 := BitVec.ofNat 32 (i 1).val
  let c1_i32_123 : BitVec 32 := 1#32
  let v252 : BitVec 32 := Scalar.addi arg1 c1_i32_123
  let c4_i32_124 : BitVec 32 := 4#32
  let c0_i32_31 : BitVec 32 := 0#32
  let c1_i32_33 : BitVec 32 := 1#32
  let arg9 : BitVec 32 := Scf.iv c0_i32_31 c1_i32_33 k0_t1
  let v253 : BitVec 32 := Scalar.muli c4_i32_124 arg9
  let v254 : BitVec 32 := Scalar.addi v252 v253
  let c3_i32 : BitVec 32 := 3#32
  let v255 : BitVec 32 := Scalar.addi v254 c3_i32
  let c512_i32_125 : BitVec 32 := 512#32
  let v256 : BitVec 32 := Scalar.muli v255 c512_i32_125
  v256
@[reducible] def k0_t2_loop (i : grid0.Coords) : Scf.Loop 32 :=
  let c0_i32_31 : BitVec 32 := 0#32
  let c15_i32 : BitVec 32 := 15#32
  let arg1 : BitVec 32 := BitVec.ofNat 32 (i 1).val
  let v62 : BitVec 32 := Scalar.subi c15_i32 arg1
  let c0_i32_26 : BitVec 32 := 0#32
  let v64 : BitVec 1 := Scalar.cmpi .sgt v62 c0_i32_26
  let v65 : BitVec 32 := Scalar.extui v64
  let c0_i32_27 : BitVec 32 := 0#32
  let v66 : BitVec 1 := Scalar.cmpi .slt v62 c0_i32_27
  let v67 : BitVec 32 := Scalar.extui v66
  let v68 : BitVec 32 := Scalar.subi v65 v67
  let c4_i32 : BitVec 32 := 4#32
  let c0_i32_28 : BitVec 32 := 0#32
  let v69 : BitVec 1 := Scalar.cmpi .sgt c4_i32 c0_i32_28
  let v70 : BitVec 32 := Scalar.extui v69
  let c0_i32_29 : BitVec 32 := 0#32
  let v71 : BitVec 1 := Scalar.cmpi .slt c4_i32 c0_i32_29
  let v72 : BitVec 32 := Scalar.extui v71
  let v73 : BitVec 32 := Scalar.subi v70 v72
  let v74 : BitVec 1 := Scalar.cmpi .ne v68 v73
  let v75 : BitVec 32 := Scalar.remsi v62 c4_i32
  let c0_i32_30 : BitVec 32 := 0#32
  let v76 : BitVec 1 := Scalar.cmpi .ne v75 c0_i32_30
  let v77 : BitVec 1 := Scalar.andi v74 v76
  let v63 : BitVec 32 := Scalar.divsi v62 c4_i32
  let c1_i32 : BitVec 32 := 1#32
  let v78 : BitVec 32 := Scalar.subi v63 c1_i32
  let v79 : BitVec 32 := Scalar.select v77 v78 v63
  let v80 : BitVec 32 := Scalar.subi v79 c0_i32_31
  let c1_i32_32 : BitVec 32 := 1#32
  let v82 : BitVec 32 := Scalar.divsi v80 c1_i32_32
  let v83 : BitVec 32 := Scalar.muli v82 c1_i32_32
  let v84 : BitVec 32 := Scalar.addi c0_i32_31 v83
  let v81 : BitVec 32 := Scalar.addi c0_i32_31 v80
  let c1_i32_34 : BitVec 32 := 1#32
  ⟨v84, v81, c1_i32_34⟩
def k0_mult6 (i : grid0.Coords) (k0_t2 : Fin (k0_t2_loop i).trips) : BitVec 32 :=
  let arg1 : BitVec 32 := BitVec.ofNat 32 (i 1).val
  let c1_i32_52 : BitVec 32 := 1#32
  let v120 : BitVec 32 := Scalar.addi arg1 c1_i32_52
  let c4_i32_53 : BitVec 32 := 4#32
  let c0_i32_31 : BitVec 32 := 0#32
  let c15_i32 : BitVec 32 := 15#32
  let v62 : BitVec 32 := Scalar.subi c15_i32 arg1
  let c0_i32_26 : BitVec 32 := 0#32
  let v64 : BitVec 1 := Scalar.cmpi .sgt v62 c0_i32_26
  let v65 : BitVec 32 := Scalar.extui v64
  let c0_i32_27 : BitVec 32 := 0#32
  let v66 : BitVec 1 := Scalar.cmpi .slt v62 c0_i32_27
  let v67 : BitVec 32 := Scalar.extui v66
  let v68 : BitVec 32 := Scalar.subi v65 v67
  let c4_i32 : BitVec 32 := 4#32
  let c0_i32_28 : BitVec 32 := 0#32
  let v69 : BitVec 1 := Scalar.cmpi .sgt c4_i32 c0_i32_28
  let v70 : BitVec 32 := Scalar.extui v69
  let c0_i32_29 : BitVec 32 := 0#32
  let v71 : BitVec 1 := Scalar.cmpi .slt c4_i32 c0_i32_29
  let v72 : BitVec 32 := Scalar.extui v71
  let v73 : BitVec 32 := Scalar.subi v70 v72
  let v74 : BitVec 1 := Scalar.cmpi .ne v68 v73
  let v75 : BitVec 32 := Scalar.remsi v62 c4_i32
  let c0_i32_30 : BitVec 32 := 0#32
  let v76 : BitVec 1 := Scalar.cmpi .ne v75 c0_i32_30
  let v77 : BitVec 1 := Scalar.andi v74 v76
  let v63 : BitVec 32 := Scalar.divsi v62 c4_i32
  let c1_i32 : BitVec 32 := 1#32
  let v78 : BitVec 32 := Scalar.subi v63 c1_i32
  let v79 : BitVec 32 := Scalar.select v77 v78 v63
  let v80 : BitVec 32 := Scalar.subi v79 c0_i32_31
  let c1_i32_32 : BitVec 32 := 1#32
  let v82 : BitVec 32 := Scalar.divsi v80 c1_i32_32
  let v83 : BitVec 32 := Scalar.muli v82 c1_i32_32
  let v84 : BitVec 32 := Scalar.addi c0_i32_31 v83
  let c1_i32_34 : BitVec 32 := 1#32
  let arg9 : BitVec 32 := Scf.iv v84 c1_i32_34 k0_t2
  let v121 : BitVec 32 := Scalar.muli c4_i32_53 arg9
  let v122 : BitVec 32 := Scalar.addi v120 v121
  let c0_i32_54 : BitVec 32 := 0#32
  let v123 : BitVec 32 := Scalar.addi v122 c0_i32_54
  let c512_i32_55 : BitVec 32 := 512#32
  let v124 : BitVec 32 := Scalar.muli v123 c512_i32_55
  v124
def k0_off7 (i : grid0.Coords) (k0_t2 : Fin (k0_t2_loop i).trips) (c0_i32_54 : BitVec 32) : Fin 2 → Nat :=
  let arg1 : BitVec 32 := BitVec.ofNat 32 (i 1).val
  let c1_i32_52 : BitVec 32 := 1#32
  let v120 : BitVec 32 := Scalar.addi arg1 c1_i32_52
  let c4_i32_53 : BitVec 32 := 4#32
  let c0_i32_31 : BitVec 32 := 0#32
  let c15_i32 : BitVec 32 := 15#32
  let v62 : BitVec 32 := Scalar.subi c15_i32 arg1
  let c0_i32_26 : BitVec 32 := 0#32
  let v64 : BitVec 1 := Scalar.cmpi .sgt v62 c0_i32_26
  let v65 : BitVec 32 := Scalar.extui v64
  let c0_i32_27 : BitVec 32 := 0#32
  let v66 : BitVec 1 := Scalar.cmpi .slt v62 c0_i32_27
  let v67 : BitVec 32 := Scalar.extui v66
  let v68 : BitVec 32 := Scalar.subi v65 v67
  let c4_i32 : BitVec 32 := 4#32
  let c0_i32_28 : BitVec 32 := 0#32
  let v69 : BitVec 1 := Scalar.cmpi .sgt c4_i32 c0_i32_28
  let v70 : BitVec 32 := Scalar.extui v69
  let c0_i32_29 : BitVec 32 := 0#32
  let v71 : BitVec 1 := Scalar.cmpi .slt c4_i32 c0_i32_29
  let v72 : BitVec 32 := Scalar.extui v71
  let v73 : BitVec 32 := Scalar.subi v70 v72
  let v74 : BitVec 1 := Scalar.cmpi .ne v68 v73
  let v75 : BitVec 32 := Scalar.remsi v62 c4_i32
  let c0_i32_30 : BitVec 32 := 0#32
  let v76 : BitVec 1 := Scalar.cmpi .ne v75 c0_i32_30
  let v77 : BitVec 1 := Scalar.andi v74 v76
  let v63 : BitVec 32 := Scalar.divsi v62 c4_i32
  let c1_i32 : BitVec 32 := 1#32
  let v78 : BitVec 32 := Scalar.subi v63 c1_i32
  let v79 : BitVec 32 := Scalar.select v77 v78 v63
  let v80 : BitVec 32 := Scalar.subi v79 c0_i32_31
  let c1_i32_32 : BitVec 32 := 1#32
  let v82 : BitVec 32 := Scalar.divsi v80 c1_i32_32
  let v83 : BitVec 32 := Scalar.muli v82 c1_i32_32
  let v84 : BitVec 32 := Scalar.addi c0_i32_31 v83
  let c1_i32_34 : BitVec 32 := 1#32
  let arg9 : BitVec 32 := Scf.iv v84 c1_i32_34 k0_t2
  let v121 : BitVec 32 := Scalar.muli c4_i32_53 arg9
  let v122 : BitVec 32 := Scalar.addi v120 v121
  let v123 : BitVec 32 := Scalar.addi v122 c0_i32_54
  let c512_i32_55 : BitVec 32 := 512#32
  let v124 : BitVec 32 := Scalar.muli v123 c512_i32_55
  let v125 : BitVec 32 := v124
  let v126 : Index := Scalar.indexCast v125
  let c0_56 : Index := 0#32
  ![v126.toNat, 0]
def k0_off8 (i : grid0.Coords) (k0_t2 : Fin (k0_t2_loop i).trips) (c0_i32_54 : BitVec 32) : Fin 4 → Nat :=
  let c0_59 : Index := 0#32
  let arg1 : BitVec 32 := BitVec.ofNat 32 (i 1).val
  let c1_i32_52 : BitVec 32 := 1#32
  let v120 : BitVec 32 := Scalar.addi arg1 c1_i32_52
  let c4_i32_53 : BitVec 32 := 4#32
  let c0_i32_31 : BitVec 32 := 0#32
  let c15_i32 : BitVec 32 := 15#32
  let v62 : BitVec 32 := Scalar.subi c15_i32 arg1
  let c0_i32_26 : BitVec 32 := 0#32
  let v64 : BitVec 1 := Scalar.cmpi .sgt v62 c0_i32_26
  let v65 : BitVec 32 := Scalar.extui v64
  let c0_i32_27 : BitVec 32 := 0#32
  let v66 : BitVec 1 := Scalar.cmpi .slt v62 c0_i32_27
  let v67 : BitVec 32 := Scalar.extui v66
  let v68 : BitVec 32 := Scalar.subi v65 v67
  let c4_i32 : BitVec 32 := 4#32
  let c0_i32_28 : BitVec 32 := 0#32
  let v69 : BitVec 1 := Scalar.cmpi .sgt c4_i32 c0_i32_28
  let v70 : BitVec 32 := Scalar.extui v69
  let c0_i32_29 : BitVec 32 := 0#32
  let v71 : BitVec 1 := Scalar.cmpi .slt c4_i32 c0_i32_29
  let v72 : BitVec 32 := Scalar.extui v71
  let v73 : BitVec 32 := Scalar.subi v70 v72
  let v74 : BitVec 1 := Scalar.cmpi .ne v68 v73
  let v75 : BitVec 32 := Scalar.remsi v62 c4_i32
  let c0_i32_30 : BitVec 32 := 0#32
  let v76 : BitVec 1 := Scalar.cmpi .ne v75 c0_i32_30
  let v77 : BitVec 1 := Scalar.andi v74 v76
  let v63 : BitVec 32 := Scalar.divsi v62 c4_i32
  let c1_i32 : BitVec 32 := 1#32
  let v78 : BitVec 32 := Scalar.subi v63 c1_i32
  let v79 : BitVec 32 := Scalar.select v77 v78 v63
  let v80 : BitVec 32 := Scalar.subi v79 c0_i32_31
  let c1_i32_32 : BitVec 32 := 1#32
  let v82 : BitVec 32 := Scalar.divsi v80 c1_i32_32
  let v83 : BitVec 32 := Scalar.muli v82 c1_i32_32
  let v84 : BitVec 32 := Scalar.addi c0_i32_31 v83
  let c1_i32_34 : BitVec 32 := 1#32
  let arg9 : BitVec 32 := Scf.iv v84 c1_i32_34 k0_t2
  let v121 : BitVec 32 := Scalar.muli c4_i32_53 arg9
  let v122 : BitVec 32 := Scalar.addi v120 v121
  let v123 : BitVec 32 := Scalar.addi v122 c0_i32_54
  let v133 : Index := Scalar.indexCast v123
  let c0_60 : Index := 0#32
  let c0_61 : Index := 0#32
  ![0, v133.toNat, 0, 0]
def k0_off9 (i : grid0.Coords) (k0_t2 : Fin (k0_t2_loop i).trips) (c0_i32_54 : BitVec 32) : Fin 4 → Nat :=
  let c0_69 : Index := 0#32
  let arg1 : BitVec 32 := BitVec.ofNat 32 (i 1).val
  let c1_i32_52 : BitVec 32 := 1#32
  let v120 : BitVec 32 := Scalar.addi arg1 c1_i32_52
  let c4_i32_53 : BitVec 32 := 4#32
  let c0_i32_31 : BitVec 32 := 0#32
  let c15_i32 : BitVec 32 := 15#32
  let v62 : BitVec 32 := Scalar.subi c15_i32 arg1
  let c0_i32_26 : BitVec 32 := 0#32
  let v64 : BitVec 1 := Scalar.cmpi .sgt v62 c0_i32_26
  let v65 : BitVec 32 := Scalar.extui v64
  let c0_i32_27 : BitVec 32 := 0#32
  let v66 : BitVec 1 := Scalar.cmpi .slt v62 c0_i32_27
  let v67 : BitVec 32 := Scalar.extui v66
  let v68 : BitVec 32 := Scalar.subi v65 v67
  let c4_i32 : BitVec 32 := 4#32
  let c0_i32_28 : BitVec 32 := 0#32
  let v69 : BitVec 1 := Scalar.cmpi .sgt c4_i32 c0_i32_28
  let v70 : BitVec 32 := Scalar.extui v69
  let c0_i32_29 : BitVec 32 := 0#32
  let v71 : BitVec 1 := Scalar.cmpi .slt c4_i32 c0_i32_29
  let v72 : BitVec 32 := Scalar.extui v71
  let v73 : BitVec 32 := Scalar.subi v70 v72
  let v74 : BitVec 1 := Scalar.cmpi .ne v68 v73
  let v75 : BitVec 32 := Scalar.remsi v62 c4_i32
  let c0_i32_30 : BitVec 32 := 0#32
  let v76 : BitVec 1 := Scalar.cmpi .ne v75 c0_i32_30
  let v77 : BitVec 1 := Scalar.andi v74 v76
  let v63 : BitVec 32 := Scalar.divsi v62 c4_i32
  let c1_i32 : BitVec 32 := 1#32
  let v78 : BitVec 32 := Scalar.subi v63 c1_i32
  let v79 : BitVec 32 := Scalar.select v77 v78 v63
  let v80 : BitVec 32 := Scalar.subi v79 c0_i32_31
  let c1_i32_32 : BitVec 32 := 1#32
  let v82 : BitVec 32 := Scalar.divsi v80 c1_i32_32
  let v83 : BitVec 32 := Scalar.muli v82 c1_i32_32
  let v84 : BitVec 32 := Scalar.addi c0_i32_31 v83
  let c1_i32_34 : BitVec 32 := 1#32
  let arg9 : BitVec 32 := Scf.iv v84 c1_i32_34 k0_t2
  let v121 : BitVec 32 := Scalar.muli c4_i32_53 arg9
  let v122 : BitVec 32 := Scalar.addi v120 v121
  let v123 : BitVec 32 := Scalar.addi v122 c0_i32_54
  let v154 : Index := Scalar.indexCast v123
  let c0_70 : Index := 0#32
  let c0_71 : Index := 0#32
  ![0, v154.toNat, 0, 0]
def k0_mult7 (i : grid0.Coords) (k0_t2 : Fin (k0_t2_loop i).trips) : BitVec 32 :=
  let arg1 : BitVec 32 := BitVec.ofNat 32 (i 1).val
  let c1_i32_76 : BitVec 32 := 1#32
  let v164 : BitVec 32 := Scalar.addi arg1 c1_i32_76
  let c4_i32_77 : BitVec 32 := 4#32
  let c0_i32_31 : BitVec 32 := 0#32
  let c15_i32 : BitVec 32 := 15#32
  let v62 : BitVec 32 := Scalar.subi c15_i32 arg1
  let c0_i32_26 : BitVec 32 := 0#32
  let v64 : BitVec 1 := Scalar.cmpi .sgt v62 c0_i32_26
  let v65 : BitVec 32 := Scalar.extui v64
  let c0_i32_27 : BitVec 32 := 0#32
  let v66 : BitVec 1 := Scalar.cmpi .slt v62 c0_i32_27
  let v67 : BitVec 32 := Scalar.extui v66
  let v68 : BitVec 32 := Scalar.subi v65 v67
  let c4_i32 : BitVec 32 := 4#32
  let c0_i32_28 : BitVec 32 := 0#32
  let v69 : BitVec 1 := Scalar.cmpi .sgt c4_i32 c0_i32_28
  let v70 : BitVec 32 := Scalar.extui v69
  let c0_i32_29 : BitVec 32 := 0#32
  let v71 : BitVec 1 := Scalar.cmpi .slt c4_i32 c0_i32_29
  let v72 : BitVec 32 := Scalar.extui v71
  let v73 : BitVec 32 := Scalar.subi v70 v72
  let v74 : BitVec 1 := Scalar.cmpi .ne v68 v73
  let v75 : BitVec 32 := Scalar.remsi v62 c4_i32
  let c0_i32_30 : BitVec 32 := 0#32
  let v76 : BitVec 1 := Scalar.cmpi .ne v75 c0_i32_30
  let v77 : BitVec 1 := Scalar.andi v74 v76
  let v63 : BitVec 32 := Scalar.divsi v62 c4_i32
  let c1_i32 : BitVec 32 := 1#32
  let v78 : BitVec 32 := Scalar.subi v63 c1_i32
  let v79 : BitVec 32 := Scalar.select v77 v78 v63
  let v80 : BitVec 32 := Scalar.subi v79 c0_i32_31
  let c1_i32_32 : BitVec 32 := 1#32
  let v82 : BitVec 32 := Scalar.divsi v80 c1_i32_32
  let v83 : BitVec 32 := Scalar.muli v82 c1_i32_32
  let v84 : BitVec 32 := Scalar.addi c0_i32_31 v83
  let c1_i32_34 : BitVec 32 := 1#32
  let arg9 : BitVec 32 := Scf.iv v84 c1_i32_34 k0_t2
  let v165 : BitVec 32 := Scalar.muli c4_i32_77 arg9
  let v166 : BitVec 32 := Scalar.addi v164 v165
  let c1_i32_78 : BitVec 32 := 1#32
  let v167 : BitVec 32 := Scalar.addi v166 c1_i32_78
  let c512_i32_79 : BitVec 32 := 512#32
  let v168 : BitVec 32 := Scalar.muli v167 c512_i32_79
  v168
def k0_mult8 (i : grid0.Coords) (k0_t2 : Fin (k0_t2_loop i).trips) : BitVec 32 :=
  let arg1 : BitVec 32 := BitVec.ofNat 32 (i 1).val
  let c1_i32_100 : BitVec 32 := 1#32
  let v208 : BitVec 32 := Scalar.addi arg1 c1_i32_100
  let c4_i32_101 : BitVec 32 := 4#32
  let c0_i32_31 : BitVec 32 := 0#32
  let c15_i32 : BitVec 32 := 15#32
  let v62 : BitVec 32 := Scalar.subi c15_i32 arg1
  let c0_i32_26 : BitVec 32 := 0#32
  let v64 : BitVec 1 := Scalar.cmpi .sgt v62 c0_i32_26
  let v65 : BitVec 32 := Scalar.extui v64
  let c0_i32_27 : BitVec 32 := 0#32
  let v66 : BitVec 1 := Scalar.cmpi .slt v62 c0_i32_27
  let v67 : BitVec 32 := Scalar.extui v66
  let v68 : BitVec 32 := Scalar.subi v65 v67
  let c4_i32 : BitVec 32 := 4#32
  let c0_i32_28 : BitVec 32 := 0#32
  let v69 : BitVec 1 := Scalar.cmpi .sgt c4_i32 c0_i32_28
  let v70 : BitVec 32 := Scalar.extui v69
  let c0_i32_29 : BitVec 32 := 0#32
  let v71 : BitVec 1 := Scalar.cmpi .slt c4_i32 c0_i32_29
  let v72 : BitVec 32 := Scalar.extui v71
  let v73 : BitVec 32 := Scalar.subi v70 v72
  let v74 : BitVec 1 := Scalar.cmpi .ne v68 v73
  let v75 : BitVec 32 := Scalar.remsi v62 c4_i32
  let c0_i32_30 : BitVec 32 := 0#32
  let v76 : BitVec 1 := Scalar.cmpi .ne v75 c0_i32_30
  let v77 : BitVec 1 := Scalar.andi v74 v76
  let v63 : BitVec 32 := Scalar.divsi v62 c4_i32
  let c1_i32 : BitVec 32 := 1#32
  let v78 : BitVec 32 := Scalar.subi v63 c1_i32
  let v79 : BitVec 32 := Scalar.select v77 v78 v63
  let v80 : BitVec 32 := Scalar.subi v79 c0_i32_31
  let c1_i32_32 : BitVec 32 := 1#32
  let v82 : BitVec 32 := Scalar.divsi v80 c1_i32_32
  let v83 : BitVec 32 := Scalar.muli v82 c1_i32_32
  let v84 : BitVec 32 := Scalar.addi c0_i32_31 v83
  let c1_i32_34 : BitVec 32 := 1#32
  let arg9 : BitVec 32 := Scf.iv v84 c1_i32_34 k0_t2
  let v209 : BitVec 32 := Scalar.muli c4_i32_101 arg9
  let v210 : BitVec 32 := Scalar.addi v208 v209
  let c2_i32 : BitVec 32 := 2#32
  let v211 : BitVec 32 := Scalar.addi v210 c2_i32
  let c512_i32_102 : BitVec 32 := 512#32
  let v212 : BitVec 32 := Scalar.muli v211 c512_i32_102
  v212
def k0_mult9 (i : grid0.Coords) (k0_t2 : Fin (k0_t2_loop i).trips) : BitVec 32 :=
  let arg1 : BitVec 32 := BitVec.ofNat 32 (i 1).val
  let c1_i32_123 : BitVec 32 := 1#32
  let v252 : BitVec 32 := Scalar.addi arg1 c1_i32_123
  let c4_i32_124 : BitVec 32 := 4#32
  let c0_i32_31 : BitVec 32 := 0#32
  let c15_i32 : BitVec 32 := 15#32
  let v62 : BitVec 32 := Scalar.subi c15_i32 arg1
  let c0_i32_26 : BitVec 32 := 0#32
  let v64 : BitVec 1 := Scalar.cmpi .sgt v62 c0_i32_26
  let v65 : BitVec 32 := Scalar.extui v64
  let c0_i32_27 : BitVec 32 := 0#32
  let v66 : BitVec 1 := Scalar.cmpi .slt v62 c0_i32_27
  let v67 : BitVec 32 := Scalar.extui v66
  let v68 : BitVec 32 := Scalar.subi v65 v67
  let c4_i32 : BitVec 32 := 4#32
  let c0_i32_28 : BitVec 32 := 0#32
  let v69 : BitVec 1 := Scalar.cmpi .sgt c4_i32 c0_i32_28
  let v70 : BitVec 32 := Scalar.extui v69
  let c0_i32_29 : BitVec 32 := 0#32
  let v71 : BitVec 1 := Scalar.cmpi .slt c4_i32 c0_i32_29
  let v72 : BitVec 32 := Scalar.extui v71
  let v73 : BitVec 32 := Scalar.subi v70 v72
  let v74 : BitVec 1 := Scalar.cmpi .ne v68 v73
  let v75 : BitVec 32 := Scalar.remsi v62 c4_i32
  let c0_i32_30 : BitVec 32 := 0#32
  let v76 : BitVec 1 := Scalar.cmpi .ne v75 c0_i32_30
  let v77 : BitVec 1 := Scalar.andi v74 v76
  let v63 : BitVec 32 := Scalar.divsi v62 c4_i32
  let c1_i32 : BitVec 32 := 1#32
  let v78 : BitVec 32 := Scalar.subi v63 c1_i32
  let v79 : BitVec 32 := Scalar.select v77 v78 v63
  let v80 : BitVec 32 := Scalar.subi v79 c0_i32_31
  let c1_i32_32 : BitVec 32 := 1#32
  let v82 : BitVec 32 := Scalar.divsi v80 c1_i32_32
  let v83 : BitVec 32 := Scalar.muli v82 c1_i32_32
  let v84 : BitVec 32 := Scalar.addi c0_i32_31 v83
  let c1_i32_34 : BitVec 32 := 1#32
  let arg9 : BitVec 32 := Scf.iv v84 c1_i32_34 k0_t2
  let v253 : BitVec 32 := Scalar.muli c4_i32_124 arg9
  let v254 : BitVec 32 := Scalar.addi v252 v253
  let c3_i32 : BitVec 32 := 3#32
  let v255 : BitVec 32 := Scalar.addi v254 c3_i32
  let c512_i32_125 : BitVec 32 := 512#32
  let v256 : BitVec 32 := Scalar.muli v255 c512_i32_125
  v256
@[reducible] def k0_t3_loop (i : grid0.Coords) : Scf.Loop 32 :=
  let arg1 : BitVec 32 := BitVec.ofNat 32 (i 1).val
  let c1_i32_35 : BitVec 32 := 1#32
  let v87 : BitVec 32 := Scalar.addi arg1 c1_i32_35
  let c15_i32 : BitVec 32 := 15#32
  let v62 : BitVec 32 := Scalar.subi c15_i32 arg1
  let c0_i32_37 : BitVec 32 := 0#32
  let v89 : BitVec 1 := Scalar.cmpi .sgt v62 c0_i32_37
  let v90 : BitVec 32 := Scalar.extui v89
  let c0_i32_38 : BitVec 32 := 0#32
  let v91 : BitVec 1 := Scalar.cmpi .slt v62 c0_i32_38
  let v92 : BitVec 32 := Scalar.extui v91
  let v93 : BitVec 32 := Scalar.subi v90 v92
  let c4_i32_36 : BitVec 32 := 4#32
  let c0_i32_39 : BitVec 32 := 0#32
  let v94 : BitVec 1 := Scalar.cmpi .sgt c4_i32_36 c0_i32_39
  let v95 : BitVec 32 := Scalar.extui v94
  let c0_i32_40 : BitVec 32 := 0#32
  let v96 : BitVec 1 := Scalar.cmpi .slt c4_i32_36 c0_i32_40
  let v97 : BitVec 32 := Scalar.extui v96
  let v98 : BitVec 32 := Scalar.subi v95 v97
  let v99 : BitVec 1 := Scalar.cmpi .ne v93 v98
  let v100 : BitVec 32 := Scalar.remsi v62 c4_i32_36
  let c0_i32_41 : BitVec 32 := 0#32
  let v101 : BitVec 1 := Scalar.cmpi .ne v100 c0_i32_41
  let v102 : BitVec 1 := Scalar.andi v99 v101
  let v88 : BitVec 32 := Scalar.divsi v62 c4_i32_36
  let c1_i32_42 : BitVec 32 := 1#32
  let v103 : BitVec 32 := Scalar.subi v88 c1_i32_42
  let v104 : BitVec 32 := Scalar.select v102 v103 v88
  let c4_i32_43 : BitVec 32 := 4#32
  let v105 : BitVec 32 := Scalar.muli v104 c4_i32_43
  let v106 : BitVec 32 := Scalar.addi v87 v105
  let c16_i32 : BitVec 32 := 16#32
  let v107 : BitVec 32 := Scalar.subi c16_i32 v106
  let c1_i32_44 : BitVec 32 := 1#32
  let v109 : BitVec 32 := Scalar.divsi v107 c1_i32_44
  let v110 : BitVec 32 := Scalar.muli v109 c1_i32_44
  let v111 : BitVec 32 := Scalar.addi v106 v110
  let c1_i32_45 : BitVec 32 := 1#32
  ⟨v106, v111, c1_i32_45⟩
def k0_mult10 (i : grid0.Coords) (k0_t3 : Fin (k0_t3_loop i).trips) : BitVec 32 :=
  let arg1 : BitVec 32 := BitVec.ofNat 32 (i 1).val
  let c1_i32_35 : BitVec 32 := 1#32
  let v87 : BitVec 32 := Scalar.addi arg1 c1_i32_35
  let c15_i32 : BitVec 32 := 15#32
  let v62 : BitVec 32 := Scalar.subi c15_i32 arg1
  let c0_i32_37 : BitVec 32 := 0#32
  let v89 : BitVec 1 := Scalar.cmpi .sgt v62 c0_i32_37
  let v90 : BitVec 32 := Scalar.extui v89
  let c0_i32_38 : BitVec 32 := 0#32
  let v91 : BitVec 1 := Scalar.cmpi .slt v62 c0_i32_38
  let v92 : BitVec 32 := Scalar.extui v91
  let v93 : BitVec 32 := Scalar.subi v90 v92
  let c4_i32_36 : BitVec 32 := 4#32
  let c0_i32_39 : BitVec 32 := 0#32
  let v94 : BitVec 1 := Scalar.cmpi .sgt c4_i32_36 c0_i32_39
  let v95 : BitVec 32 := Scalar.extui v94
  let c0_i32_40 : BitVec 32 := 0#32
  let v96 : BitVec 1 := Scalar.cmpi .slt c4_i32_36 c0_i32_40
  let v97 : BitVec 32 := Scalar.extui v96
  let v98 : BitVec 32 := Scalar.subi v95 v97
  let v99 : BitVec 1 := Scalar.cmpi .ne v93 v98
  let v100 : BitVec 32 := Scalar.remsi v62 c4_i32_36
  let c0_i32_41 : BitVec 32 := 0#32
  let v101 : BitVec 1 := Scalar.cmpi .ne v100 c0_i32_41
  let v102 : BitVec 1 := Scalar.andi v99 v101
  let v88 : BitVec 32 := Scalar.divsi v62 c4_i32_36
  let c1_i32_42 : BitVec 32 := 1#32
  let v103 : BitVec 32 := Scalar.subi v88 c1_i32_42
  let v104 : BitVec 32 := Scalar.select v102 v103 v88
  let c4_i32_43 : BitVec 32 := 4#32
  let v105 : BitVec 32 := Scalar.muli v104 c4_i32_43
  let v106 : BitVec 32 := Scalar.addi v87 v105
  let c1_i32_45 : BitVec 32 := 1#32
  let arg9 : BitVec 32 := Scf.iv v106 c1_i32_45 k0_t3
  let c512_i32_52 : BitVec 32 := 512#32
  let v120 : BitVec 32 := Scalar.muli arg9 c512_i32_52
  v120
def k0_off10 (i : grid0.Coords) (k0_t3 : Fin (k0_t3_loop i).trips) : Fin 2 → Nat :=
  let arg1 : BitVec 32 := BitVec.ofNat 32 (i 1).val
  let c1_i32_35 : BitVec 32 := 1#32
  let v87 : BitVec 32 := Scalar.addi arg1 c1_i32_35
  let c15_i32 : BitVec 32 := 15#32
  let v62 : BitVec 32 := Scalar.subi c15_i32 arg1
  let c0_i32_37 : BitVec 32 := 0#32
  let v89 : BitVec 1 := Scalar.cmpi .sgt v62 c0_i32_37
  let v90 : BitVec 32 := Scalar.extui v89
  let c0_i32_38 : BitVec 32 := 0#32
  let v91 : BitVec 1 := Scalar.cmpi .slt v62 c0_i32_38
  let v92 : BitVec 32 := Scalar.extui v91
  let v93 : BitVec 32 := Scalar.subi v90 v92
  let c4_i32_36 : BitVec 32 := 4#32
  let c0_i32_39 : BitVec 32 := 0#32
  let v94 : BitVec 1 := Scalar.cmpi .sgt c4_i32_36 c0_i32_39
  let v95 : BitVec 32 := Scalar.extui v94
  let c0_i32_40 : BitVec 32 := 0#32
  let v96 : BitVec 1 := Scalar.cmpi .slt c4_i32_36 c0_i32_40
  let v97 : BitVec 32 := Scalar.extui v96
  let v98 : BitVec 32 := Scalar.subi v95 v97
  let v99 : BitVec 1 := Scalar.cmpi .ne v93 v98
  let v100 : BitVec 32 := Scalar.remsi v62 c4_i32_36
  let c0_i32_41 : BitVec 32 := 0#32
  let v101 : BitVec 1 := Scalar.cmpi .ne v100 c0_i32_41
  let v102 : BitVec 1 := Scalar.andi v99 v101
  let v88 : BitVec 32 := Scalar.divsi v62 c4_i32_36
  let c1_i32_42 : BitVec 32 := 1#32
  let v103 : BitVec 32 := Scalar.subi v88 c1_i32_42
  let v104 : BitVec 32 := Scalar.select v102 v103 v88
  let c4_i32_43 : BitVec 32 := 4#32
  let v105 : BitVec 32 := Scalar.muli v104 c4_i32_43
  let v106 : BitVec 32 := Scalar.addi v87 v105
  let c1_i32_45 : BitVec 32 := 1#32
  let arg9 : BitVec 32 := Scf.iv v106 c1_i32_45 k0_t3
  let c512_i32_52 : BitVec 32 := 512#32
  let v120 : BitVec 32 := Scalar.muli arg9 c512_i32_52
  let v121 : BitVec 32 := v120
  let v122 : Index := Scalar.indexCast v121
  let c0_53 : Index := 0#32
  ![v122.toNat, 0]
def k0_off11 (i : grid0.Coords) (k0_t3 : Fin (k0_t3_loop i).trips) : Fin 4 → Nat :=
  let c0_56 : Index := 0#32
  let arg1 : BitVec 32 := BitVec.ofNat 32 (i 1).val
  let c1_i32_35 : BitVec 32 := 1#32
  let v87 : BitVec 32 := Scalar.addi arg1 c1_i32_35
  let c15_i32 : BitVec 32 := 15#32
  let v62 : BitVec 32 := Scalar.subi c15_i32 arg1
  let c0_i32_37 : BitVec 32 := 0#32
  let v89 : BitVec 1 := Scalar.cmpi .sgt v62 c0_i32_37
  let v90 : BitVec 32 := Scalar.extui v89
  let c0_i32_38 : BitVec 32 := 0#32
  let v91 : BitVec 1 := Scalar.cmpi .slt v62 c0_i32_38
  let v92 : BitVec 32 := Scalar.extui v91
  let v93 : BitVec 32 := Scalar.subi v90 v92
  let c4_i32_36 : BitVec 32 := 4#32
  let c0_i32_39 : BitVec 32 := 0#32
  let v94 : BitVec 1 := Scalar.cmpi .sgt c4_i32_36 c0_i32_39
  let v95 : BitVec 32 := Scalar.extui v94
  let c0_i32_40 : BitVec 32 := 0#32
  let v96 : BitVec 1 := Scalar.cmpi .slt c4_i32_36 c0_i32_40
  let v97 : BitVec 32 := Scalar.extui v96
  let v98 : BitVec 32 := Scalar.subi v95 v97
  let v99 : BitVec 1 := Scalar.cmpi .ne v93 v98
  let v100 : BitVec 32 := Scalar.remsi v62 c4_i32_36
  let c0_i32_41 : BitVec 32 := 0#32
  let v101 : BitVec 1 := Scalar.cmpi .ne v100 c0_i32_41
  let v102 : BitVec 1 := Scalar.andi v99 v101
  let v88 : BitVec 32 := Scalar.divsi v62 c4_i32_36
  let c1_i32_42 : BitVec 32 := 1#32
  let v103 : BitVec 32 := Scalar.subi v88 c1_i32_42
  let v104 : BitVec 32 := Scalar.select v102 v103 v88
  let c4_i32_43 : BitVec 32 := 4#32
  let v105 : BitVec 32 := Scalar.muli v104 c4_i32_43
  let v106 : BitVec 32 := Scalar.addi v87 v105
  let c1_i32_45 : BitVec 32 := 1#32
  let arg9 : BitVec 32 := Scf.iv v106 c1_i32_45 k0_t3
  let v129 : Index := Scalar.indexCast arg9
  let c0_57 : Index := 0#32
  let c0_58 : Index := 0#32
  ![0, v129.toNat, 0, 0]
def k0_off12 (i : grid0.Coords) (k0_t3 : Fin (k0_t3_loop i).trips) : Fin 4 → Nat :=
  let c0_66 : Index := 0#32
  let arg1 : BitVec 32 := BitVec.ofNat 32 (i 1).val
  let c1_i32_35 : BitVec 32 := 1#32
  let v87 : BitVec 32 := Scalar.addi arg1 c1_i32_35
  let c15_i32 : BitVec 32 := 15#32
  let v62 : BitVec 32 := Scalar.subi c15_i32 arg1
  let c0_i32_37 : BitVec 32 := 0#32
  let v89 : BitVec 1 := Scalar.cmpi .sgt v62 c0_i32_37
  let v90 : BitVec 32 := Scalar.extui v89
  let c0_i32_38 : BitVec 32 := 0#32
  let v91 : BitVec 1 := Scalar.cmpi .slt v62 c0_i32_38
  let v92 : BitVec 32 := Scalar.extui v91
  let v93 : BitVec 32 := Scalar.subi v90 v92
  let c4_i32_36 : BitVec 32 := 4#32
  let c0_i32_39 : BitVec 32 := 0#32
  let v94 : BitVec 1 := Scalar.cmpi .sgt c4_i32_36 c0_i32_39
  let v95 : BitVec 32 := Scalar.extui v94
  let c0_i32_40 : BitVec 32 := 0#32
  let v96 : BitVec 1 := Scalar.cmpi .slt c4_i32_36 c0_i32_40
  let v97 : BitVec 32 := Scalar.extui v96
  let v98 : BitVec 32 := Scalar.subi v95 v97
  let v99 : BitVec 1 := Scalar.cmpi .ne v93 v98
  let v100 : BitVec 32 := Scalar.remsi v62 c4_i32_36
  let c0_i32_41 : BitVec 32 := 0#32
  let v101 : BitVec 1 := Scalar.cmpi .ne v100 c0_i32_41
  let v102 : BitVec 1 := Scalar.andi v99 v101
  let v88 : BitVec 32 := Scalar.divsi v62 c4_i32_36
  let c1_i32_42 : BitVec 32 := 1#32
  let v103 : BitVec 32 := Scalar.subi v88 c1_i32_42
  let v104 : BitVec 32 := Scalar.select v102 v103 v88
  let c4_i32_43 : BitVec 32 := 4#32
  let v105 : BitVec 32 := Scalar.muli v104 c4_i32_43
  let v106 : BitVec 32 := Scalar.addi v87 v105
  let c1_i32_45 : BitVec 32 := 1#32
  let arg9 : BitVec 32 := Scf.iv v106 c1_i32_45 k0_t3
  let v150 : Index := Scalar.indexCast arg9
  let c0_67 : Index := 0#32
  let c0_68 : Index := 0#32
  ![0, v150.toNat, 0, 0]
@[reducible] def k0_t4_loop (i : grid0.Coords) : Scf.Loop 32 :=
  let arg1 : BitVec 32 := BitVec.ofNat 32 (i 1).val
  let c1_i32_35 : BitVec 32 := 1#32
  let v87 : BitVec 32 := Scalar.addi arg1 c1_i32_35
  let c15_i32 : BitVec 32 := 15#32
  let v62 : BitVec 32 := Scalar.subi c15_i32 arg1
  let c0_i32_37 : BitVec 32 := 0#32
  let v89 : BitVec 1 := Scalar.cmpi .sgt v62 c0_i32_37
  let v90 : BitVec 32 := Scalar.extui v89
  let c0_i32_38 : BitVec 32 := 0#32
  let v91 : BitVec 1 := Scalar.cmpi .slt v62 c0_i32_38
  let v92 : BitVec 32 := Scalar.extui v91
  let v93 : BitVec 32 := Scalar.subi v90 v92
  let c4_i32_36 : BitVec 32 := 4#32
  let c0_i32_39 : BitVec 32 := 0#32
  let v94 : BitVec 1 := Scalar.cmpi .sgt c4_i32_36 c0_i32_39
  let v95 : BitVec 32 := Scalar.extui v94
  let c0_i32_40 : BitVec 32 := 0#32
  let v96 : BitVec 1 := Scalar.cmpi .slt c4_i32_36 c0_i32_40
  let v97 : BitVec 32 := Scalar.extui v96
  let v98 : BitVec 32 := Scalar.subi v95 v97
  let v99 : BitVec 1 := Scalar.cmpi .ne v93 v98
  let v100 : BitVec 32 := Scalar.remsi v62 c4_i32_36
  let c0_i32_41 : BitVec 32 := 0#32
  let v101 : BitVec 1 := Scalar.cmpi .ne v100 c0_i32_41
  let v102 : BitVec 1 := Scalar.andi v99 v101
  let v88 : BitVec 32 := Scalar.divsi v62 c4_i32_36
  let c1_i32_42 : BitVec 32 := 1#32
  let v103 : BitVec 32 := Scalar.subi v88 c1_i32_42
  let v104 : BitVec 32 := Scalar.select v102 v103 v88
  let c4_i32_43 : BitVec 32 := 4#32
  let v105 : BitVec 32 := Scalar.muli v104 c4_i32_43
  let v106 : BitVec 32 := Scalar.addi v87 v105
  let c16_i32 : BitVec 32 := 16#32
  let v107 : BitVec 32 := Scalar.subi c16_i32 v106
  let c1_i32_44 : BitVec 32 := 1#32
  let v109 : BitVec 32 := Scalar.divsi v107 c1_i32_44
  let v110 : BitVec 32 := Scalar.muli v109 c1_i32_44
  let v111 : BitVec 32 := Scalar.addi v106 v110
  let v108 : BitVec 32 := Scalar.addi v106 v107
  let c1_i32_46 : BitVec 32 := 1#32
  ⟨v111, v108, c1_i32_46⟩
def k0_mult11 (i : grid0.Coords) (k0_t4 : Fin (k0_t4_loop i).trips) : BitVec 32 :=
  let arg1 : BitVec 32 := BitVec.ofNat 32 (i 1).val
  let c1_i32_35 : BitVec 32 := 1#32
  let v87 : BitVec 32 := Scalar.addi arg1 c1_i32_35
  let c15_i32 : BitVec 32 := 15#32
  let v62 : BitVec 32 := Scalar.subi c15_i32 arg1
  let c0_i32_37 : BitVec 32 := 0#32
  let v89 : BitVec 1 := Scalar.cmpi .sgt v62 c0_i32_37
  let v90 : BitVec 32 := Scalar.extui v89
  let c0_i32_38 : BitVec 32 := 0#32
  let v91 : BitVec 1 := Scalar.cmpi .slt v62 c0_i32_38
  let v92 : BitVec 32 := Scalar.extui v91
  let v93 : BitVec 32 := Scalar.subi v90 v92
  let c4_i32_36 : BitVec 32 := 4#32
  let c0_i32_39 : BitVec 32 := 0#32
  let v94 : BitVec 1 := Scalar.cmpi .sgt c4_i32_36 c0_i32_39
  let v95 : BitVec 32 := Scalar.extui v94
  let c0_i32_40 : BitVec 32 := 0#32
  let v96 : BitVec 1 := Scalar.cmpi .slt c4_i32_36 c0_i32_40
  let v97 : BitVec 32 := Scalar.extui v96
  let v98 : BitVec 32 := Scalar.subi v95 v97
  let v99 : BitVec 1 := Scalar.cmpi .ne v93 v98
  let v100 : BitVec 32 := Scalar.remsi v62 c4_i32_36
  let c0_i32_41 : BitVec 32 := 0#32
  let v101 : BitVec 1 := Scalar.cmpi .ne v100 c0_i32_41
  let v102 : BitVec 1 := Scalar.andi v99 v101
  let v88 : BitVec 32 := Scalar.divsi v62 c4_i32_36
  let c1_i32_42 : BitVec 32 := 1#32
  let v103 : BitVec 32 := Scalar.subi v88 c1_i32_42
  let v104 : BitVec 32 := Scalar.select v102 v103 v88
  let c4_i32_43 : BitVec 32 := 4#32
  let v105 : BitVec 32 := Scalar.muli v104 c4_i32_43
  let v106 : BitVec 32 := Scalar.addi v87 v105
  let c16_i32 : BitVec 32 := 16#32
  let v107 : BitVec 32 := Scalar.subi c16_i32 v106
  let c1_i32_44 : BitVec 32 := 1#32
  let v109 : BitVec 32 := Scalar.divsi v107 c1_i32_44
  let v110 : BitVec 32 := Scalar.muli v109 c1_i32_44
  let v111 : BitVec 32 := Scalar.addi v106 v110
  let c1_i32_46 : BitVec 32 := 1#32
  let arg9 : BitVec 32 := Scf.iv v111 c1_i32_46 k0_t4
  let c512_i32_52 : BitVec 32 := 512#32
  let v120 : BitVec 32 := Scalar.muli arg9 c512_i32_52
  v120
def k0_off13 (i : grid0.Coords) (k0_t4 : Fin (k0_t4_loop i).trips) : Fin 2 → Nat :=
  let arg1 : BitVec 32 := BitVec.ofNat 32 (i 1).val
  let c1_i32_35 : BitVec 32 := 1#32
  let v87 : BitVec 32 := Scalar.addi arg1 c1_i32_35
  let c15_i32 : BitVec 32 := 15#32
  let v62 : BitVec 32 := Scalar.subi c15_i32 arg1
  let c0_i32_37 : BitVec 32 := 0#32
  let v89 : BitVec 1 := Scalar.cmpi .sgt v62 c0_i32_37
  let v90 : BitVec 32 := Scalar.extui v89
  let c0_i32_38 : BitVec 32 := 0#32
  let v91 : BitVec 1 := Scalar.cmpi .slt v62 c0_i32_38
  let v92 : BitVec 32 := Scalar.extui v91
  let v93 : BitVec 32 := Scalar.subi v90 v92
  let c4_i32_36 : BitVec 32 := 4#32
  let c0_i32_39 : BitVec 32 := 0#32
  let v94 : BitVec 1 := Scalar.cmpi .sgt c4_i32_36 c0_i32_39
  let v95 : BitVec 32 := Scalar.extui v94
  let c0_i32_40 : BitVec 32 := 0#32
  let v96 : BitVec 1 := Scalar.cmpi .slt c4_i32_36 c0_i32_40
  let v97 : BitVec 32 := Scalar.extui v96
  let v98 : BitVec 32 := Scalar.subi v95 v97
  let v99 : BitVec 1 := Scalar.cmpi .ne v93 v98
  let v100 : BitVec 32 := Scalar.remsi v62 c4_i32_36
  let c0_i32_41 : BitVec 32 := 0#32
  let v101 : BitVec 1 := Scalar.cmpi .ne v100 c0_i32_41
  let v102 : BitVec 1 := Scalar.andi v99 v101
  let v88 : BitVec 32 := Scalar.divsi v62 c4_i32_36
  let c1_i32_42 : BitVec 32 := 1#32
  let v103 : BitVec 32 := Scalar.subi v88 c1_i32_42
  let v104 : BitVec 32 := Scalar.select v102 v103 v88
  let c4_i32_43 : BitVec 32 := 4#32
  let v105 : BitVec 32 := Scalar.muli v104 c4_i32_43
  let v106 : BitVec 32 := Scalar.addi v87 v105
  let c16_i32 : BitVec 32 := 16#32
  let v107 : BitVec 32 := Scalar.subi c16_i32 v106
  let c1_i32_44 : BitVec 32 := 1#32
  let v109 : BitVec 32 := Scalar.divsi v107 c1_i32_44
  let v110 : BitVec 32 := Scalar.muli v109 c1_i32_44
  let v111 : BitVec 32 := Scalar.addi v106 v110
  let c1_i32_46 : BitVec 32 := 1#32
  let arg9 : BitVec 32 := Scf.iv v111 c1_i32_46 k0_t4
  let c512_i32_52 : BitVec 32 := 512#32
  let v120 : BitVec 32 := Scalar.muli arg9 c512_i32_52
  let v121 : BitVec 32 := v120
  let v122 : Index := Scalar.indexCast v121
  let c0_53 : Index := 0#32
  ![v122.toNat, 0]
def k0_off14 (i : grid0.Coords) (k0_t4 : Fin (k0_t4_loop i).trips) : Fin 4 → Nat :=
  let c0_56 : Index := 0#32
  let arg1 : BitVec 32 := BitVec.ofNat 32 (i 1).val
  let c1_i32_35 : BitVec 32 := 1#32
  let v87 : BitVec 32 := Scalar.addi arg1 c1_i32_35
  let c15_i32 : BitVec 32 := 15#32
  let v62 : BitVec 32 := Scalar.subi c15_i32 arg1
  let c0_i32_37 : BitVec 32 := 0#32
  let v89 : BitVec 1 := Scalar.cmpi .sgt v62 c0_i32_37
  let v90 : BitVec 32 := Scalar.extui v89
  let c0_i32_38 : BitVec 32 := 0#32
  let v91 : BitVec 1 := Scalar.cmpi .slt v62 c0_i32_38
  let v92 : BitVec 32 := Scalar.extui v91
  let v93 : BitVec 32 := Scalar.subi v90 v92
  let c4_i32_36 : BitVec 32 := 4#32
  let c0_i32_39 : BitVec 32 := 0#32
  let v94 : BitVec 1 := Scalar.cmpi .sgt c4_i32_36 c0_i32_39
  let v95 : BitVec 32 := Scalar.extui v94
  let c0_i32_40 : BitVec 32 := 0#32
  let v96 : BitVec 1 := Scalar.cmpi .slt c4_i32_36 c0_i32_40
  let v97 : BitVec 32 := Scalar.extui v96
  let v98 : BitVec 32 := Scalar.subi v95 v97
  let v99 : BitVec 1 := Scalar.cmpi .ne v93 v98
  let v100 : BitVec 32 := Scalar.remsi v62 c4_i32_36
  let c0_i32_41 : BitVec 32 := 0#32
  let v101 : BitVec 1 := Scalar.cmpi .ne v100 c0_i32_41
  let v102 : BitVec 1 := Scalar.andi v99 v101
  let v88 : BitVec 32 := Scalar.divsi v62 c4_i32_36
  let c1_i32_42 : BitVec 32 := 1#32
  let v103 : BitVec 32 := Scalar.subi v88 c1_i32_42
  let v104 : BitVec 32 := Scalar.select v102 v103 v88
  let c4_i32_43 : BitVec 32 := 4#32
  let v105 : BitVec 32 := Scalar.muli v104 c4_i32_43
  let v106 : BitVec 32 := Scalar.addi v87 v105
  let c16_i32 : BitVec 32 := 16#32
  let v107 : BitVec 32 := Scalar.subi c16_i32 v106
  let c1_i32_44 : BitVec 32 := 1#32
  let v109 : BitVec 32 := Scalar.divsi v107 c1_i32_44
  let v110 : BitVec 32 := Scalar.muli v109 c1_i32_44
  let v111 : BitVec 32 := Scalar.addi v106 v110
  let c1_i32_46 : BitVec 32 := 1#32
  let arg9 : BitVec 32 := Scf.iv v111 c1_i32_46 k0_t4
  let v129 : Index := Scalar.indexCast arg9
  let c0_57 : Index := 0#32
  let c0_58 : Index := 0#32
  ![0, v129.toNat, 0, 0]
def k0_off15 (i : grid0.Coords) (k0_t4 : Fin (k0_t4_loop i).trips) : Fin 4 → Nat :=
  let c0_66 : Index := 0#32
  let arg1 : BitVec 32 := BitVec.ofNat 32 (i 1).val
  let c1_i32_35 : BitVec 32 := 1#32
  let v87 : BitVec 32 := Scalar.addi arg1 c1_i32_35
  let c15_i32 : BitVec 32 := 15#32
  let v62 : BitVec 32 := Scalar.subi c15_i32 arg1
  let c0_i32_37 : BitVec 32 := 0#32
  let v89 : BitVec 1 := Scalar.cmpi .sgt v62 c0_i32_37
  let v90 : BitVec 32 := Scalar.extui v89
  let c0_i32_38 : BitVec 32 := 0#32
  let v91 : BitVec 1 := Scalar.cmpi .slt v62 c0_i32_38
  let v92 : BitVec 32 := Scalar.extui v91
  let v93 : BitVec 32 := Scalar.subi v90 v92
  let c4_i32_36 : BitVec 32 := 4#32
  let c0_i32_39 : BitVec 32 := 0#32
  let v94 : BitVec 1 := Scalar.cmpi .sgt c4_i32_36 c0_i32_39
  let v95 : BitVec 32 := Scalar.extui v94
  let c0_i32_40 : BitVec 32 := 0#32
  let v96 : BitVec 1 := Scalar.cmpi .slt c4_i32_36 c0_i32_40
  let v97 : BitVec 32 := Scalar.extui v96
  let v98 : BitVec 32 := Scalar.subi v95 v97
  let v99 : BitVec 1 := Scalar.cmpi .ne v93 v98
  let v100 : BitVec 32 := Scalar.remsi v62 c4_i32_36
  let c0_i32_41 : BitVec 32 := 0#32
  let v101 : BitVec 1 := Scalar.cmpi .ne v100 c0_i32_41
  let v102 : BitVec 1 := Scalar.andi v99 v101
  let v88 : BitVec 32 := Scalar.divsi v62 c4_i32_36
  let c1_i32_42 : BitVec 32 := 1#32
  let v103 : BitVec 32 := Scalar.subi v88 c1_i32_42
  let v104 : BitVec 32 := Scalar.select v102 v103 v88
  let c4_i32_43 : BitVec 32 := 4#32
  let v105 : BitVec 32 := Scalar.muli v104 c4_i32_43
  let v106 : BitVec 32 := Scalar.addi v87 v105
  let c16_i32 : BitVec 32 := 16#32
  let v107 : BitVec 32 := Scalar.subi c16_i32 v106
  let c1_i32_44 : BitVec 32 := 1#32
  let v109 : BitVec 32 := Scalar.divsi v107 c1_i32_44
  let v110 : BitVec 32 := Scalar.muli v109 c1_i32_44
  let v111 : BitVec 32 := Scalar.addi v106 v110
  let c1_i32_46 : BitVec 32 := 1#32
  let arg9 : BitVec 32 := Scf.iv v111 c1_i32_46 k0_t4
  let v150 : Index := Scalar.indexCast arg9
  let c0_67 : Index := 0#32
  let c0_68 : Index := 0#32
  ![0, v150.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x16x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnBwdIdeal.lean ====
variable {F : FTy → Type} [FloatOps F] [Named F]
def κ : String → Option EReal := fun
  | "l2l2" => some (((Real.log (Real.log 2)) * (Real.log 2)⁻¹ : ℝ) : EReal)
  | "log2e" => some (((Real.log 2)⁻¹ : ℝ) : EReal)
  | _ => none
-- ==== AttnRefIdeal.lean ====
abbrev S8192x8x96 : Shape := ⟨3, ![8192, 8, 96]⟩
abbrev S8192x8x64 : Shape := ⟨3, ![8192, 8, 64]⟩
abbrev S8192x512 : Shape := ⟨2, ![8192, 512]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x64x8192 : Shape := ⟨3, ![8, 64, 8192]⟩
abbrev S8x8192x96 : Shape := ⟨3, ![8, 8192, 96]⟩
abbrev S8192x8x128 : Shape := ⟨3, ![8192, 8, 128]⟩
abbrev S16x512x8x128 : Shape := ⟨4, ![16, 512, 8, 128]⟩
abbrev S8x16x128x512 : Shape := ⟨4, ![8, 16, 128, 512]⟩
abbrev S8192x8x256 : Shape := ⟨3, ![8192, 8, 256]⟩
abbrev S8192x2048 : Shape := ⟨2, ![8192, 2048]⟩

abbrev nBuf : Space → Nat
  | .hbm => 114
  | .vmem => 0
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S8192x512, .f32⟩
  | .hbm, ⟨4, _⟩ => ⟨S8x8192x8192, .f32⟩
  | .hbm, ⟨5, _⟩ => ⟨S_, .f32⟩
  | .hbm, ⟨6, _⟩ => ⟨S8x8192x8192, .f32⟩
  | .hbm, ⟨7, _⟩ => ⟨S8x8192x8192, .f32⟩
  | .hbm, ⟨8, _⟩ => ⟨S8192, .i32⟩
  | .hbm, ⟨9, _⟩ => ⟨S1x8192, .i32⟩
  | .hbm, ⟨10, _⟩ => ⟨S8192, .i32⟩
  | .hbm, ⟨11, _⟩ => ⟨S8192x1, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S1x8192x8192, .i1⟩
  | .hbm, ⟨16, _⟩ => ⟨S_, .f32⟩
  | .hbm, ⟨17, _⟩ => ⟨S_, .f32⟩
  | .hbm, ⟨18, _⟩ => ⟨S8x8192x8192, .i1⟩
  | .hbm, ⟨19, _⟩ => ⟨S8x8192x8192, .f32⟩
  | .hbm, ⟨20, _⟩ => ⟨S8x8192x8192, .f32⟩
  | .hbm, ⟨21, _⟩ => ⟨S_, .f32⟩
  | .hbm, ⟨22, _⟩ => ⟨S8x8192x8192, .f32⟩
  | .hbm, ⟨23, _⟩ => ⟨S_, .f32⟩
  | .hbm, ⟨24, _⟩ => ⟨S8x8192, .f32⟩
  | .hbm, ⟨25, _⟩ => ⟨S8x8192x1, .f32⟩
  | .hbm, ⟨26, _⟩ => ⟨S8x8192x8192, .f32⟩
  | .hbm, ⟨27, _⟩ => ⟨S8x8192x8192, .i1⟩
  | .hbm, ⟨28, _⟩ => ⟨S8x8192x8192, .f32⟩
  | .hbm, ⟨29, _⟩ => ⟨S_, .f32⟩
  | .hbm, ⟨30, _⟩ => ⟨S8x8192, .f32⟩
  | .hbm, ⟨31, _⟩ => ⟨S_, .f32⟩
  | .hbm, ⟨32, _⟩ => ⟨S8x8192, .f32⟩
  | .hbm, ⟨33, _⟩ => ⟨S8x8192, .f32⟩
  | .hbm, ⟨34, _⟩ => ⟨S_, .f32⟩
  | .hbm, ⟨35, _⟩ => ⟨S8x8192, .f32⟩
  | .hbm, ⟨36, _⟩ => ⟨S8x8192, .i1⟩
  | .hbm, ⟨37, _⟩ => ⟨S_, .f32⟩
  | .hbm, ⟨38, _⟩ => ⟨S8x8192, .f32⟩
  | .hbm, ⟨39, _⟩ => ⟨S8x8192, .i1⟩
  | .hbm, ⟨40, _⟩ => ⟨S_, .f32⟩
  | .hbm, ⟨41, _⟩ => ⟨S8x8192, .f32⟩
  | .hbm, ⟨42, _⟩ => ⟨S_, .f32⟩
  | .hbm, ⟨43, _⟩ => ⟨S8x8192, .f32⟩
  | .hbm, ⟨44, _⟩ => ⟨S_, .f32⟩
  | .hbm, ⟨45, _⟩ => ⟨S8x8192, .f32⟩
  | .hbm, ⟨46, _⟩ => ⟨S8x8192, .f32⟩
  | .hbm, ⟨47, _⟩ => ⟨S8x8192, .f32⟩
  | .hbm, ⟨48, _⟩ => ⟨S8x8192x1, .f32⟩
  | .hbm, ⟨49, _⟩ => ⟨S8x8192x8192, .f32⟩
  | .hbm, ⟨50, _⟩ => ⟨S8x8192x8192, .f32⟩
  | .hbm, ⟨51, _⟩ => ⟨S8x8192x8192, .f32⟩
  | .hbm, ⟨52, _⟩ => ⟨S_, .f32⟩
  | .hbm, ⟨53, _⟩ => ⟨S8x8192, .f32⟩
  | .hbm, ⟨54, _⟩ => ⟨S8x8192x1, .f32⟩
  | .hbm, ⟨55, _⟩ => ⟨S8x8192x8192, .f32⟩
  | .hbm, ⟨56, _⟩ => ⟨S8x8192x8192, .f32⟩
  | .hbm, ⟨57, _⟩ => ⟨S8x8192x1, .f32⟩
  | .hbm, ⟨58, _⟩ => ⟨S_, .f32⟩
  | .hbm, ⟨59, _⟩ => ⟨S8x8192x1, .f32⟩
  | .hbm, ⟨60, _⟩ => ⟨S8x8192x1, .f32⟩
  | .hbm, ⟨61, _⟩ => ⟨S8x64x8192, .f32⟩
  | .hbm, ⟨62, _⟩ => ⟨S8192x8x64, .f32⟩
  | .hbm, ⟨63, _⟩ => ⟨S8192x512, .f32⟩
  | .hbm, ⟨64, _⟩ => ⟨S8192x8x64, .f32⟩
  | .hbm, ⟨65, _⟩ => ⟨S8x64x8192, .f32⟩
  | .hbm, ⟨66, _⟩ => ⟨S8x8192x8192, .f32⟩
  | .hbm, ⟨67, _⟩ => ⟨S8x64x8192, .f32⟩
  | .hbm, ⟨68, _⟩ => ⟨S8192x8x64, .f32⟩
  | .hbm, ⟨69, _⟩ => ⟨S8x8192x8192, .f32⟩
  | .hbm, ⟨70, _⟩ => ⟨S8x8192x8192, .f32⟩
  | .hbm, ⟨71, _⟩ => ⟨S8x8192x8192, .f32⟩
  | .hbm, ⟨72, _⟩ => ⟨S_, .f32⟩
  | .hbm, ⟨73, _⟩ => ⟨S8x8192, .f32⟩
  | .hbm, ⟨74, _⟩ => ⟨S8x8192x1, .f32⟩
  | .hbm, ⟨75, _⟩ => ⟨S8x8192x1, .f32⟩
  | .hbm, ⟨76, _⟩ => ⟨S8x8192x8192, .f32⟩
  | .hbm, ⟨77, _⟩ => ⟨S8x8192x8192, .f32⟩
  | .hbm, ⟨78, _⟩ => ⟨S_, .f32⟩
  | .hbm, ⟨79, _⟩ => ⟨S8x8192, .f32⟩
  | .hbm, ⟨80, _⟩ => ⟨S8x8192x8192, .f32⟩
  | .hbm, ⟨81, _⟩ => ⟨S8x8192x8192, .f32⟩
  | .hbm, ⟨82, _⟩ => ⟨S8x8192x8192, .f32⟩
  | .hbm, ⟨83, _⟩ => ⟨S_, .f32⟩
  | .hbm, ⟨84, _⟩ => ⟨S8x8192x8192, .f32⟩
  | .hbm, ⟨85, _⟩ => ⟨S8x8192x8192, .f32⟩
  | .hbm, ⟨86, _⟩ => ⟨S_, .f32⟩
  | .hbm, ⟨87, _⟩ => ⟨S8x8192x8192, .f32⟩
  | .hbm, ⟨88, _⟩ => ⟨S8x8192x8192, .f32⟩
  | .hbm, ⟨89, _⟩ => ⟨S8x8192x96, .f32⟩
  | .hbm, ⟨90, _⟩ => ⟨S8192x8x96, .f32⟩
  | .hbm, ⟨91, _⟩ => ⟨S8x8192x96, .f32⟩
  | .hbm, ⟨92, _⟩ => ⟨S8192x8x96, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S8192x8x96, .f32⟩
  | .hbm, ⟨99, _⟩ => ⟨S8192x8x96, .f32⟩
  | .hbm, ⟨100, _⟩ => ⟨S_, .i32⟩
  | .hbm, ⟨101, _⟩ => ⟨S_, .f32⟩
  | .hbm, ⟨102, _⟩ => ⟨S8192x8x128, .f32⟩
  | .hbm, ⟨103, _⟩ => ⟨S16x512x8x128, .f32⟩
  | .hbm, ⟨104, _⟩ => ⟨S8x16x128x512, .f32⟩
  | .hbm, ⟨105, _⟩ => ⟨S_, .i32⟩
  | .hbm, ⟨106, _⟩ => ⟨S_, .f32⟩
  | .hbm, ⟨107, _⟩ => ⟨S8192x8x128, .f32⟩
  | .hbm, ⟨108, _⟩ => ⟨S_, .i32⟩
  | .hbm, ⟨109, _⟩ => ⟨S_, .f32⟩
  | .hbm, ⟨110, _⟩ => ⟨S8192x8x128, .f32⟩
  | .hbm, ⟨111, _⟩ => ⟨S8192x8x256, .f32⟩
  | .hbm, ⟨112, _⟩ => ⟨S8192x2048, .f32⟩
  | .hbm, ⟨113, _⟩ => ⟨S8192x2048, .bf16⟩
  | _, _ => ⟨S8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_call0_v0 : Ref sig .tc := ⟨.hbm, 17, rfl⟩
abbrev main_v11_1 : Ref sig .tc := ⟨.hbm, 18, rfl⟩
abbrev main_call0_v2 : Ref sig .tc := ⟨.hbm, 19, rfl⟩
abbrev main_v11_0 : Ref sig .tc := ⟨.hbm, 20, rfl⟩
abbrev main_call0_cst : Ref sig .tc := ⟨.hbm, 21, rfl⟩
abbrev main_v11_2 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_9 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_10 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_12 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_call1_cst : Ref sig .tc := ⟨.hbm, 83, rfl⟩
abbrev main_call1_v0 : Ref sig .tc := ⟨.hbm, 84, rfl⟩
abbrev main_v60 : Ref sig .tc := ⟨.hbm, 85, rfl⟩
abbrev main_cst_13 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_14 : Ref sig .tc := ⟨.hbm, 93, rfl⟩
abbrev main_v67 : Ref sig .tc := ⟨.hbm, 94, rfl⟩
abbrev main_cst_15 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c : Ref sig .tc := ⟨.hbm, 100, rfl⟩
abbrev main_call2_v0 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_c_16 : Ref sig .tc := ⟨.hbm, 105, rfl⟩
abbrev main_call3_v0 : Ref sig .tc := ⟨.hbm, 106, rfl⟩
abbrev main_v75 : Ref sig .tc := ⟨.hbm, 107, rfl⟩
abbrev main_c_17 : Ref sig .tc := ⟨.hbm, 108, rfl⟩
abbrev main_call4_v0 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩

abbrev nD : Nat := 1
abbrev τ : Topo := Topo.v7x

variable {F : FTy → Type} [FloatOps F]

def κ : String → Option EReal := fun
  | "l2l2" => some (((Real.log (Real.log 2)) * (Real.log 2)⁻¹ : ℝ) : EReal)
  | "log2e" => some (((Real.log 2)⁻¹ : ℝ) : EReal)
  | _ => none
-- ==== QropeBwd.lean ====
abbrev S8192x768 : Shape := ⟨2, ![8192, 768]⟩
abbrev S8192 : Shape := ⟨1, ![8192]⟩
abbrev S8192x8x96 : Shape := ⟨3, ![8192, 8, 96]⟩
abbrev S_ : Shape := ⟨0, ![]⟩
abbrev S8192x8x128 : Shape := ⟨3, ![8192, 8, 128]⟩
abbrev S16x512x8x128 : Shape := ⟨4, ![16, 512, 8, 128]⟩
abbrev S8x16x128x512 : Shape := ⟨4, ![8, 16, 128, 512]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x96 : Shape := ⟨2, ![8192, 96]⟩
abbrev S8192x128 : Shape := ⟨2, ![8192, 128]⟩
abbrev S8192x64 : Shape := ⟨2, ![8192, 64]⟩
abbrev S8192x32 : Shape := ⟨2, ![8192, 32]⟩
abbrev S8192x2048 : Shape := ⟨2, ![8192, 2048]⟩
abbrev S8x1x128x512 : Shape := ⟨4, ![8, 1, 128, 512]⟩
abbrev S512x128 : Shape := ⟨2, ![512, 128]⟩
abbrev S512x2048 : Shape := ⟨2, ![512, 2048]⟩
abbrev S1x1x128x512 : Shape := ⟨4, ![1, 1, 128, 512]⟩
abbrev S128x512 : Shape := ⟨2, ![128, 512]⟩
abbrev S8192x2x8x128 : Shape := ⟨4, ![8192, 2, 8, 128]⟩
abbrev S8192x1x8x128 : Shape := ⟨4, ![8192, 1, 8, 128]⟩
abbrev S8192x8x64 : Shape := ⟨3, ![8192, 8, 64]⟩
abbrev S8192x8x16 : Shape := ⟨3, ![8192, 8, 16]⟩

abbrev nBuf : Space → Nat
  | .hbm => 67
  | .vmem => 8
  | .smem => 0
  | _ => 0

abbrev bufTy : (tb : Table) → Fin (tcTables nBuf tb) → BufTy
  | .hbm, ⟨0, _⟩ => ⟨S8192x768, .f32⟩
  | .hbm, ⟨1, _⟩ => ⟨S8192, .i32⟩
  | .hbm, ⟨2, _⟩ => ⟨S8192x8x96, .f32⟩
  | .hbm, ⟨3, _⟩ => ⟨S_, .i32⟩
  | .hbm, ⟨4, _⟩ => ⟨S_, .f32⟩
  | .hbm, ⟨5, _⟩ => ⟨S8192x8x128, .f32⟩
  | .hbm, ⟨6, _⟩ => ⟨S16x512x8x128, .f32⟩
  | .hbm, ⟨7, _⟩ => ⟨S8x16x128x512, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S8192, .f32⟩
  | .hbm, ⟨20, _⟩ => ⟨S8192x1, .f32⟩
  | .hbm, ⟨21, _⟩ => ⟨S1x16, .f32⟩
  | .hbm, ⟨22, _⟩ => ⟨S8192x16, .f32⟩
  | .hbm, ⟨23, _⟩ => ⟨S8192x16, .f32⟩
  | .hbm, ⟨24, _⟩ => ⟨S8192x16, .f32⟩
  | .hbm, ⟨25, _⟩ => ⟨S8192x16, .f32⟩
  | .hbm, ⟨26, _⟩ => ⟨S8192x16, .f32⟩
  | .hbm, ⟨27, _⟩ => ⟨S_, .f32⟩
  | .hbm, ⟨28, _⟩ => ⟨S8192x96, .f32⟩
  | .hbm, ⟨29, _⟩ => ⟨S8192x128, .f32⟩
  | .hbm, ⟨30, _⟩ => ⟨S8192x16, .f32⟩
  | .hbm, ⟨31, _⟩ => ⟨S_, .f32⟩
  | .hbm, ⟨32, _⟩ => ⟨S8192x96, .f32⟩
  | .hbm, ⟨33, _⟩ => ⟨S8192x128, .f32⟩
  | .hbm, ⟨34, _⟩ => ⟨S_, .f32⟩
  | .hbm, ⟨35, _⟩ => ⟨S8192x64, .f32⟩
  | .hbm, ⟨36, _⟩ => ⟨S_, .f32⟩
  | .hbm, ⟨37, _⟩ => ⟨S8192x32, .f32⟩
  | .hbm, ⟨38, _⟩ => ⟨S8192x128, .f32⟩
  | .hbm, ⟨39, _⟩ => ⟨S_, .f32⟩
  | .hbm, ⟨40, _⟩ => ⟨S8192x64, .f32⟩
  | .hbm, ⟨41, _⟩ => ⟨S8192x16, .f32⟩
  | .hbm, ⟨42, _⟩ => ⟨S_, .f32⟩
  | .hbm, ⟨43, _⟩ => ⟨S8192x32, .f32⟩
  | .hbm, ⟨44, _⟩ => ⟨S8192x128, .f32⟩
  | .hbm, ⟨45, _⟩ => ⟨S_, .f32⟩
  | .hbm, ⟨46, _⟩ => ⟨S8192x128, .f32⟩
  | .hbm, ⟨47, _⟩ => ⟨S8192x128, .f32⟩
  | .hbm, ⟨48, _⟩ => ⟨S_, .f32⟩
  | .hbm, ⟨49, _⟩ => ⟨S8192x128, .f32⟩
  | .hbm, ⟨50, _⟩ => ⟨S8192x128, .f32⟩
  | .hbm, ⟨51, _⟩ => ⟨S8192x2048, .bf16⟩
  | .hbm, ⟨52, _⟩ => ⟨S8192x2048, .f32⟩
  | .hbm, ⟨53, _⟩ => ⟨S8192x2x8x128, .f32⟩
  | .hbm, ⟨54, _⟩ => ⟨S8192x1x8x128, .f32⟩
  | .hbm, ⟨55, _⟩ => ⟨S8192x8x128, .f32⟩
  | .hbm, ⟨56, _⟩ => ⟨S8192x1x8x128, .f32⟩
  | .hbm, ⟨57, _⟩ => ⟨S8192x8x128, .f32⟩
  | .hbm, ⟨58, _⟩ => ⟨S8192x8x64, .f32⟩
  | .hbm, ⟨59, _⟩ => ⟨S8192x8x16, .f32⟩
  | .hbm, ⟨60, _⟩ => ⟨S8192x8x16, .f32⟩
  | .hbm, ⟨61, _⟩ => ⟨S8192x8x16, .f32⟩
  | .hbm, ⟨62, _⟩ => ⟨S8192x8x16, .f32⟩
  | .hbm, ⟨63, _⟩ => ⟨S8192x8x16, .f32⟩
  | .hbm, ⟨64, _⟩ => ⟨S8192x8x16, .f32⟩
  | .hbm, ⟨65, _⟩ => ⟨S8192x8x96, .f32⟩
  | .hbm, ⟨66, _⟩ => ⟨S8192x768, .f32⟩
  | .local _ .vmem, ⟨0, _⟩ => ⟨S8x1x128x512, .f32⟩
  | .local _ .vmem, ⟨1, _⟩ => ⟨S8x1x128x512, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x2048, .bf16⟩
  | .local _ .vmem, ⟨7, _⟩ => ⟨S512x2048, .bf16⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_cst_9 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== QropeRefIdeal.lean ====
abbrev S8192x768 : Shape := ⟨2, ![8192, 768]⟩
abbrev S8192 : Shape := ⟨1, ![8192]⟩
abbrev S8192x8x96 : Shape := ⟨3, ![8192, 8, 96]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x1x16 : Shape := ⟨3, ![8192, 1, 16]⟩
abbrev S8192x8x64 : Shape := ⟨3, ![8192, 8, 64]⟩
abbrev S8192x8x32 : Shape := ⟨3, ![8192, 8, 32]⟩
abbrev S8192x8x16 : Shape := ⟨3, ![8192, 8, 16]⟩

abbrev nBuf : Space → Nat
  | .hbm => 73
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192, .i32⟩
  | .hbm, ⟨2, _⟩ => ⟨S8192x8x96, .f32⟩
  | .hbm, ⟨3, _⟩ => ⟨S16, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S8192, .f32⟩
  | .hbm, ⟨15, _⟩ => ⟨S8192x1, .f32⟩
  | .hbm, ⟨16, _⟩ => ⟨S1x16, .f32⟩
  | .hbm, ⟨17, _⟩ => ⟨S8192x16, .f32⟩
  | .hbm, ⟨18, _⟩ => ⟨S8192x16, .f32⟩
  | .hbm, ⟨19, _⟩ => ⟨S8192x16, .f32⟩
  | .hbm, ⟨20, _⟩ => ⟨S8192x16, .f32⟩
  | .hbm, ⟨21, _⟩ => ⟨S8192x1x16, .f32⟩
  | .hbm, ⟨22, _⟩ => ⟨S8192x16, .f32⟩
  | .hbm, ⟨23, _⟩ => ⟨S8192x1x16, .f32⟩
  | .hbm, ⟨24, _⟩ => ⟨S8192x8x96, .f32⟩
  | .hbm, ⟨25, _⟩ => ⟨S8192x8x64, .f32⟩
  | .hbm, ⟨26, _⟩ => ⟨S8192x8x32, .f32⟩
  | .hbm, ⟨27, _⟩ => ⟨S8192x8x16, .f32⟩
  | .hbm, ⟨28, _⟩ => ⟨S8192x8x16, .f32⟩
  | .hbm, ⟨29, _⟩ => ⟨S8192x8x16, .f32⟩
  | .hbm, ⟨30, _⟩ => ⟨S8192x8x16, .f32⟩
  | .hbm, ⟨31, _⟩ => ⟨S8192x8x16, .f32⟩
  | .hbm, ⟨32, _⟩ => ⟨S8192x8x16, .f32⟩
  | .hbm, ⟨33, _⟩ => ⟨S8192x8x16, .f32⟩
  | .hbm, ⟨34, _⟩ => ⟨S8192x8x16, .f32⟩
  | .hbm, ⟨35, _⟩ => ⟨S8192x8x16, .f32⟩
  | .hbm, ⟨36, _⟩ => ⟨S8192x8x16, .f32⟩
  | .hbm, ⟨37, _⟩ => ⟨S8192x8x16, .f32⟩
  | .hbm, ⟨38, _⟩ => ⟨S8192x8x16, .f32⟩
  | .hbm, ⟨39, _⟩ => ⟨S8192x8x32, .f32⟩
  | .hbm, ⟨40, _⟩ => ⟨S8192x8x96, .f32⟩
  | .hbm, ⟨41, _⟩ => ⟨S_, .f32⟩
  | .hbm, ⟨42, _⟩ => ⟨S8192x8x96, .f32⟩
  | .hbm, ⟨43, _⟩ => ⟨S8192x8x96, .f32⟩
  | .hbm, ⟨44, _⟩ => ⟨S_, .f32⟩
  | .hbm, ⟨45, _⟩ => ⟨S8192x8x96, .f32⟩
  | .hbm, ⟨46, _⟩ => ⟨S8192x8x96, .f32⟩
  | .hbm, ⟨47, _⟩ => ⟨S8192x8x64, .f32⟩
  | .hbm, ⟨48, _⟩ => ⟨S8192x8x32, .f32⟩
  | .hbm, ⟨49, _⟩ => ⟨S8192x8x16, .f32⟩
  | .hbm, ⟨50, _⟩ => ⟨S8192x8x16, .f32⟩
  | .hbm, ⟨51, _⟩ => ⟨S8192x8x16, .f32⟩
  | .hbm, ⟨52, _⟩ => ⟨S8192x8x16, .f32⟩
  | .hbm, ⟨53, _⟩ => ⟨S8192x8x16, .f32⟩
  | .hbm, ⟨54, _⟩ => ⟨S8192x8x16, .f32⟩
  | .hbm, ⟨55, _⟩ => ⟨S8192x8x16, .f32⟩
  | .hbm, ⟨56, _⟩ => ⟨S8192x8x16, .f32⟩
  | .hbm, ⟨57, _⟩ => ⟨S8192x8x16, .f32⟩
  | .hbm, ⟨58, _⟩ => ⟨S8192x8x16, .f32⟩
  | .hbm, ⟨59, _⟩ => ⟨S8192x8x16, .f32⟩
  | .hbm, ⟨60, _⟩ => ⟨S8192x8x16, .f32⟩
  | .hbm, ⟨61, _⟩ => ⟨S8192x8x16, .f32⟩
  | .hbm, ⟨62, _⟩ => ⟨S_, .f32⟩
  | .hbm, ⟨63, _⟩ => ⟨S8192x8x32, .f32⟩
  | .hbm, ⟨64, _⟩ => ⟨S_, .f32⟩
  | .hbm, ⟨65, _⟩ => ⟨S8192x8x32, .f32⟩
  | .hbm, ⟨66, _⟩ => ⟨S8192x8x32, .f32⟩
  | .hbm, ⟨67, _⟩ => ⟨S_, .f32⟩
  | .hbm, ⟨68, _⟩ => ⟨S8192x8x96, .f32⟩
  | .hbm, ⟨69, _⟩ => ⟨S_, .f32⟩
  | .hbm, ⟨70, _⟩ => ⟨S8192x8x96, .f32⟩
  | .hbm, ⟨71, _⟩ => ⟨S8192x8x96, .f32⟩
  | .hbm, ⟨72, _⟩ => ⟨S8192x768, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_cst_4 : Ref sig .tc := ⟨.hbm, 62, rfl⟩
abbrev main_v54 : Ref sig .tc := ⟨.hbm, 63, rfl⟩
abbrev main_cst_5 : Ref sig .tc := ⟨.hbm, 64, rfl⟩
abbrev main_v55 : Ref sig .tc := ⟨.hbm, 65, rfl⟩
abbrev main_v56 : Ref sig .tc := ⟨.hbm, 66, rfl⟩
abbrev main_cst_6 : Ref sig .tc := ⟨.hbm, 67, rfl⟩
abbrev main_v57 : Ref sig .tc := ⟨.hbm, 68, rfl⟩
abbrev main_cst_7 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩

abbrev nD : Nat := 1
abbrev τ : Topo := Topo.v7x

variable {F : FTy → Type} [FloatOps F]
-- ==== MemqBwd.lean ====
abbrev S8192x1024 : Shape := ⟨2, ![8192, 1024]⟩
abbrev S1024 : Shape := ⟨1, ![1024]⟩
abbrev S1024x1024 : Shape := ⟨2, ![1024, 1024]⟩
abbrev S1x1024 : Shape := ⟨2, ![1, 1024]⟩
abbrev S1024x1 : Shape := ⟨2, ![1024, 1]⟩

abbrev nBuf : Space → Nat
  | .hbm => 11
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | .hbm, ⟨6, _⟩ => ⟨S1024x1024, .bf16⟩
  | .hbm, ⟨7, _⟩ => ⟨S1x1024, .f32⟩
  | .hbm, ⟨8, _⟩ => ⟨S8192x1024, .f32⟩
  | .hbm, ⟨9, _⟩ => ⟨S8192x1024, .bf16⟩
  | .hbm, ⟨10, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== MemqRefIdeal.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .bf16⟩
  | .hbm, ⟨54, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== LossBwd.lean ====
abbrev S8192x1024 : Shape := ⟨2, ![8192, 1024]⟩
abbrev S1024 : Shape := ⟨1, ![1024]⟩
abbrev S1x1024 : Shape := ⟨2, ![1, 1024]⟩
abbrev S1x128 : Shape := ⟨2, ![1, 128]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1x1x1 : Shape := ⟨3, ![1, 1, 1]⟩

abbrev nBuf : Space → Nat
  | .hbm => 8
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1x1024, .f32⟩
  | .hbm, ⟨4, _⟩ => ⟨S1x128, .f32⟩
  | .hbm, ⟨5, _⟩ => ⟨S8192x1024, .f32⟩
  | .hbm, ⟨6, _⟩ => ⟨S8192x1024, .bf16⟩
  | .hbm, ⟨7, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x128, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S1x128, .f32⟩
  | .hbm, ⟨72, _⟩ => ⟨S8192x1024, .bf16⟩
  | .hbm, ⟨73, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== MlpupBwd.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S4096x1024 : Shape := ⟨2, ![4096, 1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 12
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S8192x4096, .f32⟩
  | .hbm, ⟨4, _⟩ => ⟨S8192x1024, .f32⟩
  | .hbm, ⟨5, _⟩ => ⟨S8192x4096, .bf16⟩
  | .hbm, ⟨6, _⟩ => ⟨S4096x1024, .f32⟩
  | .hbm, ⟨7, _⟩ => ⟨S4096x1024, .bf16⟩
  | .hbm, ⟨8, _⟩ => ⟨S1x1024, .f32⟩
  | .hbm, ⟨9, _⟩ => ⟨S8192x1024, .f32⟩
  | .hbm, ⟨10, _⟩ => ⟨S8192x1024, .bf16⟩
  | .hbm, ⟨11, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v7 : BitVec 1 := Scalar.cmpi .eq arg2 c3_i32
  let v8 : BitVec 32 := Scalar.extui v7
  let c0_i32_4 : BitVec 32 := 0#32
  let v9 : BitVec 1 := Scalar.cmpi .ne v8 c0_i32_4
  v9

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let v52 : BitVec 32 := Scalar.extui v0
  let c0_i32_23 : BitVec 32 := 0#32
  let v53 : BitVec 1 := Scalar.cmpi .ne v52 c0_i32_23
  v53

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== MlpupRefIdeal.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S8192x4096, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x4096, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .bf16⟩
  | .hbm, ⟨54, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== MixBwd.lean ====
abbrev S8192x512 : Shape := ⟨2, ![8192, 512]⟩
abbrev S8192x256 : Shape := ⟨2, ![8192, 256]⟩
abbrev S8192x4 : Shape := ⟨2, ![8192, 4]⟩
abbrev S512 : Shape := ⟨1, ![512]⟩
abbrev S256 : Shape := ⟨1, ![256]⟩
abbrev S8192x1024 : Shape := ⟨2, ![8192, 1024]⟩
abbrev S_ : Shape := ⟨0, ![]⟩
abbrev S8192x124 : Shape := ⟨2, ![8192, 124]⟩
abbrev S8192x640 : Shape := ⟨2, ![8192, 640]⟩
abbrev S8x64 : Shape := ⟨2, ![8, 64]⟩
abbrev S8x128 : Shape := ⟨2, ![8, 128]⟩
abbrev S1x1024 : Shape := ⟨2, ![1, 1024]⟩
abbrev S8192x8x64 : Shape := ⟨3, ![8192, 8, 64]⟩
abbrev S8192x8x128 : Shape := ⟨3, ![8192, 8, 128]⟩
abbrev S8192x1536 : Shape := ⟨2, ![8192, 1536]⟩
abbrev S1x256 : Shape := ⟨2, ![1, 256]⟩
abbrev S256x1024 : Shape := ⟨2, ![256, 1024]⟩
abbrev S256x256 : Shape := ⟨2, ![256, 256]⟩
abbrev S256x640 : Shape := ⟨2, ![256, 640]⟩
abbrev S256x1536 : Shape := ⟨2, ![256, 1536]⟩
abbrev S256x1 : Shape := ⟨2, ![256, 1]⟩
abbrev S256x512 : Shape := ⟨2, ![256, 512]⟩
abbrev S256x128 : Shape := ⟨2, ![256, 128]⟩
abbrev S1024 : Shape := ⟨1, ![1024]⟩
abbrev S1x512 : Shape := ⟨2, ![1, 512]⟩

abbrev nBuf : Space → Nat
  | .hbm => 45
  | .vmem => 22
  | .smem => 0
  | _ => 0

abbrev bufTy : (tb : Table) → Fin (tcTables nBuf tb) → BufTy
  | .hbm, ⟨0, _⟩ => ⟨S8192x512, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S8192x4, .f32⟩
  | .hbm, ⟨6, _⟩ => ⟨S512, .f32⟩
  | .hbm, ⟨7, _⟩ => ⟨S256, .f32⟩
  | .hbm, ⟨8, _⟩ => ⟨S8192x1024, .f32⟩
  | .hbm, ⟨9, _⟩ => ⟨S_, .f32⟩
  | .hbm, ⟨10, _⟩ => ⟨S8192x124, .f32⟩
  | .hbm, ⟨11, _⟩ => ⟨S8192x640, .f32⟩
  | .hbm, ⟨12, _⟩ => ⟨S8x64, .f32⟩
  | .hbm, ⟨13, _⟩ => ⟨S_, .i32⟩
  | .hbm, ⟨14, _⟩ => ⟨S_, .f32⟩
  | .hbm, ⟨15, _⟩ => ⟨S8x128, .f32⟩
  | .hbm, ⟨16, _⟩ => ⟨S1x1024, .f32⟩
  | .hbm, ⟨17, _⟩ => ⟨S8192x512, .f32⟩
  | .hbm, ⟨18, _⟩ => ⟨S8192x8x64, .f32⟩
  | .hbm, ⟨19, _⟩ => ⟨S_, .i32⟩
  | .hbm, ⟨20, _⟩ => ⟨S_, .f32⟩
  | .hbm, ⟨21, _⟩ => ⟨S8192x8x128, .f32⟩
  | .hbm, ⟨22, _⟩ => ⟨S8192x1024, .f32⟩
  | .hbm, ⟨23, _⟩ => ⟨S8192x512, .f32⟩
  | .hbm, ⟨24, _⟩ => ⟨S8192x1536, .f32⟩
  | .hbm, ⟨25, _⟩ => ⟨S8192x8x64, .f32⟩
  | .hbm, ⟨26, _⟩ => ⟨S_, .i32⟩
  | .hbm, ⟨27, _⟩ => ⟨S_, .f32⟩
  | .hbm, ⟨28, _⟩ => ⟨S8192x8x128, .f32⟩
  | .hbm, ⟨29, _⟩ => ⟨S8192x1024, .f32⟩
  | .hbm, ⟨30, _⟩ => ⟨S1x256, .f32⟩
  | .hbm, ⟨31, _⟩ => ⟨S8192x1024, .bf16⟩
  | .hbm, ⟨32, _⟩ => ⟨S8192x256, .f32⟩
  | .hbm, ⟨33, _⟩ => ⟨S8192x256, .f32⟩
  | .hbm, ⟨34, _⟩ => ⟨S8192x640, .f32⟩
  | .hbm, ⟨35, _⟩ => ⟨S1x1024, .f32⟩
  | .hbm, ⟨36, _⟩ => ⟨S1x256, .f32⟩
  | .hbm, ⟨37, _⟩ => ⟨S8192x1024, .f32⟩
  | .hbm, ⟨38, _⟩ => ⟨S8192x8x128, .f32⟩
  | .hbm, ⟨39, _⟩ => ⟨S8192x8x64, .f32⟩
  | .hbm, ⟨40, _⟩ => ⟨S8192x512, .f32⟩
  | .hbm, ⟨41, _⟩ => ⟨S8192x256, .f32⟩
  | .hbm, ⟨42, _⟩ => ⟨S8x128, .f32⟩
  | .hbm, ⟨43, _⟩ => ⟨S8x64, .f32⟩
  | .hbm, ⟨44, _⟩ => ⟨S1x512, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x640, .f32⟩
  | .local _ .vmem, ⟨7, _⟩ => ⟨S256x640, .f32⟩
  | .local _ .vmem, ⟨8, _⟩ => ⟨S1x1024, .f32⟩
  | .local _ .vmem, ⟨9, _⟩ => ⟨S1x256, .f32⟩
  | .local _ .vmem, ⟨10, _⟩ => ⟨S256x1536, .f32⟩
  | .local _ .vmem, ⟨11, _⟩ => ⟨S256x1536, .f32⟩
  | .local _ .vmem, ⟨12, _⟩ => ⟨S256x1024, .bf16⟩
  | .local _ .vmem, ⟨13, _⟩ => ⟨S256x1024, .bf16⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S256x640, .f32⟩
  | .local _ .vmem, ⟨19, _⟩ => ⟨S256x640, .f32⟩
  | .local _ .vmem, ⟨20, _⟩ => ⟨S1x1024, .f32⟩
  | .local _ .vmem, ⟨21, _⟩ => ⟨S1x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_call0_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_call1_v0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_1 : Ref sig .tc := ⟨.hbm, 26, rfl⟩
abbrev main_call2_v0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15_0 : Ref sig .tc := ⟨.hbm, 31, rfl⟩
abbrev main_v15_1 : Ref sig .tc := ⟨.hbm, 32, rfl⟩
abbrev main_v15_2 : Ref sig .tc := ⟨.hbm, 33, rfl⟩
abbrev main_v15_3 : Ref sig .tc := ⟨.hbm, 34, rfl⟩
abbrev main_v15_4 : Ref sig .tc := ⟨.hbm, 35, rfl⟩
abbrev main_v15_5 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x640 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== MixRefIdeal.lean ====
abbrev S8192x512 : Shape := ⟨2, ![8192, 512]⟩
abbrev S8192x256 : Shape := ⟨2, ![8192, 256]⟩
abbrev S8192x4 : Shape := ⟨2, ![8192, 4]⟩
abbrev S512 : Shape := ⟨1, ![512]⟩
abbrev S256 : Shape := ⟨1, ![256]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x512 : Shape := ⟨2, ![1, 512]⟩
abbrev S1x256 : Shape := ⟨2, ![1, 256]⟩

abbrev nBuf : Space → Nat
  | .hbm => 151
  | .vmem => 0
  | .smem => 0
  | _ => 0

abbrev hbmTy0_0 (i : Nat) : BufTy := match i % 128 with
  | 0 => ⟨S8192x512, .f32⟩
  | 1 => ⟨S8192x256, .f32⟩
  | 2 => ⟨S8192x256, .f32⟩
  | 3 => ⟨S8192x256, .f32⟩
  | 4 => ⟨S8192x256, .f32⟩
  | 5 => ⟨S8192x4, .f32⟩
  | 6 => ⟨S512, .f32⟩
  | 7 => ⟨S256, .f32⟩
  | 8 => ⟨S8192x1024, .f32⟩
  | 9 => ⟨S8192x256, .f32⟩
  | 10 => ⟨S8192x256, .f32⟩
  | 11 => ⟨S8192x256, .f32⟩
  | 12 => ⟨S_, .f32⟩
  | 13 => ⟨S8192x256, .f32⟩
  | 14 => ⟨S8192x256, .f32⟩
  | 15 => ⟨S_, .f32⟩
  | 16 => ⟨S8192x256, .f32⟩
  | 17 => ⟨S8192x256, .f32⟩
  | 18 => ⟨S8192x256, .f32⟩
  | 19 => ⟨S_, .f32⟩
  | 20 => ⟨S8192x256, .f32⟩
  | 21 => ⟨S8192x256, .f32⟩
  | 22 => ⟨S8192x256, .f32⟩
  | 23 => ⟨S_, .f32⟩
  | 24 => ⟨S8192x256, .f32⟩
  | 25 => ⟨S8192x256, .f32⟩
  | 26 => ⟨S_, .f32⟩
  | 27 => ⟨S8192x256, .f32⟩
  | 28 => ⟨S8192x256, .f32⟩
  | 29 => ⟨S8192x256, .f32⟩
  | 30 => ⟨S_, .f32⟩
  | 31 => ⟨S8192x256, .f32⟩
  | 32 => ⟨S8192x256, .f32⟩
  | 33 => ⟨S_, .f32⟩
  | 34 => ⟨S8192x256, .f32⟩
  | 35 => ⟨S8192x256, .f32⟩
  | 36 => ⟨S8192x256, .f32⟩
  | 37 => ⟨S8192x256, .f32⟩
  | 38 => ⟨S8192x512, .f32⟩
  | 39 => ⟨S_, .f32⟩
  | 40 => ⟨S8192, .f32⟩
  | 41 => ⟨S8192x1, .f32⟩
  | 42 => ⟨S_, .f32⟩
  | 43 => ⟨S8192x1, .f32⟩
  | 44 => ⟨S8192x1, .f32⟩
  | 45 => ⟨S_, .f32⟩
  | 46 => ⟨S8192x1, .f32⟩
  | 47 => ⟨S8192x1, .f32⟩
  | 48 => ⟨S8192x1, .f32⟩
  | 49 => ⟨S8192x1, .f32⟩
  | 50 => ⟨S_, .f32⟩
  | 51 => ⟨S8192x1, .f32⟩
  | 52 => ⟨S8192x1, .f32⟩
  | 53 => ⟨S8192x512, .f32⟩
  | 54 => ⟨S8192x512, .f32⟩
  | 55 => ⟨S1x512, .f32⟩
  | 56 => ⟨S8192x512, .f32⟩
  | 57 => ⟨S8192x512, .f32⟩
  | 58 => ⟨S8192x256, .f32⟩
  | 59 => ⟨S_, .f32⟩
  | 60 => ⟨S8192, .f32⟩
  | 61 => ⟨S8192x1, .f32⟩
  | 62 => ⟨S_, .f32⟩
  | 63 => ⟨S8192x1, .f32⟩
  | 64 => ⟨S8192x1, .f32⟩
  | 65 => ⟨S_, .f32⟩
  | 66 => ⟨S8192x1, .f32⟩
  | 67 => ⟨S8192x1, .f32⟩
  | 68 => ⟨S8192x1, .f32⟩
  | 69 => ⟨S8192x1, .f32⟩
  | 70 => ⟨S_, .f32⟩
  | 71 => ⟨S8192x1, .f32⟩
  | 72 => ⟨S8192x1, .f32⟩
  | 73 => ⟨S8192x256, .f32⟩
  | 74 => ⟨S8192x256, .f32⟩
  | 75 => ⟨S1x256, .f32⟩
  | 76 => ⟨S8192x256, .f32⟩
  | 77 => ⟨S8192x256, .f32⟩
  | 78 => ⟨S8192x1024, .f32⟩
  | 79 => ⟨S8192x512, .f32⟩
  | 80 => ⟨S8192x256, .f32⟩
  | 81 => ⟨S8192x256, .f32⟩
  | 82 => ⟨S8192x256, .f32⟩
  | 83 => ⟨S_, .f32⟩
  | 84 => ⟨S256, .f32⟩
  | 85 => ⟨S1x256, .f32⟩
  | 86 => ⟨S8192x256, .f32⟩
  | 87 => ⟨S8192x256, .f32⟩
  | 88 => ⟨S_, .f32⟩
  | 89 => ⟨S256, .f32⟩
  | 90 => ⟨S8192x256, .f32⟩
  | 91 => ⟨S_, .f32⟩
  | 92 => ⟨S8192, .f32⟩
  | 93 => ⟨S8192x1, .f32⟩
  | 94 => ⟨S8192x256, .f32⟩
  | 95 => ⟨S8192x256, .f32⟩
  | 96 => ⟨S8192x1, .f32⟩
  | 97 => ⟨S_, .f32⟩
  | 98 => ⟨S8192x1, .f32⟩
  | 99 => ⟨S8192x1, .f32⟩
  | 100 => ⟨S_, .f32⟩
  | 101 => ⟨S8192, .f32⟩
  | 102 => ⟨S8192x256, .f32⟩
  | 103 => ⟨S8192x256, .f32⟩
  | 104 => ⟨S8192x256, .f32⟩
  | 105 => ⟨S8192x256, .f32⟩
  | 106 => ⟨S8192x256, .f32⟩
  | 107 => ⟨S8192x512, .f32⟩
  | 108 => ⟨S_, .f32⟩
  | 109 => ⟨S512, .f32⟩
  | 110 => ⟨S1x512, .f32⟩
  | 111 => ⟨S8192x512, .f32⟩
  | 112 => ⟨S8192x512, .f32⟩
  | 113 => ⟨S_, .f32⟩
  | 114 => ⟨S512, .f32⟩
  | 115 => ⟨S8192x512, .f32⟩
  | 116 => ⟨S_, .f32⟩
  | 117 => ⟨S8192, .f32⟩
  | 118 => ⟨S8192x1, .f32⟩
  | 119 => ⟨S8192x512, .f32⟩
  | 120 => ⟨S8192x512, .f32⟩
  | 121 => ⟨S8192x1, .f32⟩
  | 122 => ⟨S_, .f32⟩
  | 123 => ⟨S8192x1, .f32⟩
  | 124 => ⟨S8192x1, .f32⟩
  | 125 => ⟨S_, .f32⟩
  | 126 => ⟨S8192, .f32⟩
  | 127 => ⟨S8192x512, .f32⟩
  | _ => ⟨S8192x512, .f32⟩

abbrev hbmTy0_1 (i : Nat) : BufTy := match i % 128 with
  | 0 => ⟨S8192x512, .f32⟩
  | 1 => ⟨S8192x512, .f32⟩
  | 2 => ⟨S8192x512, .f32⟩
  | 3 => ⟨S8192x512, .f32⟩
  | 4 => ⟨S8192x256, .f32⟩
  | 5 => ⟨S8192x256, .f32⟩
  | 6 => ⟨S8192x256, .f32⟩
  | 7 => ⟨S8192x256, .f32⟩
  | 8 => ⟨S_, .f32⟩
  | 9 => ⟨S8192x256, .f32⟩
  | 10 => ⟨S8192x256, .f32⟩
  | 11 => ⟨S8192x256, .f32⟩
  | 12 => ⟨S_, .f32⟩
  | 13 => ⟨S8192x256, .f32⟩
  | 14 => ⟨S8192x256, .f32⟩
  | 15 => ⟨S8192x256, .f32⟩
  | 16 => ⟨S_, .f32⟩
  | 17 => ⟨S8192x256, .f32⟩
  | 18 => ⟨S8192x256, .f32⟩
  | 19 => ⟨S8192x256, .f32⟩
  | 20 => ⟨S8192x256, .f32⟩
  | 21 => ⟨S1x512, .f32⟩
  | 22 => ⟨S1x256, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_v26 : Ref sig .tc := ⟨.hbm, 44, rfl⟩
abbrev main_cst_8 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_10 : Ref sig .tc := ⟨.hbm, 59, rfl⟩
abbrev main_v39 : Ref sig .tc := ⟨.hbm, 60, rfl⟩
abbrev main_v40 : Ref sig .tc := ⟨.hbm, 61, rfl⟩
abbrev main_cst_11 : Ref sig .tc := ⟨.hbm, 62, rfl⟩
abbrev main_v41 : Ref sig .tc := ⟨.hbm, 63, rfl⟩
abbrev main_v42 : Ref sig .tc := ⟨.hbm, 64, rfl⟩
abbrev main_cst_12 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_13 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_14 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_15 : Ref sig .tc := ⟨.hbm, 88, rfl⟩
abbrev main_v63 : Ref sig .tc := ⟨.hbm, 89, rfl⟩
abbrev main_v64 : Ref sig .tc := ⟨.hbm, 90, rfl⟩
abbrev main_cst_16 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_17 : Ref sig .tc := ⟨.hbm, 97, rfl⟩
abbrev main_v70 : Ref sig .tc := ⟨.hbm, 98, rfl⟩
abbrev main_v71 : Ref sig .tc := ⟨.hbm, 99, rfl⟩
abbrev main_cst_18 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_19 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_20 : Ref sig .tc := ⟨.hbm, 113, rfl⟩
abbrev main_v83 : Ref sig .tc := ⟨.hbm, 114, rfl⟩
abbrev main_v84 : Ref sig .tc := ⟨.hbm, 115, rfl⟩
abbrev main_cst_21 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_22 : Ref sig .tc := ⟨.hbm, 122, rfl⟩
abbrev main_v90 : Ref sig .tc := ⟨.hbm, 123, rfl⟩
abbrev main_v91 : Ref sig .tc := ⟨.hbm, 124, rfl⟩
abbrev main_cst_23 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_cst_24 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_cst_25 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_cst_26 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩

abbrev nD : Nat := 1
abbrev τ : Topo := Topo.v7x

variable {F : FTy → Type} [FloatOps F]
-- ==== PrepBwd.lean ====
abbrev S8192x256 : Shape := ⟨2, ![8192, 256]⟩
abbrev S8192x128 : Shape := ⟨2, ![8192, 128]⟩
abbrev S8192x32 : Shape := ⟨2, ![8192, 32]⟩
abbrev S256 : Shape := ⟨1, ![256]⟩
abbrev S128 : Shape := ⟨1, ![128]⟩
abbrev S8192 : Shape := ⟨1, ![8192]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x96 : Shape := ⟨2, ![8192, 96]⟩
abbrev S8192x64 : Shape := ⟨2, ![8192, 64]⟩
abbrev S8192x640 : Shape := ⟨2, ![8192, 640]⟩
abbrev S1x256 : Shape := ⟨2, ![1, 256]⟩
abbrev S1x128 : Shape := ⟨2, ![1, 128]⟩
abbrev S256x640 : Shape := ⟨2, ![256, 640]⟩
abbrev S256x128 : Shape := ⟨2, ![256, 128]⟩
abbrev S256x256 : Shape := ⟨2, ![256, 256]⟩
abbrev S256x1 : Shape := ⟨2, ![256, 1]⟩
abbrev S256x512 : Shape := ⟨2, ![256, 512]⟩
abbrev S256x384 : Shape := ⟨2, ![256, 384]⟩

abbrev nBuf : Space → Nat
  | .hbm => 73
  | .vmem => 16
  | .smem => 0
  | _ => 0

abbrev bufTy : (tb : Table) → Fin (tcTables nBuf tb) → BufTy
  | .hbm, ⟨0, _⟩ => ⟨S8192x256, .f32⟩
  | .hbm, ⟨1, _⟩ => ⟨S8192x128, .f32⟩
  | .hbm, ⟨2, _⟩ => ⟨S8192x32, .f32⟩
  | .hbm, ⟨3, _⟩ => ⟨S256, .f32⟩
  | .hbm, ⟨4, _⟩ => ⟨S128, .f32⟩
  | .hbm, ⟨5, _⟩ => ⟨S8192, .i32⟩
  | .hbm, ⟨6, _⟩ => ⟨S8192x256, .f32⟩
  | .hbm, ⟨7, _⟩ => ⟨S8192x128, .f32⟩
  | .hbm, ⟨8, _⟩ => ⟨S8192x32, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S8192, .f32⟩
  | .hbm, ⟨21, _⟩ => ⟨S8192x1, .f32⟩
  | .hbm, ⟨22, _⟩ => ⟨S1x16, .f32⟩
  | .hbm, ⟨23, _⟩ => ⟨S8192x16, .f32⟩
  | .hbm, ⟨24, _⟩ => ⟨S8192x16, .f32⟩
  | .hbm, ⟨25, _⟩ => ⟨S8192x16, .f32⟩
  | .hbm, ⟨26, _⟩ => ⟨S8192x16, .f32⟩
  | .hbm, ⟨27, _⟩ => ⟨S8192x16, .f32⟩
  | .hbm, ⟨28, _⟩ => ⟨S_, .f32⟩
  | .hbm, ⟨29, _⟩ => ⟨S8192x96, .f32⟩
  | .hbm, ⟨30, _⟩ => ⟨S8192x128, .f32⟩
  | .hbm, ⟨31, _⟩ => ⟨S8192x16, .f32⟩
  | .hbm, ⟨32, _⟩ => ⟨S_, .f32⟩
  | .hbm, ⟨33, _⟩ => ⟨S8192x96, .f32⟩
  | .hbm, ⟨34, _⟩ => ⟨S8192x128, .f32⟩
  | .hbm, ⟨35, _⟩ => ⟨S_, .f32⟩
  | .hbm, ⟨36, _⟩ => ⟨S8192x64, .f32⟩
  | .hbm, ⟨37, _⟩ => ⟨S_, .f32⟩
  | .hbm, ⟨38, _⟩ => ⟨S8192x32, .f32⟩
  | .hbm, ⟨39, _⟩ => ⟨S8192x128, .f32⟩
  | .hbm, ⟨40, _⟩ => ⟨S_, .f32⟩
  | .hbm, ⟨41, _⟩ => ⟨S8192x64, .f32⟩
  | .hbm, ⟨42, _⟩ => ⟨S8192x16, .f32⟩
  | .hbm, ⟨43, _⟩ => ⟨S_, .f32⟩
  | .hbm, ⟨44, _⟩ => ⟨S8192x32, .f32⟩
  | .hbm, ⟨45, _⟩ => ⟨S8192x128, .f32⟩
  | .hbm, ⟨46, _⟩ => ⟨S_, .f32⟩
  | .hbm, ⟨47, _⟩ => ⟨S8192x128, .f32⟩
  | .hbm, ⟨48, _⟩ => ⟨S8192x128, .f32⟩
  | .hbm, ⟨49, _⟩ => ⟨S_, .f32⟩
  | .hbm, ⟨50, _⟩ => ⟨S8192x128, .f32⟩
  | .hbm, ⟨51, _⟩ => ⟨S8192x128, .f32⟩
  | .hbm, ⟨52, _⟩ => ⟨S_, .f32⟩
  | .hbm, ⟨53, _⟩ => ⟨S8192x96, .f32⟩
  | .hbm, ⟨54, _⟩ => ⟨S8192x16, .f32⟩
  | .hbm, ⟨55, _⟩ => ⟨S8192x16, .f32⟩
  | .hbm, ⟨56, _⟩ => ⟨S8192x32, .f32⟩
  | .hbm, ⟨57, _⟩ => ⟨S8192x640, .f32⟩
  | .hbm, ⟨58, _⟩ => ⟨S8192x256, .f32⟩
  | .hbm, ⟨59, _⟩ => ⟨S1x256, .f32⟩
  | .hbm, ⟨60, _⟩ => ⟨S1x128, .f32⟩
  | .hbm, ⟨61, _⟩ => ⟨S8192x640, .bf16⟩
  | .hbm, ⟨62, _⟩ => ⟨S1x256, .f32⟩
  | .hbm, ⟨63, _⟩ => ⟨S1x128, .f32⟩
  | .hbm, ⟨64, _⟩ => ⟨S8192x640, .f32⟩
  | .hbm, ⟨65, _⟩ => ⟨S8192x256, .f32⟩
  | .hbm, ⟨66, _⟩ => ⟨S8192x128, .f32⟩
  | .hbm, ⟨67, _⟩ => ⟨S8192x32, .f32⟩
  | .hbm, ⟨68, _⟩ => ⟨S8192x32, .f32⟩
  | .hbm, ⟨69, _⟩ => ⟨S8192x16, .f32⟩
  | .hbm, ⟨70, _⟩ => ⟨S8192x16, .f32⟩
  | .hbm, ⟨71, _⟩ => ⟨S8192x32, .f32⟩
  | .hbm, ⟨72, _⟩ => ⟨S8192x32, .f32⟩
  | .local _ .vmem, ⟨0, _⟩ => ⟨S256x640, .f32⟩
  | .local _ .vmem, ⟨1, _⟩ => ⟨S256x640, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x256, .f32⟩
  | .local _ .vmem, ⟨7, _⟩ => ⟨S1x128, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x640, .bf16⟩
  | .local _ .vmem, ⟨13, _⟩ => ⟨S256x640, .bf16⟩
  | .local _ .vmem, ⟨14, _⟩ => ⟨S1x256, .f32⟩
  | .local _ .vmem, ⟨15, _⟩ => ⟨S1x128, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_cst_8 : Ref sig .tc := ⟨.hbm, 46, rfl⟩
abbrev main_v28 : Ref sig .tc := ⟨.hbm, 47, rfl⟩
abbrev main_v29 : Ref sig .tc := ⟨.hbm, 48, rfl⟩
abbrev main_cst_9 : Ref sig .tc := ⟨.hbm, 49, rfl⟩
abbrev main_v30 : Ref sig .tc := ⟨.hbm, 50, rfl⟩
abbrev main_v31 : Ref sig .tc := ⟨.hbm, 51, rfl⟩
abbrev main_cst_10 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40_0 : Ref sig .tc := ⟨.hbm, 61, rfl⟩
abbrev main_v40_1 : Ref sig .tc := ⟨.hbm, 62, rfl⟩
abbrev main_v40_2 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x640 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== PrepRefIdeal.lean ====
abbrev S8192x256 : Shape := ⟨2, ![8192, 256]⟩
abbrev S8192x128 : Shape := ⟨2, ![8192, 128]⟩
abbrev S8192x32 : Shape := ⟨2, ![8192, 32]⟩
abbrev S256 : Shape := ⟨1, ![256]⟩
abbrev S128 : Shape := ⟨1, ![128]⟩
abbrev S8192 : Shape := ⟨1, ![8192]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S1x256 : Shape := ⟨2, ![1, 256]⟩
abbrev S1x128 : Shape := ⟨2, ![1, 128]⟩

abbrev nBuf : Space → Nat
  | .hbm => 143
  | .vmem => 0
  | .smem => 0
  | _ => 0

abbrev hbmTy0_0 (i : Nat) : BufTy := match i % 128 with
  | 0 => ⟨S8192x256, .f32⟩
  | 1 => ⟨S8192x128, .f32⟩
  | 2 => ⟨S8192x32, .f32⟩
  | 3 => ⟨S256, .f32⟩
  | 4 => ⟨S128, .f32⟩
  | 5 => ⟨S8192, .i32⟩
  | 6 => ⟨S8192x256, .f32⟩
  | 7 => ⟨S8192x128, .f32⟩
  | 8 => ⟨S8192x32, .f32⟩
  | 9 => ⟨S16, .f32⟩
  | 10 => ⟨S16, .f32⟩
  | 11 => ⟨S_, .f32⟩
  | 12 => ⟨S16, .f32⟩
  | 13 => ⟨S16, .f32⟩
  | 14 => ⟨S_, .f32⟩
  | 15 => ⟨S16, .f32⟩
  | 16 => ⟨S16, .f32⟩
  | 17 => ⟨S_, .f32⟩
  | 18 => ⟨S16, .f32⟩
  | 19 => ⟨S16, .f32⟩
  | 20 => ⟨S8192, .f32⟩
  | 21 => ⟨S8192x1, .f32⟩
  | 22 => ⟨S1x16, .f32⟩
  | 23 => ⟨S8192x16, .f32⟩
  | 24 => ⟨S8192x16, .f32⟩
  | 25 => ⟨S8192x16, .f32⟩
  | 26 => ⟨S8192x16, .f32⟩
  | 27 => ⟨S8192x16, .f32⟩
  | 28 => ⟨S8192x256, .f32⟩
  | 29 => ⟨S_, .f32⟩
  | 30 => ⟨S8192, .f32⟩
  | 31 => ⟨S8192x1, .f32⟩
  | 32 => ⟨S_, .f32⟩
  | 33 => ⟨S8192x1, .f32⟩
  | 34 => ⟨S8192x1, .f32⟩
  | 35 => ⟨S_, .f32⟩
  | 36 => ⟨S8192x1, .f32⟩
  | 37 => ⟨S8192x1, .f32⟩
  | 38 => ⟨S8192x1, .f32⟩
  | 39 => ⟨S8192x1, .f32⟩
  | 40 => ⟨S_, .f32⟩
  | 41 => ⟨S8192x1, .f32⟩
  | 42 => ⟨S8192x1, .f32⟩
  | 43 => ⟨S8192x256, .f32⟩
  | 44 => ⟨S8192x256, .f32⟩
  | 45 => ⟨S1x256, .f32⟩
  | 46 => ⟨S8192x256, .f32⟩
  | 47 => ⟨S8192x256, .f32⟩
  | 48 => ⟨S8192x128, .f32⟩
  | 49 => ⟨S_, .f32⟩
  | 50 => ⟨S8192, .f32⟩
  | 51 => ⟨S8192x1, .f32⟩
  | 52 => ⟨S_, .f32⟩
  | 53 => ⟨S8192x1, .f32⟩
  | 54 => ⟨S8192x1, .f32⟩
  | 55 => ⟨S_, .f32⟩
  | 56 => ⟨S8192x1, .f32⟩
  | 57 => ⟨S8192x1, .f32⟩
  | 58 => ⟨S8192x1, .f32⟩
  | 59 => ⟨S8192x1, .f32⟩
  | 60 => ⟨S_, .f32⟩
  | 61 => ⟨S8192x1, .f32⟩
  | 62 => ⟨S8192x1, .f32⟩
  | 63 => ⟨S8192x128, .f32⟩
  | 64 => ⟨S8192x128, .f32⟩
  | 65 => ⟨S1x128, .f32⟩
  | 66 => ⟨S8192x128, .f32⟩
  | 67 => ⟨S8192x128, .f32⟩
  | 68 => ⟨S8192x16, .f32⟩
  | 69 => ⟨S8192x16, .f32⟩
  | 70 => ⟨S8192x16, .f32⟩
  | 71 => ⟨S8192x16, .f32⟩
  | 72 => ⟨S8192x16, .f32⟩
  | 73 => ⟨S8192x16, .f32⟩
  | 74 => ⟨S8192x16, .f32⟩
  | 75 => ⟨S8192x16, .f32⟩
  | 76 => ⟨S8192x32, .f32⟩
  | 77 => ⟨S8192x16, .f32⟩
  | 78 => ⟨S8192x16, .f32⟩
  | 79 => ⟨S8192x16, .f32⟩
  | 80 => ⟨S8192x16, .f32⟩
  | 81 => ⟨S8192x16, .f32⟩
  | 82 => ⟨S8192x16, .f32⟩
  | 83 => ⟨S8192x16, .f32⟩
  | 84 => ⟨S8192x16, .f32⟩
  | 85 => ⟨S8192x16, .f32⟩
  | 86 => ⟨S_, .f32⟩
  | 87 => ⟨S8192x32, .f32⟩
  | 88 => ⟨S_, .f32⟩
  | 89 => ⟨S8192x32, .f32⟩
  | 90 => ⟨S8192x32, .f32⟩
  | 91 => ⟨S8192x128, .f32⟩
  | 92 => ⟨S_, .f32⟩
  | 93 => ⟨S128, .f32⟩
  | 94 => ⟨S1x128, .f32⟩
  | 95 => ⟨S8192x128, .f32⟩
  | 96 => ⟨S8192x128, .f32⟩
  | 97 => ⟨S_, .f32⟩
  | 98 => ⟨S128, .f32⟩
  | 99 => ⟨S8192x128, .f32⟩
  | 100 => ⟨S_, .f32⟩
  | 101 => ⟨S8192, .f32⟩
  | 102 => ⟨S8192x1, .f32⟩
  | 103 => ⟨S8192x128, .f32⟩
  | 104 => ⟨S8192x128, .f32⟩
  | 105 => ⟨S8192x1, .f32⟩
  | 106 => ⟨S_, .f32⟩
  | 107 => ⟨S8192x1, .f32⟩
  | 108 => ⟨S8192x1, .f32⟩
  | 109 => ⟨S_, .f32⟩
  | 110 => ⟨S8192, .f32⟩
  | 111 => ⟨S8192x128, .f32⟩
  | 112 => ⟨S8192x128, .f32⟩
  | 113 => ⟨S8192x128, .f32⟩
  | 114 => ⟨S8192x128, .f32⟩
  | 115 => ⟨S8192x128, .f32⟩
  | 116 => ⟨S8192x256, .f32⟩
  | 117 => ⟨S_, .f32⟩
  | 118 => ⟨S256, .f32⟩
  | 119 => ⟨S1x256, .f32⟩
  | 120 => ⟨S8192x256, .f32⟩
  | 121 => ⟨S8192x256, .f32⟩
  | 122 => ⟨S_, .f32⟩
  | 123 => ⟨S256, .f32⟩
  | 124 => ⟨S8192x256, .f32⟩
  | 125 => ⟨S_, .f32⟩
  | 126 => ⟨S8192, .f32⟩
  | 127 => ⟨S8192x1, .f32⟩
  | _ => ⟨S8192x256, .f32⟩

abbrev hbmTy0_1 (i : Nat) : BufTy := match i % 128 with
  | 0 => ⟨S8192x256, .f32⟩
  | 1 => ⟨S8192x256, .f32⟩
  | 2 => ⟨S8192x1, .f32⟩
  | 3 => ⟨S_, .f32⟩
  | 4 => ⟨S8192x1, .f32⟩
  | 5 => ⟨S8192x1, .f32⟩
  | 6 => ⟨S_, .f32⟩
  | 7 => ⟨S8192, .f32⟩
  | 8 => ⟨S8192x256, .f32⟩
  | 9 => ⟨S8192x256, .f32⟩
  | 10 => ⟨S8192x256, .f32⟩
  | 11 => ⟨S8192x256, .f32⟩
  | 12 => ⟨S8192x256, .f32⟩
  | 13 => ⟨S1x256, .f32⟩
  | 14 => ⟨S1x128, .f32⟩
  | _ => ⟨S8192x256, .f32⟩

abbrev hbmTy (i : Nat) : BufTy := match i / 128 with
  | 0 => hbmTy0_0 i
  | 1 => hbmTy0_1 i
  | _ => ⟨S8192x256, .f32⟩

abbrev bufTy : (tb : Table) → Fin (tcTables nBuf tb) → BufTy
  | .hbm, ⟨i, _⟩ => hbmTy i
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_10 : Ref sig .tc := ⟨.hbm, 86, rfl⟩
abbrev main_v66 : Ref sig .tc := ⟨.hbm, 87, rfl⟩
abbrev main_cst_11 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_12 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_13 : Ref sig .tc := ⟨.hbm, 97, rfl⟩
abbrev main_v74 : Ref sig .tc := ⟨.hbm, 98, rfl⟩
abbrev main_v75 : Ref sig .tc := ⟨.hbm, 99, rfl⟩
abbrev main_cst_14 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_15 : Ref sig .tc := ⟨.hbm, 106, rfl⟩
abbrev main_v81 : Ref sig .tc := ⟨.hbm, 107, rfl⟩
abbrev main_v82 : Ref sig .tc := ⟨.hbm, 108, rfl⟩
abbrev main_cst_16 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_17 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_cst_18 : Ref sig .tc := ⟨.hbm, 122, rfl⟩
abbrev main_v94 : Ref sig .tc := ⟨.hbm, 123, rfl⟩
abbrev main_v95 : Ref sig .tc := ⟨.hbm, 124, rfl⟩
abbrev main_cst_19 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_cst_20 : Ref sig .tc := ⟨.hbm, 131, rfl⟩
abbrev main_v101 : Ref sig .tc := ⟨.hbm, 132, rfl⟩
abbrev main_v102 : Ref sig .tc := ⟨.hbm, 133, rfl⟩
abbrev main_cst_21 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩

abbrev nD : Nat := 1
abbrev τ : Topo := Topo.v7x

variable {F : FTy → Type} [FloatOps F]
-- ==== XattnBwd.lean ====
abbrev S8192x1024 : Shape := ⟨2, ![8192, 1024]⟩
abbrev S256x1024 : Shape := ⟨2, ![256, 1024]⟩
abbrev S1024x1024 : Shape := ⟨2, ![1024, 1024]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩
abbrev S256x768 : Shape := ⟨2, ![256, 768]⟩
abbrev S1024x768 : Shape := ⟨2, ![1024, 768]⟩
abbrev S256x512 : Shape := ⟨2, ![256, 512]⟩
abbrev S1024x512 : Shape := ⟨2, ![1024, 512]⟩

abbrev nBuf : Space → Nat
  | .hbm => 11
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S256x1024, .f32⟩
  | .hbm, ⟨2, _⟩ => ⟨S256x1024, .f32⟩
  | .hbm, ⟨3, _⟩ => ⟨S8192x1024, .f32⟩
  | .hbm, ⟨4, _⟩ => ⟨S8192x1024, .bf16⟩
  | .hbm, ⟨5, _⟩ => ⟨S256x1024, .bf16⟩
  | .hbm, ⟨6, _⟩ => ⟨S256x1024, .bf16⟩
  | .hbm, ⟨7, _⟩ => ⟨S8192x1024, .bf16⟩
  | .hbm, ⟨8, _⟩ => ⟨S8192x1024, .bf16⟩
  | .hbm, ⟨9, _⟩ => ⟨S256x1024, .f32⟩
  | .hbm, ⟨10, _⟩ => ⟨S256x1024, .f32⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S256x1024, .f32⟩
  | .local _ .vmem, ⟨9, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== XattnRefIdeal.lean ====
abbrev S8192x1024 : Shape := ⟨2, ![8192, 1024]⟩
abbrev S256x1024 : Shape := ⟨2, ![256, 1024]⟩
abbrev S8192x4x256 : Shape := ⟨3, ![8192, 4, 256]⟩
abbrev S256x4x256 : Shape := ⟨3, ![256, 4, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x256x8192 : Shape := ⟨3, ![4, 256, 8192]⟩
abbrev S4x256x256 : Shape := ⟨3, ![4, 256, 256]⟩

abbrev nBuf : Space → Nat
  | .hbm => 82
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S256x1024, .f32⟩
  | .hbm, ⟨2, _⟩ => ⟨S256x1024, .f32⟩
  | .hbm, ⟨3, _⟩ => ⟨S8192x1024, .f32⟩
  | .hbm, ⟨4, _⟩ => ⟨S8192x4x256, .f32⟩
  | .hbm, ⟨5, _⟩ => ⟨S256x4x256, .f32⟩
  | .hbm, ⟨6, _⟩ => ⟨S256x4x256, .f32⟩
  | .hbm, ⟨7, _⟩ => ⟨S4x8192x256, .f32⟩
  | .hbm, ⟨8, _⟩ => ⟨S_, .f32⟩
  | .hbm, ⟨9, _⟩ => ⟨S4x8192x256, .f32⟩
  | .hbm, ⟨10, _⟩ => ⟨S4x8192x256, .f32⟩
  | .hbm, ⟨11, _⟩ => ⟨S_, .f32⟩
  | .hbm, ⟨12, _⟩ => ⟨S4x8192, .f32⟩
  | .hbm, ⟨13, _⟩ => ⟨S4x8192x1, .f32⟩
  | .hbm, ⟨14, _⟩ => ⟨S4x8192x256, .f32⟩
  | .hbm, ⟨15, _⟩ => ⟨S4x8192x256, .i1⟩
  | .hbm, ⟨16, _⟩ => ⟨S4x8192x256, .f32⟩
  | .hbm, ⟨17, _⟩ => ⟨S_, .f32⟩
  | .hbm, ⟨18, _⟩ => ⟨S4x8192, .f32⟩
  | .hbm, ⟨19, _⟩ => ⟨S_, .f32⟩
  | .hbm, ⟨20, _⟩ => ⟨S4x8192, .f32⟩
  | .hbm, ⟨21, _⟩ => ⟨S4x8192, .f32⟩
  | .hbm, ⟨22, _⟩ => ⟨S_, .f32⟩
  | .hbm, ⟨23, _⟩ => ⟨S4x8192, .f32⟩
  | .hbm, ⟨24, _⟩ => ⟨S4x8192, .i1⟩
  | .hbm, ⟨25, _⟩ => ⟨S_, .f32⟩
  | .hbm, ⟨26, _⟩ => ⟨S4x8192, .f32⟩
  | .hbm, ⟨27, _⟩ => ⟨S4x8192, .i1⟩
  | .hbm, ⟨28, _⟩ => ⟨S_, .f32⟩
  | .hbm, ⟨29, _⟩ => ⟨S4x8192, .f32⟩
  | .hbm, ⟨30, _⟩ => ⟨S_, .f32⟩
  | .hbm, ⟨31, _⟩ => ⟨S4x8192, .f32⟩
  | .hbm, ⟨32, _⟩ => ⟨S_, .f32⟩
  | .hbm, ⟨33, _⟩ => ⟨S4x8192, .f32⟩
  | .hbm, ⟨34, _⟩ => ⟨S4x8192, .f32⟩
  | .hbm, ⟨35, _⟩ => ⟨S4x8192, .f32⟩
  | .hbm, ⟨36, _⟩ => ⟨S4x8192x1, .f32⟩
  | .hbm, ⟨37, _⟩ => ⟨S4x8192x256, .f32⟩
  | .hbm, ⟨38, _⟩ => ⟨S4x8192x256, .f32⟩
  | .hbm, ⟨39, _⟩ => ⟨S4x8192x256, .f32⟩
  | .hbm, ⟨40, _⟩ => ⟨S_, .f32⟩
  | .hbm, ⟨41, _⟩ => ⟨S4x8192, .f32⟩
  | .hbm, ⟨42, _⟩ => ⟨S4x8192x1, .f32⟩
  | .hbm, ⟨43, _⟩ => ⟨S4x8192x256, .f32⟩
  | .hbm, ⟨44, _⟩ => ⟨S4x8192x256, .f32⟩
  | .hbm, ⟨45, _⟩ => ⟨S4x8192x1, .f32⟩
  | .hbm, ⟨46, _⟩ => ⟨S_, .f32⟩
  | .hbm, ⟨47, _⟩ => ⟨S4x8192x1, .f32⟩
  | .hbm, ⟨48, _⟩ => ⟨S4x8192x1, .f32⟩
  | .hbm, ⟨49, _⟩ => ⟨S4x256x8192, .f32⟩
  | .hbm, ⟨50, _⟩ => ⟨S8192x4x256, .f32⟩
  | .hbm, ⟨51, _⟩ => ⟨S8192x1024, .f32⟩
  | .hbm, ⟨52, _⟩ => ⟨S8192x4x256, .f32⟩
  | .hbm, ⟨53, _⟩ => ⟨S4x256x8192, .f32⟩
  | .hbm, ⟨54, _⟩ => ⟨S4x8192x256, .f32⟩
  | .hbm, ⟨55, _⟩ => ⟨S4x256x256, .f32⟩
  | .hbm, ⟨56, _⟩ => ⟨S256x4x256, .f32⟩
  | .hbm, ⟨57, _⟩ => ⟨S4x8192x256, .f32⟩
  | .hbm, ⟨58, _⟩ => ⟨S4x8192x256, .f32⟩
  | .hbm, ⟨59, _⟩ => ⟨S4x8192x256, .f32⟩
  | .hbm, ⟨60, _⟩ => ⟨S_, .f32⟩
  | .hbm, ⟨61, _⟩ => ⟨S4x8192, .f32⟩
  | .hbm, ⟨62, _⟩ => ⟨S4x8192x1, .f32⟩
  | .hbm, ⟨63, _⟩ => ⟨S4x8192x1, .f32⟩
  | .hbm, ⟨64, _⟩ => ⟨S4x8192x256, .f32⟩
  | .hbm, ⟨65, _⟩ => ⟨S4x8192x256, .f32⟩
  | .hbm, ⟨66, _⟩ => ⟨S_, .f32⟩
  | .hbm, ⟨67, _⟩ => ⟨S4x8192, .f32⟩
  | .hbm, ⟨68, _⟩ => ⟨S4x8192x256, .f32⟩
  | .hbm, ⟨69, _⟩ => ⟨S4x8192x256, .f32⟩
  | .hbm, ⟨70, _⟩ => ⟨S4x8192x256, .f32⟩
  | .hbm, ⟨71, _⟩ => ⟨S_, .f32⟩
  | .hbm, ⟨72, _⟩ => ⟨S4x8192x256, .f32⟩
  | .hbm, ⟨73, _⟩ => ⟨S4x8192x256, .f32⟩
  | .hbm, ⟨74, _⟩ => ⟨S4x256x256, .f32⟩
  | .hbm, ⟨75, _⟩ => ⟨S256x4x256, .f32⟩
  | .hbm, ⟨76, _⟩ => ⟨S4x8192x256, .f32⟩
  | .hbm, ⟨77, _⟩ => ⟨S8192x4x256, .f32⟩
  | .hbm, ⟨78, _⟩ => ⟨S256x1024, .f32⟩
  | .hbm, ⟨79, _⟩ => ⟨S256x1024, .f32⟩
  | .hbm, ⟨80, _⟩ => ⟨S8192x1024, .f32⟩
  | .hbm, ⟨81, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_9 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_10 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_11 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_12 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩

abbrev nD : Nat := 1
abbrev τ : Topo := Topo.v7x

variable {F : FTy → Type} [FloatOps F]
-- ==== Proof.RowNorm.lean ====
/-
  The gradient of a row's root-mean-square norm over the extended reals, as one function of the row: what every
  norm call of the step computes and what the reference's derivative computes.
-/
module

public import Idealize.ShloMosaic.Lib.Pipeline.Value
public import Idealize.ShloMosaic.Lib.ValueIdx
public import Idealize.ShloMosaic.Lib.ValueLayout
public import Idealize.ShloMosaic.PureOps.Ideal.Laws

@[expose] public section

noncomputable section

open Idealize.ShloMosaic Idealize.ShloMosaic.ValueIdx

namespace Cert.Own

/-- The mean square of a row of `n` numbers, `c` standing for `1 / n`, plus the norm's small constant `e`. -/
def rowV {n : ℕ} (c e : EReal) (x : Fin n → EReal) : EReal := (∑ k, x k * x k) * c + e

/-- The coefficient of `x j` in the row's gradient (half of it: the square is differentiated factor by factor);
    `h` stands for `-1/2` and `u` is the incoming gradient times the weight. -/
def rowS {n : ℕ} (c e h : EReal) (x u : Fin n → EReal) : EReal :=
  (∑ k, x k * u k) * (h * Ideal.div (Ideal.rsqrt (rowV c e x)) (rowV c e x)) * c

/-- The gradient of the row norm at column `j`. -/
def rowDx {n : ℕ} (c e h : EReal) (x u : Fin n → EReal) (j : Fin n) : EReal :=
  u j * Ideal.rsqrt (rowV c e x) + x j * rowS c e h x u + rowS c e h x u * x j

/-- The value of a float's bits `b` as an extended real, for the three constants of the norms. -/
abbrev epsE : EReal := Ideal.ofBits .f32 0x358637BD#32
abbrev mhalf : EReal := Ideal.ofBits .f32 0xBF000000#32

/-- Dividing by 1024 is multiplying by the float 2^-10: the kernel multiplies, the reference divides. -/
theorem div_1024 (x : EReal) : Ideal.div x (Ideal.ofBits .f32 0x44800000#32) = x * Ideal.ofBits .f32 0x3A800000#32 := by
  have h1 : Ideal.ofBits .f32 0x44800000#32 = ((1024 : ℝ) : EReal) := by
    simp [Ideal.ofBits, Ideal.ieee, ← EReal.coe_mul]; norm_num
  have h2 : Ideal.ofBits .f32 0x3A800000#32 = ((1 / 1024 : ℝ) : EReal) := by
    simp [Ideal.ofBits, Ideal.ieee, ← EReal.coe_mul]; norm_num
  rw [h1, h2, Ideal.div_coe (by norm_num)]

/-- Two matrices are equal when their entries are; a matrix of one row when the row's are. -/
theorem ext2 {α : Type} {a b : ℕ} {f g : (⟨2, ![a, b]⟩ : Shape).Idx → α} (h : ∀ i j, f (ix2 i j) = g (ix2 i j)) : f = g :=
  funext fun i => (congrArg f (eq_ix2 i)).trans ((h (i 0) (i 1)).trans (congrArg g (eq_ix2 i)).symm)

theorem ext_row {α : Type} {b : ℕ} {f g : (⟨2, ![1, b]⟩ : Shape).Idx → α} (h : ∀ j, f (ix2 0 j) = g (ix2 0 j)) : f = g :=
  ext2 fun i j => by obtain rfl : i = 0 := Subsingleton.elim _ _; exact h j

/-- A column `(i, 0)` of per-row numbers spread over the row's columns. -/
theorem bcast_col {α : Type} {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Per-row numbers stood up as a column read back at the row. -/
theorem col_apply {α : Type} {a : ℕ} (v : (⟨1, ![a]⟩ : Shape).Idx → α) (h : (⟨1, ![a]⟩ : Shape).ShapeCasts ⟨2, ![a, 1]⟩)
    (i : Fin a) (j : Fin 1) : shapeCast ⟨2, ![a, 1]⟩ v h (ix2 i j) = v (ix1 i) :=
  shapeCast_apply v h (ix2 i j) (ix1 i) (by
    rw [Shape.rowMajor_val_one, Shape.rowMajor_val_two]
    show i.val = i.val * 1 + j.val
    omega)

/-- A sum over the columns of a matrix, read at a row. -/
theorem red_row {a b : ℕ} (v : FVec Ideal ⟨2, ![a, b]⟩ .f32) (h : Shape.Reduces ⟨2, ![a, b]⟩ [1] ⟨1, ![a]⟩) (i : Fin a) :
    Ideal.reduceAdd h v (ix1 i) = ∑ k : Fin b, v (ix2 i k) :=
  (Ideal.reduceAdd_single h v (ix1 i)).trans (Finset.sum_congr rfl fun k _ => congrArg v (funext fun d => by
    match d with | ⟨0, _⟩ => rfl | ⟨1, _⟩ => rfl))

/-- A sum over the rows of a matrix, read at a column. -/
theorem red_col {a b : ℕ} (v : FVec Ideal ⟨2, ![a, b]⟩ .f32) (h : Shape.Reduces ⟨2, ![a, b]⟩ [0] ⟨1, ![b]⟩) (j : Fin b) :
    Ideal.reduceAdd h v (ix1 j) = ∑ k : Fin a, v (ix2 k j) :=
  (Ideal.reduceAdd_single h v (ix1 j)).trans (Finset.sum_congr rfl fun k _ => congrArg v (funext fun d => by
    match d with | ⟨0, _⟩ => rfl | ⟨1, _⟩ => rfl))

theorem rsqrt_apply {s : Shape} (v : FVec Ideal s .f32) (i : s.Idx) : rsqrt v i = Ideal.rsqrt (v i) := rfl

end Cert.Own
end
-- ==== Proof.Pieces.lean ====
/-
  Matrices of extended reals read at plain row and column numbers (zero outside), and buffers a body fills piece by
  piece: what a load of such a buffer reads when every piece agrees with one function of the row and the column.
-/
module

public import proofs.«01_k».proof.Proof.RowNorm
public import Idealize.ShloMosaic.Lib.Pipeline.Value
public import Idealize.ShloMosaic.Lib.Tactic
public import Idealize.ShloMosaic.Lib.KernelVsHost

@[expose] public section

noncomputable section

open Idealize.ShloMosaic Idealize.ShloMosaic.ValueIdx

namespace Cert.Own

theorem hz2 : (![0, 0] : Fin 2 → Nat) = fun _ => 0 := funext fun a => by fin_cases a <;> rfl

/-! A whole buffer read or written at once; the blocks of a window that never moves, and of one that moves down the rows. -/

section whole
variable {Val : EltTy → Type} {e : EltTy} {a b : ℕ}
theorem ld2 (inb) (X : (⟨2, ![a, b]⟩ : Shape).Idx → Val e) : View.ld X (Rect.unit (s := ⟨2, ![a, b]⟩) ![0, 0] ![a, b] inb) = X :=
  View.ld_unit_zero (S := ⟨2, ![a, b]⟩) hz2 inb X
theorem canon2 [∀ e, Nonempty (Val e)] (inb) (w : (⟨2, ![a, b]⟩ : Shape).Idx → Val e) (L : List (View.Piece Val ⟨2, ![a, b]⟩ e)) :
    View.canon ((⟨Rect.unit (s := ⟨2, ![a, b]⟩) ![0, 0] ![a, b] inb, w⟩ : View.Piece Val ⟨2, ![a, b]⟩ e) :: L) = w :=
  View.canon_cons_unit_zero (S := ⟨2, ![a, b]⟩) hz2 inb w L
theorem cov2 [∀ e, Nonempty (Val e)] {sig : RefSig} {κ : Kind} {sp : Space} (v : View sig κ sp ⟨2, ![a, b]⟩ e) (inb) (w : (⟨2, ![a, b]⟩ : Shape).Idx → Val e) :
    v.readCov [(⟨Rect.unit (s := ⟨2, ![a, b]⟩) ![0, 0] ![a, b] inb, w⟩ : View.Piece Val ⟨2, ![a, b]⟩ e)] (Rect.unit (s := ⟨2, ![a, b]⟩) ![0, 0] ![a, b] inb).toLoadRect = w :=
  View.readCov_unit_zero (S := ⟨2, ![a, b]⟩) v hz2 inb w
end whole

theorem still {f s : Fin 2 → ℕ} (h0 : f 0 = 0) (h1 : f 1 = 0) : (fun x => f x * s x) = fun _ => 0 :=
  funext fun x => by match x with | ⟨0, _⟩ => exact (congrArg (· * s 0) h0).trans (Nat.zero_mul _) | ⟨1, _⟩ => exact (congrArg (· * s 1) h1).trans (Nat.zero_mul _)
theorem in_still {a b : ℕ} (i : (⟨2, ![a, b]⟩ : Shape).Idx) {f : Fin 2 → ℕ} (h0 : f 0 = 0) (h1 : f 1 = 0) (x : Fin 2) :
    f x * ![a, b] x ≤ (i x).val ∧ (i x).val < f x * ![a, b] x + ![a, b] x := by
  have h := (i x).isLt
  match x with
  | ⟨0, _⟩ => show f 0 * a ≤ _ ∧ _ < f 0 * a + a; rw [h0, Nat.zero_mul, Nat.zero_add]; exact ⟨Nat.zero_le _, h⟩
  | ⟨1, _⟩ => show f 1 * b ≤ _ ∧ _ < f 1 * b + b; rw [h1, Nat.zero_mul, Nat.zero_add]; exact ⟨Nat.zero_le _, h⟩
theorem in_rows {n a b : ℕ} (i : (⟨2, ![n, b]⟩ : Shape).Idx) {f : Fin 2 → ℕ} (ha : 0 < a) (h0 : f 0 = (i 0).val / a) (h1 : f 1 = 0) (x : Fin 2) :
    f x * ![a, b] x ≤ (i x).val ∧ (i x).val < f x * ![a, b] x + ![a, b] x := by
  match x with
  | ⟨0, _⟩ => show f 0 * a ≤ _ ∧ _ < f 0 * a + a; rw [h0]; exact ⟨Nat.div_mul_le_self _ _, by have := Nat.lt_div_mul_add (a := (i 0).val) ha; exact this⟩
  | ⟨1, _⟩ => show f 1 * b ≤ _ ∧ _ < f 1 * b + b; rw [h1, Nat.zero_mul, Nat.zero_add]; exact ⟨Nat.zero_le _, (i 1).isLt⟩

/-! ## A matrix at plain numbers -/

/-- The entry `(r, j)` of a matrix, zero outside it. -/
def atN {n k : ℕ} (x : (⟨2, ![n, k]⟩ : Shape).Idx → EReal) (r j : ℕ) : EReal :=
  if h : r < n ∧ j < k then x (ix2 ⟨r, h.1⟩ ⟨j, h.2⟩) else 0

theorem atN_pos {n k : ℕ} (x : (⟨2, ![n, k]⟩ : Shape).Idx → EReal) {r j : ℕ} (hr : r < n) (hj : j < k) :
    atN x r j = x (ix2 ⟨r, hr⟩ ⟨j, hj⟩) := dif_pos ⟨hr, hj⟩

theorem atN_row {n k : ℕ} (x : (⟨2, ![n, k]⟩ : Shape).Idx → EReal) {r j : ℕ} (hr : n ≤ r) : atN x r j = 0 :=
  dif_neg fun h => absurd h.1 (Nat.not_lt.mpr hr)

theorem atN_col {n k : ℕ} (x : (⟨2, ![n, k]⟩ : Shape).Idx → EReal) {r j : ℕ} (hj : k ≤ j) : atN x r j = 0 :=
  dif_neg fun h => absurd h.2 (Nat.not_lt.mpr hj)

/-- An entry named by its index is the entry at the index's two numbers. -/
theorem eq_atN {n k : ℕ} (x : (⟨2, ![n, k]⟩ : Shape).Idx → EReal) (y : (⟨2, ![n, k]⟩ : Shape).Idx) :
    x y = atN x (y 0).val (y 1).val :=
  (congrArg x (eq_ix2 y)).trans (atN_pos x (y 0).isLt (y 1).isLt).symm

theorem eq_atN_of {n k : ℕ} (x : (⟨2, ![n, k]⟩ : Shape).Idx → EReal) (y : (⟨2, ![n, k]⟩ : Shape).Idx) {r j : ℕ}
    (hr : (y 0).val = r) (hj : (y 1).val = j) : x y = atN x r j := by
  subst hr hj; exact eq_atN x y

/-- Two matrices that agree at all plain numbers are equal. -/
theorem ext_atN {n k : ℕ} {x y : (⟨2, ![n, k]⟩ : Shape).Idx → EReal}
    (h : ∀ r j, r < n → j < k → atN x r j = atN y r j) : x = y :=
  funext fun i => (eq_atN x i).trans ((h _ _ (i 0).isLt (i 1).isLt).trans (eq_atN y i).symm)

/-- A sum over the `m` equal runs of `b` numbers, one run more. -/
theorem sum_range_block (f : ℕ → EReal) (b t : ℕ) :
    (∑ n ∈ Finset.range (b * t), f n) + ∑ r : Fin b, f (b * t + r.val) = ∑ n ∈ Finset.range (b * (t + 1)), f n := by
  rw [Nat.mul_succ, Finset.sum_range_add, Finset.sum_range (fun r => f (b * t + r))]

/-! ## Buffers filled piece by piece -/

theorem mem_unit2 {n k a b h w : ℕ} {inb} {y : (⟨2, ![n, k]⟩ : Shape).Idx} :
    y ∈ (Rect.unit (s := ⟨2, ![n, k]⟩) ![a, b] ![h, w] inb).set
      ↔ (a ≤ (y 0).val ∧ (y 0).val < a + h) ∧ (b ≤ (y 1).val ∧ (y 1).val < b + w) :=
  Rect.mem_set_unit.trans Fin.forall_fin_two

variable {Val : EltTy → Type} [∀ e, Nonempty (Val e)] {S : Shape} {e : EltTy}

/-- A load of box `B` of a buffer whose pieces all agree with `G` reads `G` at the box's indices. -/
theorem load_of_pieces {sig : RefSig} {κ : Kind} {sp : Space} (v : View sig κ sp S e) (G : S.Idx → Val e)
    (L : List (View.Piece Val S e)) (B : LoadRect S) (hL : ∀ p ∈ L, ∀ x : p.1.shape.Idx, p.2 x = G (p.1.emb x))
    (hc : ∀ j : B.shape.Idx, ∃ p ∈ L, B.idx j ∈ p.1.set) : v.readCov L B = fun j => G (B.idx j) := by
  rw [View.readCov_eq_canon']
  exact funext fun j => View.canon_apply_of_pieces G L hL _ (hc j)

/-- Pieces written over contents `x` read as the pieces over one last piece holding `x`. -/
theorem read_writes_over {sig : RefSig} {κ : Kind} {sp : Space} (v : View sig κ sp S e) (f : v.ty.Contents Val)
    (x : S.Idx → Val e) (hf : v.read Val f = x) (y : S.Idx) : ∀ L : List (View.Piece Val S e),
      v.read Val (v.writes Val f L) y = View.canon (L ++ [(⟨Rect.whole S, x⟩ : View.Piece Val S e)]) y
  | [] => by
    have h := View.canon_cons_emb (Val := Val) (Rect.whole S) x [] y
    rw [Rect.emb_whole_apply] at h
    rw [List.nil_append, h, ← hf]; rfl
  | p :: L => by
    by_cases hy : y ∈ p.1.set
    · obtain ⟨r, w⟩ := p
      obtain ⟨z, rfl⟩ : ∃ z, r.emb z = y := r.exists_idx_of_mem hy
      rw [View.read_writes_cons_emb, List.cons_append, View.canon_cons_emb]
    · have hy' : y ∉ Finset.univ.map p.1.emb := by rwa [Rect.map_emb_univ]
      rw [View.writes_cons, View.read_slice_write_of_not_mem p.1 _ _ _ hy', List.cons_append, View.canon_cons_of_not_mem p _ hy]
      exact read_writes_over v f x hf y L

/-- The last write a whole row: that row reads its payload, every other row the earlier writes. -/
theorem canon_cons_row {n m k : ℕ} {inb} (w : (⟨2, ![1, m]⟩ : Shape).Idx → Val e) (L : List (View.Piece Val ⟨2, ![n, m]⟩ e))
    (r : Fin n) (j : Fin m) :
    View.canon ((⟨Rect.unit (s := ⟨2, ![n, m]⟩) ![k, 0] ![1, m] inb, w⟩ : View.Piece Val ⟨2, ![n, m]⟩ e) :: L) (ix2 r j)
      = if r.val = k then w (ix2 0 j) else View.canon L (ix2 r j) := by
  by_cases h : r.val = k
  · rw [if_pos h, show (ix2 r j : (⟨2, ![n, m]⟩ : Shape).Idx) = (Rect.unit (s := ⟨2, ![n, m]⟩) ![k, 0] ![1, m] inb).emb (ix2 (0 : Fin 1) j)
      from funext fun a => Fin.ext (by
        match a with
        | ⟨0, _⟩ => show r.val = k + 1 * 0; omega
        | ⟨1, _⟩ => show j.val = 0 + 1 * j.val; omega)]
    exact View.canon_cons_emb (Rect.unit (s := ⟨2, ![n, m]⟩) ![k, 0] ![1, m] inb) w L (ix2 (0 : Fin 1) j)
  · rw [if_neg h, View.canon_cons_of_not_mem _ _ fun hm => h <| by
      have := ((mem_unit2 (inb := inb)).mp hm).1
      have e : ((ix2 r j : (⟨2, ![n, m]⟩ : Shape).Idx) 0).val = r.val := rfl
      omega]

/-- A load of one row reads that row of what the writes left. -/
theorem load_row {sig : RefSig} {κ : Kind} {sp : Space} {n m k : ℕ} (hk : k < n) {inb} (v : View sig κ sp ⟨2, ![n, m]⟩ e)
    (L : List (View.Piece Val ⟨2, ![n, m]⟩ e)) (j : Fin m) :
    v.readCov L (Rect.unit (s := ⟨2, ![n, m]⟩) ![k, 0] ![1, m] inb).toLoadRect (ix2 (0 : Fin 1) j)
      = View.canon L (ix2 ⟨k, hk⟩ j) := by
  rw [View.readCov_eq_canon']
  exact congrArg (View.canon L) (funext fun a => Fin.ext (by
    match a with
    | ⟨0, _⟩ => show k + 1 * 0 = k; omega
    | ⟨1, _⟩ => show 0 + 1 * j.val = j.val; omega))

/-- and of contents known in one piece, that row of them. -/
theorem ld_row {n m k : ℕ} (hk : k < n) {inb} (x : (⟨2, ![n, m]⟩ : Shape).Idx → Val e) (j : Fin m) :
    View.ld (Val := Val) (e' := e) x (Rect.unit (s := ⟨2, ![n, m]⟩) ![k, 0] ![1, m] inb) (ix2 (0 : Fin 1) j) = x (ix2 ⟨k, hk⟩ j) :=
  congrArg x (funext fun a => Fin.ext (by
    match a with
    | ⟨0, _⟩ => show k + 1 * 0 = k; omega
    | ⟨1, _⟩ => show 0 + 1 * j.val = j.val; omega))

/-- Two places of a matrix with the same numbers are the same. -/
theorem idx2_eq {n k : ℕ} {y z : (⟨2, ![n, k]⟩ : Shape).Idx} (h0 : (y 0).val = (z 0).val) (h1 : (y 1).val = (z 1).val) : y = z :=
  funext fun a => by match a with | ⟨0, _⟩ => exact Fin.ext h0 | ⟨1, _⟩ => exact Fin.ext h1

/-! ## The host's layout operations at plain numbers -/

theorem atN_addf {n k : ℕ} (x y : FVec Ideal ⟨2, ![n, k]⟩ .f32) (r j : ℕ) : atN (addf x y) r j = atN x r j + atN y r j := by
  unfold atN; split
  · rfl
  · exact (zero_add 0).symm

/-- A matrix times a row, read at an entry. -/
theorem atN_mul_row {n k a b : ℕ} (x y : FVec Ideal ⟨2, ![n, k]⟩ .f32) (w : (⟨2, ![a, b]⟩ : Shape).Idx → EReal) (p : ℕ)
    (hy : ∀ i, y i = atN w p (i 1).val) (r j : ℕ) : atN (mulf x y) r j = atN x r j * atN w p j := by
  unfold atN; split
  · exact congrArg _ (hy _)
  · exact (zero_mul _).symm

/-- Two matrices side by side. -/
theorem atN_beside {n k₁ k₂ k : ℕ} (x : (⟨2, ![n, k₁]⟩ : Shape).Idx → EReal) (y : (⟨2, ![n, k₂]⟩ : Shape).Idx → EReal)
    (h : Shape.Concatenates [⟨2, ![n, k₁]⟩, ⟨2, ![n, k₂]⟩] ⟨2, ![n, k]⟩ 1) (hk : k = k₁ + k₂) (r j : ℕ) :
    atN (concatenate ⟨2, ![n, k]⟩ 1 [⟨⟨2, ![n, k₁]⟩, x⟩, ⟨⟨2, ![n, k₂]⟩, y⟩] h) r j = if j < k₁ then atN x r j else atN y r (j - k₁) := by
  subst hk
  by_cases hr : r < n
  · by_cases hj : j < k₁
    · rw [if_pos hj, atN_pos _ hr (by omega), atN_pos _ hr hj]
      exact concatenate_pair_apply_left 1 x y h _ rfl (ix2 ⟨r, hr⟩ ⟨j, hj⟩) fun b => by match b with | ⟨0, _⟩ => rfl | ⟨1, _⟩ => rfl
    · rw [if_neg hj]
      by_cases hj2 : j < k₁ + k₂
      · rw [atN_pos _ hr hj2, atN_pos _ hr (by omega : j - k₁ < k₂)]
        exact concatenate_pair_apply_right 1 x y h _ rfl rfl (ix2 ⟨r, hr⟩ ⟨j - k₁, by omega⟩) (fun b hb => by
          match b with
          | ⟨0, _⟩ => rfl
          | ⟨1, _⟩ => exact absurd rfl hb) (by show j - k₁ + k₁ = j; omega)
      · rw [atN_col _ (by omega), atN_col _ (by omega)]
  · rw [atN_row _ (by omega), atN_row _ (by omega), atN_row _ (by omega), ite_self]

/-- One matrix above another. -/
theorem atN_above {n₁ n₂ n k : ℕ} (x : (⟨2, ![n₁, k]⟩ : Shape).Idx → EReal) (y : (⟨2, ![n₂, k]⟩ : Shape).Idx → EReal)
    (h : Shape.Concatenates [⟨2, ![n₁, k]⟩, ⟨2, ![n₂, k]⟩] ⟨2, ![n, k]⟩ 0) (hk : n = n₁ + n₂) (r j : ℕ) :
    atN (concatenate ⟨2, ![n, k]⟩ 0 [⟨⟨2, ![n₁, k]⟩, x⟩, ⟨⟨2, ![n₂, k]⟩, y⟩] h) r j = if r < n₁ then atN x r j else atN y (r - n₁) j := by
  subst hk
  by_cases hj : j < k
  · by_cases hr : r < n₁
    · rw [if_pos hr, atN_pos _ (by omega) hj, atN_pos _ hr hj]
      exact concatenate_pair_apply_left 0 x y h _ rfl (ix2 ⟨r, hr⟩ ⟨j, hj⟩) fun b => by match b with | ⟨0, _⟩ => rfl | ⟨1, _⟩ => rfl
    · rw [if_neg hr]
      by_cases hr2 : r < n₁ + n₂
      · rw [atN_pos _ hr2 hj, atN_pos _ (by omega : r - n₁ < n₂) hj]
        exact concatenate_pair_apply_right 0 x y h _ rfl rfl (ix2 ⟨r - n₁, by omega⟩ ⟨j, hj⟩) (fun b hb => by
          match b with
          | ⟨0, _⟩ => exact absurd rfl hb
          | ⟨1, _⟩ => rfl) (by show r - n₁ + n₁ = r; omega)
      · rw [atN_row _ (by omega), atN_row _ (by omega)]
  · rw [atN_col _ (by omega), atN_col _ (by omega), atN_col _ (by omega), ite_self]

/-- Zero rows put above and below a matrix. -/
theorem atN_pad {n k l g N : ℕ} (x : (⟨2, ![n, k]⟩ : Shape).Idx → EReal) {u : Shape} (v : u.Idx → EReal)
    (h : Shape.Pads ⟨2, ![n, k]⟩ ![l, 0] ![g, 0] ![0, 0] ⟨2, ![N, k]⟩) (hu : 0 < u.numel) (hv : ∀ i, v i = 0) (hN : l + n ≤ N) (r j : ℕ) :
    atN (pad ⟨2, ![N, k]⟩ ![l, 0] ![g, 0] ![0, 0] x v h hu) r j = if r < l then 0 else atN x (r - l) j := by
  by_cases hj : j < k
  · by_cases hrN : r < N
    · rw [atN_pos _ hrN hj]
      by_cases hr : l ≤ r ∧ r < l + n
      · rw [if_neg (by omega), atN_pos _ (by omega : r - l < n) hj]
        exact pad_apply_of_inside _ _ _ x v h hu _ (ix2 ⟨r - l, by omega⟩ ⟨j, hj⟩) fun a => by
          match a with
          | ⟨0, _⟩ => show r = l + (r - l) * (0 + 1); omega
          | ⟨1, _⟩ => show j = 0 + j * (0 + 1); omega
      · rw [pad_apply_of_not_inside _ _ _ x v h hu _ 0 (by
          show ¬(l ≤ r ∧ (r - l) % (0 + 1) = 0 ∧ (r - l) / (0 + 1) < n)
          rw [zero_add, Nat.div_one]; omega), hv]
        split
        · rfl
        · rw [atN_row _ (by omega)]
    · rw [atN_row _ (by omega)]
      split
      · rfl
      · rw [atN_row _ (by omega)]
  · rw [atN_col _ (by omega), atN_col _ (by omega), ite_self]

/-- Rows `o, …, o + n - 1` of a matrix. -/
theorem atN_slice {N n k o : ℕ} (x : (⟨2, ![N, k]⟩ : Shape).Idx → EReal) (h : Shape.Slices ⟨2, ![N, k]⟩ ![o, 0] ⟨2, ![n, k]⟩) (r j : ℕ) (hr : r < n) :
    atN (extractStridedSlice ⟨2, ![n, k]⟩ ![o, 0] x h) r j = atN x (o + r) j := by
  by_cases hj : j < k
  · have hb : o + r < N := by
      have : o + n ≤ N := h.2 0
      omega
    rw [atN_pos _ hr hj, atN_pos _ hb hj]
    exact extractStridedSlice_apply ![o, 0] x h _ (ix2 ⟨o + r, hb⟩ ⟨j, hj⟩) fun a => by
      match a with
      | ⟨0, _⟩ => rfl
      | ⟨1, _⟩ => exact (Nat.zero_add j).symm
  · rw [atN_col _ (by omega), atN_col _ (by omega)]

/-- A sum over a matrix's rows, as a sum over plain numbers. -/
theorem sum_rows {n : ℕ} (f : ℕ → EReal) : (∑ r : Fin n, f r.val) = ∑ r ∈ Finset.range n, f r := Fin.sum_univ_eq_sum_range f n

end Cert.Own
end
-- ==== Proof.Norm.lean ====
/-
  The gradient of the row norm on the chunk memory (`norm_mem_bwd`): the kernel's run leaves the gradient of the rows
  twice (f32 and bf16) and the gradient of the weight, and the reference's derivative is the same function.
-/
module

public import proofs.«01_k».proof.Proof.Pieces
public import proofs.«01_k».proof.Defs
public import proofs.«01_k».proof.Proof.Gen.NormBwdIdeal.Value
public import proofs.«01_k».proof.Proof.Gen.NormRefIdeal.Run
public import proofs.«01_k».proof.Proof.Gen.NormRefIdeal.Read
public import Idealize.ShloMosaic.Lib.Tactic

@[expose] public section

set_option maxRecDepth 16384

noncomputable section

open Idealize.ShloMosaic Idealize.ShloMosaic.TcCoe Idealize.SL.Sem Idealize.ShloMosaic.ValueIdx
open Idealize.ShloMosaic.Pipeline (Dat)

namespace Cert.NormBwdIdeal.Own

open Cert.NormBwdIdeal Cert.NormBwdIdeal.Gen Cert.Own

section anyF
variable {F : FTy → Type} [FloatOps F]
variable (m : (ℓ : Loc nD τ sig) → Buf (Elt F) ℓ) (ρ : Dev nD → PrngReg)
variable (c : Dev nD) (i : grid0.Coords) (a1 : Memref sig .tc .vmem S256x1024 .f32) (h1 : a1.IsWhole)
  (a2 : Memref sig .tc .vmem S1x1024 .f32) (h2 : a2.IsWhole) (a3 : Memref sig .tc .vmem S256x1024 .f32) (h3 : a3.IsWhole)
  (a4 : Memref sig .tc .vmem S256x1024 .f32) (h4 : a4.IsWhole) (a5 : Memref sig .tc .vmem S1x1024 .f32) (h5 : a5.IsWhole)
  (a6 : Memref sig .tc .vmem S256x1024 .bf16) (h6 : a6.IsWhole) (hc : cond0_0 i)
  (x0 : Vec F S256x1024 .f32) (x1 : Vec F S1x1024 .f32) (x2 : Vec F S256x1024 .f32)

/-- The body leaves the rows' gradient in the first result's buffer. -/
theorem out3 : out0_A_3 c i a1 h1 a2 h2 a3 h3 a4 h4 a5 h5 a6 h6 hc x0 x1 x2 = k0_pay6 x0 x1 x2 := by
  unfold out0_A_3
  refine Eq.trans (View.read_writes_eq_canon _ _ _ fun _ => cover0_A_3 ..) ?_
  unfold kernelRun0_A
  dsimp only
  sl_unfold_words
  simp only [canon2, cov2, View.readAt_eq_ld, Memref.IsWhole.read_unread, ld2, *]

/-- The body leaves the weight's gradient, over the zeros it stored first, in the second result's buffer. -/
theorem out4 : out0_A_4 c i a1 h1 a2 h2 a3 h3 a4 h4 a5 h5 a6 h6 hc x0 x1 x2 = k0_pay2 (k0_pay5 x0 x2) k0_pay1 := by
  unfold out0_A_4
  refine Eq.trans (View.read_writes_eq_canon _ _ _ fun _ => cover0_A_4 ..) ?_
  unfold kernelRun0_A
  dsimp only
  sl_unfold_words
  simp only [canon2, cov2, View.readAt_eq_ld, Memref.IsWhole.read_unread, ld2, *]

/-- The body leaves the rows' gradient, rounded, in the third result's buffer. -/
theorem out5 : out0_A_5 c i a1 h1 a2 h2 a3 h3 a4 h4 a5 h5 a6 h6 hc x0 x1 x2 = k0_pay7 x0 x1 x2 := by
  unfold out0_A_5
  refine Eq.trans (View.read_writes_eq_canon _ _ _ fun _ => cover0_A_5 ..) ?_
  unfold kernelRun0_A
  dsimp only
  sl_unfold_words
  simp only [canon2, cov2, View.readAt_eq_ld, Memref.IsWhole.read_unread, ld2, *]

/-- The blocks of the one grid point are the whole arrays. -/
theorem blk0 (t : Fin cfg0.N) : (iblk m c 0 t : Vec F S256x1024 .f32) = m ((c : Thread nD τ).loc main_arg0) := by
  obtain rfl := fin_N0 t
  have hz' : (fun a => win0_0.index t0_0 a * main_arg0.ty.shape.size a) = fun _ => 0 := funext fun a => by fin_cases a <;> decide
  exact (Memref.read_access_unit_zero (Elt F) main_arg0 hz' (fun a => by rw [congrFun hz' a]; simp) _).trans (V_main_arg0 m c)

theorem blk1 (t : Fin cfg0.N) : (iblk m c 1 t : Vec F S1x1024 .f32)
    = shapeCast S1x1024 (m ((c : Thread nD τ).loc main_arg1)) shapeCasts_S1024_S1x1024 := by
  obtain rfl := fin_N0 t
  have hz' : (fun a => win0_1.index t0_0 a * main_v0.ty.shape.size a) = fun _ => 0 := funext fun a => by fin_cases a <;> decide
  exact (Memref.read_access_unit_zero (Elt F) main_v0 hz' (fun a => by rw [congrFun hz' a]; simp) _).trans rfl

theorem blk2 (t : Fin cfg0.N) : (iblk m c 2 t : Vec F S256x1024 .f32) = m ((c : Thread nD τ).loc main_arg2) := by
  obtain rfl := fin_N0 t
  have hz' : (fun a => win0_2.index t0_0 a * main_arg2.ty.shape.size a) = fun _ => 0 := funext fun a => by fin_cases a <;> decide
  exact (Memref.read_access_unit_zero (Elt F) main_arg2 hz' (fun a => by rw [congrFun hz' a]; simp) _).trans (V_main_arg2 m c)

/-- The arrays after the run. -/
theorem final3 : (dats m 0 c).arrAt 3 cfg0.N = k0_pay6 (m ((c : Thread nD τ).loc main_arg0))
    (shapeCast S1x1024 (m ((c : Thread nD τ).loc main_arg1)) shapeCasts_S1024_S1x1024) (m ((c : Thread nD τ).loc main_arg2)) := by
  have hz' : (fun a => win0_3.index t0_0 a * main_v1_0.ty.shape.size a) = fun _ => 0 := funext fun a => by fin_cases a <;> decide
  refine (Memref.read_access_unit_zero (Elt F) main_v1_0 hz' (fun a => by rw [congrFun hz' a]; simp) _).symm.trans
    ((Value.blocks3 m c t0_0 (flush0_3 t0_0)).trans ((Value.flushed3_A m c t0_0).trans ?_))
  rw [out3, blk0, blk1, blk2]; rfl

theorem final4 : (dats m 0 c).arrAt 4 cfg0.N
    = k0_pay2 (k0_pay5 (m ((c : Thread nD τ).loc main_arg0)) (m ((c : Thread nD τ).loc main_arg2))) k0_pay1 := by
  have hz' : (fun a => win0_4.index t0_0 a * main_v1_1.ty.shape.size a) = fun _ => 0 := funext fun a => by fin_cases a <;> decide
  refine (Memref.read_access_unit_zero (Elt F) main_v1_1 hz' (fun a => by rw [congrFun hz' a]; simp) _).symm.trans
    ((Value.blocks4 m c t0_0 (flush0_4 t0_0)).trans ((Value.flushed4_A m c t0_0).trans ?_))
  rw [out4, blk0, blk2]; rfl

theorem final5 : (dats m 0 c).arrAt 5 cfg0.N = k0_pay7 (m ((c : Thread nD τ).loc main_arg0))
    (shapeCast S1x1024 (m ((c : Thread nD τ).loc main_arg1)) shapeCasts_S1024_S1x1024) (m ((c : Thread nD τ).loc main_arg2)) := by
  have hz' : (fun a => win0_5.index t0_0 a * main_v1_2.ty.shape.size a) = fun _ => 0 := funext fun a => by fin_cases a <;> decide
  refine (Memref.read_access_unit_zero (Elt F) main_v1_2 hz' (fun a => by rw [congrFun hz' a]; simp) _).symm.trans
    ((Value.blocks5 m c t0_0 (flush0_5 t0_0)).trans ((Value.flushed5_A m c t0_0).trans ?_))
  rw [out5, blk0, blk1, blk2]; rfl

end anyF

/-! ## Over the extended reals: the kernel's three results -/

abbrev c1024 : EReal := Ideal.ofBits .f32 0x3A800000#32

variable (x0 x2 : Vec Ideal S256x1024 .f32) (x1 : Vec Ideal S1x1024 .f32)

theorem pay3_apply (i : Fin 256) : k0_pay3 x0 (ix2 i 0) = rowV c1024 epsE fun k => x0 (ix2 i k) := by
  unfold k0_pay3
  simp only [addf_apply, mulf_apply, broadcast_apply, col_apply, multiReduction, Ideal.reduceAdd_def, red_row]
  rfl

theorem pay6_apply (i : Fin 256) (j : Fin 1024) : k0_pay6 x0 x1 x2 (ix2 i j)
    = rowDx c1024 epsE mhalf (fun k => x0 (ix2 i k)) (fun k => x2 (ix2 i k) * x1 (ix2 0 k)) j := by
  unfold k0_pay6 k0_pay4
  simp only [addf_apply, mulf_apply, divf_apply, broadcast_apply, col_apply, multiReduction, Ideal.reduceAdd_def, red_row, Fin.sum_univ_one, rsqrt_apply, bcast_col, broadcastTo_1b_ab_apply,
    shapeCast_self, pay3_apply]
  rfl

/-- The weight's gradient at column `j`: the sum over the rows of the normalised row times the incoming gradient. -/
def dgOf (x2 : Fin 256 → EReal) (x : Fin 256 → Fin 1024 → EReal) (j : Fin 1024) : EReal :=
  ∑ k, x k j * Ideal.rsqrt (rowV c1024 epsE (x k)) * x2 k

theorem pay2_apply (j : Fin 1024) : k0_pay2 (k0_pay5 x0 x2) (k0_pay1 : FVec Ideal S1x1024 .f32) (ix2 0 j)
    = dgOf (fun k => x2 (ix2 k j)) (fun k l => x0 (ix2 k l)) j := by
  unfold k0_pay2 k0_pay5 k0_pay4 k0_pay1 dgOf
  simp only [addf_apply, mulf_apply, broadcast_apply, shapeCast_self, shapeCast_a_1a_apply, multiReduction, Ideal.reduceAdd_def, red_col, bcast_col, rsqrt_apply, pay3_apply]
  rw [show (Scalar.ofBits .f32 0x00000000#32 : Ideal .f32) = 0 from Ideal.ofBits_zero_f32, zero_add]

end Cert.NormBwdIdeal.Own

namespace Cert.NormRefIdeal.Own

open Cert.NormRefIdeal Cert.NormRefIdeal.Gen Cert.NormRefIdeal.Read Cert.Own
open Cert.NormBwdIdeal.Own (c1024 dgOf)

variable (x0 x2 : (⟨S256x1024, .f32⟩ : BufTy).Contents (Elt Ideal)) (x1 : (⟨S1024, .f32⟩ : BufTy).Contents (Elt Ideal))

theorem v6_apply (i : Fin 256) : val_main_v6 (F := Ideal) x0 (ix2 i 0) = rowV c1024 epsE fun k => x0 (ix2 i k) := by
  simp only [val_main_v6_apply, val_main_v5_apply, val_main_v4_apply, val_main_v3_apply, val_main_v2_apply, val_main_v1_apply,
    val_main_v0_apply, val_main_cst_apply, val_main_cst_0_apply, val_main_cst_1_apply, Ideal.addf_def, Ideal.mulf_def,
    Ideal.hostDivf_def, Ideal.ofBits_def, Ideal.ofBits_zero_f32, zero_add, div_1024]
  show _ = (∑ k, _) * _ + _
  congr 2
  refine Finset.sum_congr rfl fun k _ => ?_
  rw [show idx_main_v1 (idx_main_v2 (ix2 i 0)) k = ix2 i k from funext fun a => by match a with | ⟨0, _⟩ => rfl | ⟨1, _⟩ => rfl]

theorem v10_apply (i : Fin 256) : val_main_v10 (F := Ideal) x0 (ix2 i 0)
    = mhalf * Ideal.div (Ideal.rsqrt (rowV c1024 epsE fun k => x0 (ix2 i k))) (rowV c1024 epsE fun k => x0 (ix2 i k)) := by
  simp only [val_main_v10_apply, val_main_v9_apply, val_main_v8_apply, val_main_v7_apply, val_main_cst_2_apply, Ideal.mulf_def,
    Ideal.hostDivf_def, Ideal.hostUnary_rsqrt_def, v6_apply]
  rfl

theorem v20_apply (i : Fin 256) (j : Fin 1024) : val_main_v20 (F := Ideal) x1 x2 (ix2 i j) = x2 (ix2 i j) * x1 (ix1 j) := by
  simp only [val_main_v20_apply, val_main_v19_apply, val_main_v13_apply, Ideal.mulf_def]
  rw [show idx_main_v13 (idx_main_v19 (ix2 i j)) = ix1 j from funext fun a => by match a with | ⟨0, _⟩ => rfl]

theorem v31_apply (i : Fin 256) (j : Fin 1024) : val_main_v31 (F := Ideal) x0 x1 x2 (ix2 i j)
    = rowS c1024 epsE mhalf (fun k => x0 (ix2 i k)) (fun k => x2 (ix2 i k) * x1 (ix1 k)) := by
  have h1 : idx_main_v30 (idx_main_v31 (ix2 i j)) 0 = ix2 i 0 := funext fun a => by match a with | ⟨0, _⟩ => rfl | ⟨1, _⟩ => rfl
  have h2 : ∀ k, idx_main_v23 (idx_main_v24 (ix2 i 0)) k = ix2 i k := fun k => funext fun a => by
    match a with | ⟨0, _⟩ => exact Fin.ext (by show i.val * 1 + 0 = i.val; omega) | ⟨1, _⟩ => rfl
  simp only [val_main_v31_apply, val_main_v30_apply, val_main_cst_7_apply, Fin.sum_univ_one, h1, val_main_v29_apply, val_main_v28_apply,
    val_main_cst_6_apply, val_main_v27_apply, v10_apply, val_main_v24_apply, val_main_v23_apply, val_main_v22_apply, h2,
    val_main_cst_5_apply, v20_apply, Ideal.mulf_def, Ideal.hostDivf_def, Ideal.ofBits_def, Ideal.ofBits_zero_f32, zero_add, div_1024]
  rfl

theorem v7_apply (i : Fin 256) : val_main_v7 (F := Ideal) x0 (ix2 i 0) = Ideal.rsqrt (rowV c1024 epsE fun k => x0 (ix2 i k)) := by
  simp only [val_main_v7_apply, Ideal.hostUnary_rsqrt_def, v6_apply]

theorem v35_apply (i : Fin 256) (j : Fin 1024) : val_main_v35 (F := Ideal) x0 x1 x2 (ix2 i j)
    = rowDx c1024 epsE mhalf (fun k => x0 (ix2 i k)) (fun k => x2 (ix2 i k) * x1 (ix1 k)) j := by
  have h1 : idx_main_v25 (ix2 i j) = ix2 i 0 := funext fun a => by match a with | ⟨0, _⟩ => rfl | ⟨1, _⟩ => rfl
  simp only [val_main_v35_apply, val_main_v34_apply, val_main_v33_apply, val_main_v32_apply, val_main_v26_apply, val_main_v25_apply, h1,
    v7_apply, v31_apply, v20_apply, Ideal.mulf_def, Ideal.addf_def]
  rfl

theorem v37_apply (j : Fin 1024) : val_main_v37 (F := Ideal) x0 x2 (ix2 0 j)
    = dgOf (fun k => x2 (ix2 k j)) (fun k l => x0 (ix2 k l)) j := by
  have h1 : ∀ k : Fin 256, idx_main_v17 (idx_main_v18 (idx_main_v21 (idx_main_v37 (ix2 0 j)) 0)) k = ix2 k j := fun k => funext fun a => by
    match a with | ⟨0, _⟩ => rfl | ⟨1, _⟩ => exact Fin.ext (by show 0 * 1024 + (0 * 1024 + j.val) = j.val; omega)
  have h2 : ∀ k : Fin 256, idx_main_v11 (ix2 k j) = ix2 k 0 := fun k => funext fun a => by match a with | ⟨0, _⟩ => rfl | ⟨1, _⟩ => rfl
  simp only [val_main_v37_apply, val_main_v21_apply, val_main_v18_apply, val_main_v17_apply, val_main_v16_apply, val_main_v12_apply,
    val_main_v11_apply, Fin.sum_univ_one, h1, h2, val_main_cst_3_apply, val_main_cst_4_apply, v7_apply, Ideal.mulf_def, Ideal.ofBits_def,
    Ideal.ofBits_zero_f32, zero_add]
  rfl

end Cert.NormRefIdeal.Own

namespace Cert.Norm

open Cert.Own

/-- The kernel's three results are the reference's. -/
theorem dx_eq (x0 x2 : Vec Ideal Cert.NormBwdIdeal.S256x1024 .f32) (x1 : Vec Ideal Cert.NormBwdIdeal.S1024 .f32) :
    Cert.NormBwdIdeal.Gen.k0_pay6 x0 (shapeCast Cert.NormBwdIdeal.S1x1024 x1 Cert.NormBwdIdeal.Gen.shapeCasts_S1024_S1x1024) x2
      = Cert.NormRefIdeal.Read.val_main_v35 (F := Ideal) x0 x1 x2 := ext2 fun i j => by
  refine (Cert.NormBwdIdeal.Own.pay6_apply x0 x2 _ i j).trans (Eq.trans ?_ (Cert.NormRefIdeal.Own.v35_apply x0 x2 x1 i j).symm)
  simp only [shapeCast_a_1a_apply]

theorem dg_eq (x0 x2 : Vec Ideal Cert.NormBwdIdeal.S256x1024 .f32) :
    Cert.NormBwdIdeal.Gen.k0_pay2 (Cert.NormBwdIdeal.Gen.k0_pay5 x0 x2) (Cert.NormBwdIdeal.Gen.k0_pay1 : FVec Ideal Cert.NormBwdIdeal.S1x1024 .f32)
      = Cert.NormRefIdeal.Read.val_main_v37 (F := Ideal) x0 x2 := ext_row fun j =>
  (Cert.NormBwdIdeal.Own.pay2_apply x0 x2 j).trans (Cert.NormRefIdeal.Own.v37_apply x0 x2 j).symm

/-- The reference program ends with its arguments unchanged and every counter at zero. -/
theorem ref_frame : Cert.quiescent_NormRefIdeal (hNormRefIdeal := Cert.NormRefIdeal.Gen.facts) := fun m g _ =>
  (θ_run Cert.NormRefIdeal.defs _ _).mono (fun r h => ⟨fun c => (h c).2.2.2, sem_eq_zero_of_no_sems (by decide) r.2⟩)
    (Cert.NormRefIdeal.Value.run m g)

set_option maxHeartbeats 1000000 in
/-- Over the extended reals the kernel returns the derivative of the row norm. -/
theorem value : Cert.algebraic_NormBwdIdeal_NormRefIdeal (hNormBwdIdeal := Cert.NormBwdIdeal.Gen.facts)
    (hNormRefIdeal := Cert.NormRefIdeal.Gen.facts) := fun m g m' g' _ hm => by
  refine ⟨fun c => (Cert.NormBwdIdeal.Gen.dats m 0 c).arrAt 3 Cert.NormBwdIdeal.cfg0.N,
    fun c => (Cert.NormBwdIdeal.Gen.dats m 0 c).arrAt 5 Cert.NormBwdIdeal.cfg0.N,
    fun c => (Cert.NormBwdIdeal.Gen.dats m 0 c).arrAt 4 Cert.NormBwdIdeal.cfg0.N, ?_, ?_⟩
  · refine (θ_run Cert.NormBwdIdeal.defs _ _).mono (fun r h c => ?_) (Cert.NormBwdIdeal.Value.run_blocks m g)
    exact ⟨(h c).1, (h c).2.2.1, (h c).2.1, (h c).2.2.2⟩
  · refine (θ_run Cert.NormRefIdeal.defs _ _).mono (fun r h c => ?_) (Cert.NormRefIdeal.Value.run m' g')
    obtain ⟨e0, e1, e2⟩ := hm c
    obtain ⟨h0, h1, h2, h3⟩ := h c
    refine ⟨h0.trans ?_, h1.trans ?_, h2.trans ?_, h3⟩
    · refine (Cert.NormRefIdeal.Read.val_main_v35_eq (F := Ideal) _ _ _).trans (Eq.trans ?_ (Cert.NormBwdIdeal.Own.final3 m c).symm)
      rw [e0, e1, e2]
      exact (dx_eq _ _ _).symm
    · refine (Cert.NormRefIdeal.Read.val_main_v36_eq (F := Ideal) _ _ _).trans (Eq.trans ?_ (Cert.NormBwdIdeal.Own.final5 m c).symm)
      rw [e0, e1, e2]
      exact (dx_eq _ _ _).symm
    · refine (Cert.NormRefIdeal.Read.val_main_v37_eq (F := Ideal) _ _).trans (Eq.trans ?_ (Cert.NormBwdIdeal.Own.final4 m c).symm)
      rw [e0, e2]
      exact (dg_eq _ _).symm

end Cert.Norm
end
-- ==== Proof.ConvRef.lean ====
module

public import proofs.«01_k».proof.Proof.Pieces
public import proofs.«01_k».proof.Proof.Gen.ConvRefIdeal.Read

/-! # The convolution's gradient as the reference computes it: its sums at plain row and column numbers -/

@[expose] public section
set_option maxRecDepth 16384
noncomputable section

namespace Cert.ConvRefIdeal.Own
open Idealize.ShloMosaic Idealize.ShloMosaic.TcCoe Idealize.SL.Sem Idealize.ShloMosaic.ValueIdx
open Cert.Own Cert.ConvRefIdeal.Read

/-- A matrix below three zero rows. -/
def xP {k : ℕ} (x : (⟨2, ![8192, k]⟩ : Shape).Idx → EReal) (r j : ℕ) : EReal := if r < 3 then 0 else atN x (r - 3) j

/-- Tap `p` of the weights' gradient. -/
def tapSum {k : ℕ} (d x : (⟨2, ![8192, k]⟩ : Shape).Idx → EReal) (p j : ℕ) : EReal := ∑ r ∈ Finset.range 8192, atN d r j * xP x (r + p) j

theorem zero_bits : (FloatOps.ofBits .f32 0x00000000#32 : Ideal .f32) = 0 := Ideal.ofBits_zero_f32

/-- A row, summed over its one row twice, is the sum of the products over the rows. -/
theorem tap_of {k : ℕ} (d x : (⟨2, ![8192, k]⟩ : Shape).Idx → EReal) (s : (⟨2, ![1, k]⟩ : Shape).Idx → EReal) (q e : (⟨2, ![8192, k]⟩ : Shape).Idx → EReal) (p : ℕ)
    (hs : ∀ i, s i = ∑ r : Fin 8192, q (ix2 r (i 1)) * e (ix2 r (i 1))) (he : e = d) (hq : ∀ r j, r < 8192 → atN q r j = xP x (p + r) j) (j : ℕ)
    (hj : j < k) : atN s 0 j = tapSum d x p j := by
  subst he
  rw [atN_pos s (by omega) hj, hs, tapSum, ← sum_rows (fun r => atN e r j * xP x (r + p) j)]
  refine Finset.sum_congr rfl fun r _ => ?_
  rw [eq_atN q, eq_atN e, mul_comm]
  show atN e r.val j * atN q r.val j = _
  rw [hq _ _ r.isLt, Nat.add_comm p]

/-- The four taps' rows added up are each tap's row at its own place. -/
theorem taps {k : ℕ} (a3 a2 a1 a0 s3 s2 s1 s0 : ℕ → ℕ → EReal) (T : ℕ → ℕ → EReal)
    (h3 : ∀ r j, a3 r j = if r < 3 then 0 else s3 (r - 3) j) (h2 : ∀ r j, a2 r j = if r < 2 then 0 else s2 (r - 2) j)
    (h1 : ∀ r j, a1 r j = if r < 1 then 0 else s1 (r - 1) j) (h0 : ∀ r j, a0 r j = if r < 0 then 0 else s0 (r - 0) j)
    (z3 : ∀ r j, 1 ≤ r → s3 r j = 0) (z2 : ∀ r j, 1 ≤ r → s2 r j = 0) (z1 : ∀ r j, 1 ≤ r → s1 r j = 0) (z0 : ∀ r j, 1 ≤ r → s0 r j = 0)
    (e3 : ∀ j, j < k → s3 0 j = T 3 j) (e2 : ∀ j, j < k → s2 0 j = T 2 j) (e1 : ∀ j, j < k → s1 0 j = T 1 j) (e0 : ∀ j, j < k → s0 0 j = T 0 j)
    (r j : ℕ) (hr : r < 4) (hj : j < k) : a3 r j + a2 r j + a1 r j + a0 r j = T r j := by
  rw [h3, h2, h1, h0]
  have : r = 0 ∨ r = 1 ∨ r = 2 ∨ r = 3 := by omega
  rcases this with rfl | rfl | rfl | rfl <;>
    simp [e3 j hj, e2 j hj, e1 j hj, e0 j hj, z3, z2, z1, z0]

section Conv512
variable (x0 : FVec Ideal ⟨2, ![8192, 512]⟩ .f32) (x1 : FVec Ideal ⟨2, ![4, 512]⟩ .f32) (x6 : FVec Ideal ⟨2, ![8192, 512]⟩ .f32)

theorem d33_512 : val_main_v33 (F := Ideal) x6 = x6 := by unfold val_main_v33; exact shapeCast_self _ _
theorem d34_512 : val_main_v34 (F := Ideal) x6 = x6 := by unfold val_main_v34; exact shapeCast_self _ _

/-- The padded input, -/
theorem x1_512 (r j : ℕ) : atN (val_main_v1 (F := Ideal) x0) r j = xP x0 r j := by
  unfold val_main_v1
  refine (atN_above (val_main_v0 (F := Ideal)) x0 _ rfl r j).trans ?_
  unfold xP
  by_cases h : r < 3
  · rw [if_pos h, if_pos h]
    unfold atN; split
    · simp only [val_main_v0_apply, val_main_cst_apply]; exact zero_bits
    · rfl
  · rw [if_neg h, if_neg h]

/-- its four shifts, -/
theorem x3_512 (r j : ℕ) (hr : r < 8192) : atN (val_main_v3 (F := Ideal) x0) r j = xP x0 (0 + r) j := by
  unfold val_main_v3; exact (atN_slice _ _ r j hr).trans (x1_512 x0 _ j)
theorem x12_512 (r j : ℕ) (hr : r < 8192) : atN (val_main_v12 (F := Ideal) x0) r j = xP x0 (1 + r) j := by
  unfold val_main_v12; exact (atN_slice _ _ r j hr).trans (x1_512 x0 _ j)
theorem x19_512 (r j : ℕ) (hr : r < 8192) : atN (val_main_v19 (F := Ideal) x0) r j = xP x0 (2 + r) j := by
  unfold val_main_v19; exact (atN_slice _ _ r j hr).trans (x1_512 x0 _ j)
theorem x26_512 (r j : ℕ) (hr : r < 8192) : atN (val_main_v26 (F := Ideal) x0) r j = xP x0 (3 + r) j := by
  unfold val_main_v26; exact (atN_slice _ _ r j hr).trans (x1_512 x0 _ j)

/-- the taps of the weights' gradient, -/
theorem dw_512 (r j : ℕ) (hr : r < 4) (hj : j < 512) : atN (val_main_v77 (F := Ideal) x0 x6) r j = tapSum x6 x0 r j := by
  unfold val_main_v77 val_main_v63 val_main_v52
  rw [atN_addf, atN_addf, atN_addf]
  refine taps (k := 512) _ _ _ _ (atN (val_main_v41 (F := Ideal) x0 x6)) (atN (val_main_v50 (F := Ideal) x0 x6)) (atN (val_main_v61 (F := Ideal) x0 x6)) (atN (val_main_v75 (F := Ideal) x0 x6)) (tapSum x6 x0)
    (fun r j => atN_pad _ _ _ _ (fun i => zero_bits) (by omega) r j) (fun r j => atN_pad _ _ _ _ (fun i => zero_bits) (by omega) r j)
    (fun r j => atN_pad _ _ _ _ (fun i => zero_bits) (by omega) r j) (fun r j => atN_pad _ _ _ _ (fun i => zero_bits) (by omega) r j)
    (fun r j h => atN_row _ h) (fun r j h => atN_row _ h) (fun r j h => atN_row _ h) (fun r j h => atN_row _ h)
    (fun j hj => tap_of x6 x0 _ (val_main_v26 (F := Ideal) x0) (val_main_v34 (F := Ideal) x6) 3 (fun i => ?_) (d34_512 x6) (x26_512 x0) j hj)
    (fun j hj => tap_of x6 x0 _ (val_main_v19 (F := Ideal) x0) (val_main_v33 (F := Ideal) x6) 2 (fun i => ?_) (d33_512 x6) (x19_512 x0) j hj)
    (fun j hj => tap_of x6 x0 _ (val_main_v12 (F := Ideal) x0) (val_main_v33 (F := Ideal) x6) 1 (fun i => ?_) (d33_512 x6) (x12_512 x0) j hj)
    (fun j hj => tap_of x6 x0 _ (val_main_v3 (F := Ideal) x0) (val_main_v33 (F := Ideal) x6) 0 (fun i => ?_) (d33_512 x6) (x3_512 x0) j hj) r j hr hj
  · simp only [val_main_v41_apply, val_main_v40_apply, val_main_v37_apply, val_main_v36_apply, val_main_v35_apply, val_main_cst_2_apply, val_main_cst_1_apply, zero_bits, zero_add, Fin.sum_univ_one]
    exact Finset.sum_congr rfl fun r _ => congrArg₂ (· * ·) (congrArg _ (idx2_eq rfl (by show 0 * 512 + (i 1).val = (i 1).val; omega))) (congrArg _ (idx2_eq rfl (by show 0 * 512 + (i 1).val = (i 1).val; omega)))
  · simp only [val_main_v50_apply, val_main_v49_apply, val_main_v46_apply, val_main_v45_apply, val_main_v44_apply, val_main_cst_6_apply, val_main_cst_5_apply, zero_bits, zero_add, Fin.sum_univ_one]
    exact Finset.sum_congr rfl fun r _ => congrArg₂ (· * ·) (congrArg _ (idx2_eq rfl (by show 0 * 512 + (i 1).val = (i 1).val; omega))) (congrArg _ (idx2_eq rfl (by show 0 * 512 + (i 1).val = (i 1).val; omega)))
  · simp only [val_main_v61_apply, val_main_v60_apply, val_main_v57_apply, val_main_v56_apply, val_main_v55_apply, val_main_cst_10_apply, val_main_cst_9_apply, zero_bits, zero_add, Fin.sum_univ_one]
    exact Finset.sum_congr rfl fun r _ => congrArg₂ (· * ·) (congrArg _ (idx2_eq rfl (by show 0 * 512 + (i 1).val = (i 1).val; omega))) (congrArg _ (idx2_eq rfl (by show 0 * 512 + (i 1).val = (i 1).val; omega)))
  · simp only [val_main_v75_apply, val_main_v74_apply, val_main_v71_apply, val_main_v70_apply, val_main_v69_apply, val_main_cst_16_apply, val_main_cst_15_apply, zero_bits, zero_add, Fin.sum_univ_one]
    exact Finset.sum_congr rfl fun r _ => congrArg₂ (· * ·) (congrArg _ (idx2_eq rfl (by show 0 * 512 + (i 1).val = (i 1).val; omega))) (congrArg _ (idx2_eq rfl (by show 0 * 512 + (i 1).val = (i 1).val; omega)))

/-- the biases' gradient -/
theorem db_512 (i : (⟨1, ![512]⟩ : Shape).Idx) : val_main_v68 (F := Ideal) x6 i = ∑ r ∈ Finset.range 8192, atN x6 r (i 0).val := by
  simp only [val_main_v68_apply, val_main_v67_apply, val_main_v66_apply, d33_512, val_main_cst_13_apply, val_main_cst_14_apply, zero_bits, zero_add, Fin.sum_univ_one]
  rw [← sum_rows (fun r => atN x6 r (i 0).val)]
  exact Finset.sum_congr rfl fun r _ => eq_atN_of x6 _ rfl (by show 0 * 512 + (i 0).val = (i 0).val; omega)

/-- and the input's. -/
theorem du_512 (r j : ℕ) (hr : r < 8192) : atN (val_main_v81 (F := Ideal) x1 x6) r j
    = atN x6 r j * atN x1 3 j + atN x6 (r + 1) j * atN x1 2 j + atN x6 (r + 2) j * atN x1 1 j + atN x6 (r + 3) j * atN x1 0 j := by
  have h3 : ∀ r j, atN (val_main_v39 (F := Ideal) x1 x6) r j = atN x6 r j * atN x1 3 j := fun r j =>
    (atN_mul_row _ _ x1 3 (fun i => by simp only [val_main_v38_apply, val_main_v29_apply, val_main_v28_apply, val_main_v27_apply]; exact eq_atN_of x1 _ rfl (Nat.mod_eq_of_lt (i 1).isLt)) r j).trans (by rw [d34_512])
  have h2 : ∀ r j, atN (val_main_v48 (F := Ideal) x1 x6) r j = atN x6 r j * atN x1 2 j := fun r j =>
    (atN_mul_row _ _ x1 2 (fun i => by simp only [val_main_v47_apply, val_main_v22_apply, val_main_v21_apply, val_main_v20_apply]; exact eq_atN_of x1 _ rfl (Nat.mod_eq_of_lt (i 1).isLt)) r j).trans (by rw [d33_512])
  have h1 : ∀ r j, atN (val_main_v59 (F := Ideal) x1 x6) r j = atN x6 r j * atN x1 1 j := fun r j =>
    (atN_mul_row _ _ x1 1 (fun i => by simp only [val_main_v58_apply, val_main_v15_apply, val_main_v14_apply, val_main_v13_apply]; exact eq_atN_of x1 _ rfl (Nat.mod_eq_of_lt (i 1).isLt)) r j).trans (by rw [d33_512])
  have h0 : ∀ r j, atN (val_main_v73 (F := Ideal) x1 x6) r j = atN x6 r j * atN x1 0 j := fun r j =>
    (atN_mul_row _ _ x1 0 (fun i => by simp only [val_main_v72_apply, val_main_v6_apply, val_main_v5_apply, val_main_v4_apply]; exact eq_atN_of x1 _ rfl (Nat.mod_eq_of_lt (i 1).isLt)) r j).trans (by rw [d33_512])
  have hs : atN (val_main_v81 (F := Ideal) x1 x6) r j = atN (val_main_v79 (F := Ideal) x1 x6) (3 + r) j := by unfold val_main_v81; exact atN_slice _ _ r j hr
  rw [hs]
  unfold val_main_v79 val_main_v65 val_main_v54
  rw [atN_addf, atN_addf, atN_addf]
  refine congrArg₂ (· + ·) (congrArg₂ (· + ·) (congrArg₂ (· + ·) ?_ ?_) ?_) ?_
  · refine (atN_pad _ _ _ _ (fun i => zero_bits) (by omega) _ _).trans ?_
    rw [if_neg (by omega), h3, show 3 + r - 3 = r by omega]
  · refine (atN_pad _ _ _ _ (fun i => zero_bits) (by omega) _ _).trans ?_
    rw [if_neg (by omega), h2, show 3 + r - 2 = r + 1 by omega]
  · refine (atN_pad _ _ _ _ (fun i => zero_bits) (by omega) _ _).trans ?_
    rw [if_neg (by omega), h1, show 3 + r - 1 = r + 2 by omega]
  · refine (atN_pad _ _ _ _ (fun i => zero_bits) (by omega) _ _).trans ?_
    rw [if_neg (by omega), h0, show 3 + r - 0 = r + 3 by omega]

end Conv512

section Conv256
variable (x3 : FVec Ideal ⟨2, ![8192, 256]⟩ .f32) (x4 : FVec Ideal ⟨2, ![4, 256]⟩ .f32) (x7 : FVec Ideal ⟨2, ![8192, 256]⟩ .f32)

theorem d33_256 : val_main_v115 (F := Ideal) x7 = x7 := by unfold val_main_v115; exact shapeCast_self _ _
theorem d34_256 : val_main_v116 (F := Ideal) x7 = x7 := by unfold val_main_v116; exact shapeCast_self _ _

/-- The padded input, -/
theorem x1_256 (r j : ℕ) : atN (val_main_v83 (F := Ideal) x3) r j = xP x3 r j := by
  unfold val_main_v83
  refine (atN_above (val_main_v82 (F := Ideal)) x3 _ rfl r j).trans ?_
  unfold xP
  by_cases h : r < 3
  · rw [if_pos h, if_pos h]
    unfold atN; split
    · simp only [val_main_v82_apply, val_main_cst_19_apply]; exact zero_bits
    · rfl
  · rw [if_neg h, if_neg h]

/-- its four shifts, -/
theorem x3_256 (r j : ℕ) (hr : r < 8192) : atN (val_main_v85 (F := Ideal) x3) r j = xP x3 (0 + r) j := by
  unfold val_main_v85; exact (atN_slice _ _ r j hr).trans (x1_256 x3 _ j)
theorem x12_256 (r j : ℕ) (hr : r < 8192) : atN (val_main_v94 (F := Ideal) x3) r j = xP x3 (1 + r) j := by
  unfold val_main_v94; exact (atN_slice _ _ r j hr).trans (x1_256 x3 _ j)
theorem x19_256 (r j : ℕ) (hr : r < 8192) : atN (val_main_v101 (F := Ideal) x3) r j = xP x3 (2 + r) j := by
  unfold val_main_v101; exact (atN_slice _ _ r j hr).trans (x1_256 x3 _ j)
theorem x26_256 (r j : ℕ) (hr : r < 8192) : atN (val_main_v108 (F := Ideal) x3) r j = xP x3 (3 + r) j := by
  unfold val_main_v108; exact (atN_slice _ _ r j hr).trans (x1_256 x3 _ j)

/-- the taps of the weights' gradient, -/
theorem dw_256 (r j : ℕ) (hr : r < 4) (hj : j < 256) : atN (val_main_v159 (F := Ideal) x3 x7) r j = tapSum x7 x3 r j := by
  unfold val_main_v159 val_main_v145 val_main_v134
  rw [atN_addf, atN_addf, atN_addf]
  refine taps (k := 256) _ _ _ _ (atN (val_main_v123 (F := Ideal) x3 x7)) (atN (val_main_v132 (F := Ideal) x3 x7)) (atN (val_main_v143 (F := Ideal) x3 x7)) (atN (val_main_v157 (F := Ideal) x3 x7)) (tapSum x7 x3)
    (fun r j => atN_pad _ _ _ _ (fun i => zero_bits) (by omega) r j) (fun r j => atN_pad _ _ _ _ (fun i => zero_bits) (by omega) r j)
    (fun r j => atN_pad _ _ _ _ (fun i => zero_bits) (by omega) r j) (fun r j => atN_pad _ _ _ _ (fun i => zero_bits) (by omega) r j)
    (fun r j h => atN_row _ h) (fun r j h => atN_row _ h) (fun r j h => atN_row _ h) (fun r j h => atN_row _ h)
    (fun j hj => tap_of x7 x3 _ (val_main_v108 (F := Ideal) x3) (val_main_v116 (F := Ideal) x7) 3 (fun i => ?_) (d34_256 x7) (x26_256 x3) j hj)
    (fun j hj => tap_of x7 x3 _ (val_main_v101 (F := Ideal) x3) (val_main_v115 (F := Ideal) x7) 2 (fun i => ?_) (d33_256 x7) (x19_256 x3) j hj)
    (fun j hj => tap_of x7 x3 _ (val_main_v94 (F := Ideal) x3) (val_main_v115 (F := Ideal) x7) 1 (fun i => ?_) (d33_256 x7) (x12_256 x3) j hj)
    (fun j hj => tap_of x7 x3 _ (val_main_v85 (F := Ideal) x3) (val_main_v115 (F := Ideal) x7) 0 (fun i => ?_) (d33_256 x7) (x3_256 x3) j hj) r j hr hj
  · simp only [val_main_v123_apply, val_main_v122_apply, val_main_v119_apply, val_main_v118_apply, val_main_v117_apply, val_main_cst_22_apply, val_main_cst_21_apply, zero_bits, zero_add, Fin.sum_univ_one]
    exact Finset.sum_congr rfl fun r _ => congrArg₂ (· * ·) (congrArg _ (idx2_eq rfl (by show 0 * 256 + (i 1).val = (i 1).val; omega))) (congrArg _ (idx2_eq rfl (by show 0 * 256 + (i 1).val = (i 1).val; omega)))
  · simp only [val_main_v132_apply, val_main_v131_apply, val_main_v128_apply, val_main_v127_apply, val_main_v126_apply, val_main_cst_26_apply, val_main_cst_25_apply, zero_bits, zero_add, Fin.sum_univ_one]
    exact Finset.sum_congr rfl fun r _ => congrArg₂ (· * ·) (congrArg _ (idx2_eq rfl (by show 0 * 256 + (i 1).val = (i 1).val; omega))) (congrArg _ (idx2_eq rfl (by show 0 * 256 + (i 1).val = (i 1).val; omega)))
  · simp only [val_main_v143_apply, val_main_v142_apply, val_main_v139_apply, val_main_v138_apply, val_main_v137_apply, val_main_cst_30_apply, val_main_cst_29_apply, zero_bits, zero_add, Fin.sum_univ_one]
    exact Finset.sum_congr rfl fun r _ => congrArg₂ (· * ·) (congrArg _ (idx2_eq rfl (by show 0 * 256 + (i 1).val = (i 1).val; omega))) (congrArg _ (idx2_eq rfl (by show 0 * 256 + (i 1).val = (i 1).val; omega)))
  · simp only [val_main_v157_apply, val_main_v156_apply, val_main_v153_apply, val_main_v152_apply, val_main_v151_apply, val_main_cst_36_apply, val_main_cst_35_apply, zero_bits, zero_add, Fin.sum_univ_one]
    exact Finset.sum_congr rfl fun r _ => congrArg₂ (· * ·) (congrArg _ (idx2_eq rfl (by show 0 * 256 + (i 1).val = (i 1).val; omega))) (congrArg _ (idx2_eq rfl (by show 0 * 256 + (i 1).val = (i 1).val; omega)))

/-- the biases' gradient -/
theorem db_256 (i : (⟨1, ![256]⟩ : Shape).Idx) : val_main_v150 (F := Ideal) x7 i = ∑ r ∈ Finset.range 8192, atN x7 r (i 0).val := by
  simp only [val_main_v150_apply, val_main_v149_apply, val_main_v148_apply, d33_256, val_main_cst_33_apply, val_main_cst_34_apply, zero_bits, zero_add, Fin.sum_univ_one]
  rw [← sum_rows (fun r => atN x7 r (i 0).val)]
  exact Finset.sum_congr rfl fun r _ => eq_atN_of x7 _ rfl (by show 0 * 256 + (i 0).val = (i 0).val; omega)

/-- and the input's. -/
theorem du_256 (r j : ℕ) (hr : r < 8192) : atN (val_main_v163 (F := Ideal) x4 x7) r j
    = atN x7 r j * atN x4 3 j + atN x7 (r + 1) j * atN x4 2 j + atN x7 (r + 2) j * atN x4 1 j + atN x7 (r + 3) j * atN x4 0 j := by
  have h3 : ∀ r j, atN (val_main_v121 (F := Ideal) x4 x7) r j = atN x7 r j * atN x4 3 j := fun r j =>
    (atN_mul_row _ _ x4 3 (fun i => by simp only [val_main_v120_apply, val_main_v111_apply, val_main_v110_apply, val_main_v109_apply]; exact eq_atN_of x4 _ rfl (Nat.mod_eq_of_lt (i 1).isLt)) r j).trans (by rw [d34_256])
  have h2 : ∀ r j, atN (val_main_v130 (F := Ideal) x4 x7) r j = atN x7 r j * atN x4 2 j := fun r j =>
    (atN_mul_row _ _ x4 2 (fun i => by simp only [val_main_v129_apply, val_main_v104_apply, val_main_v103_apply, val_main_v102_apply]; exact eq_atN_of x4 _ rfl (Nat.mod_eq_of_lt (i 1).isLt)) r j).trans (by rw [d33_256])
  have h1 : ∀ r j, atN (val_main_v141 (F := Ideal) x4 x7) r j = atN x7 r j * atN x4 1 j := fun r j =>
    (atN_mul_row _ _ x4 1 (fun i => by simp only [val_main_v140_apply, val_main_v97_apply, val_main_v96_apply, val_main_v95_apply]; exact eq_atN_of x4 _ rfl (Nat.mod_eq_of_lt (i 1).isLt)) r j).trans (by rw [d33_256])
  have h0 : ∀ r j, atN (val_main_v155 (F := Ideal) x4 x7) r j = atN x7 r j * atN x4 0 j := fun r j =>
    (atN_mul_row _ _ x4 0 (fun i => by simp only [val_main_v154_apply, val_main_v88_apply, val_main_v87_apply, val_main_v86_apply]; exact eq_atN_of x4 _ rfl (Nat.mod_eq_of_lt (i 1).isLt)) r j).trans (by rw [d33_256])
  have hs : atN (val_main_v163 (F := Ideal) x4 x7) r j = atN (val_main_v161 (F := Ideal) x4 x7) (3 + r) j := by unfold val_main_v163; exact atN_slice _ _ r j hr
  rw [hs]
  unfold val_main_v161 val_main_v147 val_main_v136
  rw [atN_addf, atN_addf, atN_addf]
  refine congrArg₂ (· + ·) (congrArg₂ (· + ·) (congrArg₂ (· + ·) ?_ ?_) ?_) ?_
  · refine (atN_pad _ _ _ _ (fun i => zero_bits) (by omega) _ _).trans ?_
    rw [if_neg (by omega), h3, show 3 + r - 3 = r by omega]
  · refine (atN_pad _ _ _ _ (fun i => zero_bits) (by omega) _ _).trans ?_
    rw [if_neg (by omega), h2, show 3 + r - 2 = r + 1 by omega]
  · refine (atN_pad _ _ _ _ (fun i => zero_bits) (by omega) _ _).trans ?_
    rw [if_neg (by omega), h1, show 3 + r - 1 = r + 2 by omega]
  · refine (atN_pad _ _ _ _ (fun i => zero_bits) (by omega) _ _).trans ?_
    rw [if_neg (by omega), h0, show 3 + r - 0 = r + 3 by omega]

end Conv256

end Cert.ConvRefIdeal.Own
end
-- ==== Proof.Conv.lean ====
/-
  The gradient of the two causal depthwise convolutions (`conv_bwd`, one call over their joined channels): what one grid
  point's body leaves, the sums the grid accumulates, and the reference's derivative as the same sums.
-/
module

public import proofs.«01_k».proof.Proof.Pieces
public import proofs.«01_k».proof.Proof.ConvRef
public import proofs.«01_k».proof.Defs
public import proofs.«01_k».proof.Proof.Gen.ConvBwdIdeal.Value
public import proofs.«01_k».proof.Proof.Gen.ConvRefIdeal.Run
public import proofs.«01_k».proof.Proof.Gen.ConvRefIdeal.Read

@[expose] public section

set_option maxRecDepth 16384

noncomputable section

open Idealize.ShloMosaic Idealize.ShloMosaic.TcCoe Idealize.SL.Sem Idealize.ShloMosaic.ValueIdx
open Idealize.ShloMosaic.Pipeline (Dat)

namespace Cert.ConvBwdIdeal.Own

open Cert.ConvBwdIdeal Cert.ConvBwdIdeal.Gen Cert.Own

/-! ## One grid point -/

section Body
variable (i : grid0.Coords)
  (x0 : Vec Ideal S512x768 .f32) (x1 : Vec Ideal S8x768 .f32) (x2 : Vec Ideal S512x512 .f32) (x3 : Vec Ideal S8x512 .f32) (x4 : Vec Ideal S512x256 .f32) (x5 : Vec Ideal S8x256 .f32) (x6 : Vec Ideal S8x768 .f32)

/-- The two pieces of the inputs' rows with their halo, and the four pieces of the cotangents' rows with theirs. -/
abbrev extL : List (View.Piece (Elt Ideal) S520x768 .f32) :=
  [⟨Rect.unit ![8, 0] ![512, 768] inb_S520x768_S512x768_8_0, k0_pay4 x0⟩,
    ⟨Rect.unit ![0, 0] ![8, 768] inb_S520x768_S8x768_0_0, k0_pay3 i x1⟩]

abbrev dextL : List (View.Piece (Elt Ideal) S520x768 .f32) :=
  [⟨Rect.unit ![512, 512] ![8, 256] inb_S520x768_S8x256_512_512, k0_pay8 (Scalar.cmpi CmpIPredicate.slt (BitVec.ofNat 32 ↑(i 0)) 15#32) x5⟩,
    ⟨Rect.unit ![512, 0] ![8, 512] inb_S520x768_S8x512_512_0, k0_pay7 i x3⟩,
    ⟨Rect.unit ![0, 512] ![512, 256] inb_S520x768_S512x256_0_512, k0_pay6 x4⟩,
    ⟨Rect.unit ![0, 0] ![512, 512] inb_S520x768_S512x512_0_0, k0_pay5 x2⟩]

/-- Every piece agrees with a function of the row and the column. -/
def Agree (L : List (View.Piece (Elt Ideal) S520x768 .f32)) (G : ℕ → ℕ → EReal) : Prop :=
  ∀ p ∈ L, ∀ x : p.1.shape.Idx, p.2 x = G (p.1.emb x 0).val (p.1.emb x 1).val

theorem cover_ext (y : S520x768.Idx) : ∃ p ∈ extL i x0 x1, y ∈ p.1.set := by
  have h0 : (y 0).val < 520 := (y 0).isLt
  have h1 : (y 1).val < 768 := (y 1).isLt
  by_cases h : (y 0).val < 8
  · exact ⟨_, List.mem_cons_of_mem _ List.mem_cons_self, (mem_unit2 (inb := inb_S520x768_S8x768_0_0)).mpr (by omega)⟩
  · exact ⟨_, List.mem_cons_self, (mem_unit2 (inb := inb_S520x768_S512x768_8_0)).mpr (by omega)⟩

theorem cover_dext (y : S520x768.Idx) : ∃ p ∈ dextL i x2 x3 x4 x5, y ∈ p.1.set := by
  have h0 : (y 0).val < 520 := (y 0).isLt
  have h1 : (y 1).val < 768 := (y 1).isLt
  by_cases h : (y 0).val < 512 <;> by_cases h' : (y 1).val < 512
  · exact ⟨_, List.mem_cons_of_mem _ (List.mem_cons_of_mem _ (List.mem_cons_of_mem _ List.mem_cons_self)), (mem_unit2 (inb := inb_S520x768_S512x512_0_0)).mpr (by omega)⟩
  · exact ⟨_, List.mem_cons_of_mem _ (List.mem_cons_of_mem _ List.mem_cons_self), (mem_unit2 (inb := inb_S520x768_S512x256_0_512)).mpr (by omega)⟩
  · exact ⟨_, List.mem_cons_of_mem _ List.mem_cons_self, (mem_unit2 (inb := inb_S520x768_S8x512_512_0)).mpr (by omega)⟩
  · exact ⟨_, List.mem_cons_self, (mem_unit2 (inb := inb_S520x768_S8x256_512_512)).mpr (by omega)⟩

variable {E D : ℕ → ℕ → EReal} (hE : Agree (extL i x0 x1) E) (hD : Agree (dextL i x2 x3 x4 x5) D)
include hE in
theorem load_ext {κ : Kind} {sp : Space} (v : View sig κ sp S520x768 .f32) (o : ℕ) (inb) :
    v.readCov (extL i x0 x1) (Rect.unit (s := S520x768) ![o, 0] ![512, 768] inb).toLoadRect
      = fun j => E (o + (j 0).val) (j 1).val := by
  rw [load_of_pieces (Val := Elt Ideal) (e := .f32) v (fun y : S520x768.Idx => (E (y 0).val (y 1).val : EReal)) (extL i x0 x1) _ hE fun j => cover_ext i x0 x1 _]
  funext j
  show E (o + 1 * (j 0).val) (0 + 1 * (j 1).val) = _
  rw [Nat.one_mul, Nat.one_mul, Nat.zero_add]

include hD in
theorem load_dext {κ : Kind} {sp : Space} (v : View sig κ sp S520x768 .f32) (o : ℕ) (inb) :
    v.readCov (dextL i x2 x3 x4 x5) (Rect.unit (s := S520x768) ![o, 0] ![512, 768] inb).toLoadRect
      = fun j => D (o + (j 0).val) (j 1).val := by
  rw [load_of_pieces (Val := Elt Ideal) (e := .f32) v (fun y : S520x768.Idx => (D (y 0).val (y 1).val : EReal)) (dextL i x2 x3 x4 x5) _ hD fun j => cover_dext i x2 x3 x4 x5 _]
  funext j
  show D (o + 1 * (j 0).val) (0 + 1 * (j 1).val) = _
  rw [Nat.one_mul, Nat.one_mul, Nat.zero_add]

/-- One row of the weights' gradient: what was there plus the sum over the block's rows. -/
def rowSum (D E : ℕ → ℕ → EReal) (k j : ℕ) : EReal := ∑ r : Fin 512, D r.val j * E (5 + k + r.val) j

/-- The weights' gradient after a point, from the contents `xo` before it. -/
def dwAt (D E : ℕ → ℕ → EReal) (xo : S8x768.Idx → EReal) (y : S8x768.Idx) : EReal :=
  xo y + if (y 0).val < 4 then rowSum D E (y 0).val (y 1).val else 0

/-- The input's gradient of a point. -/
def duAt (D : ℕ → ℕ → EReal) (w : S8x768.Idx → EReal) (y : S512x768.Idx) : EReal :=
  D (3 + (y 0).val) (y 1).val * w (ix2 0 (y 1)) + D (2 + (y 0).val) (y 1).val * w (ix2 1 (y 1))
    + D (1 + (y 0).val) (y 1).val * w (ix2 2 (y 1)) + D (0 + (y 0).val) (y 1).val * w (ix2 3 (y 1))

/-- The biases' gradient after a point. -/
def dbAt (D : ℕ → ℕ → EReal) (xo : S1x768.Idx → EReal) (y : S1x768.Idx) : EReal :=
  xo y + ∑ r : Fin 512, D r.val (y 1).val

variable (a b : Vec Ideal S512x768 .f32) (xo w0 w1 w2 w3 : Vec Ideal S1x768 .f32)

theorem pay11_apply (j : Fin 768) : k0_pay11 a b xo (ix2 0 j) = xo (ix2 0 j) + ∑ r : Fin 512, a (ix2 r j) * b (ix2 r j) := by
  unfold k0_pay11
  simp only [addf_apply, mulf_apply, shapeCast_self, shapeCast_a_1a_apply, multiReduction, Ideal.reduceAdd_def, red_col]

theorem pay2_apply (j : Fin 768) : k0_pay2 a xo (ix2 0 j) = xo (ix2 0 j) + ∑ r : Fin 512, a (ix2 r j) := by
  unfold k0_pay2
  simp only [addf_apply, mulf_apply, shapeCast_self, shapeCast_a_1a_apply, multiReduction, Ideal.reduceAdd_def, red_col]

theorem pay13_eq : k0_pay13 a b xo = k0_pay11 a b xo := rfl
theorem pay14_eq : k0_pay14 a b xo = k0_pay11 a b xo := rfl
theorem pay1_eq : k0_pay1 (k0_pay16 xo) (k0_pay17 a b) = k0_pay11 a b xo := rfl

theorem pay15_apply (d0 d1 d2 d3 : Vec Ideal S512x768 .f32) (r : Fin 512) (j : Fin 768) :
    k0_pay15 (k0_pay12 d3 w0 d2 w1) d1 w2 d0 w3 (ix2 r j) = d3 (ix2 r j) * w0 (ix2 0 j) + d2 (ix2 r j) * w1 (ix2 0 j)
      + d1 (ix2 r j) * w2 (ix2 0 j) + d0 (ix2 r j) * w3 (ix2 0 j) := by
  unfold k0_pay15 k0_pay12
  simp only [addf_apply, mulf_apply, shapeCast_self, broadcast_apply, broadcastTo_1b_ab_apply]
  rw [show (Scalar.ofBits .f32 0x00000000#32 : Ideal .f32) = 0 from Ideal.ofBits_zero_f32]
  show 0 + _ + _ + _ + _ = _
  rw [zero_add]

end Body

section Outs
variable (c : Dev nD) (i : grid0.Coords)
  (a1 : Memref sig .tc .vmem S512x768 .f32) (h1 : a1.IsWhole)
  (a2 : Memref sig .tc .vmem S8x768 .f32) (h2 : a2.IsWhole)
  (a3 : Memref sig .tc .vmem S512x512 .f32) (h3 : a3.IsWhole)
  (a4 : Memref sig .tc .vmem S8x512 .f32) (h4 : a4.IsWhole)
  (a5 : Memref sig .tc .vmem S512x256 .f32) (h5 : a5.IsWhole)
  (a6 : Memref sig .tc .vmem S8x256 .f32) (h6 : a6.IsWhole)
  (a7 : Memref sig .tc .vmem S8x768 .f32) (h7 : a7.IsWhole)
  (a8 : Memref sig .tc .vmem S512x768 .f32) (h8 : a8.IsWhole)
  (a9 : Memref sig .tc .vmem S8x768 .f32) (h9 : a9.IsWhole)
  (a10 : Memref sig .tc .vmem S1x768 .f32) (h10 : a10.IsWhole)
  (a11 : Memref sig .tc .vmem S520x768 .f32) (h11 : a11.IsWhole)
  (a12 : Memref sig .tc .vmem S520x768 .f32) (h12 : a12.IsWhole)
  (x0 : Vec Ideal S512x768 .f32) (x1 : Vec Ideal S8x768 .f32) (x2 : Vec Ideal S512x512 .f32) (x3 : Vec Ideal S8x512 .f32) (x4 : Vec Ideal S512x256 .f32) (x5 : Vec Ideal S8x256 .f32) (x6 : Vec Ideal S8x768 .f32)

  {E D : ℕ → ℕ → EReal} (hE : Agree (extL i x0 x1) E) (hD : Agree (dextL i x2 x3 x4 x5) D)

include hE hD
set_option maxHeartbeats 1000000 in
theorem out7_A (hc : cond0_0 i) : out0_A_7 c i a1 h1 a2 h2 a3 h3 a4 h4 a5 h5 a6 h6 a7 h7 a8 h8 a9 h9 a10 h10 a11 h11 a12 h12 hc x0 x1 x2 x3 x4 x5 x6 = duAt D x6 := by
  unfold out0_A_7
  refine Eq.trans (View.read_writes_eq_canon _ _ _ fun _ => cover0_A_7 ..) ?_
  unfold kernelRun0_A
  dsimp only
  sl_unfold_words
  rw [View.canon_unit_zero (S := S512x768) hz2]
  simp only [View.readAt_eq_ld, Memref.IsWhole.read_unread, *, ld2]
  refine ext2 fun r j => (pay15_apply _ _ _ _ _ _ _ _ r j).trans ?_
  rw [load_dext i x2 x3 x4 x5 hD, load_dext i x2 x3 x4 x5 hD, load_dext i x2 x3 x4 x5 hD, load_dext i x2 x3 x4 x5 hD,
    ld_row (k := 0) (by decide) x6 j, ld_row (k := 1) (by decide) x6 j, ld_row (k := 2) (by decide) x6 j, ld_row (k := 3) (by decide) x6 j]
  rfl

set_option maxHeartbeats 1000000 in
theorem out7_B (hc : ¬cond0_0 i) (xo8 : Vec Ideal S8x768 .f32) (xo9 : Vec Ideal S1x768 .f32) : out0_B_7 c i a1 h1 a2 h2 a3 h3 a4 h4 a5 h5 a6 h6 a7 h7 a8 h8 a9 h9 a10 h10 a11 h11 a12 h12 hc x0 x1 x2 x3 x4 x5 x6 xo8 xo9 = duAt D x6 := by
  unfold out0_B_7
  refine Eq.trans (View.read_writes_eq_canon _ _ _ fun _ => cover0_B_7 ..) ?_
  unfold kernelRun0_B
  dsimp only
  sl_unfold_words
  rw [View.canon_unit_zero (S := S512x768) hz2]
  simp only [View.readAt_eq_ld, Memref.IsWhole.read_unread, *, ld2]
  refine ext2 fun r j => (pay15_apply _ _ _ _ _ _ _ _ r j).trans ?_
  rw [load_dext i x2 x3 x4 x5 hD, load_dext i x2 x3 x4 x5 hD, load_dext i x2 x3 x4 x5 hD, load_dext i x2 x3 x4 x5 hD,
    ld_row (k := 0) (by decide) x6 j, ld_row (k := 1) (by decide) x6 j, ld_row (k := 2) (by decide) x6 j, ld_row (k := 3) (by decide) x6 j]
  rfl

set_option maxHeartbeats 1000000 in
theorem out8_A (hc : cond0_0 i) : out0_A_8 c i a1 h1 a2 h2 a3 h3 a4 h4 a5 h5 a6 h6 a7 h7 a8 h8 a9 h9 a10 h10 a11 h11 a12 h12 hc x0 x1 x2 x3 x4 x5 x6 = dwAt D E (k0_pay9 : FVec Ideal S8x768 .f32) := by
  unfold out0_A_8
  refine Eq.trans (View.read_writes_eq_canon _ _ _ fun _ => cover0_A_8 ..) ?_
  unfold kernelRun0_A
  dsimp only
  sl_unfold_words
  simp only [View.readAt_eq_ld, Memref.IsWhole.read_unread, *, ld2]
  simp only [load_ext i x0 x1 hE, load_dext i x2 x3 x4 x5 hD]
  refine ext2 fun r j => ?_
  simp only [canon_cons_row, pay13_eq, pay14_eq, pay1_eq, pay11_apply, load_row (n := 8) (m := 768) (k := 0) (by decide), load_row (n := 8) (m := 768) (k := 1) (by decide),
    load_row (n := 8) (m := 768) (k := 2) (by decide), load_row (n := 8) (m := 768) (k := 3) (by decide)]
  rw [View.canon_unit_zero (S := S8x768) hz2]
  obtain ⟨r, hr⟩ := r
  interval_cases r <;> simp [dwAt, rowSum]

set_option maxHeartbeats 1000000 in
theorem out8_B (hc : ¬cond0_0 i) (xo8 : Vec Ideal S8x768 .f32) (xo9 : Vec Ideal S1x768 .f32) :
    out0_B_8 c i a1 h1 a2 h2 a3 h3 a4 h4 a5 h5 a6 h6 a7 h7 a8 h8 a9 h9 a10 h10 a11 h11 a12 h12 hc x0 x1 x2 x3 x4 x5 x6 xo8 xo9 = dwAt D E xo8 := by
  unfold out0_B_8
  unfold kernelRun0_B
  dsimp only
  sl_unfold_words
  simp only [View.readAt_eq_ld, Memref.IsWhole.read_unread, *, ld2]
  simp only [load_ext i x0 x1 hE, load_dext i x2 x3 x4 x5 hD]
  refine ext2 fun r j => ?_
  rw [read_writes_over _ _ xo8 (h9.read_unread xo8)]
  simp only [List.cons_append, List.nil_append, canon_cons_row, pay13_eq, pay14_eq, pay1_eq, pay11_apply]
  rw [show View.canon [(⟨Rect.whole S8x768, xo8⟩ : View.Piece (Elt Ideal) S8x768 .f32)] = xo8 from
    View.canon_unit_zero (off := fun _ => 0) rfl (fun a => by rw [Nat.zero_add]) xo8]
  obtain ⟨r, hr⟩ := r
  interval_cases r <;> simp [dwAt, rowSum]
  all_goals exact congrArg₂ (· + ·) (ld_row (by decide) xo8 j) rfl

set_option maxHeartbeats 1000000 in
theorem out9_A (hc : cond0_0 i) : out0_A_9 c i a1 h1 a2 h2 a3 h3 a4 h4 a5 h5 a6 h6 a7 h7 a8 h8 a9 h9 a10 h10 a11 h11 a12 h12 hc x0 x1 x2 x3 x4 x5 x6 = dbAt D (k0_pay10 : FVec Ideal S1x768 .f32) := by
  unfold out0_A_9
  refine Eq.trans (View.read_writes_eq_canon _ _ _ fun _ => cover0_A_9 ..) ?_
  unfold kernelRun0_A
  dsimp only
  sl_unfold_words
  simp only [View.readAt_eq_ld, Memref.IsWhole.read_unread, *, ld2]
  rw [View.canon_cons_unit_zero (S := S1x768) hz2, View.readCov_unit_zero (S := S1x768) _ hz2]
  simp only [load_ext i x0 x1 hE, load_dext i x2 x3 x4 x5 hD]
  refine ext_row fun j => (pay2_apply _ _ j).trans ?_
  simp [dbAt]

set_option maxHeartbeats 1000000 in
theorem out9_B (hc : ¬cond0_0 i) (xo8 : Vec Ideal S8x768 .f32) (xo9 : Vec Ideal S1x768 .f32) :
    out0_B_9 c i a1 h1 a2 h2 a3 h3 a4 h4 a5 h5 a6 h6 a7 h7 a8 h8 a9 h9 a10 h10 a11 h11 a12 h12 hc x0 x1 x2 x3 x4 x5 x6 xo8 xo9 = dbAt D xo9 := by
  unfold out0_B_9
  rw [View.read_writes_junk_eq_canon]
  unfold kernelRun0_B
  dsimp only
  sl_unfold_words
  simp only [View.readAt_eq_ld, Memref.IsWhole.read_unread, *, ld2]
  rw [View.canon_unit_zero (S := S1x768) hz2]
  simp only [load_ext i x0 x1 hE, load_dext i x2 x3 x4 x5 hD]
  refine ext_row fun j => (pay2_apply _ _ j).trans ?_
  simp [dbAt]

end Outs
/-! ## The grid -/

section Grid
variable (m : (ℓ : Loc nD τ sig) → Buf (Elt Ideal) ℓ) (ρ : Dev nD → PrngReg) (c : Dev nD)

/-- The joined inputs below eight zero rows, and the two cotangents side by side. -/
def uP (u : S8192x768.Idx → EReal) (n j : ℕ) : EReal := if n < 8 then 0 else atN u (n - 8) j

def dP (d1 : S8192x512.Idx → EReal) (d2 : S8192x256.Idx → EReal) (n j : ℕ) : EReal :=
  if j < 512 then atN d1 n j else atN d2 n (j - 512)

theorem dP_row (d1 : S8192x512.Idx → EReal) (d2 : S8192x256.Idx → EReal) {n : ℕ} (j : ℕ) (h : 8192 ≤ n) : dP d1 d2 n j = 0 := by
  unfold dP; rw [atN_row d1 h, atN_row d2 h, ite_self]

/-- The arrays the call reads, as the host left them. -/
abbrev U : S8192x768.Idx → EReal := V m c main_v0
abbrev W : S8x768.Idx → EReal := V m c main_v2
abbrev D1 : S8192x512.Idx → EReal := V m c main_arg6
abbrev D2 : S8192x256.Idx → EReal := V m c main_arg7

theorem idx_rows : ∀ t : Fin grid0.N, (win0_0.index t 0 = t.val ∧ win0_0.index t 1 = 0)
    ∧ (win0_1.index t 0 = 64 * t.val - 1 ∧ win0_1.index t 1 = 0) ∧ (win0_2.index t 0 = t.val ∧ win0_2.index t 1 = 0)
    ∧ (win0_3.index t 0 = min (64 * (t.val + 1)) 1023 ∧ win0_3.index t 1 = 0) ∧ (win0_4.index t 0 = t.val ∧ win0_4.index t 1 = 0)
    ∧ (win0_5.index t 0 = min (64 * (t.val + 1)) 1023 ∧ win0_5.index t 1 = 0) ∧ (win0_6.index t 0 = 0 ∧ win0_6.index t 1 = 0)
    ∧ (win0_7.index t 0 = t.val ∧ win0_7.index t 1 = 0) ∧ (win0_8.index t 0 = 0 ∧ win0_8.index t 1 = 0)
    ∧ (win0_9.index t 0 = 0 ∧ win0_9.index t 1 = 0) := by decide +kernel

theorem first_bit : ∀ t : Fin grid0.N, Scalar.cmpi CmpIPredicate.sgt (BitVec.ofNat 32 (grid0.coords t 0).val) 0#32
    = if t.val = 0 then 0#1 else 1#1 := by decide +kernel

theorem last_bit : ∀ t : Fin grid0.N, Scalar.cmpi CmpIPredicate.slt (BitVec.ofNat 32 (grid0.coords t 0).val) 15#32
    = if t.val = 15 then 0#1 else 1#1 := by decide +kernel

theorem lt16 (t : Fin cfg0.N) : t.val < 16 := t.isLt.trans_eq N_0

theorem blk0 (t : Fin cfg0.N) (y : S512x768.Idx) : (iblk m c 0 t : Vec Ideal S512x768 .f32) y = atN (U m c) (512 * t.val + (y 0).val) (y 1).val :=
  eq_atN_of (U m c) _ (by show win0_0.index t 0 * 512 + 1 * (y 0).val = _; rw [(idx_rows t).1.1]; omega)
    (by show win0_0.index t 1 * 768 + 1 * (y 1).val = _; rw [(idx_rows t).1.2]; omega)

theorem blk1 (t : Fin cfg0.N) (ht : t.val ≠ 0) (y : S8x768.Idx) : (iblk m c 1 t : Vec Ideal S8x768 .f32) y
    = atN (U m c) (512 * t.val + (y 0).val - 8) (y 1).val :=
  eq_atN_of (U m c) _ (by show win0_1.index t 0 * 8 + 1 * (y 0).val = _; rw [(idx_rows t).2.1.1]; omega)
    (by show win0_1.index t 1 * 768 + 1 * (y 1).val = _; rw [(idx_rows t).2.1.2]; omega)

theorem blk2 (t : Fin cfg0.N) (y : S512x512.Idx) : (iblk m c 2 t : Vec Ideal S512x512 .f32) y = atN (D1 m c) (512 * t.val + (y 0).val) (y 1).val :=
  eq_atN_of (D1 m c) _ (by show win0_2.index t 0 * 512 + 1 * (y 0).val = _; rw [(idx_rows t).2.2.1.1]; omega)
    (by show win0_2.index t 1 * 512 + 1 * (y 1).val = _; rw [(idx_rows t).2.2.1.2]; omega)

theorem blk3 (t : Fin cfg0.N) (ht : t.val ≠ 15) (y : S8x512.Idx) : (iblk m c 3 t : Vec Ideal S8x512 .f32) y
    = atN (D1 m c) (512 * t.val + 512 + (y 0).val) (y 1).val :=
  have h := lt16 t
  eq_atN_of (D1 m c) _ (by show win0_3.index t 0 * 8 + 1 * (y 0).val = _; rw [(idx_rows t).2.2.2.1.1]; omega)
    (by show win0_3.index t 1 * 512 + 1 * (y 1).val = _; rw [(idx_rows t).2.2.2.1.2]; omega)

theorem blk4 (t : Fin cfg0.N) (y : S512x256.Idx) : (iblk m c 4 t : Vec Ideal S512x256 .f32) y = atN (D2 m c) (512 * t.val + (y 0).val) (y 1).val :=
  eq_atN_of (D2 m c) _ (by show win0_4.index t 0 * 512 + 1 * (y 0).val = _; rw [(idx_rows t).2.2.2.2.1.1]; omega)
    (by show win0_4.index t 1 * 256 + 1 * (y 1).val = _; rw [(idx_rows t).2.2.2.2.1.2]; omega)

theorem blk5 (t : Fin cfg0.N) (ht : t.val ≠ 15) (y : S8x256.Idx) : (iblk m c 5 t : Vec Ideal S8x256 .f32) y
    = atN (D2 m c) (512 * t.val + 512 + (y 0).val) (y 1).val :=
  have h := lt16 t
  eq_atN_of (D2 m c) _ (by show win0_5.index t 0 * 8 + 1 * (y 0).val = _; rw [(idx_rows t).2.2.2.2.2.1.1]; omega)
    (by show win0_5.index t 1 * 256 + 1 * (y 1).val = _; rw [(idx_rows t).2.2.2.2.2.1.2]; omega)

theorem blk6 (t : Fin cfg0.N) : (iblk m c 6 t : Vec Ideal S8x768 .f32) = W m c := funext fun y => by
  refine (eq_atN_of (W m c) _ (r := (y 0).val) (j := (y 1).val) ?_ ?_).trans (eq_atN (W m c) y).symm
  · show win0_6.index t 0 * 8 + 1 * (y 0).val = _; rw [(idx_rows t).2.2.2.2.2.2.1.1]; omega
  · show win0_6.index t 1 * 768 + 1 * (y 1).val = _; rw [(idx_rows t).2.2.2.2.2.2.1.2]; omega

/-- The body's first scratch buffer holds the padded rows from `512 t` on, -/
theorem agree_ext (t : Fin cfg0.N) : Agree (extL (grid0.coords t) (iblk m c 0 t) (iblk m c 1 t)) fun r j => uP (U m c) (512 * t.val + r) j := by
  intro p hp
  simp only [List.mem_cons, List.not_mem_nil, or_false] at hp
  rcases hp with rfl | rfl <;> intro x
  · have e : k0_pay4 (F := Ideal) (iblk m c 0 t) = iblk m c 0 t := by unfold k0_pay4; simp only [shapeCast_self]
    show k0_pay4 (F := Ideal) (iblk m c 0 t) x = uP (U m c) (512 * t.val + (8 + 1 * (x 0).val)) (0 + 1 * (x 1).val)
    rw [e, blk0, uP, if_neg (by omega)]
    congr 1 <;> omega
  · have hx : (x 0).val < 8 := (x 0).isLt
    show k0_pay3 (F := Ideal) (grid0.coords t) (iblk m c 1 t) x = uP (U m c) (512 * t.val + (0 + 1 * (x 0).val)) (0 + 1 * (x 1).val)
    unfold k0_pay3
    simp only [shapeCast_self, first_bit]
    by_cases ht : t.val = 0
    · rw [if_pos ht, select_zero, broadcast_apply, uP, if_pos (by omega)]
      exact Ideal.ofBits_zero_f32
    · rw [if_neg ht, select_one, blk1 m c t ht, uP, if_neg (by omega)]
      congr 1 <;> omega

/-- and the second the cotangents' rows from `512 t` on. -/
theorem agree_dext (t : Fin cfg0.N) : Agree (dextL (grid0.coords t) (iblk m c 2 t) (iblk m c 3 t) (iblk m c 4 t) (iblk m c 5 t))
    fun r j => dP (D1 m c) (D2 m c) (512 * t.val + r) j := by
  intro p hp
  simp only [List.mem_cons, List.not_mem_nil, or_false] at hp
  rcases hp with rfl | rfl | rfl | rfl <;> intro x
  · show k0_pay8 (F := Ideal) _ (iblk m c 5 t) x = dP (D1 m c) (D2 m c) (512 * t.val + (512 + 1 * (x 0).val)) (512 + 1 * (x 1).val)
    unfold k0_pay8
    simp only [shapeCast_self, last_bit]
    by_cases ht : t.val = 15
    · rw [if_pos ht, select_zero, broadcast_apply, dP_row _ _ _ (by omega)]
      exact Ideal.ofBits_zero_f32
    · rw [if_neg ht, select_one, blk5 m c t ht, dP, if_neg (by omega)]
      congr 1 <;> omega
  · have hx : (x 1).val < 512 := (x 1).isLt
    show k0_pay7 (F := Ideal) _ (iblk m c 3 t) x = dP (D1 m c) (D2 m c) (512 * t.val + (512 + 1 * (x 0).val)) (0 + 1 * (x 1).val)
    unfold k0_pay7
    simp only [shapeCast_self, last_bit]
    by_cases ht : t.val = 15
    · rw [if_pos ht, select_zero, broadcast_apply, dP_row _ _ _ (by omega)]
      exact Ideal.ofBits_zero_f32
    · rw [if_neg ht, select_one, blk3 m c t ht, dP, if_pos (by omega)]
      congr 1 <;> omega
  · show k0_pay6 (F := Ideal) (iblk m c 4 t) x = dP (D1 m c) (D2 m c) (512 * t.val + (0 + 1 * (x 0).val)) (512 + 1 * (x 1).val)
    unfold k0_pay6
    rw [shapeCast_self, blk4, dP, if_neg (by omega)]
    congr 1 <;> omega
  · have hx : (x 1).val < 512 := (x 1).isLt
    show k0_pay5 (F := Ideal) (iblk m c 2 t) x = dP (D1 m c) (D2 m c) (512 * t.val + (0 + 1 * (x 0).val)) (0 + 1 * (x 1).val)
    unfold k0_pay5
    rw [shapeCast_self, blk2, dP, if_pos (by omega)]
    congr 1 <;> omega

/-- The weights' gradient summed over the first `N` rows, at row `k` and column `j`. -/
def dwSum (N k j : ℕ) : EReal := ∑ n ∈ Finset.range N, dP (D1 m c) (D2 m c) n j * uP (U m c) (n + (5 + k)) j

def dbSum (N j : ℕ) : EReal := ∑ n ∈ Finset.range N, dP (D1 m c) (D2 m c) n j

/-- One point adds its block's rows to the sums. -/
theorem dw_step (t : ℕ) (xo y) (h : xo y = if (y 0).val < 4 then dwSum m c (512 * t) (y 0).val (y 1).val else 0) :
    dwAt (fun r j => dP (D1 m c) (D2 m c) (512 * t + r) j) (fun r j => uP (U m c) (512 * t + r) j) xo y
      = if (y 0).val < 4 then dwSum m c (512 * (t + 1)) (y 0).val (y 1).val else 0 := by
  unfold dwAt
  rw [h]
  by_cases hy : (y 0).val < 4
  · simp only [if_pos hy]
    unfold dwSum rowSum
    rw [← sum_range_block (fun n => dP (D1 m c) (D2 m c) n (y 1).val * uP (U m c) (n + (5 + (y 0).val)) (y 1).val) 512 t]
    refine congrArg _ (Finset.sum_congr rfl fun r _ => ?_)
    dsimp only
    rw [show 512 * t + (5 + (y 0).val + r.val) = 512 * t + r.val + (5 + (y 0).val) by omega]
  · simp only [if_neg hy, zero_add]

theorem db_step (t : ℕ) (xo y) (h : xo y = dbSum m c (512 * t) (y 1).val) :
    dbAt (fun r j => dP (D1 m c) (D2 m c) (512 * t + r) j) xo y = dbSum m c (512 * (t + 1)) (y 1).val := by
  unfold dbAt dbSum
  rw [h, ← sum_range_block (fun n => dP (D1 m c) (D2 m c) n (y 1).val) 512 t]
  rfl

/-- What the grid has left after each point: the point's rows of the input's gradient, and the sums so far. -/
theorem outsAt7 (t : Fin cfg0.N) : (outsAt0 m c t.val t.isLt).1 = duAt (fun r j => dP (D1 m c) (D2 m c) (512 * t.val + r) j) (W m c) := by
  by_cases h : t.val % 16 = 0
  · refine (congrArg (·.1) (outsAt0_A m c t h)).trans ?_
    dsimp only
    rw [out7_A _ _ _ _ _ _ _ _ _ _ _ _ _ _ _ _ _ _ _ _ _ _ _ _ _ _ _ _ _ _ _ _ _ (agree_ext m c t) (agree_dext m c t), blk6]
  · refine (congrArg (·.1) (outsAt0_B m c t h)).trans ?_
    dsimp only
    rw [out7_B _ _ _ _ _ _ _ _ _ _ _ _ _ _ _ _ _ _ _ _ _ _ _ _ _ _ _ _ _ _ _ _ _ (agree_ext m c t) (agree_dext m c t), blk6]

theorem outsAt8 : ∀ (n : ℕ) (h : n < cfg0.N), (outsAt0 m c n h).2.1
    = fun y : S8x768.Idx => if (y 0).val < 4 then dwSum m c (512 * (n + 1)) (y 0).val (y 1).val else 0
  | 0, h => by
    refine (congrArg (·.2.1) (outsAt0_A m c ⟨0, h⟩ rfl)).trans ?_
    dsimp only
    rw [out8_A _ _ _ _ _ _ _ _ _ _ _ _ _ _ _ _ _ _ _ _ _ _ _ _ _ _ _ _ _ _ _ _ _ (agree_ext m c ⟨0, h⟩) (agree_dext m c ⟨0, h⟩)]
    exact funext fun y => dw_step m c 0 _ y (by
      rw [show dwSum m c (512 * 0) (y 0).val (y 1).val = 0 from rfl, ite_self]; exact Ideal.ofBits_zero_f32)
  | n + 1, h => by
    have hB : ¬(⟨n + 1, h⟩ : Fin cfg0.N).val % 16 = 0 := by have := lt16 ⟨n + 1, h⟩; dsimp only at this ⊢; omega
    refine (congrArg (·.2.1) (outsAt0_B m c ⟨n + 1, h⟩ hB)).trans ?_
    dsimp only
    rw [out8_B _ _ _ _ _ _ _ _ _ _ _ _ _ _ _ _ _ _ _ _ _ _ _ _ _ _ _ _ _ _ _ _ _ (agree_ext m c ⟨n + 1, h⟩) (agree_dext m c ⟨n + 1, h⟩)]
    exact funext fun y => dw_step m c (n + 1) _ y (congrFun (outsAt8 n _) y)

theorem outsAt9 : ∀ (n : ℕ) (h : n < cfg0.N), (outsAt0 m c n h).2.2 = fun y : S1x768.Idx => dbSum m c (512 * (n + 1)) (y 1).val
  | 0, h => by
    refine (congrArg (·.2.2) (outsAt0_A m c ⟨0, h⟩ rfl)).trans ?_
    dsimp only
    rw [out9_A _ _ _ _ _ _ _ _ _ _ _ _ _ _ _ _ _ _ _ _ _ _ _ _ _ _ _ _ _ _ _ _ _ (agree_ext m c ⟨0, h⟩) (agree_dext m c ⟨0, h⟩)]
    exact funext fun y => db_step m c 0 _ y (by
      rw [show dbSum m c (512 * 0) (y 1).val = 0 from rfl]; exact Ideal.ofBits_zero_f32)
  | n + 1, h => by
    have hB : ¬(⟨n + 1, h⟩ : Fin cfg0.N).val % 16 = 0 := by have := lt16 ⟨n + 1, h⟩; dsimp only at this ⊢; omega
    refine (congrArg (·.2.2) (outsAt0_B m c ⟨n + 1, h⟩ hB)).trans ?_
    dsimp only
    rw [out9_B _ _ _ _ _ _ _ _ _ _ _ _ _ _ _ _ _ _ _ _ _ _ _ _ _ _ _ _ _ _ _ _ _ (agree_ext m c ⟨n + 1, h⟩) (agree_dext m c ⟨n + 1, h⟩)]
    exact funext fun y => db_step m c (n + 1) _ y (congrFun (outsAt9 n _) y)

/-- The input's gradient at row `n`, column `j`. -/
def duG (d1 : S8192x512.Idx → EReal) (d2 : S8192x256.Idx → EReal) (w : S8x768.Idx → EReal) (n j : ℕ) : EReal :=
  dP d1 d2 (n + 3) j * atN w 0 j + dP d1 d2 (n + 2) j * atN w 1 j + dP d1 d2 (n + 1) j * atN w 2 j + dP d1 d2 n j * atN w 3 j

theorem flush_facts : ∀ t : Fin cfg0.N, (cfg0.win 7).flush t = true := by decide +kernel

/-- The call's three results. -/
theorem final7 : (dats m 0 c).arrAt 7 cfg0.N = fun i : S8192x768.Idx => duG (D1 m c) (D2 m c) (W m c) (i 0).val (i 1).val := by
  refine (dats m 0 c).arrAt_eq_of_cover 7 _ (fun t _ => ?_) fun (i : S8192x768.Idx) => ?_
  · show (cfg0.win 7).cut (grid0.coords t) ((dats m 0 c).after 7 t) = _
    rw [after0_7, outsAt7]
    refine funext fun y => Eq.trans ?_ (View.read_apply _ _).symm
    have e0 : 512 * t.val + (y 0).val = win0_7.index t 0 * 512 + 1 * (y 0).val := by rw [(idx_rows t).2.2.2.2.2.2.2.1.1]; omega
    have e1 : (y 1).val = win0_7.index t 1 * 768 + 1 * (y 1).val := by rw [(idx_rows t).2.2.2.2.2.2.2.1.2]; omega
    show duAt _ (W m c) y = duG (D1 m c) (D2 m c) (W m c) (win0_7.index t 0 * 512 + 1 * (y 0).val) (win0_7.index t 1 * 768 + 1 * (y 1).val)
    rw [← e0, ← e1]
    unfold duAt duG
    simp only [eq_atN (W m c)]
    show dP _ _ (512 * t.val + (3 + (y 0).val)) _ * _ + dP _ _ (512 * t.val + (2 + (y 0).val)) _ * _ + dP _ _ (512 * t.val + (1 + (y 0).val)) _ * _
      + dP _ _ (512 * t.val + (0 + (y 0).val)) _ * _ = _
    rw [show 512 * t.val + (3 + (y 0).val) = 512 * t.val + (y 0).val + 3 by omega, show 512 * t.val + (2 + (y 0).val) = 512 * t.val + (y 0).val + 2 by omega,
      show 512 * t.val + (1 + (y 0).val) = 512 * t.val + (y 0).val + 1 by omega, Nat.zero_add]
    rfl
  · have hi0 : (i 0).val < 8192 := (i 0).isLt
    obtain ⟨t, ht⟩ : ∃ t : Fin cfg0.N, t.val = (i 0).val / 512 := ⟨⟨(i 0).val / 512, by rw [show cfg0.N = 16 from N_0]; omega⟩, rfl⟩
    refine ⟨t, flush_facts t, ?_⟩
    show i ∈ ((View.whole main_v3_0).slice (win0_7.rect t)).set
    rw [View.set_slice_whole, Rect.mem_set_unit]
    exact in_rows i (a := 512) (f := win0_7.index t) (by decide) ((idx_rows t).2.2.2.2.2.2.2.1.1.trans ht) (idx_rows t).2.2.2.2.2.2.2.1.2

theorem final8 : (dats m 0 c).arrAt 8 cfg0.N
    = fun y : S8x768.Idx => if (y 0).val < 4 then dwSum m c 8192 (y 0).val (y 1).val else 0 := by
  refine (dats m 0 c).arrAt_eq_of_cover 8 _ (fun t ht => ?_) fun (i : S8x768.Idx) => ?_
  · have h15 : t.val = 15 := by have := (flush0_8 t).mp ht; have := lt16 t; omega
    show (cfg0.win 8).cut (grid0.coords t) ((dats m 0 c).after 8 t) = _
    rw [after0_8, outsAt8, h15]
    have hz' : (fun a => win0_8.index t a * main_v3_1.ty.shape.size a) = fun _ => 0 := still (f := win0_8.index t) (idx_rows t).2.2.2.2.2.2.2.2.1.1 (idx_rows t).2.2.2.2.2.2.2.2.1.2
    exact (Memref.read_access_unit_zero (Elt Ideal) main_v3_1 hz' (fun a => by rw [congrFun hz' a]; simp) _).symm
  · obtain ⟨t, ht⟩ : ∃ t : Fin cfg0.N, t.val = 15 := ⟨⟨15, by rw [show cfg0.N = 16 from N_0]; omega⟩, rfl⟩
    refine ⟨t, (flush0_8 t).mpr (by rw [ht]), ?_⟩
    show i ∈ ((View.whole main_v3_1).slice (win0_8.rect t)).set
    rw [View.set_slice_whole, Rect.mem_set_unit]
    exact in_still i (f := win0_8.index t) (idx_rows t).2.2.2.2.2.2.2.2.1.1 (idx_rows t).2.2.2.2.2.2.2.2.1.2

theorem final9 : (dats m 0 c).arrAt 9 cfg0.N = fun y : S1x768.Idx => dbSum m c 8192 (y 1).val := by
  refine (dats m 0 c).arrAt_eq_of_cover 9 _ (fun t ht => ?_) fun (i : S1x768.Idx) => ?_
  · have h15 : t.val = 15 := by have := (flush0_9 t).mp ht; have := lt16 t; omega
    show (cfg0.win 9).cut (grid0.coords t) ((dats m 0 c).after 9 t) = _
    rw [after0_9, outsAt9, h15]
    have hz' : (fun a => win0_9.index t a * main_v3_2.ty.shape.size a) = fun _ => 0 := still (f := win0_9.index t) (idx_rows t).2.2.2.2.2.2.2.2.2.1 (idx_rows t).2.2.2.2.2.2.2.2.2.2
    exact (Memref.read_access_unit_zero (Elt Ideal) main_v3_2 hz' (fun a => by rw [congrFun hz' a]; simp) _).symm
  · obtain ⟨t, ht⟩ : ∃ t : Fin cfg0.N, t.val = 15 := ⟨⟨15, by rw [show cfg0.N = 16 from N_0]; omega⟩, rfl⟩
    refine ⟨t, (flush0_9 t).mpr (by rw [ht]), ?_⟩
    show i ∈ ((View.whole main_v3_2).slice (win0_9.rect t)).set
    rw [View.set_slice_whole, Rect.mem_set_unit]
    exact in_still i (f := win0_9.index t) (idx_rows t).2.2.2.2.2.2.2.2.2.1 (idx_rows t).2.2.2.2.2.2.2.2.2.2

/-- The arrays the host prepares for the call. -/
theorem U_eq : U m c = concatenate S8192x768 1 [⟨S8192x512, m ((c : Thread nD τ).loc main_arg0)⟩, ⟨S8192x256, m ((c : Thread nD τ).loc main_arg3)⟩]
    concatenates_S8192x512_S8192x256_S8192x768_d1 := rfl
theorem D1_eq : D1 m c = m ((c : Thread nD τ).loc main_arg6) := rfl
theorem D2_eq : D2 m c = m ((c : Thread nD τ).loc main_arg7) := rfl
theorem W_eq : W m c = pad S8x768 ![0, 0] ![4, 0] ![0, 0] (concatenate S4x768 1 [⟨S4x512, m ((c : Thread nD τ).loc main_arg1)⟩,
    ⟨S4x256, m ((c : Thread nD τ).loc main_arg4)⟩] concatenates_S4x512_S4x256_S4x768_d1) (V m c main_call0_v0) pads_S4x768_S8x768_040_000 h_S_ := rfl

theorem W_at (r j : ℕ) (hr : r < 4) : atN (W m c) r j = if j < 512 then atN (m ((c : Thread nD τ).loc main_arg1) : S4x512.Idx → EReal) r j
    else atN (m ((c : Thread nD τ).loc main_arg4) : S4x256.Idx → EReal) r (j - 512) := by
  rw [← atN_beside _ _ concatenates_S4x512_S4x256_S4x768_d1 rfl, W_eq]
  by_cases hj : j < 768
  · rw [atN_pos _ (by omega) hj, atN_pos _ hr hj]
    exact pad_apply_of_inside _ _ _ _ _ pads_S4x768_S8x768_040_000 h_S_ _ (ix2 ⟨r, hr⟩ ⟨j, hj⟩) fun a => by
      match a with
      | ⟨0, _⟩ => show r = 0 + r * (0 + 1); omega
      | ⟨1, _⟩ => show j = 0 + j * (0 + 1); omega
  · rw [atN_col _ (by omega), atN_col _ (by omega)]

end Grid

end Cert.ConvBwdIdeal.Own

/-! ## The two programs -/

namespace Cert.Conv
open Cert.Own Cert.ConvRefIdeal.Own Cert.ConvRefIdeal.Read
open Cert.ConvBwdIdeal.Own (duG dP uP U W D1 D2 dwSum dbSum)

section Equal
open Cert.ConvBwdIdeal
variable (m : (ℓ : Loc nD τ sig) → Buf (Elt Ideal) ℓ) (c : Dev nD)

theorem du_eq : Cert.ConvRefIdeal.Read.val_main_v165 (F := Ideal) (m ((c : Thread nD τ).loc main_arg1)) (m ((c : Thread nD τ).loc main_arg4))
      (m ((c : Thread nD τ).loc main_arg6)) (m ((c : Thread nD τ).loc main_arg7))
    = fun i : S8192x768.Idx => duG (D1 m c) (D2 m c) (W m c) (i 0).val (i 1).val := by
  refine funext fun i => (eq_atN _ i).trans ?_
  unfold val_main_v165
  rw [atN_beside _ _ Cert.ConvRefIdeal.Gen.concatenates_S8192x512_S8192x256_S8192x768_d1 rfl]
  have hr : (i 0).val < 8192 := (i 0).isLt
  unfold duG
  rw [Cert.ConvBwdIdeal.Own.W_at m c 0 _ (by omega), Cert.ConvBwdIdeal.Own.W_at m c 1 _ (by omega), Cert.ConvBwdIdeal.Own.W_at m c 2 _ (by omega),
    Cert.ConvBwdIdeal.Own.W_at m c 3 _ (by omega), Cert.ConvBwdIdeal.Own.D1_eq, Cert.ConvBwdIdeal.Own.D2_eq]
  unfold dP
  by_cases hj : (i 1).val < 512
  · simp only [if_pos hj]
    rw [du_512 _ _ _ _ hr]
    ac_rfl
  · simp only [if_neg hj]
    rw [du_256 _ _ _ _ hr]
    ac_rfl

theorem dw_eq : Cert.ConvRefIdeal.Read.val_main_v167 (F := Ideal) (m ((c : Thread nD τ).loc main_arg0)) (m ((c : Thread nD τ).loc main_arg3))
      (m ((c : Thread nD τ).loc main_arg6)) (m ((c : Thread nD τ).loc main_arg7))
    = fun y : S8x768.Idx => if (y 0).val < 4 then dwSum m c 8192 (y 0).val (y 1).val else 0 := by
  refine funext fun y => (eq_atN _ y).trans ?_
  unfold val_main_v167
  rw [atN_above _ _ Cert.ConvRefIdeal.Gen.concatenates_S4x768_S4x768_S8x768_d0 rfl]
  have hc : (y 1).val < 768 := (y 1).isLt
  by_cases hr : (y 0).val < 4
  · rw [if_pos hr, if_pos hr]
    unfold val_main_v164
    rw [atN_beside _ _ Cert.ConvRefIdeal.Gen.concatenates_S4x512_S4x256_S4x768_d1 rfl]
    unfold dwSum
    rw [Cert.ConvBwdIdeal.Own.D1_eq, Cert.ConvBwdIdeal.Own.D2_eq, Cert.ConvBwdIdeal.Own.U_eq]
    unfold dP uP
    simp only [atN_beside _ _ Cert.ConvBwdIdeal.Gen.concatenates_S8192x512_S8192x256_S8192x768_d1 rfl]
    have e : ∀ n, (n + (5 + (y 0).val) < 8) = (n + (y 0).val < 3) := fun n => propext ⟨fun h => by omega, fun h => by omega⟩
    have e' : ∀ n, n + (5 + (y 0).val) - 8 = n + (y 0).val - 3 := fun n => by omega
    by_cases hj : (y 1).val < 512
    · simp only [if_pos hj, e, e']
      exact dw_512 _ _ _ _ hr hj
    · simp only [if_neg hj, e, e']
      exact dw_256 _ _ _ _ hr (by omega)
  · rw [if_neg hr, if_neg hr]
    unfold atN; split
    · simp only [val_main_v166_apply, val_main_cst_39_apply]; exact zero_bits
    · rfl

theorem db_eq : Cert.ConvRefIdeal.Read.val_main_v169 (F := Ideal) (m ((c : Thread nD τ).loc main_arg6)) (m ((c : Thread nD τ).loc main_arg7))
    = fun y : S1x768.Idx => dbSum m c 8192 (y 1).val := by
  refine funext fun y => ?_
  rw [val_main_v169_apply]
  unfold val_main_v168 dbSum dP
  rw [Cert.ConvBwdIdeal.Own.D1_eq, Cert.ConvBwdIdeal.Own.D2_eq]
  have h0 : (y 0).val < 1 := (y 0).isLt
  have e : (idx_main_v169 y 0).val = (y 1).val := by show (y 0).val * 768 + (y 1).val = (y 1).val; omega
  have h1 : (y 1).val < 768 := (y 1).isLt
  by_cases hj : (y 1).val < 512
  · simp only [if_pos hj]
    refine (concatenate_pair_apply_left 0 _ _ Cert.ConvRefIdeal.Gen.concatenates_S512_S256_S768_d0 _ rfl (ix1 ⟨(y 1).val, hj⟩) fun b => by
      match b with | ⟨0, _⟩ => exact e.symm).trans ?_
    exact db_512 _ _
  · simp only [if_neg hj]
    refine (concatenate_pair_apply_right 0 _ _ Cert.ConvRefIdeal.Gen.concatenates_S512_S256_S768_d0 _ rfl rfl (ix1 ⟨(y 1).val - 512, by omega⟩)
      (fun b hb => by match b with | ⟨0, _⟩ => exact absurd rfl hb) (by rw [e]; show (y 1).val - 512 + 512 = _; omega)).trans ?_
    exact db_256 _ _

end Equal

/-- The reference program ends with its arguments unchanged and every counter at zero. -/
theorem ref_frame : Cert.quiescent_ConvRefIdeal (hConvRefIdeal := Cert.ConvRefIdeal.Gen.facts) := fun m g _ =>
  (θ_run Cert.ConvRefIdeal.defs _ _).mono (fun r h => ⟨fun c => (h c).2.2.2, sem_eq_zero_of_no_sems (by decide) r.2⟩)
    (Cert.ConvRefIdeal.Value.run m g)

set_option maxHeartbeats 1000000 in
/-- Over the extended reals the kernel returns the derivative of the two convolutions. -/
theorem value : Cert.algebraic_ConvBwdIdeal_ConvRefIdeal (hConvBwdIdeal := Cert.ConvBwdIdeal.Gen.facts)
    (hConvRefIdeal := Cert.ConvRefIdeal.Gen.facts) := fun m g m' g' _ hm => by
  refine ⟨fun c => (Cert.ConvBwdIdeal.Gen.dats m 0 c).arrAt 7 Cert.ConvBwdIdeal.cfg0.N,
    fun c => (Cert.ConvBwdIdeal.Gen.dats m 0 c).arrAt 8 Cert.ConvBwdIdeal.cfg0.N,
    fun c => (Cert.ConvBwdIdeal.Gen.dats m 0 c).arrAt 9 Cert.ConvBwdIdeal.cfg0.N, ?_, ?_⟩
  · exact (θ_run Cert.ConvBwdIdeal.defs _ _).mono (fun r h c => h c) (Cert.ConvBwdIdeal.Value.run_blocks m g)
  · refine (θ_run Cert.ConvRefIdeal.defs _ _).mono (fun r h c => ?_) (Cert.ConvRefIdeal.Value.run m' g')
    obtain ⟨e0, e1, e2, e3, e4, e5, e6, e7⟩ := hm c
    obtain ⟨h0, h1, h2, h3⟩ := h c
    refine ⟨h0.trans ?_, h1.trans ?_, h2.trans ?_, h3⟩
    · refine (Cert.ConvRefIdeal.Read.val_main_v165_eq (F := Ideal) _).trans (Eq.trans ?_ (Cert.ConvBwdIdeal.Own.final7 m c).symm)
      refine Eq.trans ?_ (du_eq m c)
      exact congr (congr (congr (congrArg _ e1) e4) e6) e7
    · refine (Cert.ConvRefIdeal.Read.val_main_v167_eq (F := Ideal) _).trans (Eq.trans ?_ (Cert.ConvBwdIdeal.Own.final8 m c).symm)
      refine Eq.trans ?_ (dw_eq m c)
      exact congr (congr (congr (congrArg _ e0) e3) e6) e7
    · refine (Cert.ConvRefIdeal.Read.val_main_v169_eq (F := Ideal) _).trans (Eq.trans ?_ (Cert.ConvBwdIdeal.Own.final9 m c).symm)
      refine Eq.trans ?_ (db_eq m c)
      exact congr (congrArg _ e6) e7

end Cert.Conv
end
-- ==== Proof.Relu.lean ====
/-
  The gradient of the squared-ReLU gate (`mlp_down_dx`): the kernel's two calls, the forward product that saves the
  rectified activations and the backward product that multiplies by twice them, return the reference's derivative.
-/
module

public import proofs.«01_k».proof.Proof.Pieces
public import proofs.«01_k».proof.Defs
public import proofs.«01_k».proof.Proof.Gen.ReluBwdIdeal.Frame
public import proofs.«01_k».proof.Proof.Gen.ReluRefIdeal.Run
public import proofs.«01_k».proof.Proof.Gen.ReluRefIdeal.Read
public import Idealize.ShloMosaic.Lib.Tactic
public import Idealize.ShloMosaic.Lib.MatmulPlain

@[expose] public section

set_option maxRecDepth 16384

noncomputable section

open Idealize.ShloMosaic Idealize.ShloMosaic.TcCoe Idealize.SL.Sem Idealize.ShloMosaic.ValueIdx
open Idealize.ShloMosaic.Pipeline (Dat)

namespace Cert.ReluBwdIdeal.Own

open Cert.ReluBwdIdeal Cert.ReluBwdIdeal.Gen Cert.Own

section bodies
variable (c : Dev nD) (i : grid0.Coords) (j : grid1.Coords) (a1 : Memref sig .tc .vmem S1024x1024 .bf16) (h1 : a1.IsWhole)
  (a2 : Memref sig .tc .vmem S1024x1024 .bf16) (h2 : a2.IsWhole) (a3 : Memref sig .tc .vmem S1024x1024 .bf16) (h3 : a3.IsWhole)
  (a4 : Memref sig .tc .vmem S1024x1024 .bf16) (h4 : a4.IsWhole) (a5 : Memref sig .tc .vmem S1024x1024 .f32) (h5 : a5.IsWhole)
  (x0 x1 x2 : Vec Ideal S1024x1024 .bf16)

/-- The forward body leaves the rectified product in its first result's buffer. -/
theorem out0 : out0_A_2 c i a1 h1 a2 h2 a3 h3 a4 h4 a5 h5 x0 x1 = k0_pay2 x0 x1 := by
  unfold out0_A_2
  refine Eq.trans (View.read_writes_eq_canon _ _ _ fun _ => cover0_A_2 ..) ?_
  unfold kernelRun0_A
  dsimp only
  sl_unfold_words
  simp only [canon2, cov2, View.readAt_eq_ld, Memref.IsWhole.read_unread, ld2, *]

/-- The backward body leaves the gated product in its result's buffer. -/
theorem out1 : out1_A_3 c j a1 h1 a2 h2 a3 h3 a4 h4 a5 h5 x0 x1 x2 = k1_pay1 x0 x1 x2 := by
  unfold out1_A_3
  rw [View.read_writes_eq_canon _ _ _ (cover1_A_3 c j a1 h1 a2 h2 a3 h3 a4 h4 a5 h5 x0 x1 x2)]
  unfold kernelRun1_A
  dsimp only
  sl_unfold_words
  simp only [canon2, cov2, View.readAt_eq_ld, Memref.IsWhole.read_unread, ld2, *]

/-- A tile of the forward: rows of the first operand against rows of the second, rectified. -/
theorem pay0 (y : S1024x1024.Idx) : k0_pay2 x0 x1 y = max (∑ k : Fin 1024, x0 (ix2 (y 0) k) * x1 (ix2 (y 1) k)) 0 := by
  obtain ⟨r, q, rfl⟩ : ∃ r q, y = ix2 r q := ⟨y 0, y 1, by ext a; fin_cases a <;> rfl⟩
  unfold k0_pay2 k0_pay1
  rw [show dot_S1024x1024_S1024x1024_S1024x1024_1_1_0_0_n_n = DotDims.transposedRhs 1024 1024 1024 from rfl]
  simp only [shapeCast_self, broadcast_apply]
  show max (matmul (DotDims.transposedRhs 1024 1024 1024) none x0 x1 _ (ix2 r q)) (Ideal.ofBits .f32 0x00000000#32) = _
  rw [Ideal.ofBits_zero_f32, matmul, Ideal.matmul_transposedRhs_apply]
  rw [show constant (F := Ideal) S1024x1024 .f32 0x00000000#32 (ix2 r q) = 0 from Ideal.ofBits_zero_f32, zero_add]

/-- A tile of the backward: rows against rows, times twice the saved activation. -/
theorem pay1 (y : S1024x1024.Idx) : k1_pay1 x0 x1 x2 y
    = (∑ k : Fin 1024, x0 (ix2 (y 0) k) * x1 (ix2 (y 1) k)) * (Ideal.ofBits .f32 0x40000000#32 * x2 y) := by
  obtain ⟨r, q, rfl⟩ : ∃ r q, y = ix2 r q := ⟨y 0, y 1, by ext a; fin_cases a <;> rfl⟩
  unfold k1_pay1
  rw [show dot_S1024x1024_S1024x1024_S1024x1024_1_1_0_0_n_n = DotDims.transposedRhs 1024 1024 1024 from rfl]
  simp only [shapeCast_self, broadcast_apply]
  show matmul (DotDims.transposedRhs 1024 1024 1024) none x0 x1 _ (ix2 r q) * (Ideal.ofBits .f32 0x40000000#32 * x2 (ix2 r q)) = _
  rw [matmul, Ideal.matmul_transposedRhs_apply]
  rw [show constant (F := Ideal) S1024x1024 .f32 0x00000000#32 (ix2 r q) = 0 from Ideal.ofBits_zero_f32, zero_add]

end bodies

variable (m : (ℓ : Loc nD τ sig) → Buf (Elt Ideal) ℓ) (ρ : Dev nD → PrngReg) (c : Dev nD)

/-- The kernel's arrays: the rows, the first weights, the second weights, the incoming gradient. -/
abbrev H : S8192x1024.Idx → EReal := m ((c : Thread nD τ).loc main_arg0)
abbrev W1' : S1024x4096.Idx → EReal := m ((c : Thread nD τ).loc main_arg1)
abbrev W2' : S4096x1024.Idx → EReal := m ((c : Thread nD τ).loc main_arg2)
abbrev DX : S8192x1024.Idx → EReal := m ((c : Thread nD τ).loc main_arg3)

/-- The saved activation, and the gradient the kernel returns. -/
def act (r j : ℕ) : EReal := max (∑ k : Fin 1024, atN (H m c) r k.val * atN (W1' m c) k.val j) 0
def grad (r j : ℕ) : EReal := (∑ k : Fin 1024, atN (DX m c) r k.val * atN (W2' m c) j k.val)
  * (Ideal.ofBits .f32 0x40000000#32 * act m c r j)

theorem idx0 : ∀ t : Fin grid0.N, (win0_0.index t 0 = t.val / 4 ∧ win0_0.index t 1 = 0)
    ∧ (win0_1.index t 0 = t.val % 4 ∧ win0_1.index t 1 = 0) ∧ (win0_2.index t 0 = t.val / 4 ∧ win0_2.index t 1 = t.val % 4) := by decide +kernel
theorem idx1 : ∀ t : Fin grid1.N, (win1_0.index t 0 = t.val / 4 ∧ win1_0.index t 1 = 0)
    ∧ (win1_1.index t 0 = t.val % 4 ∧ win1_1.index t 1 = 0) ∧ (win1_2.index t 0 = t.val / 4 ∧ win1_2.index t 1 = t.val % 4)
    ∧ (win1_3.index t 0 = t.val / 4 ∧ win1_3.index t 1 = t.val % 4) := by decide +kernel

theorem lt0 (t : Fin cfg0.N) : t.val < 32 := t.isLt.trans_eq N_0
theorem lt1 (t : Fin cfg1.N) : t.val < 32 := t.isLt.trans_eq N_1

theorem v2_at (r k : ℕ) : atN (V1 m ρ c main_v2 : S4096x1024.Idx → EReal) r k = atN (W1' m c) k r := by
  unfold atN
  by_cases h : r < 4096 ∧ k < 1024
  · rw [dif_pos h, dif_pos h.symm]
    refine congrArg (W1' m c) (idx2_eq rfl rfl)
  · rw [dif_neg h, dif_neg fun h' => h h'.symm]

theorem b00 (t : Fin cfg0.N) (y : S1024x1024.Idx) : (iblk0 (V1 m ρ) c 0 t : Vec Ideal S1024x1024 .bf16) y
    = atN (H m c) (1024 * (t.val / 4) + (y 0).val) (y 1).val :=
  eq_atN_of (H m c) _ (by show win0_0.index t 0 * 1024 + 1 * (y 0).val = _; rw [(idx0 t).1.1]; omega)
    (by show win0_0.index t 1 * 1024 + 1 * (y 1).val = _; rw [(idx0 t).1.2]; omega)

theorem b01 (t : Fin cfg0.N) (y : S1024x1024.Idx) : (iblk0 (V1 m ρ) c 1 t : Vec Ideal S1024x1024 .bf16) y
    = atN (W1' m c) (y 1).val (1024 * (t.val % 4) + (y 0).val) :=
  (eq_atN_of (V1 m ρ c main_v2) _ (by show win0_1.index t 0 * 1024 + 1 * (y 0).val = _; rw [(idx0 t).2.1.1]; omega)
    (by show win0_1.index t 1 * 1024 + 1 * (y 1).val = _; rw [(idx0 t).2.1.2]; omega)).trans (v2_at m ρ c _ _)

theorem outs0 (t : Fin cfg0.N) (y : S1024x1024.Idx) : (outsAt0 (V1 m ρ) c t).1 y
    = act m c (1024 * (t.val / 4) + (y 0).val) (1024 * (t.val % 4) + (y 1).val) := by
  unfold outsAt0
  dsimp only
  rw [out0, pay0]
  unfold act
  simp only [b00, b01]

/-- After the forward call the saved activations are in its first result. -/
theorem final0 : (dat0 (V1 m ρ) c).arrAt 2 cfg0.N = fun i : S8192x4096.Idx => act m c (i 0).val (i 1).val := by
  refine (dat0 (V1 m ρ) c).arrAt_eq_of_cover 2 _ (fun t ht => ?_) fun (i : S8192x4096.Idx) => ?_
  · show (cfg0.win 2).cut (grid0.coords t) ((dat0 (V1 m ρ) c).after 2 t) = _
    rw [after0_2]
    refine funext fun y => Eq.trans ?_ (View.read_apply _ _).symm
    refine (outs0 m ρ c t y).trans ?_
    refine congr (congrArg (act m c) ?_) ?_
    · show _ = win0_2.index t 0 * 1024 + 1 * (y 0).val; rw [(idx0 t).2.2.1]; omega
    · show _ = win0_2.index t 1 * 1024 + 1 * (y 1).val; rw [(idx0 t).2.2.2]; omega
  · have h0 := (i 0).isLt
    have h1 := (i 1).isLt
    obtain ⟨t, ht⟩ : ∃ t : Fin cfg0.N, t.val = 4 * ((i 0).val / 1024) + (i 1).val / 1024 := ⟨⟨4 * ((i 0).val / 1024) + (i 1).val / 1024, by
      rw [show cfg0.N = 32 from N_0]; have : (i 0).val < 8192 := h0; have : (i 1).val < 4096 := h1; omega⟩, rfl⟩
    refine ⟨t, flush0_2 t, ?_⟩
    show i ∈ ((View.whole main_v3_0).slice (win0_2.rect t)).set
    rw [View.set_slice_whole, Rect.mem_set_unit]
    intro a
    match a with
    | 0 => show win0_2.index t 0 * 1024 ≤ (i 0).val ∧ (i 0).val < win0_2.index t 0 * 1024 + 1024
           rw [(idx0 t).2.2.1, ht]; have : (i 0).val < 8192 := h0; have : (i 1).val < 4096 := h1; omega
    | 1 => show win0_2.index t 1 * 1024 ≤ (i 1).val ∧ (i 1).val < win0_2.index t 1 * 1024 + 1024
           rw [(idx0 t).2.2.2, ht]; have : (i 0).val < 8192 := h0; have : (i 1).val < 4096 := h1; omega

theorem v30_at : V3 m ρ c main_v3_0 = fun i : S8192x4096.Idx => act m c (i 0).val (i 1).val :=
  (W3_of m ρ c main_v3_0 (by decide)).trans ((W2_arr m ρ c 2).trans (final0 m ρ c))

theorem v4_at : V3 m ρ c main_v4 = DX m c :=
  Eq.trans (b := (W2 m ρ c (Proc.devRef .tc main_arg3) : S8192x1024.Idx → EReal)) rfl
    (W2_args m ρ c main_arg3 (by decide))

theorem v5_at : V3 m ρ c main_v5 = W2' m c :=
  Eq.trans (b := (W2 m ρ c (Proc.devRef .tc main_arg2) : S4096x1024.Idx → EReal)) rfl
    (W2_args m ρ c main_arg2 (by decide))

theorem b10 (t : Fin cfg1.N) (y : S1024x1024.Idx) : (iblk1 (V3 m ρ) c 0 t : Vec Ideal S1024x1024 .bf16) y
    = atN (DX m c) (1024 * (t.val / 4) + (y 0).val) (y 1).val :=
  (eq_atN_of (V3 m ρ c main_v4) _ (r := 1024 * (t.val / 4) + (y 0).val) (j := (y 1).val) (by show win1_0.index t 0 * 1024 + 1 * (y 0).val = _; rw [(idx1 t).1.1]; omega)
    (by show win1_0.index t 1 * 1024 + 1 * (y 1).val = _; rw [(idx1 t).1.2]; omega)).trans (by rw [v4_at])

theorem b11 (t : Fin cfg1.N) (y : S1024x1024.Idx) : (iblk1 (V3 m ρ) c 1 t : Vec Ideal S1024x1024 .bf16) y
    = atN (W2' m c) (1024 * (t.val % 4) + (y 0).val) (y 1).val :=
  (eq_atN_of (V3 m ρ c main_v5) _ (r := 1024 * (t.val % 4) + (y 0).val) (j := (y 1).val) (by show win1_1.index t 0 * 1024 + 1 * (y 0).val = _; rw [(idx1 t).2.1.1]; omega)
    (by show win1_1.index t 1 * 1024 + 1 * (y 1).val = _; rw [(idx1 t).2.1.2]; omega)).trans (by rw [v5_at])

theorem b12 (t : Fin cfg1.N) (y : S1024x1024.Idx) : (iblk1 (V3 m ρ) c 2 t : Vec Ideal S1024x1024 .bf16) y
    = act m c (1024 * (t.val / 4) + (y 0).val) (1024 * (t.val % 4) + (y 1).val) := by
  refine (View.read_apply _ _).trans ?_
  refine (congrFun (v30_at m ρ c) _).trans ?_
  refine congr (congrArg (act m c) ?_) ?_
  · show win1_2.index t 0 * 1024 + 1 * (y 0).val = _; rw [(idx1 t).2.2.1.1]; omega
  · show win1_2.index t 1 * 1024 + 1 * (y 1).val = _; rw [(idx1 t).2.2.1.2]; omega

theorem outs1 (t : Fin cfg1.N) (y : S1024x1024.Idx) : outsAt1 (V3 m ρ) c t y
    = grad m c (1024 * (t.val / 4) + (y 0).val) (1024 * (t.val % 4) + (y 1).val) := by
  unfold outsAt1
  rw [out1, pay1]
  unfold grad
  simp only [b10, b11, b12]

/-- After the backward call its result holds the gradient. -/
theorem final1 : (dat1 (V3 m ρ) c).arrAt 3 cfg1.N = fun i : S8192x4096.Idx => grad m c (i 0).val (i 1).val := by
  refine (dat1 (V3 m ρ) c).arrAt_eq_of_cover 3 _ (fun t ht => ?_) fun (i : S8192x4096.Idx) => ?_
  · show (cfg1.win 3).cut (grid1.coords t) ((dat1 (V3 m ρ) c).after 3 t) = _
    rw [after1_3]
    refine funext fun y => Eq.trans ?_ (View.read_apply _ _).symm
    refine (outs1 m ρ c t y).trans ?_
    refine congr (congrArg (grad m c) ?_) ?_
    · show _ = win1_3.index t 0 * 1024 + 1 * (y 0).val; rw [(idx1 t).2.2.2.1]; omega
    · show _ = win1_3.index t 1 * 1024 + 1 * (y 1).val; rw [(idx1 t).2.2.2.2]; omega
  · have h0 : (i 0).val < 8192 := (i 0).isLt
    have h1 : (i 1).val < 4096 := (i 1).isLt
    obtain ⟨t, ht⟩ : ∃ t : Fin cfg1.N, t.val = 4 * ((i 0).val / 1024) + (i 1).val / 1024 := ⟨⟨4 * ((i 0).val / 1024) + (i 1).val / 1024, by
      rw [show cfg1.N = 32 from N_1]; omega⟩, rfl⟩
    refine ⟨t, flush1_3 t, ?_⟩
    show i ∈ ((View.whole main_v6).slice (win1_3.rect t)).set
    rw [View.set_slice_whole, Rect.mem_set_unit]
    intro a
    match a with
    | 0 => show win1_3.index t 0 * 1024 ≤ (i 0).val ∧ (i 0).val < win1_3.index t 0 * 1024 + 1024
           rw [(idx1 t).2.2.2.1, ht]; omega
    | 1 => show win1_3.index t 1 * 1024 ≤ (i 1).val ∧ (i 1).val < win1_3.index t 1 * 1024 + 1024
           rw [(idx1 t).2.2.2.2, ht]; omega

section launch

open Idealize.SL Idealize.SL.RA Idealize.SL.BI
open scoped Idealize.SL.BI
open Idealize.SL.BI.BIBase Idealize.SL.BI.Laws Idealize.SL.ProofMode Idealize.ShloMosaic.Rounds Idealize.ShloMosaic.Tactic
open Idealize.ShloMosaic.Pipeline (cellOf)

local notation "𝕄" => MT nD τ sig Unit (Elt Ideal) ℕ (UR sig nD τ) ℕ

set_option maxHeartbeats 1000000 in
/-- The two calls run in order: the result's array ends at the gradient, the arguments as launched. -/
theorem run : θ_run (defs (F := Ideal)) (onTc (τ := τ) (main (F := Ideal))) ⟨m, fun _ => 0, ρ⟩ (fun r => ∀ c : Dev nD,
      r.2.mem ((c.tc : Thread nD τ).loc main_v6) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨(h c _ (mem_uc main_v6 (by decide))).trans (W4_arr m ρ c 3),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end launch

end Cert.ReluBwdIdeal.Own

namespace Cert.Relu

open Cert.ReluRefIdeal Cert.ReluRefIdeal.Gen Cert.ReluRefIdeal.Read Cert.Own

/-- The reference's derivative at an index: where the activation is positive, the incoming product times twice it. -/
theorem ref_at (x0 x3 : S8192x1024.Idx → EReal) (x1 : S1024x4096.Idx → EReal) (x2 : S4096x1024.Idx → EReal) (i : S8192x4096.Idx) :
    val_main_v13 (F := Ideal) x0 x1 x2 x3 i
      = (∑ k : Fin 1024, atN x3 (i 0).val k.val * atN x2 (i 1).val k.val)
        * (Ideal.ofBits .f32 0x40000000#32 * max (∑ k : Fin 1024, atN x0 (i 0).val k.val * atN x1 k.val (i 1).val) 0) := by
  have hs : val_main_v0 (F := Ideal) x0 x1 i = ∑ k : Fin 1024, atN x0 (i 0).val k.val * atN x1 k.val (i 1).val :=
    (val_main_v0_apply x0 x1 i).trans (Finset.sum_congr rfl fun k _ => by rw [eq_atN x0, eq_atN x1])
  have hd : val_main_v9 (F := Ideal) x2 x3 i = ∑ k : Fin 1024, atN x3 (i 0).val k.val * atN x2 (i 1).val k.val :=
    (val_main_v9_apply x2 x3 i).trans (Finset.sum_congr rfl fun k _ => by rw [eq_atN x3, eq_atN x2])
  show (if BitVec.ofBool (decide (Ideal.ofBits .f32 0x00000000#32 < val_main_v0 (F := Ideal) x0 x1 i)) = 1#1 then
      val_main_v9 (F := Ideal) x2 x3 i * (Ideal.ofBits .f32 0x40000000#32 * max (val_main_v0 (F := Ideal) x0 x1 i) (Ideal.ofBits .f32 0x00000000#32))
    else Ideal.ofBits .f32 0x00000000#32) = _
  rw [hs, hd, Ideal.ofBits_zero_f32]
  by_cases h : 0 < ∑ k : Fin 1024, atN x0 (i 0).val k.val * atN x1 k.val (i 1).val
  · rw [decide_eq_true h]; rfl
  · rw [decide_eq_false h, if_neg (by decide), max_eq_right (not_lt.mp h), mul_zero, mul_zero]

/-- The reference runs and leaves its arguments as they were. -/
theorem ref_frame : Cert.quiescent_ReluRefIdeal (hReluRefIdeal := Cert.ReluRefIdeal.Gen.facts) := fun m g _ =>
  (θ_run Cert.ReluRefIdeal.defs _ _).mono (fun r h => ⟨fun c => (h c).2, sem_eq_zero_of_no_sems (by decide) r.2⟩)
    (Cert.ReluRefIdeal.Value.run m g)

/-- Over the extended reals the kernel returns the derivative of the squared ReLU. -/
theorem value : Cert.algebraic_ReluBwdIdeal_ReluRefIdeal (hReluBwdIdeal := Cert.ReluBwdIdeal.Gen.facts)
    (hReluRefIdeal := Cert.ReluRefIdeal.Gen.facts) := fun m g m' g' _ hm => by
  refine ⟨fun c => (Cert.ReluBwdIdeal.Gen.dat1 (Cert.ReluBwdIdeal.Gen.V3 m g) c).arrAt 3 Cert.ReluBwdIdeal.cfg1.N,
    Cert.ReluBwdIdeal.Own.run m g, ?_⟩
  refine (θ_run Cert.ReluRefIdeal.defs _ _).mono (fun r h c => ?_) (Cert.ReluRefIdeal.Value.run m' g')
  obtain ⟨e0, e1, e2, e3⟩ := hm c
  obtain ⟨h0, h1⟩ := h c
  refine ⟨h0.trans ((val_main_v13_eq (F := Ideal) _ _ _ _).trans (Eq.trans ?_ (Cert.ReluBwdIdeal.Own.final1 m g c).symm)), h1⟩
  refine Eq.trans (congr (congr (congr (congrArg _ e0) e1) e2) e3) (funext fun i => ?_)
  exact ref_at _ _ _ _ i

end Cert.Relu
end
-- ==== Proof.AttnOff.lean ====
/-
  The attention gradient's addresses in closed form: how many trips each of the four loops makes at a grid point, and
  which query block each trip reads and writes.
-/
module

public import proofs.«01_k».proof.Proof.Gen.AttnBwdIdeal.Loops

@[expose] public section

noncomputable section

namespace Cert.AttnBwdIdeal.Own

open Idealize.ShloMosaic Idealize.ShloMosaic.TcCoe Idealize.ShloMosaic.Tactic
open Cert.AttnBwdIdeal Cert.AttnBwdIdeal.Gen

/-- The unrolled loop makes one trip per four remaining query blocks. -/
theorem trips1 : ∀ i : grid0.Coords, (k0_t1_loop i).trips = (15 - (i 1).val) / 4 := by decide +kernel

/-- The unrolled loop's remainder copy makes no trip. -/
theorem trips2 : ∀ i : grid0.Coords, (k0_t2_loop i).trips = 0 := by decide +kernel

/-- The tail loop makes one trip per query block left over. -/
theorem trips3 : ∀ i : grid0.Coords, (k0_t3_loop i).trips = (15 - (i 1).val) % 4 := by decide +kernel

/-- The tail loop's remainder copy makes no trip. -/
theorem trips4 : ∀ i : grid0.Coords, (k0_t4_loop i).trips = 0 := by decide +kernel

theorem off1 : ∀ i : grid0.Coords, k0_off1 i = ![(i 1).val * 512, 0] := by decide +kernel
theorem off2 : ∀ i : grid0.Coords, k0_off2 i = ![0, (i 1).val, 0, 0] := by decide +kernel
theorem off3 : ∀ i : grid0.Coords, k0_off3 i = ![0, (i 1).val, 0, 0] := by decide +kernel

theorem off4 : ∀ (i : grid0.Coords) (k : Fin (k0_t1_loop i).trips) (u : Fin 4),
    k0_off4 i k (BitVec.ofNat 32 u.val) = ![((i 1).val + 1 + 4 * k.val + u.val) * 512, 0] := by decide +kernel
theorem off5 : ∀ (i : grid0.Coords) (k : Fin (k0_t1_loop i).trips) (u : Fin 4),
    k0_off5 i k (BitVec.ofNat 32 u.val) = ![0, (i 1).val + 1 + 4 * k.val + u.val, 0, 0] := by decide +kernel
theorem off6 : ∀ (i : grid0.Coords) (k : Fin (k0_t1_loop i).trips) (u : Fin 4),
    k0_off6 i k (BitVec.ofNat 32 u.val) = ![0, (i 1).val + 1 + 4 * k.val + u.val, 0, 0] := by decide +kernel

theorem off10 : ∀ (i : grid0.Coords) (k : Fin (k0_t3_loop i).trips),
    k0_off10 i k = ![((i 1).val + 1 + 4 * ((15 - (i 1).val) / 4) + k.val) * 512, 0] := by decide +kernel
theorem off11 : ∀ (i : grid0.Coords) (k : Fin (k0_t3_loop i).trips),
    k0_off11 i k = ![0, (i 1).val + 1 + 4 * ((15 - (i 1).val) / 4) + k.val, 0, 0] := by decide +kernel
theorem off12 : ∀ (i : grid0.Coords) (k : Fin (k0_t3_loop i).trips),
    k0_off12 i k = ![0, (i 1).val + 1 + 4 * ((15 - (i 1).val) / 4) + k.val, 0, 0] := by decide +kernel

instance (i : grid0.Coords) (k : Fin (k0_t1_loop i).trips) : ClosedOff (k0_off6 i k 0#32) := ⟨_, off6 i k 0⟩
instance (i : grid0.Coords) (k : Fin (k0_t1_loop i).trips) : ClosedOff (k0_off6 i k 1#32) := ⟨_, off6 i k 1⟩
instance (i : grid0.Coords) (k : Fin (k0_t1_loop i).trips) : ClosedOff (k0_off6 i k 2#32) := ⟨_, off6 i k 2⟩
instance (i : grid0.Coords) (k : Fin (k0_t1_loop i).trips) : ClosedOff (k0_off6 i k 3#32) := ⟨_, off6 i k 3⟩

end Cert.AttnBwdIdeal.Own

end
-- ==== Proof.AttnLoop.lean ====
/-
  The unrolled loop of the attention gradient: one trip run once at a symbolic trip, and the loop's invariant from it.
-/
module

public import proofs.«01_k».proof.Proof.AttnOff

@[expose] public section

set_option maxRecDepth 16384

noncomputable section

namespace Cert.AttnBwdIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnBwdIdeal Cert.AttnBwdIdeal.Gen

variable {F : FTy → Type} [FloatOps F] [Named F]

local notation "𝕄G" => MT nD τ sig Unit (Elt F) ℕ (UR sig nD τ) ℕ

/-- What the loops carry: the two gradients of the key block, accumulated so far. -/
abbrev Acc (F : FTy → Type) : Type := FVec F S512x128 .f32 × FVec F S512x128 .f32

variable (𝒱 : Variants) (c : Dev nD) (bd : Option 𝒱.V) (i : grid0.Coords)
  (arg2 : Memref sig .tc .vmem S8192x128 .bf16) (harg2 : arg2.IsWhole) (arg3 : Memref sig .tc .vmem S512x256 .bf16) (harg3 : arg3.IsWhole)
  (arg4 : Memref sig .tc .vmem S8192x128 .bf16) (harg4 : arg4.IsWhole) (arg5 : Memref sig .tc .vmem S1x16x8x512 .f32) (harg5 : arg5.IsWhole)
  (arg6 : Memref sig .tc .vmem S1x16x8x512 .f32) (harg6 : arg6.IsWhole) (arg7 : Memref sig .tc .vmem S1x16x128x512 .f32) (harg7 : arg7.IsWhole)
  (arg8 : Memref sig .tc .vmem S512x256 .bf16) (harg8 : arg8.IsWhole) (arg1 : BitVec 32)
  (v4 : FVec F S512x128 .bf16) (v6 : FVec F S512x128 .bf16) (v9 : FVec F S128x512 .bf16) (v48 : FVec F S512x128 .f32) (v51 : FVec F S512x128 .f32)
  (v62 : BitVec 32) (v63 : BitVec 32) (v77 : BitVec 1)
  (X2 : BufTy.Contents (Elt F) arg2.view.ty) (X4 : BufTy.Contents (Elt F) arg4.view.ty)
  (X5 : BufTy.Contents (Elt F) arg5.view.ty) (X6 : BufTy.Contents (Elt F) arg6.view.ty)

/-- One trip's buffers: the four it reads, and the query gradient it adds to. -/
abbrev Trip1 (f : BufTy.Contents (Elt F) arg7.view.ty) : sProp 𝕄G :=
  iprop((arg2.view.loc (c : Thread nD τ) ↦[arg2.view.set]{fullShare} X2) ∗ (arg4.view.loc (c : Thread nD τ) ↦[arg4.view.set]{fullShare} X4)
    ∗ (arg5.view.loc (c : Thread nD τ) ↦[arg5.view.set]{fullShare} X5) ∗ (arg6.view.loc (c : Thread nD τ) ↦[arg6.view.set]{fullShare} X6)
    ∗ (arg7.view.loc (c : Thread nD τ) ↦[arg7.view.set]{fullShare} f))

/-- One trip at a symbolic trip number: what it yields and the pieces it writes into the query gradient, as functions of
    what it carries in and of the query gradient it finds. -/
@[irreducible] def trip1 (k : Fin (k0_t1_loop i).trips) :
    Σ' (R : Acc F → BufTy.Contents (Elt F) arg7.view.ty → Acc F),
      { L : Acc F → BufTy.Contents (Elt F) arg7.view.ty → List (View.Piece (Elt F) S1x16x128x512 .f32) //
        ∀ (E : Set ℕ) (acc : Acc F) (f : BufTy.Contents (Elt F) arg7.view.ty),
          Trip1 (F := F) c arg2 arg4 arg5 arg6 arg7 X2 X4 X5 X6 f
          ⊢ wp frame (wpE (defs₀ (F := F)) 𝒱 (c : Thread nD τ) bd) E
              (k0_t1_body (F := F) i arg2 harg2 arg3 harg3 arg4 harg4 arg5 harg5 arg6 harg6 arg7 harg7 arg8 harg8 arg1 v4 v6 v9 v48 v51 v62 v63 v77 k acc)
              (fun yld => iprop(⌜yld = R acc f⌝ ∗ Trip1 (F := F) c arg2 arg4 arg5 arg6 arg7 X2 X4 X5 X6 (arg7.view.writes (Elt F) f (L acc f)))) } := by
  refine ⟨?_, ?_, fun E acc f => ?run⟩
  case run =>
    unfold k0_t1_body
    iintro ⟨H2, H4, H5, H6, H7⟩
    sl_exec
    sl_step
    sl_close

/-- The state before a trip: the carried value and the pieces of the trips before (last first), from the contents the loop
    finds. -/
def st1 (G : BufTy.Contents (Elt F) arg7.view.ty) (init : Acc F) : ℕ → Acc F × List (View.Piece (Elt F) S1x16x128x512 .f32)
  | 0 => (init, [])
  | k + 1 =>
    let prev := st1 G init k
    if h : k < (k0_t1_loop i).trips then
      ((trip1 (F := F) 𝒱 c bd i arg2 harg2 arg3 harg3 arg4 harg4 arg5 harg5 arg6 harg6 arg7 harg7 arg8 harg8 arg1 v4 v6 v9 v48 v51 v62 v63 v77 X2 X4 X5 X6 ⟨k, h⟩).1 prev.1 (arg7.view.writes (Elt F) G prev.2),
        (trip1 (F := F) 𝒱 c bd i arg2 harg2 arg3 harg3 arg4 harg4 arg5 harg5 arg6 harg6 arg7 harg7 arg8 harg8 arg1 v4 v6 v9 v48 v51 v62 v63 v77 X2 X4 X5 X6 ⟨k, h⟩).2.1 prev.1 (arg7.view.writes (Elt F) G prev.2) ++ prev.2)
    else prev

theorem st1_succ (G : BufTy.Contents (Elt F) arg7.view.ty) (init : Acc F) (k : Fin (k0_t1_loop i).trips) :
    st1 (F := F) 𝒱 c bd i arg2 harg2 arg3 harg3 arg4 harg4 arg5 harg5 arg6 harg6 arg7 harg7 arg8 harg8 arg1 v4 v6 v9 v48 v51 v62 v63 v77 X2 X4 X5 X6 G init (k.val + 1)
      = ((trip1 (F := F) 𝒱 c bd i arg2 harg2 arg3 harg3 arg4 harg4 arg5 harg5 arg6 harg6 arg7 harg7 arg8 harg8 arg1 v4 v6 v9 v48 v51 v62 v63 v77 X2 X4 X5 X6 k).1 (st1 (F := F) 𝒱 c bd i arg2 harg2 arg3 harg3 arg4 harg4 arg5 harg5 arg6 harg6 arg7 harg7 arg8 harg8 arg1 v4 v6 v9 v48 v51 v62 v63 v77 X2 X4 X5 X6 G init k.val).1
            (arg7.view.writes (Elt F) G (st1 (F := F) 𝒱 c bd i arg2 harg2 arg3 harg3 arg4 harg4 arg5 harg5 arg6 harg6 arg7 harg7 arg8 harg8 arg1 v4 v6 v9 v48 v51 v62 v63 v77 X2 X4 X5 X6 G init k.val).2),
          (trip1 (F := F) 𝒱 c bd i arg2 harg2 arg3 harg3 arg4 harg4 arg5 harg5 arg6 harg6 arg7 harg7 arg8 harg8 arg1 v4 v6 v9 v48 v51 v62 v63 v77 X2 X4 X5 X6 k).2.1 (st1 (F := F) 𝒱 c bd i arg2 harg2 arg3 harg3 arg4 harg4 arg5 harg5 arg6 harg6 arg7 harg7 arg8 harg8 arg1 v4 v6 v9 v48 v51 v62 v63 v77 X2 X4 X5 X6 G init k.val).1
            (arg7.view.writes (Elt F) G (st1 (F := F) 𝒱 c bd i arg2 harg2 arg3 harg3 arg4 harg4 arg5 harg5 arg6 harg6 arg7 harg7 arg8 harg8 arg1 v4 v6 v9 v48 v51 v62 v63 v77 X2 X4 X5 X6 G init k.val).2)
            ++ (st1 (F := F) 𝒱 c bd i arg2 harg2 arg3 harg3 arg4 harg4 arg5 harg5 arg6 harg6 arg7 harg7 arg8 harg8 arg1 v4 v6 v9 v48 v51 v62 v63 v77 X2 X4 X5 X6 G init k.val).2) := by
  rw [st1]; exact dif_pos k.isLt

/-- Before trip `k`: the buffers read at their contents, the query gradient with the earlier trips' pieces written over
    what the loop found, and the carried value the state's. -/
abbrev inv1 (G : BufTy.Contents (Elt F) arg7.view.ty) (init : Acc F) (k : ℕ) (acc : Acc F) : sProp 𝕄G :=
  iprop((arg2.view.loc (c : Thread nD τ) ↦[arg2.view.set]{fullShare} X2) ∗ (arg4.view.loc (c : Thread nD τ) ↦[arg4.view.set]{fullShare} X4)
    ∗ (arg5.view.loc (c : Thread nD τ) ↦[arg5.view.set]{fullShare} X5) ∗ (arg6.view.loc (c : Thread nD τ) ↦[arg6.view.set]{fullShare} X6)
    ∗ (∃ f, (arg7.view.loc (c : Thread nD τ) ↦[arg7.view.set]{fullShare} f)
        ∗ ⌜f = arg7.view.writes (Elt F) G (st1 (F := F) 𝒱 c bd i arg2 harg2 arg3 harg3 arg4 harg4 arg5 harg5 arg6 harg6 arg7 harg7 arg8 harg8 arg1 v4 v6 v9 v48 v51 v62 v63 v77 X2 X4 X5 X6 G init k).2⌝)
    ∗ ⌜acc = (st1 (F := F) 𝒱 c bd i arg2 harg2 arg3 harg3 arg4 harg4 arg5 harg5 arg6 harg6 arg7 harg7 arg8 harg8 arg1 v4 v6 v9 v48 v51 v62 v63 v77 X2 X4 X5 X6 G init k).1⌝)

set_option warn.classDefReducibility false in
/-- The unrolled loop by its invariant. -/
@[sl_loop] def loopInv1 (E : Set ℕ) (G : BufTy.Contents (Elt F) arg7.view.ty) (init : Acc F) :
    LoopInvTy_k0_t1 (F := F) Unit ℕ (UR sig nD τ) ℕ 𝒱 c bd E i arg2 harg2 arg3 harg3 arg4 harg4 arg5 harg5 arg6 harg6 arg7 harg7 arg8 harg8 arg1 v4 v6 v9 v48 v51 v62 v63 v77 init where
  inv := inv1 (F := F) 𝒱 c bd i arg2 harg2 arg3 harg3 arg4 harg4 arg5 harg5 arg6 harg6 arg7 harg7 arg8 harg8 arg1 v4 v6 v9 v48 v51 v62 v63 v77 X2 X4 X5 X6 G init
  step k acc := by
    iintro ⟨H2, H4, H5, H6, ⟨%f, H7, %h7⟩, %hacc⟩
    subst hacc
    iapply (wp_wand_r Idealize.ShloMosaic.frame (wpE (defs₀ (F := F)) 𝒱 (c : Thread nD τ) bd) E)
    isplitl [H2 H4 H5 H6 H7]
    · iapply ((trip1 (F := F) 𝒱 c bd i arg2 harg2 arg3 harg3 arg4 harg4 arg5 harg5 arg6 harg6 arg7 harg7 arg8 harg8 arg1 v4 v6 v9 v48 v51 v62 v63 v77 X2 X4 X5 X6 k).2.2 E (st1 (F := F) 𝒱 c bd i arg2 harg2 arg3 harg3 arg4 harg4 arg5 harg5 arg6 harg6 arg7 harg7 arg8 harg8 arg1 v4 v6 v9 v48 v51 v62 v63 v77 X2 X4 X5 X6 G init k).1 f)
      isplitl [H2]; · iexact H2
      isplitl [H4]; · iexact H4
      isplitl [H5]; · iexact H5
      isplitl [H6]; · iexact H6
      iexact H7
    · iintro %yld ⟨%hres, H2, H4, H5, H6, H7⟩
      isplitl [H2]; · iexact H2
      isplitl [H4]; · iexact H4
      isplitl [H5]; · iexact H5
      isplitl [H6]; · iexact H6
      simp only [st1_succ]
      isplitl [H7]
      · iexists _; isplitl [H7]; · iexact H7
        ipureintro; rw [h7, ← View.writes_append]
      ipureintro; rw [hres, h7]

set_option warn.classDefReducibility false in
/-- The remainder copy makes no trip: it yields what it is given. -/
@[sl_loop] def loopInv2 (E : Set ℕ) (v84 : BitVec 32) (init : Acc F) :
    LoopInvTy_k0_t2 (F := F) Unit ℕ (UR sig nD τ) ℕ 𝒱 c bd E i arg2 harg2 arg3 harg3 arg4 harg4 arg5 harg5 arg6 harg6 arg7 harg7 arg8 harg8 arg1 v4 v6 v9 v48 v51 v62 v63 v77 v84 init where
  inv := fun _ acc => iprop(⌜acc = init⌝)
  step k acc := absurd (lt_of_lt_of_eq k.isLt (trips2 i)) (Nat.not_lt_zero _)

end Cert.AttnBwdIdeal.Own

end
-- ==== Proof.AttnRun.lean ====
/-
  The whole body of the attention gradient, run once per case: at the first key block of a head (the query gradient is
  cleared first) and at every other (it is added to).
-/
module

public import proofs.«01_k».proof.Proof.AttnLoop
public import Idealize.ShloMosaic.Lib.WordCmp
public import proofs.«01_k».proof.Proof.Gen.AttnBwdIdeal.Frame

@[expose] public section

set_option maxRecDepth 16384

noncomputable section

namespace Cert.AttnBwdIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnBwdIdeal Cert.AttnBwdIdeal.Gen

variable {F : FTy → Type} [FloatOps F] [Named F]

local notation "𝕄G" => MT nD τ sig Unit (Elt F) ℕ (UR sig nD τ) ℕ

/-- The body's condition: the key block is the head's first. -/
abbrev first (i : grid0.Coords) : Prop :=
  Scalar.cmpi .ne (Scalar.extui (Scalar.cmpi .eq (BitVec.ofNat 32 (i 1).val) 0#32) : BitVec 32) 0#32 = 1#1

/-- The condition at a point: its number is a multiple of sixteen. -/
theorem first_iff : ∀ t : Fin grid0.N, first (grid0.coords t) ↔ t.val % 16 = 0 := by
  intro t
  have ht : t.val < 128 := Nat.lt_of_lt_of_eq t.isLt N_0
  have e1 : (grid0.coords t 1).val = t.val / 1 % 16 := Pipeline.Grid.coords_val t 1 (by decide) rfl
  simp only [first, e1]
  word_cmp

variable (c : Dev nD) (i : grid0.Coords)
  (arg2 : Memref sig .tc .vmem S8192x128 .bf16) (harg2 : arg2.IsWhole) (arg3 : Memref sig .tc .vmem S512x256 .bf16) (harg3 : arg3.IsWhole)
  (arg4 : Memref sig .tc .vmem S8192x128 .bf16) (harg4 : arg4.IsWhole) (arg5 : Memref sig .tc .vmem S1x16x8x512 .f32) (harg5 : arg5.IsWhole)
  (arg6 : Memref sig .tc .vmem S1x16x8x512 .f32) (harg6 : arg6.IsWhole) (arg7 : Memref sig .tc .vmem S1x16x128x512 .f32) (harg7 : arg7.IsWhole)
  (arg8 : Memref sig .tc .vmem S512x256 .bf16) (harg8 : arg8.IsWhole)
  (x2 : Vec F S8192x128 .bf16) (x3 : Vec F S512x256 .bf16) (x4 : Vec F S8192x128 .bf16) (x5 x6 : Vec F S1x16x8x512 .f32)

/-- The five inputs at their contents. -/
abbrev Ins : sProp 𝕄G :=
  iprop(owns (c : Thread nD τ) arg2 fullShare x2 ∗ owns (c : Thread nD τ) arg3 fullShare x3 ∗ owns (c : Thread nD τ) arg4 fullShare x4
    ∗ owns (c : Thread nD τ) arg5 fullShare x5 ∗ owns (c : Thread nD τ) arg6 fullShare x6)

set_option maxHeartbeats 2000000 in
/-- The body at a head's first key block. -/
def runA (hc : first i) :
    Σ' (L7 : List (View.Piece (Elt F) S1x16x128x512 .f32)), { L8 : List (View.Piece (Elt F) S512x256 .bf16) //
      ∀ (E : Set ℕ) (K : PUnit → sProp 𝕄G),
        iprop(Ins c arg2 arg3 arg4 arg5 arg6 x2 x3 x4 x5 x6 ∗ (∃ d, owns (c : Thread nD τ) arg7 fullShare d) ∗ (∃ d, owns (c : Thread nD τ) arg8 fullShare d)
            ∗ (iprop(Ins c arg2 arg3 arg4 arg5 arg6 x2 x3 x4 x5 x6
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)) -∗ K ⟨⟩))
          ⊢ wp frame (wpE (defs₀ (F := F)) Variants.none c none) E (cc0_attn_bwd i arg2 harg2 arg3 harg3 arg4 harg4 arg5 harg5 arg6 harg6 arg7 harg7 arg8 harg8) K } := by
  refine ⟨?_, ?_, fun E K => ?run⟩
  case run =>
    simp only [cc0_attn_bwd_eq_skeleton]; unfold cc0_attn_bwd_skel
    simp only [k0_part11_eq_skeleton, k0_part12_eq_skeleton, k0_part13_eq_skeleton]
    unfold Ins owns
    iintro ⟨⟨⟨%f2, %hf2, H2⟩, ⟨%f3, %hf3, H3⟩, ⟨%f4, %hf4, H4⟩, ⟨%f5, %hf5, H5⟩, ⟨%f6, %hf6, H6⟩⟩, ⟨%d7, %f7, -, H7⟩, ⟨%d8, %f8, -, H8⟩, Hk⟩
    obtain rfl := harg2.eq_unread hf2; obtain rfl := harg3.eq_unread hf3; obtain rfl := harg4.eq_unread hf4
    obtain rfl := harg5.eq_unread hf5; obtain rfl := harg6.eq_unread hf6
    sl_exec (disch := first | sl_exact hc)
    sl_step
    iapply Hk
    isplitl [H2 H3 H4 H5 H6]
    · isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      iexists _; isplitr; · ipureintro; exact harg6.read_unread _
      iexact H6
    isplitl [H7]; · iexists _; iexact H7
    iexists _; iexact H8

set_option maxHeartbeats 2000000 in
/-- The body at every other key block, over the query gradient the blocks before it left. -/
def runB (hc : ¬first i) (x7 : Vec F S1x16x128x512 .f32) :
    Σ' (L7 : List (View.Piece (Elt F) S1x16x128x512 .f32)), { L8 : List (View.Piece (Elt F) S512x256 .bf16) //
      ∀ (E : Set ℕ) (K : PUnit → sProp 𝕄G),
        iprop(Ins c arg2 arg3 arg4 arg5 arg6 x2 x3 x4 x5 x6 ∗ owns (c : Thread nD τ) arg7 fullShare x7 ∗ (∃ d, owns (c : Thread nD τ) arg8 fullShare d)
            ∗ (iprop(Ins c arg2 arg3 arg4 arg5 arg6 x2 x3 x4 x5 x6
                ∗ (arg7.view.loc (c : Thread nD τ) ↦[arg7.view.set]{fullShare} arg7.view.writes (Elt F) (harg7.unread x7) L7)
                ∗ (∃ f, arg8.view.loc (c : Thread nD τ) ↦[arg8.view.set]{fullShare} arg8.view.writes (Elt F) f L8)) -∗ K ⟨⟩))
          ⊢ wp frame (wpE (defs₀ (F := F)) Variants.none c none) E (cc0_attn_bwd i arg2 harg2 arg3 harg3 arg4 harg4 arg5 harg5 arg6 harg6 arg7 harg7 arg8 harg8) K } := by
  refine ⟨?_, ?_, fun E K => ?run⟩
  case run =>
    simp only [cc0_attn_bwd_eq_skeleton]; unfold cc0_attn_bwd_skel
    simp only [k0_part11_eq_skeleton, k0_part12_eq_skeleton, k0_part13_eq_skeleton]
    unfold Ins owns
    iintro ⟨⟨⟨%f2, %hf2, H2⟩, ⟨%f3, %hf3, H3⟩, ⟨%f4, %hf4, H4⟩, ⟨%f5, %hf5, H5⟩, ⟨%f6, %hf6, H6⟩⟩, ⟨%f7, %hf7, H7⟩, ⟨%d8, %f8, -, H8⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    sl_exec (disch := first | sl_exact hc)
    sl_step
    iapply Hk
    isplitl [H2 H3 H4 H5 H6]
    · isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      iexists _; isplitr; · ipureintro; exact harg6.read_unread _
      iexact H6
    isplitl [H7]; · iexact H7
    iexists _; iexact H8

end Cert.AttnBwdIdeal.Own

end
-- ==== Proof.AttnFrame.lean ====
/-
  The attention gradient's frame: what its outputs hold point by point, the body's obligation, the run and the frame.
-/
module

public import proofs.«01_k».proof.Proof.AttnRun
public import Idealize.ShloMosaic.Lib.Claim
public import Idealize.ShloMosaic.Lib.Ring

@[expose] public section

set_option maxRecDepth 16384

noncomputable section

namespace Cert.AttnBwdIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnBwdIdeal Cert.AttnBwdIdeal.Gen

variable {F : FTy → Type} [FloatOps F] [Named F]

open Idealize.ShloMosaic.Pipeline (Dat Cfg Window BodyObligation cellOf)

local notation "𝕄G" => MT nD τ sig Unit (Elt F) ℕ (UR sig nD τ) ℕ

section Outs

variable (c : Dev nD) (i : grid0.Coords)
  (arg2 : Memref sig .tc .vmem S8192x128 .bf16) (harg2 : arg2.IsWhole) (arg3 : Memref sig .tc .vmem S512x256 .bf16) (harg3 : arg3.IsWhole)
  (arg4 : Memref sig .tc .vmem S8192x128 .bf16) (harg4 : arg4.IsWhole) (arg5 : Memref sig .tc .vmem S1x16x8x512 .f32) (harg5 : arg5.IsWhole)
  (arg6 : Memref sig .tc .vmem S1x16x8x512 .f32) (harg6 : arg6.IsWhole) (arg7 : Memref sig .tc .vmem S1x16x128x512 .f32) (harg7 : arg7.IsWhole)
  (arg8 : Memref sig .tc .vmem S512x256 .bf16) (harg8 : arg8.IsWhole)
  (x2 : Vec F S8192x128 .bf16) (x3 : Vec F S512x256 .bf16) (x4 : Vec F S8192x128 .bf16) (x5 x6 : Vec F S1x16x8x512 .f32)

/-- At a first key block the query gradient is stored whole. -/
theorem cover7A (hc : first i) (y : S1x16x128x512.Idx) : ∃ pc ∈ (runA c i arg2 harg2 arg3 harg3 arg4 harg4 arg5 harg5 arg6 harg6 arg7 harg7 arg8 harg8 x2 x3 x4 x5 x6 hc).1, y ∈ pc.1.set := by
  refine View.cover_of_wholeMem _ ?_ y
  unfold runA
  exact View.Piece.wholeMem_append_right (View.Piece.wholeMem_append_right (View.Piece.wholeMem_append_right
    (View.Piece.wholeMem_cons (View.Piece.wholeMem_here (by sl_kernel_rfl)))))

/-- The key and value gradients are stored whole, at a first key block. -/
theorem cover8A (hc : first i) (y : S512x256.Idx) : ∃ pc ∈ (runA c i arg2 harg2 arg3 harg3 arg4 harg4 arg5 harg5 arg6 harg6 arg7 harg7 arg8 harg8 x2 x3 x4 x5 x6 hc).2.1, y ∈ pc.1.set :=
  View.cover_of_tiledL (runA c i arg2 harg2 arg3 harg3 arg4 harg4 arg5 harg5 arg6 harg6 arg7 harg7 arg8 harg8 x2 x3 x4 x5 x6 hc).2.1 S512x128.size (by sl_kernel_rfl) y

/-- The query gradient after a first key block. -/
def out7A (hc : first i) : Vec F S1x16x128x512 .f32 :=
  arg7.view.read (Elt F) (arg7.view.writes (Elt F) arg7.view.junk (runA c i arg2 harg2 arg3 harg3 arg4 harg4 arg5 harg5 arg6 harg6 arg7 harg7 arg8 harg8 x2 x3 x4 x5 x6 hc).1)

/-- The key and value gradients of a first key block. -/
def out8A (hc : first i) : Vec F S512x256 .bf16 :=
  arg8.view.read (Elt F) (arg8.view.writes (Elt F) arg8.view.junk (runA c i arg2 harg2 arg3 harg3 arg4 harg4 arg5 harg5 arg6 harg6 arg7 harg7 arg8 harg8 x2 x3 x4 x5 x6 hc).2.1)

/-- The key and value gradients are stored whole, at any other key block. -/
theorem cover8B (hc : ¬first i) (x7 : Vec F S1x16x128x512 .f32) (y : S512x256.Idx) : ∃ pc ∈ (runB c i arg2 harg2 arg3 harg3 arg4 harg4 arg5 harg5 arg6 harg6 arg7 harg7 arg8 harg8 x2 x3 x4 x5 x6 hc x7).2.1, y ∈ pc.1.set :=
  View.cover_of_tiledL (runB c i arg2 harg2 arg3 harg3 arg4 harg4 arg5 harg5 arg6 harg6 arg7 harg7 arg8 harg8 x2 x3 x4 x5 x6 hc x7).2.1 S512x128.size (by sl_kernel_rfl) y

/-- The query gradient after any other key block. -/
def out7B (hc : ¬first i) (x7 : Vec F S1x16x128x512 .f32) : Vec F S1x16x128x512 .f32 :=
  arg7.view.read (Elt F) (arg7.view.writes (Elt F) (harg7.unread x7) (runB c i arg2 harg2 arg3 harg3 arg4 harg4 arg5 harg5 arg6 harg6 arg7 harg7 arg8 harg8 x2 x3 x4 x5 x6 hc x7).1)

/-- The key and value gradients of any other key block. -/
def out8B (hc : ¬first i) (x7 : Vec F S1x16x128x512 .f32) : Vec F S512x256 .bf16 :=
  arg8.view.read (Elt F) (arg8.view.writes (Elt F) arg8.view.junk (runB c i arg2 harg2 arg3 harg3 arg4 harg4 arg5 harg5 arg6 harg6 arg7 harg7 arg8 harg8 x2 x3 x4 x5 x6 hc x7).2.1)

end Outs

variable (m : (ℓ : Loc nD τ sig) → Buf (Elt F) ℓ) (ρ : Dev nD → PrngReg)

/-- Window 0's staging memref at a point, and that it is whole. -/
abbrev stg0 (t : Fin cfg0.N) : Memref sig .tc .vmem S8192x128 .bf16 := win0_0.stage (cfg0.slots t 0)
abbrev whl0 (t : Fin cfg0.N) : (stg0 t).IsWhole := hstage0_0 ((cfg0.slots t 0).cast nbuf0_0)
/-- Window 1's staging memref at a point, and that it is whole. -/
abbrev stg1 (t : Fin cfg0.N) : Memref sig .tc .vmem S512x256 .bf16 := win0_1.stage (cfg0.slots t 1)
abbrev whl1 (t : Fin cfg0.N) : (stg1 t).IsWhole := hstage0_1 ((cfg0.slots t 1).cast nbuf0_1)
/-- Window 2's staging memref at a point, and that it is whole. -/
abbrev stg2 (t : Fin cfg0.N) : Memref sig .tc .vmem S8192x128 .bf16 := win0_2.stage (cfg0.slots t 2)
abbrev whl2 (t : Fin cfg0.N) : (stg2 t).IsWhole := hstage0_2 ((cfg0.slots t 2).cast nbuf0_2)
/-- Window 3's staging memref at a point, and that it is whole. -/
abbrev stg3 (t : Fin cfg0.N) : Memref sig .tc .vmem S1x16x8x512 .f32 := win0_3.stage (cfg0.slots t 3)
abbrev whl3 (t : Fin cfg0.N) : (stg3 t).IsWhole := hstage0_3 ((cfg0.slots t 3).cast nbuf0_3)
/-- Window 4's staging memref at a point, and that it is whole. -/
abbrev stg4 (t : Fin cfg0.N) : Memref sig .tc .vmem S1x16x8x512 .f32 := win0_4.stage (cfg0.slots t 4)
abbrev whl4 (t : Fin cfg0.N) : (stg4 t).IsWhole := hstage0_4 ((cfg0.slots t 4).cast nbuf0_4)
/-- Window 5's staging memref at a point, and that it is whole. -/
abbrev stg5 (t : Fin cfg0.N) : Memref sig .tc .vmem S1x16x128x512 .f32 := win0_5.stage (cfg0.slots t 5)
abbrev whl5 (t : Fin cfg0.N) : (stg5 t).IsWhole := hstage0_5 ((cfg0.slots t 5).cast nbuf0_5)
/-- Window 6's staging memref at a point, and that it is whole. -/
abbrev stg6 (t : Fin cfg0.N) : Memref sig .tc .vmem S512x256 .bf16 := win0_6.stage (cfg0.slots t 6)
abbrev whl6 (t : Fin cfg0.N) : (stg6 t).IsWhole := hstage0_6 ((cfg0.slots t 6).cast nbuf0_6)

/-- What the outputs hold after point `n`: a first key block starts anew, any other goes on from the point before. -/
def outsAt (c : Dev nD) : (n : ℕ) → n < cfg0.N → Vec F S1x16x128x512 .f32 × Vec F S512x256 .bf16
  | 0, hn => let h0 : (0 : ℕ) % 16 = 0 := rfl
    (out7A c (grid0.coords ⟨0, hn⟩) (stg0 ⟨0, hn⟩) (whl0 ⟨0, hn⟩) (stg1 ⟨0, hn⟩) (whl1 ⟨0, hn⟩) (stg2 ⟨0, hn⟩) (whl2 ⟨0, hn⟩) (stg3 ⟨0, hn⟩) (whl3 ⟨0, hn⟩) (stg4 ⟨0, hn⟩) (whl4 ⟨0, hn⟩) (stg5 ⟨0, hn⟩) (whl5 ⟨0, hn⟩) (stg6 ⟨0, hn⟩) (whl6 ⟨0, hn⟩) (iblk m c 0 ⟨0, hn⟩) (iblk m c 1 ⟨0, hn⟩) (iblk m c 2 ⟨0, hn⟩) (iblk m c 3 ⟨0, hn⟩) (iblk m c 4 ⟨0, hn⟩) ((first_iff ⟨0, hn⟩).mpr h0), out8A c (grid0.coords ⟨0, hn⟩) (stg0 ⟨0, hn⟩) (whl0 ⟨0, hn⟩) (stg1 ⟨0, hn⟩) (whl1 ⟨0, hn⟩) (stg2 ⟨0, hn⟩) (whl2 ⟨0, hn⟩) (stg3 ⟨0, hn⟩) (whl3 ⟨0, hn⟩) (stg4 ⟨0, hn⟩) (whl4 ⟨0, hn⟩) (stg5 ⟨0, hn⟩) (whl5 ⟨0, hn⟩) (stg6 ⟨0, hn⟩) (whl6 ⟨0, hn⟩) (iblk m c 0 ⟨0, hn⟩) (iblk m c 1 ⟨0, hn⟩) (iblk m c 2 ⟨0, hn⟩) (iblk m c 3 ⟨0, hn⟩) (iblk m c 4 ⟨0, hn⟩) ((first_iff ⟨0, hn⟩).mpr h0))
  | n + 1, hn =>
    if h0 : (n + 1) % 16 = 0 then
      (out7A c (grid0.coords ⟨n + 1, hn⟩) (stg0 ⟨n + 1, hn⟩) (whl0 ⟨n + 1, hn⟩) (stg1 ⟨n + 1, hn⟩) (whl1 ⟨n + 1, hn⟩) (stg2 ⟨n + 1, hn⟩) (whl2 ⟨n + 1, hn⟩) (stg3 ⟨n + 1, hn⟩) (whl3 ⟨n + 1, hn⟩) (stg4 ⟨n + 1, hn⟩) (whl4 ⟨n + 1, hn⟩) (stg5 ⟨n + 1, hn⟩) (whl5 ⟨n + 1, hn⟩) (stg6 ⟨n + 1, hn⟩) (whl6 ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) ((first_iff ⟨n + 1, hn⟩).mpr h0), out8A c (grid0.coords ⟨n + 1, hn⟩) (stg0 ⟨n + 1, hn⟩) (whl0 ⟨n + 1, hn⟩) (stg1 ⟨n + 1, hn⟩) (whl1 ⟨n + 1, hn⟩) (stg2 ⟨n + 1, hn⟩) (whl2 ⟨n + 1, hn⟩) (stg3 ⟨n + 1, hn⟩) (whl3 ⟨n + 1, hn⟩) (stg4 ⟨n + 1, hn⟩) (whl4 ⟨n + 1, hn⟩) (stg5 ⟨n + 1, hn⟩) (whl5 ⟨n + 1, hn⟩) (stg6 ⟨n + 1, hn⟩) (whl6 ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) ((first_iff ⟨n + 1, hn⟩).mpr h0))
    else
      (out7B c (grid0.coords ⟨n + 1, hn⟩) (stg0 ⟨n + 1, hn⟩) (whl0 ⟨n + 1, hn⟩) (stg1 ⟨n + 1, hn⟩) (whl1 ⟨n + 1, hn⟩) (stg2 ⟨n + 1, hn⟩) (whl2 ⟨n + 1, hn⟩) (stg3 ⟨n + 1, hn⟩) (whl3 ⟨n + 1, hn⟩) (stg4 ⟨n + 1, hn⟩) (whl4 ⟨n + 1, hn⟩) (stg5 ⟨n + 1, hn⟩) (whl5 ⟨n + 1, hn⟩) (stg6 ⟨n + 1, hn⟩) (whl6 ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (fun h => h0 ((first_iff ⟨n + 1, hn⟩).mp h)) (outsAt c n (Nat.lt_of_succ_lt hn)).1, out8B c (grid0.coords ⟨n + 1, hn⟩) (stg0 ⟨n + 1, hn⟩) (whl0 ⟨n + 1, hn⟩) (stg1 ⟨n + 1, hn⟩) (whl1 ⟨n + 1, hn⟩) (stg2 ⟨n + 1, hn⟩) (whl2 ⟨n + 1, hn⟩) (stg3 ⟨n + 1, hn⟩) (whl3 ⟨n + 1, hn⟩) (stg4 ⟨n + 1, hn⟩) (whl4 ⟨n + 1, hn⟩) (stg5 ⟨n + 1, hn⟩) (whl5 ⟨n + 1, hn⟩) (stg6 ⟨n + 1, hn⟩) (whl6 ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (fun h => h0 ((first_iff ⟨n + 1, hn⟩).mp h)) (outsAt c n (Nat.lt_of_succ_lt hn)).1)

/-- At a first key block. -/
theorem outsAt_A (c : Dev nD) (t : Fin cfg0.N) (h0 : t.val % 16 = 0) :
    outsAt m c t.val t.isLt = (out7A c (grid0.coords t) (stg0 t) (whl0 t) (stg1 t) (whl1 t) (stg2 t) (whl2 t) (stg3 t) (whl3 t) (stg4 t) (whl4 t) (stg5 t) (whl5 t) (stg6 t) (whl6 t) (iblk m c 0 t) (iblk m c 1 t) (iblk m c 2 t) (iblk m c 3 t) (iblk m c 4 t) ((first_iff t).mpr h0), out8A c (grid0.coords t) (stg0 t) (whl0 t) (stg1 t) (whl1 t) (stg2 t) (whl2 t) (stg3 t) (whl3 t) (stg4 t) (whl4 t) (stg5 t) (whl5 t) (stg6 t) (whl6 t) (iblk m c 0 t) (iblk m c 1 t) (iblk m c 2 t) (iblk m c 3 t) (iblk m c 4 t) ((first_iff t).mpr h0)) := by
  obtain ⟨n, hn⟩ := t
  cases n with
  | zero => exact rfl
  | succ n => exact (dif_pos h0).trans rfl

/-- At any other, over what the point before left. -/
theorem outsAt_B (c : Dev nD) (t : Fin cfg0.N) (h0 : ¬t.val % 16 = 0) :
    outsAt m c t.val t.isLt = (out7B c (grid0.coords t) (stg0 t) (whl0 t) (stg1 t) (whl1 t) (stg2 t) (whl2 t) (stg3 t) (whl3 t) (stg4 t) (whl4 t) (stg5 t) (whl5 t) (stg6 t) (whl6 t) (iblk m c 0 t) (iblk m c 1 t) (iblk m c 2 t) (iblk m c 3 t) (iblk m c 4 t) (fun h => h0 ((first_iff t).mp h)) (outsAt m c (t.val - 1) (Nat.lt_of_le_of_lt (Nat.sub_le _ _) t.isLt)).1, out8B c (grid0.coords t) (stg0 t) (whl0 t) (stg1 t) (whl1 t) (stg2 t) (whl2 t) (stg3 t) (whl3 t) (stg4 t) (whl4 t) (stg5 t) (whl5 t) (stg6 t) (whl6 t) (iblk m c 0 t) (iblk m c 1 t) (iblk m c 2 t) (iblk m c 3 t) (iblk m c 4 t) (fun h => h0 ((first_iff t).mp h)) (outsAt m c (t.val - 1) (Nat.lt_of_le_of_lt (Nat.sub_le _ _) t.isLt)).1) := by
  obtain ⟨n, hn⟩ := t
  cases n with
  | zero => exact absurd (Nat.zero_mod _) h0
  | succ n => exact (dif_neg h0).trans rfl

/-- The pipeline's proof data: inputs at their blocks, outputs at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).1
    | ⟨6, _⟩ => (outsAt m c t.val t.isLt).2
  Φ _ := Pipeline.ΦA spec0 c
  q _ := fullShare
  owed _ := 0

/-- The arrays are what the region finds. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = (outsAt m c t.val t.isLt).1 := by dsimp only [dats]
theorem after_6 (c : Dev nD) (t : Fin cfg0.N) : (dats m 0 c).after 6 t = (outsAt m c t.val t.isLt).2 := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- The query gradient's buffer holds, past a first key block, what the point before left. -/
theorem before_5 (c : Dev nD) (t : Fin cfg0.N) (h0 : ¬t.val % 16 = 0) (d) :
    (dats m 0 c).before 5 t d = (outsAt m c (t.val - 1) (Nat.lt_of_le_of_lt (Nat.sub_le _ _) t.isLt)).1 := by
  have hN : t.val < 128 := lt_of_lt_of_eq t.isLt (show cfg0.N = 128 from N_0)
  rw [Dat.before_out_kept _ 5 rfl t (by omega) (Bool.eq_false_iff.mpr fun h => by have := (flush0_5 _).mp h; dsimp only at this; omega)
    (fun _ => rfl) (fun _ _ => rfl)]
  dsimp only [dats]

/-- What the body is called with at a point, -/
def bodyPre (c : Dev nD) (t : Fin cfg0.N) : sProp 𝕄G :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d)))

/-- and what it returns. -/
def bodyPost (c : Dev nD) (t : Fin cfg0.N) : sProp 𝕄G :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t))

set_option maxHeartbeats 2400000 in
/-- The body at any point, by its case's run. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  by_cases h0 : t.val % 16 = 0
  · rw [outsAt_A m c t h0]
    unfold out7A out8A; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runA c (grid0.coords t) _ _ _ _ _ _ _ _ _ _ _ _ _ _ (iblk m c 0 t) (iblk m c 1 t) (iblk m c 2 t) (iblk m c 3 t) (iblk m c 4 t) ((first_iff t).mpr h0)).2.2 Set.univ _)
    unfold Ins
    isplitl [H0 H1 H2 H3 H4]
    · isplitl [H0]; · iexact H0
      isplitl [H1]; · iexact H1
      isplitl [H2]; · iexact H2
      isplitl [H3]; · iexact H3
      iexact H4
    isplitl [H5]; · iexists _; iexact H5
    isplitl [H6]; · iexists _; iexact H6
    iintro ⟨⟨H0, H1, H2, H3, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover7A c _ _ _ _ _ _ _ _ _ _ _ _ _ _ _ _ _ _ _ _ _)
    unfold owns; iexists _; isplitr
    swap; · iexact H6
    ipureintro; exact View.read_writes_of_cover _ _ _ _ _ (cover8A c _ _ _ _ _ _ _ _ _ _ _ _ _ _ _ _ _ _ _ _ _)
  · rw [outsAt_B m c t h0]
    simp only [before_5 m c t h0]
    unfold out7B out8B; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runB c (grid0.coords t) _ _ _ _ _ _ _ _ _ _ _ _ _ _ (iblk m c 0 t) (iblk m c 1 t) (iblk m c 2 t) (iblk m c 3 t) (iblk m c 4 t) (fun h => h0 ((first_iff t).mp h)) _).2.2 Set.univ _)
    unfold Ins
    isplitl [H0 H1 H2 H3 H4]
    · isplitl [H0]; · iexact H0
      isplitl [H1]; · iexact H1
      isplitl [H2]; · iexact H2
      isplitl [H3]; · iexact H3
      iexact H4
    isplitl [H5]; · iexact H5
    isplitl [H6]; · iexists _; iexact H6
    iintro ⟨⟨H0, H1, H2, H3, H4⟩, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; rfl
    unfold owns; iexists _; isplitr
    swap; · iexact H6
    ipureintro; exact View.read_writes_of_cover _ _ _ _ _ (cover8B c _ _ _ _ _ _ _ _ _ _ _ _ _ _ _ _ _ _ _ _ _ _)

/-- The body table's row at a point's slots is the body there. -/
theorem row (t : Fin cfg0.N) : defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

set_option backward.isDefEq.respectTransparency.types false in
/-- The launch. -/
theorem run_main_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every execution ends with the pipeline's arrays at what its proof data says. -/
theorem run_main : θ_run defs (onTc (τ := τ) (main (F := F))) (s₀ m ρ) (Pipeline.FramePost cfgs (dats m) 0 (V m)) :=
  (θ_run defs _ _).mono (fun _ h => h.1) (run_main_quiescent m ρ)

/-- The frame: every execution ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.AttnBwdIdeal.Own

end
-- ==== Proof.AttnVal.lean ====
/-
  What the loops of the attention gradient compute: each trip goes on over the query blocks past the diagonal, one after
  another, and so do both loops together.
-/
module

public import proofs.«01_k».proof.Proof.AttnFrame
public import Idealize.ShloMosaic.Lib.VecWindow

@[expose] public section

set_option maxRecDepth 16384

noncomputable section

namespace Cert.AttnBwdIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnBwdIdeal Cert.AttnBwdIdeal.Gen

variable {F : FTy → Type} [FloatOps F] [Named F]

/-! ## Query blocks -/

/-- The query block's 512 rows. -/
def rows (x : Vec F S8192x128 .bf16) (s : ℕ) : Vec F S512x128 .bf16 :=
  VecWindow.window x ![(s % 16) * 512, 0] S512x128.size (fun a => by
    have := Nat.mod_lt s (show 16 > 0 by decide)
    match a with
    | 0 => show (s % 16) * 512 + 512 ≤ 8192; omega
    | 1 => show 0 + 128 ≤ 128; omega)

theorem inb4 (s : ℕ) {n1 n2 : ℕ} (a : Fin 4) (m : Fin 4 → ℕ) (M : Fin 4 → ℕ) (h1 : m 1 = 1) (h0 : m 0 ≤ M 0) (hM : M 1 = 16)
    (h2 : m 2 ≤ M 2) (h3 : m 3 ≤ M 3) : (![0, s % 16, 0, 0] : Fin 4 → ℕ) a + m a ≤ M a := by
  have := Nat.mod_lt s (show 16 > 0 by decide)
  match a with
  | 0 => show 0 + m 0 ≤ M 0; omega
  | 1 => show s % 16 + m 1 ≤ M 1; omega
  | 2 => show 0 + m 2 ≤ M 2; omega
  | 3 => show 0 + m 3 ≤ M 3; omega

/-- The query block's row of a per-row quantity. -/
def line (x : Vec F S1x16x8x512 .f32) (s : ℕ) : Vec F S1x1x1x512 .f32 :=
  VecWindow.window x ![0, s % 16, 0, 0] S1x1x1x512.size
    (fun a => inb4 (n1 := 0) (n2 := 0) s a S1x1x1x512.size S1x16x8x512.size rfl (by decide) rfl (by decide) (by decide))

/-- The query block's slot of the query gradient. -/
def slot (g : Vec F S1x16x128x512 .f32) (s : ℕ) : Vec F S1x1x128x512 .f32 :=
  VecWindow.window g ![0, s % 16, 0, 0] S1x1x128x512.size
    (fun a => inb4 (n1 := 0) (n2 := 0) s a S1x1x128x512.size S1x16x128x512.size rfl (by decide) rfl (by decide) (by decide))

section Reads
variable {sig' : RefSig} {κ' : Kind} {sp : Space}

theorem read_rows (v : View sig' κ' sp S8192x128 .bf16) (f : v.ty.Contents (Elt F)) {off : Fin 2 → ℕ} (s : ℕ) (inb) (h : off = ![s * 512, 0]) (hs : s < 16) :
    v.readAt (Elt F) (Rect.unit (s := S8192x128) off S512x128.size inb).toLoadRect f = rows (v.read (Elt F) f) s :=
  View.readAt_unit (off' := ![(s % 16) * 512, 0]) v f inb (h.trans (by rw [Nat.mod_eq_of_lt hs])) _

theorem read_row (v : View sig' κ' sp S1x16x8x512 .f32) (f : v.ty.Contents (Elt F)) {off : Fin 4 → ℕ} (s : ℕ) (inb) (h : off = ![0, s, 0, 0]) (hs : s < 16) :
    v.readAt (Elt F) (Rect.unit (s := S1x16x8x512) off S1x1x1x512.size inb).toLoadRect f = line (v.read (Elt F) f) s :=
  View.readAt_unit (off' := ![0, s % 16, 0, 0]) v f inb (h.trans (by rw [Nat.mod_eq_of_lt hs])) _

theorem read_slot (v : View sig' κ' sp S1x16x128x512 .f32) (f : v.ty.Contents (Elt F)) {off : Fin 4 → ℕ} (s : ℕ) (inb) (h : off = ![0, s, 0, 0]) (hs : s < 16) :
    v.readAt (Elt F) (Rect.unit (s := S1x16x128x512) off S1x1x128x512.size inb).toLoadRect f = slot (v.read (Elt F) f) s :=
  View.readAt_unit (off' := ![0, s % 16, 0, 0]) v f inb (h.trans (by rw [Nat.mod_eq_of_lt hs])) _

end Reads

/-! ## One query block past the diagonal -/

section Step
variable (v4 v6 : FVec F S512x128 .bf16) (v9 : FVec F S128x512 .bf16) (x2 x4 : Vec F S8192x128 .bf16) (x5 x6 : Vec F S1x16x8x512 .f32)

/-- What the query block adds to the key block's gradients, -/
def stepAcc (s : ℕ) (acc : Acc F) : Acc F :=
  (k0_pay65 v4 v6 acc.1 (rows x2 s) (rows x4 s) (line x5 s) (line x6 s), k0_pay64 v4 acc.2 (rows x2 s) (rows x4 s) (line x5 s))

/-- and the key block to the query block's. -/
def stepG (s : ℕ) (g : Vec F S1x16x128x512 .f32) : Vec F S1x16x128x512 .f32 :=
  VecWindow.put g ![0, s % 16, 0, 0] S1x1x128x512.size
    (k0_pay94 (k0_pay66 v4 v6 v9 (rows x2 s) (rows x4 s) (line x5 s) (line x6 s) (slot g s)))

/-- `n` query blocks from block `s`. -/
def stepsAcc (s : ℕ) : ℕ → Acc F → Acc F
  | 0, acc => acc
  | n + 1, acc => stepAcc v4 v6 x2 x4 x5 x6 (s + n) (stepsAcc s n acc)

/-- Likewise for the query gradient. -/
def stepsG (s : ℕ) : ℕ → Vec F S1x16x128x512 .f32 → Vec F S1x16x128x512 .f32
  | 0, g => g
  | n + 1, g => stepG v4 v6 v9 x2 x4 x5 x6 (s + n) (stepsG s n g)

theorem stepsAcc_add (s n : ℕ) : ∀ (k : ℕ) (acc : Acc F), stepsAcc v4 v6 x2 x4 x5 x6 s (n + k) acc
    = stepsAcc v4 v6 x2 x4 x5 x6 (s + n) k (stepsAcc v4 v6 x2 x4 x5 x6 s n acc)
  | 0, acc => rfl
  | k + 1, acc => by
    show stepAcc v4 v6 x2 x4 x5 x6 (s + (n + k)) (stepsAcc v4 v6 x2 x4 x5 x6 s (n + k) acc) = _
    rw [stepsAcc_add s n k acc, ← Nat.add_assoc]; rfl

theorem stepsG_add (s n : ℕ) : ∀ (k : ℕ) (g : Vec F S1x16x128x512 .f32), stepsG v4 v6 v9 x2 x4 x5 x6 s (n + k) g
    = stepsG v4 v6 v9 x2 x4 x5 x6 (s + n) k (stepsG v4 v6 v9 x2 x4 x5 x6 s n g)
  | 0, g => rfl
  | k + 1, g => by
    show stepG v4 v6 v9 x2 x4 x5 x6 (s + (n + k)) (stepsG v4 v6 v9 x2 x4 x5 x6 s (n + k) g) = _
    rw [stepsG_add s n k g, ← Nat.add_assoc]; rfl

end Step

/-! ## The trips -/

variable (𝒱 : Variants) (c : Dev nD) (bd : Option 𝒱.V) (i : grid0.Coords)
  (arg2 : Memref sig .tc .vmem S8192x128 .bf16) (harg2 : arg2.IsWhole) (arg3 : Memref sig .tc .vmem S512x256 .bf16) (harg3 : arg3.IsWhole)
  (arg4 : Memref sig .tc .vmem S8192x128 .bf16) (harg4 : arg4.IsWhole) (arg5 : Memref sig .tc .vmem S1x16x8x512 .f32) (harg5 : arg5.IsWhole)
  (arg6 : Memref sig .tc .vmem S1x16x8x512 .f32) (harg6 : arg6.IsWhole) (arg7 : Memref sig .tc .vmem S1x16x128x512 .f32) (harg7 : arg7.IsWhole)
  (arg8 : Memref sig .tc .vmem S512x256 .bf16) (harg8 : arg8.IsWhole) (arg1 : BitVec 32)
  (v4 : FVec F S512x128 .bf16) (v6 : FVec F S512x128 .bf16) (v9 : FVec F S128x512 .bf16) (v48 : FVec F S512x128 .f32) (v51 : FVec F S512x128 .f32)
  (v62 : BitVec 32) (v63 : BitVec 32) (v77 : BitVec 1) (v106 : BitVec 32)
  (X2 : BufTy.Contents (Elt F) arg2.view.ty) (X4 : BufTy.Contents (Elt F) arg4.view.ty)
  (X5 : BufTy.Contents (Elt F) arg5.view.ty) (X6 : BufTy.Contents (Elt F) arg6.view.ty)

section One
variable (k : Fin (k0_t1_loop i).trips) (u : Fin 4)

/-- A trip's four loads of query block `u`, -/
abbrev q1 : Vec F S512x128 .bf16 := arg2.view.readAt (Elt F) (Rect.unit (s := S8192x128) (k0_off4 i k (BitVec.ofNat 32 u.val)) S512x128.size (k0_off4_inb i k u)).toLoadRect X2
abbrev d1 : Vec F S512x128 .bf16 := arg4.view.readAt (Elt F) (Rect.unit (s := S8192x128) (k0_off4 i k (BitVec.ofNat 32 u.val)) S512x128.size (k0_off4_inb i k u)).toLoadRect X4
abbrev l1 : Vec F S1x1x1x512 .f32 := arg5.view.readAt (Elt F) (Rect.unit (s := S1x16x8x512) (k0_off5 i k (BitVec.ofNat 32 u.val)) S1x1x1x512.size (k0_off5_inb i k u)).toLoadRect X5
abbrev e1 : Vec F S1x1x1x512 .f32 := arg6.view.readAt (Elt F) (Rect.unit (s := S1x16x8x512) (k0_off5 i k (BitVec.ofNat 32 u.val)) S1x1x1x512.size (k0_off5_inb i k u)).toLoadRect X6

/-- what it makes of the carried gradients, -/
def acc1 (acc : Acc F) : Acc F :=
  (k0_pay65 v4 v6 acc.1 (q1 i arg2 X2 k u) (d1 i arg4 X4 k u) (l1 i arg5 X5 k u) (e1 i arg6 X6 k u),
    k0_pay64 v4 acc.2 (q1 i arg2 X2 k u) (d1 i arg4 X4 k u) (l1 i arg5 X5 k u))

/-- and the piece it writes. -/
def pc1 (f : BufTy.Contents (Elt F) arg7.view.ty) (L : List (View.Piece (Elt F) S1x16x128x512 .f32)) : View.Piece (Elt F) S1x16x128x512 .f32 :=
  ⟨Rect.unit (s := S1x16x128x512) (k0_off6 i k (BitVec.ofNat 32 u.val)) S1x1x128x512.size (k0_off6_inb i k u),
    k0_pay94 (k0_pay66 v4 v6 v9 (q1 i arg2 X2 k u) (d1 i arg4 X4 k u) (l1 i arg5 X5 k u) (e1 i arg6 X6 k u)
      (arg7.view.readAt (Elt F) (Rect.unit (s := S1x16x128x512) (k0_off6 i k (BitVec.ofNat 32 u.val)) S1x1x128x512.size (k0_off6_inb i k u)).toLoadRect
        (arg7.view.writes (Elt F) f L)))⟩

/-- The piece on top of earlier ones. -/
def on1 (f : BufTy.Contents (Elt F) arg7.view.ty) (L : List (View.Piece (Elt F) S1x16x128x512 .f32)) : List (View.Piece (Elt F) S1x16x128x512 .f32) :=
  pc1 i arg2 arg4 arg5 arg6 arg7 v4 v6 v9 X2 X4 X5 X6 k u f L :: L

theorem block_lt : (i 1).val + 1 + 4 * k.val + u.val < 16 := by
  have h := lt_of_lt_of_eq k.isLt (trips1 i)
  have := u.isLt
  omega

theorem acc1_eq (acc : Acc F) : acc1 i arg2 arg4 arg5 arg6 v4 v6 X2 X4 X5 X6 k u acc
    = stepAcc v4 v6 (arg2.view.read (Elt F) X2) (arg4.view.read (Elt F) X4) (arg5.view.read (Elt F) X5) (arg6.view.read (Elt F) X6)
        ((i 1).val + 1 + 4 * k.val + u.val) acc := by
  unfold acc1 stepAcc q1 d1 l1 e1
  rw [read_rows arg2.view X2 _ _ (off4 i k u) (block_lt i k u), read_rows arg4.view X4 _ _ (off4 i k u) (block_lt i k u),
    read_row arg5.view X5 _ _ (off5 i k u) (block_lt i k u), read_row arg6.view X6 _ _ (off5 i k u) (block_lt i k u)]

theorem on1_eq (f : BufTy.Contents (Elt F) arg7.view.ty) (L : List (View.Piece (Elt F) S1x16x128x512 .f32)) :
    arg7.view.read (Elt F) (arg7.view.writes (Elt F) f (on1 i arg2 arg4 arg5 arg6 arg7 v4 v6 v9 X2 X4 X5 X6 k u f L))
    = stepG v4 v6 v9 (arg2.view.read (Elt F) X2) (arg4.view.read (Elt F) X4) (arg5.view.read (Elt F) X5) (arg6.view.read (Elt F) X6)
        ((i 1).val + 1 + 4 * k.val + u.val) (arg7.view.read (Elt F) (arg7.view.writes (Elt F) f L)) := by
  unfold on1 pc1 stepG q1 d1 l1 e1
  rw [read_rows arg2.view X2 _ _ (off4 i k u) (block_lt i k u), read_rows arg4.view X4 _ _ (off4 i k u) (block_lt i k u),
    read_row arg5.view X5 _ _ (off5 i k u) (block_lt i k u), read_row arg6.view X6 _ _ (off5 i k u) (block_lt i k u),
    read_slot arg7.view _ _ _ (off6 i k u) (block_lt i k u), Nat.mod_eq_of_lt (block_lt i k u)]
  exact View.read_writes_cons_put arg7.view f _ _ L (off6 i k u)

end One

/-- An unrolled trip's carried gradients. -/
theorem trip1_acc (k : Fin (k0_t1_loop i).trips) (acc : Acc F) (f : BufTy.Contents (Elt F) arg7.view.ty) :
    (trip1 (F := F) 𝒱 c bd i arg2 harg2 arg3 harg3 arg4 harg4 arg5 harg5 arg6 harg6 arg7 harg7 arg8 harg8 arg1 v4 v6 v9 v48 v51 v62 v63 v77 X2 X4 X5 X6 k).1 acc f
      = stepsAcc v4 v6 (arg2.view.read (Elt F) X2) (arg4.view.read (Elt F) X4) (arg5.view.read (Elt F) X5) (arg6.view.read (Elt F) X6)
          ((i 1).val + 1 + 4 * k.val) 4 acc := by
  have h : (trip1 (F := F) 𝒱 c bd i arg2 harg2 arg3 harg3 arg4 harg4 arg5 harg5 arg6 harg6 arg7 harg7 arg8 harg8 arg1 v4 v6 v9 v48 v51 v62 v63 v77 X2 X4 X5 X6 k).1 acc f
      = acc1 i arg2 arg4 arg5 arg6 v4 v6 X2 X4 X5 X6 k 3 (acc1 i arg2 arg4 arg5 arg6 v4 v6 X2 X4 X5 X6 k 2 (acc1 i arg2 arg4 arg5 arg6 v4 v6 X2 X4 X5 X6 k 1 (acc1 i arg2 arg4 arg5 arg6 v4 v6 X2 X4 X5 X6 k 0 acc))) := by
    unfold trip1; rfl
  rw [h]
  simp only [acc1_eq]
  rfl

/-- An unrolled trip's query gradient. -/
theorem trip1_read (k : Fin (k0_t1_loop i).trips) (acc : Acc F) (f : BufTy.Contents (Elt F) arg7.view.ty) :
    arg7.view.read (Elt F) (arg7.view.writes (Elt F) f ((trip1 (F := F) 𝒱 c bd i arg2 harg2 arg3 harg3 arg4 harg4 arg5 harg5 arg6 harg6 arg7 harg7 arg8 harg8 arg1 v4 v6 v9 v48 v51 v62 v63 v77 X2 X4 X5 X6 k).2.1 acc f))
      = stepsG v4 v6 v9 (arg2.view.read (Elt F) X2) (arg4.view.read (Elt F) X4) (arg5.view.read (Elt F) X5) (arg6.view.read (Elt F) X6)
          ((i 1).val + 1 + 4 * k.val) 4 (arg7.view.read (Elt F) f) := by
  have h : (trip1 (F := F) 𝒱 c bd i arg2 harg2 arg3 harg3 arg4 harg4 arg5 harg5 arg6 harg6 arg7 harg7 arg8 harg8 arg1 v4 v6 v9 v48 v51 v62 v63 v77 X2 X4 X5 X6 k).2.1 acc f
      = on1 i arg2 arg4 arg5 arg6 arg7 v4 v6 v9 X2 X4 X5 X6 k 3 f (on1 i arg2 arg4 arg5 arg6 arg7 v4 v6 v9 X2 X4 X5 X6 k 2 f (on1 i arg2 arg4 arg5 arg6 arg7 v4 v6 v9 X2 X4 X5 X6 k 1 f (on1 i arg2 arg4 arg5 arg6 arg7 v4 v6 v9 X2 X4 X5 X6 k 0 f []))) := by
    unfold trip1; rfl
  rw [h]
  simp only [on1_eq]
  rfl

section Rest
variable (k : Fin (k0_t3_loop i).trips)

theorem block3_lt : (i 1).val + 1 + 4 * ((15 - (i 1).val) / 4) + k.val < 16 := by
  have h := lt_of_lt_of_eq k.isLt (trips3 i)
  have := (i 1).isLt
  omega

/-- A remaining trip's carried gradients. -/
theorem trip3_acc (acc : Acc F) (f : BufTy.Contents (Elt F) arg7.view.ty) :
    tripR_k0_t3 (F := F) 𝒱 c bd i arg2 harg2 arg3 harg3 arg4 harg4 arg5 harg5 arg6 harg6 arg7 harg7 arg8 harg8 arg1 v4 v6 v9 v48 v51 v62 v63 v77 v106 X2 X4 X5 X6 k acc f
      = stepAcc v4 v6 (arg2.view.read (Elt F) X2) (arg4.view.read (Elt F) X4) (arg5.view.read (Elt F) X5) (arg6.view.read (Elt F) X6)
          ((i 1).val + 1 + 4 * ((15 - (i 1).val) / 4) + k.val) acc := by
  have h : tripR_k0_t3 (F := F) 𝒱 c bd i arg2 harg2 arg3 harg3 arg4 harg4 arg5 harg5 arg6 harg6 arg7 harg7 arg8 harg8 arg1 v4 v6 v9 v48 v51 v62 v63 v77 v106 X2 X4 X5 X6 k acc f
      = (k0_pay65 v4 v6 acc.1 (arg2.view.readAt (Elt F) (Rect.unit (s := S8192x128) (k0_off10 i k) S512x128.size (k0_off10_inb i k)).toLoadRect X2) (arg4.view.readAt (Elt F) (Rect.unit (s := S8192x128) (k0_off10 i k) S512x128.size (k0_off10_inb i k)).toLoadRect X4) (arg5.view.readAt (Elt F) (Rect.unit (s := S1x16x8x512) (k0_off11 i k) S1x1x1x512.size (k0_off11_inb i k)).toLoadRect X5) (arg6.view.readAt (Elt F) (Rect.unit (s := S1x16x8x512) (k0_off11 i k) S1x1x1x512.size (k0_off11_inb i k)).toLoadRect X6), k0_pay64 v4 acc.2 (arg2.view.readAt (Elt F) (Rect.unit (s := S8192x128) (k0_off10 i k) S512x128.size (k0_off10_inb i k)).toLoadRect X2) (arg4.view.readAt (Elt F) (Rect.unit (s := S8192x128) (k0_off10 i k) S512x128.size (k0_off10_inb i k)).toLoadRect X4) (arg5.view.readAt (Elt F) (Rect.unit (s := S1x16x8x512) (k0_off11 i k) S1x1x1x512.size (k0_off11_inb i k)).toLoadRect X5)) := by
    unfold tripR_k0_t3 trip_k0_t3; rfl
  rw [h]
  unfold stepAcc
  rw [read_rows arg2.view X2 _ _ (off10 i k) (block3_lt i k), read_rows arg4.view X4 _ _ (off10 i k) (block3_lt i k),
    read_row arg5.view X5 _ _ (off11 i k) (block3_lt i k), read_row arg6.view X6 _ _ (off11 i k) (block3_lt i k)]

/-- A remaining trip's query gradient. -/
theorem trip3_read (acc : Acc F) (f : BufTy.Contents (Elt F) arg7.view.ty) :
    arg7.view.read (Elt F) (arg7.view.writes (Elt F) f (tripL_k0_t3 (F := F) 𝒱 c bd i arg2 harg2 arg3 harg3 arg4 harg4 arg5 harg5 arg6 harg6 arg7 harg7 arg8 harg8 arg1 v4 v6 v9 v48 v51 v62 v63 v77 v106 X2 X4 X5 X6 k acc f))
      = stepG v4 v6 v9 (arg2.view.read (Elt F) X2) (arg4.view.read (Elt F) X4) (arg5.view.read (Elt F) X5) (arg6.view.read (Elt F) X6)
          ((i 1).val + 1 + 4 * ((15 - (i 1).val) / 4) + k.val) (arg7.view.read (Elt F) f) := by
  have h : tripL_k0_t3 (F := F) 𝒱 c bd i arg2 harg2 arg3 harg3 arg4 harg4 arg5 harg5 arg6 harg6 arg7 harg7 arg8 harg8 arg1 v4 v6 v9 v48 v51 v62 v63 v77 v106 X2 X4 X5 X6 k acc f
      = [⟨Rect.unit (s := S1x16x128x512) (k0_off12 i k) S1x1x128x512.size (k0_off12_inb i k),
          k0_pay94 (k0_pay66 v4 v6 v9 (arg2.view.readAt (Elt F) (Rect.unit (s := S8192x128) (k0_off10 i k) S512x128.size (k0_off10_inb i k)).toLoadRect X2) (arg4.view.readAt (Elt F) (Rect.unit (s := S8192x128) (k0_off10 i k) S512x128.size (k0_off10_inb i k)).toLoadRect X4) (arg5.view.readAt (Elt F) (Rect.unit (s := S1x16x8x512) (k0_off11 i k) S1x1x1x512.size (k0_off11_inb i k)).toLoadRect X5) (arg6.view.readAt (Elt F) (Rect.unit (s := S1x16x8x512) (k0_off11 i k) S1x1x1x512.size (k0_off11_inb i k)).toLoadRect X6)
            (arg7.view.readAt (Elt F) (Rect.unit (s := S1x16x128x512) (k0_off12 i k) S1x1x128x512.size (k0_off12_inb i k)).toLoadRect f))⟩] := by
    unfold tripL_k0_t3 trip_k0_t3; rfl
  rw [h]
  unfold stepG
  rw [read_rows arg2.view X2 _ _ (off10 i k) (block3_lt i k), read_rows arg4.view X4 _ _ (off10 i k) (block3_lt i k),
    read_row arg5.view X5 _ _ (off11 i k) (block3_lt i k), read_row arg6.view X6 _ _ (off11 i k) (block3_lt i k),
    read_slot arg7.view _ _ _ (off12 i k) (block3_lt i k), Nat.mod_eq_of_lt (block3_lt i k)]
  exact View.read_writes_cons_put arg7.view f _ _ [] (off12 i k)

end Rest

/-! ## The loops -/

section Loops
variable (G : BufTy.Contents (Elt F) arg7.view.ty) (init : Acc F)

theorem st1_acc : ∀ n, n ≤ (k0_t1_loop i).trips → (st1 (F := F) 𝒱 c bd i arg2 harg2 arg3 harg3 arg4 harg4 arg5 harg5 arg6 harg6 arg7 harg7 arg8 harg8 arg1 v4 v6 v9 v48 v51 v62 v63 v77 X2 X4 X5 X6 G init n).1
    = stepsAcc v4 v6 (arg2.view.read (Elt F) X2) (arg4.view.read (Elt F) X4) (arg5.view.read (Elt F) X5) (arg6.view.read (Elt F) X6)
        ((i 1).val + 1) (4 * n) init
  | 0, _ => rfl
  | n + 1, hn => by
    rw [st1_succ 𝒱 c bd i arg2 harg2 arg3 harg3 arg4 harg4 arg5 harg5 arg6 harg6 arg7 harg7 arg8 harg8 arg1 v4 v6 v9 v48 v51 v62 v63 v77 X2 X4 X5 X6 G init ⟨n, hn⟩]
    dsimp only
    rw [trip1_acc, st1_acc n (Nat.le_of_lt hn), Nat.mul_succ, stepsAcc_add]

theorem st1_read : ∀ n, n ≤ (k0_t1_loop i).trips → arg7.view.read (Elt F) (arg7.view.writes (Elt F) G (st1 (F := F) 𝒱 c bd i arg2 harg2 arg3 harg3 arg4 harg4 arg5 harg5 arg6 harg6 arg7 harg7 arg8 harg8 arg1 v4 v6 v9 v48 v51 v62 v63 v77 X2 X4 X5 X6 G init n).2)
    = stepsG v4 v6 v9 (arg2.view.read (Elt F) X2) (arg4.view.read (Elt F) X4) (arg5.view.read (Elt F) X5) (arg6.view.read (Elt F) X6)
        ((i 1).val + 1) (4 * n) (arg7.view.read (Elt F) G)
  | 0, _ => rfl
  | n + 1, hn => by
    rw [st1_succ 𝒱 c bd i arg2 harg2 arg3 harg3 arg4 harg4 arg5 harg5 arg6 harg6 arg7 harg7 arg8 harg8 arg1 v4 v6 v9 v48 v51 v62 v63 v77 X2 X4 X5 X6 G init ⟨n, hn⟩]
    dsimp only
    rw [View.writes_append, trip1_read, st1_read n (Nat.le_of_lt hn), Nat.mul_succ, stepsG_add]

theorem st3_acc : ∀ n, n ≤ (k0_t3_loop i).trips → (st_k0_t3 (F := F) 𝒱 c bd i arg2 harg2 arg3 harg3 arg4 harg4 arg5 harg5 arg6 harg6 arg7 harg7 arg8 harg8 arg1 v4 v6 v9 v48 v51 v62 v63 v77 v106 X2 X4 X5 X6 G init n).1
    = stepsAcc v4 v6 (arg2.view.read (Elt F) X2) (arg4.view.read (Elt F) X4) (arg5.view.read (Elt F) X5) (arg6.view.read (Elt F) X6)
        ((i 1).val + 1 + 4 * ((15 - (i 1).val) / 4)) n init
  | 0, _ => rfl
  | n + 1, hn => by
    rw [st_k0_t3_succ 𝒱 c bd i arg2 harg2 arg3 harg3 arg4 harg4 arg5 harg5 arg6 harg6 arg7 harg7 arg8 harg8 arg1 v4 v6 v9 v48 v51 v62 v63 v77 v106 X2 X4 X5 X6 G init ⟨n, hn⟩]
    dsimp only
    rw [trip3_acc, st3_acc n (Nat.le_of_lt hn)]
    rfl

theorem st3_read : ∀ n, n ≤ (k0_t3_loop i).trips → arg7.view.read (Elt F) (arg7.view.writes (Elt F) G (st_k0_t3 (F := F) 𝒱 c bd i arg2 harg2 arg3 harg3 arg4 harg4 arg5 harg5 arg6 harg6 arg7 harg7 arg8 harg8 arg1 v4 v6 v9 v48 v51 v62 v63 v77 v106 X2 X4 X5 X6 G init n).2)
    = stepsG v4 v6 v9 (arg2.view.read (Elt F) X2) (arg4.view.read (Elt F) X4) (arg5.view.read (Elt F) X5) (arg6.view.read (Elt F) X6)
        ((i 1).val + 1 + 4 * ((15 - (i 1).val) / 4)) n (arg7.view.read (Elt F) G)
  | 0, _ => rfl
  | n + 1, hn => by
    rw [st_k0_t3_succ 𝒱 c bd i arg2 harg2 arg3 harg3 arg4 harg4 arg5 harg5 arg6 harg6 arg7 harg7 arg8 harg8 arg1 v4 v6 v9 v48 v51 v62 v63 v77 v106 X2 X4 X5 X6 G init ⟨n, hn⟩]
    dsimp only
    rw [View.writes_append, trip3_read, st3_read n (Nat.le_of_lt hn)]
    rfl

end Loops

end Cert.AttnBwdIdeal.Own

end
-- ==== Proof.AttnOut.lean ====
/-
  What the body of the attention gradient leaves in its outputs, as functions of its inputs' contents.
-/
module

public import proofs.«01_k».proof.Proof.AttnVal
public import Idealize.ShloMosaic.Lib.ValueIdx

@[expose] public section

set_option maxRecDepth 16384

noncomputable section

namespace Cert.AttnBwdIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnBwdIdeal Cert.AttnBwdIdeal.Gen

variable {F : FTy → Type} [FloatOps F] [Named F]

section Spec
variable (j : ℕ) (x2 : Vec F S8192x128 .bf16) (x3 : Vec F S512x256 .bf16) (x4 : Vec F S8192x128 .bf16) (x5 x6 : Vec F S1x16x8x512 .f32)

/-- The key block's keys, -/
def keys : Vec F S512x128 .bf16 := VecWindow.window x3 ![0, 0] S512x128.size inb_S512x256_S512x128_0_0

/-- and its values. -/
def vals : Vec F S512x128 .bf16 := VecWindow.window x3 ![0, 128] S512x128.size inb_S512x256_S512x128_0_128

/-- The masked probabilities of the diagonal block. -/
def diagP (i : grid0.Coords) : FVec F S512x512 .f32 := k0_pay81 i (keys x3) (rows x2 (i 1).val) (line x5 (i 1).val)

/-- The key block's gradients from the diagonal block. -/
def diagAcc (i : grid0.Coords) : Acc F :=
  (k0_pay84 (k0_pay76 (vals x3)) k0_pay78 (k0_pay79 (rows x2 (i 1).val)) (k0_pay80 (rows x4 (i 1).val)) (diagP x2 x3 x5 i) (line x6 (i 1).val),
    k0_pay83 k0_pay78 (k0_pay80 (rows x4 (i 1).val)) (diagP x2 x3 x5 i))

/-- The query gradient with the diagonal block's part added. -/
def diagG (i : grid0.Coords) (g : Vec F S1x16x128x512 .f32) : Vec F S1x16x128x512 .f32 :=
  VecWindow.put g ![0, (i 1).val, 0, 0] S1x1x128x512.size
    (k0_pay85 (k0_pay76 (vals x3)) (k0_pay77 (keys x3)) (k0_pay80 (rows x4 (i 1).val)) (diagP x2 x3 x5 i) (line x6 (i 1).val) (slot g (i 1).val))

/-- The key block's gradients from every query block. -/
def keyAcc (i : grid0.Coords) : Acc F :=
  stepsAcc (k0_pay75 (keys x3)) (k0_pay76 (vals x3)) x2 x4 x5 x6 ((i 1).val + 1) (15 - (i 1).val) (diagAcc x2 x3 x4 x5 x6 i)

/-- The query gradient after the key block. -/
def keyG (i : grid0.Coords) (g : Vec F S1x16x128x512 .f32) : Vec F S1x16x128x512 .f32 :=
  stepsG (k0_pay75 (keys x3)) (k0_pay76 (vals x3)) (k0_pay77 (keys x3)) x2 x4 x5 x6 ((i 1).val + 1) (15 - (i 1).val)
    (diagG x2 x3 x4 x5 x6 i g)

/-- The key and value gradients side by side. -/
def keyOut (i : grid0.Coords) : Vec F S512x256 .bf16 :=
  VecWindow.put (VecWindow.put x3 ![0, 0] S512x128.size (k0_pay96 (keyAcc x2 x3 x4 x5 x6 i).1)) ![0, 128] S512x128.size
    (k0_pay1 (keyAcc x2 x3 x4 x5 x6 i).2 (Named.named κ "log2e" 0x3FB8AA3B#32))

theorem keyOut_lo (i : grid0.Coords) (y : S512x256.Idx) (h : (y 1).val < 128) :
    keyOut x2 x3 x4 x5 x6 i y = k0_pay96 (keyAcc x2 x3 x4 x5 x6 i).1 (Idealize.ShloMosaic.ValueIdx.ix2 (y 0) ⟨(y 1).val, h⟩) := by
  unfold keyOut VecWindow.put
  rw [dif_neg (fun h' => by have := (h' 1).1; exact absurd (show 128 ≤ (y 1).val from this) (by omega)),
    dif_pos (fun a => by
      match a with
      | 0 => exact ⟨Nat.zero_le _, lt_of_lt_of_eq (y 0).isLt (by rfl)⟩
      | 1 => exact ⟨Nat.zero_le _, lt_of_lt_of_eq h (by rfl)⟩)]
  congr 1; funext a; refine Fin.ext ?_
  match a with
  | 0 => rfl
  | 1 => rfl

theorem keyOut_hi (i : grid0.Coords) (y : S512x256.Idx) (h : 128 ≤ (y 1).val) :
    keyOut x2 x3 x4 x5 x6 i y = k0_pay1 (keyAcc x2 x3 x4 x5 x6 i).2 (Named.named κ "log2e" 0x3FB8AA3B#32)
      (Idealize.ShloMosaic.ValueIdx.ix2 (y 0) ⟨(y 1).val - 128, by have : (y 1).val < 256 := (y 1).isLt; omega⟩) := by
  unfold keyOut VecWindow.put
  rw [dif_pos (fun a => by
      match a with
      | 0 => exact ⟨Nat.zero_le _, lt_of_lt_of_eq (y 0).isLt (by rfl)⟩
      | 1 => exact ⟨h, lt_of_lt_of_eq (y 1).isLt (by rfl)⟩)]
  congr 1; funext a; refine Fin.ext ?_
  match a with
  | 0 => rfl
  | 1 => rfl

/-- Two stores that cover the block leave nothing of what was there. -/
theorem put_cover (a b : Vec F S512x256 .bf16) (u v : Vec F S512x128 .bf16) :
    VecWindow.put (VecWindow.put a ![0, 0] S512x128.size u) ![0, 128] S512x128.size v
      = VecWindow.put (VecWindow.put b ![0, 0] S512x128.size u) ![0, 128] S512x128.size v := by
  funext y
  unfold VecWindow.put
  split
  · rfl
  rename_i h
  split
  · rfl
  rename_i h'
  exfalso
  by_cases hy : (y 1).val < 128
  · exact h' (fun a => by
      match a with
      | 0 => exact ⟨Nat.zero_le _, lt_of_lt_of_eq (y 0).isLt (by rfl)⟩
      | 1 => exact ⟨Nat.zero_le _, lt_of_lt_of_eq hy (by rfl)⟩)
  · exact h (fun a => by
      match a with
      | 0 => exact ⟨Nat.zero_le _, lt_of_lt_of_eq (y 0).isLt (by rfl)⟩
      | 1 => exact ⟨not_lt.mp hy, lt_of_lt_of_eq (y 1).isLt (by rfl)⟩)

end Spec

section Loops
variable (𝒱 : Variants) (c : Dev nD) (bd : Option 𝒱.V) (i : grid0.Coords)
  (arg2 : Memref sig .tc .vmem S8192x128 .bf16) (harg2 : arg2.IsWhole) (arg3 : Memref sig .tc .vmem S512x256 .bf16) (harg3 : arg3.IsWhole)
  (arg4 : Memref sig .tc .vmem S8192x128 .bf16) (harg4 : arg4.IsWhole) (arg5 : Memref sig .tc .vmem S1x16x8x512 .f32) (harg5 : arg5.IsWhole)
  (arg6 : Memref sig .tc .vmem S1x16x8x512 .f32) (harg6 : arg6.IsWhole) (arg7 : Memref sig .tc .vmem S1x16x128x512 .f32) (harg7 : arg7.IsWhole)
  (arg8 : Memref sig .tc .vmem S512x256 .bf16) (harg8 : arg8.IsWhole) (arg1 : BitVec 32)
  (v4 : FVec F S512x128 .bf16) (v6 : FVec F S512x128 .bf16) (v9 : FVec F S128x512 .bf16) (v48 : FVec F S512x128 .f32) (v51 : FVec F S512x128 .f32)
  (v62 : BitVec 32) (v63 : BitVec 32) (v77 : BitVec 1) (v106 v111 : BitVec 32)
  (X2 : BufTy.Contents (Elt F) arg2.view.ty) (X4 : BufTy.Contents (Elt F) arg4.view.ty)
  (X5 : BufTy.Contents (Elt F) arg5.view.ty) (X6 : BufTy.Contents (Elt F) arg6.view.ty)
  (G G' G'' : BufTy.Contents (Elt F) arg7.view.ty) (init : Acc F)

/-- The last loop makes no trip. -/
theorem st4_eq (n : ℕ) (hn : n = 0) : st_k0_t4 (F := F) 𝒱 c bd i arg2 harg2 arg3 harg3 arg4 harg4 arg5 harg5 arg6 harg6 arg7 harg7 arg8 harg8 arg1 v4 v6 v9 v48 v51 v62 v63 v77 v111 X2 X4 X5 X6 G init n = (init, []) := by
  subst hn; rfl

/-- The loops together: every query block past the diagonal. -/
theorem loops_acc (n m : ℕ) (hn : n = (15 - (i 1).val) / 4) (hm : m = (15 - (i 1).val) % 4) : (st_k0_t3 (F := F) 𝒱 c bd i arg2 harg2 arg3 harg3 arg4 harg4 arg5 harg5 arg6 harg6 arg7 harg7 arg8 harg8 arg1 v4 v6 v9 v48 v51 v62 v63 v77 v106 X2 X4 X5 X6 G' (st1 (F := F) 𝒱 c bd i arg2 harg2 arg3 harg3 arg4 harg4 arg5 harg5 arg6 harg6 arg7 harg7 arg8 harg8 arg1 v4 v6 v9 v48 v51 v62 v63 v77 X2 X4 X5 X6 G init
        n).1 m).1
    = stepsAcc v4 v6 (arg2.view.read (Elt F) X2) (arg4.view.read (Elt F) X4) (arg5.view.read (Elt F) X5) (arg6.view.read (Elt F) X6)
        ((i 1).val + 1) (15 - (i 1).val) init := by
  subst hn hm
  rw [st3_acc 𝒱 c bd i arg2 harg2 arg3 harg3 arg4 harg4 arg5 harg5 arg6 harg6 arg7 harg7 arg8 harg8 arg1 v4 v6 v9 v48 v51 v62 v63 v77 v106 X2 X4 X5 X6 _ _ _ (le_of_eq (trips3 i).symm), st1_acc 𝒱 c bd i arg2 harg2 arg3 harg3 arg4 harg4 arg5 harg5 arg6 harg6 arg7 harg7 arg8 harg8 arg1 v4 v6 v9 v48 v51 v62 v63 v77 X2 X4 X5 X6 _ _ _ (le_of_eq (trips1 i).symm),
    ← stepsAcc_add, Nat.div_add_mod]

/-- Likewise the query gradient. -/
theorem loops_read (n m : ℕ) (hn : n = (15 - (i 1).val) / 4) (hm : m = (15 - (i 1).val) % 4) : arg7.view.read (Elt F) (arg7.view.writes (Elt F) (arg7.view.writes (Elt F) G
        (st1 (F := F) 𝒱 c bd i arg2 harg2 arg3 harg3 arg4 harg4 arg5 harg5 arg6 harg6 arg7 harg7 arg8 harg8 arg1 v4 v6 v9 v48 v51 v62 v63 v77 X2 X4 X5 X6 G init n).2)
      (st_k0_t3 (F := F) 𝒱 c bd i arg2 harg2 arg3 harg3 arg4 harg4 arg5 harg5 arg6 harg6 arg7 harg7 arg8 harg8 arg1 v4 v6 v9 v48 v51 v62 v63 v77 v106 X2 X4 X5 X6 (arg7.view.writes (Elt F) G
        (st1 (F := F) 𝒱 c bd i arg2 harg2 arg3 harg3 arg4 harg4 arg5 harg5 arg6 harg6 arg7 harg7 arg8 harg8 arg1 v4 v6 v9 v48 v51 v62 v63 v77 X2 X4 X5 X6 G init n).2)
        (st1 (F := F) 𝒱 c bd i arg2 harg2 arg3 harg3 arg4 harg4 arg5 harg5 arg6 harg6 arg7 harg7 arg8 harg8 arg1 v4 v6 v9 v48 v51 v62 v63 v77 X2 X4 X5 X6 G init
        n).1 m).2)
    = stepsG v4 v6 v9 (arg2.view.read (Elt F) X2) (arg4.view.read (Elt F) X4) (arg5.view.read (Elt F) X5) (arg6.view.read (Elt F) X6)
        ((i 1).val + 1) (15 - (i 1).val) (arg7.view.read (Elt F) G) := by
  subst hn hm
  rw [st3_read 𝒱 c bd i arg2 harg2 arg3 harg3 arg4 harg4 arg5 harg5 arg6 harg6 arg7 harg7 arg8 harg8 arg1 v4 v6 v9 v48 v51 v62 v63 v77 v106 X2 X4 X5 X6 _ _ _ (le_of_eq (trips3 i).symm), st1_read 𝒱 c bd i arg2 harg2 arg3 harg3 arg4 harg4 arg5 harg5 arg6 harg6 arg7 harg7 arg8 harg8 arg1 v4 v6 v9 v48 v51 v62 v63 v77 X2 X4 X5 X6 _ _ _ (le_of_eq (trips1 i).symm),
    ← stepsG_add, Nat.div_add_mod]

end Loops

section Outs
variable (c : Dev nD) (i : grid0.Coords)
  (arg2 : Memref sig .tc .vmem S8192x128 .bf16) (harg2 : arg2.IsWhole) (arg3 : Memref sig .tc .vmem S512x256 .bf16) (harg3 : arg3.IsWhole)
  (arg4 : Memref sig .tc .vmem S8192x128 .bf16) (harg4 : arg4.IsWhole) (arg5 : Memref sig .tc .vmem S1x16x8x512 .f32) (harg5 : arg5.IsWhole)
  (arg6 : Memref sig .tc .vmem S1x16x8x512 .f32) (harg6 : arg6.IsWhole) (arg7 : Memref sig .tc .vmem S1x16x128x512 .f32) (harg7 : arg7.IsWhole)
  (arg8 : Memref sig .tc .vmem S512x256 .bf16) (harg8 : arg8.IsWhole)
  (x2 : Vec F S8192x128 .bf16) (x3 : Vec F S512x256 .bf16) (x4 : Vec F S8192x128 .bf16) (x5 x6 : Vec F S1x16x8x512 .f32)

theorem read_keys : arg3.view.readAt (Elt F) (Rect.unit (s := S512x256) ![0, 0] S512x128.size inb_S512x256_S512x128_0_0).toLoadRect (harg3.unread x3) = keys x3 := by
  rw [View.readAt_unit arg3.view _ _ rfl inb_S512x256_S512x128_0_0, harg3.read_unread]; rfl

theorem read_vals : arg3.view.readAt (Elt F) (Rect.unit (s := S512x256) ![0, 128] S512x128.size inb_S512x256_S512x128_0_128).toLoadRect (harg3.unread x3) = vals x3 := by
  rw [View.readAt_unit arg3.view _ _ rfl inb_S512x256_S512x128_0_128, harg3.read_unread]; rfl

theorem read_q : arg2.view.readAt (Elt F) (Rect.unit (s := S8192x128) (k0_off1 i) S512x128.size (k0_off1_inb i)).toLoadRect (harg2.unread x2) = rows x2 (i 1).val := by
  rw [read_rows arg2.view _ _ _ (off1 i) (i 1).isLt, harg2.read_unread]

theorem read_do : arg4.view.readAt (Elt F) (Rect.unit (s := S8192x128) (k0_off1 i) S512x128.size (k0_off1_inb i)).toLoadRect (harg4.unread x4) = rows x4 (i 1).val := by
  rw [read_rows arg4.view _ _ _ (off1 i) (i 1).isLt, harg4.read_unread]

theorem read_lse : arg5.view.readAt (Elt F) (Rect.unit (s := S1x16x8x512) (k0_off2 i) S1x1x1x512.size (k0_off2_inb i)).toLoadRect (harg5.unread x5) = line x5 (i 1).val := by
  rw [read_row arg5.view _ _ _ (off2 i) (i 1).isLt, harg5.read_unread]

theorem read_delta : arg6.view.readAt (Elt F) (Rect.unit (s := S1x16x8x512) (k0_off2 i) S1x1x1x512.size (k0_off2_inb i)).toLoadRect (harg6.unread x6) = line x6 (i 1).val := by
  rw [read_row arg6.view _ _ _ (off2 i) (i 1).isLt, harg6.read_unread]

/-- Two stores that cover the block. -/
theorem out8_of (f : arg8.view.ty.Contents (Elt F)) (a : Acc F) (ha : a = keyAcc x2 x3 x4 x5 x6 i) :
    arg8.view.read (Elt F) (arg8.view.writes (Elt F) f
      [⟨Rect.unit ![0, 128] S512x128.size inb_S512x256_S512x128_0_128, k0_pay1 a.2 (Named.named κ "log2e" 0x3FB8AA3B#32)⟩,
        ⟨Rect.unit ![0, 0] S512x128.size inb_S512x256_S512x128_0_0, k0_pay96 a.1⟩]) = keyOut x2 x3 x4 x5 x6 i := by
  subst ha
  refine (View.read_writes_cons_put arg8.view f inb_S512x256_S512x128_0_128 _ _ rfl).trans ?_
  rw [View.read_writes_cons_put arg8.view f inb_S512x256_S512x128_0_0 _ [] rfl]
  exact put_cover _ _ _ _

set_option maxHeartbeats 1000000 in
/-- The key and value gradients the body stores. -/
theorem out8A_eq (hc : first i) : out8A c i arg2 harg2 arg3 harg3 arg4 harg4 arg5 harg5 arg6 harg6 arg7 harg7 arg8 harg8 x2 x3 x4 x5 x6 hc = keyOut x2 x3 x4 x5 x6 i := by
  unfold out8A runA
  refine out8_of i arg8 x2 x3 x4 x5 x6 _ _ ?_
  rw [st4_eq (hn := trips4 i)]
  refine (loops_acc (hn := trips1 i) (hm := trips3 i) ..).trans ?_
  simp only [runA.sl.r_7, runA.sl.r_6, runA.sl.r_5, runA.sl.r_4, runA.sl.r_3, runA.sl.r_2, runA.sl.r_1, runA.sl.r]
  rw [read_keys, read_vals, read_q, read_do, read_lse, read_delta]
  rw [harg2.read_unread, harg4.read_unread, harg5.read_unread, harg6.read_unread]
  rfl

set_option maxHeartbeats 1000000 in
/-- The query gradient it leaves. -/
theorem out7A_eq (hc : first i) : out7A c i arg2 harg2 arg3 harg3 arg4 harg4 arg5 harg5 arg6 harg6 arg7 harg7 arg8 harg8 x2 x3 x4 x5 x6 hc = keyG x2 x3 x4 x5 x6 i k0_pay74 := by
  unfold out7A runA
  dsimp only
  rw [st4_eq (hn := trips4 i)]
  simp only [View.writes_append, List.nil_append]
  rw [loops_read (hn := trips1 i) (hm := trips3 i)]
  simp only [runA.sl.r_7, runA.sl.r_6, runA.sl.r_5, runA.sl.r_4, runA.sl.r_3, runA.sl.r_2, runA.sl.r_1, runA.sl.r]
  rw [read_keys, read_vals, read_q, read_do, read_lse, read_delta]
  rw [harg2.read_unread, harg4.read_unread, harg5.read_unread, harg6.read_unread]
  rw [View.read_writes_cons_put _ _ _ _ _ (off3 i), read_slot _ _ _ _ (off3 i) (i 1).isLt]
  unfold runA.sl.H7_1; rw [View.read_writes_full]
  rfl

set_option maxHeartbeats 1000000 in
/-- The key and value gradients the body stores. -/
theorem out8B_eq (hc : ¬first i) (x7 : Vec F S1x16x128x512 .f32) : out8B c i arg2 harg2 arg3 harg3 arg4 harg4 arg5 harg5 arg6 harg6 arg7 harg7 arg8 harg8 x2 x3 x4 x5 x6 hc x7 = keyOut x2 x3 x4 x5 x6 i := by
  unfold out8B runB
  refine out8_of i arg8 x2 x3 x4 x5 x6 _ _ ?_
  rw [st4_eq (hn := trips4 i)]
  refine (loops_acc (hn := trips1 i) (hm := trips3 i) ..).trans ?_
  simp only [runB.sl.r_7, runB.sl.r_6, runB.sl.r_5, runB.sl.r_4, runB.sl.r_3, runB.sl.r_2, runB.sl.r_1, runB.sl.r]
  rw [read_keys, read_vals, read_q, read_do, read_lse, read_delta]
  rw [harg2.read_unread, harg4.read_unread, harg5.read_unread, harg6.read_unread]
  rfl

set_option maxHeartbeats 1000000 in
/-- The query gradient it leaves. -/
theorem out7B_eq (hc : ¬first i) (x7 : Vec F S1x16x128x512 .f32) : out7B c i arg2 harg2 arg3 harg3 arg4 harg4 arg5 harg5 arg6 harg6 arg7 harg7 arg8 harg8 x2 x3 x4 x5 x6 hc x7 = keyG x2 x3 x4 x5 x6 i x7 := by
  unfold out7B runB
  dsimp only
  rw [st4_eq (hn := trips4 i)]
  simp only [View.writes_append, List.nil_append]
  rw [loops_read (hn := trips1 i) (hm := trips3 i)]
  simp only [runB.sl.r_7, runB.sl.r_6, runB.sl.r_5, runB.sl.r_4, runB.sl.r_3, runB.sl.r_2, runB.sl.r_1, runB.sl.r]
  rw [read_keys, read_vals, read_q, read_do, read_lse, read_delta]
  rw [harg2.read_unread, harg4.read_unread, harg5.read_unread, harg6.read_unread]
  rw [View.read_writes_cons_put _ _ _ _ _ (off3 i), read_slot _ _ _ _ (off3 i) (i 1).isLt]
  rw [View.writes_nil, harg7.read_unread]
  rfl

end Outs

end Cert.AttnBwdIdeal.Own

end
-- ==== Proof.AttnReal.lean ====
/-
  The attention gradient's block operations over the extended reals, at blocks whose every element is real: each result's
  elements are real, given by the textbook's sums.
-/
module

public import proofs.«01_k».proof.Proof.AttnOut
public import Idealize.ShloMosaic.Lib.MatmulPlain
public import Idealize.ShloMosaic.Lib.ValueLayout

@[expose] public section

set_option maxRecDepth 16384

noncomputable section

namespace Cert.AttnBwdIdeal.Own

open Idealize.ShloMosaic Idealize.ShloMosaic.TcCoe Idealize.ShloMosaic.ValueIdx
open Cert.AttnBwdIdeal Cert.AttnBwdIdeal.Gen
open scoped BigOperators
open Finset (range)

/-! ## Real blocks -/

/-- A sum of reals, read among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A matrix whose elements are the reals `X`. -/
def Is2 {m n : ℕ} (x : (⟨2, ![m, n]⟩ : Shape).Idx → EReal) (X : ℕ → ℕ → ℝ) : Prop :=
  ∀ (r : Fin m) (d : Fin n), x (ix2 r d) = (X r.val d.val : EReal)

/-- One query block's row. -/
def IsRow (x : S1x1x1x512.Idx → EReal) (X : ℕ → ℝ) : Prop :=
  ∀ q : Fin 512, x (ix4 (0 : Fin 1) (0 : Fin 1) (0 : Fin 1) q) = (X q.val : EReal)

/-- One query block's slot. -/
def IsSlot (x : S1x1x128x512.Idx → EReal) (X : ℕ → ℕ → ℝ) : Prop :=
  ∀ (d : Fin 128) (q : Fin 512), x (ix4 (0 : Fin 1) (0 : Fin 1) d q) = (X d.val q.val : EReal)

/-- A per-row quantity of the whole head. -/
def IsL (x : S1x16x8x512.Idx → EReal) (X : ℕ → ℝ) : Prop :=
  ∀ (s : Fin 16) (q : Fin 512), x (ix4 (0 : Fin 1) s (0 : Fin 8) q) = (X (s.val * 512 + q.val) : EReal)

/-- The query gradient of the whole head. -/
def IsG (x : S1x16x128x512.Idx → EReal) (X : ℕ → ℕ → ℕ → ℝ) : Prop :=
  ∀ (s : Fin 16) (d : Fin 128) (q : Fin 512), x (ix4 (0 : Fin 1) s d q) = (X s.val d.val q.val : EReal)

theorem Is2.congr {m n : ℕ} {x : (⟨2, ![m, n]⟩ : Shape).Idx → EReal} {X Y : ℕ → ℕ → ℝ} (h : Is2 x X)
    (e : ∀ r d, r < m → d < n → X r d = Y r d) : Is2 x Y := fun r d => by rw [h r d, e _ _ r.isLt d.isLt]

section Products
variable {M K N : ℕ}

/-- Rows against rows. -/
theorem mmT {φ : FTy} {a : FVec Ideal ⟨2, ![M, K]⟩ φ} {b : FVec Ideal ⟨2, ![N, K]⟩ φ} {A B : ℕ → ℕ → ℝ} (ha : Is2 a A) (hb : Is2 b B) :
    Is2 (FloatOps.matmul (DotDims.transposedRhs M K N) none a b (constant ⟨2, ![M, N]⟩ .f32 0x00000000#32))
      (fun r c => ∑ k ∈ range K, A r k * B c k) := fun r c => by
  rw [Ideal.matmul_transposedRhs_apply, constant_apply]; beta_reduce
  rw [Ideal.ofBits_zero_f32, zero_add, ← Fin.sum_univ_eq_sum_range (fun k => A r.val k * B c.val k), coe_sum]
  exact Finset.sum_congr rfl fun k _ => by rw [ha r k, hb c k, EReal.coe_mul]

/-- Rows against columns. -/
theorem mmP {φ : FTy} {a : FVec Ideal ⟨2, ![M, K]⟩ φ} {b : FVec Ideal ⟨2, ![K, N]⟩ φ} {A B : ℕ → ℕ → ℝ} (ha : Is2 a A) (hb : Is2 b B) :
    Is2 (FloatOps.matmul (DotDims.plain M K N) none a b (constant ⟨2, ![M, N]⟩ .f32 0x00000000#32))
      (fun r c => ∑ k ∈ range K, A r k * B k c) := fun r c => by
  rw [Ideal.matmul_plain_apply, constant_apply]; beta_reduce
  rw [Ideal.ofBits_zero_f32, zero_add, ← Fin.sum_univ_eq_sum_range (fun k => A r.val k * B k c.val), coe_sum]
  exact Finset.sum_congr rfl fun k _ => by rw [ha r k, hb k c, EReal.coe_mul]

end Products

/-! ## The body's operations -/

/-- The named constant of the kernel: log2 (log 2). -/
def l2l2 : ℝ := Real.log (Real.log 2) * (Real.log 2)⁻¹

theorem l2l2_eq : (Named.named (F := Ideal) κ "l2l2" (φ := .f32) 0xBF075D3C#32 : EReal) = (l2l2 : EReal) :=
  IdealRules.named_const.ideal_named_scalar _ _ _ _ rfl

theorem log2e_eq : (Named.named (F := Ideal) κ "log2e" (φ := .f32) 0x3FB8AA3B#32 : EReal) = (((Real.log 2)⁻¹ : ℝ) : EReal) :=
  IdealRules.named_const.ideal_named_scalar _ _ _ _ rfl

/-- The unmasked probabilities of a block. -/
def prob (K Q : ℕ → ℕ → ℝ) (L : ℕ → ℝ) (k q : ℕ) : ℝ := Real.rpow 2 (∑ d ∈ range 128, K k d * Q q d - (L q - l2l2))

/-- A row spread over the rows of a block. -/
theorem spread {x : Vec Ideal S1x1x1x512 .f32} {L : ℕ → ℝ} (h : IsRow x L) (k q : Fin 512) :
    broadcastTo S512x512 (shapeCast S1x512 x shapeCasts_S1x1x1x512_S1x512) broadcasts_S1x512_S512x512 (ix2 k q) = (L q.val : EReal) := by
  rw [broadcastTo_1b_ab_apply, shapeCast_apply x _ _ (ix4 (0 : Fin 1) (0 : Fin 1) (0 : Fin 1) q)
    (by rw [Shape.rowMajor_val_four, Shape.rowMajor_val_two]; show ((0 * 1 + 0) * 1 + 0) * 512 + q.val = 0 * 512 + q.val; omega)]
  exact h q

variable {v4 v6 v22 v19 : FVec Ideal S512x128 .bf16} {K V Q D : ℕ → ℕ → ℝ} {L Δ : ℕ → ℝ} {vl vd : Vec Ideal S1x1x1x512 .f32}

theorem pay62 (h4 : Is2 v4 K) (hq : Is2 v19 Q) (hl : IsRow vl L) : Is2 (k0_pay62 v4 v19 vl) (prob K Q L) := fun k q => by
  have e := mmT h4 hq k q
  have hb : broadcastTo S512x512 (subf (shapeCast S1x512 vl shapeCasts_S1x1x1x512_S1x512)
      (broadcast S1x512 (Named.named (F := Ideal) κ "l2l2" (φ := .f32) 0xBF075D3C#32))) broadcasts_S1x512_S512x512 (ix2 k q)
      = ((L q.val - l2l2 : ℝ) : EReal) := by
    rw [broadcastTo_1b_ab_apply]
    show (shapeCast S1x512 vl shapeCasts_S1x1x1x512_S1x512 (ix2 0 q) : EReal) - Named.named (F := Ideal) κ "l2l2" (φ := .f32) 0xBF075D3C#32 = _
    rw [l2l2_eq, EReal.coe_sub]
    refine congrArg (· - _) ?_
    rw [← spread hl k q, broadcastTo_1b_ab_apply]
  show Ideal.exp2 ((FloatOps.matmul (DotDims.transposedRhs 512 128 512) none v4 (k0_pay60 v19) (constant S512x512 .f32 0x00000000#32) (ix2 k q) : EReal)
    - broadcastTo S512x512 (subf (shapeCast S1x512 vl shapeCasts_S1x1x1x512_S1x512)
      (broadcast S1x512 (Named.named (F := Ideal) κ "l2l2" (φ := .f32) 0xBF075D3C#32))) broadcasts_S1x512_S512x512 (ix2 k q)) = _
  rw [hb]
  unfold k0_pay60
  rw [shapeCast_self]
  rw [e, ← EReal.coe_sub, Ideal.exp2_coe]
  rfl

/-- The diagonal block: queries before the key are masked. -/
theorem pay81 (i : grid0.Coords) (h4 : Is2 v4 K) (hq : Is2 v19 Q) (hl : IsRow vl L) :
    Is2 (k0_pay81 i v4 v19 vl) (fun k q => if k ≤ q then prob K Q L k q else 0) := fun k q => by
  have e := pay62 h4 hq hl k q
  have hb : ∀ z : EReal, z - broadcastTo S512x512 (subf (shapeCast S1x512 vl shapeCasts_S1x1x1x512_S1x512)
      (broadcast S1x512 (Named.named (F := Ideal) κ "l2l2" (φ := .f32) 0xBF075D3C#32))) broadcasts_S1x512_S512x512 (ix2 k q)
      = z - ((L q.val - l2l2 : ℝ) : EReal) := fun z => by
    refine congrArg (z - ·) ?_
    rw [broadcastTo_1b_ab_apply]
    show (shapeCast S1x512 vl shapeCasts_S1x1x1x512_S1x512 (ix2 0 q) : EReal) - Named.named (F := Ideal) κ "l2l2" (φ := .f32) 0xBF075D3C#32 = _
    rw [l2l2_eq, EReal.coe_sub]
    refine congrArg (· - _) ?_
    rw [← spread hl k q, broadcastTo_1b_ab_apply]
  have hm : Scalar.cmpi .sle (Scalar.addi (Scalar.muli (BitVec.ofNat 32 (i 1).val) 512#32) (BitVec.ofNat 32 k.val))
      (Scalar.addi (Scalar.muli (BitVec.ofNat 32 (i 1).val) 512#32) (BitVec.ofNat 32 q.val)) = BitVec.ofBool (decide (k.val ≤ q.val)) := by
    have hj : (i 1).val < 16 := (i 1).isLt
    have hx : ∀ u : Fin 512, (Scalar.addi (Scalar.muli (BitVec.ofNat 32 (i 1).val) 512#32) (BitVec.ofNat 32 u.val)).toInt = (i 1).val * 512 + u.val := fun u => by
      have hu := u.isLt
      have : (Scalar.addi (Scalar.muli (BitVec.ofNat 32 (i 1).val) 512#32) (BitVec.ofNat 32 u.val)).toNat = (i 1).val * 512 + u.val := by
        show ((BitVec.ofNat 32 (i 1).val * 512#32) + BitVec.ofNat 32 u.val).toNat = _
        simp only [BitVec.toNat_add, BitVec.toNat_mul, BitVec.toNat_ofNat]
        omega
      rw [BitVec.toInt_eq_toNat_of_lt (by rw [this]; omega), this]; push_cast; rfl
    show BitVec.ofBool (BitVec.sle _ _) = _
    rw [BitVec.sle_eq_decide, hx k, hx q]
    congr 2
    exact propext ⟨fun h => by omega, fun h => by omega⟩
  have eI : ∀ (d : Fin 2) (h) (y : S512x512.Idx), iota .tc S512x512 32 [d] h y = BitVec.ofNat 32 (y d).val := fun d h y => by
    unfold iota; simp
  show Ideal.exp2 ((Scalar.select (Scalar.cmpi .sle (Scalar.addi (Scalar.muli (BitVec.ofNat 32 (i 1).val) 512#32) (iota .tc S512x512 32 [0] iota_S512x512_d0_w32 (ix2 k q)))
      (Scalar.addi (Scalar.muli (BitVec.ofNat 32 (i 1).val) 512#32) (iota .tc S512x512 32 [1] iota_S512x512_d1_w32 (ix2 k q))))
      (FloatOps.matmul (DotDims.transposedRhs 512 128 512) none (k0_pay75 (F := Ideal) v4) (k0_pay79 (F := Ideal) v19) (constant S512x512 .f32 0x00000000#32) (ix2 k q) : EReal)
      (Ideal.ofBits .f32 0xFF800000#32))
    - broadcastTo S512x512 (subf (shapeCast S1x512 vl shapeCasts_S1x1x1x512_S1x512)
      (broadcast S1x512 (Named.named (F := Ideal) κ "l2l2" (φ := .f32) 0xBF075D3C#32))) broadcasts_S1x512_S512x512 (ix2 k q)) = _
  rw [hb, eI, eI]
  unfold k0_pay75 k0_pay79
  rw [shapeCast_self, shapeCast_self, mmT h4 hq k q]
  show Ideal.exp2 ((Scalar.select (Scalar.cmpi .sle (Scalar.addi (Scalar.muli (BitVec.ofNat 32 (i 1).val) 512#32) (BitVec.ofNat 32 k.val))
      (Scalar.addi (Scalar.muli (BitVec.ofNat 32 (i 1).val) 512#32) (BitVec.ofNat 32 q.val))) _ _) - _) = _
  rw [hm]; beta_reduce
  by_cases h : k.val ≤ q.val
  · rw [if_pos h, decide_eq_true h]
    show Ideal.exp2 (((∑ d ∈ range 128, K k.val d * Q q.val d : ℝ) : EReal) - ((L q.val - l2l2 : ℝ) : EReal)) = _
    rw [← EReal.coe_sub, Ideal.exp2_coe]; rfl
  · rw [if_neg h, decide_eq_false h]
    show Ideal.exp2 (Ideal.ofBits .f32 0xFF800000#32 - _) = _
    rw [show Ideal.ofBits .f32 0xFF800000#32 = ⊥ from by simp [Ideal.ofBits, Ideal.ieee], EReal.bot_sub]
    rfl

/-- The gradient of the scores. -/
theorem pay82 {p : FVec Ideal S512x512 .f32} {P : ℕ → ℕ → ℝ} (h6 : Is2 v6 V) (hd : Is2 v22 D) (hp : Is2 p P) (hΔ : IsRow vd Δ) :
    Is2 (k0_pay82 v6 v22 p vd) (fun k q => P k q * (∑ d ∈ range 128, V k d * D q d - Δ q)) := fun k q => by
  show (p (ix2 k q) : EReal) * ((FloatOps.matmul (DotDims.transposedRhs 512 128 512) none v6 v22 (constant S512x512 .f32 0x00000000#32) (ix2 k q) : EReal)
    - broadcastTo S512x512 (shapeCast S1x512 vd shapeCasts_S1x1x1x512_S1x512) broadcasts_S1x512_S512x512 (ix2 k q)) = _
  rw [spread hΔ, mmT h6 hd k q, hp k q, ← EReal.coe_sub, ← EReal.coe_mul]

theorem pay83 {p : FVec Ideal S512x512 .f32} {P A : ℕ → ℕ → ℝ} {a : FVec Ideal S512x128 .f32} (ha : Is2 a A) (hd : Is2 v22 D) (hp : Is2 p P) :
    Is2 (k0_pay83 a v22 p) (fun k d => A k d + ∑ q ∈ range 512, P k q * D q d) := fun k d => by
  have hp' : Is2 (m := 512) (n := 512) (truncf .bf16 p bitsLt_bf16_f32) P := hp
  show (a (ix2 k d) : EReal) + FloatOps.matmul (DotDims.plain 512 512 128) none (truncf .bf16 p bitsLt_bf16_f32) v22 (constant S512x128 .f32 0x00000000#32) (ix2 k d) = _
  rw [mmP hp' hd k d, ha k d, ← EReal.coe_add]

theorem pay84 {p : FVec Ideal S512x512 .f32} {P A : ℕ → ℕ → ℝ} {a : FVec Ideal S512x128 .f32} (ha : Is2 a A) (h6 : Is2 v6 V) (hq : Is2 v19 Q)
    (hd : Is2 v22 D) (hp : Is2 p P) (hΔ : IsRow vd Δ) :
    Is2 (k0_pay84 v6 a v19 v22 p vd) (fun k d => A k d + ∑ q ∈ range 512, (P k q * (∑ d ∈ range 128, V k d * D q d - Δ q)) * Q q d) := fun k d => by
  have hp' : Is2 (m := 512) (n := 512) (truncf .bf16 (k0_pay82 v6 v22 p vd) bitsLt_bf16_f32) _ := pay82 h6 hd hp hΔ
  show (a (ix2 k d) : EReal) + FloatOps.matmul (DotDims.plain 512 512 128) none (truncf .bf16 (k0_pay82 v6 v22 p vd) bitsLt_bf16_f32) v19 (constant S512x128 .f32 0x00000000#32) (ix2 k d) = _
  rw [mmP hp' hq k d, ha k d, ← EReal.coe_add]

theorem pay77 (h4 : Is2 v4 K) : Is2 (m := 128) (n := 512) (k0_pay77 (F := Ideal) v4) (fun d k => K k d) := fun d k => by
  unfold k0_pay77
  show (transpose S128x512 [1, 0] (extf (F := Ideal) .f32 (k0_pay75 v4) bitsLt_bf16_f32) transposes_S512x128_p1_0_S128x512 (ix2 d k) : EReal) = _
  rw [transpose_ix2_apply]
  show (k0_pay75 (F := Ideal) v4 (ix2 k d) : EReal) = _
  unfold k0_pay75
  rw [shapeCast_self]; exact h4 k d

theorem pay85 {p : FVec Ideal S512x512 .f32} {P G : ℕ → ℕ → ℝ} {g : Vec Ideal S1x1x128x512 .f32} {v9 : FVec Ideal S128x512 .bf16}
    (h9 : Is2 v9 (fun d k => K k d)) (h6 : Is2 v6 V) (hd : Is2 v22 D) (hp : Is2 p P) (hΔ : IsRow vd Δ) (hg : IsSlot g G) :
    IsSlot (k0_pay85 v6 v9 v22 p vd g) (fun d q => G d q + ∑ k ∈ range 512, K k d * (P k q * (∑ d ∈ range 128, V k d * D q d - Δ q))) := fun d q => by
  have hp' : Is2 (m := 512) (n := 512) (truncf .bf16 (k0_pay82 v6 v22 p vd) bitsLt_bf16_f32) _ := pay82 h6 hd hp hΔ
  unfold k0_pay85
  dsimp only
  rw [shapeCast_apply _ shapeCasts_S128x512_S1x1x128x512 _ (ix2 d q)
    (by rw [Shape.rowMajor_val_four, Shape.rowMajor_val_two]; show d.val * 512 + q.val = ((0 * 1 + 0) * 128 + d.val) * 512 + q.val; omega)]
  show (shapeCast S128x512 g shapeCasts_S1x1x128x512_S128x512 (ix2 d q) : EReal)
    + FloatOps.matmul (DotDims.plain 128 512 512) none v9 (truncf .bf16 (k0_pay82 v6 v22 p vd) bitsLt_bf16_f32) (constant S128x512 .f32 0x00000000#32) (ix2 d q) = _
  rw [mmP h9 hp' d q, shapeCast_apply g _ _ (ix4 (0 : Fin 1) (0 : Fin 1) d q)
    (by rw [Shape.rowMajor_val_four, Shape.rowMajor_val_two]; show ((0 * 1 + 0) * 128 + d.val) * 512 + q.val = d.val * 512 + q.val; omega), hg d q, ← EReal.coe_add]

/-! ## The loop's operations are the diagonal's without the mask -/

theorem pay63_eq : k0_pay63 v4 v6 v19 v22 vl vd = k0_pay82 v6 v22 (k0_pay62 v4 v19 vl) vd := by
  unfold k0_pay63 k0_pay82 k0_pay61; rw [shapeCast_self]

theorem pay64_eq (a : FVec Ideal S512x128 .f32) : k0_pay64 v4 a v19 v22 vl = k0_pay83 a v22 (k0_pay62 v4 v19 vl) := by
  unfold k0_pay64 k0_pay83 k0_pay61; rw [shapeCast_self]

theorem pay65_eq (a : FVec Ideal S512x128 .f32) : k0_pay65 v4 v6 a v19 v22 vl vd = k0_pay84 v6 a v19 v22 (k0_pay62 v4 v19 vl) vd := by
  unfold k0_pay65 k0_pay84 k0_pay60; rw [shapeCast_self, pay63_eq]

theorem pay66_eq (v9 : FVec Ideal S128x512 .bf16) (g : Vec Ideal S1x1x128x512 .f32) :
    k0_pay94 (k0_pay66 v4 v6 v9 v19 v22 vl vd g) = k0_pay85 v6 v9 v22 (k0_pay62 v4 v19 vl) vd g := by
  unfold k0_pay94 k0_pay66 k0_pay85; rw [pay63_eq]

end Cert.AttnBwdIdeal.Own

end
-- ==== Proof.AttnKey.lean ====
/-
  One grid point of the attention gradient over real blocks: the key block's gradients are sums over every query row, and
  the query gradient gains the key block's part.
-/
module

public import proofs.«01_k».proof.Proof.AttnReal

@[expose] public section

set_option maxRecDepth 16384

noncomputable section

namespace Cert.AttnBwdIdeal.Own

open Idealize.ShloMosaic Idealize.ShloMosaic.TcCoe Idealize.ShloMosaic.ValueIdx
open Cert.AttnBwdIdeal Cert.AttnBwdIdeal.Gen
open scoped BigOperators
open Finset (range)

section Real
variable (X2 X3 X4 : ℕ → ℕ → ℝ) (X5 X6 : ℕ → ℝ) (j : ℕ)

/-- The probabilities, times log 2: key `k` of block `j` against query `r`, masked before the key. -/
def pR (k r : ℕ) : ℝ := if j * 512 + k ≤ r then Real.rpow 2 (∑ d ∈ range 128, X3 k d * X2 r d - (X5 r - l2l2)) else 0

/-- The gradient of the scores. -/
def dR (k r : ℕ) : ℝ := pR X2 X3 X5 j k r * (∑ d ∈ range 128, X3 k (128 + d) * X4 r d - X6 r)

theorem pR_zero (k r : ℕ) (h : r < j * 512) : pR X2 X3 X5 j k r = 0 := if_neg (by omega)

theorem dR_zero (k r : ℕ) (h : r < j * 512) : dR X2 X3 X4 X5 X6 j k r = 0 := by rw [dR, pR_zero _ _ _ _ _ _ h, zero_mul]

/-- A block of 512 more rows. -/
theorem sum_block (f : ℕ → ℝ) (s : ℕ) : ∑ r ∈ range ((s + 1) * 512), f r = ∑ r ∈ range (s * 512), f r + ∑ q ∈ range 512, f (s * 512 + q) := by
  rw [show (s + 1) * 512 = s * 512 + 512 from by ring, Finset.sum_range_add]

/-- The first block that counts. -/
theorem sum_first (f : ℕ → ℝ) (s : ℕ) (h : ∀ r, r < s * 512 → f r = 0) : ∑ r ∈ range ((s + 1) * 512), f r = ∑ q ∈ range 512, f (s * 512 + q) := by
  rw [sum_block, Finset.sum_eq_zero (fun r hr => h r (Finset.mem_range.mp hr)), zero_add]

end Real

variable {X2 X3 X4 : ℕ → ℕ → ℝ} {X5 X6 : ℕ → ℝ}
  {x2 : Vec Ideal S8192x128 .bf16} {x3 : Vec Ideal S512x256 .bf16} {x4 : Vec Ideal S8192x128 .bf16} {x5 x6 : Vec Ideal S1x16x8x512 .f32}

/-! ## Windows -/

theorem rows_is (h : Is2 (m := 8192) (n := 128) x2 X2) (s : ℕ) (hs : s < 16) : Is2 (m := 512) (n := 128) (rows x2 s) (fun q d => X2 (s * 512 + q) d) := fun q d => by
  have hq := q.isLt
  refine Eq.trans (congrArg x2 (funext fun a => Fin.ext ?_)) (h ⟨s * 512 + q.val, by omega⟩ d)
  match a with
  | 0 => show (s % 16) * 512 + 1 * q.val = s * 512 + q.val; rw [Nat.mod_eq_of_lt hs, one_mul]
  | 1 => show 0 + 1 * d.val = d.val; omega

theorem keys_is (h : Is2 (m := 512) (n := 256) x3 X3) : Is2 (m := 512) (n := 128) (keys x3) X3 := fun q d => by
  have hd := d.isLt
  refine Eq.trans (congrArg x3 (funext fun a => Fin.ext ?_)) (h q ⟨d.val, by omega⟩)
  match a with
  | 0 => show 0 + 1 * q.val = q.val; omega
  | 1 => show 0 + 1 * d.val = d.val; omega

theorem vals_is (h : Is2 (m := 512) (n := 256) x3 X3) : Is2 (m := 512) (n := 128) (vals x3) (fun k d => X3 k (128 + d)) := fun q d => by
  have hd := d.isLt
  refine Eq.trans (congrArg x3 (funext fun a => Fin.ext ?_)) (h q ⟨128 + d.val, by omega⟩)
  match a with
  | 0 => show 0 + 1 * q.val = q.val; omega
  | 1 => show 128 + 1 * d.val = 128 + d.val; omega

theorem line_is (h : IsL x5 X5) (s : ℕ) (hs : s < 16) : IsRow (line x5 s) (fun q => X5 (s * 512 + q)) := fun q => by
  refine Eq.trans (congrArg x5 (funext fun a => Fin.ext ?_)) (h ⟨s, hs⟩ q)
  match a with
  | 0 => rfl
  | 1 => show s % 16 + 1 * 0 = s; omega
  | 2 => rfl
  | 3 => show 0 + 1 * q.val = q.val; omega

theorem slot_is {g : Vec Ideal S1x16x128x512 .f32} {G : ℕ → ℕ → ℕ → ℝ} (h : IsG g G) (s : ℕ) (hs : s < 16) : IsSlot (slot g s) (G s) := fun d q => by
  refine Eq.trans (congrArg g (funext fun a => Fin.ext ?_)) (h ⟨s, hs⟩ d q)
  match a with
  | 0 => rfl
  | 1 => show s % 16 + 1 * 0 = s; omega
  | 2 => show 0 + 1 * d.val = d.val; omega
  | 3 => show 0 + 1 * q.val = q.val; omega

/-- A store into one slot. -/
theorem put_is {g : Vec Ideal S1x16x128x512 .f32} {G : ℕ → ℕ → ℕ → ℝ} (h : IsG g G) (s s' : ℕ) (e : s' = s) (hs : s < 16)
    {w : Vec Ideal S1x1x128x512 .f32} {W : ℕ → ℕ → ℝ} (hw : IsSlot w W) :
    IsG (VecWindow.put g ![0, s', 0, 0] S1x1x128x512.size w) (fun u d q => if u = s then W d q else G u d q) := fun u d q => by
  subst e
  unfold VecWindow.put
  by_cases hu : u.val = s'
  · rw [dif_pos (fun a => by
      match a with
      | 0 => exact ⟨Nat.zero_le _, by show 0 < 0 + 1; omega⟩
      | 1 => exact ⟨le_of_eq hu.symm, by show u.val < s' + 1; omega⟩
      | 2 => exact ⟨Nat.zero_le _, by show d.val < 0 + 128; have := d.isLt; omega⟩
      | 3 => exact ⟨Nat.zero_le _, by show q.val < 0 + 512; have := q.isLt; omega⟩)]
    beta_reduce
    rw [if_pos hu]
    refine Eq.trans (congrArg w (funext fun a => Fin.ext ?_)) (hw d q)
    match a with
    | 0 => rfl
    | 1 => show u.val - s' = 0; omega
    | 2 => rfl
    | 3 => rfl
  · rw [dif_neg (fun h' => hu (by have h1 := h' 1; have h2 : s' ≤ u.val := h1.1; have h3 : u.val < s' + 1 := h1.2; omega))]
    beta_reduce
    rw [if_neg hu]
    exact h u d q

/-! ## The loop -/

section Key
variable (i : grid0.Coords) (h2 : Is2 (m := 8192) (n := 128) x2 X2) (h3 : Is2 (m := 512) (n := 256) x3 X3) (h4 : Is2 (m := 8192) (n := 128) x4 X4)
  (h5 : IsL x5 X5) (h6 : IsL x6 X6)
include h2 h3 h4 h5 h6

theorem k75 : k0_pay75 (keys x3) = keys x3 := by unfold k0_pay75; rw [shapeCast_self]
theorem k76 : k0_pay76 (vals x3) = vals x3 := by unfold k0_pay76; rw [shapeCast_self]
theorem k79 (v : Vec Ideal S512x128 .bf16) : k0_pay79 v = v := by unfold k0_pay79; rw [shapeCast_self]
theorem k80 (v : Vec Ideal S512x128 .bf16) : k0_pay80 v = v := by unfold k0_pay80; rw [shapeCast_self]

/-- The probabilities of a block past the diagonal. -/
theorem step_p (j s : ℕ) (hj : j < s) (hs : s < 16) :
    Is2 (m := 512) (n := 512) (k0_pay62 (keys x3) (rows x2 s) (line x5 s)) (fun k q => pR X2 X3 X5 j k (s * 512 + q)) :=
  (pay62 (keys_is h3) (rows_is h2 s hs) (line_is h5 s hs)).congr fun k q hk hq => by
    unfold pR prob
    rw [if_pos (by have : j * 512 + 512 ≤ s * 512 := by omega
                   omega)]

theorem diag_p : Is2 (m := 512) (n := 512) (diagP x2 x3 x5 i) (fun k q => pR X2 X3 X5 (i 1).val k ((i 1).val * 512 + q)) :=
  (pay81 i (keys_is h3) (rows_is h2 _ (i 1).isLt) (line_is h5 _ (i 1).isLt)).congr fun k q hk hq => by
    unfold pR prob
    by_cases h : k ≤ q
    · rw [if_pos h, if_pos (by omega)]
    · rw [if_neg h, if_neg (by omega)]

theorem zero_is : Is2 (m := 512) (n := 128) (k0_pay78 (F := Ideal)) (fun _ _ => 0) := fun k d => by
  show Ideal.ofBits .f32 0x00000000#32 = _
  rw [Ideal.ofBits_zero_f32]; rfl

/-- The key gradient after `n` blocks past the diagonal. -/
theorem steps_is (n : ℕ) (hn : (i 1).val + 1 + n ≤ 16) :
    Is2 (m := 512) (n := 128) (stepsAcc (keys x3) (vals x3) x2 x4 x5 x6 ((i 1).val + 1) n (diagAcc x2 x3 x4 x5 x6 i)).1
        (fun k d => ∑ r ∈ range (((i 1).val + 1 + n) * 512), dR X2 X3 X4 X5 X6 (i 1).val k r * X2 r d)
      ∧ Is2 (m := 512) (n := 128) (stepsAcc (keys x3) (vals x3) x2 x4 x5 x6 ((i 1).val + 1) n (diagAcc x2 x3 x4 x5 x6 i)).2
        (fun k d => ∑ r ∈ range (((i 1).val + 1 + n) * 512), pR X2 X3 X5 (i 1).val k r * X4 r d) := by
  induction n with
  | zero =>
    have hi : (i 1).val < 16 := (i 1).isLt
    have hp := diag_p i h2 h3 h4 h5 h6
    refine ⟨?_, ?_⟩
    · show Is2 (m := 512) (n := 128) (k0_pay84 (k0_pay76 (vals x3)) k0_pay78 (k0_pay79 (rows x2 (i 1).val)) (k0_pay80 (rows x4 (i 1).val)) (diagP x2 x3 x5 i) (line x6 (i 1).val)) _
      rw [k76 h2 h3 h4 h5 h6, k79 h2 h3 h4 h5 h6, k80 h2 h3 h4 h5 h6]
      refine (pay84 (zero_is h2 h3 h4 h5 h6) (vals_is h3) (rows_is h2 _ hi) (rows_is h4 _ hi) hp (line_is h6 _ hi)).congr fun k d hk hd => ?_
      rw [zero_add, Nat.add_zero, sum_first _ _ fun r hr => by rw [dR_zero _ _ _ _ _ _ _ _ hr, zero_mul]]
      rfl
    · show Is2 (m := 512) (n := 128) (k0_pay83 k0_pay78 (k0_pay80 (rows x4 (i 1).val)) (diagP x2 x3 x5 i)) _
      rw [k80 h2 h3 h4 h5 h6]
      refine (pay83 (zero_is h2 h3 h4 h5 h6) (rows_is h4 _ hi) hp).congr fun k d hk hd => ?_
      rw [zero_add, Nat.add_zero, sum_first _ _ fun r hr => by rw [pR_zero _ _ _ _ _ _ hr, zero_mul]]
  | succ n ih =>
    obtain ⟨ih1, ih2⟩ := ih (by omega)
    have hs : (i 1).val + 1 + n < 16 := by omega
    have hp := step_p h2 h3 h4 h5 h6 (i 1).val ((i 1).val + 1 + n) (by omega) hs
    refine ⟨?_, ?_⟩
    · show Is2 (m := 512) (n := 128) (k0_pay65 (keys x3) (vals x3) (stepsAcc (keys x3) (vals x3) x2 x4 x5 x6 ((i 1).val + 1) n (diagAcc x2 x3 x4 x5 x6 i)).1
        (rows x2 ((i 1).val + 1 + n)) (rows x4 ((i 1).val + 1 + n)) (line x5 ((i 1).val + 1 + n)) (line x6 ((i 1).val + 1 + n))) _
      rw [pay65_eq]
      refine (pay84 ih1 (vals_is h3) (rows_is h2 _ hs) (rows_is h4 _ hs) hp (line_is h6 _ hs)).congr fun k d hk hd => ?_
      rw [show (i 1).val + 1 + (n + 1) = ((i 1).val + 1 + n) + 1 from rfl, sum_block]
      rfl
    · show Is2 (m := 512) (n := 128) (k0_pay64 (keys x3) (stepsAcc (keys x3) (vals x3) x2 x4 x5 x6 ((i 1).val + 1) n (diagAcc x2 x3 x4 x5 x6 i)).2
        (rows x2 ((i 1).val + 1 + n)) (rows x4 ((i 1).val + 1 + n)) (line x5 ((i 1).val + 1 + n))) _
      rw [pay64_eq]
      refine (pay83 ih2 (rows_is h4 _ hs) hp).congr fun k d hk hd => ?_
      rw [show (i 1).val + 1 + (n + 1) = ((i 1).val + 1 + n) + 1 from rfl, sum_block]

/-- The key block's gradients. -/
theorem keyAcc_is : Is2 (m := 512) (n := 128) (keyAcc x2 x3 x4 x5 x6 i).1 (fun k d => ∑ r ∈ range 8192, dR X2 X3 X4 X5 X6 (i 1).val k r * X2 r d)
    ∧ Is2 (m := 512) (n := 128) (keyAcc x2 x3 x4 x5 x6 i).2 (fun k d => ∑ r ∈ range 8192, pR X2 X3 X5 (i 1).val k r * X4 r d) := by
  have hi : (i 1).val < 16 := (i 1).isLt
  have := steps_is i h2 h3 h4 h5 h6 (15 - (i 1).val) (by omega)
  rw [show ((i 1).val + 1 + (15 - (i 1).val)) * 512 = 8192 from by omega] at this
  unfold keyAcc
  rw [k75 h2 h3 h4 h5 h6, k76 h2 h3 h4 h5 h6]
  exact this

/-- The query gradient after `n` blocks past the diagonal. -/
theorem stepsG_is {g : Vec Ideal S1x16x128x512 .f32} {G : ℕ → ℕ → ℕ → ℝ} (hg : IsG g G) (n : ℕ) (hn : (i 1).val + 1 + n ≤ 16) :
    IsG (stepsG (keys x3) (vals x3) (k0_pay77 (keys x3)) x2 x4 x5 x6 ((i 1).val + 1) n (diagG x2 x3 x4 x5 x6 i g))
      (fun s d q => G s d q + if s ≤ (i 1).val + n then ∑ k ∈ range 512, X3 k d * dR X2 X3 X4 X5 X6 (i 1).val k (s * 512 + q) else 0) := by
  induction n with
  | zero =>
    have hi : (i 1).val < 16 := (i 1).isLt
    have hp := diag_p i h2 h3 h4 h5 h6
    show IsG (VecWindow.put g ![0, (i 1).val, 0, 0] S1x1x128x512.size
      (k0_pay85 (k0_pay76 (vals x3)) (k0_pay77 (keys x3)) (k0_pay80 (rows x4 (i 1).val)) (diagP x2 x3 x5 i) (line x6 (i 1).val) (slot g (i 1).val))) _
    rw [k76 h2 h3 h4 h5 h6, k80 h2 h3 h4 h5 h6]
    have := put_is hg _ _ rfl hi (pay85 (pay77 (keys_is h3)) (vals_is h3) (rows_is h4 _ hi) hp (line_is h6 _ hi) (slot_is hg _ hi))
    intro s d q
    refine (this s d q).trans (congrArg _ ?_)
    beta_reduce
    by_cases hs : s.val = (i 1).val
    · rw [if_pos hs, if_pos (by omega), hs]; rfl
    · rw [if_neg hs]
      by_cases hl : s.val ≤ (i 1).val + 0
      · rw [if_pos hl, Finset.sum_eq_zero (fun k _ => by rw [dR_zero _ _ _ _ _ _ _ _ (by have := q.isLt; omega), mul_zero]), add_zero]
      · rw [if_neg hl, add_zero]
  | succ n ih =>
    have ih' := ih (by omega)
    have hs : (i 1).val + 1 + n < 16 := by omega
    have hp := step_p h2 h3 h4 h5 h6 (i 1).val ((i 1).val + 1 + n) (by omega) hs
    show IsG (VecWindow.put _ ![0, ((i 1).val + 1 + n) % 16, 0, 0] S1x1x128x512.size
      (k0_pay94 (k0_pay66 (keys x3) (vals x3) (k0_pay77 (keys x3)) (rows x2 ((i 1).val + 1 + n)) (rows x4 ((i 1).val + 1 + n)) (line x5 ((i 1).val + 1 + n))
        (line x6 ((i 1).val + 1 + n)) (slot _ ((i 1).val + 1 + n))))) _
    rw [pay66_eq]
    have := put_is ih' _ _ (Nat.mod_eq_of_lt hs) hs (pay85 (pay77 (keys_is h3)) (vals_is h3) (rows_is h4 _ hs) hp (line_is h6 _ hs) (slot_is ih' _ hs))
    intro s d q
    refine (this s d q).trans (congrArg _ ?_)
    beta_reduce
    by_cases he : s.val = (i 1).val + 1 + n
    · rw [if_pos he, if_neg (by omega), if_pos (by omega), add_zero, he]; rfl
    · rw [if_neg he]
      by_cases hl : s.val ≤ (i 1).val + n
      · rw [if_pos hl, if_pos (by omega)]
      · rw [if_neg hl, if_neg (by omega)]

/-- The query gradient after the key block. -/
theorem keyG_is {g : Vec Ideal S1x16x128x512 .f32} {G : ℕ → ℕ → ℕ → ℝ} (hg : IsG g G) :
    IsG (keyG x2 x3 x4 x5 x6 i g) (fun s d q => G s d q + ∑ k ∈ range 512, X3 k d * dR X2 X3 X4 X5 X6 (i 1).val k (s * 512 + q)) := by
  have hi : (i 1).val < 16 := (i 1).isLt
  have := stepsG_is i h2 h3 h4 h5 h6 hg (15 - (i 1).val) (by omega)
  unfold keyG
  rw [k75 h2 h3 h4 h5 h6, k76 h2 h3 h4 h5 h6]
  intro s d q
  refine (this s d q).trans (congrArg _ ?_)
  beta_reduce
  rw [if_pos (by have := s.isLt; omega)]

/-- The key and value gradients the point stores. -/
theorem keyOut_is : Is2 (m := 512) (n := 256) (keyOut x2 x3 x4 x5 x6 i) (fun k d => if d < 128 then ∑ r ∈ range 8192, dR X2 X3 X4 X5 X6 (i 1).val k r * X2 r d
    else (∑ r ∈ range 8192, pR X2 X3 X5 (i 1).val k r * X4 r (d - 128)) * (Real.log 2)⁻¹) := fun k d => by
  obtain ⟨a1, a2⟩ := keyAcc_is i h2 h3 h4 h5 h6
  by_cases hd : d.val < 128
  · rw [keyOut_lo x2 x3 x4 x5 x6 i (ix2 k d) hd]; beta_reduce; rw [if_pos hd]
    exact a1 k ⟨d.val, hd⟩
  · rw [keyOut_hi x2 x3 x4 x5 x6 i (ix2 k d) (not_lt.mp hd)]; beta_reduce; rw [if_neg hd]
    show ((keyAcc x2 x3 x4 x5 x6 i).2 (ix2 k ⟨d.val - 128, _⟩) : EReal) * Named.named (F := Ideal) κ "log2e" (φ := .f32) 0x3FB8AA3B#32 = _
    rw [log2e_eq, a2 k ⟨d.val - 128, by have := d.isLt; omega⟩, ← EReal.coe_mul]

end Key

end Cert.AttnBwdIdeal.Own

end
-- ==== Proof.AttnGrid.lean ====
/-
  The attention gradient over the whole grid: from real arrays at the call's entry, the query gradient of a head adds up
  over the key blocks, and every key block stores its own key and value gradients.
-/
module

public import proofs.«01_k».proof.Proof.AttnKey

@[expose] public section

set_option maxRecDepth 16384

noncomputable section

namespace Cert.AttnBwdIdeal.Own

open Idealize.ShloMosaic Idealize.ShloMosaic.TcCoe Idealize.ShloMosaic.ValueIdx
open Idealize.SL Idealize.SL.Sem
open Cert.AttnBwdIdeal Cert.AttnBwdIdeal.Gen
open scoped BigOperators
open Finset (range)

/-- Which block each window is at: the head is the point's quotient by sixteen, the key block its remainder. -/
theorem idx : ∀ t : Fin grid0.N, (win0_0.index t 0 = 0 ∧ win0_0.index t 1 = t.val / 16)
    ∧ (win0_1.index t 0 = t.val % 16 ∧ win0_1.index t 1 = t.val / 16)
    ∧ (win0_2.index t 0 = 0 ∧ win0_2.index t 1 = t.val / 16)
    ∧ (win0_3.index t 0 = t.val / 16 ∧ win0_3.index t 1 = 0 ∧ win0_3.index t 2 = 0 ∧ win0_3.index t 3 = 0)
    ∧ (win0_4.index t 0 = t.val / 16 ∧ win0_4.index t 1 = 0 ∧ win0_4.index t 2 = 0 ∧ win0_4.index t 3 = 0)
    ∧ (win0_5.index t 0 = t.val / 16 ∧ win0_5.index t 1 = 0 ∧ win0_5.index t 2 = 0 ∧ win0_5.index t 3 = 0)
    ∧ (win0_6.index t 0 = t.val % 16 ∧ win0_6.index t 1 = t.val / 16)
    ∧ (grid0.coords t 1).val = t.val % 16 := by decide +kernel

section Total
variable (Q2 KV DO LS DL : ℕ → ℕ → ℝ)

/-- The probability, times log 2, of head `h`'s key `K` for query `r`. -/
def pG (h K r : ℕ) : ℝ := if K ≤ r then Real.rpow 2 (∑ d ∈ range 128, KV K (256 * h + d) * Q2 r (128 * h + d) - (LS h r - l2l2)) else 0
/-- The score's gradient. -/
def dG (h K r : ℕ) : ℝ := pG Q2 KV LS h K r * (∑ d ∈ range 128, KV K (256 * h + 128 + d) * DO r (128 * h + d) - DL h r)
/-- The query gradient of head `h` from the first `n` keys. -/
def qG (n h r d : ℕ) : ℝ := ∑ K ∈ range n, KV K (256 * h + d) * dG Q2 KV DO LS DL h K r
/-- The key and the value gradient of head `h`, side by side. -/
def kvG (K h d : ℕ) : ℝ := if d < 128 then ∑ r ∈ range 8192, dG Q2 KV DO LS DL h K r * Q2 r (128 * h + d)
  else (∑ r ∈ range 8192, pG Q2 KV LS h K r * DO r (128 * h + (d - 128))) * (Real.log 2)⁻¹

end Total

theorem lt128 (t : Fin cfg0.N) : t.val < 128 := t.isLt.trans_eq N_0

variable (m : (ℓ : Loc nD τ sig) → Buf (Elt Ideal) ℓ) (c : Dev nD) (Q2 KV DO LS DL : ℕ → ℕ → ℝ)

/-- The call's arrays are real. -/
structure Arrs : Prop where
  q : ∀ i : S8192x1024.Idx, (V m c main_v7 : S8192x1024.Idx → EReal) i = (Q2 (i 0).val (i 1).val : EReal)
  kv : ∀ i : S8192x2048.Idx, (V m c main_v12 : S8192x2048.Idx → EReal) i = (KV (i 0).val (i 1).val : EReal)
  dy : ∀ i : S8192x1024.Idx, (V m c main_v52 : S8192x1024.Idx → EReal) i = (DO (i 0).val (i 1).val : EReal)
  ls : ∀ (h : Fin 8) (s : Fin 16) (e : Fin 8) (q : Fin 512), (V m c main_v43 : S8x16x8x512.Idx → EReal) (ix4 h s e q) = (LS h.val (s.val * 512 + q.val) : EReal)
  dl : ∀ (h : Fin 8) (s : Fin 16) (e : Fin 8) (q : Fin 512), (V m c main_v49 : S8x16x8x512.Idx → EReal) (ix4 h s e q) = (DL h.val (s.val * 512 + q.val) : EReal)

variable {m c Q2 KV DO LS DL} (A : Arrs m c Q2 KV DO LS DL) (t : Fin cfg0.N)

include A

theorem b0 : Is2 (m := 8192) (n := 128) (iblk m c 0 t : Vec Ideal S8192x128 .bf16) (fun r d => Q2 r (128 * (t.val / 16) + d)) := fun r d => by
  refine (View.read_apply _ _).trans ((A.q _).trans (congrArg _ (congr (congrArg Q2 ?_) ?_)))
  · show win0_0.index t 0 * 8192 + 1 * r.val = _; rw [(idx t).1.1]; omega
  · show win0_0.index t 1 * 128 + 1 * d.val = _; rw [(idx t).1.2]; omega

theorem b1 : Is2 (m := 512) (n := 256) (iblk m c 1 t : Vec Ideal S512x256 .bf16) (fun k d => KV (t.val % 16 * 512 + k) (256 * (t.val / 16) + d)) := fun k d => by
  refine (View.read_apply _ _).trans ((A.kv _).trans (congrArg _ (congr (congrArg KV ?_) ?_)))
  · show win0_1.index t 0 * 512 + 1 * k.val = _; rw [(idx t).2.1.1]; omega
  · show win0_1.index t 1 * 256 + 1 * d.val = _; rw [(idx t).2.1.2]; omega

theorem b2 : Is2 (m := 8192) (n := 128) (iblk m c 2 t : Vec Ideal S8192x128 .bf16) (fun r d => DO r (128 * (t.val / 16) + d)) := fun r d => by
  refine (View.read_apply _ _).trans ((A.dy _).trans (congrArg _ (congr (congrArg DO ?_) ?_)))
  · show win0_2.index t 0 * 8192 + 1 * r.val = _; rw [(idx t).2.2.1.1]; omega
  · show win0_2.index t 1 * 128 + 1 * d.val = _; rw [(idx t).2.2.1.2]; omega

omit A in
theorem blk3 (X : S8x16x8x512.Idx → EReal) (s : Fin 16) (q : Fin 512) (ht : t.val / 16 < 8) :
    (View.read (Elt Ideal) ((View.whole main_v43).slice (win0_3.rect t)) X : S1x16x8x512.Idx → EReal) (ix4 0 s 0 q) = X (ix4 ⟨t.val / 16, ht⟩ s 0 q) := by
  refine (View.read_apply _ _).trans ?_
  refine congrArg X (funext fun a => Fin.ext ?_)
  match a with
  | 0 => show win0_3.index t 0 * 1 + 1 * 0 = t.val / 16; rw [(idx t).2.2.2.1.1]; omega
  | 1 => show win0_3.index t 1 * 16 + 1 * s.val = s.val; rw [(idx t).2.2.2.1.2.1]; omega
  | 2 => show win0_3.index t 2 * 8 + 1 * 0 = 0; rw [(idx t).2.2.2.1.2.2.1]
  | 3 => show win0_3.index t 3 * 512 + 1 * q.val = q.val; rw [(idx t).2.2.2.1.2.2.2]; omega

theorem b3 : IsL (iblk m c 3 t : Vec Ideal S1x16x8x512 .f32) (fun r => LS (t.val / 16) r) := fun s q => by
  have ht : t.val / 16 < 8 := by have := lt128 t; omega
  have h : (iblk m c 3 t : Vec Ideal S1x16x8x512 .f32) = View.read (Elt Ideal) ((View.whole main_v43).slice (win0_3.rect t)) (V m c main_v43) := rfl
  rw [h]
  exact (blk3 t (V m c main_v43) s q ht).trans (A.ls ⟨t.val / 16, ht⟩ s 0 q)

omit A in
theorem blk4 (X : S8x16x8x512.Idx → EReal) (s : Fin 16) (q : Fin 512) (ht : t.val / 16 < 8) :
    (View.read (Elt Ideal) ((View.whole main_v49).slice (win0_4.rect t)) X : S1x16x8x512.Idx → EReal) (ix4 0 s 0 q) = X (ix4 ⟨t.val / 16, ht⟩ s 0 q) := by
  refine (View.read_apply _ _).trans ?_
  refine congrArg X (funext fun a => Fin.ext ?_)
  match a with
  | 0 => show win0_4.index t 0 * 1 + 1 * 0 = t.val / 16; rw [(idx t).2.2.2.2.1.1]; omega
  | 1 => show win0_4.index t 1 * 16 + 1 * s.val = s.val; rw [(idx t).2.2.2.2.1.2.1]; omega
  | 2 => show win0_4.index t 2 * 8 + 1 * 0 = 0; rw [(idx t).2.2.2.2.1.2.2.1]
  | 3 => show win0_4.index t 3 * 512 + 1 * q.val = q.val; rw [(idx t).2.2.2.2.1.2.2.2]; omega

theorem b4 : IsL (iblk m c 4 t : Vec Ideal S1x16x8x512 .f32) (fun r => DL (t.val / 16) r) := fun s q => by
  have ht : t.val / 16 < 8 := by have := lt128 t; omega
  have h : (iblk m c 4 t : Vec Ideal S1x16x8x512 .f32) = View.read (Elt Ideal) ((View.whole main_v49).slice (win0_4.rect t)) (V m c main_v49) := rfl
  rw [h]
  exact (blk4 t (V m c main_v49) s q ht).trans (A.dl ⟨t.val / 16, ht⟩ s 0 q)

omit A in
theorem dR_glob (h j k r : ℕ) : dR (fun r d => Q2 r (128 * h + d)) (fun k d => KV (j * 512 + k) (256 * h + d)) (fun r d => DO r (128 * h + d))
    (fun r => LS h r) (fun r => DL h r) j k r = dG Q2 KV DO LS DL h (j * 512 + k) r := by
  unfold dR pR dG pG; simp only [Nat.add_assoc]

omit A in
theorem pR_glob (h j k r : ℕ) : pR (fun r d => Q2 r (128 * h + d)) (fun k d => KV (j * 512 + k) (256 * h + d)) (fun r => LS h r) j k r
    = pG Q2 KV LS h (j * 512 + k) r := rfl

/-- A point adds its key block's part to the query gradient. -/
theorem keyG_glob {g : Vec Ideal S1x16x128x512 .f32} (hg : IsG g (fun s d q => qG Q2 KV DO LS DL (t.val % 16 * 512) (t.val / 16) (s * 512 + q) d)) :
    IsG (keyG (iblk m c 0 t) (iblk m c 1 t) (iblk m c 2 t) (iblk m c 3 t) (iblk m c 4 t) (grid0.coords t) g)
      (fun s d q => qG Q2 KV DO LS DL ((t.val % 16 + 1) * 512) (t.val / 16) (s * 512 + q) d) := fun s d q => by
  refine (keyG_is (grid0.coords t) (b0 A t) (b1 A t) (b2 A t) (b3 A t) (b4 A t) hg s d q).trans (congrArg _ ?_)
  rw [(idx t).2.2.2.2.2.2.2]
  simp only [dR_glob]
  unfold qG
  rw [sum_block]

theorem outs5 : ∀ (n : ℕ) (t : Fin cfg0.N), t.val % 16 = n →
    IsG ((outsAt m c t.val t.isLt).1) (fun s d q => qG Q2 KV DO LS DL ((t.val % 16 + 1) * 512) (t.val / 16) (s * 512 + q) d)
  | 0, t, h0 => by
    rw [outsAt_A m c t h0]
    dsimp only
    rw [out7A_eq]
    refine keyG_glob A t fun s d q => ?_
    refine Eq.trans (b := Ideal.ofBits .f32 0x00000000#32) rfl (Ideal.ofBits_zero_f32.trans ?_)
    beta_reduce
    rw [h0, qG, Nat.zero_mul, Finset.sum_range_zero, EReal.coe_zero]
  | n + 1, t, h1 => by
    rw [outsAt_B m c t (by omega)]
    dsimp only
    rw [out7B_eq]
    refine keyG_glob A t fun s d q => ?_
    refine (outs5 n ⟨t.val - 1, Nat.lt_of_le_of_lt (Nat.sub_le _ _) t.isLt⟩ (by show (t.val - 1) % 16 = n; omega) s d q).trans (congrArg _ ?_)
    show qG Q2 KV DO LS DL (((t.val - 1) % 16 + 1) * 512) ((t.val - 1) / 16) _ _ = qG Q2 KV DO LS DL (t.val % 16 * 512) (t.val / 16) _ _
    rw [show (t.val - 1) % 16 + 1 = t.val % 16 by omega, show (t.val - 1) / 16 = t.val / 16 by omega]

theorem outs6 : Is2 (m := 512) (n := 256) ((outsAt m c t.val t.isLt).2) (fun k d => kvG Q2 KV DO LS DL (t.val % 16 * 512 + k) (t.val / 16) d) := by
  have key : Is2 (m := 512) (n := 256) (keyOut (iblk m c 0 t) (iblk m c 1 t) (iblk m c 2 t) (iblk m c 3 t) (iblk m c 4 t) (grid0.coords t))
      (fun k d => kvG Q2 KV DO LS DL (t.val % 16 * 512 + k) (t.val / 16) d) :=
    (keyOut_is (grid0.coords t) (b0 A t) (b1 A t) (b2 A t) (b3 A t) (b4 A t)).congr fun k d _ _ => by
      rw [(idx t).2.2.2.2.2.2.2]
      simp only [dR_glob, pR_glob]
      rfl
  by_cases h0 : t.val % 16 = 0
  · rw [outsAt_A m c t h0]
    dsimp only
    rw [out8A_eq]
    exact key
  · rw [outsAt_B m c t h0]
    dsimp only
    rw [out8B_eq]
    exact key

/-- The query gradient's array at the end. -/
theorem final5 : (dats m 0 c).arrAt 5 cfg0.N = fun i : S8x16x128x512.Idx =>
    (qG Q2 KV DO LS DL 8192 (i 0).val ((i 1).val * 512 + (i 3).val) (i 2).val : EReal) := by
  refine (dats m 0 c).arrAt_eq_of_cover 5 _ (fun t ht => ?_) fun (i : S8x16x128x512.Idx) => ?_
  · show (cfg0.win 5).cut (grid0.coords t) ((dats m 0 c).after 5 t) = _
    have h15 := (flush0_5 t).mp ht
    rw [after_5]
    refine funext fun (y : S1x16x128x512.Idx) => Eq.trans ?_ (View.read_apply _ _).symm
    obtain ⟨a, s, d, q, rfl⟩ : ∃ a s d q, y = ix4 a s d q := ⟨y 0, y 1, y 2, y 3, by ext a; fin_cases a <;> rfl⟩
    obtain rfl : a = 0 := Fin.ext (by have := a.isLt; omega)
    refine (outs5 A _ t rfl s d q).trans (congrArg _ ?_)
    show qG Q2 KV DO LS DL _ _ _ _ = qG Q2 KV DO LS DL 8192 (win0_5.index t 0 * 1 + 1 * 0) ((win0_5.index t 1 * 16 + 1 * s.val) * 512 + (win0_5.index t 3 * 512 + 1 * q.val)) (win0_5.index t 2 * 128 + 1 * d.val)
    rw [(idx t).2.2.2.2.2.1.1, (idx t).2.2.2.2.2.1.2.1, (idx t).2.2.2.2.2.1.2.2.1, (idx t).2.2.2.2.2.1.2.2.2, h15]
    simp only [Nat.zero_mul, Nat.zero_add, Nat.one_mul, Nat.mul_one, Nat.add_zero, Nat.mul_zero]
  · have h0 : (i 0).val < 8 := (i 0).isLt
    have h1 : (i 1).val < 16 := (i 1).isLt
    have h2 : (i 2).val < 128 := (i 2).isLt
    have h3 : (i 3).val < 512 := (i 3).isLt
    obtain ⟨t, ht⟩ : ∃ t : Fin cfg0.N, t.val = 16 * (i 0).val + 15 := ⟨⟨16 * (i 0).val + 15, by
      rw [show cfg0.N = 128 from N_0]; omega⟩, rfl⟩
    refine ⟨t, (flush0_5 t).mpr (by omega), ?_⟩
    show i ∈ ((View.whole main_v53_0).slice (win0_5.rect t)).set
    rw [View.set_slice_whole, Rect.mem_set_unit]
    intro a
    match a with
    | 0 => show win0_5.index t 0 * 1 ≤ (i 0).val ∧ (i 0).val < win0_5.index t 0 * 1 + 1
           rw [(idx t).2.2.2.2.2.1.1, ht]; omega
    | 1 => show win0_5.index t 1 * 16 ≤ (i 1).val ∧ (i 1).val < win0_5.index t 1 * 16 + 16
           rw [(idx t).2.2.2.2.2.1.2.1]; omega
    | 2 => show win0_5.index t 2 * 128 ≤ (i 2).val ∧ (i 2).val < win0_5.index t 2 * 128 + 128
           rw [(idx t).2.2.2.2.2.1.2.2.1]; omega
    | 3 => show win0_5.index t 3 * 512 ≤ (i 3).val ∧ (i 3).val < win0_5.index t 3 * 512 + 512
           rw [(idx t).2.2.2.2.2.1.2.2.2]; omega

/-- The key and value gradients' array at the end. -/
theorem final6 : (dats m 0 c).arrAt 6 cfg0.N = fun i : S8192x2048.Idx =>
    (kvG Q2 KV DO LS DL (i 0).val ((i 1).val / 256) ((i 1).val % 256) : EReal) := by
  refine (dats m 0 c).arrAt_eq_of_cover 6 _ (fun t ht => ?_) fun (i : S8192x2048.Idx) => ?_
  · show (cfg0.win 6).cut (grid0.coords t) ((dats m 0 c).after 6 t) = _
    rw [after_6]
    refine funext fun (y : S512x256.Idx) => Eq.trans ?_ (View.read_apply _ _).symm
    obtain ⟨k, d, rfl⟩ : ∃ k d, y = ix2 k d := ⟨y 0, y 1, by ext a; fin_cases a <;> rfl⟩
    refine (outs6 A t k d).trans (congrArg _ ?_)
    show kvG Q2 KV DO LS DL _ _ _ = kvG Q2 KV DO LS DL (win0_6.index t 0 * 512 + 1 * k.val) ((win0_6.index t 1 * 256 + 1 * d.val) / 256) ((win0_6.index t 1 * 256 + 1 * d.val) % 256)
    have := d.isLt
    rw [(idx t).2.2.2.2.2.2.1.1, (idx t).2.2.2.2.2.2.1.2, Nat.one_mul, Nat.one_mul,
      show (t.val / 16 * 256 + d.val) / 256 = t.val / 16 by omega, show (t.val / 16 * 256 + d.val) % 256 = d.val by omega]
  · have h0 : (i 0).val < 8192 := (i 0).isLt
    have h1 : (i 1).val < 2048 := (i 1).isLt
    obtain ⟨t, ht⟩ : ∃ t : Fin cfg0.N, t.val = 16 * ((i 1).val / 256) + (i 0).val / 512 := ⟨⟨16 * ((i 1).val / 256) + (i 0).val / 512, by
      rw [show cfg0.N = 128 from N_0]; omega⟩, rfl⟩
    refine ⟨t, flush0_6 t, ?_⟩
    show i ∈ ((View.whole main_v53_1).slice (win0_6.rect t)).set
    rw [View.set_slice_whole, Rect.mem_set_unit]
    intro a
    match a with
    | 0 => show win0_6.index t 0 * 512 ≤ (i 0).val ∧ (i 0).val < win0_6.index t 0 * 512 + 512
           rw [(idx t).2.2.2.2.2.2.1.1, ht]; omega
    | 1 => show win0_6.index t 1 * 256 ≤ (i 1).val ∧ (i 1).val < win0_6.index t 1 * 256 + 256
           rw [(idx t).2.2.2.2.2.2.1.2, ht]; omega

end Cert.AttnBwdIdeal.Own

end
-- ==== Proof.AttnHost.lean ====
/-
  The arrays the attention gradient's call is given, as terms of the arguments.
-/
module

public import proofs.«01_k».proof.Proof.AttnGrid
public import Idealize.ShloMosaic.Lib.StableHlo.RunRead

@[expose] public section

set_option maxRecDepth 16384

noncomputable section

namespace Cert.AttnBwdIdeal.Own

open Idealize.ShloMosaic Idealize.ShloMosaic.TcCoe Idealize.ShloMosaic.ValueIdx Idealize.ShloMosaic.StableHlo
open Idealize.SL Idealize.SL.Sem
open Cert.AttnBwdIdeal Cert.AttnBwdIdeal.Gen
open scoped BigOperators

section Terms
variable (x0 x1 : FVec Ideal S8192x8x96 .f32) (x2 : FVec Ideal S8192x8x64 .f32) (x3 : FVec Ideal S8192x512 .f32)

/-- The logarithm of two, a scalar. -/
def hLog2 : FVec Ideal S_ .f32 := Host.log (constant S_ .f32 0x40000000#32)
/-- The queries, scaled and padded, two axes. -/
def hQ : FVec Ideal S8192x1024 .bf16 :=
  truncf .bf16 (shapeCast S8192x1024 (pad S8192x8x128 ![0, 0, 0] ![0, 0, 32] ![0, 0, 0]
    (mulf x0 (broadcastInDim S8192x8x96 ![] bcast_S_S8192x8x96 (Host.divf (constant S_ .f32 0x3DD105EC#32) hLog2)))
    (sitofp .f32 (constantI S_ 32 0#32)) pads_S8192x8x96_S8192x8x128_000_000_0320 h_S_) shapeCasts_S8192x8x128_S8192x1024) bitsLt_bf16_f32
/-- The keys, padded. -/
def hK : FVec Ideal S8192x8x128 .f32 :=
  pad S8192x8x128 ![0, 0, 0] ![0, 0, 32] ![0, 0, 0] x1 (sitofp .f32 (constantI S_ 32 0#32)) pads_S8192x8x96_S8192x8x128_000_000_0320 h_S_
/-- The values, padded. -/
def hV (x : FVec Ideal S8192x8x64 .f32) : FVec Ideal S8192x8x128 .f32 :=
  pad S8192x8x128 ![0, 0, 0] ![0, 0, 64] ![0, 0, 0] x (sitofp .f32 (constantI S_ 32 0#32)) pads_S8192x8x64_S8192x8x128_000_000_0640 h_S_
/-- Keys and values side by side, two axes. -/
def hKV (a b : FVec Ideal S8192x8x128 .f32) : FVec Ideal S8192x2048 .bf16 :=
  truncf .bf16 (shapeCast S8192x2048 (concatenate S8192x8x256 2 [⟨S8192x8x128, a⟩, ⟨S8192x8x128, b⟩] concatenates_S8192x8x128_S8192x8x128_S8192x8x256_d2) shapeCasts_S8192x8x256_S8192x2048) bitsLt_bf16_f32
/-- The masked scores. -/
def hS : FVec Ideal S8x8192x8192 .f32 :=
  select (broadcastInDim S8x8192x8192 ![0, 1, 2] bcast_S1x8192x8192_S8x8192x8192_0_1_2 (broadcastInDim S1x8192x8192 ![1, 2] bcast_S8192x8192_S1x8192x8192_1_2
      (cmpi .sle (broadcastInDim S8192x8192 ![0, 1] bcast_S1x8192_S8192x8192_0_1 (broadcastInDim S1x8192 ![1] bcast_S8192_S1x8192_1 (iotaInDim S8192 32 0)))
        (broadcastInDim S8192x8192 ![0, 1] bcast_S8192x1_S8192x8192_0_1 (broadcastInDim S8192x1 ![0] bcast_S8192_S8192x1_0 (iotaInDim S8192 32 0))))))
    (mulf (Host.dotGeneral dot_S8192x8x96_S8192x8x96_S8x8192x8192_2_2_0_0_1_1 none x0 x1) (broadcastInDim S8x8192x8192 ![] bcast_S_S8x8192x8192 (constant S_ .f32 0x3DD105EC#32)))
    (broadcastInDim S8x8192x8192 ![] bcast_S_S8x8192x8192 (constant S_ .f32 0xFF800000#32))
/-- The largest score of each query. -/
def hM : FVec Ideal S8x8192 .f32 := Host.reduce FloatOps.maximumf (hS x0 x1) (constant S_ .f32 0xFF800000#32) reducesTo_S8x8192x8192_S8x8192_d2 h_S_
/-- A value of each query, for every key. -/
def hB (x : FVec Ideal S8x8192 .f32) : FVec Ideal S8x8192x8192 .f32 :=
  broadcastInDim S8x8192x8192 ![0, 1, 2] bcast_S8x8192x1_S8x8192x8192_0_1_2 (broadcastInDim S8x8192x1 ![0, 1] bcast_S8x8192_S8x8192x1_0_1 x)
/-- The exponentials. -/
def hE : FVec Ideal S8x8192x8192 .f32 := Host.exp (subf (hS x0 x1) (hB (hM x0 x1)))
/-- Their sum. -/
def hL : FVec Ideal S8x8192 .f32 := Host.reduceAdd (hE x0 x1) (constant S_ .f32 0x00000000#32) reducesTo_S8x8192x8192_S8x8192_d2 h_S_
/-- The attention's output. -/
def hO : FVec Ideal S8192x8x64 .f32 :=
  transpose S8192x8x64 [2, 0, 1] (Host.dotGeneral dot_S8192x8x64_S8x8192x8192_S8x64x8192_0_2_2_1_1_0 none x2 (Host.divf (hE x0 x1) (hB (hL x0 x1)))) transposes_S8x64x8192_S8192x8x64_2_0_1
/-- A value of each query, laid out for the call. -/
def hR (x : FVec Ideal S8x8192 .f32) : FVec Ideal S8x16x8x512 .f32 :=
  broadcastInDim S8x16x8x512 ![0, 1, 2, 3] bcast_S8x16x1x512_S8x16x8x512_0_1_2_3 (shapeCast S8x16x1x512 x shapeCasts_S8x8192_S8x16x1x512)
/-- The logarithm of the sum of the exponentials, base two. -/
def hLse : FVec Ideal S8x16x8x512 .f32 :=
  hR (Host.divf (addf (hM x0 x1) (Host.log (hL x0 x1))) (broadcastInDim S8x8192 ![] bcast_S_S8x8192 hLog2))
/-- The cotangent by head. -/
def hD : FVec Ideal S8192x8x64 .f32 := shapeCast S8192x8x64 x3 shapeCasts_S8192x512_S8192x8x64
/-- The products of output and cotangent, summed. -/
def hDelta : FVec Ideal S8x16x8x512 .f32 :=
  hR (transpose S8x8192 [1, 0] (Host.reduceAdd (mulf (hD x3) (hO x0 x1 x2)) (constant S_ .f32 0x00000000#32) reducesTo_S8192x8x64_S8192x8_d2 h_S_) transposes_S8192x8_S8x8192_1_0)
/-- The cotangent, padded, two axes. -/
def hDo : FVec Ideal S8192x1024 .bf16 := truncf .bf16 (shapeCast S8192x1024 (hV (hD x3)) shapeCasts_S8192x8x128_S8192x1024) bitsLt_bf16_f32

end Terms

variable (m : (ℓ : Loc nD τ sig) → Buf (Elt Ideal) ℓ) (c : Dev nD)

set_option maxHeartbeats 40000000

theorem V_q : (V m c main_v7 : FVec Ideal S8192x1024 .bf16) = hQ (m ((c.tc : Thread nD τ).loc main_arg0)) := by
  unfold V hostOps0 hostOps0_1 hostOps0_2 hostOps0_3 hostOps0_4 hostOps0_5 hostOps0_6 hostOps0_7 hostOps0_8 hostOps0_9 hostOps0_10
  simp only [List.flatten_cons, List.flatten_nil, List.cons_append, List.nil_append, List.append_nil, TRef.binary, TRef.nullary, TRef.ternary, TRef.unary, TRef.toBuf, TRef.ofBuf, cast_eq]
  after_results_simp <;> rfl

theorem V_lse : (V m c main_v43 : FVec Ideal S8x16x8x512 .f32) = hLse (m ((c.tc : Thread nD τ).loc main_arg0)) (m ((c.tc : Thread nD τ).loc main_arg1)) := by
  unfold V hostOps0 hostOps0_1 hostOps0_2 hostOps0_3 hostOps0_4 hostOps0_5 hostOps0_6 hostOps0_7 hostOps0_8 hostOps0_9 hostOps0_10
  simp only [List.flatten_cons, List.flatten_nil, List.cons_append, List.nil_append, List.append_nil, TRef.binary, TRef.nullary, TRef.ternary, TRef.unary, TRef.toBuf, TRef.ofBuf, cast_eq]
  after_results_simp <;> rfl

theorem V_do : (V m c main_v52 : FVec Ideal S8192x1024 .bf16) = hDo (m ((c.tc : Thread nD τ).loc main_arg3)) := by
  unfold V hostOps0 hostOps0_1 hostOps0_2 hostOps0_3 hostOps0_4 hostOps0_5 hostOps0_6 hostOps0_7 hostOps0_8 hostOps0_9 hostOps0_10
  simp only [List.flatten_cons, List.flatten_nil, List.cons_append, List.nil_append, List.append_nil, TRef.binary, TRef.nullary, TRef.ternary, TRef.unary, TRef.toBuf, TRef.ofBuf, cast_eq]
  after_results_simp <;> rfl

theorem V_delta : (V m c main_v49 : FVec Ideal S8x16x8x512 .f32) = hDelta (m ((c.tc : Thread nD τ).loc main_arg0)) (m ((c.tc : Thread nD τ).loc main_arg1))
    (m ((c.tc : Thread nD τ).loc main_arg2)) (m ((c.tc : Thread nD τ).loc main_arg3)) := by
  unfold V hostOps0 hostOps0_1 hostOps0_2 hostOps0_3 hostOps0_4 hostOps0_5 hostOps0_6 hostOps0_7 hostOps0_8 hostOps0_9 hostOps0_10
  simp only [List.flatten_cons, List.flatten_nil, List.cons_append, List.nil_append, List.append_nil, TRef.binary, TRef.nullary, TRef.ternary, TRef.unary, TRef.toBuf, TRef.ofBuf, cast_eq]
  after_results_simp <;> rfl

theorem V_k : (V m c main_v8 : FVec Ideal S8192x8x128 .f32) = hK (m ((c.tc : Thread nD τ).loc main_arg1)) := by
  unfold V hostOps0 hostOps0_1 hostOps0_2 hostOps0_3 hostOps0_4 hostOps0_5 hostOps0_6 hostOps0_7 hostOps0_8 hostOps0_9 hostOps0_10
  simp only [List.flatten_cons, List.flatten_nil, List.cons_append, List.nil_append, List.append_nil, TRef.binary, TRef.nullary, TRef.ternary, TRef.unary, TRef.toBuf, TRef.ofBuf, cast_eq]
  after_results_simp <;> rfl

theorem V_v : (V m c main_v9 : FVec Ideal S8192x8x128 .f32) = hV (m ((c.tc : Thread nD τ).loc main_arg2)) := by
  unfold V hostOps0 hostOps0_1 hostOps0_2 hostOps0_3 hostOps0_4 hostOps0_5 hostOps0_6 hostOps0_7 hostOps0_8 hostOps0_9 hostOps0_10
  simp only [List.flatten_cons, List.flatten_nil, List.cons_append, List.nil_append, List.append_nil, TRef.binary, TRef.nullary, TRef.ternary, TRef.unary, TRef.toBuf, TRef.ofBuf, cast_eq]
  after_results_simp <;> rfl

theorem V_kv : (V m c main_v12 : FVec Ideal S8192x2048 .bf16) = hKV (hK (m ((c.tc : Thread nD τ).loc main_arg1))) (hV (m ((c.tc : Thread nD τ).loc main_arg2))) := by
  rw [← V_k m c, ← V_v m c]
  unfold V hostOps0 hostOps0_1 hostOps0_2 hostOps0_3 hostOps0_4 hostOps0_5 hostOps0_6 hostOps0_7 hostOps0_8 hostOps0_9 hostOps0_10
  simp only [List.flatten_cons, List.flatten_nil, List.cons_append, List.nil_append, List.append_nil, TRef.binary, TRef.nullary, TRef.ternary, TRef.unary, TRef.toBuf, TRef.ofBuf, cast_eq]
  after_results_simp <;> rfl

end Cert.AttnBwdIdeal.Own

end
-- ==== Proof.AttnSoft.lean ====
/-
  The attention's gradient as the reference computes it, over the real numbers: every array of the reference, at finite
  arguments, is an array of real numbers given by the textbook's sums.
-/
module

public import proofs.«01_k».proof.Proof.Gen.AttnRefIdeal.Read
public import Idealize.ShloMosaic.Lib.WordCmp

@[expose] public section

set_option maxRecDepth 16384

noncomputable section

namespace Cert.AttnRefIdeal.Own

open Idealize.ShloMosaic Idealize.ShloMosaic.TcCoe Idealize.ShloMosaic.ValueIdx Idealize.ShloMosaic.StableHlo
open Cert.AttnRefIdeal Cert.AttnRefIdeal.Gen Cert.AttnRefIdeal.Read
open scoped BigOperators
open Finset (range)

/-! ## Operations on extended reals that are reals -/

/-- A sum over `n` places, each of them real. -/
theorem sum_real {n : ℕ} {f : Fin n → EReal} {g : ℕ → ℝ} (h : ∀ k, f k = (g k.val : EReal)) :
    ∑ k, f k = ((∑ k ∈ range n, g k : ℝ) : EReal) := by
  rw [Finset.sum_range, Finset.sum_congr rfl fun k _ => h k]
  have key : ∀ s : Finset (Fin n), ∑ k ∈ s, (g k.val : EReal) = ((∑ k ∈ s, g k.val : ℝ) : EReal) := fun s => by
    classical
    induction s using Finset.induction_on with
    | empty => simp
    | insert a s ha ih => rw [Finset.sum_insert ha, Finset.sum_insert ha, EReal.coe_add, ih]
  exact key _

section Scalars
variable {a b : EReal} {x y : ℝ}

/-- A product of reals is real. -/
theorem mul_real (ha : a = (x : EReal)) (hb : b = (y : EReal)) : FloatOps.mulf (F := Ideal) (φ := .f32) a b = ((x * y : ℝ) : EReal) := by
  subst ha hb; exact (EReal.coe_mul x y).symm
/-- A sum of reals is real. -/
theorem add_real (ha : a = (x : EReal)) (hb : b = (y : EReal)) : FloatOps.addf (F := Ideal) (φ := .f32) a b = ((x + y : ℝ) : EReal) := by
  subst ha hb; exact (EReal.coe_add x y).symm
/-- A quotient of reals by a divisor other than zero is real. -/
theorem div_real (ha : a = (x : EReal)) (hb : b = (y : EReal)) (hy : y ≠ 0) : FloatOps.hostDivf (F := Ideal) (φ := .f32) a b = ((x / y : ℝ) : EReal) := by
  subst ha hb
  show Ideal.div (x : EReal) (y : EReal) = _
  rw [Ideal.div_coe hy, ← EReal.coe_mul, mul_one_div]
/-- The opposite of a real is real. -/
theorem neg_real (ha : a = (x : EReal)) : FloatOps.hostNegf (F := Ideal) (φ := .f32) a = ((-x : ℝ) : EReal) := by
  subst ha; exact (EReal.coe_neg x).symm
/-- The logarithm of a positive real is real. -/
theorem log_real (ha : a = (x : EReal)) (hx : 0 < x) : FloatOps.hostUnary (F := Ideal) (φ := .f32) .log a = ((Real.log x : ℝ) : EReal) := by
  subst ha
  show Ideal.log (x : EReal) = _
  rw [Ideal.log_coe, if_neg (not_le.2 hx)]
/-- A choice by a decided condition. -/
theorem select_real {c : BitVec 1} {p : Prop} [Decidable p] (h : c = BitVec.ofBool (decide p)) : Scalar.select c a b = if p then a else b := by
  subst h
  by_cases hp : p <;> simp [Scalar.select, hp]

/-- The scale of the scores: one over the square root of the head's size, rounded. -/
def sg : ℝ := 13698540 / 134217728
theorem sg_eq : (FloatOps.ofBits (F := Ideal) .f32 0x3DD105EC#32 : EReal) = (sg : EReal) := by
  show Ideal.ofBits .f32 0x3DD105EC#32 = _
  unfold sg
  simp [Ideal.ofBits, Ideal.ieee]
  rw [← EReal.coe_mul]
  norm_num
theorem sg_ne : sg ≠ 0 := by unfold sg; norm_num
theorem log2_ne : Real.log 2 ≠ 0 := (Real.log_pos one_lt_two).ne'
theorem two_eq : (FloatOps.ofBits (F := Ideal) .f32 0x40000000#32 : EReal) = ((2 : ℝ) : EReal) := by
  show Ideal.ofBits .f32 0x40000000#32 = _
  simp [Ideal.ofBits, Ideal.ieee]
  rw [← EReal.coe_mul]
  norm_num
theorem one_eq : (FloatOps.ofBits (F := Ideal) .f32 0x3F800000#32 : EReal) = ((1 : ℝ) : EReal) := by
  show Ideal.ofBits .f32 0x3F800000#32 = _
  simp [Ideal.ofBits, Ideal.ieee]
  rw [← EReal.coe_mul]
  norm_num
theorem bot_eq : (FloatOps.ofBits (F := Ideal) .f32 0xFF800000#32 : EReal) = ⊥ := by
  show Ideal.ofBits .f32 0xFF800000#32 = _
  simp [Ideal.ofBits, Ideal.ieee]
theorem zero_eq : (FloatOps.ofBits (F := Ideal) .f32 0x00000000#32 : EReal) = ((0 : ℝ) : EReal) := by
  show Ideal.ofBits .f32 0x00000000#32 = _
  simp [Ideal.ofBits, Ideal.ieee]

end Scalars

/-! ## The attention over the reals -/

section Reals
variable (q k v w : ℕ → ℕ → ℕ → ℝ) (mu : ℕ → ℕ → ℝ)

/-- A score: query `r` against key `K` in head `h`. -/
def sc (h r K : ℕ) : ℝ := (∑ d ∈ range 96, q r h d * k K h d) * sg
/-- Its exponential, the row's largest score taken off; nothing at a later key. -/
def ex (h r K : ℕ) : ℝ := if K ≤ r then Real.exp (sc q k h r K - mu h r) else 0
/-- The row's sum of the exponentials. -/
def su (h r : ℕ) : ℝ := ∑ K ∈ range 8192, ex q k mu h r K
/-- The attention's weight. -/
def pr (h r K : ℕ) : ℝ := ex q k mu h r K / su q k mu h r
/-- The output. -/
def oo (r h d : ℕ) : ℝ := ∑ K ∈ range 8192, v K h d * pr q k mu h r K
/-- The weight's gradient. -/
def dP (h r K : ℕ) : ℝ := ∑ d ∈ range 64, w r h d * v K h d
/-- The row's sum of weight times the weight's gradient. -/
def de (h r : ℕ) : ℝ := ∑ K ∈ range 8192, pr q k mu h r K * dP v w h r K
/-- The gradient of the product of query and key. -/
def dS (h r K : ℕ) : ℝ := pr q k mu h r K * (dP v w h r K - de q k v w mu h r) * sg
/-- The queries' gradient. -/
def gq (r h d : ℕ) : ℝ := ∑ K ∈ range 8192, dS q k v w mu h r K * k K h d
/-- The keys' gradient. -/
def gk (K h d : ℕ) : ℝ := ∑ r ∈ range 8192, dS q k v w mu h r K * q r h d
/-- The values' gradient. -/
def gv (K h d : ℕ) : ℝ := ∑ r ∈ range 8192, w r h d * pr q k mu h r K

theorem ex_nonneg (h r K : ℕ) : 0 ≤ ex q k mu h r K := by
  unfold ex; split_ifs
  · exact (Real.exp_pos _).le
  · exact le_rfl

theorem su_pos (h r : ℕ) (hr : r < 8192) : 0 < su q k mu h r := by
  unfold su
  refine lt_of_lt_of_le ?_ (Finset.single_le_sum (f := fun K => ex q k mu h r K) (fun K _ => ex_nonneg q k mu h r K) (Finset.mem_range.2 hr))
  show 0 < ex q k mu h r r
  rw [ex, if_pos le_rfl]; exact Real.exp_pos _

/-- The textbook's gradient through the quotient is the weight times the centred gradient. -/
theorem soft_grad (h r K : ℕ) (hr : r < 8192) :
    (dP v w h r K / su q k mu h r + -∑ K' ∈ range 8192, dP v w h r K' * (1 / (su q k mu h r * su q k mu h r)) * ex q k mu h r K') * ex q k mu h r K
      = pr q k mu h r K * (dP v w h r K - de q k v w mu h r) := by
  have hs := (su_pos q k mu h r hr).ne'
  have e : ∑ K' ∈ range 8192, dP v w h r K' * (1 / (su q k mu h r * su q k mu h r)) * ex q k mu h r K' = de q k v w mu h r / su q k mu h r := by
    unfold de pr
    rw [Finset.sum_div]
    refine Finset.sum_congr rfl fun K' _ => ?_
    field_simp
  rw [e, pr]
  field_simp
  ring

end Reals

/-! ## The reference's arrays -/

section Reads
variable {x0 x1 : FVec Ideal S8192x8x96 .f32} {x2 : FVec Ideal S8192x8x64 .f32} {x3 : FVec Ideal S8192x512 .f32}
  {q k v w : ℕ → ℕ → ℕ → ℝ} {mu : ℕ → ℕ → ℝ}

/-- The four arguments are arrays of reals. -/
structure Ins (x0 x1 : FVec Ideal S8192x8x96 .f32) (x2 : FVec Ideal S8192x8x64 .f32) (x3 : FVec Ideal S8192x512 .f32)
    (q k v w : ℕ → ℕ → ℕ → ℝ) : Prop where
  q : ∀ i, x0 i = (q (i 0).val (i 1).val (i 2).val : EReal)
  k : ∀ i, x1 i = (k (i 0).val (i 1).val (i 2).val : EReal)
  v : ∀ i, x2 i = (v (i 0).val (i 1).val (i 2).val : EReal)
  w : ∀ i, x3 i = (w (i 0).val ((i 1).val / 64) ((i 1).val % 64) : EReal)

variable (I : Ins x0 x1 x2 x3 q k v w)
include I

theorem r2 (i : S8x8192x8192.Idx) : val_main_v2 (F := Ideal) x0 x1 i = (sc q k (i 0).val (i 1).val (i 2).val : EReal) := by
  rw [val_main_v2_apply]
  refine mul_real ?_ ((val_main_v1_apply i).trans sg_eq)
  rw [val_main_v0_apply]
  exact sum_real fun d => by rw [I.q, I.k, ← EReal.coe_mul]

omit I in
theorem r11_1 (i : S8x8192x8192.Idx) : val_main_v11_1 (F := Ideal) i = BitVec.ofBool (decide ((i 2).val ≤ (i 1).val)) := by
  rw [val_main_v11_1_apply, val_main_v10_apply, val_main_v9_apply, val_main_v7_apply, val_main_v8_apply, val_main_v4_apply, val_main_v6_apply,
    val_main_v3_apply, val_main_v5_apply]
  have h1 : (i 1).val < 8192 := (i 1).isLt
  have h2 : (i 2).val < 8192 := (i 2).isLt
  exact WordCmp.cmpi_sle_ofNat (w := 32) (a := (i 2).val) (b := (i 1).val) (by omega) (by omega)

theorem r11 (i : S8x8192x8192.Idx) : val_main_v11_0 (F := Ideal) x0 x1 i = if (i 2).val ≤ (i 1).val then (sc q k (i 0).val (i 1).val (i 2).val : EReal) else ⊥ := by
  rw [val_main_v11_0_apply, select_real (r11_1 i), r2 I]
  rw [val_main_call0_v2_apply, val_main_call0_v0_apply, val_main_cst_0_apply, bot_eq]

theorem r12_ne (i : S8x8192.Idx) : val_main_v12 (F := Ideal) x0 x1 i ≠ ⊤ ∧ val_main_v12 (F := Ideal) x0 x1 i ≠ ⊥ := by
  have hR : S8x8192x8192.Reduces [2] S8x8192 := by decide
  have hf := Host.reduce_eq_fold_single (FloatOps.maximumf (F := Ideal) (φ := .f32)) (val_main_v11_0 (F := Ideal) x0 x1) (val_main_cst_1 (F := Ideal))
    reducesTo_S8x8192x8192_S8x8192_d2 hR h_S_ i
  have e : val_main_v12 (F := Ideal) x0 x1 i = _ := hf
  rw [e]
  constructor
  · refine ne_of_lt ((Finset.fold_max_lt (c := (⊤ : EReal))).2 ⟨?_, fun K _ => ?_⟩)
    · rw [val_main_cst_1_apply, bot_eq]; exact bot_lt_top
    · show val_main_v11_0 (F := Ideal) x0 x1 _ < _
      rw [r11 I]
      split_ifs
      · exact EReal.coe_lt_top _
      · exact bot_lt_top
  · refine ne_of_gt ((Finset.lt_fold_max (c := (⊥ : EReal))).2 (Or.inr ⟨i 1, Finset.mem_univ _, ?_⟩))
    show _ < val_main_v11_0 (F := Ideal) x0 x1 _
    have el : hR.lift i (i 1) = ix3 (i 0) (i 1) (i 1) := funext fun a => Fin.ext (by match a with | ⟨0, _⟩ => rfl | ⟨1, _⟩ => rfl | ⟨2, _⟩ => rfl)
    exact lt_of_lt_of_eq (EReal.bot_lt_coe _) ((congrArg (val_main_v11_0 (F := Ideal) x0 x1) el).trans ((r11 I _).trans (if_pos (le_refl (i 1).val)))).symm

/-- The largest score of each row is real. -/
theorem mu_exists : ∃ mu : ℕ → ℕ → ℝ, ∀ i : S8x8192.Idx, val_main_v12 (F := Ideal) x0 x1 i = (mu (i 0).val (i 1).val : EReal) := by
  refine ⟨fun a b => if h : a < 8 ∧ b < 8192 then (val_main_v12 (F := Ideal) x0 x1 (ix2 ⟨a, h.1⟩ ⟨b, h.2⟩)).toReal else 0, fun i => ?_⟩
  have h0 : (i 0).val < 8 := (i 0).isLt
  have h1 : (i 1).val < 8192 := (i 1).isLt
  beta_reduce
  rw [dif_pos ⟨h0, h1⟩]
  have e : i = ix2 ⟨(i 0).val, h0⟩ ⟨(i 1).val, h1⟩ := funext fun a => Fin.ext (by match a with | ⟨0, _⟩ => rfl | ⟨1, _⟩ => rfl)
  have := r12_ne I i
  rw [← e, EReal.coe_toReal this.1 this.2]

omit I in
theorem r19 : val_main_v19 (F := Ideal) x0 x1 = val_main_v12 (F := Ideal) x0 x1 := funext fun i => by
  rw [val_main_v19_apply, val_main_v18_apply, val_main_cst_3_apply, bot_eq]
  exact max_eq_right bot_le

variable (hm : ∀ i : S8x8192.Idx, val_main_v12 (F := Ideal) x0 x1 i = (mu (i 0).val (i 1).val : EReal))
include hm

theorem r32 (i : S8x8192x8192.Idx) : val_main_v32 (F := Ideal) x0 x1 i = (ex q k mu (i 0).val (i 1).val (i 2).val : EReal) := by
  rw [val_main_v32_apply, val_main_v31_apply, r11 I, val_main_v30_apply, val_main_v29_apply, r19, hm]
  show Ideal.exp (_ - _) = _
  unfold ex
  split_ifs
  · exact (congrArg Ideal.exp (EReal.coe_sub _ _).symm).trans (Ideal.exp_coe _)
  · rw [EReal.bot_sub]; exact Ideal.exp_bot.trans EReal.coe_zero.symm

theorem r33 (i : S8x8192.Idx) : val_main_v33 (F := Ideal) x0 x1 i = (su q k mu (i 0).val (i 1).val : EReal) := by
  rw [val_main_v33_apply, val_main_cst_9_apply, zero_eq, EReal.coe_zero, zero_add]
  exact sum_real fun K => r32 I hm _

theorem r34 (i : S8x8192x1.Idx) : val_main_v34 (F := Ideal) x0 x1 i = (su q k mu (i 0).val (i 1).val : EReal) := by
  rw [val_main_v34_apply, r33 I hm]

omit I hm in
theorem s_ne (h : ℕ) (r : Fin 8192) : su q k mu h r.val ≠ 0 := (su_pos q k mu h r.val r.isLt).ne'

theorem r36 (i : S8x8192x8192.Idx) : val_main_v36 (F := Ideal) x0 x1 i = (pr q k mu (i 0).val (i 1).val (i 2).val : EReal) := by
  rw [val_main_v36_apply]
  refine div_real (r32 I hm i) ?_ (s_ne _ (i 1))
  rw [val_main_v35_apply, r34 I hm]

theorem r41 (i : S8192x8x64.Idx) : val_main_v41 (F := Ideal) x0 x1 x2 i = (oo q k v mu (i 0).val (i 1).val (i 2).val : EReal) := by
  rw [val_main_v41_apply, val_main_v40_apply]
  exact sum_real fun K => by rw [I.v, r36 I hm, ← EReal.coe_mul]

omit hm in
theorem r43 (i : S8192x8x64.Idx) : val_main_v43 (F := Ideal) x3 i = (w (i 0).val (i 1).val (i 2).val : EReal) := by
  have h1 : (i 1).val < 8 := (i 1).isLt
  have h2 : (i 2).val < 64 := (i 2).isLt
  rw [val_main_v43_apply, I.w]
  congr 2
  all_goals (show _ = _; simp only []; omega)

omit hm in
theorem r44 (i : S8x64x8192.Idx) : val_main_v44 (F := Ideal) x3 i = (w (i 2).val (i 0).val (i 1).val : EReal) := by
  rw [val_main_v44_apply, r43 I]

omit hm in
theorem r45 (i : S8x8192x8192.Idx) : val_main_v45 (F := Ideal) x2 x3 i = (dP v w (i 0).val (i 1).val (i 2).val : EReal) := by
  rw [val_main_v45_apply]
  exact sum_real fun K => by rw [r44 I, I.v, ← EReal.coe_mul]

theorem r47 (i : S8192x8x64.Idx) : val_main_v47 (F := Ideal) x0 x1 x3 i = (gv q k w mu (i 0).val (i 1).val (i 2).val : EReal) := by
  rw [val_main_v47_apply, val_main_v46_apply]
  exact sum_real fun K => by rw [r44 I, r36 I hm, ← EReal.coe_mul]

theorem r39 (i : S8x8192x1.Idx) : val_main_v39 (F := Ideal) x0 x1 i = ((1 / (su q k mu (i 0).val (i 1).val * su q k mu (i 0).val (i 1).val) : ℝ) : EReal) := by
  rw [val_main_v39_apply]
  refine div_real ((val_main_v38_apply i).trans one_eq) ?_ (mul_ne_zero (s_ne _ (i 1)) (s_ne _ (i 1)))
  rw [val_main_v37_apply]
  exact mul_real (r34 I hm i) (r34 I hm i)

theorem r50 (i : S8x8192x8192.Idx) : val_main_v50 (F := Ideal) x0 x1 x2 x3 i
    = ((dP v w (i 0).val (i 1).val (i 2).val * (1 / (su q k mu (i 0).val (i 1).val * su q k mu (i 0).val (i 1).val)) * ex q k mu (i 0).val (i 1).val (i 2).val : ℝ) : EReal) := by
  rw [val_main_v50_apply]
  refine mul_real ?_ (r32 I hm i)
  rw [val_main_v49_apply]
  refine mul_real (r45 I i) ?_
  rw [val_main_v48_apply, r39 I hm]

theorem r56 (i : S8x8192.Idx) : val_main_v56 (F := Ideal) x0 x1 x2 x3 i
    = ((-∑ K ∈ range 8192, dP v w (i 0).val (i 1).val K * (1 / (su q k mu (i 0).val (i 1).val * su q k mu (i 0).val (i 1).val)) * ex q k mu (i 0).val (i 1).val K : ℝ) : EReal) := by
  have h1 : (i 1).val < 8192 := (i 1).isLt
  have h0 : (i 0).val < 8 := (i 0).isLt
  rw [val_main_v56_apply, val_main_cst_12_apply, zero_eq, EReal.coe_zero, zero_add, Fin.sum_univ_one, val_main_v53_apply]
  refine neg_real ?_
  rw [val_main_v52_apply, val_main_v51_apply, val_main_cst_11_apply, zero_eq, EReal.coe_zero, zero_add]
  refine sum_real fun K => ?_
  have hi0 : ((idx_main_v51 (idx_main_v52 (idx_main_v56 i 0)) K) 0).val = (i 0).val := by
    show (((i 0).val * 8192 + (i 1).val) * 1 + 0) / 8192 = (i 0).val; omega
  have hi1 : ((idx_main_v51 (idx_main_v52 (idx_main_v56 i 0)) K) 1).val = (i 1).val := by
    show (((i 0).val * 8192 + (i 1).val) * 1 + 0) % 8192 = (i 1).val; omega
  rw [r50 I hm, hi0, hi1]

theorem r58 (i : S8x8192x8192.Idx) : val_main_v58 (F := Ideal) x0 x1 x2 x3 i
    = ((dP v w (i 0).val (i 1).val (i 2).val / su q k mu (i 0).val (i 1).val
      + -∑ K ∈ range 8192, dP v w (i 0).val (i 1).val K * (1 / (su q k mu (i 0).val (i 1).val * su q k mu (i 0).val (i 1).val)) * ex q k mu (i 0).val (i 1).val K : ℝ) : EReal) := by
  rw [val_main_v58_apply]
  refine add_real ?_ ?_
  · rw [val_main_v55_apply]
    refine div_real (r45 I i) ?_ (s_ne _ (i 1))
    rw [val_main_v54_apply, r34 I hm]
  · rw [val_main_v57_apply, r56 I hm]

theorem r59 (i : S8x8192x8192.Idx) : val_main_v59 (F := Ideal) x0 x1 x2 x3 i
    = ((pr q k mu (i 0).val (i 1).val (i 2).val * (dP v w (i 0).val (i 1).val (i 2).val - de q k v w mu (i 0).val (i 1).val) : ℝ) : EReal) := by
  rw [val_main_v59_apply]
  exact (mul_real (r58 I hm i) (r32 I hm i)).trans (congrArg _ (soft_grad q k v w mu (i 0).val (i 1).val (i 2).val (i 1).isLt))

theorem r60 (i : S8x8192x8192.Idx) : val_main_v60 (F := Ideal) x0 x1 x2 x3 i
    = ((pr q k mu (i 0).val (i 1).val (i 2).val * (dP v w (i 0).val (i 1).val (i 2).val - de q k v w mu (i 0).val (i 1).val) : ℝ) : EReal) := by
  rw [val_main_v60_apply, select_real (r11_1 i), r59 I hm, val_main_call1_v0_apply, val_main_call1_cst_apply, zero_eq]
  by_cases hp : (i 2).val ≤ (i 1).val
  · rw [if_pos hp]
  · rw [if_neg hp, pr, ex, if_neg hp, zero_div, zero_mul]

theorem r62 (i : S8x8192x8192.Idx) : val_main_v62 (F := Ideal) x0 x1 x2 x3 i = (dS q k v w mu (i 0).val (i 1).val (i 2).val : EReal) := by
  rw [val_main_v62_apply]
  refine mul_real (r60 I hm i) ?_
  rw [val_main_v61_apply, val_main_cst_13_apply, sg_eq]

theorem r64 (i : S8192x8x96.Idx) : val_main_v64 (F := Ideal) x0 x1 x2 x3 i = (gk q k v w mu (i 0).val (i 1).val (i 2).val : EReal) := by
  rw [val_main_v64_apply, val_main_v63_apply]
  exact sum_real fun K => by rw [r62 I hm, I.q, ← EReal.coe_mul]

theorem r66 (i : S8192x8x96.Idx) : val_main_v66 (F := Ideal) x0 x1 x2 x3 i = (gq q k v w mu (i 0).val (i 1).val (i 2).val : EReal) := by
  rw [val_main_v66_apply, val_main_v65_apply]
  exact sum_real fun K => by rw [r62 I hm, I.k, ← EReal.coe_mul]

omit I hm in
/-- The scale of the queries' gradient. -/
theorem r70 (i : S8192x8x96.Idx) : val_main_v70 (F := Ideal) i = ((sg / Real.log 2 : ℝ) : EReal) := by
  rw [val_main_v70_apply, val_main_v69_apply, val_main_v68_apply, val_main_v67_apply, val_main_cst_14_apply, val_main_cst_15_apply]
  exact div_real sg_eq (log_real two_eq two_pos) log2_ne

theorem r71 (i : S8192x8x96.Idx) : val_main_v71 (F := Ideal) x0 x1 x2 x3 i = ((gq q k v w mu (i 0).val (i 1).val (i 2).val / (sg / Real.log 2) : ℝ) : EReal) := by
  rw [val_main_v71_apply]
  exact div_real (r66 I hm i) (r70 i) (div_ne_zero sg_ne log2_ne)

end Reads

end Cert.AttnRefIdeal.Own
-- ==== Proof.AttnSame.lean ====
/-
  The attention gradient's call and the reference, over the real numbers: the call's arrays are the padded arguments, the
  saved rows are the forward's, and the call's sums are the textbook's.
-/
module

public import proofs.«01_k».proof.Proof.AttnHost
public import proofs.«01_k».proof.Proof.AttnSoft
public import Idealize.ShloMosaic.Lib.KernelVsHost
public import Idealize.ShloMosaic.Lib.IdealHost

@[expose] public section

set_option maxRecDepth 16384

noncomputable section

namespace Cert.AttnBwdIdeal.Own

open Idealize.ShloMosaic Idealize.ShloMosaic.TcCoe Idealize.ShloMosaic.ValueIdx Idealize.ShloMosaic.StableHlo
open Idealize.SL Idealize.SL.Sem
open Cert.AttnBwdIdeal Cert.AttnBwdIdeal.Gen
open Cert.AttnRefIdeal.Own Cert.AttnRefIdeal.Read
open scoped BigOperators
open Finset (range)

/-! ## The sums over the reals -/

section Sums
variable (q k v w : ℕ → ℕ → ℕ → ℝ) (mu : ℕ → ℕ → ℝ)

/-- The queries as the call is given them. -/
def aQ (r c : ℕ) : ℝ := if c % 128 < 96 then q r (c / 128) (c % 128) * (sg / Real.log 2) else 0
/-- Keys and values as the call is given them. -/
def aKV (r c : ℕ) : ℝ := if c % 256 < 128 then if c % 256 < 96 then k r (c / 256) (c % 256) else 0
  else if c % 256 - 128 < 64 then v r (c / 256) (c % 256 - 128) else 0
/-- The cotangent as the call is given it. -/
def aDO (r c : ℕ) : ℝ := if c % 128 < 64 then w r (c / 128) (c % 128) else 0
/-- The saved logarithms, base two. -/
def aLS (h r : ℕ) : ℝ := (mu h r + Real.log (su q k mu h r)) / Real.log 2
/-- The saved products of output and cotangent. -/
def aDL (h r : ℕ) : ℝ := ∑ d ∈ range 64, w r h d * oo q k v mu r h d

/-- A sum whose later terms are nothing. -/
theorem sum_short {a b : ℕ} (hab : a ≤ b) (f : ℕ → ℝ) : ∑ d ∈ range b, (if d < a then f d else 0) = ∑ d ∈ range a, f d := by
  rw [← Finset.sum_filter]
  refine Finset.sum_congr ?_ fun _ _ => rfl
  ext d
  simp only [Finset.mem_filter, Finset.mem_range]
  omega

theorem aQ_at (r h d : ℕ) (hd : d < 128) : aQ q r (128 * h + d) = if d < 96 then q r h d * (sg / Real.log 2) else 0 := by
  have e1 : (128 * h + d) % 128 = d := by omega
  have e2 : (128 * h + d) / 128 = h := by omega
  rw [aQ, e1, e2]
theorem aK_at (r h d : ℕ) (hd : d < 128) : aKV k v r (256 * h + d) = if d < 96 then k r h d else 0 := by
  have e1 : (256 * h + d) % 256 = d := by omega
  have e2 : (256 * h + d) / 256 = h := by omega
  rw [aKV, e1, e2, if_pos hd]
theorem aV_at (r h d : ℕ) (hd : d < 128) : aKV k v r (256 * h + 128 + d) = if d < 64 then v r h d else 0 := by
  have e1 : (256 * h + 128 + d) % 256 = 128 + d := by omega
  have e2 : (256 * h + 128 + d) / 256 = h := by omega
  rw [aKV, e1, e2, if_neg (by omega), Nat.add_sub_cancel_left]
theorem aDO_at (r h d : ℕ) (hd : d < 128) : aDO w r (128 * h + d) = if d < 64 then w r h d else 0 := by
  have e1 : (128 * h + d) % 128 = d := by omega
  have e2 : (128 * h + d) / 128 = h := by omega
  rw [aDO, e1, e2]

/-- The call's scores are the reference's over the logarithm of two. -/
theorem score_eq (h K r : ℕ) : ∑ d ∈ range 128, aKV k v K (256 * h + d) * aQ q r (128 * h + d) = sc q k h r K / Real.log 2 := by
  have e : ∀ d ∈ range 128, aKV k v K (256 * h + d) * aQ q r (128 * h + d) = if d < 96 then q r h d * k K h d * (sg / Real.log 2) else 0 := fun d hd => by
    rw [aK_at k v K h d (Finset.mem_range.1 hd), aQ_at q r h d (Finset.mem_range.1 hd)]
    split_ifs <;> ring
  rw [Finset.sum_congr rfl e, sum_short (by norm_num), sc, ← Finset.sum_mul, mul_div_assoc]

theorem pG_eq (h K r : ℕ) (hr : r < 8192) : pG (aQ q) (aKV k v) (aLS q k mu) h K r = Real.log 2 * pr q k mu h r K := by
  have hs := su_pos q k mu h r hr
  have hl : 0 < Real.log 2 := Real.log_pos one_lt_two
  rw [pG, pr, ex, score_eq]
  split_ifs
  · show (2 : ℝ) ^ (_ : ℝ) = _
    rw [Real.rpow_def_of_pos two_pos, aLS, l2l2]
    have e : Real.log 2 * (sc q k h r K / Real.log 2 - ((mu h r + Real.log (su q k mu h r)) / Real.log 2 - Real.log (Real.log 2) * (Real.log 2)⁻¹))
        = (sc q k h r K - mu h r) - Real.log (su q k mu h r) + Real.log (Real.log 2) := by
      field_simp
      ring
    rw [e, Real.exp_add, Real.exp_sub, Real.exp_log hs, Real.exp_log hl]
    ring
  · simp

/-- The saved products, summed, are the reference's sums of weight times gradient. -/
theorem aDL_eq (h r : ℕ) : aDL q k v w mu h r = de q k v w mu h r := by
  unfold aDL oo de dP
  simp only [Finset.mul_sum]
  rw [Finset.sum_comm]
  exact Finset.sum_congr rfl fun K _ => Finset.sum_congr rfl fun d _ => by ring

theorem dG_eq (h K r : ℕ) (hr : r < 8192) : dG (aQ q) (aKV k v) (aDO w) (aLS q k mu) (aDL q k v w mu) h K r
    = Real.log 2 * (pr q k mu h r K * (dP v w h r K - de q k v w mu h r)) := by
  have e : ∀ d ∈ range 128, aKV k v K (256 * h + 128 + d) * aDO w r (128 * h + d) = if d < 64 then w r h d * v K h d else 0 := fun d hd => by
    rw [aV_at k v K h d (Finset.mem_range.1 hd), aDO_at w r h d (Finset.mem_range.1 hd)]
    split_ifs <;> ring
  rw [dG, pG_eq q k v mu h K r hr, aDL_eq, Finset.sum_congr rfl e, sum_short (by norm_num), ← dP]
  ring

theorem qG_eq (h r d : ℕ) (hr : r < 8192) (hd : d < 128) : qG (aQ q) (aKV k v) (aDO w) (aLS q k mu) (aDL q k v w mu) 8192 h r d
    = if d < 96 then gq q k v w mu r h d / (sg / Real.log 2) else 0 := by
  have hs : sg ≠ 0 := sg_ne
  have hl : Real.log 2 ≠ 0 := log2_ne
  unfold qG
  split_ifs with h96
  · rw [gq, Finset.sum_div]
    refine Finset.sum_congr rfl fun K _ => ?_
    rw [aK_at k v K h d hd, if_pos h96, dG_eq q k v w mu h K r hr, dS]
    field_simp
  · refine Finset.sum_eq_zero fun K _ => ?_
    rw [aK_at k v K h d hd, if_neg h96, zero_mul]

theorem kvG_eq (K h d : ℕ) (hd : d < 256) : kvG (aQ q) (aKV k v) (aDO w) (aLS q k mu) (aDL q k v w mu) K h d
    = if d < 128 then (if d < 96 then gk q k v w mu K h d else 0) else if d - 128 < 64 then gv q k w mu K h (d - 128) else 0 := by
  have hl : Real.log 2 ≠ 0 := log2_ne
  unfold kvG
  split_ifs with h128 h96 h64
  · rw [gk]
    refine Finset.sum_congr rfl fun r hr => ?_
    rw [aQ_at q r h d h128, if_pos h96, dG_eq q k v w mu h K r (Finset.mem_range.1 hr), dS]
    field_simp
  · refine Finset.sum_eq_zero fun r _ => ?_
    rw [aQ_at q r h d h128, if_neg h96, mul_zero]
  · rw [gv, Finset.sum_mul]
    refine Finset.sum_congr rfl fun r hr => ?_
    rw [aDO_at w r h (d - 128) (by omega), if_pos h64, pG_eq q k v mu h K r (Finset.mem_range.1 hr)]
    field_simp
  · rw [Finset.sum_eq_zero fun r _ => by rw [aDO_at w r h (d - 128) (by omega), if_neg h64, mul_zero], zero_mul]

end Sums

/-! ## Pads, columns, pieces side by side -/

/-- A pad of the last axis by zeros, read at an index. -/
theorem pad_real {n : ℕ} {hi : Fin 3 → ℕ} {x : (⟨3, ![8192, 8, n]⟩ : Shape).Idx → EReal} {X : ℕ → ℕ → ℕ → ℝ}
    (hx : ∀ i, x i = (X (i 0).val (i 1).val (i 2).val : EReal))
    (hp : (⟨3, ![8192, 8, n]⟩ : Shape).Pads ![0, 0, 0] hi ![0, 0, 0] S8192x8x128) (j : S8192x8x128.Idx) :
    pad S8192x8x128 ![0, 0, 0] hi ![0, 0, 0] x (sitofp (F := Ideal) .f32 (constantI S_ 32 0#32)) hp h_S_ j
      = ((if (j 2).val < n then X (j 0).val (j 1).val (j 2).val else 0 : ℝ) : EReal) := by
  split_ifs with hj
  · exact (pad_apply_of_inside _ _ _ x _ hp h_S_ j (ix3 ⟨(j 0).val, (j 0).isLt⟩ ⟨(j 1).val, (j 1).isLt⟩ ⟨(j 2).val, hj⟩) (fun a => by
      match a with
      | ⟨0, _⟩ => show (j 0).val = 0 + (j 0).val * (0 + 1); omega
      | ⟨1, _⟩ => show (j 1).val = 0 + (j 1).val * (0 + 1); omega
      | ⟨2, _⟩ => show (j 2).val = 0 + (j 2).val * (0 + 1); omega)).trans (hx _)
  · refine (pad_apply_of_not_inside _ _ _ x _ hp h_S_ j 2 (fun hh => hj ?_)).trans ?_
    · have := hh.2.2
      have h3 : ((j 2).val - 0) / (0 + 1) < n := this
      omega
    · show (Scalar.sitofp (F := Ideal) .f32 0#32 : EReal) = _
      rw [sitofp_zero, EReal.coe_zero]

theorem col_eq {n N : ℕ} (hN : N = 8 * n) (a b : ℕ) : (a * 8 + b / n) * n + b % n = a * N + b := by
  rw [hN, add_mul, add_assoc, Nat.div_add_mod' b n, mul_assoc]

/-- Heads laid side by side along the columns. -/
theorem cols_real {n N : ℕ} (hn : 0 < n) (hN : N = 8 * n) {x : (⟨3, ![8192, 8, n]⟩ : Shape).Idx → EReal} {X : ℕ → ℕ → ℕ → ℝ}
    (hx : ∀ i, x i = (X (i 0).val (i 1).val (i 2).val : EReal)) (hc : (⟨3, ![8192, 8, n]⟩ : Shape).ShapeCasts ⟨2, ![8192, N]⟩)
    (i : (⟨2, ![8192, N]⟩ : Shape).Idx) :
    shapeCast ⟨2, ![8192, N]⟩ x hc i = (X (i 0).val ((i 1).val / n) ((i 1).val % n) : EReal) := by
  have h1 : (i 1).val < N := (i 1).isLt
  have hd : (i 1).val / n < 8 := by rw [Nat.div_lt_iff_lt_mul hn]; omega
  rw [shapeCast_apply x hc i (ix3 ⟨(i 0).val, (i 0).isLt⟩ ⟨(i 1).val / n, hd⟩ ⟨(i 1).val % n, Nat.mod_lt _ hn⟩) (by
    rw [Shape.rowMajor_val_two, Shape.rowMajor_val_three]
    show ((i 0).val * 8 + (i 1).val / n) * n + (i 1).val % n = (i 0).val * N + (i 1).val
    exact col_eq hN _ _)]
  exact hx _

/-- Two arrays side by side along the last axis. -/
theorem beside_real {x y : S8192x8x128.Idx → EReal} {X Y : ℕ → ℕ → ℕ → ℝ} (hx : ∀ i, x i = (X (i 0).val (i 1).val (i 2).val : EReal))
    (hy : ∀ i, y i = (Y (i 0).val (i 1).val (i 2).val : EReal)) (hc : Shape.Concatenates [S8192x8x128, S8192x8x128] S8192x8x256 2) (j : S8192x8x256.Idx) :
    concatenate S8192x8x256 2 [⟨S8192x8x128, x⟩, ⟨S8192x8x128, y⟩] hc j
      = ((if (j 2).val < 128 then X (j 0).val (j 1).val (j 2).val else Y (j 0).val (j 1).val ((j 2).val - 128) : ℝ) : EReal) := by
  have h2 : (j 2).val < 256 := (j 2).isLt
  split_ifs with hj
  · exact (concatenate_pair_apply_left (2 : Fin S8192x8x256.rank) x y hc j rfl (ix3 ⟨(j 0).val, (j 0).isLt⟩ ⟨(j 1).val, (j 1).isLt⟩ ⟨(j 2).val, hj⟩)
      (fun b => by match b with | ⟨0, _⟩ => rfl | ⟨1, _⟩ => rfl | ⟨2, _⟩ => rfl)).trans (hx _)
  · exact (concatenate_pair_apply_right (2 : Fin S8192x8x256.rank) x y hc j rfl rfl
      (ix3 ⟨(j 0).val, (j 0).isLt⟩ ⟨(j 1).val, (j 1).isLt⟩ ⟨(j 2).val - 128, by omega⟩)
      (fun b hb => by match b with | ⟨0, _⟩ => rfl | ⟨1, _⟩ => rfl | ⟨2, _⟩ => exact absurd rfl hb)
      (by show (j 2).val - 128 + 128 = (j 2).val; omega)).trans (hy _)

/-! ## The call's arrays -/

section Arrays
variable {x0 x1 : FVec Ideal S8192x8x96 .f32} {x2 : FVec Ideal S8192x8x64 .f32} {x3 : FVec Ideal S8192x512 .f32}
  {q k v w : ℕ → ℕ → ℕ → ℝ} {mu : ℕ → ℕ → ℝ}

theorem hM_eq : hM x0 x1 = val_main_v12 (F := Ideal) x0 x1 := rfl
/-- The saved logarithm of one row. -/
theorem lse_real {M L : FVec Ideal S8x8192 .f32} {j : S8x8192.Idx} {a b : ℝ} (hM : M j = (a : EReal)) (hL : L j = (b : EReal)) (hb : 0 < b) :
    Host.divf (addf M (Host.log L)) (broadcastInDim S8x8192 ![] bcast_S_S8x8192 hLog2) j = (((a + Real.log b) / Real.log 2 : ℝ) : EReal) :=
  div_real (add_real hM (log_real hL hb)) ((broadcastInDim_scalar_apply _ _ _).trans (log_real two_eq two_pos)) log2_ne

theorem hE_eq : hE x0 x1 = val_main_v32 (F := Ideal) x0 x1 := by
  unfold val_main_v32 val_main_v31 val_main_v30 val_main_v29
  rw [r19]
  rfl
theorem hL_eq : hL x0 x1 = val_main_v33 (F := Ideal) x0 x1 := by
  unfold hL val_main_v33
  rw [hE_eq]
  rfl
theorem hO_eq : hO x0 x1 x2 = val_main_v41 (F := Ideal) x0 x1 x2 := by
  unfold hO val_main_v41 val_main_v40 val_main_v36 val_main_v35 val_main_v34
  rw [hE_eq, hL_eq]
  rfl

theorem hR_apply (x : FVec Ideal S8x8192 .f32) (h : Fin 8) (s : Fin 16) (e : Fin 8) (r : Fin 512) :
    hR x (ix4 h s e r) = x (ix2 h ⟨s.val * 512 + r.val, by omega⟩) := by
  unfold hR
  rw [broadcastInDim_apply _ bcast_S8x16x1x512_S8x16x8x512_0_1_2_3 _ (ix4 h s e r) (ix4 h s (0 : Fin 1) r) (fun a => by
    match a with
    | ⟨0, _⟩ => show h.val = if (8 : ℕ) = 1 then 0 else h.val; rw [if_neg (by decide)]
    | ⟨1, _⟩ => show s.val = if (16 : ℕ) = 1 then 0 else s.val; rw [if_neg (by decide)]
    | ⟨2, _⟩ => show 0 = if (1 : ℕ) = 1 then 0 else e.val; rw [if_pos rfl]
    | ⟨3, _⟩ => show r.val = if (512 : ℕ) = 1 then 0 else r.val; rw [if_neg (by decide)])]
  exact shapeCast_apply x _ _ _ (by
    rw [Shape.rowMajor_val_two, Shape.rowMajor_val_four]
    show h.val * 8192 + (s.val * 512 + r.val) = ((h.val * 16 + s.val) * 1 + 0) * 512 + r.val
    omega)

variable (I : Cert.AttnRefIdeal.Own.Ins x0 x1 x2 x3 q k v w)
include I

theorem hQ_real (i : S8192x1024.Idx) : hQ x0 i = (aQ q (i 0).val (i 1).val : EReal) := by
  have hm : ∀ i : S8192x8x96.Idx, mulf x0 (broadcastInDim S8192x8x96 ![] bcast_S_S8192x8x96 (Host.divf (constant S_ .f32 0x3DD105EC#32) hLog2)) i
      = ((q (i 0).val (i 1).val (i 2).val * (sg / Real.log 2) : ℝ) : EReal) := fun i =>
    mul_real (I.q i) ((broadcastInDim_scalar_apply _ _ _).trans (div_real sg_eq (log_real two_eq two_pos) log2_ne))
  exact cols_real (n := 128) (N := 1024) (by decide) (by decide)
    (x := pad S8192x8x128 ![0, 0, 0] ![0, 0, 32] ![0, 0, 0]
      (mulf x0 (broadcastInDim S8192x8x96 ![] bcast_S_S8192x8x96 (Host.divf (constant S_ .f32 0x3DD105EC#32) hLog2)))
      (sitofp (F := Ideal) .f32 (constantI S_ 32 0#32)) pads_S8192x8x96_S8192x8x128_000_000_0320 h_S_)
    (X := fun r h d => if d < 96 then q r h d * (sg / Real.log 2) else 0)
    (fun j => pad_real (n := 96) (hi := ![0, 0, 32]) (X := fun r h d => q r h d * (sg / Real.log 2)) hm pads_S8192x8x96_S8192x8x128_000_000_0320 j)
    shapeCasts_S8192x8x128_S8192x1024 i

theorem hK_real (j : S8192x8x128.Idx) : hK x1 j = ((if (j 2).val < 96 then k (j 0).val (j 1).val (j 2).val else 0 : ℝ) : EReal) :=
  pad_real (n := 96) (hi := ![0, 0, 32]) I.k pads_S8192x8x96_S8192x8x128_000_000_0320 j

omit I in
theorem hV_real {x : FVec Ideal S8192x8x64 .f32} {X : ℕ → ℕ → ℕ → ℝ} (hx : ∀ i, x i = (X (i 0).val (i 1).val (i 2).val : EReal)) (j : S8192x8x128.Idx) :
    hV x j = ((if (j 2).val < 64 then X (j 0).val (j 1).val (j 2).val else 0 : ℝ) : EReal) :=
  pad_real (n := 64) (hi := ![0, 0, 64]) hx pads_S8192x8x64_S8192x8x128_000_000_0640 j

theorem hKV_real (i : S8192x2048.Idx) : hKV (hK x1) (hV x2) i = (aKV k v (i 0).val (i 1).val : EReal) :=
  cols_real (n := 256) (N := 2048) (by decide) (by decide)
    (X := fun r h d => if d < 128 then if d < 96 then k r h d else 0 else if d - 128 < 64 then v r h (d - 128) else 0)
    (fun j => beside_real (X := fun r h d => if d < 96 then k r h d else 0) (Y := fun r h d => if d < 64 then v r h d else 0)
      (hK_real I) (hV_real I.v) concatenates_S8192x8x128_S8192x8x128_S8192x8x256_d2 j)
    shapeCasts_S8192x8x256_S8192x2048 i

theorem hDo_real (i : S8192x1024.Idx) : hDo x3 i = (aDO w (i 0).val (i 1).val : EReal) :=
  cols_real (n := 128) (N := 1024) (by decide) (by decide) (X := fun r h d => if d < 64 then w r h d else 0)
    (fun j => hV_real (x := hD x3) (r43 I) j) shapeCasts_S8192x8x128_S8192x1024 i

variable (hm : ∀ i : S8x8192.Idx, val_main_v12 (F := Ideal) x0 x1 i = (mu (i 0).val (i 1).val : EReal))
include hm

theorem hLse_real (h : Fin 8) (s : Fin 16) (e : Fin 8) (r : Fin 512) :
    hLse x0 x1 (ix4 h s e r) = (aLS q k mu h.val (s.val * 512 + r.val) : EReal) := by
  have hr : s.val * 512 + r.val < 8192 := by omega
  unfold hLse
  rw [hR_apply, hM_eq, hL_eq]
  exact lse_real (hm (ix2 h ⟨s.val * 512 + r.val, hr⟩)) (r33 I hm (ix2 h ⟨s.val * 512 + r.val, hr⟩)) (su_pos q k mu h.val (s.val * 512 + r.val) hr)

theorem hDelta_real (h : Fin 8) (s : Fin 16) (e : Fin 8) (r : Fin 512) :
    hDelta x0 x1 x2 x3 (ix4 h s e r) = (aDL q k v w mu h.val (s.val * 512 + r.val) : EReal) := by
  unfold hDelta
  rw [hR_apply, hO_eq, transpose_apply [1, 0] _ transposes_S8192x8_S8x8192_1_0 _ (ix2 (⟨s.val * 512 + r.val, by omega⟩ : Fin 8192) h)
    (fun b => by match b with | ⟨0, _⟩ => rfl | ⟨1, _⟩ => rfl)]
  simp only [Host.reduceAdd, Ideal.hostReduceAdd_def]
  rw [Ideal.hostReduceAdd_single reducesTo_S8192x8x64_S8192x8_d2 (by decide), constant_apply, Ideal.ofBits_zero_f32, zero_add]
  exact sum_real fun d => mul_real (r43 I _) (r41 I hm _)

end Arrays

/-- At real arguments the call's arrays are the padded arguments and the forward's saved rows. -/
theorem arrs {m : (ℓ : Loc nD τ sig) → Buf (Elt Ideal) ℓ} {c : Dev nD} {q k v w : ℕ → ℕ → ℕ → ℝ} {mu : ℕ → ℕ → ℝ}
    (I : Cert.AttnRefIdeal.Own.Ins (m ((c.tc : Thread nD τ).loc main_arg0)) (m ((c.tc : Thread nD τ).loc main_arg1)) (m ((c.tc : Thread nD τ).loc main_arg2))
      (m ((c.tc : Thread nD τ).loc main_arg3)) q k v w)
    (hm : ∀ i : S8x8192.Idx, val_main_v12 (F := Ideal) (m ((c.tc : Thread nD τ).loc main_arg0)) (m ((c.tc : Thread nD τ).loc main_arg1)) i
      = (mu (i 0).val (i 1).val : EReal)) :
    Arrs m c (aQ q) (aKV k v) (aDO w) (aLS q k mu) (aDL q k v w mu) where
  q := fun i => (congrFun (V_q m c) i).trans (hQ_real I i)
  kv := fun i => (congrFun (V_kv m c) i).trans (hKV_real I i)
  dy := fun i => (congrFun (V_do m c) i).trans (hDo_real I i)
  ls := fun h s e r => (congrFun (V_lse m c) (ix4 h s e r)).trans (hLse_real I hm h s e r)
  dl := fun h s e r => (congrFun (V_delta m c) (ix4 h s e r)).trans (hDelta_real I hm h s e r)

end Cert.AttnBwdIdeal.Own
-- ==== Proof.Attn.lean ====
/-
  The claims about the attention's gradient: the runs of both programs, and the equality of the results over the
  extended reals at finite arguments.
-/
module

public import proofs.«01_k».proof.Defs
public import proofs.«01_k».proof.Proof.AttnSame
public import proofs.«01_k».proof.Proof.Gen.AttnBwd
public import proofs.«01_k».proof.Proof.Gen.Pre_finite

@[expose] public section

set_option maxRecDepth 16384

noncomputable section

namespace Cert.Attn

open Idealize.ShloMosaic Idealize.ShloMosaic.TcCoe Idealize.ShloMosaic.ValueIdx Idealize.ShloMosaic.StableHlo
open Idealize.SL Idealize.SL.Sem
open Cert.AttnBwdIdeal
open Cert.AttnRefIdeal.Own Cert.AttnRefIdeal.Read Cert.AttnBwdIdeal.Own
open scoped BigOperators

/-! ## Finite arguments are reals -/

/-- A value whose size is below infinity is real. -/
theorem real_of_finite {x : EReal} (h : FloatOps.cmpf (F := Ideal) (φ := .f32) .olt (FloatOps.hostAbsf (F := Ideal) (φ := .f32) x)
    (FloatOps.ofBits (F := Ideal) .f32 0x7F800000#32) = 1#1) : ∃ r : ℝ, x = (r : EReal) := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  have hlt : max x (-x) < ⊤ := by
    by_contra hn
    simp [Ideal.cmp, hn] at h'
  rw [max_lt_iff] at hlt
  refine ⟨x.toReal, (EReal.coe_toReal (ne_of_lt hlt.1) ?_).symm⟩
  rintro rfl
  simp at hlt

/-- An array of reals with three axes, as a function of three numbers. -/
theorem real3 {n : ℕ} {x : (⟨3, ![8192, 8, n]⟩ : Shape).Idx → EReal} (hx : ∀ i, ∃ r : ℝ, x i = (r : EReal)) :
    ∃ X : ℕ → ℕ → ℕ → ℝ, ∀ i, x i = (X (i 0).val (i 1).val (i 2).val : EReal) := by
  refine ⟨fun a b d => if h : a < 8192 ∧ b < 8 ∧ d < n then (x (ix3 ⟨a, h.1⟩ ⟨b, h.2.1⟩ ⟨d, h.2.2⟩)).toReal else 0, fun i => ?_⟩
  have h0 : (i 0).val < 8192 := (i 0).isLt
  have h1 : (i 1).val < 8 := (i 1).isLt
  have h2 : (i 2).val < n := (i 2).isLt
  beta_reduce
  rw [dif_pos ⟨h0, h1, h2⟩]
  have e : ix3 ⟨(i 0).val, h0⟩ ⟨(i 1).val, h1⟩ ⟨(i 2).val, h2⟩ = i :=
    funext fun a => Fin.ext (by match a with | ⟨0, _⟩ => rfl | ⟨1, _⟩ => rfl | ⟨2, _⟩ => rfl)
  obtain ⟨r, hr⟩ := hx i
  rw [e, hr, EReal.toReal_coe]

/-- An array of reals with heads side by side, as a function of row, head and place. -/
theorem real2 {x : Cert.AttnBwdIdeal.S8192x512.Idx → EReal} (hx : ∀ i, ∃ r : ℝ, x i = (r : EReal)) :
    ∃ X : ℕ → ℕ → ℕ → ℝ, ∀ i, x i = (X (i 0).val ((i 1).val / 64) ((i 1).val % 64) : EReal) := by
  refine ⟨fun a b d => if h : a < 8192 ∧ b * 64 + d < 512 then (x (ix2 ⟨a, h.1⟩ ⟨b * 64 + d, h.2⟩)).toReal else 0, fun i => ?_⟩
  have h0 : (i 0).val < 8192 := (i 0).isLt
  have h1 : (i 1).val / 64 * 64 + (i 1).val % 64 < 512 := (Nat.div_add_mod' (i 1).val 64).trans_lt (i 1).isLt
  beta_reduce
  rw [dif_pos ⟨h0, h1⟩]
  have e : ix2 ⟨(i 0).val, h0⟩ ⟨(i 1).val / 64 * 64 + (i 1).val % 64, h1⟩ = i :=
    funext fun a => Fin.ext (by match a with | ⟨0, _⟩ => rfl | ⟨1, _⟩ => exact Nat.div_add_mod' (i 1).val 64)
  obtain ⟨r, hr⟩ := hx i
  rw [e, hr, EReal.toReal_coe]

/-- At finite arguments the four arrays are arrays of reals. -/
theorem ins {m : (ℓ : Loc nD τ sig) → Buf (Elt Ideal) ℓ} (h : Cert.Pre_AttnBwdIdeal_finite (hPre_finite := Cert.Pre_finite.Gen.facts) m) (c : Dev nD) :
    ∃ q k v w : ℕ → ℕ → ℕ → ℝ, Cert.AttnRefIdeal.Own.Ins (m ((c.tc : Thread nD τ).loc main_arg0)) (m ((c.tc : Thread nD τ).loc main_arg1))
      (m ((c.tc : Thread nD τ).loc main_arg2)) (m ((c.tc : Thread nD τ).loc main_arg3)) q k v w := by
  obtain ⟨h0, h1, h2, h3⟩ := h c
  obtain ⟨q, hq⟩ := real3 (n := 96) (x := m ((c.tc : Thread nD τ).loc main_arg0)) fun i => real_of_finite (congrFun h0 i)
  obtain ⟨k, hk⟩ := real3 (n := 96) (x := m ((c.tc : Thread nD τ).loc main_arg1)) fun i => real_of_finite (congrFun h1 i)
  obtain ⟨v, hv⟩ := real3 (n := 64) (x := m ((c.tc : Thread nD τ).loc main_arg2)) fun i => real_of_finite (congrFun h2 i)
  obtain ⟨w, hw⟩ := real2 (x := m ((c.tc : Thread nD τ).loc main_arg3)) fun i => real_of_finite (congrFun h3 i)
  exact ⟨q, k, v, w, hq, hk, hv, hw⟩

/-! ## The results -/

section Results
variable {x0 x1 : FVec Ideal S8192x8x96 .f32} {x2 : FVec Ideal S8192x8x64 .f32} {x3 : FVec Ideal S8192x512 .f32}
  {q k v w : ℕ → ℕ → ℕ → ℝ} {mu : ℕ → ℕ → ℝ} (I : Cert.AttnRefIdeal.Own.Ins x0 x1 x2 x3 q k v w)
  (hm : ∀ i : S8x8192.Idx, val_main_v12 (F := Ideal) x0 x1 i = (mu (i 0).val (i 1).val : EReal))
include I hm

/-- The queries' gradient, as the reference lays it out. -/
theorem ref0 (i : S8x16x128x512.Idx) : val_main_v74 (F := Ideal) x0 x1 x2 x3 i
    = (qG (aQ q) (aKV k v) (aDO w) (aLS q k mu) (aDL q k v w mu) 8192 (i 0).val ((i 1).val * 512 + (i 3).val) (i 2).val : EReal) := by
  have h0 : (i 0).val < 8 := (i 0).isLt
  have h1 : (i 1).val < 16 := (i 1).isLt
  have h2 : (i 2).val < 128 := (i 2).isLt
  have h3 : (i 3).val < 512 := (i 3).isLt
  rw [qG_eq q k v w mu _ _ _ (by omega) h2, val_main_v74_apply, val_main_v73_apply]
  refine (pad_real (n := 96) (hi := ![0, 0, 32]) (X := fun r h d => gq q k v w mu r h d / (sg / Real.log 2)) (r71 I hm) _ _).trans ?_
  have e0 : ((idx_main_v73 (idx_main_v74 i)) 0).val = (i 1).val * 512 + (i 3).val := by
    show ((((i 1).val * 512 + (i 3).val) * 8 + (i 0).val) * 128 + (i 2).val) / 1024 = _; omega
  have e1 : ((idx_main_v73 (idx_main_v74 i)) 1).val = (i 0).val := by
    show ((((i 1).val * 512 + (i 3).val) * 8 + (i 0).val) * 128 + (i 2).val) / 128 % 8 = _; omega
  have e2 : ((idx_main_v73 (idx_main_v74 i)) 2).val = (i 2).val := by
    show ((((i 1).val * 512 + (i 3).val) * 8 + (i 0).val) * 128 + (i 2).val) % 128 = _; omega
  rw [e0, e1, e2]

/-- The keys' and the values' gradient, as the reference lays them out. -/
theorem ref1 (i : S8192x2048.Idx) : val_main_v79 (F := Ideal) x0 x1 x2 x3 i
    = (kvG (aQ q) (aKV k v) (aDO w) (aLS q k mu) (aDL q k v w mu) (i 0).val ((i 1).val / 256) ((i 1).val % 256) : EReal) := by
  rw [kvG_eq q k v w mu _ _ _ (Nat.mod_lt _ (by norm_num))]
  exact cols_real (n := 256) (N := 2048) (by decide) (by decide)
    (X := fun r h d => if d < 128 then (if d < 96 then gk q k v w mu r h d else 0) else if d - 128 < 64 then gv q k w mu r h (d - 128) else 0)
    (fun j => beside_real (X := fun r h d => if d < 96 then gk q k v w mu r h d else 0) (Y := fun r h d => if d < 64 then gv q k w mu r h d else 0)
      (pad_real (n := 96) (hi := ![0, 0, 32]) (r64 I hm) _)
      (pad_real (n := 64) (hi := ![0, 0, 64]) (r47 I hm) _)
      Cert.AttnRefIdeal.Gen.concatenates_S8192x8x128_S8192x8x128_S8192x8x256_d2 j)
    _ i

end Results

/-! ## The claims -/

/-- A named constant read as its own rounded value. -/
@[instance_reducible] def bitsNamed : Named Bits := ⟨fun _ _ {φ} bits => FloatOps.ofBits φ bits⟩

/-- The kernel ends with its arguments unchanged and every counter at zero, at machine numbers. -/
theorem frame : Cert.quiescent_AttnBwd (hAttnBwd := Cert.AttnBwd.Gen.facts) := by
  have h := fun m g (_ : True) => @Cert.AttnBwdIdeal.Own.frame Bits _ bitsNamed m g
  exact Eq.mp (by sl_kernel_rfl) h

/-- The reference program ends with its arguments unchanged and every counter at zero. -/
theorem ref_frame : Cert.quiescent_AttnRefIdeal (hAttnRefIdeal := Cert.AttnRefIdeal.Gen.facts) := fun m g _ =>
  (θ_run Cert.AttnRefIdeal.defs _ _).mono (fun r h => ⟨fun c => (h c).2.2, sem_eq_zero_of_no_sems (by decide) r.2⟩)
    (Cert.AttnRefIdeal.Value.run m g)

/-- The rules' statements for the two named constants. -/
theorem preserves : Cert.preserves_AttnBwd_AttnBwdIdeal :=
  ⟨IdealRules.named_const.statement Cert.AttnBwdIdeal.κ "l2l2" .f32 0xBF075D3C#32 _ rfl,
    IdealRules.named_const.statement Cert.AttnBwdIdeal.κ "log2e" .f32 0x3FB8AA3B#32 _ rfl⟩

set_option maxHeartbeats 2000000 in
/-- At finite arguments, over the extended reals, the kernel returns the attention's gradient. -/
theorem value : Cert.algebraic_AttnBwdIdeal_AttnRefIdeal_pre_finite (hAttnBwdIdeal := Cert.AttnBwdIdeal.Gen.facts)
    (hAttnRefIdeal := Cert.AttnRefIdeal.Gen.facts) (hPre_finite := Cert.Pre_finite.Gen.facts) := fun m g m' g' hf hm => by
  refine ⟨fun c => (Cert.AttnBwdIdeal.Own.dats m 0 c).arrAt 5 Cert.AttnBwdIdeal.cfg0.N,
    fun c => (Cert.AttnBwdIdeal.Own.dats m 0 c).arrAt 6 Cert.AttnBwdIdeal.cfg0.N, ?_, ?_⟩
  · refine (θ_run Cert.AttnBwdIdeal.defs _ _).mono (fun r h c => ?_)
      (θ_run_and (Cert.AttnBwdIdeal.Own.run_main m g) (Cert.AttnBwdIdeal.Own.frame m g))
    exact ⟨(h.1 c).1 5, (h.1 c).1 6, h.2.1 c⟩
  · refine (θ_run Cert.AttnRefIdeal.defs _ _).mono (fun r h c => ?_) (Cert.AttnRefIdeal.Value.run m' g')
    obtain ⟨e0, e1, e2, e3⟩ := hm c
    obtain ⟨h0, h1, h2⟩ := h c
    obtain ⟨q, k, v, w, I⟩ := ins hf c
    obtain ⟨mu, hmu⟩ := mu_exists I
    refine ⟨h0.trans ?_, h1.trans ?_, h2⟩
    · refine (val_main_v74_eq (F := Ideal) m' c).trans (Eq.trans ?_ (Cert.AttnBwdIdeal.Own.final5 (arrs I hmu)).symm)
      rw [e0, e1, e2, e3]
      exact funext (ref0 I hmu)
    · refine (val_main_v79_eq (F := Ideal) m' c).trans (Eq.trans ?_ (Cert.AttnBwdIdeal.Own.final6 (arrs I hmu)).symm)
      rw [e0, e1, e2, e3]
      exact funext (ref1 I hmu)

end Cert.Attn
end
-- ==== Proof.At3.lean ====
/-
  Arrays with three axes at plain numbers: zero past the array, so that padding, slicing and joining along the last axis
  are statements about numbers.
-/
module

public import proofs.«01_k».proof.Proof.Pieces

@[expose] public section

noncomputable section

open Idealize.ShloMosaic Idealize.ShloMosaic.TcCoe Idealize.ShloMosaic.ValueIdx

namespace Cert.Own

/-- The entry at three plain numbers, zero past the array. -/
def at3 {a b n : ℕ} (x : (⟨3, ![a, b, n]⟩ : Shape).Idx → EReal) (r h j : ℕ) : EReal :=
  if hh : r < a ∧ h < b ∧ j < n then x (ix3 ⟨r, hh.1⟩ ⟨h, hh.2.1⟩ ⟨j, hh.2.2⟩) else 0

variable {a b n N : ℕ}

theorem at3_pos (x : (⟨3, ![a, b, n]⟩ : Shape).Idx → EReal) {r h j : ℕ} (hr : r < a) (hh : h < b) (hj : j < n) :
    at3 x r h j = x (ix3 ⟨r, hr⟩ ⟨h, hh⟩ ⟨j, hj⟩) := dif_pos ⟨hr, hh, hj⟩

theorem at3_neg (x : (⟨3, ![a, b, n]⟩ : Shape).Idx → EReal) {r h j : ℕ} (hn : ¬(r < a ∧ h < b ∧ j < n)) : at3 x r h j = 0 := dif_neg hn

/-- An entry named by its index is the entry at the index's numbers. -/
theorem eq_at3_of (x : (⟨3, ![a, b, n]⟩ : Shape).Idx → EReal) (y : (⟨3, ![a, b, n]⟩ : Shape).Idx) {r h j : ℕ}
    (hr : (y 0).val = r) (hh : (y 1).val = h) (hj : (y 2).val = j) : x y = at3 x r h j := by
  subst hr hh hj
  exact (congrArg x (funext fun k => by match k with | ⟨0, _⟩ => rfl | ⟨1, _⟩ => rfl | ⟨2, _⟩ => rfl)).trans
    (at3_pos x (y 0).isLt (y 1).isLt (y 2).isLt).symm

/-- Padding along the last axis. -/
theorem at3_pad {l g : ℕ} (x : (⟨3, ![a, b, n]⟩ : Shape).Idx → EReal) {u : Shape} (v : u.Idx → EReal)
    (h : Shape.Pads ⟨3, ![a, b, n]⟩ ![0, 0, l] ![0, 0, g] ![0, 0, 0] ⟨3, ![a, b, N]⟩) (hu : 0 < u.numel) (hv : ∀ i, v i = 0)
    (hN : l + n ≤ N) (r k j : ℕ) :
    at3 (pad ⟨3, ![a, b, N]⟩ ![0, 0, l] ![0, 0, g] ![0, 0, 0] x v h hu) r k j = if j < l then 0 else at3 x r k (j - l) := by
  by_cases hin : r < a ∧ k < b ∧ j < N
  · obtain ⟨hr, hk, hj⟩ := hin
    rw [at3_pos _ hr hk hj]
    by_cases hl : l ≤ j ∧ j < l + n
    · rw [if_neg (by omega), at3_pos _ hr hk (by omega : j - l < n)]
      exact pad_apply_of_inside _ _ _ x v h hu _ (ix3 ⟨r, hr⟩ ⟨k, hk⟩ ⟨j - l, by omega⟩) fun c => by
        match c with
        | ⟨0, _⟩ => show r = 0 + r * (0 + 1); omega
        | ⟨1, _⟩ => show k = 0 + k * (0 + 1); omega
        | ⟨2, _⟩ => show j = l + (j - l) * (0 + 1); omega
    · rw [pad_apply_of_not_inside _ _ _ x v h hu _ 2 (by
        show ¬(l ≤ j ∧ (j - l) % (0 + 1) = 0 ∧ (j - l) / (0 + 1) < n)
        rw [zero_add, Nat.div_one]; omega), hv]
      split
      · rfl
      · rw [at3_neg _ (by omega)]
  · rw [at3_neg _ hin]
    split
    · rfl
    · rw [at3_neg _ (by omega)]

/-- Columns `o, …` of the last axis. -/
theorem at3_slice {o : ℕ} (x : (⟨3, ![a, b, N]⟩ : Shape).Idx → EReal) (h : Shape.Slices ⟨3, ![a, b, N]⟩ ![0, 0, o] ⟨3, ![a, b, n]⟩)
    (r k j : ℕ) (hj : j < n) : at3 (extractStridedSlice ⟨3, ![a, b, n]⟩ ![0, 0, o] x h) r k j = at3 x r k (o + j) := by
  have hb : o + n ≤ N := h.2 2
  by_cases hin : r < a ∧ k < b
  · rw [at3_pos _ hin.1 hin.2 hj, at3_pos _ hin.1 hin.2 (by omega : o + j < N)]
    exact extractStridedSlice_apply _ x h _ (ix3 ⟨r, hin.1⟩ ⟨k, hin.2⟩ ⟨o + j, by omega⟩) fun c => by
      match c with
      | ⟨0, _⟩ => show r = 0 + r; omega
      | ⟨1, _⟩ => show k = 0 + k; omega
      | ⟨2, _⟩ => rfl
  · rw [at3_neg _ (by omega), at3_neg _ (by omega)]

theorem at3_addf (x y : FVec Ideal ⟨3, ![a, b, n]⟩ .f32) (r k j : ℕ) : at3 (addf x y) r k j = at3 x r k j + at3 y r k j := by
  unfold at3; split
  · rfl
  · exact (zero_add 0).symm

theorem at3_mulf (x y : FVec Ideal ⟨3, ![a, b, n]⟩ .f32) (r k j : ℕ) : at3 (mulf x y) r k j = at3 x r k j * at3 y r k j := by
  unfold at3; split
  · rfl
  · exact (zero_mul 0).symm

theorem at3_negf (x : FVec Ideal ⟨3, ![a, b, n]⟩ .f32) (r k j : ℕ) : at3 (Host.negf x) r k j = -at3 x r k j := by
  unfold at3; split
  · rfl
  · exact neg_zero.symm

/-- Three arrays joined along the last axis. -/
theorem at3_join {n₁ n₂ n₃ : ℕ} (x : (⟨3, ![a, b, n₁]⟩ : Shape).Idx → EReal) (y : (⟨3, ![a, b, n₂]⟩ : Shape).Idx → EReal)
    (z : (⟨3, ![a, b, n₃]⟩ : Shape).Idx → EReal) (h : Shape.Concatenates [⟨3, ![a, b, n₁]⟩, ⟨3, ![a, b, n₂]⟩, ⟨3, ![a, b, n₃]⟩] ⟨3, ![a, b, N]⟩ 2)
    (hN : N = n₁ + n₂ + n₃) (r k j : ℕ) (hr : r < a) (hk : k < b) (hj : j < N) :
    at3 (concatenate ⟨3, ![a, b, N]⟩ 2 [⟨⟨3, ![a, b, n₁]⟩, x⟩, ⟨⟨3, ![a, b, n₂]⟩, y⟩, ⟨⟨3, ![a, b, n₃]⟩, z⟩] h) r k j
      = if j < n₁ then at3 x r k j else if j < n₁ + n₂ then at3 y r k (j - n₁) else at3 z r k (j - (n₁ + n₂)) := by
  rw [at3_pos _ hr hk hj]
  split_ifs with h1 h2
  · rw [at3_pos _ hr hk h1]
    exact concatenate_apply_piece (a := 2) [⟨⟨3, ![a, b, n₁]⟩, x⟩, ⟨⟨3, ![a, b, n₂]⟩, y⟩, ⟨⟨3, ![a, b, n₃]⟩, z⟩] h _ 0 (by show 0 < 3; decide) _ x rfl rfl 0 rfl (ix3 ⟨r, hr⟩ ⟨k, hk⟩ ⟨j, h1⟩) (fun c hc => by
      match c with
      | ⟨0, _⟩ => rfl
      | ⟨1, _⟩ => rfl
      | ⟨2, _⟩ => exact absurd rfl hc) (Nat.zero_add j)
  · rw [at3_pos _ hr hk (by omega : j - n₁ < n₂)]
    exact concatenate_apply_piece (a := 2) [⟨⟨3, ![a, b, n₁]⟩, x⟩, ⟨⟨3, ![a, b, n₂]⟩, y⟩, ⟨⟨3, ![a, b, n₃]⟩, z⟩] h _ 1 (by show 1 < 3; decide) _ y rfl rfl n₁ rfl (ix3 ⟨r, hr⟩ ⟨k, hk⟩ ⟨j - n₁, by omega⟩) (fun c hc => by
      match c with
      | ⟨0, _⟩ => rfl
      | ⟨1, _⟩ => rfl
      | ⟨2, _⟩ => exact absurd rfl hc) ((by omega : n₁ + (j - n₁) = j))
  · rw [at3_pos _ hr hk (by omega : j - (n₁ + n₂) < n₃)]
    exact concatenate_apply_piece (a := 2) [⟨⟨3, ![a, b, n₁]⟩, x⟩, ⟨⟨3, ![a, b, n₂]⟩, y⟩, ⟨⟨3, ![a, b, n₃]⟩, z⟩] h _ 2 (by show 2 < 3; decide) _ z rfl rfl (n₁ + n₂) rfl (ix3 ⟨r, hr⟩ ⟨k, hk⟩ ⟨j - (n₁ + n₂), by omega⟩) (fun c hc => by
      match c with
      | ⟨0, _⟩ => rfl
      | ⟨1, _⟩ => rfl
      | ⟨2, _⟩ => exact absurd rfl hc) ((by omega : n₁ + n₂ + (j - (n₁ + n₂)) = j))

/-- Four matrices joined along the columns, read before the last. -/
theorem atN_join {n₁ n₂ n₃ n₄ : ℕ} (x : (⟨2, ![a, n₁]⟩ : Shape).Idx → EReal) (y : (⟨2, ![a, n₂]⟩ : Shape).Idx → EReal)
    (z : (⟨2, ![a, n₃]⟩ : Shape).Idx → EReal) (w : (⟨2, ![a, n₄]⟩ : Shape).Idx → EReal)
    (h : Shape.Concatenates [⟨2, ![a, n₁]⟩, ⟨2, ![a, n₂]⟩, ⟨2, ![a, n₃]⟩, ⟨2, ![a, n₄]⟩] ⟨2, ![a, N]⟩ 1)
    (hN : N = n₁ + n₂ + n₃ + n₄) (r j : ℕ) (hr : r < a) (hj : j < n₁ + n₂ + n₃) :
    atN (concatenate ⟨2, ![a, N]⟩ 1 [⟨⟨2, ![a, n₁]⟩, x⟩, ⟨⟨2, ![a, n₂]⟩, y⟩, ⟨⟨2, ![a, n₃]⟩, z⟩, ⟨⟨2, ![a, n₄]⟩, w⟩] h) r j
      = if j < n₁ then atN x r j else if j < n₁ + n₂ then atN y r (j - n₁) else atN z r (j - (n₁ + n₂)) := by
  rw [atN_pos _ hr (by omega : j < N)]
  split_ifs with h1 h2
  · rw [atN_pos _ hr h1]
    exact concatenate_apply_piece (a := 1) [⟨⟨2, ![a, n₁]⟩, x⟩, ⟨⟨2, ![a, n₂]⟩, y⟩, ⟨⟨2, ![a, n₃]⟩, z⟩, ⟨⟨2, ![a, n₄]⟩, w⟩] h _ 0 (by show 0 < 4; decide) _ x rfl rfl 0 rfl (ix2 ⟨r, hr⟩ ⟨j, h1⟩) (fun c hc => by
      match c with
      | ⟨0, _⟩ => rfl
      | ⟨1, _⟩ => exact absurd rfl hc) (Nat.zero_add j)
  · rw [atN_pos _ hr (by omega : j - n₁ < n₂)]
    exact concatenate_apply_piece (a := 1) [⟨⟨2, ![a, n₁]⟩, x⟩, ⟨⟨2, ![a, n₂]⟩, y⟩, ⟨⟨2, ![a, n₃]⟩, z⟩, ⟨⟨2, ![a, n₄]⟩, w⟩] h _ 1 (by show 1 < 4; decide) _ y rfl rfl n₁ rfl (ix2 ⟨r, hr⟩ ⟨j - n₁, by omega⟩) (fun c hc => by
      match c with
      | ⟨0, _⟩ => rfl
      | ⟨1, _⟩ => exact absurd rfl hc) ((by omega : n₁ + (j - n₁) = j))
  · rw [atN_pos _ hr (by omega : j - (n₁ + n₂) < n₃)]
    exact concatenate_apply_piece (a := 1) [⟨⟨2, ![a, n₁]⟩, x⟩, ⟨⟨2, ![a, n₂]⟩, y⟩, ⟨⟨2, ![a, n₃]⟩, z⟩, ⟨⟨2, ![a, n₄]⟩, w⟩] h _ 2 (by show 2 < 4; decide) _ z rfl rfl (n₁ + n₂) rfl (ix2 ⟨r, hr⟩ ⟨j - (n₁ + n₂), by omega⟩) (fun c hc => by
      match c with
      | ⟨0, _⟩ => rfl
      | ⟨1, _⟩ => exact absurd rfl hc) ((by omega : n₁ + n₂ + (j - (n₁ + n₂)) = j))

theorem cols_eq (hN : N = b * n) (r j : ℕ) : (r * b + j / n) * n + j % n = r * N + j := by
  have := Nat.div_add_mod j n
  rw [hN, Nat.add_mul, Nat.mul_assoc, Nat.add_assoc, Nat.mul_comm (j / n) n, this]

/-- The last two axes read as one. -/
theorem atN_cols (x : (⟨3, ![a, b, n]⟩ : Shape).Idx → EReal) (hn : 0 < n) (hN : N = b * n)
    (h : (⟨3, ![a, b, n]⟩ : Shape).ShapeCasts ⟨2, ![a, N]⟩) (i : (⟨2, ![a, N]⟩ : Shape).Idx) :
    shapeCast ⟨2, ![a, N]⟩ x h i = at3 x (i 0).val ((i 1).val / n) ((i 1).val % n) := by
  have h1 : (i 1).val < N := (i 1).isLt
  have hd : (i 1).val / n < b := by rw [Nat.div_lt_iff_lt_mul hn]; omega
  rw [at3_pos x (i 0).isLt hd (Nat.mod_lt _ hn)]
  refine shapeCast_apply x h i _ ?_
  rw [Shape.rowMajor_val_two, Shape.rowMajor_val_three]
  exact cols_eq hN (i 0).val (i 1).val

end Cert.Own
end
-- ==== Proof.Qrope.lean ====
/-
  The gradient of the queries' rotary positions and scale (`q_rope_bwd`).
-/
module

public import proofs.«01_k».proof.Proof.At3
public import proofs.«01_k».proof.Defs
public import proofs.«01_k».proof.Proof.Gen.QropeBwdIdeal.Run
public import proofs.«01_k».proof.Proof.Gen.QropeBwdIdeal.Read
public import proofs.«01_k».proof.Proof.Gen.QropeRefIdeal.Run
public import proofs.«01_k».proof.Proof.Gen.QropeRefIdeal.Read
public import Idealize.ShloMosaic.Lib.Tactic
public import Idealize.ShloMosaic.Lib.IdealHost
public import Idealize.ShloMosaic.Lib.StableHlo.RunRead
public import Idealize.ShloMosaic.Lib.Pipeline.ValueKit.Tiles

@[expose] public section

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.QropeBwdIdeal.Own

open Cert.QropeBwdIdeal Cert.QropeBwdIdeal.Gen Cert.Own

/-! ## One tile -/

section tile
variable (x0 : Vec Ideal S8x1x128x512 .f32) (x1 x2 : Vec Ideal S512x128 .f32)

/-- A head of the tile, its columns turned into rows. -/
theorem turn_apply {k : ℕ} (inb) (hk : k < 8) (q : Fin 512) (e : Fin 128) :
    transpose S512x128 [1, 0] (shapeCast S128x512 (View.ld x0 (Rect.unit (s := S8x1x128x512) ![k, 0, 0, 0] S1x1x128x512.size inb))
      shapeCasts_S1x1x128x512_S128x512) transposes_S128x512_p1_0_S512x128 (ix2 q e) = x0 (ix4 ⟨k, hk⟩ 0 e q) := by
  rw [transpose_ix2_apply, shapeCast_apply _ shapeCasts_S1x1x128x512_S128x512 (ix2 e q) (ix4 0 0 e q) (by
    rw [Shape.rowMajor_val_two, Shape.rowMajor_val_four]
    show ((0 * 1 + 0) * 128 + e.val) * 512 + q.val = e.val * 512 + q.val
    omega)]
  exact View.ld_unit_apply_of x0 _ _ inb _ _ fun a => by
    match a with
    | ⟨0, _⟩ => rfl
    | ⟨1, _⟩ => rfl
    | ⟨2, _⟩ => show e.val = 0 + e.val; omega
    | ⟨3, _⟩ => show q.val = 0 + q.val; omega

/-- What a point leaves at a place of its tile: sixteen blocks of 128 columns, eight against each table. -/
def tile : Vec Ideal S512x2048 .bf16 := fun y : S512x2048.Idx =>
  x0 (ix4 ⟨(y 1).val % 1024 / 128, by omega⟩ 0 ⟨(y 1).val % 128, by omega⟩ (y 0))
    * (if (y 1).val < 1024 then x1 else x2) (ix2 (y 0) ⟨(y 1).val % 128, by omega⟩)

theorem tile_lo {k o : ℕ} (hk : k < 8) (ho : o = 128 * k) (inb) (x : (Rect.unit (s := S512x2048) ![0, o] S512x128.size inb).shape.Idx) :
    tile x0 x1 x2 ((Rect.unit (s := S512x2048) ![0, o] S512x128.size inb).emb x) = x0 (ix4 ⟨k, hk⟩ 0 (x 1) (x 0)) * x1 x := by
  have h1 : (x 1).val < 128 := (x 1).isLt
  have h0 : (x 0).val < 512 := (x 0).isLt
  have e1 : (((Rect.unit (s := S512x2048) ![0, o] S512x128.size inb).emb x) 1).val = o + 1 * (x 1).val := rfl
  have e0 : ((Rect.unit (s := S512x2048) ![0, o] S512x128.size inb).emb x) 0 = (⟨(x 0).val, h0⟩ : Fin 512) := Fin.ext ((Nat.zero_add _).trans (Nat.one_mul _))
  unfold tile
  rw [if_pos (by rw [e1]; omega)]
  congr 1
  · congr 1
    refine funext fun a => ?_
    match a with
    | ⟨0, _⟩ => exact Fin.ext (by show _ % 1024 / 128 = k; rw [e1]; omega)
    | ⟨1, _⟩ => rfl
    | ⟨2, _⟩ => exact Fin.ext (by show _ % 128 = (x 1).val; rw [e1]; omega)
    | ⟨3, _⟩ => exact e0
  · exact congrArg x1 (idx2_eq (congrArg Fin.val e0) (by show _ % 128 = (x 1).val; rw [e1]; omega))

theorem tile_hi {k o : ℕ} (hk : k < 8) (ho : o = 1024 + 128 * k) (inb) (x : (Rect.unit (s := S512x2048) ![0, o] S512x128.size inb).shape.Idx) :
    tile x0 x1 x2 ((Rect.unit (s := S512x2048) ![0, o] S512x128.size inb).emb x) = x0 (ix4 ⟨k, hk⟩ 0 (x 1) (x 0)) * x2 x := by
  have h1 : (x 1).val < 128 := (x 1).isLt
  have h0 : (x 0).val < 512 := (x 0).isLt
  have e1 : (((Rect.unit (s := S512x2048) ![0, o] S512x128.size inb).emb x) 1).val = o + 1 * (x 1).val := rfl
  have e0 : ((Rect.unit (s := S512x2048) ![0, o] S512x128.size inb).emb x) 0 = (⟨(x 0).val, h0⟩ : Fin 512) := Fin.ext ((Nat.zero_add _).trans (Nat.one_mul _))
  unfold tile
  rw [if_neg (by rw [e1]; omega)]
  congr 1
  · congr 1
    refine funext fun a => ?_
    match a with
    | ⟨0, _⟩ => exact Fin.ext (by show _ % 1024 / 128 = k; rw [e1]; omega)
    | ⟨1, _⟩ => rfl
    | ⟨2, _⟩ => exact Fin.ext (by show _ % 128 = (x 1).val; rw [e1]; omega)
    | ⟨3, _⟩ => exact e0
  · exact congrArg x2 (idx2_eq (congrArg Fin.val e0) (by show _ % 128 = (x 1).val; rw [e1]; omega))

/-- A block's payload against a table read whole. -/
theorem pay_apply {k : ℕ} (inb inb') (hk : k < 8) (z : Vec Ideal S512x128 .f32) (x : S512x128.Idx) :
    (mulf (F := Ideal) (transpose S512x128 [1, 0] (shapeCast S128x512 (View.ld x0 (Rect.unit (s := S8x1x128x512) ![k, 0, 0, 0] S1x1x128x512.size inb))
      shapeCasts_S1x1x128x512_S128x512) transposes_S128x512_p1_0_S512x128 : FVec Ideal S512x128 .f32)
      (shapeCast S512x128 (View.ld z (Rect.unit (s := S512x128) ![0, 0] S512x128.size inb')) shapeCasts_S512x128_S512x128) : FVec Ideal S512x128 .f32) x
      = x0 (ix4 ⟨k, hk⟩ 0 (x 1) (x 0)) * z x := by
  refine (mulf_apply _ _ _).trans (congrArg₂ (· * ·) ?_
    (congrFun ((shapeCast_self _ shapeCasts_S512x128_S512x128).trans (View.ld_unit_zero (S := S512x128) hz2 inb' z)) x))
  exact (congrArg _ (eq_ix2 x)).trans (turn_apply x0 inb hk (x 0) (x 1))

/-- A point's tile. -/
theorem out_eq : out0_3 x0 x1 x2 = tile x0 x1 x2 := by
  refine funext fun y => ?_
  unfold out0_3
  refine View.canon_apply_of_pieces (tile x0 x1 x2) _ ?_ y (cover0_3 _ _ _ _ _ _ _ _ _ _ _ _ _ _ _ _ y)
  simp only [List.forall_mem_cons, List.not_mem_nil, false_imp_iff, implies_true, and_true]
  refine ⟨fun x => ?_, fun x => ?_, fun x => ?_, fun x => ?_, fun x => ?_, fun x => ?_, fun x => ?_, fun x => ?_,
    fun x => ?_, fun x => ?_, fun x => ?_, fun x => ?_, fun x => ?_, fun x => ?_, fun x => ?_, fun x => ?_⟩
  · exact (pay_apply x0 _ _ (k := 7) (by omega) x2 x).trans (tile_hi x0 x1 x2 (by omega) (by omega) _ x).symm
  · exact (pay_apply x0 _ _ (k := 7) (by omega) x1 x).trans (tile_lo x0 x1 x2 (by omega) (by omega) _ x).symm
  · exact (pay_apply x0 _ _ (k := 6) (by omega) x2 x).trans (tile_hi x0 x1 x2 (by omega) (by omega) _ x).symm
  · exact (pay_apply x0 _ _ (k := 6) (by omega) x1 x).trans (tile_lo x0 x1 x2 (by omega) (by omega) _ x).symm
  · exact (pay_apply x0 _ _ (k := 5) (by omega) x2 x).trans (tile_hi x0 x1 x2 (by omega) (by omega) _ x).symm
  · exact (pay_apply x0 _ _ (k := 5) (by omega) x1 x).trans (tile_lo x0 x1 x2 (by omega) (by omega) _ x).symm
  · exact (pay_apply x0 _ _ (k := 4) (by omega) x2 x).trans (tile_hi x0 x1 x2 (by omega) (by omega) _ x).symm
  · exact (pay_apply x0 _ _ (k := 4) (by omega) x1 x).trans (tile_lo x0 x1 x2 (by omega) (by omega) _ x).symm
  · exact (pay_apply x0 _ _ (k := 3) (by omega) x2 x).trans (tile_hi x0 x1 x2 (by omega) (by omega) _ x).symm
  · exact (pay_apply x0 _ _ (k := 3) (by omega) x1 x).trans (tile_lo x0 x1 x2 (by omega) (by omega) _ x).symm
  · exact (pay_apply x0 _ _ (k := 2) (by omega) x2 x).trans (tile_hi x0 x1 x2 (by omega) (by omega) _ x).symm
  · exact (pay_apply x0 _ _ (k := 2) (by omega) x1 x).trans (tile_lo x0 x1 x2 (by omega) (by omega) _ x).symm
  · exact (pay_apply x0 _ _ (k := 1) (by omega) x2 x).trans (tile_hi x0 x1 x2 (by omega) (by omega) _ x).symm
  · exact (pay_apply x0 _ _ (k := 1) (by omega) x1 x).trans (tile_lo x0 x1 x2 (by omega) (by omega) _ x).symm
  · exact (pay_apply x0 _ _ (k := 0) (by omega) x2 x).trans (tile_hi x0 x1 x2 (by omega) (by omega) _ x).symm
  · exact (pay_apply x0 _ _ (k := 0) (by omega) x1 x).trans (tile_lo x0 x1 x2 (by omega) (by omega) _ x).symm

end tile

/-! ## The call's arrays -/

/-- The angles of the positions, and their cosines and sines. -/
def ang (p : (⟨S8192, .i32⟩ : BufTy).Contents (Elt Ideal)) : FVec Ideal S8192x16 .f32 :=
  mulf (broadcastInDim S8192x16 ![0, 1] bcast_S8192x1_S8192x16_0_1 (broadcastInDim S8192x1 ![0] bcast_S8192_S8192x1_0 (sitofp (F := Ideal) .f32 p)))
    (broadcastInDim S8192x16 ![0, 1] bcast_S1x16_S8192x16_0_1 (broadcastInDim S1x16 ![1] bcast_S16_S1x16_1
      (Host.powf (broadcastInDim S16 ![] bcast_S_S16 (constant S_ .f32 0x461C4000#32)) (Host.divf (mulf (Host.negf (sitofp (F := Ideal) .f32 (iotaInDim S16 32 0)))
        (broadcastInDim S16 ![] bcast_S_S16 (constant S_ .f32 0x40000000#32))) (broadcastInDim S16 ![] bcast_S_S16 (constant S_ .f32 0x42000000#32))))))
def cosA (p : (⟨S8192, .i32⟩ : BufTy).Contents (Elt Ideal)) : FVec Ideal S8192x16 .f32 := Host.cos (ang p)
def sinA (p : (⟨S8192, .i32⟩ : BufTy).Contents (Elt Ideal)) : FVec Ideal S8192x16 .f32 := Host.sin (ang p)
/-- The score's scale. -/
abbrev sc : EReal := Ideal.ofBits .f32 0x3E16C740#32
/-- The padded cotangent. -/
def hP (d : FVec Ideal S8192x8x96 .f32) : FVec Ideal S8192x8x128 .f32 :=
  pad S8192x8x128 ![0, 0, 0] ![0, 0, 32] ![0, 0, 0] d (sitofp .f32 (constantI S_ 32 0#32)) pads_S8192x8x96_S8192x8x128_000_000_0320 h_S_
/-- It, head by head, its rows along the last axis. -/
def hT (d : FVec Ideal S8192x8x96 .f32) : FVec Ideal S8x16x128x512 .f32 :=
  transpose S8x16x128x512 [2, 0, 3, 1] (shapeCast S16x512x8x128 (hP d) shapeCasts_S8192x8x128_S16x512x8x128) transposes_S16x512x8x128_S8x16x128x512_2_0_3_1
/-- The two tables: four stretches of columns, scaled. -/
def hTab (a : FVec Ideal S8192x64 .f32) (b c : FVec Ideal S8192x16 .f32) (d : FVec Ideal S8192x32 .f32) : FVec Ideal S8192x128 .f32 :=
  mulf (concatenate S8192x128 1 [⟨S8192x64, a⟩, ⟨S8192x16, b⟩, ⟨S8192x16, c⟩, ⟨S8192x32, d⟩] concatenates_S8192x64_S8192x16_S8192x16_S8192x32_S8192x128_d1)
    (broadcastInDim S8192x128 ![] bcast_S_S8192x128 (constant S_ .f32 0x3E16C740#32))

section arrays
variable (m : (ℓ : Loc nD τ sig) → Buf (Elt Ideal) ℓ) (c : Dev nD)

set_option maxHeartbeats 40000000

theorem V_d : (V m c main_v2 : FVec Ideal S8x16x128x512 .f32) = hT (m ((c.tc : Thread nD τ).loc main_arg2)) := by
  unfold V V0 hostOps0 hostOps0_1 hostOps0_2
  after_results_simp <;> rfl

theorem V_cq : (V m c main_v32 : FVec Ideal S8192x128 .f32) = hTab (broadcastInDim S8192x64 ![] bcast_S_S8192x64 (constant S_ .f32 0x3F800000#32))
    (cosA (m ((c.tc : Thread nD τ).loc main_arg1))) (cosA (m ((c.tc : Thread nD τ).loc main_arg1))) (broadcastInDim S8192x32 ![] bcast_S_S8192x32 (constant S_ .f32 0x00000000#32)) := by
  unfold V V0 hostOps0 hostOps0_1 hostOps0_2
  after_results_simp <;> rfl

theorem V_sq : (V m c main_v34 : FVec Ideal S8192x128 .f32) = hTab (broadcastInDim S8192x64 ![] bcast_S_S8192x64 (constant S_ .f32 0x00000000#32))
    (Host.negf (sinA (m ((c.tc : Thread nD τ).loc main_arg1)))) (sinA (m ((c.tc : Thread nD τ).loc main_arg1))) (broadcastInDim S8192x32 ![] bcast_S_S8192x32 (constant S_ .f32 0x00000000#32)) := by
  unfold V V0 hostOps0 hostOps0_1 hostOps0_2
  after_results_simp <;> rfl

end arrays

/-! ## The grid -/

/-- The cotangent, head by head, at its row and column. -/
theorem hT_apply (d : FVec Ideal S8192x8x96 .f32) (h : Fin 8) (s : Fin 16) (e : Fin 128) (q : Fin 512) :
    hT d (ix4 h s e q) = at3 d (512 * s.val + q.val) h.val e.val := by
  have hr : 512 * s.val + q.val < 8192 := by omega
  unfold hT
  rw [transpose_apply [2, 0, 3, 1] _ transposes_S16x512x8x128_S8x16x128x512_2_0_3_1 _ (ix4 s q h e) (fun b => by
    match b with | ⟨0, _⟩ => rfl | ⟨1, _⟩ => rfl | ⟨2, _⟩ => rfl | ⟨3, _⟩ => rfl)]
  rw [shapeCast_apply _ shapeCasts_S8192x8x128_S16x512x8x128 (ix4 s q h e) (ix3 ⟨512 * s.val + q.val, hr⟩ h e) (by
    rw [Shape.rowMajor_val_four, Shape.rowMajor_val_three]
    show ((512 * s.val + q.val) * 8 + h.val) * 128 + e.val = ((s.val * 512 + q.val) * 8 + h.val) * 128 + e.val
    omega)]
  refine (at3_pos (hP d) hr h.isLt e.isLt).symm.trans ?_
  refine (at3_pad d _ pads_S8192x8x96_S8192x8x128_000_000_0320 h_S_ (fun _ => sitofp_zero (φ := .f32)) (by omega) _ _ _).trans ?_
  rw [if_neg (by omega), Nat.sub_zero]

section grid
variable (m : (ℓ : Loc nD τ sig) → Buf (Elt Ideal) ℓ) (ρ : Dev nD → PrngReg) (c : Dev nD)

abbrev P : (⟨S8192, .i32⟩ : BufTy).Contents (Elt Ideal) := m ((c : Thread nD τ).loc main_arg1)
abbrev D : FVec Ideal S8192x8x96 .f32 := m ((c : Thread nD τ).loc main_arg2)

/-- The tables at a place. -/
def cq (p : (⟨S8192, .i32⟩ : BufTy).Contents (Elt Ideal)) : FVec Ideal S8192x128 .f32 :=
  hTab (broadcastInDim S8192x64 ![] bcast_S_S8192x64 (constant S_ .f32 0x3F800000#32)) (cosA p) (cosA p)
    (broadcastInDim S8192x32 ![] bcast_S_S8192x32 (constant S_ .f32 0x00000000#32))
def sq (p : (⟨S8192, .i32⟩ : BufTy).Contents (Elt Ideal)) : FVec Ideal S8192x128 .f32 :=
  hTab (broadcastInDim S8192x64 ![] bcast_S_S8192x64 (constant S_ .f32 0x00000000#32)) (Host.negf (sinA p)) (sinA p)
    (broadcastInDim S8192x32 ![] bcast_S_S8192x32 (constant S_ .f32 0x00000000#32))

/-- What the kernel writes in row `r`, column `n`. -/
def kAt (d : FVec Ideal S8192x8x96 .f32) (p : (⟨S8192, .i32⟩ : BufTy).Contents (Elt Ideal)) (r n : ℕ) : EReal :=
  at3 d r (n % 1024 / 128) (n % 128) * atN (if n < 1024 then cq p else sq p) r (n % 128)

theorem idx : ∀ t : Fin grid0.N, (win0_0.index t 0 = 0 ∧ win0_0.index t 1 = t.val ∧ win0_0.index t 2 = 0 ∧ win0_0.index t 3 = 0)
    ∧ (win0_1.index t 0 = t.val ∧ win0_1.index t 1 = 0) ∧ (win0_2.index t 0 = t.val ∧ win0_2.index t 1 = 0)
    ∧ (win0_3.index t 0 = t.val ∧ win0_3.index t 1 = 0) := by decide +kernel

theorem lt16 (t : Fin cfg0.N) : t.val < 16 := t.isLt.trans_eq N_0

theorem read0 (t : Fin cfg0.N) (X : S8x16x128x512.Idx → EReal) (h : Fin 8) (e : Fin 128) (q : Fin 512) :
    (View.read (Elt Ideal) ((View.whole main_v2).slice (win0_0.rect t)) X : S8x1x128x512.Idx → EReal) (ix4 h 0 e q) = X (ix4 h ⟨t.val, lt16 t⟩ e q) := by
  refine (View.read_apply _ _).trans ?_
  refine congrArg X (funext fun a => Fin.ext ?_)
  match a with
  | 0 => show win0_0.index t 0 * 8 + 1 * h.val = h.val; rw [(idx t).1.1]; omega
  | 1 => show win0_0.index t 1 * 1 + 1 * 0 = t.val; rw [(idx t).1.2.1]; omega
  | 2 => show win0_0.index t 2 * 128 + 1 * e.val = e.val; rw [(idx t).1.2.2.1]; omega
  | 3 => show win0_0.index t 3 * 512 + 1 * q.val = q.val; rw [(idx t).1.2.2.2]; omega

theorem blk0 (t : Fin cfg0.N) (h : Fin 8) (e : Fin 128) (q : Fin 512) :
    (iblk m c 0 t : Vec Ideal S8x1x128x512 .f32) (ix4 h 0 e q) = at3 (D m c) (512 * t.val + q.val) h.val e.val := by
  have h0 : (iblk m c 0 t : Vec Ideal S8x1x128x512 .f32) = View.read (Elt Ideal) ((View.whole main_v2).slice (win0_0.rect t)) (V m c main_v2) := rfl
  rw [h0]
  refine (read0 t (V m c main_v2) h e q).trans ?_
  rw [V_d]
  exact hT_apply (D m c) h ⟨t.val, lt16 t⟩ e q

theorem blk1 (t : Fin cfg0.N) (q : Fin 512) (e : Fin 128) : (iblk m c 1 t : Vec Ideal S512x128 .f32) (ix2 q e) = atN (cq (P m c)) (512 * t.val + q.val) e.val := by
  have h : (iblk m c 1 t : Vec Ideal S512x128 .f32) (ix2 q e) = atN (V m c main_v32 : FVec Ideal S8192x128 .f32) (512 * t.val + q.val) e.val :=
    eq_atN_of (V m c main_v32 : FVec Ideal S8192x128 .f32) _ (by show win0_1.index t 0 * 512 + 1 * q.val = _; rw [(idx t).2.1.1]; omega)
      (by show win0_1.index t 1 * 128 + 1 * e.val = _; rw [(idx t).2.1.2]; omega)
  rw [h, V_cq]; rfl

theorem blk2 (t : Fin cfg0.N) (q : Fin 512) (e : Fin 128) : (iblk m c 2 t : Vec Ideal S512x128 .f32) (ix2 q e) = atN (sq (P m c)) (512 * t.val + q.val) e.val := by
  have h : (iblk m c 2 t : Vec Ideal S512x128 .f32) (ix2 q e) = atN (V m c main_v34 : FVec Ideal S8192x128 .f32) (512 * t.val + q.val) e.val :=
    eq_atN_of (V m c main_v34 : FVec Ideal S8192x128 .f32) _ (by show win0_2.index t 0 * 512 + 1 * q.val = _; rw [(idx t).2.2.1.1]; omega)
      (by show win0_2.index t 1 * 128 + 1 * e.val = _; rw [(idx t).2.2.1.2]; omega)
  rw [h, V_sq]; rfl

theorem tile_at (t : Fin cfg0.N) (y : S512x2048.Idx) : tile (iblk m c 0 t) (iblk m c 1 t) (iblk m c 2 t) y
    = kAt (D m c) (P m c) (512 * t.val + (y 0).val) (y 1).val := by
  unfold tile kAt
  refine congrArg₂ (· * ·) (blk0 m c t _ _ _) ?_
  split_ifs
  · exact blk1 m c t _ _
  · exact blk2 m c t _ _

/-- The kernel's array after the run. -/
theorem final3 : (dats m 0 c).arrAt 3 cfg0.N = fun i : S8192x2048.Idx => kAt (D m c) (P m c) (i 0).val (i 1).val := by
  refine (dats m 0 c).arrAt_eq_of_cover 3 _ (fun t _ => ?_) fun (i : S8192x2048.Idx) => ?_
  · show (cfg0.win 3).cut (grid0.coords t) ((dats m 0 c).after 3 t) = _
    rw [after0_3, out_eq]
    refine funext fun y => Eq.trans (tile_at m c t y) (Eq.trans ?_ (View.read_apply _ _).symm)
    have e0 : 512 * t.val + (y 0).val = win0_3.index t 0 * 512 + 1 * (y 0).val := by rw [(idx t).2.2.2.1]; omega
    have e1 : (y 1).val = win0_3.index t 1 * 2048 + 1 * (y 1).val := by rw [(idx t).2.2.2.2]; omega
    exact congrArg₂ (kAt (D m c) (P m c)) e0 e1
  · have hi0 : (i 0).val < 8192 := (i 0).isLt
    obtain ⟨t, ht⟩ : ∃ t : Fin cfg0.N, t.val = (i 0).val / 512 := ⟨⟨(i 0).val / 512, by rw [show cfg0.N = 16 from N_0]; omega⟩, rfl⟩
    refine ⟨t, flush0_3 t, ?_⟩
    show i ∈ ((View.whole main_v35).slice (win0_3.rect t)).set
    rw [View.set_slice_whole, Rect.mem_set_unit]
    exact in_rows i (a := 512) (f := win0_3.index t) (by decide) ((idx t).2.2.2.1.trans ht) (idx t).2.2.2.2

end grid

/-! ## The gradient -/

/-- Column `e` of head `h` in row `r` of the gradient. -/
def gAt (d : FVec Ideal S8192x8x96 .f32) (C S : FVec Ideal S8192x16 .f32) (r h e : ℕ) : EReal :=
  if e < 64 then at3 d r h e * sc
  else if e < 80 then at3 d r h e * sc * atN C r (e - 64) + at3 d r h (e + 16) * sc * atN S r (e - 64)
  else at3 d r h e * sc * atN C r (e - 80) + -(at3 d r h (e - 16) * sc) * atN S r (e - 80)

theorem tab_at (a : FVec Ideal S8192x64 .f32) (b c : FVec Ideal S8192x16 .f32) (d : FVec Ideal S8192x32 .f32) {r e : ℕ} (hr : r < 8192) (he : e < 96) :
    atN (hTab a b c d) r e = (if e < 64 then atN a r e else if e < 80 then atN b r (e - 64) else atN c r (e - 80)) * sc := by
  have h : atN (hTab a b c d) r e = atN (concatenate S8192x128 1 [⟨S8192x64, a⟩, ⟨S8192x16, b⟩, ⟨S8192x16, c⟩, ⟨S8192x32, d⟩]
      concatenates_S8192x64_S8192x16_S8192x16_S8192x32_S8192x128_d1) r e * sc := by
    rw [atN_pos _ hr (by omega : e < 128), atN_pos _ hr (by omega : e < 128)]
    rfl
  rw [h, atN_join (n₁ := 64) (n₂ := 16) (n₃ := 16) (n₄ := 32) a b c d _ (by rfl) r e hr he]

section tail
variable (X : (⟨S8192x2048, .bf16⟩ : BufTy).Contents (Elt Ideal))

open Cert.QropeBwdIdeal.Read

/-- The kernel's two groups of heads. -/
theorem v39_at {r h e : ℕ} (hr : r < 8192) (hh : h < 8) (he : e < 128) :
    at3 (val_main_v39 (F := Ideal) X : FVec Ideal S8192x8x128 .f32) r h e = X (ix2 ⟨r, hr⟩ ⟨h * 128 + e, by omega⟩) := by
  rw [at3_pos _ hr hh he]
  unfold val_main_v39 val_main_v38 val_main_v37 val_main_v36
  rw [shapeCast_apply _ shapeCasts_S8192x1x8x128_S8192x8x128 _ (ix4 ⟨r, hr⟩ 0 ⟨h, hh⟩ ⟨e, he⟩) (by
    rw [Shape.rowMajor_val_four, Shape.rowMajor_val_three]
    show ((r * 1 + 0) * 8 + h) * 128 + e = (r * 8 + h) * 128 + e
    omega)]
  rw [extractStridedSlice_apply _ _ slices_S8192x2x8x128_S8192x1x8x128_0_0_0_0 _ (ix4 ⟨r, hr⟩ 0 ⟨h, hh⟩ ⟨e, he⟩) (fun a => by
    match a with
    | ⟨0, _⟩ => show r = 0 + r; omega
    | ⟨1, _⟩ => rfl
    | ⟨2, _⟩ => show h = 0 + h; omega
    | ⟨3, _⟩ => show e = 0 + e; omega)]
  rw [shapeCast_apply _ shapeCasts_S8192x2048_S8192x2x8x128 _ (ix2 ⟨r, hr⟩ ⟨h * 128 + e, by omega⟩) (by
    rw [Shape.rowMajor_val_four, Shape.rowMajor_val_two]
    show r * 2048 + (h * 128 + e) = ((r * 2 + 0) * 8 + h) * 128 + e
    omega)]
  rfl

theorem v41_at {r h e : ℕ} (hr : r < 8192) (hh : h < 8) (he : e < 128) :
    at3 (val_main_v41 (F := Ideal) X : FVec Ideal S8192x8x128 .f32) r h e = X (ix2 ⟨r, hr⟩ ⟨1024 + h * 128 + e, by omega⟩) := by
  rw [at3_pos _ hr hh he]
  unfold val_main_v41 val_main_v40 val_main_v37 val_main_v36
  rw [shapeCast_apply _ shapeCasts_S8192x1x8x128_S8192x8x128 _ (ix4 ⟨r, hr⟩ 0 ⟨h, hh⟩ ⟨e, he⟩) (by
    rw [Shape.rowMajor_val_four, Shape.rowMajor_val_three]
    show ((r * 1 + 0) * 8 + h) * 128 + e = (r * 8 + h) * 128 + e
    omega)]
  rw [extractStridedSlice_apply _ _ slices_S8192x2x8x128_S8192x1x8x128_0_1_0_0 _ (ix4 ⟨r, hr⟩ 1 ⟨h, hh⟩ ⟨e, he⟩) (fun a => by
    match a with
    | ⟨0, _⟩ => show r = 0 + r; omega
    | ⟨1, _⟩ => rfl
    | ⟨2, _⟩ => show h = 0 + h; omega
    | ⟨3, _⟩ => show e = 0 + e; omega)]
  rw [shapeCast_apply _ shapeCasts_S8192x2048_S8192x2x8x128 _ (ix2 ⟨r, hr⟩ ⟨1024 + h * 128 + e, by omega⟩) (by
    rw [Shape.rowMajor_val_four, Shape.rowMajor_val_two]
    show r * 2048 + (1024 + h * 128 + e) = ((r * 2 + 1) * 8 + h) * 128 + e
    omega)]
  rfl

/-- What the program does to the kernel's array. -/
theorem v50_at (i : S8192x768.Idx) : (val_main_v50 (F := Ideal) X : FVec Ideal S8192x768 .f32) i
    = if (i 1).val % 96 < 64 then at3 (val_main_v39 (F := Ideal) X : FVec Ideal S8192x8x128 .f32) (i 0).val ((i 1).val / 96) ((i 1).val % 96)
      else if (i 1).val % 96 < 80 then at3 (val_main_v39 (F := Ideal) X : FVec Ideal S8192x8x128 .f32) (i 0).val ((i 1).val / 96) ((i 1).val % 96)
        + at3 (val_main_v41 (F := Ideal) X : FVec Ideal S8192x8x128 .f32) (i 0).val ((i 1).val / 96) ((i 1).val % 96 + 16)
      else at3 (val_main_v39 (F := Ideal) X : FVec Ideal S8192x8x128 .f32) (i 0).val ((i 1).val / 96) ((i 1).val % 96)
        + at3 (val_main_v41 (F := Ideal) X : FVec Ideal S8192x8x128 .f32) (i 0).val ((i 1).val / 96) ((i 1).val % 96 - 16) := by
  have hi : (i 1).val < 768 := (i 1).isLt
  unfold val_main_v50
  refine (atN_cols (a := 8192) (b := 8) (n := 96) (val_main_v49 (F := Ideal) X) (by omega) (by omega) shapeCasts_S8192x8x96_S8192x768 i).trans ?_
  unfold val_main_v49
  refine (at3_join (n₁ := 64) (n₂ := 16) (n₃ := 16) (val_main_v42 (F := Ideal) X) (val_main_v45 (F := Ideal) X) (val_main_v48 (F := Ideal) X) _ (by rfl) _ _ _
    (i 0).isLt (by omega) (Nat.mod_lt _ (by omega))).trans ?_
  generalize hr : (i 0).val = r
  generalize hh : (i 1).val / 96 = h
  generalize he : (i 1).val % 96 = e
  have he' : e < 96 := he ▸ Nat.mod_lt _ (by omega)
  split_ifs with h1 h2
  · refine (at3_slice (o := 0) (n := 64) (val_main_v39 (F := Ideal) X) slices_S8192x8x128_S8192x8x64_0_0_0 r h e h1).trans ?_
    rw [Nat.zero_add]
  · refine (at3_addf (val_main_v43 (F := Ideal) X) (val_main_v44 (F := Ideal) X) _ _ _).trans (congrArg₂ (· + ·) ?_ ?_)
    · refine (at3_slice (o := 64) (n := 16) (val_main_v39 (F := Ideal) X) slices_S8192x8x128_S8192x8x16_0_0_64 r h _ (by omega)).trans ?_
      rw [show 64 + (e - 64) = e by omega]
    · refine (at3_slice (o := 80) (n := 16) (val_main_v41 (F := Ideal) X) slices_S8192x8x128_S8192x8x16_0_0_80 r h _ (by omega)).trans ?_
      rw [show 80 + (e - 64) = e + 16 by omega]
  · refine (at3_addf (val_main_v46 (F := Ideal) X) (val_main_v47 (F := Ideal) X) _ _ _).trans (congrArg₂ (· + ·) ?_ ?_)
    · refine (at3_slice (o := 80) (n := 16) (val_main_v39 (F := Ideal) X) slices_S8192x8x128_S8192x8x16_0_0_80 r h _ (by omega)).trans ?_
      rw [show 80 + (e - (64 + 16)) = e by omega]
    · refine (at3_slice (o := 64) (n := 16) (val_main_v41 (F := Ideal) X) slices_S8192x8x128_S8192x8x16_0_0_64 r h _ (by omega)).trans ?_
      rw [show 64 + (e - (64 + 16)) = e - 16 by omega]

end tail

/-- The kernel's entries in one head. -/
theorem kAt_lo (d : FVec Ideal S8192x8x96 .f32) (p : (⟨S8192, .i32⟩ : BufTy).Contents (Elt Ideal)) {r h e : ℕ} (hh : h < 8) (he : e < 128) :
    kAt d p r (h * 128 + e) = at3 d r h e * atN (cq p) r e := by
  unfold kAt
  rw [if_pos (by omega), show (h * 128 + e) % 1024 / 128 = h by omega, show (h * 128 + e) % 128 = e by omega]

theorem kAt_hi (d : FVec Ideal S8192x8x96 .f32) (p : (⟨S8192, .i32⟩ : BufTy).Contents (Elt Ideal)) {r h e : ℕ} (hh : h < 8) (he : e < 128) :
    kAt d p r (1024 + h * 128 + e) = at3 d r h e * atN (sq p) r e := by
  unfold kAt
  rw [if_neg (by omega), show (1024 + h * 128 + e) % 1024 / 128 = h by omega, show (1024 + h * 128 + e) % 128 = e by omega]

/-- What the program returns, at a place. -/
theorem ker_at (d : FVec Ideal S8192x8x96 .f32) (p : (⟨S8192, .i32⟩ : BufTy).Contents (Elt Ideal)) (i : S8192x768.Idx) :
    (Cert.QropeBwdIdeal.Read.val_main_v50 (F := Ideal) (fun i : S8192x2048.Idx => kAt d p (i 0).val (i 1).val) : FVec Ideal S8192x768 .f32) i
      = gAt d (cosA p) (sinA p) (i 0).val ((i 1).val / 96) ((i 1).val % 96) := by
  have hi : (i 1).val < 768 := (i 1).isLt
  have hr : (i 0).val < 8192 := (i 0).isLt
  have hh : (i 1).val / 96 < 8 := by omega
  have he : (i 1).val % 96 < 96 := Nat.mod_lt _ (by omega)
  rw [v50_at]
  unfold gAt
  generalize (i 0).val = r at hr ⊢
  generalize (i 1).val / 96 = h at hh ⊢
  generalize (i 1).val % 96 = e at he ⊢
  have lo : ∀ e, e < 96 → at3 (Cert.QropeBwdIdeal.Read.val_main_v39 (F := Ideal) (fun i : S8192x2048.Idx => kAt d p (i 0).val (i 1).val) : FVec Ideal S8192x8x128 .f32) r h e
      = at3 d r h e * ((if e < 64 then 1 else if e < 80 then atN (cosA p) r (e - 64) else atN (cosA p) r (e - 80)) * sc) := fun e he => by
    refine (v39_at _ hr hh (by omega)).trans ((kAt_lo d p hh (by omega)).trans (congrArg _ ?_))
    refine (tab_at _ _ _ _ hr he).trans (congrArg (· * sc) ?_)
    split_ifs with h1
    · rw [atN_pos _ hr h1]; exact Idealize.ShloMosaic.Ideal.ofBits_one_f32
    · rfl
    · rfl
  have hi : ∀ e, 64 ≤ e → e < 96 → at3 (Cert.QropeBwdIdeal.Read.val_main_v41 (F := Ideal) (fun i : S8192x2048.Idx => kAt d p (i 0).val (i 1).val) : FVec Ideal S8192x8x128 .f32) r h e
      = at3 d r h e * ((if e < 80 then -atN (sinA p) r (e - 64) else atN (sinA p) r (e - 80)) * sc) := fun e h64 he => by
    refine (v41_at _ hr hh (by omega)).trans ((kAt_hi d p hh (by omega)).trans (congrArg _ ?_))
    refine (tab_at _ _ _ _ hr he).trans (congrArg (· * sc) ?_)
    rw [if_neg (by omega)]
    split_ifs with h1
    · rw [atN_pos _ hr (by omega : e - 64 < 16), atN_pos _ hr (by omega : e - 64 < 16)]; rfl
    · rfl
  split_ifs with h1 h2
  · rw [lo e (by omega), if_pos h1, one_mul]
  · rw [lo e (by omega), if_neg h1, if_pos h2, hi (e + 16) (by omega) (by omega), if_neg (by omega), show e + 16 - 80 = e - 64 by omega]
    rw [mul_comm (atN (cosA p) r _) sc, mul_comm (atN (sinA p) r _) sc, ← mul_assoc, ← mul_assoc]
  · rw [lo e (by omega), if_neg h1, if_neg h2, hi (e - 16) (by omega) (by omega), if_pos (by omega), show e - 16 - 64 = e - 80 by omega]
    rw [mul_comm (atN (cosA p) r _) sc, neg_mul, mul_comm (atN (sinA p) r _) sc, mul_neg, ← mul_assoc, ← mul_assoc, neg_mul]

end Cert.QropeBwdIdeal.Own

namespace Cert.QropeRefIdeal.Own

open Cert.QropeRefIdeal Cert.QropeRefIdeal.Gen Cert.QropeRefIdeal.Read Cert.Own
open Cert.QropeBwdIdeal.Own (cosA sinA gAt sc)

variable (x1 : (⟨S8192, .i32⟩ : BufTy).Contents (Elt Ideal)) (x2 : (⟨S8192x8x96, .f32⟩ : BufTy).Contents (Elt Ideal))

/-- A table of the positions, for every head. -/
theorem table_at (C : FVec Ideal S8192x16 .f32) {r h j : ℕ} (hr : r < 8192) (hh : h < 8) (hj : j < 16) :
    at3 (broadcastInDim S8192x8x16 ![0, 1, 2] bcast_S8192x1x16_S8192x8x16_0_1_2 (broadcastInDim S8192x1x16 ![0, 2] bcast_S8192x16_S8192x1x16_0_2 C) : FVec Ideal S8192x8x16 .f32) r h j
      = atN C r j := by
  rw [at3_pos _ hr hh hj, atN_pos _ hr hj]
  rw [broadcastInDim_apply _ _ _ _ (ix3 ⟨r, hr⟩ 0 ⟨j, hj⟩) (fun a => by match a with | ⟨0, _⟩ => rfl | ⟨1, _⟩ => rfl | ⟨2, _⟩ => rfl)]
  rw [broadcastInDim_apply _ _ _ _ (ix2 ⟨r, hr⟩ ⟨j, hj⟩) (fun a => by match a with | ⟨0, _⟩ => rfl | ⟨1, _⟩ => rfl)]

theorem v38_at {r h e : ℕ} : at3 (val_main_v38 (F := Ideal) x2 : FVec Ideal S8192x8x96 .f32) r h e = at3 x2 r h e * sc := by
  unfold at3; split
  · rfl
  · exact (zero_mul _).symm

theorem v41_at {r h j : ℕ} (hj : j < 16) : at3 (val_main_v41 (F := Ideal) x2 : FVec Ideal S8192x8x16 .f32) r h j = at3 x2 r h (64 + j) * sc := by
  refine (at3_slice (o := 0) (n := 16) (val_main_v40 (F := Ideal) x2) slices_S8192x8x32_S8192x8x16_0_0_0 r h j hj).trans ?_
  refine (at3_slice (o := 64) (n := 32) (val_main_v38 (F := Ideal) x2) slices_S8192x8x96_S8192x8x32_0_0_64 r h _ (by omega)).trans ?_
  rw [v38_at, Nat.zero_add]

theorem v42_at {r h j : ℕ} (hj : j < 16) : at3 (val_main_v42 (F := Ideal) x2 : FVec Ideal S8192x8x16 .f32) r h j = at3 x2 r h (80 + j) * sc := by
  refine (at3_slice (o := 16) (n := 16) (val_main_v40 (F := Ideal) x2) slices_S8192x8x32_S8192x8x16_0_0_16 r h j hj).trans ?_
  refine (at3_slice (o := 64) (n := 32) (val_main_v38 (F := Ideal) x2) slices_S8192x8x96_S8192x8x32_0_0_64 r h _ (by omega)).trans ?_
  rw [v38_at, show 64 + (16 + j) = 80 + j by omega]

theorem v50_at {r h j : ℕ} (hr : r < 8192) (hh : h < 8) (hj : j < 16) : at3 (val_main_v50 (F := Ideal) x1 x2 : FVec Ideal S8192x8x16 .f32) r h j
    = at3 x2 r h (80 + j) * sc * atN (cosA x1) r j + -(at3 x2 r h (64 + j) * sc) * atN (sinA x1) r j := by
  refine (at3_addf (val_main_v46 (F := Ideal) x1 x2) (val_main_v49 (F := Ideal) x1 x2) _ _ _).trans (congrArg₂ (· + ·) ?_ ?_)
  · refine (at3_mulf (val_main_v42 (F := Ideal) x2) (val_main_v45 (F := Ideal) x1) _ _ _).trans (congrArg₂ (· * ·) (v42_at x2 hj) ?_)
    exact table_at (cosA x1) hr hh hj
  · refine (at3_mulf (val_main_v47 (F := Ideal) x2) (val_main_v48 (F := Ideal) x1) _ _ _).trans (congrArg₂ (· * ·) ?_ ?_)
    · exact (at3_negf (val_main_v41 (F := Ideal) x2) _ _ _).trans (congrArg Neg.neg (v41_at x2 hj))
    · exact table_at (sinA x1) hr hh hj

theorem v53_at {r h j : ℕ} (hr : r < 8192) (hh : h < 8) (hj : j < 16) : at3 (val_main_v53 (F := Ideal) x1 x2 : FVec Ideal S8192x8x16 .f32) r h j
    = at3 x2 r h (80 + j) * sc * atN (sinA x1) r j + at3 x2 r h (64 + j) * sc * atN (cosA x1) r j := by
  refine (at3_addf (val_main_v44 (F := Ideal) x1 x2) (val_main_v52 (F := Ideal) x1 x2) _ _ _).trans (congrArg₂ (· + ·) ?_ ?_)
  · refine (at3_mulf (val_main_v42 (F := Ideal) x2) (val_main_v43 (F := Ideal) x1) _ _ _).trans (congrArg₂ (· * ·) (v42_at x2 hj) ?_)
    exact table_at (sinA x1) hr hh hj
  · refine (at3_mulf (val_main_v41 (F := Ideal) x2) (val_main_v51 (F := Ideal) x1) _ _ _).trans (congrArg₂ (· * ·) (v41_at x2 hj) ?_)
    exact table_at (cosA x1) hr hh hj

theorem cst0 (i : S_.Idx) : (constant (F := Ideal) S_ .f32 0x00000000#32 i : EReal) = 0 := Ideal.ofBits_zero_f32

/-- The rotated columns' gradient. -/
theorem v56_at {r h j : ℕ} (hr : r < 8192) (hh : h < 8) (hj : j < 32) : at3 (val_main_v56 (F := Ideal) x1 x2 : FVec Ideal S8192x8x32 .f32) r h j
    = if j < 16 then at3 x2 r h (64 + j) * sc * atN (cosA x1) r j + at3 x2 r h (80 + j) * sc * atN (sinA x1) r j
      else at3 x2 r h (64 + j) * sc * atN (cosA x1) r (j - 16) + -(at3 x2 r h (48 + j) * sc) * atN (sinA x1) r (j - 16) := by
  refine (at3_addf (val_main_v54 (F := Ideal) x1 x2) (val_main_v55 (F := Ideal) x1 x2) _ _ _).trans ?_
  have e1 := at3_pad (n := 16) (N := 32) (l := 16) (g := 0) (val_main_v50 (F := Ideal) x1 x2) (val_main_cst_4 (F := Ideal)) pads_S8192x8x16_S8192x8x32_000_000_1600 h_S_ cst0 (by omega) r h j
  have e2 := at3_pad (n := 16) (N := 32) (l := 0) (g := 16) (val_main_v53 (F := Ideal) x1 x2) (val_main_cst_5 (F := Ideal)) pads_S8192x8x16_S8192x8x32_000_000_0160 h_S_ cst0 (by omega) r h j
  refine (congrArg₂ (· + ·) e1 e2).trans ?_
  rw [if_neg (Nat.not_lt_zero j), Nat.sub_zero]
  split_ifs with h1
  · rw [zero_add, v53_at x1 x2 hr hh h1, add_comm]
  · rw [v50_at x1 x2 hr hh (by omega), at3_neg (val_main_v53 (F := Ideal) x1 x2 : FVec Ideal S8192x8x16 .f32) (by omega), add_zero,
      show 80 + (j - 16) = 64 + j by omega, show 64 + (j - 16) = 48 + j by omega]

/-- The reference at a place. -/
theorem ref_at (i : S8192x768.Idx) : (val_main_v60 (F := Ideal) x1 x2 : FVec Ideal S8192x768 .f32) i
    = gAt x2 (cosA x1) (sinA x1) (i 0).val ((i 1).val / 96) ((i 1).val % 96) := by
  have hi : (i 1).val < 768 := (i 1).isLt
  have hr : (i 0).val < 8192 := (i 0).isLt
  have hh : (i 1).val / 96 < 8 := by omega
  have he : (i 1).val % 96 < 96 := Nat.mod_lt _ (by omega)
  unfold val_main_v60
  refine (atN_cols (a := 8192) (b := 8) (n := 96) (val_main_v59 (F := Ideal) x1 x2) (by omega) (by omega) shapeCasts_S8192x8x96_S8192x768 i).trans ?_
  unfold gAt
  generalize (i 0).val = r at hr ⊢
  generalize (i 1).val / 96 = h at hh ⊢
  generalize (i 1).val % 96 = e at he ⊢
  refine (at3_addf (val_main_v57 (F := Ideal) x1 x2) (val_main_v58 (F := Ideal) x2) _ _ _).trans ?_
  have e1 := at3_pad (n := 32) (N := 96) (l := 64) (g := 0) (val_main_v56 (F := Ideal) x1 x2) (val_main_cst_6 (F := Ideal)) pads_S8192x8x32_S8192x8x96_000_000_6400 h_S_ cst0 (by omega) r h e
  have e2 := at3_pad (n := 64) (N := 96) (l := 0) (g := 32) (val_main_v39 (F := Ideal) x2) (val_main_cst_7 (F := Ideal)) pads_S8192x8x64_S8192x8x96_000_000_0320 h_S_ cst0 (by omega) r h e
  refine (congrArg₂ (· + ·) e1 e2).trans ?_
  rw [if_neg (Nat.not_lt_zero e), Nat.sub_zero]
  by_cases h1 : e < 64
  · rw [if_pos h1, if_pos h1, zero_add]
    refine (at3_slice (o := 0) (n := 64) (val_main_v38 (F := Ideal) x2) slices_S8192x8x96_S8192x8x64_0_0_0 r h e h1).trans ?_
    rw [v38_at, Nat.zero_add]
  · rw [if_neg h1, if_neg h1, at3_neg (val_main_v39 (F := Ideal) x2 : FVec Ideal S8192x8x64 .f32) (by omega), add_zero, v56_at x1 x2 hr hh (by omega)]
    by_cases h2 : e < 80
    · rw [if_pos (by omega), if_pos h2, show 64 + (e - 64) = e by omega, show 80 + (e - 64) = e + 16 by omega]
    · rw [if_neg (by omega), if_neg h2, show 64 + (e - 64) = e by omega, show 48 + (e - 64) = e - 16 by omega, show e - 64 - 16 = e - 80 by omega]

end Cert.QropeRefIdeal.Own

namespace Cert.Qrope

open Cert.Own Cert.QropeBwdIdeal.Own

/-- The reference program ends with its arguments unchanged and every counter at zero. -/
theorem ref_frame : Cert.quiescent_QropeRefIdeal (hQropeRefIdeal := Cert.QropeRefIdeal.Gen.facts) := fun m g _ =>
  (θ_run Cert.QropeRefIdeal.defs _ _).mono (fun r h => ⟨fun c => (h c).2, sem_eq_zero_of_no_sems (by decide) r.2⟩)
    (Cert.QropeRefIdeal.Value.run m g)

set_option maxHeartbeats 1000000 in
/-- Over the extended reals the program returns the derivative of the rotary positions and the scale. -/
theorem value : Cert.algebraic_QropeBwdIdeal_QropeRefIdeal (hQropeBwdIdeal := Cert.QropeBwdIdeal.Gen.facts)
    (hQropeRefIdeal := Cert.QropeRefIdeal.Gen.facts) := fun m g m' g' _ hm => by
  refine ⟨fun c => Cert.QropeBwdIdeal.Read.val_main_v50 (F := Ideal) (Cert.QropeBwdIdeal.Value.reg_main_v35 m c), ?_, ?_⟩
  · exact (θ_run Cert.QropeBwdIdeal.defs _ _).mono (fun r h c => h c) (Cert.QropeBwdIdeal.Value.run m g)
  · refine (θ_run Cert.QropeRefIdeal.defs _ _).mono (fun r h c => ?_) (Cert.QropeRefIdeal.Value.run m' g')
    obtain ⟨e0, e1, e2⟩ := hm c
    obtain ⟨h0, h1⟩ := h c
    refine ⟨h0.trans ?_, h1⟩
    refine (Cert.QropeRefIdeal.Read.val_main_v60_eq (F := Ideal) _ _).trans ?_
    rw [e1, e2]
    refine funext fun i => (Cert.QropeRefIdeal.Own.ref_at _ _ i).trans ?_
    refine (ker_at _ _ i).symm.trans ?_
    exact congrArg (fun X => Cert.QropeBwdIdeal.Read.val_main_v50 (F := Ideal) X i) (final3 m c).symm

end Cert.Qrope
end
-- ==== Proof.Memq.lean ====
/-
  The gradient of the chunk memory's query product (`mem_q_dx`): a product against the transposed weights whose end is the
  row norm's gradient, added to a second gradient, with the norm weight's gradient summed over the tiles of rows.
-/
module

public import proofs.«01_k».proof.Proof.Pieces
public import proofs.«01_k».proof.Proof.RowNorm
public import proofs.«01_k».proof.Defs
public import proofs.«01_k».proof.Proof.Gen.MemqBwdIdeal.Value
public import proofs.«01_k».proof.Proof.Gen.MemqRefIdeal.Run
public import proofs.«01_k».proof.Proof.Gen.MemqRefIdeal.Read
public import Idealize.ShloMosaic.Lib.Tactic
public import Idealize.ShloMosaic.Lib.MatmulPlain

@[expose] public section

set_option maxRecDepth 16384

noncomputable section

open Idealize.ShloMosaic Idealize.ShloMosaic.TcCoe Idealize.SL.Sem Idealize.ShloMosaic.ValueIdx
open Idealize.ShloMosaic.Pipeline (Dat)

namespace Cert.MemqBwdIdeal.Own

open Cert.MemqBwdIdeal Cert.MemqBwdIdeal.Gen Cert.Own

section anyF
variable {F : FTy → Type} [FloatOps F]
variable (c : Dev nD) (i : grid0.Coords) (a3 : Memref sig .tc .vmem S1024x1024 .bf16) (h3 : a3.IsWhole)
  (a4 : Memref sig .tc .vmem S1024x1024 .bf16) (h4 : a4.IsWhole) (a5 : Memref sig .tc .vmem S1024x1024 .f32) (h5 : a5.IsWhole)
  (a6 : Memref sig .tc .vmem S1024x1024 .f32) (h6 : a6.IsWhole) (a7 : Memref sig .tc .vmem S1x1024 .f32) (h7 : a7.IsWhole)
  (a8 : Memref sig .tc .vmem S1024x1024 .f32) (h8 : a8.IsWhole) (a9 : Memref sig .tc .vmem S1024x1024 .bf16) (h9 : a9.IsWhole)
  (a10 : Memref sig .tc .vmem S1x1024 .f32) (h10 : a10.IsWhole) (a11 : Memref sig .tc .vmem S1024x1024 .f32) (h11 : a11.IsWhole)
  (x0 x1 : Vec F S1024x1024 .bf16) (x2 x3 : Vec F S1024x1024 .f32) (x4 xo : Vec F S1x1024 .f32)

/-- What a point leaves in its tile of the rows' gradient, in both cases, and of its rounded copy. -/
theorem out5_A (hc : cond0_0 i) : out0_A_5 c i a3 h3 a4 h4 a5 h5 a6 h6 a7 h7 a8 h8 a9 h9 a10 h10 a11 h11 hc x0 x1 x2 x3 x4
    = k0_pay1 x2 x3 (k0_pay10 x0 x1 x2 x4) (k0_pay11 x0 x1 x2 x4) := by
  unfold out0_A_5
  refine Eq.trans (View.read_writes_eq_canon _ _ _ fun _ => cover0_A_5 ..) ?_
  unfold kernelRun0_A
  dsimp only
  sl_unfold_words
  simp only [canon2, cov2, View.readAt_eq_ld, Memref.IsWhole.read_unread, ld2, *]

theorem out6_A (hc : cond0_0 i) : out0_A_6 c i a3 h3 a4 h4 a5 h5 a6 h6 a7 h7 a8 h8 a9 h9 a10 h10 a11 h11 hc x0 x1 x2 x3 x4
    = k0_pay2 x2 x3 (k0_pay10 x0 x1 x2 x4) (k0_pay11 x0 x1 x2 x4) := by
  unfold out0_A_6
  refine Eq.trans (View.read_writes_eq_canon _ _ _ fun _ => cover0_A_6 ..) ?_
  unfold kernelRun0_A
  dsimp only
  sl_unfold_words
  simp only [canon2, cov2, View.readAt_eq_ld, Memref.IsWhole.read_unread, ld2, *]

theorem out5_B (hc : ¬cond0_0 i) : out0_B_5 c i a3 h3 a4 h4 a5 h5 a6 h6 a7 h7 a8 h8 a9 h9 a10 h10 a11 h11 hc x0 x1 x2 x3 x4 xo
    = k0_pay1 x2 x3 (k0_pay10 x0 x1 x2 x4) (k0_pay11 x0 x1 x2 x4) := by
  unfold out0_B_5
  refine Eq.trans (View.read_writes_eq_canon _ _ _ fun _ => cover0_B_5 ..) ?_
  unfold kernelRun0_B
  dsimp only
  sl_unfold_words
  simp only [canon2, cov2, View.readAt_eq_ld, Memref.IsWhole.read_unread, ld2, *]

theorem out6_B (hc : ¬cond0_0 i) : out0_B_6 c i a3 h3 a4 h4 a5 h5 a6 h6 a7 h7 a8 h8 a9 h9 a10 h10 a11 h11 hc x0 x1 x2 x3 x4 xo
    = k0_pay2 x2 x3 (k0_pay10 x0 x1 x2 x4) (k0_pay11 x0 x1 x2 x4) := by
  unfold out0_B_6
  refine Eq.trans (View.read_writes_eq_canon _ _ _ fun _ => cover0_B_6 ..) ?_
  unfold kernelRun0_B
  dsimp only
  sl_unfold_words
  simp only [canon2, cov2, View.readAt_eq_ld, Memref.IsWhole.read_unread, ld2, *]

/-- The norm weight's gradient so far: over zeros at the first tile, over what is there at the others. -/
theorem out7_A (hc : cond0_0 i) : out0_A_7 c i a3 h3 a4 h4 a5 h5 a6 h6 a7 h7 a8 h8 a9 h9 a10 h10 a11 h11 hc x0 x1 x2 x3 x4
    = k0_pay4 (k0_pay8 x0 x1 x2) k0_pay3 := by
  unfold out0_A_7
  refine Eq.trans (View.read_writes_eq_canon _ _ _ fun _ => cover0_A_7 ..) ?_
  unfold kernelRun0_A
  dsimp only
  sl_unfold_words
  simp only [canon2, cov2, View.readAt_eq_ld, Memref.IsWhole.read_unread, ld2, *]

theorem out7_B (hc : ¬cond0_0 i) : out0_B_7 c i a3 h3 a4 h4 a5 h5 a6 h6 a7 h7 a8 h8 a9 h9 a10 h10 a11 h11 hc x0 x1 x2 x3 x4 xo
    = k0_pay4 (k0_pay8 x0 x1 x2) xo := by
  unfold out0_B_7
  refine Eq.trans (View.read_writes_eq_canon _ _ _ fun _ => cover0_B_7 ..) ?_
  unfold kernelRun0_B
  dsimp only
  sl_unfold_words
  simp only [canon2, cov2, View.readAt_eq_ld, Memref.IsWhole.read_unread, ld2, *]

end anyF

/-! ## Over the extended reals: one tile -/

abbrev c1024 : EReal := Ideal.ofBits .f32 0x3A800000#32

section tile
variable (x0 x1 : Vec Ideal S1024x1024 .bf16) (x2 x3 : Vec Ideal S1024x1024 .f32) (x4 xo : Vec Ideal S1x1024 .f32)

/-- The product of rows against rows. -/
theorem pay5_apply (i j : Fin 1024) : k0_pay5 x0 x1 (ix2 i j) = ∑ q : Fin 1024, x0 (ix2 i q) * x1 (ix2 j q) := by
  unfold k0_pay5
  rw [show dot_S1024x1024_S1024x1024_S1024x1024_1_1_0_0_n_n = DotDims.transposedRhs 1024 1024 1024 from rfl]
  simp only [shapeCast_self]
  rw [matmul, Ideal.matmul_transposedRhs_apply]
  rw [show constant (F := Ideal) S1024x1024 .f32 0x00000000#32 (ix2 i j) = 0 from Ideal.ofBits_zero_f32, zero_add]

theorem pay6_apply (i : Fin 1024) : k0_pay6 x2 (ix2 i 0) = rowV c1024 epsE fun k => x2 (ix2 i k) := by
  unfold k0_pay6
  simp only [addf_apply, mulf_apply, broadcast_apply, col_apply, multiReduction, Ideal.reduceAdd_def, red_row]
  rfl

theorem pay9_apply (i j : Fin 1024) : k0_pay9 x0 x1 x4 (ix2 i j) = (∑ q : Fin 1024, x0 (ix2 i q) * x1 (ix2 j q)) * x4 (ix2 0 j) := by
  unfold k0_pay9
  simp only [mulf_apply, broadcastTo_1b_ab_apply, shapeCast_self, pay5_apply]

theorem pay11_apply (i : Fin 1024) : k0_pay11 x0 x1 x2 x4 (ix1 i)
    = rowS c1024 epsE mhalf (fun k => x2 (ix2 i k)) (fun k => (∑ q : Fin 1024, x0 (ix2 i q) * x1 (ix2 k q)) * x4 (ix2 0 k)) := by
  unfold k0_pay11 k0_pay7
  simp only [mulf_apply, divf_apply, broadcast_apply, col_apply, multiReduction, Ideal.reduceAdd_def, red_row, Fin.sum_univ_one,
    rsqrt_apply, pay6_apply, pay9_apply]
  rfl

/-- An entry of a tile of the rows' gradient. -/
theorem pay1_apply (i j : Fin 1024) : k0_pay1 x2 x3 (k0_pay10 x0 x1 x2 x4) (k0_pay11 x0 x1 x2 x4) (ix2 i j)
    = rowDx c1024 epsE mhalf (fun k => x2 (ix2 i k)) (fun k => (∑ q : Fin 1024, x0 (ix2 i q) * x1 (ix2 k q)) * x4 (ix2 0 k)) j
      + x3 (ix2 i j) := by
  unfold k0_pay1 k0_pay10 k0_pay7
  simp only [addf_apply, mulf_apply, bcast_col, col_apply, pay11_apply, rsqrt_apply, pay6_apply, pay9_apply]
  rfl

/-- An entry of the norm weight's gradient after one more tile. -/
theorem pay4_apply (j : Fin 1024) : k0_pay4 (k0_pay8 x0 x1 x2) xo (ix2 0 j)
    = xo (ix2 0 j) + ∑ i : Fin 1024, x2 (ix2 i j) * Ideal.rsqrt (rowV c1024 epsE fun k => x2 (ix2 i k))
        * ∑ q : Fin 1024, x0 (ix2 i q) * x1 (ix2 j q) := by
  unfold k0_pay4 k0_pay8 k0_pay7
  simp only [addf_apply, mulf_apply, shapeCast_self, shapeCast_a_1a_apply, multiReduction, Ideal.reduceAdd_def, red_col, bcast_col,
    rsqrt_apply, pay6_apply, pay5_apply]

end tile

/-! ## The grid -/

section grid
variable (m : (ℓ : Loc nD τ sig) → Buf (Elt Ideal) ℓ) (ρ : Dev nD → PrngReg) (c : Dev nD)

/-- The kernel's arrays: the rows, the norm's weight, the product's weights, the incoming gradient, the added gradient. -/
abbrev X : S8192x1024.Idx → EReal := m ((c : Thread nD τ).loc main_arg0)
abbrev G : S1024.Idx → EReal := m ((c : Thread nD τ).loc main_arg1)
abbrev W : S1024x1024.Idx → EReal := m ((c : Thread nD τ).loc main_arg2)
abbrev DY : S8192x1024.Idx → EReal := m ((c : Thread nD τ).loc main_arg3)
abbrev R : S8192x1024.Idx → EReal := m ((c : Thread nD τ).loc main_arg4)

/-- Entry `(r, j)` of the incoming gradient against the transposed weights. -/
def prod (dy : S8192x1024.Idx → EReal) (w : S1024x1024.Idx → EReal) (r j : ℕ) : EReal := ∑ q : Fin 1024, atN dy r q.val * atN w j q.val

/-- Entry `(r, j)` of the rows' gradient. -/
def dxAt (x : S8192x1024.Idx → EReal) (g : S1024.Idx → EReal) (w : S1024x1024.Idx → EReal) (dy res : S8192x1024.Idx → EReal)
    (r : ℕ) (j : Fin 1024) : EReal :=
  rowDx c1024 epsE mhalf (fun k => atN x r k.val) (fun k => prod dy w r k.val * g (ix1 k)) j + atN res r j.val

/-- Row `r`'s part of column `j` of the norm weight's gradient. -/
def dgRow (x : S8192x1024.Idx → EReal) (w : S1024x1024.Idx → EReal) (dy : S8192x1024.Idx → EReal) (j r : ℕ) : EReal :=
  atN x r j * Ideal.rsqrt (rowV c1024 epsE fun k : Fin 1024 => atN x r k.val) * prod dy w r j

theorem idx : ∀ t : Fin grid0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0) ∧ (win0_5.index t 0 = t.val ∧ win0_5.index t 1 = 0)
    ∧ (win0_6.index t 0 = t.val ∧ win0_6.index t 1 = 0) ∧ (win0_7.index t 0 = 0 ∧ win0_7.index t 1 = 0) := by decide +kernel

theorem lt8 (t : Fin cfg0.N) : t.val < 8 := t.isLt.trans_eq N_0

/-- The blocks a point reads, at plain numbers. -/
theorem blk0 (t : Fin cfg0.N) (i k : Fin 1024) : (iblk m c 0 t : Vec Ideal S1024x1024 .bf16) (ix2 i k) = atN (DY m c) (1024 * t.val + i.val) k.val :=
  eq_atN_of (DY m c) _ (by show win0_0.index t 0 * 1024 + 1 * i.val = _; rw [(idx t).1.1]; omega)
    (by show win0_0.index t 1 * 1024 + 1 * k.val = _; rw [(idx t).1.2]; omega)

theorem blk1 (t : Fin cfg0.N) (i k : Fin 1024) : (iblk m c 1 t : Vec Ideal S1024x1024 .bf16) (ix2 i k) = atN (W m c) i.val k.val :=
  eq_atN_of (W m c) _ (by show win0_1.index t 0 * 1024 + 1 * i.val = _; rw [(idx t).2.1.1]; omega)
    (by show win0_1.index t 1 * 1024 + 1 * k.val = _; rw [(idx t).2.1.2]; omega)

theorem blk2 (t : Fin cfg0.N) (i k : Fin 1024) : (iblk m c 2 t : Vec Ideal S1024x1024 .f32) (ix2 i k) = atN (X m c) (1024 * t.val + i.val) k.val :=
  eq_atN_of (X m c) _ (by show win0_2.index t 0 * 1024 + 1 * i.val = _; rw [(idx t).2.2.1.1]; omega)
    (by show win0_2.index t 1 * 1024 + 1 * k.val = _; rw [(idx t).2.2.1.2]; omega)

theorem blk3 (t : Fin cfg0.N) (i k : Fin 1024) : (iblk m c 3 t : Vec Ideal S1024x1024 .f32) (ix2 i k) = atN (R m c) (1024 * t.val + i.val) k.val :=
  eq_atN_of (R m c) _ (by show win0_3.index t 0 * 1024 + 1 * i.val = _; rw [(idx t).2.2.2.1.1]; omega)
    (by show win0_3.index t 1 * 1024 + 1 * k.val = _; rw [(idx t).2.2.2.1.2]; omega)

theorem blk4 (t : Fin cfg0.N) (k : Fin 1024) : (iblk m c 4 t : Vec Ideal S1x1024 .f32) (ix2 0 k) = G m c (ix1 k) := by
  have h : (iblk m c 4 t : Vec Ideal S1x1024 .f32) (ix2 0 k)
      = (shapeCast S1x1024 (G m c) shapeCasts_S1024_S1x1024 : FVec Ideal S1x1024 .f32) (ix2 0 k) :=
    (eq_atN_of (shapeCast S1x1024 (G m c) shapeCasts_S1024_S1x1024 : FVec Ideal S1x1024 .f32) _ (r := 0) (j := k.val)
      (by show win0_4.index t 0 * 1 + 1 * 0 = _; rw [(idx t).2.2.2.2.1.1])
      (by show win0_4.index t 1 * 1024 + 1 * k.val = _; rw [(idx t).2.2.2.2.1.2]; omega)).trans (atN_pos _ (by decide) k.isLt)
  rw [h, shapeCast_a_1a_apply]

/-- A point's tile of the rows' gradient. -/
theorem tile_dx (t : Fin cfg0.N) (i j : Fin 1024) :
    k0_pay1 (iblk m c 2 t) (iblk m c 3 t) (k0_pay10 (iblk m c 0 t) (iblk m c 1 t) (iblk m c 2 t) (iblk m c 4 t))
        (k0_pay11 (iblk m c 0 t) (iblk m c 1 t) (iblk m c 2 t) (iblk m c 4 t)) (ix2 i j)
      = dxAt (X m c) (G m c) (W m c) (DY m c) (R m c) (1024 * t.val + i.val) j := by
  refine (pay1_apply _ _ _ _ _ i j).trans ?_
  simp only [blk0, blk1, blk2, blk3, blk4]
  rfl

theorem outs5 (t : Fin cfg0.N) : (outsAt0 m c t.val t.isLt).1
    = fun y : S1024x1024.Idx => dxAt (X m c) (G m c) (W m c) (DY m c) (R m c) (1024 * t.val + (y 0).val) (y 1) := by
  by_cases h : t.val % 8 = 0
  · refine (congrArg (·.1) (outsAt0_A m c t h)).trans ?_
    dsimp only
    rw [out5_A]
    exact ext2 fun i j => tile_dx m c t i j
  · refine (congrArg (·.1) (outsAt0_B m c t h)).trans ?_
    dsimp only
    rw [out5_B]
    exact ext2 fun i j => tile_dx m c t i j

theorem outs6 (t : Fin cfg0.N) : (outsAt0 m c t.val t.isLt).2.1
    = fun y : S1024x1024.Idx => dxAt (X m c) (G m c) (W m c) (DY m c) (R m c) (1024 * t.val + (y 0).val) (y 1) := by
  by_cases h : t.val % 8 = 0
  · refine (congrArg (·.2.1) (outsAt0_A m c t h)).trans ?_
    dsimp only
    rw [out6_A]
    exact ext2 fun i j => tile_dx m c t i j
  · refine (congrArg (·.2.1) (outsAt0_B m c t h)).trans ?_
    dsimp only
    rw [out6_B]
    exact ext2 fun i j => tile_dx m c t i j

/-- One more tile of rows in the norm weight's gradient. -/
theorem dg_step (t : Fin cfg0.N) (xo : Vec Ideal S1x1024 .f32) (j : Fin 1024)
    (h : xo (ix2 0 j) = ∑ r ∈ Finset.range (1024 * t.val), dgRow (X m c) (W m c) (DY m c) j.val r) :
    k0_pay4 (k0_pay8 (iblk m c 0 t) (iblk m c 1 t) (iblk m c 2 t)) xo (ix2 0 j)
      = ∑ r ∈ Finset.range (1024 * (t.val + 1)), dgRow (X m c) (W m c) (DY m c) j.val r := by
  refine (pay4_apply _ _ _ _ j).trans ?_
  rw [h, ← sum_range_block]
  simp only [blk0, blk1, blk2]
  rfl

theorem outs7 : ∀ (n : ℕ) (h : n < cfg0.N), (outsAt0 m c n h).2.2
    = fun y : S1x1024.Idx => ∑ r ∈ Finset.range (1024 * (n + 1)), dgRow (X m c) (W m c) (DY m c) (y 1).val r
  | 0, h => by
    refine (congrArg (·.2.2) (outsAt0_A m c ⟨0, h⟩ rfl)).trans ?_
    dsimp only
    rw [out7_A]
    exact ext_row fun j => dg_step m c ⟨0, h⟩ _ j (Ideal.ofBits_zero_f32.trans (by rw [Nat.mul_zero]; rfl))
  | n + 1, h => by
    have hB : ¬(⟨n + 1, h⟩ : Fin cfg0.N).val % 8 = 0 := by have := lt8 ⟨n + 1, h⟩; dsimp only at this ⊢; omega
    refine (congrArg (·.2.2) (outsAt0_B m c ⟨n + 1, h⟩ hB)).trans ?_
    dsimp only
    rw [out7_B]
    exact ext_row fun j => dg_step m c ⟨n + 1, h⟩ _ j (congrFun (outs7 n _) (ix2 0 j))

theorem flush5 : ∀ t : Fin cfg0.N, (cfg0.win 5).flush t = true := by decide +kernel
theorem flush6 : ∀ t : Fin cfg0.N, (cfg0.win 6).flush t = true := by decide +kernel

/-- The rows' gradient after the run. -/
theorem final5 : (dats m 0 c).arrAt 5 cfg0.N
    = fun i : S8192x1024.Idx => dxAt (X m c) (G m c) (W m c) (DY m c) (R m c) (i 0).val (i 1) := by
  refine (dats m 0 c).arrAt_eq_of_cover 5 _ (fun t _ => ?_) fun (i : S8192x1024.Idx) => ?_
  · show (cfg0.win 5).cut (grid0.coords t) ((dats m 0 c).after 5 t) = _
    rw [after0_5, outs5]
    refine funext fun y => Eq.trans ?_ (View.read_apply _ _).symm
    have e0 : 1024 * t.val + (y 0).val = win0_5.index t 0 * 1024 + 1 * (y 0).val := by rw [(idx t).2.2.2.2.2.1.1]; omega
    have e1 : (y 1).val = win0_5.index t 1 * 1024 + 1 * (y 1).val := by rw [(idx t).2.2.2.2.2.1.2]; omega
    exact congrArg₂ (dxAt (X m c) (G m c) (W m c) (DY m c) (R m c)) e0 (Fin.ext e1)
  · have hi0 : (i 0).val < 8192 := (i 0).isLt
    obtain ⟨t, ht⟩ : ∃ t : Fin cfg0.N, t.val = (i 0).val / 1024 := ⟨⟨(i 0).val / 1024, by rw [show cfg0.N = 8 from N_0]; omega⟩, rfl⟩
    refine ⟨t, flush5 t, ?_⟩
    show i ∈ ((View.whole main_v3_0).slice (win0_5.rect t)).set
    rw [View.set_slice_whole, Rect.mem_set_unit]
    exact in_rows i (a := 1024) (f := win0_5.index t) (by decide) ((idx t).2.2.2.2.2.1.1.trans ht) (idx t).2.2.2.2.2.1.2

/-- The rounded copy after the run. -/
theorem final6 : (dats m 0 c).arrAt 6 cfg0.N
    = fun i : S8192x1024.Idx => dxAt (X m c) (G m c) (W m c) (DY m c) (R m c) (i 0).val (i 1) := by
  refine (dats m 0 c).arrAt_eq_of_cover 6 _ (fun t _ => ?_) fun (i : S8192x1024.Idx) => ?_
  · show (cfg0.win 6).cut (grid0.coords t) ((dats m 0 c).after 6 t) = _
    rw [after0_6, outs6]
    refine funext fun y => Eq.trans ?_ (View.read_apply _ _).symm
    have e0 : 1024 * t.val + (y 0).val = win0_6.index t 0 * 1024 + 1 * (y 0).val := by rw [(idx t).2.2.2.2.2.2.1.1]; omega
    have e1 : (y 1).val = win0_6.index t 1 * 1024 + 1 * (y 1).val := by rw [(idx t).2.2.2.2.2.2.1.2]; omega
    exact congrArg₂ (dxAt (X m c) (G m c) (W m c) (DY m c) (R m c)) e0 (Fin.ext e1)
  · have hi0 : (i 0).val < 8192 := (i 0).isLt
    obtain ⟨t, ht⟩ : ∃ t : Fin cfg0.N, t.val = (i 0).val / 1024 := ⟨⟨(i 0).val / 1024, by rw [show cfg0.N = 8 from N_0]; omega⟩, rfl⟩
    refine ⟨t, flush6 t, ?_⟩
    show i ∈ ((View.whole main_v3_1).slice (win0_6.rect t)).set
    rw [View.set_slice_whole, Rect.mem_set_unit]
    exact in_rows i (a := 1024) (f := win0_6.index t) (by decide) ((idx t).2.2.2.2.2.2.1.1.trans ht) (idx t).2.2.2.2.2.2.1.2

/-- The norm weight's gradient after the run. -/
theorem final7 : (dats m 0 c).arrAt 7 cfg0.N
    = fun y : S1x1024.Idx => ∑ r ∈ Finset.range 8192, dgRow (X m c) (W m c) (DY m c) (y 1).val r := by
  refine (dats m 0 c).arrAt_eq_of_cover 7 _ (fun t ht => ?_) fun (i : S1x1024.Idx) => ?_
  · have h7 : t.val = 7 := by have := (flush0_7 t).mp ht; have := lt8 t; omega
    show (cfg0.win 7).cut (grid0.coords t) ((dats m 0 c).after 7 t) = _
    rw [after0_7, outs7, h7]
    have hz' : (fun a => win0_7.index t a * main_v3_2.ty.shape.size a) = fun _ => 0 := still (f := win0_7.index t) (idx t).2.2.2.2.2.2.2.1 (idx t).2.2.2.2.2.2.2.2
    exact (Memref.read_access_unit_zero (Elt Ideal) main_v3_2 hz' (fun a => by rw [congrFun hz' a]; simp) _).symm
  · obtain ⟨t, ht⟩ : ∃ t : Fin cfg0.N, t.val = 7 := ⟨⟨7, by rw [show cfg0.N = 8 from N_0]; omega⟩, rfl⟩
    refine ⟨t, (flush0_7 t).mpr (by rw [ht]), ?_⟩
    show i ∈ ((View.whole main_v3_2).slice (win0_7.rect t)).set
    rw [View.set_slice_whole, Rect.mem_set_unit]
    exact in_still i (f := win0_7.index t) (idx t).2.2.2.2.2.2.2.1 (idx t).2.2.2.2.2.2.2.2

end grid

end Cert.MemqBwdIdeal.Own

namespace Cert.MemqRefIdeal.Own

open Cert.MemqRefIdeal Cert.MemqRefIdeal.Gen Cert.MemqRefIdeal.Read Cert.Own
open Cert.MemqBwdIdeal.Own (c1024 prod dxAt dgRow)

variable (x0 x3 x4 : (⟨S8192x1024, .f32⟩ : BufTy).Contents (Elt Ideal)) (x1 : (⟨S1024, .f32⟩ : BufTy).Contents (Elt Ideal))
  (x2 : (⟨S1024x1024, .f32⟩ : BufTy).Contents (Elt Ideal))

/-- The reference's stages at an entry. -/
theorem v6_apply (i : Fin 8192) : val_main_v6 (F := Ideal) x0 (ix2 i 0) = rowV c1024 epsE fun k : Fin 1024 => x0 (ix2 i k) := by
  simp only [val_main_v6_apply, val_main_v5_apply, val_main_v4_apply, val_main_v3_apply, val_main_v2_apply, val_main_v1_apply,
    val_main_v0_apply, val_main_cst_apply, val_main_cst_0_apply, val_main_cst_1_apply, Ideal.addf_def, Ideal.mulf_def,
    Ideal.hostDivf_def, Ideal.ofBits_def, Ideal.ofBits_zero_f32, zero_add, div_1024]
  show _ = (∑ k, _) * _ + _
  congr 2
  refine Finset.sum_congr rfl fun k _ => ?_
  rw [show idx_main_v1 (idx_main_v2 (ix2 i 0)) k = ix2 i k from funext fun a => by match a with | ⟨0, _⟩ => rfl | ⟨1, _⟩ => rfl]

theorem v10_apply (i : Fin 8192) : val_main_v10 (F := Ideal) x0 (ix2 i 0)
    = mhalf * Ideal.div (Ideal.rsqrt (rowV c1024 epsE fun k : Fin 1024 => x0 (ix2 i k))) (rowV c1024 epsE fun k : Fin 1024 => x0 (ix2 i k)) := by
  simp only [val_main_v10_apply, val_main_v9_apply, val_main_v8_apply, val_main_v7_apply, val_main_cst_2_apply, Ideal.mulf_def,
    Ideal.hostDivf_def, Ideal.hostUnary_rsqrt_def, v6_apply]
  rfl

theorem v7_apply (i : Fin 8192) : val_main_v7 (F := Ideal) x0 (ix2 i 0) = Ideal.rsqrt (rowV c1024 epsE fun k : Fin 1024 => x0 (ix2 i k)) := by
  simp only [val_main_v7_apply, Ideal.hostUnary_rsqrt_def, v6_apply]

theorem v17_apply (i : Fin 8192) (j : Fin 1024) : val_main_v17 (F := Ideal) x2 x3 (ix2 i j) = prod x3 x2 i.val j.val := by
  refine (val_main_v17_apply x2 x3 (ix2 i j)).trans (Finset.sum_congr rfl fun q _ => ?_)
  rw [eq_atN_of x3 (lidx_main_v17 (ix2 i j) q) rfl rfl, eq_atN_of x2 (ridx_main_v17 (ix2 i j) q) rfl rfl]

theorem v22_apply (i : Fin 8192) (j : Fin 1024) : val_main_v22 (F := Ideal) x1 x2 x3 (ix2 i j) = prod x3 x2 i.val j.val * x1 (ix1 j) := by
  simp only [val_main_v22_apply, val_main_v21_apply, val_main_v13_apply, Ideal.mulf_def, v17_apply]
  rw [show idx_main_v13 (idx_main_v21 (ix2 i j)) = ix1 j from funext fun a => by match a with | ⟨0, _⟩ => rfl]

theorem v33_apply (i : Fin 8192) (j : Fin 1024) : val_main_v33 (F := Ideal) x0 x1 x2 x3 (ix2 i j)
    = rowS c1024 epsE mhalf (fun k : Fin 1024 => x0 (ix2 i k)) (fun k : Fin 1024 => prod x3 x2 i.val k.val * x1 (ix1 k)) := by
  have h1 : idx_main_v32 (idx_main_v33 (ix2 i j)) 0 = ix2 i 0 := funext fun a => by match a with | ⟨0, _⟩ => rfl | ⟨1, _⟩ => rfl
  have h2 : ∀ k, idx_main_v25 (idx_main_v26 (ix2 i 0)) k = ix2 i k := fun k => funext fun a => by
    match a with | ⟨0, _⟩ => exact Fin.ext (by show i.val * 1 + 0 = i.val; omega) | ⟨1, _⟩ => rfl
  simp only [val_main_v33_apply, val_main_v32_apply, val_main_cst_7_apply, Fin.sum_univ_one, h1, val_main_v31_apply, val_main_v30_apply,
    val_main_cst_6_apply, val_main_v29_apply, v10_apply, val_main_v26_apply, val_main_v25_apply, val_main_v24_apply, h2,
    val_main_cst_5_apply, v22_apply, Ideal.mulf_def, Ideal.hostDivf_def, Ideal.ofBits_def, Ideal.ofBits_zero_f32, zero_add, div_1024]
  rfl

/-- The reference's gradient of the rows at an entry. -/
theorem v38_apply (i : Fin 8192) (j : Fin 1024) : val_main_v38 (F := Ideal) x0 x1 x2 x3 x4 (ix2 i j) = dxAt x0 x1 x2 x3 x4 i.val j := by
  have h1 : idx_main_v27 (ix2 i j) = ix2 i 0 := funext fun a => by match a with | ⟨0, _⟩ => rfl | ⟨1, _⟩ => rfl
  simp only [val_main_v38_apply, val_main_v37_apply, val_main_v36_apply, val_main_v35_apply, val_main_v34_apply, val_main_v28_apply,
    val_main_v27_apply, h1, v7_apply, v33_apply, v22_apply, Ideal.mulf_def, Ideal.addf_def]
  unfold dxAt
  rw [eq_atN_of x4 (ix2 i j) rfl rfl, show (fun k : Fin 1024 => x0 (ix2 i k)) = fun k : Fin 1024 => atN x0 i.val k.val from
    funext fun k => eq_atN_of x0 (ix2 i k) rfl rfl, eq_atN_of x0 (ix2 i j) rfl rfl]
  rfl

/-- The reference's gradient of the norm's weight at an entry. -/
theorem v40_apply (j : Fin 1024) : val_main_v40 (F := Ideal) x0 x2 x3 (ix2 0 j) = ∑ r ∈ Finset.range 8192, dgRow x0 x2 x3 j.val r := by
  have h1 : ∀ k : Fin 8192, idx_main_v19 (idx_main_v20 (idx_main_v23 (idx_main_v40 (ix2 0 j)) 0)) k = ix2 k j := fun k => funext fun a => by
    match a with | ⟨0, _⟩ => rfl | ⟨1, _⟩ => exact Fin.ext (by show 0 * 1024 + (0 * 1024 + j.val) = j.val; omega)
  have h2 : ∀ k : Fin 8192, idx_main_v11 (ix2 k j) = ix2 k 0 := fun k => funext fun a => by match a with | ⟨0, _⟩ => rfl | ⟨1, _⟩ => rfl
  simp only [val_main_v40_apply, val_main_v23_apply, val_main_v20_apply, val_main_v19_apply, val_main_v18_apply, val_main_v12_apply,
    val_main_v11_apply, Fin.sum_univ_one, h1, h2, val_main_cst_3_apply, val_main_cst_4_apply, v7_apply, v17_apply, Ideal.mulf_def, Ideal.ofBits_def,
    Ideal.ofBits_zero_f32, zero_add]
  rw [← sum_rows (n := 8192) (dgRow x0 x2 x3 j.val)]
  refine Finset.sum_congr rfl fun r _ => ?_
  unfold dgRow
  rw [show (fun k : Fin 1024 => x0 (ix2 r k)) = fun k : Fin 1024 => atN x0 r.val k.val from
    funext fun k => eq_atN_of x0 (ix2 r k) rfl rfl, eq_atN_of x0 (ix2 r j) rfl rfl]

end Cert.MemqRefIdeal.Own

namespace Cert.Memq

open Cert.Own Cert.MemqBwdIdeal.Own

/-- The reference program ends with its arguments unchanged and every counter at zero. -/
theorem ref_frame : Cert.quiescent_MemqRefIdeal (hMemqRefIdeal := Cert.MemqRefIdeal.Gen.facts) := fun m g _ =>
  (θ_run Cert.MemqRefIdeal.defs _ _).mono (fun r h => ⟨fun c => (h c).2.2.2, sem_eq_zero_of_no_sems (by decide) r.2⟩)
    (Cert.MemqRefIdeal.Value.run m g)

set_option maxHeartbeats 1000000 in
/-- Over the extended reals the kernel returns the derivative of the normed rows' product, plus the added gradient. -/
theorem value : Cert.algebraic_MemqBwdIdeal_MemqRefIdeal (hMemqBwdIdeal := Cert.MemqBwdIdeal.Gen.facts)
    (hMemqRefIdeal := Cert.MemqRefIdeal.Gen.facts) := fun m g m' g' _ hm => by
  refine ⟨fun c => (Cert.MemqBwdIdeal.Gen.dats m 0 c).arrAt 5 Cert.MemqBwdIdeal.cfg0.N,
    fun c => (Cert.MemqBwdIdeal.Gen.dats m 0 c).arrAt 6 Cert.MemqBwdIdeal.cfg0.N,
    fun c => (Cert.MemqBwdIdeal.Gen.dats m 0 c).arrAt 7 Cert.MemqBwdIdeal.cfg0.N, ?_, ?_⟩
  · exact (θ_run Cert.MemqBwdIdeal.defs _ _).mono (fun r h c => h c) (Cert.MemqBwdIdeal.Value.run_blocks m g)
  · refine (θ_run Cert.MemqRefIdeal.defs _ _).mono (fun r h c => ?_) (Cert.MemqRefIdeal.Value.run m' g')
    obtain ⟨e0, e1, e2, e3, e4⟩ := hm c
    obtain ⟨h0, h1, h2, h3⟩ := h c
    refine ⟨h0.trans ?_, h1.trans ?_, h2.trans ?_, h3⟩
    · refine (Cert.MemqRefIdeal.Read.val_main_v38_eq (F := Ideal) m' c).trans (Eq.trans ?_ (final5 m c).symm)
      rw [e0, e1, e2, e3, e4]
      exact ext2 fun i j => Cert.MemqRefIdeal.Own.v38_apply _ _ _ _ _ i j
    · refine (Cert.MemqRefIdeal.Read.val_main_v39_eq (F := Ideal) m' c).trans (Eq.trans ?_ (final6 m c).symm)
      rw [e0, e1, e2, e3, e4]
      exact ext2 fun i j => Cert.MemqRefIdeal.Own.v38_apply _ _ _ _ _ i j
    · refine (Cert.MemqRefIdeal.Read.val_main_v40_eq (F := Ideal) _ _ _).trans (Eq.trans ?_ (final7 m c).symm)
      rw [e0, e2, e3]
      exact ext_row fun j => Cert.MemqRefIdeal.Own.v40_apply _ _ _ j

end Cert.Memq
end
-- ==== Proof.Loss.lean ====
/-
  The loss and its gradient (`loss_head`): the half of the summed mean squared error of the normed rows against the
  targets, its gradient in the rows (f32 and bf16) and in the norm's weight, and the reference's derivative.
-/
module

public import proofs.«01_k».proof.Proof.Pieces
public import proofs.«01_k».proof.Proof.RowNorm
public import proofs.«01_k».proof.Defs
public import proofs.«01_k».proof.Proof.Gen.LossBwdIdeal.Value
public import proofs.«01_k».proof.Proof.Gen.LossRefIdeal.Run
public import proofs.«01_k».proof.Proof.Gen.LossRefIdeal.Read
public import Idealize.ShloMosaic.Lib.IdealHost
public import Idealize.ShloMosaic.Lib.Tactic

@[expose] public section

set_option maxRecDepth 16384

noncomputable section

open Idealize.ShloMosaic Idealize.ShloMosaic.TcCoe Idealize.SL.Sem Idealize.ShloMosaic.ValueIdx
open Idealize.ShloMosaic.Pipeline (Dat)

namespace Cert.LossBwdIdeal.Own

open Cert.LossBwdIdeal Cert.LossBwdIdeal.Gen Cert.Own

section anyF
variable {F : FTy → Type} [FloatOps F]
variable (c : Dev nD) (i : grid0.Coords) (a1 : Memref sig .tc .vmem S256x1024 .f32) (h1 : a1.IsWhole)
  (a2 : Memref sig .tc .vmem S256x1024 .f32) (h2 : a2.IsWhole) (a3 : Memref sig .tc .vmem S1x1024 .f32) (h3 : a3.IsWhole)
  (a4 : Memref sig .tc .vmem S1x128 .f32) (h4 : a4.IsWhole) (a5 : Memref sig .tc .vmem S256x1024 .f32) (h5 : a5.IsWhole)
  (a6 : Memref sig .tc .vmem S256x1024 .bf16) (h6 : a6.IsWhole) (a7 : Memref sig .tc .vmem S1x1024 .f32) (h7 : a7.IsWhole)
  (x0 x1 : Vec F S256x1024 .f32) (x2 : Vec F S1x1024 .f32) (xl : Vec F S1x128 .f32) (xg : Vec F S1x1024 .f32)

/-- What a point leaves in its tile of the rows' gradient and of its rounded copy, in both cases. -/
theorem out4_A (hc : cond0_0 i) : out0_A_4 c i a1 h1 a2 h2 a3 h3 a4 h4 a5 h5 a6 h6 a7 h7 hc x0 x1 x2 = k0_pay12 x0 (k0_pay1 x2) (k0_pay3 x0) (k0_pay4 x0) (k0_pay9 x0 x2 x1) (k0_pay10 x0 x2 x1) := by
  unfold out0_A_4
  refine Eq.trans (View.read_writes_eq_canon _ _ _ fun _ => cover0_A_4 ..) ?_
  unfold kernelRun0_A
  dsimp only
  sl_unfold_words
  simp only [canon2, cov2, View.readAt_eq_ld, Memref.IsWhole.read_unread, ld2, *]

theorem out5_A (hc : cond0_0 i) : out0_A_5 c i a1 h1 a2 h2 a3 h3 a4 h4 a5 h5 a6 h6 a7 h7 hc x0 x1 x2 = k0_pay15 x0 (k0_pay1 x2) (k0_pay3 x0) (k0_pay4 x0) (k0_pay9 x0 x2 x1) (k0_pay10 x0 x2 x1) := by
  unfold out0_A_5
  refine Eq.trans (View.read_writes_eq_canon _ _ _ fun _ => cover0_A_5 ..) ?_
  unfold kernelRun0_A
  dsimp only
  sl_unfold_words
  simp only [canon2, cov2, View.readAt_eq_ld, Memref.IsWhole.read_unread, ld2, *]

theorem out4_B (hc : ¬cond0_0 i) : out0_B_4 c i a1 h1 a2 h2 a3 h3 a4 h4 a5 h5 a6 h6 a7 h7 hc x0 x1 x2 xl xg = k0_pay12 x0 (k0_pay1 x2) (k0_pay3 x0) (k0_pay4 x0) (k0_pay9 x0 x2 x1) (k0_pay10 x0 x2 x1) := by
  unfold out0_B_4
  refine Eq.trans (View.read_writes_eq_canon _ _ _ fun _ => cover0_B_4 ..) ?_
  unfold kernelRun0_B
  dsimp only
  sl_unfold_words
  simp only [canon2, cov2, View.readAt_eq_ld, Memref.IsWhole.read_unread, ld2, *]

theorem out5_B (hc : ¬cond0_0 i) : out0_B_5 c i a1 h1 a2 h2 a3 h3 a4 h4 a5 h5 a6 h6 a7 h7 hc x0 x1 x2 xl xg = k0_pay15 x0 (k0_pay1 x2) (k0_pay3 x0) (k0_pay4 x0) (k0_pay9 x0 x2 x1) (k0_pay10 x0 x2 x1) := by
  unfold out0_B_5
  refine Eq.trans (View.read_writes_eq_canon _ _ _ fun _ => cover0_B_5 ..) ?_
  unfold kernelRun0_B
  dsimp only
  sl_unfold_words
  simp only [canon2, cov2, View.readAt_eq_ld, Memref.IsWhole.read_unread, ld2, *]

/-- The loss and the weight's gradient so far: over zeros at the first tile, over what is there at the others. -/
theorem out3_A (hc : cond0_0 i) : out0_A_3 c i a1 h1 a2 h2 a3 h3 a4 h4 a5 h5 a6 h6 a7 h7 hc x0 x1 x2 = k0_pay17 (k0_pay7 x0 x2 x1) k0_pay13 := by
  unfold out0_A_3
  refine Eq.trans (View.read_writes_eq_canon _ _ _ fun _ => cover0_A_3 ..) ?_
  unfold kernelRun0_A
  dsimp only
  sl_unfold_words
  simp only [canon2, cov2, View.readAt_eq_ld, Memref.IsWhole.read_unread, ld2, *]

theorem out3_B (hc : ¬cond0_0 i) : out0_B_3 c i a1 h1 a2 h2 a3 h3 a4 h4 a5 h5 a6 h6 a7 h7 hc x0 x1 x2 xl xg = k0_pay17 (k0_pay7 x0 x2 x1) xl := by
  unfold out0_B_3
  refine Eq.trans (View.read_writes_eq_canon _ _ _ fun _ => cover0_B_3 ..) ?_
  unfold kernelRun0_B
  dsimp only
  sl_unfold_words
  simp only [canon2, cov2, View.readAt_eq_ld, Memref.IsWhole.read_unread, ld2, *]

theorem out6_A (hc : cond0_0 i) : out0_A_6 c i a1 h1 a2 h2 a3 h3 a4 h4 a5 h5 a6 h6 a7 h7 hc x0 x1 x2 = k0_pay16 (k0_pay5 x0) (k0_pay9 x0 x2 x1) (k0_pay10 x0 x2 x1) k0_pay14 := by
  unfold out0_A_6
  refine Eq.trans (View.read_writes_eq_canon _ _ _ fun _ => cover0_A_6 ..) ?_
  unfold kernelRun0_A
  dsimp only
  sl_unfold_words
  simp only [canon2, cov2, View.readAt_eq_ld, Memref.IsWhole.read_unread, ld2, *]

theorem out6_B (hc : ¬cond0_0 i) : out0_B_6 c i a1 h1 a2 h2 a3 h3 a4 h4 a5 h5 a6 h6 a7 h7 hc x0 x1 x2 xl xg = k0_pay16 (k0_pay5 x0) (k0_pay9 x0 x2 x1) (k0_pay10 x0 x2 x1) xg := by
  unfold out0_B_6
  refine Eq.trans (View.read_writes_eq_canon _ _ _ fun _ => cover0_B_6 ..) ?_
  unfold kernelRun0_B
  dsimp only
  sl_unfold_words
  simp only [canon2, cov2, View.readAt_eq_ld, Memref.IsWhole.read_unread, ld2, *]

end anyF

/-! ## Over the extended reals: constants and finite factors -/

abbrev c1024 : EReal := Ideal.ofBits .f32 0x3A800000#32
/-- The half of the mean's factor. -/
abbrev c2048 : EReal := Ideal.ofBits .f32 0x3A000000#32

theorem c2048_eq : c2048 = ((1 / 2048 : ℝ) : EReal) := by simp [c2048, Ideal.ofBits, Ideal.ieee, ← EReal.coe_mul]; norm_num
theorem c1024_eq : c1024 = ((1 / 1024 : ℝ) : EReal) := by simp [c1024, Ideal.ofBits, Ideal.ieee, ← EReal.coe_mul]; norm_num
theorem half_eq : Ideal.ofBits .f32 0x3F000000#32 = ((1 / 2 : ℝ) : EReal) := by simp [Ideal.ofBits, Ideal.ieee, ← EReal.coe_mul]; norm_num
theorem two_eq : Ideal.ofBits .f32 0x40000000#32 = ((2 : ℝ) : EReal) := by simp [Ideal.ofBits, Ideal.ieee, ← EReal.coe_mul]; norm_num

/-- A positive number times a sum of two is the sum of the products. -/
theorem mul_sum_coe {ι : Type} (s : Finset ι) (f : ι → EReal) {r : ℝ} (hr : 0 < r) :
    (r : EReal) * (∑ i ∈ s, f i) = ∑ i ∈ s, (r : EReal) * f i := by
  classical
  induction s using Finset.induction_on with
  | empty => simp
  | insert a s ha ih =>
    rw [Finset.sum_insert ha, Finset.sum_insert ha, EReal.left_distrib_of_nonneg_of_ne_top (EReal.coe_nonneg.mpr hr.le) (EReal.coe_ne_top r), ih]

/-- The error's gradient, differentiated factor by factor, is that of the square. -/
theorem twice (e : EReal) : e * c2048 + c2048 * e = (Ideal.ofBits .f32 0x3F000000#32 * 1) * c1024 * (Ideal.ofBits .f32 0x40000000#32 * e) := by
  rw [c2048_eq, c1024_eq, half_eq, two_eq, mul_one, ← EReal.coe_mul, ← mul_assoc, ← EReal.coe_mul]
  induction e with
  | bot =>
    rw [EReal.bot_mul_coe_of_pos (by norm_num), EReal.coe_mul_bot_of_pos (by norm_num), EReal.coe_mul_bot_of_pos (by norm_num)]; rfl
  | coe x => rw [← EReal.coe_mul, ← EReal.coe_mul, ← EReal.coe_add, ← EReal.coe_mul]; congr 1; ring
  | top =>
    rw [EReal.top_mul_coe_of_pos (by norm_num), EReal.coe_mul_top_of_pos (by norm_num), EReal.coe_mul_top_of_pos (by norm_num)]; rfl

/-! ## One tile -/

/-- A row's error at column `j`. -/
def errV (x t g : Fin 1024 → EReal) (j : Fin 1024) : EReal := x j * Ideal.rsqrt (rowV c1024 epsE x) * g j - t j

/-- The incoming gradient of the normed row: the error twice times half the mean's factor. -/
def errH (x t g : Fin 1024 → EReal) (j : Fin 1024) : EReal := errV x t g j * c2048 + c2048 * errV x t g j

section tile
variable (x0 x1 : Vec Ideal S256x1024 .f32) (x2 xg : Vec Ideal S1x1024 .f32) (xl : Vec Ideal S1x128 .f32)

theorem pay2_apply (i : Fin 256) : k0_pay2 x0 (ix2 i 0) = rowV c1024 epsE fun k => x0 (ix2 i k) := by
  unfold k0_pay2
  simp only [addf_apply, mulf_apply, broadcast_apply, col_apply, multiReduction, Ideal.reduceAdd_def, red_row]
  rfl

theorem pay5_apply (i : Fin 256) (j : Fin 1024) : k0_pay5 x0 (ix2 i j) = x0 (ix2 i j) * Ideal.rsqrt (rowV c1024 epsE fun k => x0 (ix2 i k)) := by
  unfold k0_pay5 k0_pay3
  simp only [mulf_apply, bcast_col, rsqrt_apply, pay2_apply]

theorem pay6_apply (i : Fin 256) (j : Fin 1024) : k0_pay6 x0 x2 x1 (ix2 i j)
    = errV (fun k => x0 (ix2 i k)) (fun k => x1 (ix2 i k)) (fun k => x2 (ix2 0 k)) j := by
  unfold k0_pay6 k0_pay1
  simp only [subf_apply, mulf_apply, broadcastTo_1b_ab_apply, shapeCast_self, pay5_apply]
  rfl

theorem one_red (v : FVec Ideal S1x1x1 .f32) (h : Shape.Reduces S1x1x1 [1, 2] S1) (j : S1.Idx) (i : S1x1x1.Idx) : Ideal.reduceAdd h v j = v i := by
  have hs : ∀ i' : S1x1x1.Idx, i' = i := fun i' => funext fun a => by
    match a with
    | ⟨0, _⟩ => exact Subsingleton.elim (α := Fin 1) _ _
    | ⟨1, _⟩ => exact Subsingleton.elim (α := Fin 1) _ _
    | ⟨2, _⟩ => exact Subsingleton.elim (α := Fin 1) _ _
  have hj : h.drop i = j := funext fun a => by match a with | ⟨0, _⟩ => exact Subsingleton.elim (α := Fin 1) _ _
  unfold Ideal.reduceAdd
  rw [show Finset.univ.filter (fun i' => h.drop i' = j) = {i} from Finset.ext fun i' => by simp [hs i', hj], Finset.sum_singleton]

theorem pay8_apply (i : Fin 256) (j : Fin 1024) : (k0_pay8 : FVec Ideal S256x1024 .f32) (ix2 i j) = c2048 := by
  unfold k0_pay8
  simp only [bcast_col, col_apply, multiReduction, Ideal.reduceAdd_def, red_row, Fin.sum_univ_one, broadcastTo_1b_ab_apply, broadcast_apply]
  refine (one_red _ _ _ (ix3 0 0 0)).trans ?_
  show Ideal.ofBits .f32 0x3F800000#32 * Ideal.ofBits .f32 0x3A000000#32 = _
  rw [Idealize.ShloMosaic.Ideal.ofBits_one_f32, one_mul]

theorem pay11_apply (i : Fin 256) (j : Fin 1024) : k0_pay11 (k0_pay9 x0 x2 x1) (k0_pay10 x0 x2 x1) (ix2 i j)
    = errH (fun k => x0 (ix2 i k)) (fun k => x1 (ix2 i k)) (fun k => x2 (ix2 0 k)) j := by
  unfold k0_pay11 k0_pay9 k0_pay10
  simp only [addf_apply, mulf_apply, pay6_apply, pay8_apply]
  rfl

/-- An entry of a tile of the rows' gradient. -/
theorem pay12_apply (i : Fin 256) (j : Fin 1024) : k0_pay12 x0 (k0_pay1 x2) (k0_pay3 x0) (k0_pay4 x0) (k0_pay9 x0 x2 x1) (k0_pay10 x0 x2 x1) (ix2 i j)
    = rowDx c1024 epsE mhalf (fun k => x0 (ix2 i k))
        (fun k => errH (fun k => x0 (ix2 i k)) (fun k => x1 (ix2 i k)) (fun k => x2 (ix2 0 k)) k * x2 (ix2 0 k)) j := by
  unfold k0_pay12 k0_pay4 k0_pay3 k0_pay1
  simp only [addf_apply, mulf_apply, divf_apply, broadcast_apply, bcast_col, col_apply, multiReduction, Ideal.reduceAdd_def, red_row, Fin.sum_univ_one,
    broadcastTo_1b_ab_apply, shapeCast_self, rsqrt_apply, pay2_apply, pay11_apply]
  rfl

/-- An entry of the weight's gradient after one more tile. -/
theorem pay16_apply (j : Fin 1024) : k0_pay16 (k0_pay5 x0) (k0_pay9 x0 x2 x1) (k0_pay10 x0 x2 x1) xg (ix2 0 j)
    = xg (ix2 0 j) + ∑ i : Fin 256, x0 (ix2 i j) * Ideal.rsqrt (rowV c1024 epsE fun k => x0 (ix2 i k))
        * errH (fun k => x0 (ix2 i k)) (fun k => x1 (ix2 i k)) (fun k => x2 (ix2 0 k)) j := by
  unfold k0_pay16
  simp only [addf_apply, mulf_apply, shapeCast_self, shapeCast_a_1a_apply, multiReduction, Ideal.reduceAdd_def, red_col, pay5_apply, pay11_apply]

/-- The loss after one more tile. -/
theorem pay17_apply (j : Fin 128) : k0_pay17 (k0_pay7 x0 x2 x1) xl (ix2 0 j)
    = xl (ix2 0 j) + ∑ i : Fin 256, c2048 * ∑ k : Fin 1024, errV (fun k => x0 (ix2 i k)) (fun k => x1 (ix2 i k)) (fun k => x2 (ix2 0 k)) k
        * errV (fun k => x0 (ix2 i k)) (fun k => x1 (ix2 i k)) (fun k => x2 (ix2 0 k)) k := by
  unfold k0_pay17 k0_pay7
  simp only [addf_apply, mulf_apply, bcast_col, shapeCast_self, col_apply, broadcast_apply, multiReduction, Ideal.reduceAdd_def, red_col, red_row, pay6_apply]
  refine congrArg₂ (· + ·) rfl ?_
  rw [mul_comm]
  show c2048 * _ = _
  rw [c2048_eq, mul_sum_coe _ _ (by norm_num)]

end tile

/-! ## The grid -/

section grid
variable (m : (ℓ : Loc nD τ sig) → Buf (Elt Ideal) ℓ) (ρ : Dev nD → PrngReg) (c : Dev nD)

/-- The kernel's arrays: the rows, the targets, the norm's weight. -/
abbrev X : S8192x1024.Idx → EReal := m ((c : Thread nD τ).loc main_arg0)
abbrev T : S8192x1024.Idx → EReal := m ((c : Thread nD τ).loc main_arg1)
abbrev G : S1024.Idx → EReal := m ((c : Thread nD τ).loc main_arg2)

/-- Row `r` of an array. -/
def rowAt (x : S8192x1024.Idx → EReal) (r : ℕ) : Fin 1024 → EReal := fun k => atN x r k.val

/-- The rows' gradient, a row's part of the weight's gradient, and a row's part of the loss. -/
def dxAt (x t : S8192x1024.Idx → EReal) (g : S1024.Idx → EReal) (r : ℕ) (j : Fin 1024) : EReal :=
  rowDx c1024 epsE mhalf (rowAt x r) (fun k => errH (rowAt x r) (rowAt t r) (fun k => g (ix1 k)) k * g (ix1 k)) j
def dgRow (x t : S8192x1024.Idx → EReal) (g : S1024.Idx → EReal) (j : Fin 1024) (r : ℕ) : EReal :=
  rowAt x r j * Ideal.rsqrt (rowV c1024 epsE (rowAt x r)) * errH (rowAt x r) (rowAt t r) (fun k => g (ix1 k)) j
def lossRow (x t : S8192x1024.Idx → EReal) (g : S1024.Idx → EReal) (r : ℕ) : EReal :=
  c2048 * ∑ k : Fin 1024, errV (rowAt x r) (rowAt t r) (fun k => g (ix1 k)) k * errV (rowAt x r) (rowAt t r) (fun k => g (ix1 k)) k

theorem idx : ∀ t : Fin grid0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0)
    ∧ (win0_6.index t 0 = 0 ∧ win0_6.index t 1 = 0) := by decide +kernel

theorem lt32 (t : Fin cfg0.N) : t.val < 32 := t.isLt.trans_eq N_0

/-- The blocks a point reads, at plain numbers. -/
theorem blk0 (t : Fin cfg0.N) (i : Fin 256) (k : Fin 1024) : (iblk m c 0 t : Vec Ideal S256x1024 .f32) (ix2 i k) = rowAt (X m c) (256 * t.val + i.val) k :=
  eq_atN_of (X m c) _ (by show win0_0.index t 0 * 256 + 1 * i.val = _; rw [(idx t).1.1]; omega)
    (by show win0_0.index t 1 * 1024 + 1 * k.val = _; rw [(idx t).1.2]; omega)

theorem blk1 (t : Fin cfg0.N) (i : Fin 256) (k : Fin 1024) : (iblk m c 1 t : Vec Ideal S256x1024 .f32) (ix2 i k) = rowAt (T m c) (256 * t.val + i.val) k :=
  eq_atN_of (T m c) _ (by show win0_1.index t 0 * 256 + 1 * i.val = _; rw [(idx t).2.1.1]; omega)
    (by show win0_1.index t 1 * 1024 + 1 * k.val = _; rw [(idx t).2.1.2]; omega)

theorem blk2 (t : Fin cfg0.N) (k : Fin 1024) : (iblk m c 2 t : Vec Ideal S1x1024 .f32) (ix2 0 k) = G m c (ix1 k) := by
  have h : (iblk m c 2 t : Vec Ideal S1x1024 .f32) (ix2 0 k)
      = (shapeCast S1x1024 (G m c) shapeCasts_S1024_S1x1024 : FVec Ideal S1x1024 .f32) (ix2 0 k) :=
    (eq_atN_of (shapeCast S1x1024 (G m c) shapeCasts_S1024_S1x1024 : FVec Ideal S1x1024 .f32) _ (r := 0) (j := k.val)
      (by show win0_2.index t 0 * 1 + 1 * 0 = _; rw [(idx t).2.2.1.1])
      (by show win0_2.index t 1 * 1024 + 1 * k.val = _; rw [(idx t).2.2.1.2]; omega)).trans (atN_pos _ (by decide) k.isLt)
  rw [h, shapeCast_a_1a_apply]

/-- A point's tile of the rows' gradient. -/
theorem tile_dx (t : Fin cfg0.N) (i : Fin 256) (j : Fin 1024) :
    k0_pay12 (iblk m c 0 t) (k0_pay1 (iblk m c 2 t)) (k0_pay3 (iblk m c 0 t)) (k0_pay4 (iblk m c 0 t))
        (k0_pay9 (iblk m c 0 t) (iblk m c 2 t) (iblk m c 1 t)) (k0_pay10 (iblk m c 0 t) (iblk m c 2 t) (iblk m c 1 t)) (ix2 i j)
      = dxAt (X m c) (T m c) (G m c) (256 * t.val + i.val) j := by
  refine (pay12_apply _ _ _ i j).trans ?_
  simp only [blk0, blk1, blk2]
  rfl

theorem outs4 (t : Fin cfg0.N) : (outsAt0 m c t.val t.isLt).2.1
    = fun y : S256x1024.Idx => dxAt (X m c) (T m c) (G m c) (256 * t.val + (y 0).val) (y 1) := by
  by_cases h : t.val % 32 = 0
  · refine (congrArg (·.2.1) (outsAt0_A m c t h)).trans ?_
    dsimp only
    rw [out4_A]
    exact ext2 fun i j => tile_dx m c t i j
  · refine (congrArg (·.2.1) (outsAt0_B m c t h)).trans ?_
    dsimp only
    rw [out4_B]
    exact ext2 fun i j => tile_dx m c t i j

theorem outs5 (t : Fin cfg0.N) : (outsAt0 m c t.val t.isLt).2.2.1
    = fun y : S256x1024.Idx => dxAt (X m c) (T m c) (G m c) (256 * t.val + (y 0).val) (y 1) := by
  by_cases h : t.val % 32 = 0
  · refine (congrArg (·.2.2.1) (outsAt0_A m c t h)).trans ?_
    dsimp only
    rw [out5_A]
    exact ext2 fun i j => tile_dx m c t i j
  · refine (congrArg (·.2.2.1) (outsAt0_B m c t h)).trans ?_
    dsimp only
    rw [out5_B]
    exact ext2 fun i j => tile_dx m c t i j

/-- One more tile of rows in the weight's gradient and in the loss. -/
theorem dg_step (t : Fin cfg0.N) (xo : Vec Ideal S1x1024 .f32) (j : Fin 1024)
    (h : xo (ix2 0 j) = ∑ r ∈ Finset.range (256 * t.val), dgRow (X m c) (T m c) (G m c) j r) :
    k0_pay16 (k0_pay5 (iblk m c 0 t)) (k0_pay9 (iblk m c 0 t) (iblk m c 2 t) (iblk m c 1 t)) (k0_pay10 (iblk m c 0 t) (iblk m c 2 t) (iblk m c 1 t)) xo (ix2 0 j)
      = ∑ r ∈ Finset.range (256 * (t.val + 1)), dgRow (X m c) (T m c) (G m c) j r := by
  refine (pay16_apply _ _ _ _ j).trans ?_
  rw [h, ← sum_range_block]
  simp only [blk0, blk1, blk2]
  rfl

theorem loss_step (t : Fin cfg0.N) (xo : Vec Ideal S1x128 .f32) (j : Fin 128)
    (h : xo (ix2 0 j) = ∑ r ∈ Finset.range (256 * t.val), lossRow (X m c) (T m c) (G m c) r) :
    k0_pay17 (k0_pay7 (iblk m c 0 t) (iblk m c 2 t) (iblk m c 1 t)) xo (ix2 0 j)
      = ∑ r ∈ Finset.range (256 * (t.val + 1)), lossRow (X m c) (T m c) (G m c) r := by
  refine (pay17_apply _ _ _ _ j).trans ?_
  rw [h, ← sum_range_block]
  simp only [blk0, blk1, blk2]
  rfl

theorem outs6 : ∀ (n : ℕ) (h : n < cfg0.N), (outsAt0 m c n h).2.2.2
    = fun y : S1x1024.Idx => ∑ r ∈ Finset.range (256 * (n + 1)), dgRow (X m c) (T m c) (G m c) (y 1) r
  | 0, h => by
    refine (congrArg (·.2.2.2) (outsAt0_A m c ⟨0, h⟩ rfl)).trans ?_
    dsimp only
    rw [out6_A]
    exact ext_row fun j => dg_step m c ⟨0, h⟩ _ j (Ideal.ofBits_zero_f32.trans (by rw [Nat.mul_zero]; rfl))
  | n + 1, h => by
    have hB : ¬(⟨n + 1, h⟩ : Fin cfg0.N).val % 32 = 0 := by have := lt32 ⟨n + 1, h⟩; dsimp only at this ⊢; omega
    refine (congrArg (·.2.2.2) (outsAt0_B m c ⟨n + 1, h⟩ hB)).trans ?_
    dsimp only
    rw [out6_B]
    exact ext_row fun j => dg_step m c ⟨n + 1, h⟩ _ j (congrFun (outs6 n _) (ix2 0 j))

theorem outs3 : ∀ (n : ℕ) (h : n < cfg0.N), (outsAt0 m c n h).1
    = fun y : S1x128.Idx => ∑ r ∈ Finset.range (256 * (n + 1)), lossRow (X m c) (T m c) (G m c) r
  | 0, h => by
    refine (congrArg (·.1) (outsAt0_A m c ⟨0, h⟩ rfl)).trans ?_
    dsimp only
    rw [out3_A]
    exact ext_row fun j => loss_step m c ⟨0, h⟩ _ j (Ideal.ofBits_zero_f32.trans (by rw [Nat.mul_zero]; rfl))
  | n + 1, h => by
    have hB : ¬(⟨n + 1, h⟩ : Fin cfg0.N).val % 32 = 0 := by have := lt32 ⟨n + 1, h⟩; dsimp only at this ⊢; omega
    refine (congrArg (·.1) (outsAt0_B m c ⟨n + 1, h⟩ hB)).trans ?_
    dsimp only
    rw [out3_B]
    exact ext_row fun j => loss_step m c ⟨n + 1, h⟩ _ j (congrFun (outs3 n _) (ix2 0 j))

/-! The arrays after the run. -/

theorem final4 : (dats m 0 c).arrAt 4 cfg0.N = fun i : S8192x1024.Idx => dxAt (X m c) (T m c) (G m c) (i 0).val (i 1) := by
  refine (dats m 0 c).arrAt_eq_of_cover 4 _ (fun t _ => ?_) fun (i : S8192x1024.Idx) => ?_
  · show (cfg0.win 4).cut (grid0.coords t) ((dats m 0 c).after 4 t) = _
    rw [after0_4, outs4]
    refine funext fun y => Eq.trans ?_ (View.read_apply _ _).symm
    have e0 : 256 * t.val + (y 0).val = win0_4.index t 0 * 256 + 1 * (y 0).val := by rw [(idx t).2.2.2.2.1.1]; omega
    have e1 : (y 1).val = win0_4.index t 1 * 1024 + 1 * (y 1).val := by rw [(idx t).2.2.2.2.1.2]; omega
    exact congrArg₂ (dxAt (X m c) (T m c) (G m c)) e0 (Fin.ext e1)
  · have hi0 : (i 0).val < 8192 := (i 0).isLt
    obtain ⟨t, ht⟩ : ∃ t : Fin cfg0.N, t.val = (i 0).val / 256 := ⟨⟨(i 0).val / 256, by rw [show cfg0.N = 32 from N_0]; omega⟩, rfl⟩
    refine ⟨t, flush0_4 t, ?_⟩
    show i ∈ ((View.whole main_v1_1).slice (win0_4.rect t)).set
    rw [View.set_slice_whole, Rect.mem_set_unit]
    exact in_rows i (a := 256) (f := win0_4.index t) (by decide) ((idx t).2.2.2.2.1.1.trans ht) (idx t).2.2.2.2.1.2

theorem final5 : (dats m 0 c).arrAt 5 cfg0.N = fun i : S8192x1024.Idx => dxAt (X m c) (T m c) (G m c) (i 0).val (i 1) := by
  refine (dats m 0 c).arrAt_eq_of_cover 5 _ (fun t _ => ?_) fun (i : S8192x1024.Idx) => ?_
  · show (cfg0.win 5).cut (grid0.coords t) ((dats m 0 c).after 5 t) = _
    rw [after0_5, outs5]
    refine funext fun y => Eq.trans ?_ (View.read_apply _ _).symm
    have e0 : 256 * t.val + (y 0).val = win0_5.index t 0 * 256 + 1 * (y 0).val := by rw [(idx t).2.2.2.2.2.1.1]; omega
    have e1 : (y 1).val = win0_5.index t 1 * 1024 + 1 * (y 1).val := by rw [(idx t).2.2.2.2.2.1.2]; omega
    exact congrArg₂ (dxAt (X m c) (T m c) (G m c)) e0 (Fin.ext e1)
  · have hi0 : (i 0).val < 8192 := (i 0).isLt
    obtain ⟨t, ht⟩ : ∃ t : Fin cfg0.N, t.val = (i 0).val / 256 := ⟨⟨(i 0).val / 256, by rw [show cfg0.N = 32 from N_0]; omega⟩, rfl⟩
    refine ⟨t, flush0_5 t, ?_⟩
    show i ∈ ((View.whole main_v1_2).slice (win0_5.rect t)).set
    rw [View.set_slice_whole, Rect.mem_set_unit]
    exact in_rows i (a := 256) (f := win0_5.index t) (by decide) ((idx t).2.2.2.2.2.1.1.trans ht) (idx t).2.2.2.2.2.1.2

theorem final6 : (dats m 0 c).arrAt 6 cfg0.N = fun y : S1x1024.Idx => ∑ r ∈ Finset.range 8192, dgRow (X m c) (T m c) (G m c) (y 1) r := by
  refine (dats m 0 c).arrAt_eq_of_cover 6 _ (fun t ht => ?_) fun (i : S1x1024.Idx) => ?_
  · have h7 : t.val = 31 := by have := (flush0_6 t).mp ht; have := lt32 t; omega
    show (cfg0.win 6).cut (grid0.coords t) ((dats m 0 c).after 6 t) = _
    rw [after0_6, outs6, h7]
    have hz' : (fun a => win0_6.index t a * main_v1_3.ty.shape.size a) = fun _ => 0 := still (f := win0_6.index t) (idx t).2.2.2.2.2.2.1 (idx t).2.2.2.2.2.2.2
    exact (Memref.read_access_unit_zero (Elt Ideal) main_v1_3 hz' (fun a => by rw [congrFun hz' a]; simp) _).symm
  · obtain ⟨t, ht⟩ : ∃ t : Fin cfg0.N, t.val = 31 := ⟨⟨31, by rw [show cfg0.N = 32 from N_0]; omega⟩, rfl⟩
    refine ⟨t, (flush0_6 t).mpr (by rw [ht]), ?_⟩
    show i ∈ ((View.whole main_v1_3).slice (win0_6.rect t)).set
    rw [View.set_slice_whole, Rect.mem_set_unit]
    exact in_still i (f := win0_6.index t) (idx t).2.2.2.2.2.2.1 (idx t).2.2.2.2.2.2.2

theorem final3 : (dats m 0 c).arrAt 3 cfg0.N = fun y : S1x128.Idx => ∑ r ∈ Finset.range 8192, lossRow (X m c) (T m c) (G m c) r := by
  refine (dats m 0 c).arrAt_eq_of_cover 3 _ (fun t ht => ?_) fun (i : S1x128.Idx) => ?_
  · have h7 : t.val = 31 := by have := (flush0_3 t).mp ht; have := lt32 t; omega
    show (cfg0.win 3).cut (grid0.coords t) ((dats m 0 c).after 3 t) = _
    rw [after0_3, outs3, h7]
    have hz' : (fun a => win0_3.index t a * main_v1_0.ty.shape.size a) = fun _ => 0 := still (f := win0_3.index t) (idx t).2.2.2.1.1 (idx t).2.2.2.1.2
    exact (Memref.read_access_unit_zero (Elt Ideal) main_v1_0 hz' (fun a => by rw [congrFun hz' a]; simp) _).symm
  · obtain ⟨t, ht⟩ : ∃ t : Fin cfg0.N, t.val = 31 := ⟨⟨31, by rw [show cfg0.N = 32 from N_0]; omega⟩, rfl⟩
    refine ⟨t, (flush0_3 t).mpr (by rw [ht]), ?_⟩
    show i ∈ ((View.whole main_v1_0).slice (win0_3.rect t)).set
    rw [View.set_slice_whole, Rect.mem_set_unit]
    exact in_still i (f := win0_3.index t) (idx t).2.2.2.1.1 (idx t).2.2.2.1.2

end grid

end Cert.LossBwdIdeal.Own

namespace Cert.LossRefIdeal.Own

open Cert.LossRefIdeal Cert.LossRefIdeal.Gen Cert.LossRefIdeal.Read Cert.Own
open Cert.LossBwdIdeal.Own (c1024 c2048 errV errH rowAt dxAt dgRow lossRow twice)

variable (x0 x1 : (⟨S8192x1024, .f32⟩ : BufTy).Contents (Elt Ideal)) (x2 : (⟨S1024, .f32⟩ : BufTy).Contents (Elt Ideal))

/-- A row of an array, by its entries. -/
theorem row_eq (x : (⟨S8192x1024, .f32⟩ : BufTy).Contents (Elt Ideal)) (i : Fin 8192) : (fun k : Fin 1024 => x (ix2 i k)) = rowAt x i.val :=
  funext fun k => eq_atN_of x (ix2 i k) rfl rfl

theorem row_at (x : (⟨S8192x1024, .f32⟩ : BufTy).Contents (Elt Ideal)) (i : Fin 8192) (k : Fin 1024) : x (ix2 i k) = rowAt x i.val k :=
  eq_atN_of x (ix2 i k) rfl rfl

/-- The reference's stages at an entry. -/
theorem v6_apply (i : Fin 8192) : val_main_v6 (F := Ideal) x0 (ix2 i 0) = rowV c1024 epsE (rowAt x0 i.val) := by
  simp only [val_main_v6_apply, val_main_v5_apply, val_main_v4_apply, val_main_v3_apply, val_main_v2_apply, val_main_v1_apply,
    val_main_v0_apply, val_main_cst_apply, val_main_cst_0_apply, val_main_cst_1_apply, Ideal.addf_def, Ideal.mulf_def,
    Ideal.hostDivf_def, Ideal.ofBits_def, Ideal.ofBits_zero_f32, zero_add, div_1024]
  show _ = (∑ k, _) * _ + _
  congr 2
  refine Finset.sum_congr rfl fun k _ => ?_
  rw [show idx_main_v1 (idx_main_v2 (ix2 i 0)) k = ix2 i k from funext fun a => by match a with | ⟨0, _⟩ => rfl | ⟨1, _⟩ => rfl, row_at x0]

theorem v7_apply (i : Fin 8192) : val_main_v7 (F := Ideal) x0 (ix2 i 0) = Ideal.rsqrt (rowV c1024 epsE (rowAt x0 i.val)) := by
  simp only [val_main_v7_apply, Ideal.hostUnary_rsqrt_def, v6_apply]

theorem v10_apply (i : Fin 8192) : val_main_v10 (F := Ideal) x0 (ix2 i 0)
    = mhalf * Ideal.div (Ideal.rsqrt (rowV c1024 epsE (rowAt x0 i.val))) (rowV c1024 epsE (rowAt x0 i.val)) := by
  simp only [val_main_v10_apply, val_main_v9_apply, val_main_v8_apply, v7_apply, val_main_cst_2_apply, Ideal.mulf_def,
    Ideal.hostDivf_def, v6_apply]
  rfl

theorem v16_apply (i : Fin 8192) (j : Fin 1024) : val_main_v16 (F := Ideal) x0 x1 x2 (ix2 i j) = errV (rowAt x0 i.val) (rowAt x1 i.val) (fun k => x2 (ix1 k)) j := by
  have h1 : idx_main_v11 (ix2 i j) = ix2 i 0 := funext fun a => by match a with | ⟨0, _⟩ => rfl | ⟨1, _⟩ => rfl
  simp only [val_main_v16_apply, val_main_v15_apply, val_main_v14_apply, val_main_v13_apply, val_main_v12_apply, val_main_v11_apply, h1, v7_apply,
    Ideal.mulf_def, Ideal.subf_def, row_at x0, row_at x1]
  rw [show idx_main_v13 (idx_main_v14 (ix2 i j)) = ix1 j from funext fun a => by match a with | ⟨0, _⟩ => rfl]
  rfl

theorem v30_apply (i : Fin 8192) (j : Fin 1024) : val_main_v30 (F := Ideal) x0 x1 x2 (ix2 i j) = errH (rowAt x0 i.val) (rowAt x1 i.val) (fun k => x2 (ix1 k)) j := by
  unfold errH
  rw [twice]
  simp only [val_main_v30_apply, val_main_v29_apply, val_main_v28_apply, val_main_v27_apply, val_main_v26_apply, val_main_v25_apply, val_main_v19_apply,
    val_main_v18_apply, val_main_cst_3_apply, val_main_cst_8_apply, val_main_cst_9_apply, val_main_cst_10_apply, v16_apply, Ideal.mulf_def,
    Ideal.hostDivf_def, Ideal.ofBits_def, Idealize.ShloMosaic.Ideal.ofBits_one_f32, div_1024]

theorem v35_apply (i : Fin 8192) (j : Fin 1024) : val_main_v35 (F := Ideal) x0 x1 x2 (ix2 i j)
    = errH (rowAt x0 i.val) (rowAt x1 i.val) (fun k => x2 (ix1 k)) j * x2 (ix1 j) := by
  simp only [val_main_v35_apply, val_main_v34_apply, val_main_v13_apply, v30_apply, Ideal.mulf_def]
  rw [show idx_main_v13 (idx_main_v34 (ix2 i j)) = ix1 j from funext fun a => by match a with | ⟨0, _⟩ => rfl]

theorem v46_apply (i : Fin 8192) (j : Fin 1024) : val_main_v46 (F := Ideal) x0 x1 x2 (ix2 i j)
    = rowS c1024 epsE mhalf (rowAt x0 i.val) (fun k => errH (rowAt x0 i.val) (rowAt x1 i.val) (fun k => x2 (ix1 k)) k * x2 (ix1 k)) := by
  have h1 : idx_main_v45 (idx_main_v46 (ix2 i j)) 0 = ix2 i 0 := funext fun a => by match a with | ⟨0, _⟩ => rfl | ⟨1, _⟩ => rfl
  have h2 : ∀ k, idx_main_v38 (idx_main_v39 (ix2 i 0)) k = ix2 i k := fun k => funext fun a => by
    match a with | ⟨0, _⟩ => exact Fin.ext (by show i.val * 1 + 0 = i.val; omega) | ⟨1, _⟩ => rfl
  simp only [val_main_v46_apply, val_main_v45_apply, val_main_cst_15_apply, Fin.sum_univ_one, h1, val_main_v44_apply, val_main_v43_apply,
    val_main_cst_14_apply, val_main_v42_apply, v10_apply, val_main_v39_apply, val_main_v38_apply, val_main_v37_apply, h2,
    val_main_cst_13_apply, v35_apply, row_at x0, Ideal.mulf_def, Ideal.hostDivf_def, Ideal.ofBits_def, Ideal.ofBits_zero_f32, zero_add, div_1024]
  rfl

/-- The reference's gradient of the rows at an entry. -/
theorem v50_apply (i : Fin 8192) (j : Fin 1024) : val_main_v50 (F := Ideal) x0 x1 x2 (ix2 i j) = dxAt x0 x1 x2 i.val j := by
  have h1 : idx_main_v40 (ix2 i j) = ix2 i 0 := funext fun a => by match a with | ⟨0, _⟩ => rfl | ⟨1, _⟩ => rfl
  simp only [val_main_v50_apply, val_main_v49_apply, val_main_v48_apply, val_main_v47_apply, val_main_v41_apply, val_main_v40_apply, h1,
    v7_apply, v46_apply, v35_apply, row_at x0, Ideal.mulf_def, Ideal.addf_def]
  rfl

/-- The reference's gradient of the norm's weight at an entry. -/
theorem v53_apply (j : Fin 1024) : val_main_v53 (F := Ideal) x0 x1 x2 (ix2 0 j) = ∑ r ∈ Finset.range 8192, dgRow x0 x1 x2 j r := by
  have h1 : ∀ k : Fin 8192, idx_main_v32 (idx_main_v33 (idx_main_v36 (idx_main_v53 (ix2 0 j)) 0)) k = ix2 k j := fun k => funext fun a => by
    match a with | ⟨0, _⟩ => rfl | ⟨1, _⟩ => exact Fin.ext (by show 0 * 1024 + (0 * 1024 + j.val) = j.val; omega)
  have h2 : ∀ k : Fin 8192, idx_main_v11 (ix2 k j) = ix2 k 0 := fun k => funext fun a => by match a with | ⟨0, _⟩ => rfl | ⟨1, _⟩ => rfl
  simp only [val_main_v53_apply, val_main_v36_apply, val_main_v33_apply, val_main_v32_apply, val_main_v31_apply, val_main_v12_apply,
    val_main_v11_apply, Fin.sum_univ_one, h1, h2, val_main_cst_11_apply, val_main_cst_12_apply, v7_apply, v30_apply, row_at x0, Ideal.mulf_def,
    Ideal.ofBits_def, Ideal.ofBits_zero_f32, zero_add]
  exact sum_rows (n := 8192) (dgRow x0 x1 x2 j)

/-- The reference's mean squared error of a row. -/
theorem v22_apply (i : Fin 8192) : val_main_v22 (F := Ideal) x0 x1 x2 (ix1 i)
    = (∑ k : Fin 1024, errV (rowAt x0 i.val) (rowAt x1 i.val) (fun k => x2 (ix1 k)) k * errV (rowAt x0 i.val) (rowAt x1 i.val) (fun k => x2 (ix1 k)) k) * c1024 := by
  have h2 : ∀ k, idx_main_v20 (ix1 i) k = ix2 i k := fun k => funext fun a => by match a with | ⟨0, _⟩ => rfl | ⟨1, _⟩ => rfl
  simp only [val_main_v22_apply, val_main_v21_apply, val_main_v20_apply, val_main_v17_apply, h2, v16_apply, val_main_cst_4_apply, val_main_cst_5_apply,
    Ideal.mulf_def, Ideal.hostDivf_def, Ideal.ofBits_def, Ideal.ofBits_zero_f32, zero_add, div_1024]

theorem half_row (q : EReal) : ((1 / 2 : ℝ) : EReal) * (q * c1024) = c2048 * q := by
  rw [mul_comm q, ← mul_assoc, Cert.LossBwdIdeal.Own.c1024_eq, Cert.LossBwdIdeal.Own.c2048_eq, ← EReal.coe_mul]
  norm_num

/-- The reference's loss. -/
theorem v51_apply (j : Fin 128) : val_main_v51 (F := Ideal) x0 x1 x2 (ix2 0 j) = ∑ r ∈ Finset.range 8192, lossRow x0 x1 x2 r := by
  have h : (∑ j : S8192.Idx, val_main_v22 (F := Ideal) x0 x1 x2 j) = ∑ i : Fin 8192, val_main_v22 (F := Ideal) x0 x1 x2 (ix1 i) :=
    Fintype.sum_equiv (⟨fun j => j 0, fun k => ix1 k, fun j => (eq_ix1 j).symm, fun k => rfl⟩ : S8192.Idx ≃ Fin 8192) _ _
      fun j => congrArg (val_main_v22 (F := Ideal) x0 x1 x2) (eq_ix1 j)
  simp only [val_main_v51_apply, val_main_v24_apply, val_main_v23_apply, val_main_cst_6_apply, val_main_cst_7_apply, Ideal.mulf_def, Ideal.ofBits_def,
    Ideal.ofBits_zero_f32, zero_add]
  rw [h, Cert.LossBwdIdeal.Own.half_eq, Cert.LossBwdIdeal.Own.mul_sum_coe _ _ (by norm_num), ← sum_rows (n := 8192) (lossRow x0 x1 x2)]
  exact Finset.sum_congr rfl fun i _ => (congrArg _ (v22_apply x0 x1 x2 i)).trans (half_row _)

end Cert.LossRefIdeal.Own

namespace Cert.Loss

open Cert.Own Cert.LossBwdIdeal.Own

/-- The reference program ends with its arguments unchanged and every counter at zero. -/
theorem ref_frame : Cert.quiescent_LossRefIdeal (hLossRefIdeal := Cert.LossRefIdeal.Gen.facts) := fun m g _ =>
  (θ_run Cert.LossRefIdeal.defs _ _).mono (fun r h => ⟨fun c => (h c).2.2.2.2, sem_eq_zero_of_no_sems (by decide) r.2⟩)
    (Cert.LossRefIdeal.Value.run m g)

set_option maxHeartbeats 1000000 in
/-- Over the extended reals the kernel returns the loss and its derivative. -/
theorem value : Cert.algebraic_LossBwdIdeal_LossRefIdeal (hLossBwdIdeal := Cert.LossBwdIdeal.Gen.facts)
    (hLossRefIdeal := Cert.LossRefIdeal.Gen.facts) := fun m g m' g' _ hm => by
  refine ⟨fun c => (Cert.LossBwdIdeal.Gen.dats m 0 c).arrAt 3 Cert.LossBwdIdeal.cfg0.N,
    fun c => (Cert.LossBwdIdeal.Gen.dats m 0 c).arrAt 4 Cert.LossBwdIdeal.cfg0.N,
    fun c => (Cert.LossBwdIdeal.Gen.dats m 0 c).arrAt 5 Cert.LossBwdIdeal.cfg0.N,
    fun c => (Cert.LossBwdIdeal.Gen.dats m 0 c).arrAt 6 Cert.LossBwdIdeal.cfg0.N, ?_, ?_⟩
  · exact (θ_run Cert.LossBwdIdeal.defs _ _).mono (fun r h c => h c) (Cert.LossBwdIdeal.Value.run_blocks m g)
  · refine (θ_run Cert.LossRefIdeal.defs _ _).mono (fun r h c => ?_) (Cert.LossRefIdeal.Value.run m' g')
    obtain ⟨e0, e1, e2⟩ := hm c
    obtain ⟨h0, h1, h2, h3, h4⟩ := h c
    refine ⟨h0.trans ?_, h1.trans ?_, h2.trans ?_, h3.trans ?_, h4⟩
    · refine (Cert.LossRefIdeal.Read.val_main_v51_eq (F := Ideal) _ _ _).trans (Eq.trans ?_ (final3 m c).symm)
      rw [e0, e1, e2]
      exact ext_row fun j => Cert.LossRefIdeal.Own.v51_apply _ _ _ j
    · refine (Cert.LossRefIdeal.Read.val_main_v50_eq (F := Ideal) m' c).trans (Eq.trans ?_ (final4 m c).symm)
      rw [e0, e1, e2]
      exact ext2 fun i j => Cert.LossRefIdeal.Own.v50_apply _ _ _ i j
    · refine (Cert.LossRefIdeal.Read.val_main_v52_eq (F := Ideal) m' c).trans (Eq.trans ?_ (final5 m c).symm)
      rw [e0, e1, e2]
      exact ext2 fun i j => Cert.LossRefIdeal.Own.v50_apply _ _ _ i j
    · refine (Cert.LossRefIdeal.Read.val_main_v53_eq (F := Ideal) _ _ _).trans (Eq.trans ?_ (final6 m c).symm)
      rw [e0, e1, e2]
      exact ext_row fun j => Cert.LossRefIdeal.Own.v53_apply _ _ _ j

end Cert.Loss
end
-- ==== Proof.Mlpup.lean ====
/-
  The gradient of the network's first product (`mlp_up_dx`): a product against the transposed weights, accumulated over four
  blocks of columns, whose end is the row norm's gradient, added to a second gradient, with the norm weight's gradient summed
  over the tiles of rows.
-/
module

public import proofs.«01_k».proof.Proof.Pieces
public import proofs.«01_k».proof.Proof.RowNorm
public import proofs.«01_k».proof.Defs
public import proofs.«01_k».proof.Proof.Gen.MlpupBwdIdeal.Value
public import proofs.«01_k».proof.Proof.Gen.MlpupRefIdeal.Run
public import proofs.«01_k».proof.Proof.Gen.MlpupRefIdeal.Read
public import Idealize.ShloMosaic.Lib.Tactic
public import Idealize.ShloMosaic.Lib.MatmulPlain

@[expose] public section

set_option maxRecDepth 16384

noncomputable section

open Idealize.ShloMosaic Idealize.ShloMosaic.TcCoe Idealize.SL.Sem Idealize.ShloMosaic.ValueIdx
open Idealize.ShloMosaic.Pipeline (Dat)

namespace Cert.MlpupBwdIdeal.Own

open Cert.MlpupBwdIdeal Cert.MlpupBwdIdeal.Gen Cert.Own

section anyF
variable {F : FTy → Type} [FloatOps F]
variable (c : Dev nD) (i : grid0.Coords) (a3 : Memref sig .tc .vmem S1024x1024 .bf16) (h3 : a3.IsWhole)
  (a4 : Memref sig .tc .vmem S1024x1024 .bf16) (h4 : a4.IsWhole) (a5 : Memref sig .tc .vmem S1024x1024 .f32) (h5 : a5.IsWhole)
  (a6 : Memref sig .tc .vmem S1024x1024 .f32) (h6 : a6.IsWhole) (a7 : Memref sig .tc .vmem S1x1024 .f32) (h7 : a7.IsWhole)
  (a8 : Memref sig .tc .vmem S1024x1024 .f32) (h8 : a8.IsWhole) (a9 : Memref sig .tc .vmem S1024x1024 .bf16) (h9 : a9.IsWhole)
  (a10 : Memref sig .tc .vmem S1x1024 .f32) (h10 : a10.IsWhole) (a11 : Memref sig .tc .vmem S1024x1024 .f32) (h11 : a11.IsWhole)
  (x0 x1 : Vec F S1024x1024 .bf16) (x2 x3 : Vec F S1024x1024 .f32) (x4 xo : Vec F S1x1024 .f32) (xs : Vec F S1024x1024 .f32)

/-- The accumulated product: started at the first block of columns, one block more at the others. -/
theorem sout_A_0_own (hc0 : cond0_0 i) (hc1 : ¬cond0_1 i) (hc2 : ¬cond0_2 i) : sout0_A_0 c i a3 h3 a4 h4 a5 h5 a6 h6 a7 h7 a8 h8 a9 h9 a10 h10 a11 h11 hc0 hc1 hc2 x0 x1 x2 x3 x4 = k0_pay1 x0 x1 := by
  unfold sout0_A_0
  rw [View.read_writes_eq_canon _ _ _ (scover0_A_0 c i a3 h3 a4 h4 a5 h5 a6 h6 a7 h7 a8 h8 a9 h9 a10 h10 a11 h11 hc0 hc1 hc2 x0 x1 x2 x3 x4)]
  unfold kernelRun0_A
  dsimp only
  sl_unfold_words
  simp only [canon2, cov2, View.readAt_eq_ld, Memref.IsWhole.read_unread, ld2, *]

theorem sout_B_0_own (hc0 : ¬cond0_0 i) (hc1 : cond0_1 i) (hc2 : ¬cond0_2 i) : sout0_B_0 c i a3 h3 a4 h4 a5 h5 a6 h6 a7 h7 a8 h8 a9 h9 a10 h10 a11 h11 hc0 hc1 hc2 x0 x1 x2 x3 x4 xs = k0_pay2 xs x0 x1 := by
  unfold sout0_B_0
  rw [View.read_writes_eq_canon _ _ _ (scover0_B_0 c i a3 h3 a4 h4 a5 h5 a6 h6 a7 h7 a8 h8 a9 h9 a10 h10 a11 h11 hc0 hc1 hc2 x0 x1 x2 x3 x4 xs)]
  unfold kernelRun0_B
  dsimp only
  sl_unfold_words
  simp only [canon2, cov2, View.readAt_eq_ld, Memref.IsWhole.read_unread, ld2, *]

theorem sout_C_0_own (hc0 : ¬cond0_0 i) (hc1 : cond0_1 i) (hc2 : cond0_2 i) (hc3 : cond0_3 i) : sout0_C_0 c i a3 h3 a4 h4 a5 h5 a6 h6 a7 h7 a8 h8 a9 h9 a10 h10 a11 h11 hc0 hc1 hc2 hc3 x0 x1 x2 x3 x4 xs = k0_pay2 xs x0 x1 := by
  unfold sout0_C_0
  rw [View.read_writes_eq_canon _ _ _ (scover0_C_0 c i a3 h3 a4 h4 a5 h5 a6 h6 a7 h7 a8 h8 a9 h9 a10 h10 a11 h11 hc0 hc1 hc2 hc3 x0 x1 x2 x3 x4 xs)]
  unfold kernelRun0_C
  dsimp only
  sl_unfold_words
  simp only [canon2, cov2, View.readAt_eq_ld, Memref.IsWhole.read_unread, ld2, *]

theorem sout_D_0_own (hc0 : ¬cond0_0 i) (hc1 : cond0_1 i) (hc2 : cond0_2 i) (hc3 : ¬cond0_3 i) : sout0_D_0 c i a3 h3 a4 h4 a5 h5 a6 h6 a7 h7 a8 h8 a9 h9 a10 h10 a11 h11 hc0 hc1 hc2 hc3 x0 x1 x2 x3 x4 xo xs = k0_pay2 xs x0 x1 := by
  unfold sout0_D_0
  rw [View.read_writes_eq_canon _ _ _ (scover0_D_0 c i a3 h3 a4 h4 a5 h5 a6 h6 a7 h7 a8 h8 a9 h9 a10 h10 a11 h11 hc0 hc1 hc2 hc3 x0 x1 x2 x3 x4 xo xs)]
  unfold kernelRun0_D
  dsimp only
  sl_unfold_words
  simp only [canon2, cov2, View.readAt_eq_ld, Memref.IsWhole.read_unread, ld2, *]

/-- The tile of the rows' gradient and its rounded copy, written at the last block of columns. -/
theorem out_C_5_own (hc0 : ¬cond0_0 i) (hc1 : cond0_1 i) (hc2 : cond0_2 i) (hc3 : cond0_3 i) : out0_C_5 c i a3 h3 a4 h4 a5 h5 a6 h6 a7 h7 a8 h8 a9 h9 a10 h10 a11 h11 hc0 hc1 hc2 hc3 x0 x1 x2 x3 x4 xs = k0_pay8 (k0_pay2 xs x0 x1) x2 x3 x4 := by
  unfold out0_C_5
  refine Eq.trans (View.read_writes_eq_canon _ _ _ fun _ => cover0_C_5 ..) ?_
  unfold kernelRun0_C
  dsimp only
  sl_unfold_words
  simp only [canon2, cov2, View.readAt_eq_ld, Memref.IsWhole.read_unread, ld2, *]

theorem out_D_5_own (hc0 : ¬cond0_0 i) (hc1 : cond0_1 i) (hc2 : cond0_2 i) (hc3 : ¬cond0_3 i) : out0_D_5 c i a3 h3 a4 h4 a5 h5 a6 h6 a7 h7 a8 h8 a9 h9 a10 h10 a11 h11 hc0 hc1 hc2 hc3 x0 x1 x2 x3 x4 xo xs = k0_pay8 (k0_pay2 xs x0 x1) x2 x3 x4 := by
  unfold out0_D_5
  refine Eq.trans (View.read_writes_eq_canon _ _ _ fun _ => cover0_D_5 ..) ?_
  unfold kernelRun0_D
  dsimp only
  sl_unfold_words
  simp only [canon2, cov2, View.readAt_eq_ld, Memref.IsWhole.read_unread, ld2, *]

theorem out_C_6_own (hc0 : ¬cond0_0 i) (hc1 : cond0_1 i) (hc2 : cond0_2 i) (hc3 : cond0_3 i) : out0_C_6 c i a3 h3 a4 h4 a5 h5 a6 h6 a7 h7 a8 h8 a9 h9 a10 h10 a11 h11 hc0 hc1 hc2 hc3 x0 x1 x2 x3 x4 xs = k0_pay9 (k0_pay2 xs x0 x1) x2 x3 x4 := by
  unfold out0_C_6
  refine Eq.trans (View.read_writes_eq_canon _ _ _ fun _ => cover0_C_6 ..) ?_
  unfold kernelRun0_C
  dsimp only
  sl_unfold_words
  simp only [canon2, cov2, View.readAt_eq_ld, Memref.IsWhole.read_unread, ld2, *]

theorem out_D_6_own (hc0 : ¬cond0_0 i) (hc1 : cond0_1 i) (hc2 : cond0_2 i) (hc3 : ¬cond0_3 i) : out0_D_6 c i a3 h3 a4 h4 a5 h5 a6 h6 a7 h7 a8 h8 a9 h9 a10 h10 a11 h11 hc0 hc1 hc2 hc3 x0 x1 x2 x3 x4 xo xs = k0_pay9 (k0_pay2 xs x0 x1) x2 x3 x4 := by
  unfold out0_D_6
  refine Eq.trans (View.read_writes_eq_canon _ _ _ fun _ => cover0_D_6 ..) ?_
  unfold kernelRun0_D
  dsimp only
  sl_unfold_words
  simp only [canon2, cov2, View.readAt_eq_ld, Memref.IsWhole.read_unread, ld2, *]

/-- The norm weight's gradient so far: over zeros at the first tile, over what is there at the others. -/
theorem out_C_7_own (hc0 : ¬cond0_0 i) (hc1 : cond0_1 i) (hc2 : cond0_2 i) (hc3 : cond0_3 i) : out0_C_7 c i a3 h3 a4 h4 a5 h5 a6 h6 a7 h7 a8 h8 a9 h9 a10 h10 a11 h11 hc0 hc1 hc2 hc3 x0 x1 x2 x3 x4 xs = k0_pay4 (k0_pay7 (k0_pay2 xs x0 x1) x2) k0_pay3 := by
  unfold out0_C_7
  refine Eq.trans (View.read_writes_eq_canon _ _ _ fun _ => cover0_C_7 ..) ?_
  unfold kernelRun0_C
  dsimp only
  sl_unfold_words
  simp only [canon2, cov2, View.readAt_eq_ld, Memref.IsWhole.read_unread, ld2, *]

theorem out_D_7_own (hc0 : ¬cond0_0 i) (hc1 : cond0_1 i) (hc2 : cond0_2 i) (hc3 : ¬cond0_3 i) : out0_D_7 c i a3 h3 a4 h4 a5 h5 a6 h6 a7 h7 a8 h8 a9 h9 a10 h10 a11 h11 hc0 hc1 hc2 hc3 x0 x1 x2 x3 x4 xo xs = k0_pay4 (k0_pay7 (k0_pay2 xs x0 x1) x2) xo := by
  unfold out0_D_7
  refine Eq.trans (View.read_writes_eq_canon _ _ _ fun _ => cover0_D_7 ..) ?_
  unfold kernelRun0_D
  dsimp only
  sl_unfold_words
  simp only [canon2, cov2, View.readAt_eq_ld, Memref.IsWhole.read_unread, ld2, *]

end anyF

/-! ## Over the extended reals: one tile -/

abbrev c1024 : EReal := Ideal.ofBits .f32 0x3A800000#32

section tile
variable (x0 x1 : Vec Ideal S1024x1024 .bf16) (v x2 x3 : Vec Ideal S1024x1024 .f32) (x4 xo : Vec Ideal S1x1024 .f32)

/-- The product of one block of columns, and one block more. -/
theorem pay1_apply (i j : Fin 1024) : k0_pay1 x0 x1 (ix2 i j) = ∑ q : Fin 1024, x0 (ix2 i q) * x1 (ix2 q j) := by
  unfold k0_pay1
  rw [show dot_S1024x1024_S1024x1024_S1024x1024_1_0_0_1_n_n = DotDims.plain 1024 1024 1024 from rfl]
  simp only [shapeCast_self]
  rw [matmul, Ideal.matmul_plain_apply]
  rw [show constant (F := Ideal) S1024x1024 .f32 0x00000000#32 (ix2 i j) = 0 from Ideal.ofBits_zero_f32, zero_add]

theorem pay2_apply (i j : Fin 1024) : k0_pay2 v x0 x1 (ix2 i j) = v (ix2 i j) + ∑ q : Fin 1024, x0 (ix2 i q) * x1 (ix2 q j) := by
  unfold k0_pay2
  rw [show dot_S1024x1024_S1024x1024_S1024x1024_1_0_0_1_n_n = DotDims.plain 1024 1024 1024 from rfl]
  simp only [shapeCast_self, addf_apply]
  rw [matmul, Ideal.matmul_plain_apply]
  rw [show constant (F := Ideal) S1024x1024 .f32 0x00000000#32 (ix2 i j) = 0 from Ideal.ofBits_zero_f32, zero_add]

theorem pay5_apply (i : Fin 1024) : k0_pay5 x2 (ix2 i 0) = rowV c1024 epsE fun k => x2 (ix2 i k) := by
  unfold k0_pay5
  simp only [addf_apply, mulf_apply, broadcast_apply, col_apply, multiReduction, Ideal.reduceAdd_def, red_row]
  rfl

/-- An entry of a tile of the rows' gradient. -/
theorem pay8_apply (i j : Fin 1024) : k0_pay8 v x2 x3 x4 (ix2 i j)
    = rowDx c1024 epsE mhalf (fun k => x2 (ix2 i k)) (fun k => v (ix2 i k) * x4 (ix2 0 k)) j + x3 (ix2 i j) := by
  unfold k0_pay8 k0_pay6
  simp only [addf_apply, mulf_apply, divf_apply, broadcast_apply, bcast_col, col_apply, multiReduction, Ideal.reduceAdd_def, red_row,
    Fin.sum_univ_one, broadcastTo_1b_ab_apply, shapeCast_self, rsqrt_apply, pay5_apply]
  rfl

/-- An entry of the norm weight's gradient after one more tile. -/
theorem pay4_apply (j : Fin 1024) : k0_pay4 (k0_pay7 v x2) xo (ix2 0 j)
    = xo (ix2 0 j) + ∑ i : Fin 1024, x2 (ix2 i j) * Ideal.rsqrt (rowV c1024 epsE fun k => x2 (ix2 i k)) * v (ix2 i j) := by
  unfold k0_pay4 k0_pay7 k0_pay6
  simp only [addf_apply, mulf_apply, shapeCast_self, shapeCast_a_1a_apply, multiReduction, Ideal.reduceAdd_def, red_col, bcast_col,
    rsqrt_apply, pay5_apply]

end tile

/-! ## The grid -/

section grid
variable (m : (ℓ : Loc nD τ sig) → Buf (Elt Ideal) ℓ) (ρ : Dev nD → PrngReg) (c : Dev nD)

/-- The kernel's arrays: the rows, the norm's weight, the product's weights, the incoming gradient, the added gradient. -/
abbrev X : S8192x1024.Idx → EReal := m ((c : Thread nD τ).loc main_arg0)
abbrev G : S1024.Idx → EReal := m ((c : Thread nD τ).loc main_arg1)
abbrev W : S1024x4096.Idx → EReal := m ((c : Thread nD τ).loc main_arg2)
abbrev DY : S8192x4096.Idx → EReal := m ((c : Thread nD τ).loc main_arg3)
abbrev R : S8192x1024.Idx → EReal := m ((c : Thread nD τ).loc main_arg4)

/-- The first `n` terms of entry `(r, j)` of the incoming gradient against the transposed weights. -/
def part (dy : S8192x4096.Idx → EReal) (w : S1024x4096.Idx → EReal) (n r j : ℕ) : EReal :=
  ∑ q ∈ Finset.range n, atN dy r q * atN w j q

/-- Entry `(r, j)` of the rows' gradient. -/
def dxAt (x : S8192x1024.Idx → EReal) (g : S1024.Idx → EReal) (w : S1024x4096.Idx → EReal) (dy : S8192x4096.Idx → EReal)
    (res : S8192x1024.Idx → EReal) (r : ℕ) (j : Fin 1024) : EReal :=
  rowDx c1024 epsE mhalf (fun k => atN x r k.val) (fun k => part dy w 4096 r k.val * g (ix1 k)) j + atN res r j.val

/-- Row `r`'s part of column `j` of the norm weight's gradient. -/
def dgRow (x : S8192x1024.Idx → EReal) (w : S1024x4096.Idx → EReal) (dy : S8192x4096.Idx → EReal) (j r : ℕ) : EReal :=
  atN x r j * Ideal.rsqrt (rowV c1024 epsE fun k : Fin 1024 => atN x r k.val) * part dy w 4096 r j

theorem idx : ∀ t : Fin grid0.N, (win0_0.index t 0 = t.val / 4 ∧ win0_0.index t 1 = t.val % 4) ∧ (win0_1.index t 0 = t.val % 4 ∧ win0_1.index t 1 = 0)
    ∧ (win0_2.index t 0 = t.val / 4 ∧ win0_2.index t 1 = 0) ∧ (win0_3.index t 0 = t.val / 4 ∧ win0_3.index t 1 = 0)
    ∧ (win0_4.index t 0 = 0 ∧ win0_4.index t 1 = 0) ∧ (win0_5.index t 0 = t.val / 4 ∧ win0_5.index t 1 = 0)
    ∧ (win0_6.index t 0 = t.val / 4 ∧ win0_6.index t 1 = 0) ∧ (win0_7.index t 0 = 0 ∧ win0_7.index t 1 = 0) := by decide +kernel

theorem lt32 (t : Fin cfg0.N) : t.val < 32 := t.isLt.trans_eq N_0

/-- The blocks a point reads, at plain numbers. -/
theorem blk0 (t : Fin cfg0.N) (i k : Fin 1024) : (iblk m c 0 t : Vec Ideal S1024x1024 .bf16) (ix2 i k)
    = atN (DY m c) (1024 * (t.val / 4) + i.val) (1024 * (t.val % 4) + k.val) :=
  eq_atN_of (DY m c) _ (by show win0_0.index t 0 * 1024 + 1 * i.val = _; rw [(idx t).1.1]; omega)
    (by show win0_0.index t 1 * 1024 + 1 * k.val = _; rw [(idx t).1.2]; omega)

theorem blk1 (t : Fin cfg0.N) (i k : Fin 1024) : (iblk m c 1 t : Vec Ideal S1024x1024 .bf16) (ix2 i k) = atN (W m c) k.val (1024 * (t.val % 4) + i.val) :=
  eq_atN_of (W m c) _ (by show win0_1.index t 1 * 1024 + 1 * k.val = _; rw [(idx t).2.1.2]; omega)
    (by show win0_1.index t 0 * 1024 + 1 * i.val = _; rw [(idx t).2.1.1]; omega)

theorem blk2 (t : Fin cfg0.N) (i k : Fin 1024) : (iblk m c 2 t : Vec Ideal S1024x1024 .f32) (ix2 i k) = atN (X m c) (1024 * (t.val / 4) + i.val) k.val :=
  eq_atN_of (X m c) _ (by show win0_2.index t 0 * 1024 + 1 * i.val = _; rw [(idx t).2.2.1.1]; omega)
    (by show win0_2.index t 1 * 1024 + 1 * k.val = _; rw [(idx t).2.2.1.2]; omega)

theorem blk3 (t : Fin cfg0.N) (i k : Fin 1024) : (iblk m c 3 t : Vec Ideal S1024x1024 .f32) (ix2 i k) = atN (R m c) (1024 * (t.val / 4) + i.val) k.val :=
  eq_atN_of (R m c) _ (by show win0_3.index t 0 * 1024 + 1 * i.val = _; rw [(idx t).2.2.2.1.1]; omega)
    (by show win0_3.index t 1 * 1024 + 1 * k.val = _; rw [(idx t).2.2.2.1.2]; omega)

theorem blk4 (t : Fin cfg0.N) (k : Fin 1024) : (iblk m c 4 t : Vec Ideal S1x1024 .f32) (ix2 0 k) = G m c (ix1 k) := by
  have h : (iblk m c 4 t : Vec Ideal S1x1024 .f32) (ix2 0 k)
      = (shapeCast S1x1024 (G m c) shapeCasts_S1024_S1x1024 : FVec Ideal S1x1024 .f32) (ix2 0 k) :=
    (eq_atN_of (shapeCast S1x1024 (G m c) shapeCasts_S1024_S1x1024 : FVec Ideal S1x1024 .f32) _ (r := 0) (j := k.val)
      (by show win0_4.index t 0 * 1 + 1 * 0 = _; rw [(idx t).2.2.2.2.1.1])
      (by show win0_4.index t 1 * 1024 + 1 * k.val = _; rw [(idx t).2.2.2.2.1.2]; omega)).trans (atN_pos _ (by decide) k.isLt)
  rw [h, shapeCast_a_1a_apply]

/-- The products accumulated after point `n`. -/
def accAt (n : ℕ) : Vec Ideal S1024x1024 .f32 := fun y => part (DY m c) (W m c) (1024 * (n % 4 + 1)) (1024 * (n / 4) + (y 0).val) (y 1).val

theorem acc_first (t : Fin cfg0.N) (h : t.val % 4 = 0) : k0_pay1 (iblk m c 0 t) (iblk m c 1 t) = accAt m c t.val := ext2 fun i j => by
  refine (pay1_apply _ _ i j).trans ?_
  simp only [blk0, blk1]
  unfold accAt part
  rw [← sum_range_block, h, Nat.mul_zero, Finset.range_zero, Finset.sum_empty, zero_add]

theorem acc_next (t : Fin cfg0.N) (h : ¬t.val % 4 = 0) (xs : Vec Ideal S1024x1024 .f32) (hx : xs = accAt m c (t.val - 1)) :
    k0_pay2 xs (iblk m c 0 t) (iblk m c 1 t) = accAt m c t.val := ext2 fun i j => by
  refine (pay2_apply _ _ _ i j).trans ?_
  rw [hx]
  simp only [blk0, blk1]
  unfold accAt part
  rw [show (t.val - 1) % 4 + 1 = t.val % 4 by omega, show (t.val - 1) / 4 = t.val / 4 by omega, ← sum_range_block]

/-- The accumulator at every point. -/
theorem outsS : ∀ (n : ℕ) (h : n < cfg0.N), (outsAt0 m c n h).2.2.2 = accAt m c n
  | 0, h => by
    refine (congrArg (·.2.2.2) (outsAt0_A m c ⟨0, h⟩ rfl (by dsimp only; omega) (by dsimp only; omega))).trans ?_
    dsimp only
    rw [sout_A_0_own]
    exact acc_first m c ⟨0, h⟩ rfl
  | n + 1, h => by
    have ih := outsS n (Nat.lt_of_succ_lt h)
    by_cases h0 : (n + 1) % 4 = 0
    · refine (congrArg (·.2.2.2) (outsAt0_A m c ⟨n + 1, h⟩ h0 (by dsimp only; omega) (by dsimp only; omega))).trans ?_
      dsimp only
      rw [sout_A_0_own]
      exact acc_first m c ⟨n + 1, h⟩ h0
    · by_cases h2 : (n + 1) % 4 = 3
      · by_cases h3 : n + 1 < 4
        · refine (congrArg (·.2.2.2) (outsAt0_C m c ⟨n + 1, h⟩ h0 (by dsimp only; omega) h2 h3)).trans ?_
          dsimp only
          rw [sout_C_0_own]
          exact acc_next m c ⟨n + 1, h⟩ h0 _ ih
        · refine (congrArg (·.2.2.2) (outsAt0_D m c ⟨n + 1, h⟩ h0 (by dsimp only; omega) h2 h3)).trans ?_
          dsimp only
          rw [sout_D_0_own]
          exact acc_next m c ⟨n + 1, h⟩ h0 _ ih
      · refine (congrArg (·.2.2.2) (outsAt0_B m c ⟨n + 1, h⟩ h0 (by dsimp only; omega) h2)).trans ?_
        dsimp only
        rw [sout_B_0_own]
        exact acc_next m c ⟨n + 1, h⟩ h0 _ ih

/-- A point's tile of the rows' gradient, at the last block of columns. -/
theorem tile_dx (t : Fin cfg0.N) (h0 : ¬t.val % 4 = 0) (h2 : t.val % 4 = 3) (i j : Fin 1024) :
    k0_pay8 (k0_pay2 (outsAt0 m c (t.val - 1) (Nat.lt_of_le_of_lt (Nat.sub_le _ _) t.isLt)).2.2.2 (iblk m c 0 t) (iblk m c 1 t))
        (iblk m c 2 t) (iblk m c 3 t) (iblk m c 4 t) (ix2 i j)
      = dxAt (X m c) (G m c) (W m c) (DY m c) (R m c) (1024 * (t.val / 4) + i.val) j := by
  rw [acc_next m c t h0 _ (outsS m c _ _)]
  refine (pay8_apply _ _ _ _ i j).trans ?_
  simp only [blk2, blk3, blk4]
  unfold accAt
  rw [h2]
  rfl

theorem outs5 (t : Fin cfg0.N) (h2 : t.val % 4 = 3) : (outsAt0 m c t.val t.isLt).1
    = fun y : S1024x1024.Idx => dxAt (X m c) (G m c) (W m c) (DY m c) (R m c) (1024 * (t.val / 4) + (y 0).val) (y 1) := by
  have h0 : ¬t.val % 4 = 0 := by omega
  by_cases h : t.val < 4
  · refine (congrArg (·.1) (outsAt0_C m c t h0 (by omega) h2 h)).trans ?_
    dsimp only
    rw [out_C_5_own]
    exact ext2 fun i j => tile_dx m c t h0 h2 i j
  · refine (congrArg (·.1) (outsAt0_D m c t h0 (by omega) h2 h)).trans ?_
    dsimp only
    rw [out_D_5_own]
    exact ext2 fun i j => tile_dx m c t h0 h2 i j

theorem outs6 (t : Fin cfg0.N) (h2 : t.val % 4 = 3) : (outsAt0 m c t.val t.isLt).2.1
    = fun y : S1024x1024.Idx => dxAt (X m c) (G m c) (W m c) (DY m c) (R m c) (1024 * (t.val / 4) + (y 0).val) (y 1) := by
  have h0 : ¬t.val % 4 = 0 := by omega
  by_cases h : t.val < 4
  · refine (congrArg (·.2.1) (outsAt0_C m c t h0 (by omega) h2 h)).trans ?_
    dsimp only
    rw [out_C_6_own]
    exact ext2 fun i j => tile_dx m c t h0 h2 i j
  · refine (congrArg (·.2.1) (outsAt0_D m c t h0 (by omega) h2 h)).trans ?_
    dsimp only
    rw [out_D_6_own]
    exact ext2 fun i j => tile_dx m c t h0 h2 i j

/-- One more tile of rows in the norm weight's gradient. -/
theorem dg_step (t : Fin cfg0.N) (h0 : ¬t.val % 4 = 0) (h2 : t.val % 4 = 3) (xo : Vec Ideal S1x1024 .f32) (j : Fin 1024)
    (h : xo (ix2 0 j) = ∑ r ∈ Finset.range (1024 * (t.val / 4)), dgRow (X m c) (W m c) (DY m c) j.val r) :
    k0_pay4 (k0_pay7 (k0_pay2 (outsAt0 m c (t.val - 1) (Nat.lt_of_le_of_lt (Nat.sub_le _ _) t.isLt)).2.2.2 (iblk m c 0 t) (iblk m c 1 t))
        (iblk m c 2 t)) xo (ix2 0 j)
      = ∑ r ∈ Finset.range (1024 * (t.val / 4 + 1)), dgRow (X m c) (W m c) (DY m c) j.val r := by
  rw [acc_next m c t h0 _ (outsS m c _ _)]
  refine (pay4_apply _ _ _ j).trans ?_
  rw [h, ← sum_range_block]
  simp only [blk2]
  unfold accAt
  rw [h2]
  rfl

theorem outs7 : ∀ (n : ℕ) (h : n < cfg0.N), 3 ≤ n → (outsAt0 m c n h).2.2.1
    = fun y : S1x1024.Idx => ∑ r ∈ Finset.range (1024 * ((n + 1) / 4)), dgRow (X m c) (W m c) (DY m c) (y 1).val r
  | 0, h, h' => absurd h' (by decide)
  | n + 1, h, h' => by
    have ih := outs7 n (Nat.lt_of_succ_lt h)
    by_cases h0 : (n + 1) % 4 = 0
    · refine (congrArg (·.2.2.1) (outsAt0_A m c ⟨n + 1, h⟩ h0 (by dsimp only; omega) (by dsimp only; omega))).trans ?_
      refine (ih (by omega)).trans ?_
      rw [show (n + 1 + 1) / 4 = (n + 1) / 4 by omega]
    · by_cases h2 : (n + 1) % 4 = 3
      · rw [show (n + 1 + 1) / 4 = (n + 1) / 4 + 1 by omega]
        by_cases h3 : n + 1 < 4
        · refine (congrArg (·.2.2.1) (outsAt0_C m c ⟨n + 1, h⟩ h0 (by dsimp only; omega) h2 h3)).trans ?_
          dsimp only
          rw [out_C_7_own]
          exact ext_row fun j => dg_step m c ⟨n + 1, h⟩ h0 h2 _ j (Ideal.ofBits_zero_f32.trans (by
            rw [show (n + 1) / 4 = 0 by omega, Nat.mul_zero]; rfl))
        · refine (congrArg (·.2.2.1) (outsAt0_D m c ⟨n + 1, h⟩ h0 (by dsimp only; omega) h2 h3)).trans ?_
          dsimp only
          rw [out_D_7_own]
          exact ext_row fun j => dg_step m c ⟨n + 1, h⟩ h0 h2 _ j (congrFun (ih (by omega)) (ix2 0 j))
      · refine (congrArg (·.2.2.1) (outsAt0_B m c ⟨n + 1, h⟩ h0 (by dsimp only; omega) h2)).trans ?_
        refine (ih (by omega)).trans ?_
        rw [show (n + 1 + 1) / 4 = (n + 1) / 4 by omega]

/-- The rows' gradient after the run. -/
theorem final5 : (dats m 0 c).arrAt 5 cfg0.N
    = fun i : S8192x1024.Idx => dxAt (X m c) (G m c) (W m c) (DY m c) (R m c) (i 0).val (i 1) := by
  refine (dats m 0 c).arrAt_eq_of_cover 5 _ (fun t ht => ?_) fun (i : S8192x1024.Idx) => ?_
  · show (cfg0.win 5).cut (grid0.coords t) ((dats m 0 c).after 5 t) = _
    rw [after0_5, outs5 m c t ((flush0_5 t).mp ht)]
    refine funext fun y => Eq.trans ?_ (View.read_apply _ _).symm
    have e0 : 1024 * (t.val / 4) + (y 0).val = win0_5.index t 0 * 1024 + 1 * (y 0).val := by rw [(idx t).2.2.2.2.2.1.1]; omega
    have e1 : (y 1).val = win0_5.index t 1 * 1024 + 1 * (y 1).val := by rw [(idx t).2.2.2.2.2.1.2]; omega
    exact congrArg₂ (dxAt (X m c) (G m c) (W m c) (DY m c) (R m c)) e0 (Fin.ext e1)
  · have hi0 : (i 0).val < 8192 := (i 0).isLt
    obtain ⟨t, ht⟩ : ∃ t : Fin cfg0.N, t.val = 4 * ((i 0).val / 1024) + 3 := ⟨⟨4 * ((i 0).val / 1024) + 3, by rw [show cfg0.N = 32 from N_0]; omega⟩, rfl⟩
    refine ⟨t, (flush0_5 t).mpr (by omega), ?_⟩
    show i ∈ ((View.whole main_v4_0).slice (win0_5.rect t)).set
    rw [View.set_slice_whole, Rect.mem_set_unit]
    exact in_rows i (a := 1024) (f := win0_5.index t) (by decide) ((idx t).2.2.2.2.2.1.1.trans (by rw [ht]; omega)) (idx t).2.2.2.2.2.1.2

/-- The rounded copy after the run. -/
theorem final6 : (dats m 0 c).arrAt 6 cfg0.N
    = fun i : S8192x1024.Idx => dxAt (X m c) (G m c) (W m c) (DY m c) (R m c) (i 0).val (i 1) := by
  refine (dats m 0 c).arrAt_eq_of_cover 6 _ (fun t ht => ?_) fun (i : S8192x1024.Idx) => ?_
  · show (cfg0.win 6).cut (grid0.coords t) ((dats m 0 c).after 6 t) = _
    rw [after0_6, outs6 m c t ((flush0_6 t).mp ht)]
    refine funext fun y => Eq.trans ?_ (View.read_apply _ _).symm
    have e0 : 1024 * (t.val / 4) + (y 0).val = win0_6.index t 0 * 1024 + 1 * (y 0).val := by rw [(idx t).2.2.2.2.2.2.1.1]; omega
    have e1 : (y 1).val = win0_6.index t 1 * 1024 + 1 * (y 1).val := by rw [(idx t).2.2.2.2.2.2.1.2]; omega
    exact congrArg₂ (dxAt (X m c) (G m c) (W m c) (DY m c) (R m c)) e0 (Fin.ext e1)
  · have hi0 : (i 0).val < 8192 := (i 0).isLt
    obtain ⟨t, ht⟩ : ∃ t : Fin cfg0.N, t.val = 4 * ((i 0).val / 1024) + 3 := ⟨⟨4 * ((i 0).val / 1024) + 3, by rw [show cfg0.N = 32 from N_0]; omega⟩, rfl⟩
    refine ⟨t, (flush0_6 t).mpr (by omega), ?_⟩
    show i ∈ ((View.whole main_v4_1).slice (win0_6.rect t)).set
    rw [View.set_slice_whole, Rect.mem_set_unit]
    exact in_rows i (a := 1024) (f := win0_6.index t) (by decide) ((idx t).2.2.2.2.2.2.1.1.trans (by rw [ht]; omega)) (idx t).2.2.2.2.2.2.1.2

/-- The norm weight's gradient after the run. -/
theorem final7 : (dats m 0 c).arrAt 7 cfg0.N
    = fun y : S1x1024.Idx => ∑ r ∈ Finset.range 8192, dgRow (X m c) (W m c) (DY m c) (y 1).val r := by
  refine (dats m 0 c).arrAt_eq_of_cover 7 _ (fun t ht => ?_) fun (i : S1x1024.Idx) => ?_
  · have h7 : t.val = 31 := by have := (flush0_7 t).mp ht; have := lt32 t; omega
    show (cfg0.win 7).cut (grid0.coords t) ((dats m 0 c).after 7 t) = _
    rw [after0_7, outs7 m c _ _ (by omega), h7]
    have hz' : (fun a => win0_7.index t a * main_v4_2.ty.shape.size a) = fun _ => 0 := still (f := win0_7.index t) (idx t).2.2.2.2.2.2.2.1 (idx t).2.2.2.2.2.2.2.2
    exact (Memref.read_access_unit_zero (Elt Ideal) main_v4_2 hz' (fun a => by rw [congrFun hz' a]; simp) _).symm
  · obtain ⟨t, ht⟩ : ∃ t : Fin cfg0.N, t.val = 31 := ⟨⟨31, by rw [show cfg0.N = 32 from N_0]; omega⟩, rfl⟩
    refine ⟨t, (flush0_7 t).mpr (by rw [ht]), ?_⟩
    show i ∈ ((View.whole main_v4_2).slice (win0_7.rect t)).set
    rw [View.set_slice_whole, Rect.mem_set_unit]
    exact in_still i (f := win0_7.index t) (idx t).2.2.2.2.2.2.2.1 (idx t).2.2.2.2.2.2.2.2

end grid

end Cert.MlpupBwdIdeal.Own

namespace Cert.MlpupRefIdeal.Own

open Cert.MlpupRefIdeal Cert.MlpupRefIdeal.Gen Cert.MlpupRefIdeal.Read Cert.Own
open Cert.MlpupBwdIdeal.Own (c1024 part dxAt dgRow)

variable (x0 x4 : (⟨S8192x1024, .f32⟩ : BufTy).Contents (Elt Ideal)) (x3 : (⟨S8192x4096, .f32⟩ : BufTy).Contents (Elt Ideal)) (x1 : (⟨S1024, .f32⟩ : BufTy).Contents (Elt Ideal))
  (x2 : (⟨S1024x4096, .f32⟩ : BufTy).Contents (Elt Ideal))

/-- The reference's stages at an entry. -/
theorem v6_apply (i : Fin 8192) : val_main_v6 (F := Ideal) x0 (ix2 i 0) = rowV c1024 epsE fun k : Fin 1024 => x0 (ix2 i k) := by
  simp only [val_main_v6_apply, val_main_v5_apply, val_main_v4_apply, val_main_v3_apply, val_main_v2_apply, val_main_v1_apply,
    val_main_v0_apply, val_main_cst_apply, val_main_cst_0_apply, val_main_cst_1_apply, Ideal.addf_def, Ideal.mulf_def,
    Ideal.hostDivf_def, Ideal.ofBits_def, Ideal.ofBits_zero_f32, zero_add, div_1024]
  refine congrArg (fun s : EReal => s * c1024 + epsE) (Finset.sum_congr rfl fun k _ => ?_)
  rw [show idx_main_v1 (idx_main_v2 (ix2 i 0)) k = ix2 i k from funext fun a => by match a with | ⟨0, _⟩ => rfl | ⟨1, _⟩ => rfl]

theorem v10_apply (i : Fin 8192) : val_main_v10 (F := Ideal) x0 (ix2 i 0)
    = mhalf * Ideal.div (Ideal.rsqrt (rowV c1024 epsE fun k : Fin 1024 => x0 (ix2 i k))) (rowV c1024 epsE fun k : Fin 1024 => x0 (ix2 i k)) := by
  simp only [val_main_v10_apply, val_main_v9_apply, val_main_v8_apply, val_main_v7_apply, val_main_cst_2_apply, Ideal.mulf_def,
    Ideal.hostDivf_def, Ideal.hostUnary_rsqrt_def, v6_apply]
  rfl

theorem v7_apply (i : Fin 8192) : val_main_v7 (F := Ideal) x0 (ix2 i 0) = Ideal.rsqrt (rowV c1024 epsE fun k : Fin 1024 => x0 (ix2 i k)) := by
  simp only [val_main_v7_apply, Ideal.hostUnary_rsqrt_def, v6_apply]

theorem v17_apply (i : Fin 8192) (j : Fin 1024) : val_main_v17 (F := Ideal) x2 x3 (ix2 i j) = part x3 x2 4096 i.val j.val := by
  unfold part
  rw [← sum_rows (n := 4096) (fun q => atN x3 i.val q * atN x2 j.val q)]
  rw [val_main_v17_apply]
  refine Finset.sum_congr rfl fun q _ => ?_
  rw [eq_atN_of x3 (lidx_main_v17 (ix2 i j) q) rfl rfl, eq_atN_of x2 (ridx_main_v17 (ix2 i j) q) rfl rfl]

theorem v22_apply (i : Fin 8192) (j : Fin 1024) : val_main_v22 (F := Ideal) x1 x2 x3 (ix2 i j) = part x3 x2 4096 i.val j.val * x1 (ix1 j) := by
  simp only [val_main_v22_apply, val_main_v21_apply, val_main_v13_apply, Ideal.mulf_def, v17_apply]
  rw [show idx_main_v13 (idx_main_v21 (ix2 i j)) = ix1 j from funext fun a => by match a with | ⟨0, _⟩ => rfl]

theorem v33_apply (i : Fin 8192) (j : Fin 1024) : val_main_v33 (F := Ideal) x0 x1 x2 x3 (ix2 i j)
    = rowS c1024 epsE mhalf (fun k : Fin 1024 => x0 (ix2 i k)) (fun k : Fin 1024 => part x3 x2 4096 i.val k.val * x1 (ix1 k)) := by
  have h1 : idx_main_v32 (idx_main_v33 (ix2 i j)) 0 = ix2 i 0 := funext fun a => by match a with | ⟨0, _⟩ => rfl | ⟨1, _⟩ => rfl
  have h2 : ∀ k, idx_main_v25 (idx_main_v26 (ix2 i 0)) k = ix2 i k := fun k => funext fun a => by
    match a with | ⟨0, _⟩ => exact Fin.ext (by show i.val * 1 + 0 = i.val; omega) | ⟨1, _⟩ => rfl
  simp only [val_main_v33_apply, val_main_v32_apply, val_main_cst_7_apply, Fin.sum_univ_one, h1, val_main_v31_apply, val_main_v30_apply,
    val_main_cst_6_apply, val_main_v29_apply, v10_apply, val_main_v26_apply, val_main_v25_apply, val_main_v24_apply, h2,
    val_main_cst_5_apply, v22_apply, Ideal.mulf_def, Ideal.hostDivf_def, Ideal.ofBits_def, Ideal.ofBits_zero_f32, zero_add, div_1024]
  rfl

/-- The reference's gradient of the rows at an entry. -/
theorem v38_apply (i : Fin 8192) (j : Fin 1024) : val_main_v38 (F := Ideal) x0 x1 x2 x3 x4 (ix2 i j) = dxAt x0 x1 x2 x3 x4 i.val j := by
  have h1 : idx_main_v27 (ix2 i j) = ix2 i 0 := funext fun a => by match a with | ⟨0, _⟩ => rfl | ⟨1, _⟩ => rfl
  simp only [val_main_v38_apply, val_main_v37_apply, val_main_v36_apply, val_main_v35_apply, val_main_v34_apply, val_main_v28_apply,
    val_main_v27_apply, h1, v7_apply, v33_apply, v22_apply, Ideal.mulf_def, Ideal.addf_def]
  unfold dxAt
  rw [eq_atN_of x4 (ix2 i j) rfl rfl, show (fun k : Fin 1024 => x0 (ix2 i k)) = fun k : Fin 1024 => atN x0 i.val k.val from
    funext fun k => eq_atN_of x0 (ix2 i k) rfl rfl, eq_atN_of x0 (ix2 i j) rfl rfl]
  rfl

/-- The reference's gradient of the norm's weight at an entry. -/
theorem v40_apply (j : Fin 1024) : val_main_v40 (F := Ideal) x0 x2 x3 (ix2 0 j) = ∑ r ∈ Finset.range 8192, dgRow x0 x2 x3 j.val r := by
  have h1 : ∀ k : Fin 8192, idx_main_v19 (idx_main_v20 (idx_main_v23 (idx_main_v40 (ix2 0 j)) 0)) k = ix2 k j := fun k => funext fun a => by
    match a with | ⟨0, _⟩ => rfl | ⟨1, _⟩ => exact Fin.ext (by show 0 * 1024 + (0 * 1024 + j.val) = j.val; omega)
  have h2 : ∀ k : Fin 8192, idx_main_v11 (ix2 k j) = ix2 k 0 := fun k => funext fun a => by match a with | ⟨0, _⟩ => rfl | ⟨1, _⟩ => rfl
  simp only [val_main_v40_apply, val_main_v23_apply, val_main_v20_apply, val_main_v19_apply, val_main_v18_apply, val_main_v12_apply,
    val_main_v11_apply, Fin.sum_univ_one, h1, h2, val_main_cst_3_apply, val_main_cst_4_apply, v7_apply, v17_apply, Ideal.mulf_def, Ideal.ofBits_def,
    Ideal.ofBits_zero_f32, zero_add]
  rw [← sum_rows (n := 8192) (dgRow x0 x2 x3 j.val)]
  refine Finset.sum_congr rfl fun r _ => ?_
  unfold dgRow
  rw [show (fun k : Fin 1024 => x0 (ix2 r k)) = fun k : Fin 1024 => atN x0 r.val k.val from
    funext fun k => eq_atN_of x0 (ix2 r k) rfl rfl, eq_atN_of x0 (ix2 r j) rfl rfl]

end Cert.MlpupRefIdeal.Own

namespace Cert.Mlpup

open Cert.Own Cert.MlpupBwdIdeal.Own

/-- The reference program ends with its arguments unchanged and every counter at zero. -/
theorem ref_frame : Cert.quiescent_MlpupRefIdeal (hMlpupRefIdeal := Cert.MlpupRefIdeal.Gen.facts) := fun m g _ =>
  (θ_run Cert.MlpupRefIdeal.defs _ _).mono (fun r h => ⟨fun c => (h c).2.2.2, sem_eq_zero_of_no_sems (by decide) r.2⟩)
    (Cert.MlpupRefIdeal.Value.run m g)

set_option maxHeartbeats 1000000 in
/-- Over the extended reals the kernel returns the derivative of the normed rows' product, plus the added gradient. -/
theorem value : Cert.algebraic_MlpupBwdIdeal_MlpupRefIdeal (hMlpupBwdIdeal := Cert.MlpupBwdIdeal.Gen.facts)
    (hMlpupRefIdeal := Cert.MlpupRefIdeal.Gen.facts) := fun m g m' g' _ hm => by
  refine ⟨fun c => (Cert.MlpupBwdIdeal.Gen.dats m 0 c).arrAt 5 Cert.MlpupBwdIdeal.cfg0.N,
    fun c => (Cert.MlpupBwdIdeal.Gen.dats m 0 c).arrAt 6 Cert.MlpupBwdIdeal.cfg0.N,
    fun c => (Cert.MlpupBwdIdeal.Gen.dats m 0 c).arrAt 7 Cert.MlpupBwdIdeal.cfg0.N, ?_, ?_⟩
  · exact (θ_run Cert.MlpupBwdIdeal.defs _ _).mono (fun r h c => h c) (Cert.MlpupBwdIdeal.Value.run_blocks m g)
  · refine (θ_run Cert.MlpupRefIdeal.defs _ _).mono (fun r h c => ?_) (Cert.MlpupRefIdeal.Value.run m' g')
    obtain ⟨e0, e1, e2, e3, e4⟩ := hm c
    obtain ⟨h0, h1, h2, h3⟩ := h c
    refine ⟨h0.trans ?_, h1.trans ?_, h2.trans ?_, h3⟩
    · refine (Cert.MlpupRefIdeal.Read.val_main_v38_eq (F := Ideal) m' c).trans (Eq.trans ?_ (final5 m c).symm)
      rw [e0, e1, e2, e3, e4]
      exact ext2 fun i j => Cert.MlpupRefIdeal.Own.v38_apply _ _ _ _ _ i j
    · refine (Cert.MlpupRefIdeal.Read.val_main_v39_eq (F := Ideal) m' c).trans (Eq.trans ?_ (final6 m c).symm)
      rw [e0, e1, e2, e3, e4]
      exact ext2 fun i j => Cert.MlpupRefIdeal.Own.v38_apply _ _ _ _ _ i j
    · refine (Cert.MlpupRefIdeal.Read.val_main_v40_eq (F := Ideal) _ _ _).trans (Eq.trans ?_ (final7 m c).symm)
      rw [e0, e2, e3]
      exact ext_row fun j => Cert.MlpupRefIdeal.Own.v40_apply _ _ _ j

end Cert.Mlpup
end
-- ==== Proof.Heads.lean ====
/-
  Rows of eight heads of 64 columns kept in slots of 128, and the derivative of the tanh form of the GeLU, over the
  extended reals.
-/
module

public import proofs.«01_k».proof.Proof.RowNorm
public import Idealize.ShloMosaic.Lib.IdealHost

@[expose] public section

noncomputable section

open Idealize.ShloMosaic

namespace Cert.Own

/-! ## Heads in slots of 128 columns -/

/-- Column `k` of a row of heads laid out in slots: the head's own column in the first half of its slot, zero in the other. -/
def slot (x : ℕ → EReal) (k : ℕ) : EReal := if k % 128 < 64 then x (k / 128 * 64 + k % 128) else 0

theorem slot_mul (x y : ℕ → EReal) (k : ℕ) : slot x k * slot y k = slot (fun j => x j * y j) k := by
  unfold slot; split
  · rfl
  · exact zero_mul _

/-- The place of column `j` in the slots. -/
theorem slot_at (x : ℕ → EReal) (j : ℕ) : slot x (j / 64 * 128 + j % 64) = x j := by
  have h1 : (j / 64 * 128 + j % 64) % 128 = j % 64 := by omega
  have h2 : (j / 64 * 128 + j % 64) / 128 = j / 64 := by omega
  unfold slot
  rw [h1, h2, if_pos (by omega), show j / 64 * 64 + j % 64 = j by omega]

/-- Slots summed up to the `n`-th head are the heads summed. -/
theorem sum_slot_range (x : ℕ → EReal) : ∀ n : ℕ, ∑ k ∈ Finset.range (128 * n), slot x k = ∑ j ∈ Finset.range (64 * n), x j
  | 0 => by simp
  | n + 1 => by
    rw [Nat.mul_succ, Nat.mul_succ, Finset.sum_range_add, Finset.sum_range_add, sum_slot_range x n]
    congr 1
    rw [show (128 : ℕ) = 64 + 64 from rfl, Finset.sum_range_add _ 64 64]
    have hz : ∑ k ∈ Finset.range 64, slot x ((64 + 64) * n + (64 + k)) = 0 := Finset.sum_eq_zero fun k hk => by
      have := Finset.mem_range.mp hk
      exact if_neg (by omega)
    rw [hz, add_zero]
    refine Finset.sum_congr rfl fun k hk => ?_
    have hk := Finset.mem_range.mp hk
    unfold slot
    rw [if_pos (by omega), show ((64 + 64) * n + k) / 128 * 64 + ((64 + 64) * n + k) % 128 = 64 * n + k by omega]

theorem sum_slot (x : ℕ → EReal) : ∑ k : Fin 1024, slot x k.val = ∑ j : Fin 512, x j.val := by
  rw [Fin.sum_univ_eq_sum_range (fun k => slot x k) 1024, Fin.sum_univ_eq_sum_range x 512]
  exact sum_slot_range x 8

theorem rowV_slot (c e : EReal) (x : ℕ → EReal) :
    rowV c e (fun k : Fin 1024 => slot x k.val) = rowV c e (fun k : Fin 512 => x k.val) := by
  unfold rowV
  simp only [slot_mul, sum_slot]

theorem rowS_slot (c e h : EReal) (x u : ℕ → EReal) :
    rowS c e h (fun k : Fin 1024 => slot x k.val) (fun k => slot u k.val)
      = rowS c e h (fun k : Fin 512 => x k.val) (fun k => u k.val) := by
  unfold rowS
  simp only [slot_mul, sum_slot, rowV_slot]

/-- The norm's gradient of a row in slots, at the place of column `j`, is the gradient of the row of heads. -/
theorem rowDx_slot (c e h : EReal) (x u : ℕ → EReal) (j : Fin 512) (hj : j.val / 64 * 128 + j.val % 64 < 1024) :
    rowDx c e h (fun k : Fin 1024 => slot x k.val) (fun k => slot u k.val) ⟨j.val / 64 * 128 + j.val % 64, hj⟩
      = rowDx c e h (fun k : Fin 512 => x k.val) (fun k => u k.val) j := by
  unfold rowDx
  simp only [rowS_slot, rowV_slot, slot_at]

/-! ## The GeLU -/

/-- Dividing by 512 and by 256 is multiplying by the floats 2^-9 and 2^-8. -/
theorem div_512 (x : EReal) : Ideal.div x (Ideal.ofBits .f32 0x44000000#32) = x * Ideal.ofBits .f32 0x3B000000#32 := by
  have h1 : Ideal.ofBits .f32 0x44000000#32 = ((512 : ℝ) : EReal) := by
    simp [Ideal.ofBits, Ideal.ieee, ← EReal.coe_mul]; norm_num
  have h2 : Ideal.ofBits .f32 0x3B000000#32 = ((1 / 512 : ℝ) : EReal) := by
    simp [Ideal.ofBits, Ideal.ieee, ← EReal.coe_mul]; norm_num
  rw [h1, h2, Ideal.div_coe (by norm_num)]

theorem div_256 (x : EReal) : Ideal.div x (Ideal.ofBits .f32 0x43800000#32) = x * Ideal.ofBits .f32 0x3B800000#32 := by
  have h1 : Ideal.ofBits .f32 0x43800000#32 = ((256 : ℝ) : EReal) := by
    simp [Ideal.ofBits, Ideal.ieee, ← EReal.coe_mul]; norm_num
  have h2 : Ideal.ofBits .f32 0x3B800000#32 = ((1 / 256 : ℝ) : EReal) := by
    simp [Ideal.ofBits, Ideal.ieee, ← EReal.coe_mul]; norm_num
  rw [h1, h2, Ideal.div_coe (by norm_num)]

theorem three_mul_E (x : EReal) : Ideal.ofBits .f32 0x40400000#32 * x = x + x + x := by
  have h1 : Ideal.ofBits .f32 0x40400000#32 = ((3 : ℝ) : EReal) := by
    simp [Ideal.ofBits, Ideal.ieee, ← EReal.coe_mul]; norm_num
  have h2 : ((3 : ℝ) : EReal) = 1 + 1 + 1 := by norm_cast
  rw [h1, h2, EReal.right_distrib_of_nonneg (by norm_num) (by norm_num), EReal.right_distrib_of_nonneg (by norm_num) (by norm_num), one_mul]

abbrev gHalf : EReal := Ideal.ofBits .f32 0x3F000000#32
abbrev gCube : EReal := Ideal.ofBits .f32 0x3D372713#32
abbrev gRoot : EReal := Ideal.ofBits .f32 0x3F4C422A#32
abbrev gOne : EReal := Ideal.ofBits .f32 0x3F800000#32
abbrev gThree : EReal := Ideal.ofBits .f32 0x40400000#32

/-- The tanh of the GeLU, the GeLU, and its gradient for an incoming gradient `v`. -/
def geluT (y : EReal) : EReal := Ideal.tanh (gRoot * (y + gCube * (y * y * y)))
def gelu (y : EReal) : EReal := y * (gHalf * (gOne + geluT y))
def geluD (y v : EReal) : EReal :=
  let w := gRoot * (gHalf * (y * v) * ((gOne + geluT y) * (gOne - geluT y)))
  v * (gHalf * (gOne + geluT y)) + w + gCube * w * (gThree * (y * y))

/-- The kernel's cube is formed factor by factor. -/
theorem geluT_eq (y : EReal) : Ideal.tanh (gRoot * (y + gCube * y * y * y)) = geluT y := by
  unfold geluT; rw [mul_assoc gCube, mul_assoc gCube]

theorem gelu_eq (y : EReal) : gHalf * y * (gOne + geluT y) = gelu y := by
  unfold gelu; rw [mul_comm gHalf y, mul_assoc]

/-- The kernel adds the cube's gradient once for each of its three factors. -/
theorem geluD_eq (y v w : EReal) (hw : w = gRoot * (gHalf * y * v * ((gOne + geluT y) * (gOne - geluT y)))) :
    w + gCube * y * y * w + gCube * y * (w * y) + gCube * (w * y * y) + gHalf * (v * (gOne + geluT y)) = geluD y v := by
  have e : gRoot * (gHalf * (y * v) * ((gOne + geluT y) * (gOne - geluT y))) = w := by rw [hw, mul_assoc gHalf y v]
  unfold geluD
  dsimp only
  rw [e, mul_left_comm (gCube * w), three_mul_E]
  have h1 : gCube * y * y * w = gCube * w * (y * y) := by ac_rfl
  have h2 : gCube * y * (w * y) = gCube * w * (y * y) := by ac_rfl
  have h3 : gCube * (w * y * y) = gCube * w * (y * y) := by ac_rfl
  have h4 : gHalf * (v * (gOne + geluT y)) = v * (gHalf * (gOne + geluT y)) := by ac_rfl
  rw [h1, h2, h3, h4]
  abel

end Cert.Own
end
-- ==== Proof.MixRef.lean ====
/-
  The gradient of the mixers' joined output (`mix_bwd`): what both programs compute, as functions of the arrays, and that the
  reference computes it.
-/
module

public import proofs.«01_k».proof.Proof.Pieces
public import proofs.«01_k».proof.Proof.Heads
public import proofs.«01_k».proof.Proof.Gen.MixRefIdeal.Run
public import proofs.«01_k».proof.Proof.Gen.MixRefIdeal.Read
public import Idealize.ShloMosaic.Lib.Tactic

@[expose] public section

set_option maxRecDepth 16384

noncomputable section

open Idealize.ShloMosaic Idealize.ShloMosaic.TcCoe Idealize.SL.Sem Idealize.ShloMosaic.ValueIdx

namespace Cert.Own

/-- The entry of a vector at a plain number, zero past its end. -/
def at1 {n : ℕ} (x : (⟨1, ![n]⟩ : Shape).Idx → EReal) (j : ℕ) : EReal := if h : j < n then x (ix1 ⟨j, h⟩) else 0

theorem at1_pos {n : ℕ} (x : (⟨1, ![n]⟩ : Shape).Idx → EReal) {j : ℕ} (h : j < n) : at1 x j = x (ix1 ⟨j, h⟩) := dif_pos h

/-- An entry named by its index is the entry at the index's number. -/
theorem eq_at1_of {n : ℕ} (x : (⟨1, ![n]⟩ : Shape).Idx → EReal) (y : (⟨1, ![n]⟩ : Shape).Idx) {j : ℕ} (h : (y 0).val = j) :
    x y = at1 x j := by
  subst h
  exact (congrArg x (funext fun k => by match k with | ⟨0, _⟩ => rfl)).trans (at1_pos x (y 0).isLt).symm

abbrev c512 : EReal := Ideal.ofBits .f32 0x3B000000#32
abbrev c256 : EReal := Ideal.ofBits .f32 0x3B800000#32

end Cert.Own

namespace Cert.Mix

open Cert.Own

section fns
variable (o : (⟨2, ![8192, 512]⟩ : Shape).Idx → EReal) (h y : (⟨2, ![8192, 256]⟩ : Shape).Idx → EReal)
  (gm : (⟨1, ![512]⟩ : Shape).Idx → EReal) (gl : (⟨1, ![256]⟩ : Shape).Idx → EReal) (dy : (⟨2, ![8192, 1024]⟩ : Shape).Idx → EReal)

/-- The gradient of the attention's output at row `r`, column `j`: its norm's gradient. -/
def doAt (r : ℕ) (j : Fin 512) : EReal :=
  rowDx c512 epsE mhalf (fun k => atN o r k.val) (fun k => atN dy r k.val * at1 gm k.val) j

/-- Row `r`'s part of column `j` of the gradient of that norm's weight. -/
def dgmRow (j r : ℕ) : EReal := atN o r j * Ideal.rsqrt (rowV c512 epsE fun k : Fin 512 => atN o r k.val) * atN dy r j

/-- The recurrence's gated output. -/
def zAt (r j : ℕ) : EReal := atN h r j * gelu (atN y r j)

/-- Its gradient: the second norm's. -/
def dzAt (r : ℕ) (j : Fin 256) : EReal :=
  rowDx c256 epsE mhalf (fun k => zAt h y r k.val) (fun k => atN dy r (768 + k.val) * at1 gl k.val) j

/-- Row `r`'s part of column `j` of the gradient of the second norm's weight. -/
def dglRow (j r : ℕ) : EReal := zAt h y r j * Ideal.rsqrt (rowV c256 epsE fun k : Fin 256 => zAt h y r k.val) * atN dy r (768 + j)

/-- The gradients of the recurrence's output and of its gate. -/
def dhAt (r : ℕ) (j : Fin 256) : EReal := dzAt h y gl dy r j * gelu (atN y r j.val)
def dgateAt (r : ℕ) (j : Fin 256) : EReal := geluD (atN y r j.val) (atN h r j.val * dzAt h y gl dy r j)

end fns
end Cert.Mix

namespace Cert.MixRefIdeal.Own

open Cert.MixRefIdeal Cert.MixRefIdeal.Gen Cert.MixRefIdeal.Read Cert.Own Cert.Mix

variable (x0 : (⟨S8192x512, .f32⟩ : BufTy).Contents (Elt Ideal)) (x2 x4 : (⟨S8192x256, .f32⟩ : BufTy).Contents (Elt Ideal))
  (x6 : (⟨S512, .f32⟩ : BufTy).Contents (Elt Ideal)) (x7 : (⟨S256, .f32⟩ : BufTy).Contents (Elt Ideal))
  (x8 : (⟨S8192x1024, .f32⟩ : BufTy).Contents (Elt Ideal))

/-- The first norm's row: its mean square, root, and the coefficient of its gradient. -/
theorem v28_apply (i : Fin 8192) : val_main_v28 (F := Ideal) x0 (ix2 i 0) = rowV c512 epsE fun k : Fin 512 => atN x0 i.val k.val := by
  have h1 : ∀ k, idx_main_v23 (idx_main_v24 (ix2 i 0)) k = ix2 i k := fun k => funext fun a => by match a with | ⟨0, _⟩ => rfl | ⟨1, _⟩ => rfl
  have h2 : ∀ k : Fin 512, x0 (ix2 i k) = atN x0 i.val k.val := fun k => eq_atN_of x0 (ix2 i k) rfl rfl
  simp only [val_main_v28_apply, val_main_v27_apply, val_main_v26_apply, val_main_v25_apply, val_main_v24_apply, val_main_v23_apply,
    val_main_v22_apply, val_main_cst_6_apply, val_main_cst_7_apply, val_main_cst_8_apply, Ideal.addf_def, Ideal.mulf_def,
    Ideal.hostDivf_def, Ideal.ofBits_def, Ideal.ofBits_zero_f32, zero_add, div_512, h1, h2]
  rfl

theorem v29_apply (i : Fin 8192) : val_main_v29 (F := Ideal) x0 (ix2 i 0) = Ideal.rsqrt (rowV c512 epsE fun k : Fin 512 => atN x0 i.val k.val) := by
  simp only [val_main_v29_apply, Ideal.hostUnary_rsqrt_def, v28_apply]

theorem v55_apply (i : Fin 8192) (j : Fin 512) : val_main_v55 (F := Ideal) x8 (ix2 i j) = atN x8 i.val j.val :=
  (val_main_v55_apply x8 (ix2 i j)).trans (eq_atN_of x8 (idx_main_v55 (ix2 i j)) rfl rfl)

theorem v82_apply (i : Fin 8192) (j : Fin 512) : val_main_v82 (F := Ideal) x6 x8 (ix2 i j) = atN x8 i.val j.val * at1 x6 j.val := by
  simp only [val_main_v82_apply, val_main_v81_apply, val_main_v35_apply, Ideal.mulf_def, v55_apply]
  rw [eq_at1_of x6 (idx_main_v35 (idx_main_v81 (ix2 i j))) rfl]

theorem v93_apply (i : Fin 8192) (j : Fin 512) : val_main_v93 (F := Ideal) x0 x6 x8 (ix2 i j)
    = rowS c512 epsE mhalf (fun k : Fin 512 => atN x0 i.val k.val) (fun k => atN x8 i.val k.val * at1 x6 k.val) := by
  have h1 : idx_main_v92 (idx_main_v93 (ix2 i j)) 0 = ix2 i 0 := funext fun a => by match a with | ⟨0, _⟩ => rfl | ⟨1, _⟩ => rfl
  have h2 : ∀ k, idx_main_v85 (idx_main_v86 (ix2 i 0)) k = ix2 i k := fun k => funext fun a => by
    match a with | ⟨0, _⟩ => exact Fin.ext (by show i.val * 1 + 0 = i.val; omega) | ⟨1, _⟩ => rfl
  have h3 : ∀ k : Fin 512, x0 (ix2 i k) = atN x0 i.val k.val := fun k => eq_atN_of x0 (ix2 i k) rfl rfl
  simp only [val_main_v93_apply, val_main_v92_apply, val_main_cst_23_apply, Fin.sum_univ_one, h1, val_main_v91_apply, val_main_v90_apply,
    val_main_cst_22_apply, val_main_v89_apply, val_main_v86_apply, val_main_v85_apply, val_main_v84_apply, h2, h3, val_main_cst_21_apply,
    val_main_v32_apply, val_main_v31_apply, val_main_v30_apply, val_main_cst_9_apply, v28_apply, v29_apply,
    v82_apply, Ideal.mulf_def, Ideal.hostDivf_def, Ideal.ofBits_def, Ideal.ofBits_zero_f32, zero_add, div_512]
  rfl

/-- The reference's gradient of the attention's output. -/
theorem v97_apply (i : Fin 8192) (j : Fin 512) : val_main_v97 (F := Ideal) x0 x6 x8 (ix2 i j) = doAt x0 x6 x8 i.val j := by
  have h1 : idx_main_v87 (ix2 i j) = ix2 i 0 := funext fun a => by match a with | ⟨0, _⟩ => rfl | ⟨1, _⟩ => rfl
  simp only [val_main_v97_apply, val_main_v96_apply, val_main_v95_apply, val_main_v94_apply, val_main_v88_apply, val_main_v87_apply, h1,
    v29_apply, v93_apply, v82_apply, Ideal.mulf_def, Ideal.addf_def, show x0 (ix2 i j) = atN x0 i.val j.val from eq_atN_of x0 (ix2 i j) rfl rfl]
  rfl

/-- The reference's gradient of the first norm's weight. -/
theorem v112_apply (j : Fin 512) : val_main_v112 (F := Ideal) x0 x8 (ix2 0 j) = ∑ r ∈ Finset.range 8192, dgmRow x0 x8 j.val r := by
  have h1 : ∀ k : Fin 8192, idx_main_v79 (idx_main_v80 (idx_main_v83 (idx_main_v112 (ix2 0 j)) 0)) k = ix2 k j := fun k => funext fun a => by
    match a with | ⟨0, _⟩ => rfl | ⟨1, _⟩ => exact Fin.ext (by show 0 * 512 + (0 * 512 + j.val) = j.val; omega)
  have h2 : ∀ k : Fin 8192, idx_main_v33 (ix2 k j) = ix2 k 0 := fun k => funext fun a => by match a with | ⟨0, _⟩ => rfl | ⟨1, _⟩ => rfl
  have h3 : ∀ k : Fin 8192, x0 (ix2 k j) = atN x0 k.val j.val := fun k => eq_atN_of x0 (ix2 k j) rfl rfl
  simp only [val_main_v112_apply, val_main_v83_apply, val_main_v80_apply, val_main_v79_apply, val_main_v78_apply, val_main_v34_apply,
    val_main_v33_apply, Fin.sum_univ_one, h1, h2, h3, val_main_cst_19_apply, val_main_cst_20_apply, v29_apply, v55_apply, Ideal.mulf_def,
    Ideal.ofBits_def, Ideal.ofBits_zero_f32, zero_add]
  exact sum_rows (n := 8192) (dgmRow x0 x8 j.val)

/-- The gate's tanh, the GeLU, and the gated output. -/
theorem v10_apply (i : Fin 8192) (j : Fin 256) : val_main_v10 (F := Ideal) x4 (ix2 i j) = geluT (atN x4 i.val j.val) := by
  simp only [val_main_v10_apply, val_main_v9_apply, val_main_v8_apply, val_main_v7_apply, val_main_v6_apply, val_main_v5_apply,
    val_main_v1_apply, val_main_v0_apply, val_main_cst_0_apply, val_main_cst_1_apply, Ideal.mulf_def, Ideal.addf_def, Ideal.ofBits_def,
    Ideal.hostUnary_tanh_def, show x4 (ix2 i j) = atN x4 i.val j.val from eq_atN_of x4 (ix2 i j) rfl rfl]
  rfl

theorem v19_apply (i : Fin 8192) (j : Fin 256) : val_main_v19 (F := Ideal) x4 (ix2 i j) = gHalf * (gOne + geluT (atN x4 i.val j.val)) := by
  simp only [val_main_v19_apply, val_main_v18_apply, val_main_v17_apply, val_main_v16_apply, val_main_cst_4_apply, val_main_cst_5_apply,
    Ideal.mulf_def, Ideal.addf_def, Ideal.ofBits_def, v10_apply]

theorem v20_apply (i : Fin 8192) (j : Fin 256) : val_main_v20 (F := Ideal) x4 (ix2 i j) = gelu (atN x4 i.val j.val) := by
  simp only [val_main_v20_apply, v19_apply, Ideal.mulf_def, show x4 (ix2 i j) = atN x4 i.val j.val from eq_atN_of x4 (ix2 i j) rfl rfl]
  rfl

theorem v21_apply (i : Fin 8192) (j : Fin 256) : val_main_v21 (F := Ideal) x2 x4 (ix2 i j) = zAt x2 x4 i.val j.val := by
  simp only [val_main_v21_apply, v20_apply, Ideal.mulf_def, show x2 (ix2 i j) = atN x2 i.val j.val from eq_atN_of x2 (ix2 i j) rfl rfl]
  rfl

/-- The second norm's row. -/
theorem v44_apply (i : Fin 8192) : val_main_v44 (F := Ideal) x2 x4 (ix2 i 0) = rowV c256 epsE fun k : Fin 256 => zAt x2 x4 i.val k.val := by
  have h1 : ∀ k, idx_main_v39 (idx_main_v40 (ix2 i 0)) k = ix2 i k := fun k => funext fun a => by match a with | ⟨0, _⟩ => rfl | ⟨1, _⟩ => rfl
  simp only [val_main_v44_apply, val_main_v43_apply, val_main_v42_apply, val_main_v41_apply, val_main_v40_apply, val_main_v39_apply,
    val_main_v38_apply, val_main_cst_10_apply, val_main_cst_11_apply, val_main_cst_12_apply, Ideal.addf_def, Ideal.mulf_def,
    Ideal.hostDivf_def, Ideal.ofBits_def, Ideal.ofBits_zero_f32, zero_add, div_256, h1, v21_apply]
  rfl

theorem v45_apply (i : Fin 8192) : val_main_v45 (F := Ideal) x2 x4 (ix2 i 0) = Ideal.rsqrt (rowV c256 epsE fun k : Fin 256 => zAt x2 x4 i.val k.val) := by
  simp only [val_main_v45_apply, Ideal.hostUnary_rsqrt_def, v44_apply]

theorem v57_apply (i : Fin 8192) (j : Fin 256) : val_main_v57 (F := Ideal) x8 (ix2 i j) = atN x8 i.val (768 + j.val) :=
  (val_main_v57_apply x8 (ix2 i j)).trans (eq_atN_of x8 (idx_main_v57 (ix2 i j)) rfl rfl)

theorem v62_apply (i : Fin 8192) (j : Fin 256) : val_main_v62 (F := Ideal) x7 x8 (ix2 i j) = atN x8 i.val (768 + j.val) * at1 x7 j.val := by
  simp only [val_main_v62_apply, val_main_v61_apply, val_main_v51_apply, Ideal.mulf_def, v57_apply]
  rw [eq_at1_of x7 (idx_main_v51 (idx_main_v61 (ix2 i j))) rfl]

theorem v73_apply (i : Fin 8192) (j : Fin 256) : val_main_v73 (F := Ideal) x2 x4 x7 x8 (ix2 i j)
    = rowS c256 epsE mhalf (fun k : Fin 256 => zAt x2 x4 i.val k.val) (fun k => atN x8 i.val (768 + k.val) * at1 x7 k.val) := by
  have h1 : idx_main_v72 (idx_main_v73 (ix2 i j)) 0 = ix2 i 0 := funext fun a => by match a with | ⟨0, _⟩ => rfl | ⟨1, _⟩ => rfl
  have h2 : ∀ k, idx_main_v65 (idx_main_v66 (ix2 i 0)) k = ix2 i k := fun k => funext fun a => by
    match a with | ⟨0, _⟩ => exact Fin.ext (by show i.val * 1 + 0 = i.val; omega) | ⟨1, _⟩ => rfl
  simp only [val_main_v73_apply, val_main_v72_apply, val_main_cst_18_apply, Fin.sum_univ_one, h1, val_main_v71_apply, val_main_v70_apply,
    val_main_cst_17_apply, val_main_v69_apply, val_main_v66_apply, val_main_v65_apply, val_main_v64_apply, h2, val_main_cst_16_apply,
    val_main_v48_apply, val_main_v47_apply, val_main_v46_apply, val_main_cst_13_apply, v44_apply, v45_apply, v21_apply,
    v62_apply, Ideal.mulf_def, Ideal.hostDivf_def, Ideal.ofBits_def, Ideal.ofBits_zero_f32, zero_add, div_256]
  rfl

theorem v77_apply (i : Fin 8192) (j : Fin 256) : val_main_v77 (F := Ideal) x2 x4 x7 x8 (ix2 i j) = dzAt x2 x4 x7 x8 i.val j := by
  have h1 : idx_main_v67 (ix2 i j) = ix2 i 0 := funext fun a => by match a with | ⟨0, _⟩ => rfl | ⟨1, _⟩ => rfl
  simp only [val_main_v77_apply, val_main_v76_apply, val_main_v75_apply, val_main_v74_apply, val_main_v68_apply, val_main_v67_apply, h1,
    v45_apply, v73_apply, v62_apply, v21_apply, Ideal.mulf_def, Ideal.addf_def]
  rfl

/-- The reference's gradient of the second norm's weight. -/
theorem v113_apply (j : Fin 256) : val_main_v113 (F := Ideal) x2 x4 x8 (ix2 0 j) = ∑ r ∈ Finset.range 8192, dglRow x2 x4 x8 j.val r := by
  have h1 : ∀ k : Fin 8192, idx_main_v59 (idx_main_v60 (idx_main_v63 (idx_main_v113 (ix2 0 j)) 0)) k = ix2 k j := fun k => funext fun a => by
    match a with | ⟨0, _⟩ => rfl | ⟨1, _⟩ => exact Fin.ext (by show 0 * 256 + (0 * 256 + j.val) = j.val; omega)
  have h2 : ∀ k : Fin 8192, idx_main_v49 (ix2 k j) = ix2 k 0 := fun k => funext fun a => by match a with | ⟨0, _⟩ => rfl | ⟨1, _⟩ => rfl
  simp only [val_main_v113_apply, val_main_v63_apply, val_main_v60_apply, val_main_v59_apply, val_main_v58_apply, val_main_v50_apply,
    val_main_v49_apply, Fin.sum_univ_one, h1, h2, val_main_cst_14_apply, val_main_cst_15_apply, v45_apply, v57_apply, v21_apply, Ideal.mulf_def,
    Ideal.ofBits_def, Ideal.ofBits_zero_f32, zero_add]
  exact sum_rows (n := 8192) (dglRow x2 x4 x8 j.val)

/-- The reference's gradient of the recurrence's output. -/
theorem v99_apply (i : Fin 8192) (j : Fin 256) : val_main_v99 (F := Ideal) x2 x4 x7 x8 (ix2 i j) = dhAt x2 x4 x7 x8 i.val j := by
  simp only [val_main_v99_apply, v77_apply, v20_apply, Ideal.mulf_def]
  rfl

/-- The reference's gradient of the gate. -/
theorem v111_apply (i : Fin 8192) (j : Fin 256) : val_main_v111 (F := Ideal) x2 x4 x7 x8 (ix2 i j) = dgateAt x2 x4 x7 x8 i.val j := by
  simp only [val_main_v111_apply, val_main_v110_apply, val_main_v109_apply, val_main_v108_apply, val_main_v107_apply, val_main_v106_apply,
    val_main_v105_apply, val_main_v104_apply, val_main_v103_apply, val_main_v102_apply, val_main_v101_apply, val_main_v100_apply,
    val_main_v98_apply, val_main_v15_apply, val_main_v14_apply, val_main_v13_apply, val_main_v12_apply, val_main_v11_apply, val_main_v4_apply,
    val_main_v3_apply, val_main_v2_apply, val_main_cst_apply, val_main_cst_2_apply, val_main_cst_3_apply, val_main_cst_24_apply,
    val_main_cst_25_apply, val_main_cst_26_apply, v10_apply, v19_apply, v77_apply, Ideal.mulf_def, Ideal.addf_def, Ideal.subf_def,
    Ideal.ofBits_def, show x4 (ix2 i j) = atN x4 i.val j.val from eq_atN_of x4 (ix2 i j) rfl rfl,
    show x2 (ix2 i j) = atN x2 i.val j.val from eq_atN_of x2 (ix2 i j) rfl rfl]
  rfl

end Cert.MixRefIdeal.Own
end
-- ==== Proof.MixTile.lean ====
/-
  One tile of the mixers' joined gradient (`mix_bwd`): what a grid point leaves in each of its windows, and the entries of it
  over the extended reals.
-/
module

public import proofs.«01_k».proof.Proof.MixRef
public import proofs.«01_k».proof.Proof.Gen.MixBwdIdeal.Run
public import Idealize.ShloMosaic.Lib.Tactic

@[expose] public section

set_option maxRecDepth 16384

noncomputable section

open Idealize.ShloMosaic Idealize.ShloMosaic.TcCoe Idealize.SL.Sem Idealize.ShloMosaic.ValueIdx

namespace Cert.MixBwdIdeal.Own

open Cert.MixBwdIdeal Cert.MixBwdIdeal.Gen Cert.Own Cert.Mix

section anyF
variable {F : FTy → Type} [FloatOps F]
variable (c : Dev nD) (i : grid0.Coords) (a1 : Memref sig .tc .vmem S256x1024 .f32) (h1 : a1.IsWhole) (a2 : Memref sig .tc .vmem S256x256 .f32) (h2 : a2.IsWhole)
  (a3 : Memref sig .tc .vmem S256x256 .f32) (h3 : a3.IsWhole) (a4 : Memref sig .tc .vmem S256x640 .f32) (h4 : a4.IsWhole)
  (a5 : Memref sig .tc .vmem S1x1024 .f32) (h5 : a5.IsWhole) (a6 : Memref sig .tc .vmem S1x256 .f32) (h6 : a6.IsWhole)
  (a7 : Memref sig .tc .vmem S256x1536 .f32) (h7 : a7.IsWhole) (a8 : Memref sig .tc .vmem S256x1024 .bf16) (h8 : a8.IsWhole)
  (a9 : Memref sig .tc .vmem S256x256 .f32) (h9 : a9.IsWhole) (a10 : Memref sig .tc .vmem S256x256 .f32) (h10 : a10.IsWhole)
  (a11 : Memref sig .tc .vmem S256x640 .f32) (h11 : a11.IsWhole) (a12 : Memref sig .tc .vmem S1x1024 .f32) (h12 : a12.IsWhole)
  (a13 : Memref sig .tc .vmem S1x256 .f32) (h13 : a13.IsWhole)
  (x0 : Vec F S256x1024 .f32) (x1 x2 : Vec F S256x256 .f32) (x3 : Vec F S256x640 .f32) (x4 : Vec F S1x1024 .f32) (x5 : Vec F S1x256 .f32)
  (x6 : Vec F S256x1536 .f32) (xo11 : Vec F S1x1024 .f32) (xo12 : Vec F S1x256 .f32)

/-- The second norm's rows' gradient: the tile's arguments put in. -/
abbrev dh : FVec F S256x256 .f32 := k0_pay31 x2 (k0_pay7 x5) (k0_pay8 x6) (k0_pay14 x3) (k0_pay17 x3)

/-- The tile of the attention's gradient. -/
abbrev dO : FVec F S256x1024 .bf16 := k0_pay37 (k0_pay5 x0) (k0_pay6 x4) (k0_pay10 x0) (k0_pay11 x0) (k0_pay25 (k0_pay8 x6))

/-- The tile of the gate's gradient, between columns of zeros. -/
abbrev dUg : FVec F S256x640 .f32 :=
  k0_pay35 (k0_pay13 x3) (k0_pay15 x3) (k0_pay32 x2 (k0_pay7 x5) (k0_pay8 x6) (k0_pay14 x3) (k0_pay17 x3))
    (k0_pay33 x2 (k0_pay7 x5) (k0_pay8 x6) (k0_pay14 x3) (k0_pay17 x3) (k0_pay18 x3) k0_pay19)
    (k0_pay34 x2 (k0_pay7 x5) (k0_pay8 x6) (k0_pay14 x3) (k0_pay16 x3) (k0_pay17 x3) (k0_pay18 x3) k0_pay19)

/-! What a point leaves in each window, at the first tile (`A`) and at the others (`B`). -/

theorem out7_A (hc : cond0_0 i) : out0_A_7 c i a1 h1 a2 h2 a3 h3 a4 h4 a5 h5 a6 h6 a7 h7 a8 h8 a9 h9 a10 h10 a11 h11 a12 h12 a13 h13 hc
    x0 x1 x2 x3 x4 x5 x6 = dO x0 x4 x6 := by
  unfold out0_A_7
  refine Eq.trans (View.read_writes_eq_canon _ _ _ fun _ => cover0_A_7 ..) ?_
  unfold kernelRun0_A
  dsimp only
  sl_unfold_words
  simp only [canon2, cov2, View.readAt_eq_ld, Memref.IsWhole.read_unread, ld2, *]

theorem out7_B (hc : ¬cond0_0 i) : out0_B_7 c i a1 h1 a2 h2 a3 h3 a4 h4 a5 h5 a6 h6 a7 h7 a8 h8 a9 h9 a10 h10 a11 h11 a12 h12 a13 h13 hc
    x0 x1 x2 x3 x4 x5 x6 xo11 xo12 = dO x0 x4 x6 := by
  unfold out0_B_7
  refine Eq.trans (View.read_writes_eq_canon _ _ _ fun _ => cover0_B_7 ..) ?_
  unfold kernelRun0_B
  dsimp only
  sl_unfold_words
  simp only [canon2, cov2, View.readAt_eq_ld, Memref.IsWhole.read_unread, ld2, *]

theorem out8_A (hc : cond0_0 i) : out0_A_8 c i a1 h1 a2 h2 a3 h3 a4 h4 a5 h5 a6 h6 a7 h7 a8 h8 a9 h9 a10 h10 a11 h11 a12 h12 a13 h13 hc
    x0 x1 x2 x3 x4 x5 x6 = k0_pay26 (k0_pay8 x6) := by
  unfold out0_A_8
  refine Eq.trans (View.read_writes_eq_canon _ _ _ fun _ => cover0_A_8 ..) ?_
  unfold kernelRun0_A
  dsimp only
  sl_unfold_words
  simp only [canon2, cov2, View.readAt_eq_ld, Memref.IsWhole.read_unread, ld2, *]

theorem out8_B (hc : ¬cond0_0 i) : out0_B_8 c i a1 h1 a2 h2 a3 h3 a4 h4 a5 h5 a6 h6 a7 h7 a8 h8 a9 h9 a10 h10 a11 h11 a12 h12 a13 h13 hc
    x0 x1 x2 x3 x4 x5 x6 xo11 xo12 = k0_pay26 (k0_pay8 x6) := by
  unfold out0_B_8
  refine Eq.trans (View.read_writes_eq_canon _ _ _ fun _ => cover0_B_8 ..) ?_
  unfold kernelRun0_B
  dsimp only
  sl_unfold_words
  simp only [canon2, cov2, View.readAt_eq_ld, Memref.IsWhole.read_unread, ld2, *]

theorem out9_A (hc : cond0_0 i) : out0_A_9 c i a1 h1 a2 h2 a3 h3 a4 h4 a5 h5 a6 h6 a7 h7 a8 h8 a9 h9 a10 h10 a11 h11 a12 h12 a13 h13 hc
    x0 x1 x2 x3 x4 x5 x6 = dh x2 x3 x5 x6 := by
  unfold out0_A_9
  refine Eq.trans (View.read_writes_eq_canon _ _ _ fun _ => cover0_A_9 ..) ?_
  unfold kernelRun0_A
  dsimp only
  sl_unfold_words
  simp only [canon2, cov2, View.readAt_eq_ld, Memref.IsWhole.read_unread, ld2, *]

theorem out9_B (hc : ¬cond0_0 i) : out0_B_9 c i a1 h1 a2 h2 a3 h3 a4 h4 a5 h5 a6 h6 a7 h7 a8 h8 a9 h9 a10 h10 a11 h11 a12 h12 a13 h13 hc
    x0 x1 x2 x3 x4 x5 x6 xo11 xo12 = dh x2 x3 x5 x6 := by
  unfold out0_B_9
  refine Eq.trans (View.read_writes_eq_canon _ _ _ fun _ => cover0_B_9 ..) ?_
  unfold kernelRun0_B
  dsimp only
  sl_unfold_words
  simp only [canon2, cov2, View.readAt_eq_ld, Memref.IsWhole.read_unread, ld2, *]

theorem out10_A (hc : cond0_0 i) : out0_A_10 c i a1 h1 a2 h2 a3 h3 a4 h4 a5 h5 a6 h6 a7 h7 a8 h8 a9 h9 a10 h10 a11 h11 a12 h12 a13 h13 hc
    x0 x1 x2 x3 x4 x5 x6 = dUg x2 x3 x5 x6 := by
  unfold out0_A_10
  refine Eq.trans (View.read_writes_eq_canon _ _ _ fun _ => cover0_A_10 ..) ?_
  unfold kernelRun0_A
  dsimp only
  sl_unfold_words
  simp only [canon2, cov2, View.readAt_eq_ld, Memref.IsWhole.read_unread, ld2, *]

theorem out10_B (hc : ¬cond0_0 i) : out0_B_10 c i a1 h1 a2 h2 a3 h3 a4 h4 a5 h5 a6 h6 a7 h7 a8 h8 a9 h9 a10 h10 a11 h11 a12 h12 a13 h13 hc
    x0 x1 x2 x3 x4 x5 x6 xo11 xo12 = dUg x2 x3 x5 x6 := by
  unfold out0_B_10
  refine Eq.trans (View.read_writes_eq_canon _ _ _ fun _ => cover0_B_10 ..) ?_
  unfold kernelRun0_B
  dsimp only
  sl_unfold_words
  simp only [canon2, cov2, View.readAt_eq_ld, Memref.IsWhole.read_unread, ld2, *]

theorem out11_A (hc : cond0_0 i) : out0_A_11 c i a1 h1 a2 h2 a3 h3 a4 h4 a5 h5 a6 h6 a7 h7 a8 h8 a9 h9 a10 h10 a11 h11 a12 h12 a13 h13 hc
    x0 x1 x2 x3 x4 x5 x6 = k0_pay3 (k0_pay36 (k0_pay12 x0) (k0_pay25 (k0_pay8 x6))) k0_pay1 := by
  unfold out0_A_11
  refine Eq.trans (View.read_writes_eq_canon _ _ _ fun _ => cover0_A_11 ..) ?_
  unfold kernelRun0_A
  dsimp only
  sl_unfold_words
  simp only [canon2, cov2, View.readAt_eq_ld, Memref.IsWhole.read_unread, ld2, *]

theorem out11_B (hc : ¬cond0_0 i) : out0_B_11 c i a1 h1 a2 h2 a3 h3 a4 h4 a5 h5 a6 h6 a7 h7 a8 h8 a9 h9 a10 h10 a11 h11 a12 h12 a13 h13 hc
    x0 x1 x2 x3 x4 x5 x6 xo11 xo12 = k0_pay3 (k0_pay36 (k0_pay12 x0) (k0_pay25 (k0_pay8 x6))) xo11 := by
  unfold out0_B_11
  refine Eq.trans (View.read_writes_eq_canon _ _ _ fun _ => cover0_B_11 ..) ?_
  unfold kernelRun0_B
  dsimp only
  sl_unfold_words
  simp only [canon2, cov2, View.readAt_eq_ld, Memref.IsWhole.read_unread, ld2, *]

theorem out12_A (hc : cond0_0 i) : out0_A_12 c i a1 h1 a2 h2 a3 h3 a4 h4 a5 h5 a6 h6 a7 h7 a8 h8 a9 h9 a10 h10 a11 h11 a12 h12 a13 h13 hc
    x0 x1 x2 x3 x4 x5 x6 = k0_pay4 (k0_pay28 x2 (k0_pay8 x6) (k0_pay14 x3) (k0_pay17 x3)) k0_pay2 := by
  unfold out0_A_12
  refine Eq.trans (View.read_writes_eq_canon _ _ _ fun _ => cover0_A_12 ..) ?_
  unfold kernelRun0_A
  dsimp only
  sl_unfold_words
  simp only [canon2, cov2, View.readAt_eq_ld, Memref.IsWhole.read_unread, ld2, *]

theorem out12_B (hc : ¬cond0_0 i) : out0_B_12 c i a1 h1 a2 h2 a3 h3 a4 h4 a5 h5 a6 h6 a7 h7 a8 h8 a9 h9 a10 h10 a11 h11 a12 h12 a13 h13 hc
    x0 x1 x2 x3 x4 x5 x6 xo11 xo12 = k0_pay4 (k0_pay28 x2 (k0_pay8 x6) (k0_pay14 x3) (k0_pay17 x3)) xo12 := by
  unfold out0_B_12
  refine Eq.trans (View.read_writes_eq_canon _ _ _ fun _ => cover0_B_12 ..) ?_
  unfold kernelRun0_B
  dsimp only
  sl_unfold_words
  simp only [canon2, cov2, View.readAt_eq_ld, Memref.IsWhole.read_unread, ld2, *]

end anyF

/-! ## Over the extended reals -/

section tile
variable (x0 : Vec Ideal S256x1024 .f32) (x2 : Vec Ideal S256x256 .f32) (x3 : Vec Ideal S256x640 .f32) (x4 : Vec Ideal S1x1024 .f32)
  (x5 : Vec Ideal S1x256 .f32) (x6 : Vec Ideal S256x1536 .f32)

/-- The three stretches of the incoming gradient. -/
theorem pay25_apply (i : Fin 256) (j : Fin 1024) : k0_pay25 (k0_pay8 x6) (ix2 i j) = atN x6 i.val j.val := by
  unfold k0_pay25 k0_pay8
  rw [shapeCast_self, atN_pos x6 i.isLt (by have := j.isLt; omega : j.val < 1536)]
  exact extractStridedSlice_apply _ x6 _ _ _ fun a => by
    match a with
    | ⟨0, _⟩ => show i.val = 0 + i.val; omega
    | ⟨1, _⟩ => show j.val = 0 + j.val; omega

theorem pay26_apply (i : Fin 256) (j : Fin 256) : k0_pay26 (k0_pay8 x6) (ix2 i j) = atN x6 i.val (1024 + j.val) := by
  unfold k0_pay26 k0_pay8
  rw [shapeCast_self, atN_pos x6 i.isLt (by have := j.isLt; omega : 1024 + j.val < 1536)]
  exact extractStridedSlice_apply _ x6 _ _ _ fun a => by
    match a with
    | ⟨0, _⟩ => show i.val = 0 + i.val; omega
    | ⟨1, _⟩ => rfl

theorem pay27_apply (i : Fin 256) (j : Fin 256) : k0_pay27 (k0_pay8 x6) (ix2 i j) = atN x6 i.val (1280 + j.val) := by
  unfold k0_pay27 k0_pay8
  rw [shapeCast_self, atN_pos x6 i.isLt (by have := j.isLt; omega : 1280 + j.val < 1536)]
  exact extractStridedSlice_apply _ x6 _ _ _ fun a => by
    match a with
    | ⟨0, _⟩ => show i.val = 0 + i.val; omega
    | ⟨1, _⟩ => rfl

theorem pay13_apply (i : Fin 256) (j : Fin 256) : k0_pay13 x3 (ix2 i j) = atN x3 i.val (256 + j.val) := by
  unfold k0_pay13
  rw [shapeCast_self, atN_pos x3 i.isLt (by have := j.isLt; omega : 256 + j.val < 640)]
  exact extractStridedSlice_apply _ x3 _ _ _ fun a => by
    match a with
    | ⟨0, _⟩ => show i.val = 0 + i.val; omega
    | ⟨1, _⟩ => rfl

/-- The first norm's row and its gradient. -/
theorem pay9_apply (i : Fin 256) : k0_pay9 x0 (ix2 i 0) = rowV c512 epsE fun k : Fin 1024 => x0 (ix2 i k) := by
  unfold k0_pay9 k0_pay5
  simp only [addf_apply, mulf_apply, broadcast_apply, col_apply, multiReduction, Ideal.reduceAdd_def, red_row, shapeCast_self]
  rfl

theorem dO_apply (i : Fin 256) (j : Fin 1024) : dO x0 x4 x6 (ix2 i j)
    = rowDx c512 epsE mhalf (fun k : Fin 1024 => x0 (ix2 i k)) (fun k => atN x6 i.val k.val * x4 (ix2 0 k)) j := by
  unfold dO k0_pay37 k0_pay11 k0_pay10 k0_pay5 k0_pay6
  simp only [truncf_apply, addf_apply, mulf_apply, divf_apply, broadcast_apply, bcast_col, col_apply, multiReduction, Ideal.reduceAdd_def, red_row,
    Fin.sum_univ_one, rsqrt_apply, pay9_apply, pay25_apply, shapeCast_self, broadcastTo_1b_ab_apply]
  rfl

/-- One more tile in the first norm weight's gradient. -/
theorem dgm_apply (xo : Vec Ideal S1x1024 .f32) (j : Fin 1024) : k0_pay3 (k0_pay36 (k0_pay12 x0) (k0_pay25 (k0_pay8 x6))) xo (ix2 0 j)
    = xo (ix2 0 j) + ∑ i : Fin 256, x0 (ix2 i j) * Ideal.rsqrt (rowV c512 epsE fun k : Fin 1024 => x0 (ix2 i k)) * atN x6 i.val j.val := by
  unfold k0_pay3 k0_pay36 k0_pay12 k0_pay10 k0_pay5
  simp only [addf_apply, mulf_apply, shapeCast_self, shapeCast_a_1a_apply, multiReduction, Ideal.reduceAdd_def, red_col, bcast_col,
    rsqrt_apply, pay9_apply, pay25_apply]

/-- The gate's tanh and GeLU. -/
theorem pay17_apply (i j : Fin 256) : k0_pay17 x3 (ix2 i j) = geluT (atN x3 i.val (256 + j.val)) := by
  refine Eq.trans ?_ (geluT_eq _)
  unfold k0_pay17 k0_pay16 k0_pay15
  rw [show ∀ v : FVec Ideal S256x256 .f32, tanh v (ix2 i j) = Ideal.tanh (v (ix2 i j)) from fun _ => rfl]
  simp only [addf_apply, mulf_apply, broadcast_apply, pay13_apply]
  rfl

theorem pay21_apply (i j : Fin 256) : k0_pay21 (k0_pay14 x3) (k0_pay17 x3) (ix2 i j) = gelu (atN x3 i.val (256 + j.val)) := by
  refine Eq.trans ?_ (gelu_eq _)
  unfold k0_pay21 k0_pay20 k0_pay14
  simp only [addf_apply, mulf_apply, broadcast_apply, pay13_apply, pay17_apply]
  rfl

/-- The gated output's row. -/
def zT (i : Fin 256) (k : Fin 256) : EReal := x2 (ix2 i k) * gelu (atN x3 i.val (256 + k.val))
/-- The gradient of that row. -/
def dzT (i : Fin 256) (j : Fin 256) : EReal :=
  rowDx c256 epsE mhalf (zT x2 x3 i) (fun k => atN x6 i.val (1280 + k.val) * x5 (ix2 0 k)) j

theorem pay22_apply (i j : Fin 256) : k0_pay22 x2 (k0_pay14 x3) (k0_pay17 x3) (ix2 i j) = zT x2 x3 i j := by
  unfold k0_pay22
  simp only [mulf_apply, pay21_apply]
  rfl

theorem pay23_apply (i : Fin 256) : k0_pay23 x2 (k0_pay14 x3) (k0_pay17 x3) (ix2 i 0) = rowV c256 epsE (zT x2 x3 i) := by
  unfold k0_pay23
  simp only [addf_apply, mulf_apply, broadcast_apply, col_apply, multiReduction, Ideal.reduceAdd_def, red_row, pay22_apply]
  rfl

theorem pay29_apply (i j : Fin 256) : k0_pay29 x2 (k0_pay7 x5) (k0_pay8 x6) (k0_pay14 x3) (k0_pay17 x3) (ix2 i j) = dzT x2 x3 x5 x6 i j := by
  unfold k0_pay29 k0_pay24 k0_pay7
  simp only [addf_apply, mulf_apply, divf_apply, broadcast_apply, bcast_col, col_apply, multiReduction, Ideal.reduceAdd_def, red_row,
    Fin.sum_univ_one, rsqrt_apply, pay22_apply, pay23_apply, pay27_apply, shapeCast_self, broadcastTo_1b_ab_apply]
  rfl

/-- One more tile in the second norm weight's gradient. -/
theorem dgl_apply (xo : Vec Ideal S1x256 .f32) (j : Fin 256) : k0_pay4 (k0_pay28 x2 (k0_pay8 x6) (k0_pay14 x3) (k0_pay17 x3)) xo (ix2 0 j)
    = xo (ix2 0 j) + ∑ i : Fin 256, zT x2 x3 i j * Ideal.rsqrt (rowV c256 epsE (zT x2 x3 i)) * atN x6 i.val (1280 + j.val) := by
  unfold k0_pay4 k0_pay28 k0_pay24
  simp only [addf_apply, mulf_apply, shapeCast_self, shapeCast_a_1a_apply, multiReduction, Ideal.reduceAdd_def, red_col, bcast_col,
    rsqrt_apply, pay22_apply, pay23_apply, pay27_apply]

/-- The tile of the recurrence's gradient. -/
theorem dh_apply (i j : Fin 256) : dh x2 x3 x5 x6 (ix2 i j) = dzT x2 x3 x5 x6 i j * gelu (atN x3 i.val (256 + j.val)) := by
  unfold dh k0_pay31
  simp only [mulf_apply, pay29_apply, pay21_apply]

theorem pay33_apply (i j : Fin 256) : k0_pay33 x2 (k0_pay7 x5) (k0_pay8 x6) (k0_pay14 x3) (k0_pay17 x3) (k0_pay18 x3) k0_pay19 (ix2 i j)
    = gRoot * (gHalf * atN x3 i.val (256 + j.val) * (x2 (ix2 i j) * dzT x2 x3 x5 x6 i j)
      * ((gOne + geluT (atN x3 i.val (256 + j.val))) * (gOne - geluT (atN x3 i.val (256 + j.val))))) := by
  have h14 : k0_pay14 x3 (ix2 i j) = gHalf * atN x3 i.val (256 + j.val) := by
    unfold k0_pay14
    simp only [mulf_apply, broadcast_apply, pay13_apply]
    rfl
  unfold k0_pay33 k0_pay30 k0_pay18 k0_pay19
  simp only [addf_apply, mulf_apply, subf_apply, broadcast_apply, pay17_apply, pay29_apply, h14]
  rfl

/-- The tile of the gate's gradient, and the zeros beside it. -/
theorem dUg_at (i : Fin 256) (j : ℕ) : atN (dUg x2 x3 x5 x6 : FVec Ideal S256x640 .f32) i.val j
    = if h : 256 ≤ j ∧ j < 512 then geluD (atN x3 i.val j) (x2 (ix2 i ⟨j - 256, by omega⟩) * dzT x2 x3 x5 x6 i ⟨j - 256, by omega⟩) else 0 := by
  have hz : ∀ {n k : ℕ} (r j : ℕ), atN (broadcast (⟨2, ![n, k]⟩ : Shape) (Ideal.ofBits .f32 0x00000000#32) : FVec Ideal ⟨2, ![n, k]⟩ .f32) r j = 0 :=
    fun r j => by
      unfold atN; split
      · exact Ideal.ofBits_zero_f32
      · rfl
  unfold dUg k0_pay35
  refine (atN_beside (n := 256) (k₁ := 512) (k₂ := 128) (k := 640) _ _ _ rfl i.val j).trans ?_
  by_cases h2 : j < 512
  · rw [if_pos h2]
    refine (atN_beside (n := 256) (k₁ := 256) (k₂ := 256) (k := 512) _ _ _ rfl i.val j).trans ?_
    by_cases h1 : j < 256
    · rw [if_pos h1, dif_neg (by omega)]
      exact hz _ _
    · rw [if_neg h1, dif_pos ⟨by omega, h2⟩, atN_pos _ i.isLt (by omega : j - 256 < 256)]
      refine Eq.trans ?_ (geluD_eq (atN x3 i.val j) _ _ (pay33_apply x2 x3 x5 x6 i ⟨j - 256, by omega⟩ |>.trans (by
        dsimp only; rw [show 256 + (j - 256) = j by omega])))
      have e13 : k0_pay13 x3 (ix2 i ⟨j - 256, by omega⟩) = atN x3 i.val j := (pay13_apply x3 i _).trans (by
        dsimp only; rw [show 256 + (j - 256) = j by omega])
      have e17 : k0_pay17 x3 (ix2 i ⟨j - 256, by omega⟩) = geluT (atN x3 i.val j) := (pay17_apply x3 i _).trans (by
        dsimp only; rw [show 256 + (j - 256) = j by omega])
      unfold k0_pay34 k0_pay32 k0_pay30 k0_pay20 k0_pay16 k0_pay15
      simp only [addf_apply, mulf_apply, broadcast_apply]
      rw [e13, e17, show k0_pay29 x2 (k0_pay7 x5) (k0_pay8 x6) (k0_pay14 x3) (k0_pay17 x3) (ix2 i ⟨j - 256, by omega⟩) = _ from pay29_apply x2 x3 x5 x6 i _]
      rfl
  · rw [if_neg h2, dif_neg (by omega)]
    exact hz _ _

end tile

end Cert.MixBwdIdeal.Own
end
-- ==== Proof.Mix.lean ====
/-
  The gradient of the mixers' joined output (`mix_bwd`): the attention's norm, the short convolution's columns passed on, and
  the recurrence's gated, normed output, eight heads of 64 columns kept in slots of 128.
-/
module

public import proofs.«01_k».proof.Proof.At3
public import proofs.«01_k».proof.Proof.MixTile
public import proofs.«01_k».proof.Defs
public import proofs.«01_k».proof.Proof.Gen.MixBwdIdeal.Read

@[expose] public section

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.Own

/-- A matrix's columns split into heads. -/
theorem at3_split {a b n N : ℕ} (x : (⟨2, ![a, N]⟩ : Shape).Idx → EReal) (h : (⟨2, ![a, N]⟩ : Shape).ShapeCasts ⟨3, ![a, b, n]⟩) (hN : N = b * n)
    {r k j : ℕ} (hr : r < a) (hk : k < b) (hj : j < n) : at3 (shapeCast ⟨3, ![a, b, n]⟩ x h) r k j = atN x r (k * n + j) := by
  have hb : k * n + j < N := by
    have : (k + 1) * n ≤ b * n := Nat.mul_le_mul_right n hk
    rw [hN]; rw [Nat.add_mul] at this; omega
  rw [at3_pos _ hr hk hj, atN_pos _ hr hb]
  refine shapeCast_apply x h _ _ ?_
  rw [Shape.rowMajor_val_two, Shape.rowMajor_val_three]
  show r * N + (k * n + j) = (r * b + k) * n + j
  rw [hN, Nat.add_mul, Nat.mul_assoc, Nat.add_assoc]

end Cert.Own

namespace Cert.MixBwdIdeal.Own

open Cert.MixBwdIdeal Cert.MixBwdIdeal.Gen Cert.Own Cert.Mix

/-! ## The call's arrays -/

/-- Rows of eight heads put in slots of 128 columns, the weight of the first norm likewise, and the incoming gradient. -/
def headsA (x : FVec Ideal S8192x512 .f32) : FVec Ideal S8192x1024 .f32 :=
  shapeCast S8192x1024 (pad S8192x8x128 ![0, 0, 0] ![0, 0, 64] ![0, 0, 0] (shapeCast S8192x8x64 x shapeCasts_S8192x512_S8192x8x64)
    (sitofp .f32 (constantI S_ 32 0#32)) pads_S8192x8x64_S8192x8x128_000_000_0640 h_S_) shapeCasts_S8192x8x128_S8192x1024
def headsG (g : FVec Ideal S512 .f32) : FVec Ideal S1x1024 .f32 :=
  shapeCast S1x1024 (pad S8x128 ![0, 0] ![0, 64] ![0, 0] (shapeCast S8x64 g shapeCasts_S512_S8x64)
    (sitofp .f32 (constantI S_ 32 0#32)) pads_S8x64_S8x128_000_0640 h_S_) shapeCasts_S8x128_S1x1024
def dyA (d : FVec Ideal S8192x1024 .f32) : FVec Ideal S8192x1536 .f32 :=
  concatenate S8192x1536 1 [⟨S8192x1024, headsA (extractStridedSlice S8192x512 ![0, 0] d slices_S8192x1024_S8192x512_0_0)⟩,
    ⟨S8192x512, extractStridedSlice S8192x512 ![0, 512] d slices_S8192x1024_S8192x512_0_512⟩] concatenates_S8192x1024_S8192x512_S8192x1536_d1
def ugA (z g : FVec Ideal S8192x256 .f32) (t : FVec Ideal S8192x4 .f32) : FVec Ideal S8192x640 .f32 :=
  concatenate S8192x640 1 [⟨S8192x256, z⟩, ⟨S8192x256, g⟩, ⟨S8192x4, t⟩,
    ⟨S8192x124, broadcastInDim S8192x124 ![] bcast_S_S8192x124 (constant S_ .f32 0x00000000#32)⟩] concatenates_S8192x256_S8192x256_S8192x4_S8192x124_S8192x640_d1

section arrays
variable (m : (ℓ : Loc nD τ sig) → Buf (Elt Ideal) ℓ) (c : Dev nD)

set_option maxHeartbeats 40000000

/-- The host's lines leave these arrays for the call. -/
theorem V_o : (V m c main_v13 : FVec Ideal S8192x1024 .f32) = headsA (m ((c.tc : Thread nD τ).loc main_arg0)) := by
  unfold V V0 hostOps0 hostOps0_1 hostOps0_2 hostOps0_3 hostOps0_4 hostOps0_5 hostOps0_6
  after_results_simp <;> rfl

theorem V_ug : (V m c main_v1 : FVec Ideal S8192x640 .f32) = ugA (m ((c.tc : Thread nD τ).loc main_arg3)) (m ((c.tc : Thread nD τ).loc main_arg4)) (m ((c.tc : Thread nD τ).loc main_arg5)) := by
  unfold V V0 hostOps0 hostOps0_1 hostOps0_2 hostOps0_3 hostOps0_4 hostOps0_5 hostOps0_6
  after_results_simp <;> rfl

theorem V_gm : (V m c main_v4 : FVec Ideal S1x1024 .f32) = headsG (m ((c.tc : Thread nD τ).loc main_arg6)) := by
  unfold V V0 hostOps0 hostOps0_1 hostOps0_2 hostOps0_3 hostOps0_4 hostOps0_5 hostOps0_6
  after_results_simp <;> rfl

theorem V_gl : (V m c main_v14 : FVec Ideal S1x256 .f32) = shapeCast S1x256 (m ((c.tc : Thread nD τ).loc main_arg7)) shapeCasts_S256_S1x256 := by
  unfold V V0 hostOps0 hostOps0_1 hostOps0_2 hostOps0_3 hostOps0_4 hostOps0_5 hostOps0_6
  after_results_simp <;> rfl

theorem V_dy : (V m c main_v10 : FVec Ideal S8192x1536 .f32) = dyA (m ((c.tc : Thread nD τ).loc main_arg8)) := by
  unfold V V0 hostOps0 hostOps0_1 hostOps0_2 hostOps0_3 hostOps0_4 hostOps0_5 hostOps0_6
  after_results_simp <;> rfl

end arrays

/-- The padding's value is zero. -/
theorem pad0 (i : S_.Idx) : (sitofp .f32 (constantI S_ 32 0#32) : FVec Ideal S_ .f32) i = 0 := sitofp_zero (φ := .f32)

/-- Heads in slots, at a place. -/
theorem headsA_at (x : FVec Ideal S8192x512 .f32) {r k : ℕ} (hr : r < 8192) (hk : k < 1024) : atN (headsA x) r k = slot (atN x r) k := by
  rw [atN_pos _ hr hk]
  unfold headsA
  refine (atN_cols (a := 8192) (b := 8) (n := 128) (N := 1024) _ (by decide) rfl _ _).trans ?_
  show at3 _ r (k / 128) (k % 128) = _
  refine (at3_pad (a := 8192) (b := 8) (n := 64) (N := 128) _ _ _ _ pad0 (by decide) _ _ _).trans ?_
  rw [if_neg (by omega)]
  unfold slot
  split_ifs with h
  · exact (at3_split (a := 8192) (b := 8) (n := 64) (N := 512) x _ rfl hr (by omega) (by omega)).trans (by rw [Nat.sub_zero])
  · exact at3_neg _ (by omega)

theorem headsG_at (g : FVec Ideal S512 .f32) (k : Fin 1024) : headsG g (ix2 0 k) = slot (at1 g) k.val := by
  have hk := k.isLt
  unfold headsG
  refine (shapeCast_apply _ _ (ix2 0 k) (ix2 (⟨k.val / 128, by omega⟩ : Fin 8) (⟨k.val % 128, by omega⟩ : Fin 128)) (by
    rw [Shape.rowMajor_val_two, Shape.rowMajor_val_two]
    show k.val / 128 * 128 + k.val % 128 = 0 * 1024 + k.val
    omega)).trans ?_
  unfold slot
  split_ifs with h
  · refine (pad_apply_of_inside _ _ _ _ _ _ h_S_ _ (ix2 (⟨k.val / 128, by omega⟩ : Fin 8) (⟨k.val % 128, h⟩ : Fin 64)) fun a => by
      match a with
      | ⟨0, _⟩ => show k.val / 128 = 0 + k.val / 128 * (0 + 1); omega
      | ⟨1, _⟩ => show k.val % 128 = 0 + k.val % 128 * (0 + 1); omega).trans ?_
    rw [at1_pos g (by omega : k.val / 128 * 64 + k.val % 128 < 512)]
    exact shapeCast_apply g _ _ _ (by rw [Shape.rowMajor_val_two, Shape.rowMajor_val_one]; rfl)
  · rw [pad_apply_of_not_inside _ _ _ _ _ _ h_S_ _ 1 (by
      show ¬(0 ≤ k.val % 128 ∧ (k.val % 128 - 0) % (0 + 1) = 0 ∧ (k.val % 128 - 0) / (0 + 1) < 64)
      rw [zero_add, Nat.div_one]; omega)]
    exact pad0 _

/-- A stretch of columns. -/
theorem cols_at {o : ℕ} (d : FVec Ideal S8192x1024 .f32) (h : Shape.Slices S8192x1024 ![0, o] S8192x512) {r j : ℕ} (hr : r < 8192) (hj : j < 512) :
    atN (extractStridedSlice S8192x512 ![0, o] d h : FVec Ideal S8192x512 .f32) r j = atN d r (o + j) := by
  have hb : o + 512 ≤ 1024 := h.2 1
  rw [atN_pos _ hr hj, atN_pos d hr (by omega : o + j < 1024)]
  exact extractStridedSlice_apply _ d _ _ _ fun a => by
    match a with
    | ⟨0, _⟩ => show r = 0 + r; omega
    | ⟨1, _⟩ => rfl

theorem dyA_lo (d : FVec Ideal S8192x1024 .f32) {r k : ℕ} (hr : r < 8192) (hk : k < 1024) : atN (dyA d) r k = slot (atN d r) k := by
  refine (atN_beside (n := 8192) (k₁ := 1024) (k₂ := 512) (k := 1536) _ _ _ rfl r k).trans ?_
  rw [if_pos hk]
  refine (headsA_at _ hr hk).trans ?_
  unfold slot
  split_ifs with h
  · rw [cols_at d _ hr (by omega), Nat.zero_add]
  · rfl

theorem dyA_hi (d : FVec Ideal S8192x1024 .f32) {r j : ℕ} (hr : r < 8192) (hj : j < 512) : atN (dyA d) r (1024 + j) = atN d r (512 + j) := by
  refine (atN_beside (n := 8192) (k₁ := 1024) (k₂ := 512) (k := 1536) _ _ _ rfl r (1024 + j)).trans ?_
  rw [if_neg (by omega), Nat.add_sub_cancel_left]
  exact cols_at d _ hr hj

theorem ugA_at (z g : FVec Ideal S8192x256 .f32) (t : FVec Ideal S8192x4 .f32) {r j : ℕ} (hr : r < 8192) (hj : j < 256) :
    atN (ugA z g t) r (256 + j) = atN g r j := by
  refine (atN_join (a := 8192) (n₁ := 256) (n₂ := 256) (n₃ := 4) (n₄ := 124) (N := 640) _ _ _ _ _ rfl r (256 + j) hr (by omega)).trans ?_
  rw [if_neg (by omega), if_pos (by omega), Nat.add_sub_cancel_left]

/-! ## The grid -/

section grid
variable (m : (ℓ : Loc nD τ sig) → Buf (Elt Ideal) ℓ) (ρ : Dev nD → PrngReg) (c : Dev nD)

/-- The kernel's arrays: the attention's output, the recurrence's, its gate, the two weights, the incoming gradient. -/
abbrev O : FVec Ideal S8192x512 .f32 := m ((c : Thread nD τ).loc main_arg0)
abbrev H : FVec Ideal S8192x256 .f32 := m ((c : Thread nD τ).loc main_arg2)
abbrev Y : FVec Ideal S8192x256 .f32 := m ((c : Thread nD τ).loc main_arg4)
abbrev GM : FVec Ideal S512 .f32 := m ((c : Thread nD τ).loc main_arg6)
abbrev WL : FVec Ideal S256 .f32 := m ((c : Thread nD τ).loc main_arg7)
abbrev DY : FVec Ideal S8192x1024 .f32 := m ((c : Thread nD τ).loc main_arg8)

/-- Column `k` of row `r` of the attention's gradient in slots, and of the gate's gradient between zeros. -/
def doSlot (r : ℕ) (k : Fin 1024) : EReal :=
  rowDx c512 epsE mhalf (fun k : Fin 1024 => slot (atN (O m c) r) k.val) (fun k => slot (fun j => atN (DY m c) r j * at1 (GM m c) j) k.val) k
def ugAt (r j : ℕ) : EReal := if h : 256 ≤ j ∧ j < 512 then dgateAt (H m c) (Y m c) (WL m c) (DY m c) r ⟨j - 256, by omega⟩ else 0

theorem idx : ∀ t : Fin grid0.N, (win0_0.index t 0 = t.val ∧ win0_0.index t 1 = 0) ∧ (win0_2.index t 0 = t.val ∧ win0_2.index t 1 = 0)
    ∧ (win0_3.index t 0 = t.val ∧ win0_3.index t 1 = 0) ∧ (win0_4.index t 0 = 0 ∧ win0_4.index t 1 = 0)
    ∧ (win0_5.index t 0 = 0 ∧ win0_5.index t 1 = 0) ∧ (win0_6.index t 0 = t.val ∧ win0_6.index t 1 = 0) := by decide +kernel
theorem idxO : ∀ t : Fin grid0.N, (win0_7.index t 0 = t.val ∧ win0_7.index t 1 = 0)
    ∧ (win0_8.index t 0 = t.val ∧ win0_8.index t 1 = 0) ∧ (win0_9.index t 0 = t.val ∧ win0_9.index t 1 = 0)
    ∧ (win0_10.index t 0 = t.val ∧ win0_10.index t 1 = 0) ∧ (win0_11.index t 0 = 0 ∧ win0_11.index t 1 = 0)
    ∧ (win0_12.index t 0 = 0 ∧ win0_12.index t 1 = 0) := by decide +kernel

theorem lt32 (t : Fin cfg0.N) : t.val < 32 := t.isLt.trans_eq N_0
theorem ltr (t : Fin cfg0.N) (i : Fin 256) : 256 * t.val + i.val < 8192 := by have := lt32 t; have := i.isLt; omega

/-- The blocks a point reads, at plain numbers. -/
theorem blk0 (t : Fin cfg0.N) (i : Fin 256) (k : Fin 1024) :
    (iblk m c 0 t : Vec Ideal S256x1024 .f32) (ix2 i k) = slot (atN (O m c) (256 * t.val + i.val)) k.val := by
  have h : (iblk m c 0 t : Vec Ideal S256x1024 .f32) (ix2 i k) = atN (V m c main_v13 : FVec Ideal S8192x1024 .f32) (256 * t.val + i.val) k.val :=
    eq_atN_of (V m c main_v13 : FVec Ideal S8192x1024 .f32) _ (by show win0_0.index t 0 * 256 + 1 * i.val = _; rw [(idx t).1.1]; omega)
      (by show win0_0.index t 1 * 1024 + 1 * k.val = _; rw [(idx t).1.2]; omega)
  rw [h, V_o]; exact headsA_at (O m c) (ltr t i) k.isLt

theorem blk2 (t : Fin cfg0.N) (i k : Fin 256) : (iblk m c 2 t : Vec Ideal S256x256 .f32) (ix2 i k) = atN (H m c) (256 * t.val + i.val) k.val :=
  eq_atN_of (H m c) _ (by show win0_2.index t 0 * 256 + 1 * i.val = _; rw [(idx t).2.1.1]; omega)
    (by show win0_2.index t 1 * 256 + 1 * k.val = _; rw [(idx t).2.1.2]; omega)

theorem blk3 (t : Fin cfg0.N) (i : Fin 256) {j : ℕ} (hj : j < 256) :
    atN (iblk m c 3 t : Vec Ideal S256x640 .f32) i.val (256 + j) = atN (Y m c) (256 * t.val + i.val) j := by
  have h : (iblk m c 3 t : Vec Ideal S256x640 .f32) (ix2 i ⟨256 + j, by omega⟩) = atN (V m c main_v1 : FVec Ideal S8192x640 .f32) (256 * t.val + i.val) (256 + j) :=
    eq_atN_of (V m c main_v1 : FVec Ideal S8192x640 .f32) _ (by show win0_3.index t 0 * 256 + 1 * i.val = _; rw [(idx t).2.2.1.1]; omega)
      (by show win0_3.index t 1 * 640 + 1 * (256 + j) = _; rw [(idx t).2.2.1.2]; omega)
  rw [atN_pos _ i.isLt (by omega : 256 + j < 640)]
  refine h.trans ?_
  rw [V_ug]; exact ugA_at _ (Y m c) _ (ltr t i) hj

theorem blk4 (t : Fin cfg0.N) (k : Fin 1024) : (iblk m c 4 t : Vec Ideal S1x1024 .f32) (ix2 0 k) = slot (at1 (GM m c)) k.val := by
  have h : (iblk m c 4 t : Vec Ideal S1x1024 .f32) (ix2 0 k) = (V m c main_v4 : FVec Ideal S1x1024 .f32) (ix2 0 k) :=
    (eq_atN_of (V m c main_v4 : FVec Ideal S1x1024 .f32) _ (r := 0) (j := k.val)
      (by show win0_4.index t 0 * 1 + 1 * 0 = _; rw [(idx t).2.2.2.1.1])
      (by show win0_4.index t 1 * 1024 + 1 * k.val = _; rw [(idx t).2.2.2.1.2]; omega)).trans (atN_pos _ (by decide) k.isLt)
  rw [h, V_gm]; exact headsG_at (GM m c) k

theorem blk5 (t : Fin cfg0.N) (k : Fin 256) : (iblk m c 5 t : Vec Ideal S1x256 .f32) (ix2 0 k) = at1 (WL m c) k.val := by
  have h : (iblk m c 5 t : Vec Ideal S1x256 .f32) (ix2 0 k) = (V m c main_v14 : FVec Ideal S1x256 .f32) (ix2 0 k) :=
    (eq_atN_of (V m c main_v14 : FVec Ideal S1x256 .f32) _ (r := 0) (j := k.val)
      (by show win0_5.index t 0 * 1 + 1 * 0 = _; rw [(idx t).2.2.2.2.1.1])
      (by show win0_5.index t 1 * 256 + 1 * k.val = _; rw [(idx t).2.2.2.2.1.2]; omega)).trans (atN_pos _ (by decide) k.isLt)
  rw [h, V_gl]
  exact (shapeCast_a_1a_apply _ _ _ _).trans (at1_pos (WL m c) k.isLt).symm

theorem blk6 (t : Fin cfg0.N) (i : Fin 256) {k : ℕ} (hk : k < 1536) :
    atN (iblk m c 6 t : Vec Ideal S256x1536 .f32) i.val k = atN (dyA (DY m c)) (256 * t.val + i.val) k := by
  have h : (iblk m c 6 t : Vec Ideal S256x1536 .f32) (ix2 i ⟨k, hk⟩) = atN (V m c main_v10 : FVec Ideal S8192x1536 .f32) (256 * t.val + i.val) k :=
    eq_atN_of (V m c main_v10 : FVec Ideal S8192x1536 .f32) _ (by show win0_6.index t 0 * 256 + 1 * i.val = _; rw [(idx t).2.2.2.2.2.1]; omega)
      (by show win0_6.index t 1 * 1536 + 1 * k = _; rw [(idx t).2.2.2.2.2.2]; omega)
  rw [atN_pos _ i.isLt hk]
  refine h.trans ?_
  rw [V_dy]

theorem dy_lo (t : Fin cfg0.N) (i : Fin 256) (k : Fin 1024) :
    atN (iblk m c 6 t : Vec Ideal S256x1536 .f32) i.val k.val = slot (atN (DY m c) (256 * t.val + i.val)) k.val :=
  (blk6 m c t i (by have := k.isLt; omega)).trans (dyA_lo (DY m c) (ltr t i) k.isLt)

theorem dy_mid (t : Fin cfg0.N) (i k : Fin 256) :
    atN (iblk m c 6 t : Vec Ideal S256x1536 .f32) i.val (1024 + k.val) = atN (DY m c) (256 * t.val + i.val) (512 + k.val) :=
  (blk6 m c t i (by have := k.isLt; omega)).trans (dyA_hi (DY m c) (ltr t i) (by have := k.isLt; omega))

theorem dy_hi (t : Fin cfg0.N) (i k : Fin 256) :
    atN (iblk m c 6 t : Vec Ideal S256x1536 .f32) i.val (1280 + k.val) = atN (DY m c) (256 * t.val + i.val) (768 + k.val) := by
  have hk := k.isLt
  have e := dyA_hi (DY m c) (ltr t i) (by omega : 256 + k.val < 512)
  rw [← Nat.add_assoc, ← Nat.add_assoc] at e
  exact (blk6 m c t i (by omega)).trans e

/-- A point's tiles. -/
theorem tile_o (t : Fin cfg0.N) (i : Fin 256) (j : Fin 1024) :
    dO (iblk m c 0 t) (iblk m c 4 t) (iblk m c 6 t) (ix2 i j) = doSlot m c (256 * t.val + i.val) j := by
  refine (dO_apply _ _ _ i j).trans ?_
  simp only [blk0, blk4, dy_lo, slot_mul]
  rfl

theorem tile_z (t : Fin cfg0.N) (i k : Fin 256) : zT (iblk m c 2 t) (iblk m c 3 t) i k = zAt (H m c) (Y m c) (256 * t.val + i.val) k.val := by
  unfold zT
  rw [blk2, blk3 m c t i k.isLt]
  rfl

theorem tile_dz (t : Fin cfg0.N) (i j : Fin 256) : dzT (iblk m c 2 t) (iblk m c 3 t) (iblk m c 5 t) (iblk m c 6 t) i j
    = dzAt (H m c) (Y m c) (WL m c) (DY m c) (256 * t.val + i.val) j := by
  unfold dzT
  rw [show zT (iblk m c 2 t) (iblk m c 3 t) i = _ from funext (tile_z m c t i)]
  simp only [blk5, dy_hi]
  rfl

theorem tile_h (t : Fin cfg0.N) (i j : Fin 256) : dh (iblk m c 2 t) (iblk m c 3 t) (iblk m c 5 t) (iblk m c 6 t) (ix2 i j)
    = dhAt (H m c) (Y m c) (WL m c) (DY m c) (256 * t.val + i.val) j := by
  refine (dh_apply _ _ _ _ i j).trans ?_
  rw [tile_dz, blk3 m c t i j.isLt]
  rfl

theorem tile_ug (t : Fin cfg0.N) (i : Fin 256) (j : Fin 640) :
    dUg (iblk m c 2 t) (iblk m c 3 t) (iblk m c 5 t) (iblk m c 6 t) (ix2 i j) = ugAt m c (256 * t.val + i.val) j.val := by
  refine (atN_pos _ i.isLt j.isLt).symm.trans ((dUg_at _ _ _ _ i j.val).trans ?_)
  unfold ugAt
  split_ifs with h
  · have e := blk3 m c t i (by omega : j.val - 256 < 256)
    rw [show 256 + (j.val - 256) = j.val by omega] at e
    rw [e, blk2, tile_dz]
    rfl
  · rfl

theorem outs7 (t : Fin cfg0.N) : (outsAt0 m c t.val t.isLt).1 = fun y : S256x1024.Idx => doSlot m c (256 * t.val + (y 0).val) (y 1) := by
  by_cases h : t.val % 32 = 0
  · refine (congrArg (·.1) (outsAt0_A m c t h)).trans ?_
    dsimp only
    rw [out7_A]
    exact ext2 fun i j => tile_o m c t i j
  · refine (congrArg (·.1) (outsAt0_B m c t h)).trans ?_
    dsimp only
    rw [out7_B]
    exact ext2 fun i j => tile_o m c t i j

theorem outs8 (t : Fin cfg0.N) : (outsAt0 m c t.val t.isLt).2.1 = fun y : S256x256.Idx => atN (DY m c) (256 * t.val + (y 0).val) (512 + (y 1).val) := by
  by_cases h : t.val % 32 = 0
  · refine (congrArg (·.2.1) (outsAt0_A m c t h)).trans ?_
    dsimp only
    rw [out8_A]
    exact ext2 fun i j => (pay26_apply _ i j).trans (dy_mid m c t i j)
  · refine (congrArg (·.2.1) (outsAt0_B m c t h)).trans ?_
    dsimp only
    rw [out8_B]
    exact ext2 fun i j => (pay26_apply _ i j).trans (dy_mid m c t i j)

theorem outs9 (t : Fin cfg0.N) : (outsAt0 m c t.val t.isLt).2.2.1 = fun y : S256x256.Idx => dhAt (H m c) (Y m c) (WL m c) (DY m c) (256 * t.val + (y 0).val) (y 1) := by
  by_cases h : t.val % 32 = 0
  · refine (congrArg (·.2.2.1) (outsAt0_A m c t h)).trans ?_
    dsimp only
    rw [out9_A]
    exact ext2 fun i j => tile_h m c t i j
  · refine (congrArg (·.2.2.1) (outsAt0_B m c t h)).trans ?_
    dsimp only
    rw [out9_B]
    exact ext2 fun i j => tile_h m c t i j

theorem outs10 (t : Fin cfg0.N) : (outsAt0 m c t.val t.isLt).2.2.2.1 = fun y : S256x640.Idx => ugAt m c (256 * t.val + (y 0).val) (y 1).val := by
  by_cases h : t.val % 32 = 0
  · refine (congrArg (·.2.2.2.1) (outsAt0_A m c t h)).trans ?_
    dsimp only
    rw [out10_A]
    exact ext2 fun i j => tile_ug m c t i j
  · refine (congrArg (·.2.2.2.1) (outsAt0_B m c t h)).trans ?_
    dsimp only
    rw [out10_B]
    exact ext2 fun i j => tile_ug m c t i j

/-- One more tile of rows in the weights' gradients. -/
theorem dgm_step (t : Fin cfg0.N) (xo : Vec Ideal S1x1024 .f32) (j : Fin 1024)
    (h : xo (ix2 0 j) = ∑ r ∈ Finset.range (256 * t.val), slot (fun k => dgmRow (O m c) (DY m c) k r) j.val) :
    k0_pay3 (k0_pay36 (k0_pay12 (iblk m c 0 t)) (k0_pay25 (k0_pay8 (iblk m c 6 t)))) xo (ix2 0 j)
      = ∑ r ∈ Finset.range (256 * (t.val + 1)), slot (fun k => dgmRow (O m c) (DY m c) k r) j.val := by
  refine (dgm_apply _ _ _ j).trans ?_
  rw [h, ← sum_range_block]
  refine congrArg (_ + ·) (Finset.sum_congr rfl fun i _ => ?_)
  simp only [blk0, dy_lo, rowV_slot]
  rw [mul_right_comm, slot_mul]
  unfold slot dgmRow
  split_ifs
  · exact mul_right_comm _ _ _
  · exact zero_mul _

theorem dgl_step (t : Fin cfg0.N) (xo : Vec Ideal S1x256 .f32) (j : Fin 256)
    (h : xo (ix2 0 j) = ∑ r ∈ Finset.range (256 * t.val), dglRow (H m c) (Y m c) (DY m c) j.val r) :
    k0_pay4 (k0_pay28 (iblk m c 2 t) (k0_pay8 (iblk m c 6 t)) (k0_pay14 (iblk m c 3 t)) (k0_pay17 (iblk m c 3 t))) xo (ix2 0 j)
      = ∑ r ∈ Finset.range (256 * (t.val + 1)), dglRow (H m c) (Y m c) (DY m c) j.val r := by
  refine (dgl_apply _ _ _ _ j).trans ?_
  rw [h, ← sum_range_block]
  refine congrArg (_ + ·) (Finset.sum_congr rfl fun i _ => ?_)
  rw [show zT (iblk m c 2 t) (iblk m c 3 t) i = _ from funext (tile_z m c t i), dy_hi]
  rfl

theorem outs11 : ∀ (n : ℕ) (h : n < cfg0.N), (outsAt0 m c n h).2.2.2.2.1
    = fun y : S1x1024.Idx => ∑ r ∈ Finset.range (256 * (n + 1)), slot (fun k => dgmRow (O m c) (DY m c) k r) (y 1).val
  | 0, h => by
    refine (congrArg (·.2.2.2.2.1) (outsAt0_A m c ⟨0, h⟩ rfl)).trans ?_
    dsimp only
    rw [out11_A]
    exact ext_row fun j => dgm_step m c ⟨0, h⟩ _ j (Ideal.ofBits_zero_f32.trans (by rw [Nat.mul_zero]; rfl))
  | n + 1, h => by
    have hB : ¬(⟨n + 1, h⟩ : Fin cfg0.N).val % 32 = 0 := by have := lt32 ⟨n + 1, h⟩; dsimp only at this ⊢; omega
    refine (congrArg (·.2.2.2.2.1) (outsAt0_B m c ⟨n + 1, h⟩ hB)).trans ?_
    dsimp only
    rw [out11_B]
    exact ext_row fun j => dgm_step m c ⟨n + 1, h⟩ _ j (congrFun (outs11 n _) (ix2 0 j))

theorem outs12 : ∀ (n : ℕ) (h : n < cfg0.N), (outsAt0 m c n h).2.2.2.2.2
    = fun y : S1x256.Idx => ∑ r ∈ Finset.range (256 * (n + 1)), dglRow (H m c) (Y m c) (DY m c) (y 1).val r
  | 0, h => by
    refine (congrArg (·.2.2.2.2.2) (outsAt0_A m c ⟨0, h⟩ rfl)).trans ?_
    dsimp only
    rw [out12_A]
    exact ext_row fun j => dgl_step m c ⟨0, h⟩ _ j (Ideal.ofBits_zero_f32.trans (by rw [Nat.mul_zero]; rfl))
  | n + 1, h => by
    have hB : ¬(⟨n + 1, h⟩ : Fin cfg0.N).val % 32 = 0 := by have := lt32 ⟨n + 1, h⟩; dsimp only at this ⊢; omega
    refine (congrArg (·.2.2.2.2.2) (outsAt0_B m c ⟨n + 1, h⟩ hB)).trans ?_
    dsimp only
    rw [out12_B]
    exact ext_row fun j => dgl_step m c ⟨n + 1, h⟩ _ j (congrFun (outs12 n _) (ix2 0 j))

/-- The attention's gradient in slots after the run. -/
theorem final7 : (dats m 0 c).arrAt 7 cfg0.N = fun i : S8192x1024.Idx => doSlot m c (i 0).val (i 1) := by
  refine (dats m 0 c).arrAt_eq_of_cover 7 _ (fun t _ => ?_) fun (i : S8192x1024.Idx) => ?_
  · show (cfg0.win 7).cut (grid0.coords t) ((dats m 0 c).after 7 t) = _
    rw [after0_7, outs7]
    refine funext fun y => Eq.trans ?_ (View.read_apply _ _).symm
    have e0 : 256 * t.val + (y 0).val = win0_7.index t 0 * 256 + 1 * (y 0).val := by rw [(idxO t).1.1]; omega
    have e1 : (y 1).val = win0_7.index t 1 * 1024 + 1 * (y 1).val := by rw [(idxO t).1.2]; omega
    exact congrArg₂ (doSlot m c) e0 (Fin.ext e1)
  · have hi0 : (i 0).val < 8192 := (i 0).isLt
    obtain ⟨t, ht⟩ : ∃ t : Fin cfg0.N, t.val = (i 0).val / 256 := ⟨⟨(i 0).val / 256, by rw [show cfg0.N = 32 from N_0]; omega⟩, rfl⟩
    refine ⟨t, flush0_7 t, ?_⟩
    show i ∈ ((View.whole main_v15_0).slice (win0_7.rect t)).set
    rw [View.set_slice_whole, Rect.mem_set_unit]
    exact in_rows i (a := 256) (f := win0_7.index t) (by decide) ((idxO t).1.1.trans ht) (idxO t).1.2

/-- The short convolution's gradient after the run. -/
theorem final8 : (dats m 0 c).arrAt 8 cfg0.N = fun i : S8192x256.Idx => atN (DY m c) (i 0).val (512 + (i 1).val) := by
  refine (dats m 0 c).arrAt_eq_of_cover 8 _ (fun t _ => ?_) fun (i : S8192x256.Idx) => ?_
  · show (cfg0.win 8).cut (grid0.coords t) ((dats m 0 c).after 8 t) = _
    rw [after0_8, outs8]
    refine funext fun y => Eq.trans ?_ (View.read_apply _ _).symm
    have e0 : 256 * t.val + (y 0).val = win0_8.index t 0 * 256 + 1 * (y 0).val := by rw [(idxO t).2.1.1]; omega
    have e1 : (y 1).val = win0_8.index t 1 * 256 + 1 * (y 1).val := by rw [(idxO t).2.1.2]; omega
    exact congrArg₂ (atN (DY m c)) e0 (congrArg (512 + ·) e1)
  · have hi0 : (i 0).val < 8192 := (i 0).isLt
    obtain ⟨t, ht⟩ : ∃ t : Fin cfg0.N, t.val = (i 0).val / 256 := ⟨⟨(i 0).val / 256, by rw [show cfg0.N = 32 from N_0]; omega⟩, rfl⟩
    refine ⟨t, flush0_8 t, ?_⟩
    show i ∈ ((View.whole main_v15_1).slice (win0_8.rect t)).set
    rw [View.set_slice_whole, Rect.mem_set_unit]
    exact in_rows i (a := 256) (f := win0_8.index t) (by decide) ((idxO t).2.1.1.trans ht) (idxO t).2.1.2

/-- The recurrence's gradient after the run. -/
theorem final9 : (dats m 0 c).arrAt 9 cfg0.N = fun i : S8192x256.Idx => dhAt (H m c) (Y m c) (WL m c) (DY m c) (i 0).val (i 1) := by
  refine (dats m 0 c).arrAt_eq_of_cover 9 _ (fun t _ => ?_) fun (i : S8192x256.Idx) => ?_
  · show (cfg0.win 9).cut (grid0.coords t) ((dats m 0 c).after 9 t) = _
    rw [after0_9, outs9]
    refine funext fun y => Eq.trans ?_ (View.read_apply _ _).symm
    have e0 : 256 * t.val + (y 0).val = win0_9.index t 0 * 256 + 1 * (y 0).val := by rw [(idxO t).2.2.1.1]; omega
    have e1 : (y 1).val = win0_9.index t 1 * 256 + 1 * (y 1).val := by rw [(idxO t).2.2.1.2]; omega
    exact congrArg₂ (dhAt (H m c) (Y m c) (WL m c) (DY m c)) e0 (Fin.ext e1)
  · have hi0 : (i 0).val < 8192 := (i 0).isLt
    obtain ⟨t, ht⟩ : ∃ t : Fin cfg0.N, t.val = (i 0).val / 256 := ⟨⟨(i 0).val / 256, by rw [show cfg0.N = 32 from N_0]; omega⟩, rfl⟩
    refine ⟨t, flush0_9 t, ?_⟩
    show i ∈ ((View.whole main_v15_2).slice (win0_9.rect t)).set
    rw [View.set_slice_whole, Rect.mem_set_unit]
    exact in_rows i (a := 256) (f := win0_9.index t) (by decide) ((idxO t).2.2.1.1.trans ht) (idxO t).2.2.1.2

/-- The gate's gradient between zeros after the run. -/
theorem final10 : (dats m 0 c).arrAt 10 cfg0.N = fun i : S8192x640.Idx => ugAt m c (i 0).val (i 1).val := by
  refine (dats m 0 c).arrAt_eq_of_cover 10 _ (fun t _ => ?_) fun (i : S8192x640.Idx) => ?_
  · show (cfg0.win 10).cut (grid0.coords t) ((dats m 0 c).after 10 t) = _
    rw [after0_10, outs10]
    refine funext fun y => Eq.trans ?_ (View.read_apply _ _).symm
    have e0 : 256 * t.val + (y 0).val = win0_10.index t 0 * 256 + 1 * (y 0).val := by rw [(idxO t).2.2.2.1.1]; omega
    have e1 : (y 1).val = win0_10.index t 1 * 640 + 1 * (y 1).val := by rw [(idxO t).2.2.2.1.2]; omega
    exact congrArg₂ (ugAt m c) e0 e1
  · have hi0 : (i 0).val < 8192 := (i 0).isLt
    obtain ⟨t, ht⟩ : ∃ t : Fin cfg0.N, t.val = (i 0).val / 256 := ⟨⟨(i 0).val / 256, by rw [show cfg0.N = 32 from N_0]; omega⟩, rfl⟩
    refine ⟨t, flush0_10 t, ?_⟩
    show i ∈ ((View.whole main_v15_3).slice (win0_10.rect t)).set
    rw [View.set_slice_whole, Rect.mem_set_unit]
    exact in_rows i (a := 256) (f := win0_10.index t) (by decide) ((idxO t).2.2.2.1.1.trans ht) (idxO t).2.2.2.1.2

/-- The first norm weight's gradient in slots after the run. -/
theorem final11 : (dats m 0 c).arrAt 11 cfg0.N
    = fun y : S1x1024.Idx => ∑ r ∈ Finset.range 8192, slot (fun k => dgmRow (O m c) (DY m c) k r) (y 1).val := by
  refine (dats m 0 c).arrAt_eq_of_cover 11 _ (fun t ht => ?_) fun (i : S1x1024.Idx) => ?_
  · have h7 : t.val = 31 := by have := (flush0_11 t).mp ht; have := lt32 t; omega
    show (cfg0.win 11).cut (grid0.coords t) ((dats m 0 c).after 11 t) = _
    rw [after0_11, outs11, h7]
    have hz' : (fun a => win0_11.index t a * main_v15_4.ty.shape.size a) = fun _ => 0 := still (f := win0_11.index t) (idxO t).2.2.2.2.1.1 (idxO t).2.2.2.2.1.2
    exact (Memref.read_access_unit_zero (Elt Ideal) main_v15_4 hz' (fun a => by rw [congrFun hz' a]; simp) _).symm
  · obtain ⟨t, ht⟩ : ∃ t : Fin cfg0.N, t.val = 31 := ⟨⟨31, by rw [show cfg0.N = 32 from N_0]; omega⟩, rfl⟩
    refine ⟨t, (flush0_11 t).mpr (by rw [ht]), ?_⟩
    show i ∈ ((View.whole main_v15_4).slice (win0_11.rect t)).set
    rw [View.set_slice_whole, Rect.mem_set_unit]
    exact in_still i (f := win0_11.index t) (idxO t).2.2.2.2.1.1 (idxO t).2.2.2.2.1.2

/-- The second norm weight's gradient after the run. -/
theorem final12 : (dats m 0 c).arrAt 12 cfg0.N
    = fun y : S1x256.Idx => ∑ r ∈ Finset.range 8192, dglRow (H m c) (Y m c) (DY m c) (y 1).val r := by
  refine (dats m 0 c).arrAt_eq_of_cover 12 _ (fun t ht => ?_) fun (i : S1x256.Idx) => ?_
  · have h7 : t.val = 31 := by have := (flush0_12 t).mp ht; have := lt32 t; omega
    show (cfg0.win 12).cut (grid0.coords t) ((dats m 0 c).after 12 t) = _
    rw [after0_12, outs12, h7]
    have hz' : (fun a => win0_12.index t a * main_v15_5.ty.shape.size a) = fun _ => 0 := still (f := win0_12.index t) (idxO t).2.2.2.2.2.1 (idxO t).2.2.2.2.2.2
    exact (Memref.read_access_unit_zero (Elt Ideal) main_v15_5 hz' (fun a => by rw [congrFun hz' a]; simp) _).symm
  · obtain ⟨t, ht⟩ : ∃ t : Fin cfg0.N, t.val = 31 := ⟨⟨31, by rw [show cfg0.N = 32 from N_0]; omega⟩, rfl⟩
    refine ⟨t, (flush0_12 t).mpr (by rw [ht]), ?_⟩
    show i ∈ ((View.whole main_v15_5).slice (win0_12.rect t)).set
    rw [View.set_slice_whole, Rect.mem_set_unit]
    exact in_still i (f := win0_12.index t) (idxO t).2.2.2.2.2.1 (idxO t).2.2.2.2.2.2

/-! ## The lines after the call -/

open Cert.MixBwdIdeal.Read

/-- The attention's gradient out of its slots. -/
theorem res_o (i : Fin 8192) (j : Fin 512) : (val_main_v19 (F := Ideal) (fun y : S8192x1024.Idx => doSlot m c (y 0).val (y 1)) : FVec Ideal S8192x512 .f32) (ix2 i j)
    = doAt (O m c) (GM m c) (DY m c) i.val j := by
  have hj := j.isLt
  have hb : j.val / 64 * 128 + j.val % 64 < 1024 := by omega
  rw [val_main_v19_apply, val_main_v18_apply, val_main_v17_apply, val_main_v16_apply, Ideal.extf_def]
  refine Eq.trans ?_ (rowDx_slot c512 epsE mhalf (atN (O m c) i.val) (fun k => atN (DY m c) i.val k * at1 (GM m c) k) j hb)
  refine congrArg₂ (doSlot m c) ?_ (Fin.ext ?_)
  · show ((((i.val * 512 + j.val) / 512) * 8 + (i.val * 512 + j.val) / 64 % 8) * 128 + (i.val * 512 + j.val) % 64) / 1024 = i.val
    omega
  · show ((((i.val * 512 + j.val) / 512) * 8 + (i.val * 512 + j.val) / 64 % 8) * 128 + (i.val * 512 + j.val) % 64) % 1024 = j.val / 64 * 128 + j.val % 64
    omega

/-- The gate's gradient from between the zeros. -/
theorem res_gate (i : Fin 8192) (j : Fin 256) : (val_main_v20 (F := Ideal) (fun y : S8192x640.Idx => ugAt m c (y 0).val (y 1).val) : FVec Ideal S8192x256 .f32) (ix2 i j)
    = dgateAt (H m c) (Y m c) (WL m c) (DY m c) i.val j := by
  have hj := j.isLt
  rw [val_main_v20_apply]
  show ugAt m c i.val (256 + j.val) = _
  unfold ugAt
  rw [dif_pos ⟨by omega, by omega⟩]
  exact congrArg (dgateAt (H m c) (Y m c) (WL m c) (DY m c) i.val) (Fin.ext (Nat.add_sub_cancel_left 256 j.val))

/-- The first norm weight's gradient out of its slots. -/
theorem res_gm (j : Fin 512) : (val_main_v23 (F := Ideal) (fun y : S1x1024.Idx => ∑ r ∈ Finset.range 8192, slot (fun k => dgmRow (O m c) (DY m c) k r) (y 1).val)
      : FVec Ideal S1x512 .f32) (ix2 0 j) = ∑ r ∈ Finset.range 8192, dgmRow (O m c) (DY m c) j.val r := by
  have hj := j.isLt
  rw [val_main_v23_apply, val_main_v22_apply, val_main_v21_apply]
  refine Finset.sum_congr rfl fun r _ => ?_
  refine Eq.trans (congrArg (slot _) ?_) (slot_at (fun k => dgmRow (O m c) (DY m c) k r) j.val)
  show ((0 * 512 + j.val) / 64 * 128 + (0 * 512 + j.val) % 64) % 1024 = j.val / 64 * 128 + j.val % 64
  omega

end grid

end Cert.MixBwdIdeal.Own

namespace Cert.Mix

open Cert.Own Cert.MixBwdIdeal.Own

/-- The reference program ends with its arguments unchanged and every counter at zero. -/
theorem ref_frame : Cert.quiescent_MixRefIdeal (hMixRefIdeal := Cert.MixRefIdeal.Gen.facts) := fun m g _ =>
  (θ_run Cert.MixRefIdeal.defs _ _).mono (fun r h => ⟨fun c => (h c).2.2.2.2.2.2, sem_eq_zero_of_no_sems (by decide) r.2⟩)
    (Cert.MixRefIdeal.Value.run m g)

set_option maxHeartbeats 4000000 in
/-- Over the extended reals the program returns the derivative of the mixers' joined output. -/
theorem value : Cert.algebraic_MixBwdIdeal_MixRefIdeal (hMixBwdIdeal := Cert.MixBwdIdeal.Gen.facts)
    (hMixRefIdeal := Cert.MixRefIdeal.Gen.facts) := fun m g m' g' _ hm => by
  refine ⟨fun c => Cert.MixBwdIdeal.Read.val_main_v19 (F := Ideal) (Cert.MixBwdIdeal.Value.reg_main_v15_0 m c),
    fun c => Cert.MixBwdIdeal.Value.reg_main_v15_1 m c, fun c => Cert.MixBwdIdeal.Value.reg_main_v15_2 m c,
    fun c => Cert.MixBwdIdeal.Read.val_main_v20 (F := Ideal) (Cert.MixBwdIdeal.Value.reg_main_v15_3 m c),
    fun c => Cert.MixBwdIdeal.Read.val_main_v23 (F := Ideal) (Cert.MixBwdIdeal.Value.reg_main_v15_4 m c),
    fun c => Cert.MixBwdIdeal.Value.reg_main_v15_5 m c, ?_, ?_⟩
  · exact (θ_run Cert.MixBwdIdeal.defs _ _).mono (fun r h c => h c) (Cert.MixBwdIdeal.Value.run m g)
  · refine (θ_run Cert.MixRefIdeal.defs _ _).mono (fun r h c => ?_) (Cert.MixRefIdeal.Value.run m' g')
    obtain ⟨e0, e1, e2, e3, e4, e5, e6, e7, e8⟩ := hm c
    obtain ⟨h0, h1, h2, h3, h4, h5, h6⟩ := h c
    refine ⟨h0.trans ?_, h1.trans ?_, h2.trans ?_, h3.trans ?_, h4.trans ?_, h5.trans ?_, h6⟩
    · refine (Cert.MixRefIdeal.Read.val_main_v97_eq (F := Ideal) m' c).trans ?_
      rw [e0, e6, e8]
      refine ext2 fun i j => (Cert.MixRefIdeal.Own.v97_apply _ _ _ i j).trans ((res_o m c i j).symm.trans ?_)
      exact congrArg (fun X => Cert.MixBwdIdeal.Read.val_main_v19 (F := Ideal) X (ix2 i j)) (final7 m c).symm
    · refine (Cert.MixRefIdeal.Read.val_main_v56_eq (F := Ideal) _).trans (Eq.trans ?_ (final8 m c).symm)
      rw [e8]
      exact ext2 fun i j => (Cert.MixRefIdeal.Read.val_main_v56_apply _ (ix2 i j)).trans (eq_atN_of _ _ rfl rfl)
    · refine (Cert.MixRefIdeal.Read.val_main_v99_eq (F := Ideal) m' c).trans (Eq.trans ?_ (final9 m c).symm)
      rw [e2, e4, e7, e8]
      exact ext2 fun i j => Cert.MixRefIdeal.Own.v99_apply _ _ _ _ i j
    · refine (Cert.MixRefIdeal.Read.val_main_v111_eq (F := Ideal) m' c).trans ?_
      rw [e2, e4, e7, e8]
      refine ext2 fun i j => (Cert.MixRefIdeal.Own.v111_apply _ _ _ _ i j).trans ((res_gate m c i j).symm.trans ?_)
      exact congrArg (fun X => Cert.MixBwdIdeal.Read.val_main_v20 (F := Ideal) X (ix2 i j)) (final10 m c).symm
    · refine (Cert.MixRefIdeal.Read.val_main_v112_eq (F := Ideal) _ _).trans ?_
      rw [e0, e8]
      refine ext_row fun j => (Cert.MixRefIdeal.Own.v112_apply _ _ j).trans ((res_gm m c j).symm.trans ?_)
      exact congrArg (fun X => Cert.MixBwdIdeal.Read.val_main_v23 (F := Ideal) X (ix2 0 j)) (final11 m c).symm
    · refine (Cert.MixRefIdeal.Read.val_main_v113_eq (F := Ideal) _ _ _).trans (Eq.trans ?_ (final12 m c).symm)
      rw [e2, e4, e8]
      exact ext_row fun j => Cert.MixRefIdeal.Own.v113_apply _ _ _ j

end Cert.Mix
end
-- ==== Proof.PrepRef.lean ====
/-
  The gradient of the norms and rotary positions between the attention's two products (`mla_prep_bwd`): what both programs
  compute, as functions of the arrays, and that the reference computes it.
-/
module

public import proofs.«01_k».proof.Proof.MixRef
public import proofs.«01_k».proof.Proof.Gen.PrepRefIdeal.Run
public import proofs.«01_k».proof.Proof.Gen.PrepRefIdeal.Read

@[expose] public section

set_option maxRecDepth 16384

noncomputable section

open Idealize.ShloMosaic Idealize.ShloMosaic.TcCoe Idealize.SL.Sem Idealize.ShloMosaic.ValueIdx

namespace Cert.Own

abbrev c128 : EReal := Ideal.ofBits .f32 0x3C000000#32

/-- Dividing by 128 is multiplying by the float 2^-7. -/
theorem div_128 (x : EReal) : Ideal.div x (Ideal.ofBits .f32 0x43000000#32) = x * Ideal.ofBits .f32 0x3C000000#32 := by
  have h1 : Ideal.ofBits .f32 0x43000000#32 = ((128 : ℝ) : EReal) := by
    simp [Ideal.ofBits, Ideal.ieee, ← EReal.coe_mul]; norm_num
  have h2 : Ideal.ofBits .f32 0x3C000000#32 = ((1 / 128 : ℝ) : EReal) := by
    simp [Ideal.ofBits, Ideal.ieee, ← EReal.coe_mul]; norm_num
  rw [h1, h2, Ideal.div_coe (by norm_num)]

/-- Products and negations of matrices, at plain numbers. -/
theorem atN_mulf {n k : ℕ} (x y : FVec Ideal ⟨2, ![n, k]⟩ .f32) (r j : ℕ) : atN (mulf x y) r j = atN x r j * atN y r j := by
  unfold atN; split
  · rfl
  · exact (zero_mul 0).symm

theorem atN_negf {n k : ℕ} (x : FVec Ideal ⟨2, ![n, k]⟩ .f32) (r j : ℕ) : atN (Host.negf x) r j = -atN x r j := by
  unfold atN; split
  · rfl
  · exact neg_zero.symm

/-- A stretch of a matrix's columns. -/
theorem atN_cslice {N n k o : ℕ} (x : (⟨2, ![k, N]⟩ : Shape).Idx → EReal) (h : Shape.Slices ⟨2, ![k, N]⟩ ![0, o] ⟨2, ![k, n]⟩) (r j : ℕ) (hj : j < n) :
    atN (extractStridedSlice ⟨2, ![k, n]⟩ ![0, o] x h) r j = atN x r (o + j) := by
  by_cases hr : r < k
  · have hb : o + j < N := by
      have : o + n ≤ N := h.2 1
      omega
    rw [atN_pos _ hr hj, atN_pos _ hr hb]
    exact extractStridedSlice_apply ![0, o] x h _ (ix2 ⟨r, hr⟩ ⟨o + j, hb⟩) fun a => by
      match a with
      | ⟨0, _⟩ => exact (Nat.zero_add r).symm
      | ⟨1, _⟩ => rfl
  · rw [atN_row _ (by omega), atN_row _ (by omega)]

/-- A matrix with zero columns put before and after it. -/
theorem atN_cpad {n k l g N : ℕ} (x : (⟨2, ![n, k]⟩ : Shape).Idx → EReal) {u : Shape} (v : u.Idx → EReal)
    (h : Shape.Pads ⟨2, ![n, k]⟩ ![0, l] ![0, g] ![0, 0] ⟨2, ![n, N]⟩) (hu : 0 < u.numel) (hv : ∀ i, v i = 0) (hN : l + k ≤ N) (r j : ℕ) :
    atN (pad ⟨2, ![n, N]⟩ ![0, l] ![0, g] ![0, 0] x v h hu) r j = if j < l then 0 else atN x r (j - l) := by
  by_cases hr : r < n
  · by_cases hjN : j < N
    · rw [atN_pos _ hr hjN]
      by_cases hj : l ≤ j ∧ j < l + k
      · rw [if_neg (by omega), atN_pos _ hr (by omega : j - l < k)]
        exact pad_apply_of_inside _ _ _ x v h hu _ (ix2 ⟨r, hr⟩ ⟨j - l, by omega⟩) fun a => by
          match a with
          | ⟨0, _⟩ => show r = 0 + r * (0 + 1); omega
          | ⟨1, _⟩ => show j = l + (j - l) * (0 + 1); omega
      · rw [pad_apply_of_not_inside _ _ _ x v h hu _ 1 (by
          show ¬(l ≤ j ∧ (j - l) % (0 + 1) = 0 ∧ (j - l) / (0 + 1) < k)
          rw [zero_add, Nat.div_one]; omega), hv]
        split
        · rfl
        · rw [atN_col _ (by omega)]
    · rw [atN_col _ (by omega)]
      split
      · rfl
      · rw [atN_col _ (by omega)]
  · rw [atN_row _ (by omega), atN_row _ (by omega), ite_self]

end Cert.Own

namespace Cert.Prep

open Cert.Own

/-- The gradient of a row norm of `n` columns at row `r`, column `j`: `x` the rows, `g` the weight, `d` the incoming gradient. -/
def dxAt {a n : ℕ} (c : EReal) (x : (⟨2, ![a, n]⟩ : Shape).Idx → EReal) (g : (⟨1, ![n]⟩ : Shape).Idx → EReal) (d : (⟨2, ![a, n]⟩ : Shape).Idx → EReal)
    (r : ℕ) (j : Fin n) : EReal :=
  rowDx c epsE mhalf (fun k : Fin n => atN x r k.val) (fun k => atN d r k.val * at1 g k.val) j

/-- Row `r`'s part of column `j` of the gradient of the norm's weight. -/
def dgRow {a n : ℕ} (c : EReal) (x d : (⟨2, ![a, n]⟩ : Shape).Idx → EReal) (j r : ℕ) : EReal :=
  atN x r j * Ideal.rsqrt (rowV c epsE fun k : Fin n => atN x r k.val) * atN d r j

/-- The gradient of the turned columns, `C` and `S` the positions' cosines and sines. -/
def dkAt (d : (⟨2, ![8192, 32]⟩ : Shape).Idx → EReal) (C S : (⟨2, ![8192, 16]⟩ : Shape).Idx → EReal) (r j : ℕ) : EReal :=
  if j < 16 then atN d r j * atN C r j + atN d r (16 + j) * atN S r j
  else atN d r j * atN C r (j - 16) + -atN d r (j - 16) * atN S r (j - 16)

end Cert.Prep

namespace Cert.PrepRefIdeal.Own

open Cert.PrepRefIdeal Cert.PrepRefIdeal.Gen Cert.PrepRefIdeal.Read Cert.Own Cert.Prep

variable (x0 x6 : (⟨S8192x256, .f32⟩ : BufTy).Contents (Elt Ideal)) (x1 x7 : (⟨S8192x128, .f32⟩ : BufTy).Contents (Elt Ideal))
  (x3 : (⟨S256, .f32⟩ : BufTy).Contents (Elt Ideal)) (x4 : (⟨S128, .f32⟩ : BufTy).Contents (Elt Ideal))
  (x5 : (⟨S8192, .i32⟩ : BufTy).Contents (Elt Ideal)) (x8 : (⟨S8192x32, .f32⟩ : BufTy).Contents (Elt Ideal))

/-- The norm of 256 columns: its mean square and root, the coefficient, the gradients of its rows and of its weight. -/
theorem v22_apply (i : Fin 8192) : val_main_v22 (F := Ideal) x0 (ix2 i 0) = rowV c256 epsE fun k : Fin 256 => atN x0 i.val k.val := by
  have h1 : ∀ k, idx_main_v17 (idx_main_v18 (ix2 i 0)) k = ix2 i k := fun k => funext fun a => by match a with | ⟨0, _⟩ => rfl | ⟨1, _⟩ => rfl
  have h2 : ∀ k : Fin 256, x0 (ix2 i k) = atN x0 i.val k.val := fun k => eq_atN_of x0 (ix2 i k) rfl rfl
  simp only [val_main_v22_apply, val_main_v21_apply, val_main_v20_apply, val_main_v19_apply, val_main_v18_apply, val_main_v17_apply,
    val_main_v16_apply, val_main_cst_2_apply, val_main_cst_3_apply, val_main_cst_4_apply, Ideal.addf_def, Ideal.mulf_def,
    Ideal.hostDivf_def, Ideal.ofBits_def, Ideal.ofBits_zero_f32, zero_add, div_256, h1, h2]
  rfl

theorem v23_apply (i : Fin 8192) : val_main_v23 (F := Ideal) x0 (ix2 i 0) = Ideal.rsqrt (rowV c256 epsE fun k : Fin 256 => atN x0 i.val k.val) := by
  simp only [val_main_v23_apply, Ideal.hostUnary_rsqrt_def, v22_apply]

theorem v93_apply (i : Fin 8192) (j : Fin 256) : val_main_v93 (F := Ideal) x3 x6 (ix2 i j) = atN x6 i.val j.val * at1 x3 j.val := by
  simp only [val_main_v93_apply, val_main_v92_apply, val_main_v29_apply, Ideal.mulf_def]
  rw [eq_at1_of x3 (idx_main_v29 (idx_main_v92 (ix2 i j))) rfl, eq_atN_of x6 (ix2 i j) rfl rfl]

theorem v104_apply (i : Fin 8192) (j : Fin 256) : val_main_v104 (F := Ideal) x0 x3 x6 (ix2 i j)
    = rowS c256 epsE mhalf (fun k : Fin 256 => atN x0 i.val k.val) (fun k => atN x6 i.val k.val * at1 x3 k.val) := by
  have h1 : idx_main_v103 (idx_main_v104 (ix2 i j)) 0 = ix2 i 0 := funext fun a => by match a with | ⟨0, _⟩ => rfl | ⟨1, _⟩ => rfl
  have h2 : ∀ k, idx_main_v96 (idx_main_v97 (ix2 i 0)) k = ix2 i k := fun k => funext fun a => by
    match a with | ⟨0, _⟩ => exact Fin.ext (by show i.val * 1 + 0 = i.val; omega) | ⟨1, _⟩ => rfl
  have h3 : ∀ k : Fin 256, x0 (ix2 i k) = atN x0 i.val k.val := fun k => eq_atN_of x0 (ix2 i k) rfl rfl
  simp only [val_main_v104_apply, val_main_v103_apply, val_main_cst_21_apply, Fin.sum_univ_one, h1, val_main_v102_apply, val_main_v101_apply,
    val_main_cst_20_apply, val_main_v100_apply, val_main_v97_apply, val_main_v96_apply, val_main_v95_apply, h2, h3, val_main_cst_19_apply,
    val_main_v26_apply, val_main_v25_apply, val_main_v24_apply, val_main_cst_5_apply, v22_apply, v23_apply,
    v93_apply, Ideal.mulf_def, Ideal.hostDivf_def, Ideal.ofBits_def, Ideal.ofBits_zero_f32, zero_add, div_256]
  rfl

theorem v108_apply (i : Fin 8192) (j : Fin 256) : val_main_v108 (F := Ideal) x0 x3 x6 (ix2 i j) = dxAt c256 x0 x3 x6 i.val j := by
  have h1 : idx_main_v98 (ix2 i j) = ix2 i 0 := funext fun a => by match a with | ⟨0, _⟩ => rfl | ⟨1, _⟩ => rfl
  simp only [val_main_v108_apply, val_main_v107_apply, val_main_v106_apply, val_main_v105_apply, val_main_v99_apply, val_main_v98_apply, h1,
    v23_apply, v104_apply, v93_apply, Ideal.mulf_def, Ideal.addf_def, show x0 (ix2 i j) = atN x0 i.val j.val from eq_atN_of x0 (ix2 i j) rfl rfl]
  rfl

theorem v109_apply (j : Fin 256) : val_main_v109 (F := Ideal) x0 x6 (ix2 0 j) = ∑ r ∈ Finset.range 8192, dgRow c256 x0 x6 j.val r := by
  have h1 : ∀ k : Fin 8192, idx_main_v90 (idx_main_v91 (idx_main_v94 (idx_main_v109 (ix2 0 j)) 0)) k = ix2 k j := fun k => funext fun a => by
    match a with | ⟨0, _⟩ => rfl | ⟨1, _⟩ => exact Fin.ext (by show 0 * 256 + (0 * 256 + j.val) = j.val; omega)
  have h2 : ∀ k : Fin 8192, idx_main_v27 (ix2 k j) = ix2 k 0 := fun k => funext fun a => by match a with | ⟨0, _⟩ => rfl | ⟨1, _⟩ => rfl
  have h3 : ∀ k : Fin 8192, x0 (ix2 k j) = atN x0 k.val j.val := fun k => eq_atN_of x0 (ix2 k j) rfl rfl
  have h4 : ∀ k : Fin 8192, x6 (ix2 k j) = atN x6 k.val j.val := fun k => eq_atN_of x6 (ix2 k j) rfl rfl
  simp only [val_main_v109_apply, val_main_v94_apply, val_main_v91_apply, val_main_v90_apply, val_main_v89_apply, val_main_v28_apply,
    val_main_v27_apply, Fin.sum_univ_one, h1, h2, h3, h4, val_main_cst_17_apply, val_main_cst_18_apply, v23_apply, Ideal.mulf_def,
    Ideal.ofBits_def, Ideal.ofBits_zero_f32, zero_add]
  exact sum_rows (n := 8192) (dgRow c256 x0 x6 j.val)

/-- The norm of 128 columns: its mean square and root, the coefficient, the gradients of its rows and of its weight. -/
theorem v38_apply (i : Fin 8192) : val_main_v38 (F := Ideal) x1 (ix2 i 0) = rowV c128 epsE fun k : Fin 128 => atN x1 i.val k.val := by
  have h1 : ∀ k, idx_main_v33 (idx_main_v34 (ix2 i 0)) k = ix2 i k := fun k => funext fun a => by match a with | ⟨0, _⟩ => rfl | ⟨1, _⟩ => rfl
  have h2 : ∀ k : Fin 128, x1 (ix2 i k) = atN x1 i.val k.val := fun k => eq_atN_of x1 (ix2 i k) rfl rfl
  simp only [val_main_v38_apply, val_main_v37_apply, val_main_v36_apply, val_main_v35_apply, val_main_v34_apply, val_main_v33_apply,
    val_main_v32_apply, val_main_cst_6_apply, val_main_cst_7_apply, val_main_cst_8_apply, Ideal.addf_def, Ideal.mulf_def,
    Ideal.hostDivf_def, Ideal.ofBits_def, Ideal.ofBits_zero_f32, zero_add, div_128, h1, h2]
  rfl

theorem v39_apply (i : Fin 8192) : val_main_v39 (F := Ideal) x1 (ix2 i 0) = Ideal.rsqrt (rowV c128 epsE fun k : Fin 128 => atN x1 i.val k.val) := by
  simp only [val_main_v39_apply, Ideal.hostUnary_rsqrt_def, v38_apply]

theorem v73_apply (i : Fin 8192) (j : Fin 128) : val_main_v73 (F := Ideal) x4 x7 (ix2 i j) = atN x7 i.val j.val * at1 x4 j.val := by
  simp only [val_main_v73_apply, val_main_v72_apply, val_main_v45_apply, Ideal.mulf_def]
  rw [eq_at1_of x4 (idx_main_v45 (idx_main_v72 (ix2 i j))) rfl, eq_atN_of x7 (ix2 i j) rfl rfl]

theorem v84_apply (i : Fin 8192) (j : Fin 128) : val_main_v84 (F := Ideal) x1 x4 x7 (ix2 i j)
    = rowS c128 epsE mhalf (fun k : Fin 128 => atN x1 i.val k.val) (fun k => atN x7 i.val k.val * at1 x4 k.val) := by
  have h1 : idx_main_v83 (idx_main_v84 (ix2 i j)) 0 = ix2 i 0 := funext fun a => by match a with | ⟨0, _⟩ => rfl | ⟨1, _⟩ => rfl
  have h2 : ∀ k, idx_main_v76 (idx_main_v77 (ix2 i 0)) k = ix2 i k := fun k => funext fun a => by
    match a with | ⟨0, _⟩ => exact Fin.ext (by show i.val * 1 + 0 = i.val; omega) | ⟨1, _⟩ => rfl
  have h3 : ∀ k : Fin 128, x1 (ix2 i k) = atN x1 i.val k.val := fun k => eq_atN_of x1 (ix2 i k) rfl rfl
  simp only [val_main_v84_apply, val_main_v83_apply, val_main_cst_16_apply, Fin.sum_univ_one, h1, val_main_v82_apply, val_main_v81_apply,
    val_main_cst_15_apply, val_main_v80_apply, val_main_v77_apply, val_main_v76_apply, val_main_v75_apply, h2, h3, val_main_cst_14_apply,
    val_main_v42_apply, val_main_v41_apply, val_main_v40_apply, val_main_cst_9_apply, v38_apply, v39_apply,
    v73_apply, Ideal.mulf_def, Ideal.hostDivf_def, Ideal.ofBits_def, Ideal.ofBits_zero_f32, zero_add, div_128]
  rfl

theorem v88_apply (i : Fin 8192) (j : Fin 128) : val_main_v88 (F := Ideal) x1 x4 x7 (ix2 i j) = dxAt c128 x1 x4 x7 i.val j := by
  have h1 : idx_main_v78 (ix2 i j) = ix2 i 0 := funext fun a => by match a with | ⟨0, _⟩ => rfl | ⟨1, _⟩ => rfl
  simp only [val_main_v88_apply, val_main_v87_apply, val_main_v86_apply, val_main_v85_apply, val_main_v79_apply, val_main_v78_apply, h1,
    v39_apply, v84_apply, v73_apply, Ideal.mulf_def, Ideal.addf_def, show x1 (ix2 i j) = atN x1 i.val j.val from eq_atN_of x1 (ix2 i j) rfl rfl]
  rfl

theorem v110_apply (j : Fin 128) : val_main_v110 (F := Ideal) x1 x7 (ix2 0 j) = ∑ r ∈ Finset.range 8192, dgRow c128 x1 x7 j.val r := by
  have h1 : ∀ k : Fin 8192, idx_main_v70 (idx_main_v71 (idx_main_v74 (idx_main_v110 (ix2 0 j)) 0)) k = ix2 k j := fun k => funext fun a => by
    match a with | ⟨0, _⟩ => rfl | ⟨1, _⟩ => exact Fin.ext (by show 0 * 128 + (0 * 128 + j.val) = j.val; omega)
  have h2 : ∀ k : Fin 8192, idx_main_v43 (ix2 k j) = ix2 k 0 := fun k => funext fun a => by match a with | ⟨0, _⟩ => rfl | ⟨1, _⟩ => rfl
  have h3 : ∀ k : Fin 8192, x1 (ix2 k j) = atN x1 k.val j.val := fun k => eq_atN_of x1 (ix2 k j) rfl rfl
  have h4 : ∀ k : Fin 8192, x7 (ix2 k j) = atN x7 k.val j.val := fun k => eq_atN_of x7 (ix2 k j) rfl rfl
  simp only [val_main_v110_apply, val_main_v74_apply, val_main_v71_apply, val_main_v70_apply, val_main_v69_apply, val_main_v44_apply,
    val_main_v43_apply, Fin.sum_univ_one, h1, h2, h3, h4, val_main_cst_12_apply, val_main_cst_13_apply, v39_apply, Ideal.mulf_def,
    Ideal.ofBits_def, Ideal.ofBits_zero_f32, zero_add]
  exact sum_rows (n := 8192) (dgRow c128 x1 x7 j.val)

/-- The gradient of the turned columns. -/
theorem v68_at (r j : ℕ) : atN (val_main_v68 (F := Ideal) x5 x8 : FVec Ideal S8192x32 .f32) r j
    = if j < 32 then dkAt x8 (val_main_v14 (F := Ideal) x5) (val_main_v15 (F := Ideal) x5) r j else 0 := by
  split_ifs with hj
  · have cst0 : ∀ i : S_.Idx, (constant (F := Ideal) S_ .f32 0x00000000#32 i : EReal) = 0 := fun _ => Ideal.ofBits_zero_f32
    have h57 : ∀ j, j < 16 → atN (val_main_v57 (F := Ideal) x8 : FVec Ideal S8192x16 .f32) r j = atN x8 r j := fun j h =>
      (atN_cslice (o := 0) (n := 16) x8 slices_S8192x32_S8192x16_0_0 r j h).trans (by rw [Nat.zero_add])
    have h58 : ∀ j, j < 16 → atN (val_main_v58 (F := Ideal) x8 : FVec Ideal S8192x16 .f32) r j = atN x8 r (16 + j) := fun j h =>
      atN_cslice (o := 16) (n := 16) x8 slices_S8192x32_S8192x16_0_16 r j h
    have e1 : atN (val_main_v66 (F := Ideal) x5 x8 : FVec Ideal S8192x32 .f32) r j = if j < 16 then 0 else atN (val_main_v63 (F := Ideal) x5 x8 : FVec Ideal S8192x16 .f32) r (j - 16) :=
      atN_cpad (k := 16) (N := 32) (l := 16) (g := 0) (val_main_v63 (F := Ideal) x5 x8) (val_main_cst_10 (F := Ideal)) pads_S8192x16_S8192x32_000_1600 h_S_ cst0 (by omega) r j
    have e2 : atN (val_main_v67 (F := Ideal) x5 x8 : FVec Ideal S8192x32 .f32) r j = if j < 0 then 0 else atN (val_main_v65 (F := Ideal) x5 x8 : FVec Ideal S8192x16 .f32) r (j - 0) :=
      atN_cpad (k := 16) (N := 32) (l := 0) (g := 16) (val_main_v65 (F := Ideal) x5 x8) (val_main_cst_11 (F := Ideal)) pads_S8192x16_S8192x32_000_0160 h_S_ cst0 (by omega) r j
    refine (atN_addf (val_main_v66 (F := Ideal) x5 x8) (val_main_v67 (F := Ideal) x5 x8) r j).trans ?_
    rw [e1, e2, if_neg (Nat.not_lt_zero j), Nat.sub_zero]
    unfold dkAt
    split_ifs with h1
    · rw [zero_add]
      refine (atN_addf (val_main_v59 (F := Ideal) x5 x8) (val_main_v64 (F := Ideal) x5 x8) r j).trans ?_
      rw [add_comm]
      exact congrArg₂ (· + ·) ((atN_mulf (val_main_v57 (F := Ideal) x8) (val_main_v14 (F := Ideal) x5) r j).trans (by rw [h57 j h1]))
        ((atN_mulf (val_main_v58 (F := Ideal) x8) (val_main_v15 (F := Ideal) x5) r j).trans (by rw [h58 j h1]))
    · rw [atN_col (val_main_v65 (F := Ideal) x5 x8 : FVec Ideal S8192x16 .f32) (by omega), add_zero]
      refine (atN_addf (val_main_v60 (F := Ideal) x5 x8) (val_main_v62 (F := Ideal) x5 x8) r (j - 16)).trans (congrArg₂ (· + ·) ?_ ?_)
      · refine (atN_mulf (val_main_v58 (F := Ideal) x8) (val_main_v14 (F := Ideal) x5) r (j - 16)).trans ?_
        rw [h58 _ (by omega), show 16 + (j - 16) = j by omega]
      · refine (atN_mulf (val_main_v61 (F := Ideal) x8) (val_main_v15 (F := Ideal) x5) r (j - 16)).trans (congrArg (· * _) ?_)
        exact (atN_negf (val_main_v57 (F := Ideal) x8) r (j - 16)).trans (congrArg Neg.neg (h57 _ (by omega)))
  · exact atN_col _ (by omega)

end Cert.PrepRefIdeal.Own
end
-- ==== Proof.PrepTile.lean ====
/-
  One tile of the gradient of the norms and rotary positions between the attention's two products (`mla_prep_bwd`): what a grid
  point leaves in each of its windows, and the entries of it over the extended reals.
-/
module

public import proofs.«01_k».proof.Proof.PrepRef
public import proofs.«01_k».proof.Proof.Gen.PrepBwdIdeal.Run
public import Idealize.ShloMosaic.Lib.Tactic

@[expose] public section

set_option maxRecDepth 16384

noncomputable section

open Idealize.ShloMosaic Idealize.ShloMosaic.TcCoe Idealize.SL.Sem Idealize.ShloMosaic.ValueIdx

namespace Cert.PrepBwdIdeal.Own

open Cert.PrepBwdIdeal Cert.PrepBwdIdeal.Gen Cert.Own Cert.Prep

section anyF
variable {F : FTy → Type} [FloatOps F]
variable (c : Dev nD) (i : grid0.Coords) (a1 : Memref sig .tc .vmem S256x640 .f32) (h1 : a1.IsWhole) (a2 : Memref sig .tc .vmem S256x128 .f32) (h2 : a2.IsWhole)
  (a3 : Memref sig .tc .vmem S256x128 .f32) (h3 : a3.IsWhole) (a4 : Memref sig .tc .vmem S1x256 .f32) (h4 : a4.IsWhole)
  (a5 : Memref sig .tc .vmem S1x128 .f32) (h5 : a5.IsWhole) (a6 : Memref sig .tc .vmem S256x256 .f32) (h6 : a6.IsWhole)
  (a7 : Memref sig .tc .vmem S256x256 .f32) (h7 : a7.IsWhole) (a8 : Memref sig .tc .vmem S256x640 .bf16) (h8 : a8.IsWhole)
  (a9 : Memref sig .tc .vmem S1x256 .f32) (h9 : a9.IsWhole) (a10 : Memref sig .tc .vmem S1x128 .f32) (h10 : a10.IsWhole)
  (x0 : Vec F S256x640 .f32) (x1 x2 : Vec F S256x128 .f32) (x3 : Vec F S1x256 .f32) (x4 : Vec F S1x128 .f32) (x5 x6 : Vec F S256x256 .f32)
  (xo8 : Vec F S1x256 .f32) (xo9 : Vec F S1x128 .f32)

/-- The tile without the first norm's columns. -/
abbrev rest : FVec F S256x640 .f32 := k0_pay23 (k0_pay7 x1) (k0_pay8 x2) (k0_pay10 x4) (k0_pay11 x6) (k0_pay17 x0) (k0_pay19 x0) (k0_pay20 x0)
  (Scalar.ofBits .f32 0xBF000000#32)

/-- The tile of the joined gradient. -/
abbrev dU : FVec F S256x640 .bf16 := k0_pay1 (k0_pay12 x0) (rest x0 x1 x2 x4 x6) (k0_pay26 (k0_pay9 x3) x5 (k0_pay14 x0))
  (k0_pay27 (k0_pay9 x3) x5 (k0_pay12 x0) (k0_pay15 x0))

/-! What a point leaves in each window, at the first tile (`A`) and at the others (`B`). -/

theorem out7_A (hc : cond0_0 i) : out0_A_7 c i a1 h1 a2 h2 a3 h3 a4 h4 a5 h5 a6 h6 a7 h7 a8 h8 a9 h9 a10 h10 hc
    x0 x1 x2 x3 x4 x5 x6 = dU x0 x1 x2 x3 x4 x5 x6 := by
  unfold out0_A_7
  refine Eq.trans (View.read_writes_eq_canon _ _ _ fun _ => cover0_A_7 ..) ?_
  unfold kernelRun0_A
  dsimp only
  sl_unfold_words
  simp only [canon2, cov2, View.readAt_eq_ld, Memref.IsWhole.read_unread, ld2, *]

theorem out7_B (hc : ¬cond0_0 i) : out0_B_7 c i a1 h1 a2 h2 a3 h3 a4 h4 a5 h5 a6 h6 a7 h7 a8 h8 a9 h9 a10 h10 hc
    x0 x1 x2 x3 x4 x5 x6 xo8 xo9 = dU x0 x1 x2 x3 x4 x5 x6 := by
  unfold out0_B_7
  refine Eq.trans (View.read_writes_eq_canon _ _ _ fun _ => cover0_B_7 ..) ?_
  unfold kernelRun0_B
  dsimp only
  sl_unfold_words
  simp only [canon2, cov2, View.readAt_eq_ld, Memref.IsWhole.read_unread, ld2, *]

theorem out8_A (hc : cond0_0 i) : out0_A_8 c i a1 h1 a2 h2 a3 h3 a4 h4 a5 h5 a6 h6 a7 h7 a8 h8 a9 h9 a10 h10 hc
    x0 x1 x2 x3 x4 x5 x6 = k0_pay4 (k0_pay24 x5 (k0_pay16 x0)) k0_pay2 := by
  unfold out0_A_8
  refine Eq.trans (View.read_writes_eq_canon _ _ _ fun _ => cover0_A_8 ..) ?_
  unfold kernelRun0_A
  dsimp only
  sl_unfold_words
  simp only [canon2, cov2, View.readAt_eq_ld, Memref.IsWhole.read_unread, ld2, *]

theorem out8_B (hc : ¬cond0_0 i) : out0_B_8 c i a1 h1 a2 h2 a3 h3 a4 h4 a5 h5 a6 h6 a7 h7 a8 h8 a9 h9 a10 h10 hc
    x0 x1 x2 x3 x4 x5 x6 xo8 xo9 = k0_pay4 (k0_pay24 x5 (k0_pay16 x0)) xo8 := by
  unfold out0_B_8
  refine Eq.trans (View.read_writes_eq_canon _ _ _ fun _ => cover0_B_8 ..) ?_
  unfold kernelRun0_B
  dsimp only
  sl_unfold_words
  simp only [canon2, cov2, View.readAt_eq_ld, Memref.IsWhole.read_unread, ld2, *]

theorem out9_A (hc : cond0_0 i) : out0_A_9 c i a1 h1 a2 h2 a3 h3 a4 h4 a5 h5 a6 h6 a7 h7 a8 h8 a9 h9 a10 h10 hc
    x0 x1 x2 x3 x4 x5 x6 = k0_pay5 (k0_pay22 (k0_pay11 x6) (k0_pay17 x0) (k0_pay19 x0)) k0_pay3 := by
  unfold out0_A_9
  refine Eq.trans (View.read_writes_eq_canon _ _ _ fun _ => cover0_A_9 ..) ?_
  unfold kernelRun0_A
  dsimp only
  sl_unfold_words
  simp only [canon2, cov2, View.readAt_eq_ld, Memref.IsWhole.read_unread, ld2, *]

theorem out9_B (hc : ¬cond0_0 i) : out0_B_9 c i a1 h1 a2 h2 a3 h3 a4 h4 a5 h5 a6 h6 a7 h7 a8 h8 a9 h9 a10 h10 hc
    x0 x1 x2 x3 x4 x5 x6 xo8 xo9 = k0_pay5 (k0_pay22 (k0_pay11 x6) (k0_pay17 x0) (k0_pay19 x0)) xo9 := by
  unfold out0_B_9
  refine Eq.trans (View.read_writes_eq_canon _ _ _ fun _ => cover0_B_9 ..) ?_
  unfold kernelRun0_B
  dsimp only
  sl_unfold_words
  simp only [canon2, cov2, View.readAt_eq_ld, Memref.IsWhole.read_unread, ld2, *]

end anyF

/-! ## Over the extended reals -/

section tile
variable (x0 : Vec Ideal S256x640 .f32) (x1 x2 : Vec Ideal S256x128 .f32) (x3 : Vec Ideal S1x256 .f32) (x4 : Vec Ideal S1x128 .f32)
  (x5 x6 : Vec Ideal S256x256 .f32)

/-- The two norms' columns and the second's incoming gradient. -/
theorem pay12_apply (i j : Fin 256) : k0_pay12 x0 (ix2 i j) = atN x0 i.val j.val := by
  unfold k0_pay12 k0_pay6
  rw [shapeCast_self]
  exact (atN_pos _ i.isLt j.isLt).symm.trans ((atN_cslice (o := 0) (n := 256) x0 _ _ _ j.isLt).trans (by rw [Nat.zero_add]))

theorem pay17_apply (i : Fin 256) (j : Fin 128) : k0_pay17 x0 (ix2 i j) = atN x0 i.val (256 + j.val) := by
  unfold k0_pay17 k0_pay6
  rw [shapeCast_self]
  exact (atN_pos _ i.isLt j.isLt).symm.trans (atN_cslice (o := 256) (n := 128) x0 _ _ _ j.isLt)

theorem pay21_apply (i : Fin 256) (j : Fin 128) : k0_pay21 (k0_pay11 x6) (ix2 i j) = atN x6 i.val j.val := by
  unfold k0_pay21 k0_pay11
  rw [shapeCast_self]
  exact (atN_pos _ i.isLt j.isLt).symm.trans ((atN_cslice (o := 0) (n := 128) x6 _ _ _ j.isLt).trans (by rw [Nat.zero_add]))

/-- The two norms' rows. -/
theorem pay13_apply (i : Fin 256) : k0_pay13 x0 (ix2 i 0) = rowV c256 epsE fun k : Fin 256 => atN x0 i.val k.val := by
  unfold k0_pay13
  simp only [addf_apply, mulf_apply, broadcast_apply, col_apply, multiReduction, Ideal.reduceAdd_def, red_row, pay12_apply]
  rfl

theorem pay18_apply (i : Fin 256) : k0_pay18 x0 (ix2 i 0) = rowV c128 epsE fun k : Fin 128 => atN x0 i.val (256 + k.val) := by
  unfold k0_pay18
  simp only [addf_apply, mulf_apply, broadcast_apply, col_apply, multiReduction, Ideal.reduceAdd_def, red_row, pay17_apply]
  rfl

/-- One more tile in the norm weights' gradients. -/
theorem dgq_apply (xo : Vec Ideal S1x256 .f32) (j : Fin 256) : k0_pay4 (k0_pay24 x5 (k0_pay16 x0)) xo (ix2 0 j)
    = xo (ix2 0 j) + ∑ i : Fin 256, atN x0 i.val j.val * Ideal.rsqrt (rowV c256 epsE fun k : Fin 256 => atN x0 i.val k.val) * x5 (ix2 i j) := by
  unfold k0_pay4 k0_pay24 k0_pay16 k0_pay14
  simp only [addf_apply, mulf_apply, shapeCast_self, shapeCast_a_1a_apply, multiReduction, Ideal.reduceAdd_def, red_col, bcast_col,
    rsqrt_apply, pay13_apply, pay12_apply]

theorem dgkv_apply (xo : Vec Ideal S1x128 .f32) (j : Fin 128) : k0_pay5 (k0_pay22 (k0_pay11 x6) (k0_pay17 x0) (k0_pay19 x0)) xo (ix2 0 j)
    = xo (ix2 0 j) + ∑ i : Fin 256, atN x0 i.val (256 + j.val) * Ideal.rsqrt (rowV c128 epsE fun k : Fin 128 => atN x0 i.val (256 + k.val)) * atN x6 i.val j.val := by
  unfold k0_pay5 k0_pay22 k0_pay19
  simp only [addf_apply, mulf_apply, shapeCast_self, shapeCast_a_1a_apply, multiReduction, Ideal.reduceAdd_def, red_col, bcast_col,
    rsqrt_apply, pay18_apply, pay17_apply, pay21_apply]

/-- Columns of the float zero. -/
theorem zeros_at {n k : ℕ} (r j : ℕ) : atN (broadcast (⟨2, ![n, k]⟩ : Shape) (Ideal.ofBits .f32 0x00000000#32) : FVec Ideal ⟨2, ![n, k]⟩ .f32) r j = 0 := by
  unfold atN; split
  · exact Ideal.ofBits_zero_f32
  · rfl

/-- The stretch of the incoming gradient that belongs to the turned columns. -/
def rotT : FVec Ideal S256x128 .f32 := extractStridedSlice S256x128 ![0, 128] (k0_pay11 x6) slices_S256x256_o0_128_S256x128

theorem rot_at (r : ℕ) {j : ℕ} (hj : j < 128) : atN (rotT x6) r j = atN x6 r (128 + j) := by
  unfold rotT k0_pay11
  rw [shapeCast_self]
  exact atN_cslice (o := 128) (n := 128) x6 _ _ _ hj

/-- The second norm's columns. -/
def ckvT : FVec Ideal S256x128 .f32 :=
  have u : FVec Ideal S256x128 .f32 := mulf (k0_pay21 (k0_pay11 x6)) (broadcastTo S256x128 (k0_pay10 x4) broadcasts_S1x128_S256x128)
  have s : FVec Ideal S256x128 .f32 := broadcastTo S256x128 (shapeCast S256x1 (multiReduction .add [1] S256 (mulf (mulf (shapeCast S256x1
    (multiReduction .add [1] S256 (mulf (k0_pay17 x0) u) 0x00000000#32 reduces_S256x128_S256 (.inl rfl) rfl) shapeCasts_S256_S256x1)
    (mulf (broadcast S256x1 (Scalar.ofBits .f32 0xBF000000#32)) (k0_pay20 x0))) (broadcast S256x1 (Scalar.ofBits .f32 0x3C000000#32)))
    0x00000000#32 reduces_S256x1_S256 (.inl rfl) rfl) shapeCasts_S256_S256x1) broadcasts_S256x1_S256x128
  addf (addf (mulf u (broadcastTo S256x128 (k0_pay19 x0) broadcasts_S256x1_S256x128)) (mulf (k0_pay17 x0) s)) (mulf s (k0_pay17 x0))

theorem ckvT_apply (i : Fin 256) (j : Fin 128) : ckvT x0 x4 x6 (ix2 i j)
    = rowDx c128 epsE mhalf (fun k : Fin 128 => atN x0 i.val (256 + k.val)) (fun k => atN x6 i.val k.val * x4 (ix2 0 k)) j := by
  unfold ckvT k0_pay20 k0_pay19 k0_pay10
  simp only [addf_apply, mulf_apply, divf_apply, broadcast_apply, bcast_col, col_apply, multiReduction, Ideal.reduceAdd_def, red_row,
    Fin.sum_univ_one, rsqrt_apply, pay18_apply, pay17_apply, pay21_apply, shapeCast_self, broadcastTo_1b_ab_apply]
  rfl

/-- The second norm's columns and the two copies of the turned columns, zeros elsewhere. -/
theorem rest_at (i : Fin 256) (j : ℕ) : atN (rest x0 x1 x2 x4 x6 : FVec Ideal S256x640 .f32) i.val j
    = if j < 256 then 0 else if h : j < 384 then
        rowDx c128 epsE mhalf (fun k : Fin 128 => atN x0 i.val (256 + k.val)) (fun k => atN x6 i.val k.val * x4 (ix2 0 k)) ⟨j - 256, by omega⟩
      else if j < 512 then atN x6 i.val (128 + (j - 384)) * atN x1 i.val (j - 384)
      else atN x6 i.val (128 + (j - 512)) * atN x2 i.val (j - 512) := by
  have hd : atN (k0_pay23 (k0_pay7 x1) (k0_pay8 x2) (k0_pay10 x4) (k0_pay11 x6) (k0_pay17 x0) (k0_pay19 x0) (k0_pay20 x0)
      (Scalar.ofBits (F := Ideal) .f32 0xBF000000#32) : FVec Ideal S256x640 .f32) i.val j
    = ((if j < 512 then 0 else atN (mulf (rotT x6) (k0_pay8 x2)) i.val (j - 512))
        + if j < 512 then (if j < 384 then 0 else atN (mulf (rotT x6) (k0_pay7 x1)) i.val (j - 384)) else 0)
      + if j < 384 then (if j < 256 then 0 else atN (ckvT x0 x4 x6) i.val (j - 256)) else 0 := by
    unfold k0_pay23
    refine (atN_addf _ _ _ _).trans (congrArg₂ (· + ·) ((atN_addf _ _ _ _).trans (congrArg₂ (· + ·) ?_ ?_)) ?_)
    · refine (atN_beside (n := 256) (k₁ := 512) (k₂ := 128) (k := 640) _ _ _ rfl i.val j).trans ?_
      split_ifs
      · exact zeros_at _ _
      · rfl
    · refine (atN_beside (n := 256) (k₁ := 512) (k₂ := 128) (k := 640) _ _ _ rfl i.val j).trans ?_
      split_ifs
      · refine (atN_beside (n := 256) (k₁ := 384) (k₂ := 128) (k := 512) _ _ _ rfl i.val j).trans ?_
        rw [if_pos ‹_›]; exact zeros_at _ _
      · refine (atN_beside (n := 256) (k₁ := 384) (k₂ := 128) (k := 512) _ _ _ rfl i.val j).trans ?_
        rw [if_neg ‹_›]; rfl
      · exact zeros_at _ _
    · refine (atN_beside (n := 256) (k₁ := 384) (k₂ := 256) (k := 640) _ _ _ rfl i.val j).trans ?_
      split_ifs
      · refine (atN_beside (n := 256) (k₁ := 256) (k₂ := 128) (k := 384) _ _ _ rfl i.val j).trans ?_
        rw [if_pos ‹_›]; exact zeros_at _ _
      · refine (atN_beside (n := 256) (k₁ := 256) (k₂ := 128) (k := 384) _ _ _ rfl i.val j).trans ?_
        rw [if_neg ‹_›]; rfl
      · exact zeros_at _ _
  refine hd.trans ?_
  rw [atN_mulf, atN_mulf]
  by_cases h1 : j < 256
  · simp only [h1, show j < 384 by omega, show j < 512 by omega, if_true, add_zero]
  by_cases h2 : j < 384
  · simp only [h1, h2, show j < 512 by omega, if_true, if_false, add_zero, zero_add, dif_pos]
    rw [atN_pos _ i.isLt (by omega : j - 256 < 128)]
    exact ckvT_apply x0 x4 x6 i ⟨j - 256, by omega⟩
  by_cases h3 : j < 512
  · simp only [h1, h2, h3, if_true, if_false, add_zero, zero_add, dif_neg, not_false_eq_true]
    exact congrArg₂ (· * ·) (rot_at x6 i.val (by omega)) (congrArg (fun y : FVec Ideal S256x128 .f32 => atN y i.val (j - 384)) (shapeCast_self x1 _))
  · simp only [h1, h2, h3, if_false, add_zero, dif_neg, not_false_eq_true]
    by_cases h4 : j - 512 < 128
    · exact congrArg₂ (· * ·) (rot_at x6 i.val h4) (congrArg (fun y : FVec Ideal S256x128 .f32 => atN y i.val (j - 512)) (shapeCast_self x2 _))
    · rw [atN_col _ (by omega : 128 ≤ j - 512), atN_col x2 (by omega : 128 ≤ j - 512), zero_mul, mul_zero]

/-- The tile of the joined gradient. -/
theorem dU_at (i : Fin 256) (j : Fin 640) : dU x0 x1 x2 x3 x4 x5 x6 (ix2 i j)
    = if h : j.val < 256 then rowDx c256 epsE mhalf (fun k : Fin 256 => atN x0 i.val k.val) (fun k => x5 (ix2 i k) * x3 (ix2 0 k)) ⟨j.val, h⟩
      else atN (rest x0 x1 x2 x4 x6 : FVec Ideal S256x640 .f32) i.val j.val := by
  have h0 := rest_at x0 x1 x2 x4 x6 i j.val
  unfold dU k0_pay1
  rw [truncf_apply]
  refine (atN_pos (addf (rest x0 x1 x2 x4 x6) (concatenate S256x640 1 _ _) : FVec Ideal S256x640 .f32) i.isLt j.isLt).symm.trans ?_
  refine (atN_addf _ _ _ _).trans ?_
  refine (congrArg (_ + ·) (atN_beside (n := 256) (k₁ := 256) (k₂ := 384) (k := 640) _ _ _ rfl i.val j.val)).trans ?_
  split_ifs with h
  · rw [h0, if_pos h, zero_add, atN_pos _ i.isLt h]
    unfold k0_pay26 k0_pay27 k0_pay25 k0_pay15 k0_pay14 k0_pay9
    simp only [addf_apply, mulf_apply, divf_apply, broadcast_apply, bcast_col, col_apply, multiReduction, Ideal.reduceAdd_def, red_row,
      Fin.sum_univ_one, rsqrt_apply, pay13_apply, pay12_apply, shapeCast_self, broadcastTo_1b_ab_apply]
    rfl
  · rw [show atN (broadcast S256x384 (Scalar.ofBits .f32 0x00000000#32 : Ideal .f32) : FVec Ideal S256x384 .f32) i.val (j.val - 256) = 0 from zeros_at _ _, add_zero]

end tile

end Cert.PrepBwdIdeal.Own
end
-- ==== Proof.Prep.lean ====
/-
  The gradient of the norms and rotary positions between the attention's two products (`mla_prep_bwd`): the queries' and the
  latent's row norms and the shared key's turned columns, read from and written to packed columns.
-/
module

public import proofs.«01_k».proof.Proof.At3
public import proofs.«01_k».proof.Proof.PrepTile
public import proofs.«01_k».proof.Defs
public import proofs.«01_k».proof.Proof.Gen.PrepBwdIdeal.Read

@[expose] public section

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.Own

/-- One of several matrices set side by side, `pre` columns standing before it. -/
theorem atN_piece {a n N : ℕ} (xs : List ((s : Shape) × (s.Idx → EReal))) (h : Shape.Concatenates (xs.map (·.1)) ⟨2, ![a, N]⟩ 1)
    (k : ℕ) (hk : k < xs.length) (x : (⟨2, ![a, n]⟩ : Shape).Idx → EReal) (hx : xs[k] = ⟨⟨2, ![a, n]⟩, x⟩) (pre : ℕ)
    (hpre : (((xs.take k).map (·.1)).map fun s => if h : s.rank = (⟨2, ![a, N]⟩ : Shape).rank then s.size ((1 : Fin 2).cast h.symm) else 0).sum = pre)
    {r j : ℕ} (hr : r < a) (hj : j < n) (hb : pre + j < N) : atN (concatenate ⟨2, ![a, N]⟩ 1 xs h) r (pre + j) = atN x r j := by
  rw [atN_pos _ hr hb, atN_pos x hr hj]
  exact concatenate_apply_piece (a := 1) xs h _ k hk _ x hx rfl pre hpre (ix2 ⟨r, hr⟩ ⟨j, hj⟩) (fun c hc => by
    match c with
    | ⟨0, _⟩ => rfl
    | ⟨1, _⟩ => exact absurd rfl hc) rfl

end Cert.Own

namespace Cert.PrepBwdIdeal.Own

open Cert.PrepBwdIdeal Cert.PrepBwdIdeal.Gen Cert.Own Cert.Prep

/-! ## The call's arrays -/

/-- The angles of the positions, their cosines and sines, and the two tables of 128 columns. -/
def ang (p : (⟨S8192, .i32⟩ : BufTy).Contents (Elt Ideal)) : FVec Ideal S8192x16 .f32 :=
  mulf (broadcastInDim S8192x16 ![0, 1] bcast_S8192x1_S8192x16_0_1 (broadcastInDim S8192x1 ![0] bcast_S8192_S8192x1_0 (sitofp (F := Ideal) .f32 p)))
    (broadcastInDim S8192x16 ![0, 1] bcast_S1x16_S8192x16_0_1 (broadcastInDim S1x16 ![1] bcast_S16_S1x16_1
      (Host.powf (broadcastInDim S16 ![] bcast_S_S16 (constant S_ .f32 0x461C4000#32)) (Host.divf (mulf (Host.negf (sitofp (F := Ideal) .f32 (iotaInDim S16 32 0)))
        (broadcastInDim S16 ![] bcast_S_S16 (constant S_ .f32 0x40000000#32))) (broadcastInDim S16 ![] bcast_S_S16 (constant S_ .f32 0x42000000#32))))))
def cosA (p : (⟨S8192, .i32⟩ : BufTy).Contents (Elt Ideal)) : FVec Ideal S8192x16 .f32 := Host.cos (ang p)
def sinA (p : (⟨S8192, .i32⟩ : BufTy).Contents (Elt Ideal)) : FVec Ideal S8192x16 .f32 := Host.sin (ang p)
/-- Columns of zeros. -/
def z96 : FVec Ideal S8192x96 .f32 := broadcastInDim S8192x96 ![] bcast_S_S8192x96 (constant S_ .f32 0x00000000#32)
def tab (x y : FVec Ideal S8192x16 .f32) : FVec Ideal S8192x128 .f32 :=
  concatenate S8192x128 1 [⟨S8192x16, x⟩, ⟨S8192x16, y⟩, ⟨S8192x96, z96⟩] concatenates_S8192x16_S8192x16_S8192x96_S8192x128_d1
/-- The packed columns and the packed incoming gradient. -/
def uA (q : FVec Ideal S8192x256 .f32) (l : FVec Ideal S8192x128 .f32) (k : FVec Ideal S8192x32 .f32) : FVec Ideal S8192x640 .f32 :=
  concatenate S8192x640 1 [⟨S8192x256, q⟩, ⟨S8192x128, l⟩, ⟨S8192x32, k⟩, ⟨S8192x96, z96⟩,
    ⟨S8192x32, concatenate S8192x32 1 [⟨S8192x16, extractStridedSlice S8192x16 ![0, 16] k slices_S8192x32_S8192x16_0_16⟩,
      ⟨S8192x16, extractStridedSlice S8192x16 ![0, 0] k slices_S8192x32_S8192x16_0_0⟩] concatenates_S8192x16_S8192x16_S8192x32_d1⟩,
    ⟨S8192x96, z96⟩] concatenates_S8192x256_S8192x128_S8192x32_S8192x96_S8192x32_S8192x96_S8192x640_d1
def dA (l : FVec Ideal S8192x128 .f32) (k : FVec Ideal S8192x32 .f32) : FVec Ideal S8192x256 .f32 :=
  concatenate S8192x256 1 [⟨S8192x128, l⟩, ⟨S8192x32, k⟩, ⟨S8192x96, z96⟩] concatenates_S8192x128_S8192x32_S8192x96_S8192x256_d1

section arrays
variable (m : (ℓ : Loc nD τ sig) → Buf (Elt Ideal) ℓ) (c : Dev nD)

set_option maxHeartbeats 40000000

/-- The host's lines leave these arrays for the call. -/
theorem V_ck : (V m c main_v17 : FVec Ideal S8192x128 .f32) = tab (cosA (m ((c.tc : Thread nD τ).loc main_arg5))) (cosA (m ((c.tc : Thread nD τ).loc main_arg5))) := by
  unfold V V0 hostOps0
  after_results_simp <;> rfl

theorem V_sk : (V m c main_v20 : FVec Ideal S8192x128 .f32) = tab (Host.negf (sinA (m ((c.tc : Thread nD τ).loc main_arg5)))) (sinA (m ((c.tc : Thread nD τ).loc main_arg5))) := by
  unfold V V0 hostOps0
  after_results_simp <;> rfl

theorem V_u : (V m c main_v36 : FVec Ideal S8192x640 .f32) = uA (m ((c.tc : Thread nD τ).loc main_arg0)) (m ((c.tc : Thread nD τ).loc main_arg1)) (m ((c.tc : Thread nD τ).loc main_arg2)) := by
  unfold V V0 hostOps0
  after_results_simp <;> rfl

theorem V_d : (V m c main_v37 : FVec Ideal S8192x256 .f32) = dA (m ((c.tc : Thread nD τ).loc main_arg7)) (m ((c.tc : Thread nD τ).loc main_arg8)) := by
  unfold V V0 hostOps0
  after_results_simp <;> rfl

theorem V_gq : (V m c main_v38 : FVec Ideal S1x256 .f32) = shapeCast S1x256 (m ((c.tc : Thread nD τ).loc main_arg3)) shapeCasts_S256_S1x256 := by
  unfold V V0 hostOps0
  after_results_simp <;> rfl

theorem V_gk : (V m c main_v39 : FVec Ideal S1x128 .f32) = shapeCast S1x128 (m ((c.tc : Thread nD τ).loc main_arg4)) shapeCasts_S128_S1x128 := by
  unfold V V0 hostOps0
  after_results_simp <;> rfl

end arrays

/-- The pieces of the packed arrays. -/
theorem tab_lo (x y : FVec Ideal S8192x16 .f32) {r j : ℕ} (hr : r < 8192) (hj : j < 16) : atN (tab x y) r j = atN x r j := by
  refine Eq.trans (by rw [Nat.zero_add]; rfl) (atN_piece (n := 16) (N := 128) [⟨S8192x16, x⟩, ⟨S8192x16, y⟩, ⟨S8192x96, z96⟩]
    concatenates_S8192x16_S8192x16_S8192x96_S8192x128_d1 0 (by show 0 < 3; decide) x rfl 0 rfl hr hj (by omega))
theorem tab_hi (x y : FVec Ideal S8192x16 .f32) {r j : ℕ} (hr : r < 8192) (hj : j < 16) : atN (tab x y) r (16 + j) = atN y r j :=
  atN_piece (n := 16) (N := 128) [⟨S8192x16, x⟩, ⟨S8192x16, y⟩, ⟨S8192x96, z96⟩]
    concatenates_S8192x16_S8192x16_S8192x96_S8192x128_d1 1 (by show 1 < 3; decide) y rfl 16 rfl hr hj (by omega)
theorem dA_lo (l : FVec Ideal S8192x128 .f32) (k : FVec Ideal S8192x32 .f32) {r j : ℕ} (hr : r < 8192) (hj : j < 128) : atN (dA l k) r j = atN l r j := by
  refine Eq.trans (by rw [Nat.zero_add]; rfl) (atN_piece (n := 128) (N := 256) [⟨S8192x128, l⟩, ⟨S8192x32, k⟩, ⟨S8192x96, z96⟩]
    concatenates_S8192x128_S8192x32_S8192x96_S8192x256_d1 0 (by show 0 < 3; decide) l rfl 0 rfl hr hj (by omega))
theorem dA_hi (l : FVec Ideal S8192x128 .f32) (k : FVec Ideal S8192x32 .f32) {r j : ℕ} (hr : r < 8192) (hj : j < 32) : atN (dA l k) r (128 + j) = atN k r j :=
  atN_piece (n := 32) (N := 256) [⟨S8192x128, l⟩, ⟨S8192x32, k⟩, ⟨S8192x96, z96⟩]
    concatenates_S8192x128_S8192x32_S8192x96_S8192x256_d1 1 (by show 1 < 3; decide) k rfl 128 rfl hr hj (by omega)
theorem uA_lo (q : FVec Ideal S8192x256 .f32) (l : FVec Ideal S8192x128 .f32) (k : FVec Ideal S8192x32 .f32) {r j : ℕ} (hr : r < 8192) (hj : j < 256) :
    atN (uA q l k) r j = atN q r j := by
  unfold uA
  refine Eq.trans (by rw [Nat.zero_add]) (atN_piece (n := 256) (N := 640) _ _ 0 (by show 0 < 6; decide) q rfl 0 rfl hr hj (by omega))
theorem uA_hi (q : FVec Ideal S8192x256 .f32) (l : FVec Ideal S8192x128 .f32) (k : FVec Ideal S8192x32 .f32) {r j : ℕ} (hr : r < 8192) (hj : j < 128) :
    atN (uA q l k) r (256 + j) = atN l r j := by
  unfold uA
  exact atN_piece (n := 128) (N := 640) _ _ 1 (by show 1 < 6; decide) l rfl 256 rfl hr hj (by omega)

/-! ## The grid -/

section grid
variable (m : (ℓ : Loc nD τ sig) → Buf (Elt Ideal) ℓ) (ρ : Dev nD → PrngReg) (c : Dev nD)

/-- The kernel's arrays: the queries' columns, the latent's, the two weights, the positions and the three incoming gradients. -/
abbrev CQ : FVec Ideal S8192x256 .f32 := m ((c : Thread nD τ).loc main_arg0)
abbrev CL : FVec Ideal S8192x128 .f32 := m ((c : Thread nD τ).loc main_arg1)
abbrev WQ : FVec Ideal S256 .f32 := m ((c : Thread nD τ).loc main_arg3)
abbrev WK : FVec Ideal S128 .f32 := m ((c : Thread nD τ).loc main_arg4)
abbrev PO : (⟨S8192, .i32⟩ : BufTy).Contents (Elt Ideal) := m ((c : Thread nD τ).loc main_arg5)
abbrev DQ : FVec Ideal S8192x256 .f32 := m ((c : Thread nD τ).loc main_arg6)
abbrev DL : FVec Ideal S8192x128 .f32 := m ((c : Thread nD τ).loc main_arg7)
abbrev DK : FVec Ideal S8192x32 .f32 := m ((c : Thread nD τ).loc main_arg8)
abbrev TC : FVec Ideal S8192x128 .f32 := tab (cosA (PO m c)) (cosA (PO m c))
abbrev TS : FVec Ideal S8192x128 .f32 := tab (Host.negf (sinA (PO m c))) (sinA (PO m c))
abbrev PD : FVec Ideal S8192x256 .f32 := dA (DL m c) (DK m c)

/-- The packed gradient at row `r`, column `j`. -/
def duAt (r j : ℕ) : EReal :=
  if h : j < 256 then dxAt c256 (CQ m c) (WQ m c) (DQ m c) r ⟨j, h⟩
  else if h : j < 384 then dxAt c128 (CL m c) (WK m c) (DL m c) r ⟨j - 256, by omega⟩
  else if j < 512 then atN (PD m c) r (128 + (j - 384)) * atN (TC m c) r (j - 384)
  else atN (PD m c) r (128 + (j - 512)) * atN (TS m c) r (j - 512)

theorem idx : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0)
    ∧ (win0_4.index t 0 = 0 ∧ win0_4.index t 1 = 0) ∧ (win0_5.index t 0 = t.val ∧ win0_5.index t 1 = 0)
    ∧ (win0_6.index t 0 = t.val ∧ win0_6.index t 1 = 0) := by decide +kernel
theorem idxO : ∀ t : Fin grid0.N, (win0_7.index t 0 = t.val ∧ win0_7.index t 1 = 0)
    ∧ (win0_8.index t 0 = 0 ∧ win0_8.index t 1 = 0) ∧ (win0_9.index t 0 = 0 ∧ win0_9.index t 1 = 0) := by decide +kernel

theorem lt32 (t : Fin cfg0.N) : t.val < 32 := t.isLt.trans_eq N_0
theorem ltr (t : Fin cfg0.N) (i : Fin 256) : 256 * t.val + i.val < 8192 := by have := lt32 t; have := i.isLt; omega

/-- The blocks a point reads, at plain numbers. -/
theorem blk0 (t : Fin cfg0.N) (i : Fin 256) {k : ℕ} (hk : k < 640) :
    atN (iblk m c 0 t : Vec Ideal S256x640 .f32) i.val k = atN (uA (CQ m c) (CL m c) (m ((c : Thread nD τ).loc main_arg2))) (256 * t.val + i.val) k := by
  have h : (iblk m c 0 t : Vec Ideal S256x640 .f32) (ix2 i ⟨k, hk⟩) = atN (V m c main_v36 : FVec Ideal S8192x640 .f32) (256 * t.val + i.val) k :=
    eq_atN_of (V m c main_v36 : FVec Ideal S8192x640 .f32) _ (by show win0_0.index t 0 * 256 + 1 * i.val = _; rw [(idx t).1.1]; omega)
      (by show win0_0.index t 1 * 640 + 1 * k = _; rw [(idx t).1.2]; omega)
  rw [atN_pos _ i.isLt hk]
  refine h.trans ?_
  rw [V_u]

theorem blk1 (t : Fin cfg0.N) (i : Fin 256) {k : ℕ} (hk : k < 128) :
    atN (iblk m c 1 t : Vec Ideal S256x128 .f32) i.val k = atN (TC m c) (256 * t.val + i.val) k := by
  have h : (iblk m c 1 t : Vec Ideal S256x128 .f32) (ix2 i ⟨k, hk⟩) = atN (V m c main_v17 : FVec Ideal S8192x128 .f32) (256 * t.val + i.val) k :=
    eq_atN_of (V m c main_v17 : FVec Ideal S8192x128 .f32) _ (by show win0_1.index t 0 * 256 + 1 * i.val = _; rw [(idx t).2.1.1]; omega)
      (by show win0_1.index t 1 * 128 + 1 * k = _; rw [(idx t).2.1.2]; omega)
  rw [atN_pos _ i.isLt hk]
  refine h.trans ?_
  rw [V_ck]

theorem blk2 (t : Fin cfg0.N) (i : Fin 256) {k : ℕ} (hk : k < 128) :
    atN (iblk m c 2 t : Vec Ideal S256x128 .f32) i.val k = atN (TS m c) (256 * t.val + i.val) k := by
  have h : (iblk m c 2 t : Vec Ideal S256x128 .f32) (ix2 i ⟨k, hk⟩) = atN (V m c main_v20 : FVec Ideal S8192x128 .f32) (256 * t.val + i.val) k :=
    eq_atN_of (V m c main_v20 : FVec Ideal S8192x128 .f32) _ (by show win0_2.index t 0 * 256 + 1 * i.val = _; rw [(idx t).2.2.1.1]; omega)
      (by show win0_2.index t 1 * 128 + 1 * k = _; rw [(idx t).2.2.1.2]; omega)
  rw [atN_pos _ i.isLt hk]
  refine h.trans ?_
  rw [V_sk]

theorem blk5 (t : Fin cfg0.N) (i : Fin 256) {k : ℕ} (hk : k < 256) :
    atN (iblk m c 5 t : Vec Ideal S256x256 .f32) i.val k = atN (DQ m c) (256 * t.val + i.val) k := by
  have h : (iblk m c 5 t : Vec Ideal S256x256 .f32) (ix2 i ⟨k, hk⟩) = atN (DQ m c) (256 * t.val + i.val) k :=
    eq_atN_of (DQ m c) _ (by show win0_5.index t 0 * 256 + 1 * i.val = _; rw [(idx t).2.2.2.2.2.1.1]; omega)
      (by show win0_5.index t 1 * 256 + 1 * k = _; rw [(idx t).2.2.2.2.2.1.2]; omega)
  rw [atN_pos _ i.isLt hk]
  refine h.trans ?_
  rfl

theorem blk6 (t : Fin cfg0.N) (i : Fin 256) {k : ℕ} (hk : k < 256) :
    atN (iblk m c 6 t : Vec Ideal S256x256 .f32) i.val k = atN (PD m c) (256 * t.val + i.val) k := by
  have h : (iblk m c 6 t : Vec Ideal S256x256 .f32) (ix2 i ⟨k, hk⟩) = atN (V m c main_v37 : FVec Ideal S8192x256 .f32) (256 * t.val + i.val) k :=
    eq_atN_of (V m c main_v37 : FVec Ideal S8192x256 .f32) _ (by show win0_6.index t 0 * 256 + 1 * i.val = _; rw [(idx t).2.2.2.2.2.2.1]; omega)
      (by show win0_6.index t 1 * 256 + 1 * k = _; rw [(idx t).2.2.2.2.2.2.2]; omega)
  rw [atN_pos _ i.isLt hk]
  refine h.trans ?_
  rw [V_d]

theorem blk3 (t : Fin cfg0.N) (k : Fin 256) : (iblk m c 3 t : Vec Ideal S1x256 .f32) (ix2 0 k) = at1 (WQ m c) k.val := by
  have h : (iblk m c 3 t : Vec Ideal S1x256 .f32) (ix2 0 k) = (V m c main_v38 : FVec Ideal S1x256 .f32) (ix2 0 k) :=
    (eq_atN_of (V m c main_v38 : FVec Ideal S1x256 .f32) _ (r := 0) (j := k.val)
      (by show win0_3.index t 0 * 1 + 1 * 0 = _; rw [(idx t).2.2.2.1.1])
      (by show win0_3.index t 1 * 256 + 1 * k.val = _; rw [(idx t).2.2.2.1.2]; omega)).trans (atN_pos _ (by decide) k.isLt)
  rw [h, V_gq]
  exact (shapeCast_a_1a_apply _ _ _ _).trans (at1_pos (WQ m c) k.isLt).symm

theorem blk4 (t : Fin cfg0.N) (k : Fin 128) : (iblk m c 4 t : Vec Ideal S1x128 .f32) (ix2 0 k) = at1 (WK m c) k.val := by
  have h : (iblk m c 4 t : Vec Ideal S1x128 .f32) (ix2 0 k) = (V m c main_v39 : FVec Ideal S1x128 .f32) (ix2 0 k) :=
    (eq_atN_of (V m c main_v39 : FVec Ideal S1x128 .f32) _ (r := 0) (j := k.val)
      (by show win0_4.index t 0 * 1 + 1 * 0 = _; rw [(idx t).2.2.2.2.1.1])
      (by show win0_4.index t 1 * 128 + 1 * k.val = _; rw [(idx t).2.2.2.2.1.2]; omega)).trans (atN_pos _ (by decide) k.isLt)
  rw [h, V_gk]
  exact (shapeCast_a_1a_apply _ _ _ _).trans (at1_pos (WK m c) k.isLt).symm

theorem q_at (t : Fin cfg0.N) (i k : Fin 256) : atN (iblk m c 0 t : Vec Ideal S256x640 .f32) i.val k.val = atN (CQ m c) (256 * t.val + i.val) k.val :=
  (blk0 m c t i (by have := k.isLt; omega)).trans (uA_lo _ _ _ (ltr t i) k.isLt)
theorem l_at (t : Fin cfg0.N) (i : Fin 256) (k : Fin 128) :
    atN (iblk m c 0 t : Vec Ideal S256x640 .f32) i.val (256 + k.val) = atN (CL m c) (256 * t.val + i.val) k.val :=
  (blk0 m c t i (by have := k.isLt; omega)).trans (uA_hi _ _ _ (ltr t i) k.isLt)
theorem dl_at (t : Fin cfg0.N) (i : Fin 256) (k : Fin 128) : atN (iblk m c 6 t : Vec Ideal S256x256 .f32) i.val k.val = atN (DL m c) (256 * t.val + i.val) k.val :=
  (blk6 m c t i (by have := k.isLt; omega)).trans (dA_lo _ _ (ltr t i) k.isLt)
theorem dq_at (t : Fin cfg0.N) (i k : Fin 256) : (iblk m c 5 t : Vec Ideal S256x256 .f32) (ix2 i k) = atN (DQ m c) (256 * t.val + i.val) k.val :=
  (atN_pos (iblk m c 5 t : Vec Ideal S256x256 .f32) i.isLt k.isLt).symm.trans (blk5 m c t i k.isLt)

/-- A point's tile. -/
theorem tile_u (t : Fin cfg0.N) (i : Fin 256) (j : Fin 640) :
    dU (iblk m c 0 t) (iblk m c 1 t) (iblk m c 2 t) (iblk m c 3 t) (iblk m c 4 t) (iblk m c 5 t) (iblk m c 6 t) (ix2 i j)
      = duAt m c (256 * t.val + i.val) j.val := by
  have hj := j.isLt
  refine (dU_at _ _ _ _ _ _ _ i j).trans ?_
  unfold duAt
  by_cases h1 : j.val < 256
  · rw [dif_pos h1, dif_pos h1]
    simp only [q_at, dq_at, blk3]
    rfl
  rw [dif_neg h1, dif_neg h1]
  refine (rest_at _ _ _ _ _ i j.val).trans ?_
  rw [if_neg h1]
  by_cases h2 : j.val < 384
  · rw [dif_pos h2, dif_pos h2]
    simp only [l_at, dl_at, blk4]
    rfl
  rw [dif_neg h2, dif_neg h2]
  by_cases h3 : j.val < 512
  · rw [if_pos h3, if_pos h3, blk6 m c t i (by omega), blk1 m c t i (by omega)]
  · rw [if_neg h3, if_neg h3, blk6 m c t i (by omega), blk2 m c t i (by omega)]

theorem outs7 (t : Fin cfg0.N) : (outsAt0 m c t.val t.isLt).1 = fun y : S256x640.Idx => duAt m c (256 * t.val + (y 0).val) (y 1).val := by
  by_cases h : t.val % 32 = 0
  · refine (congrArg (·.1) (outsAt0_A m c t h)).trans ?_
    dsimp only
    rw [out7_A]
    exact ext2 fun i j => tile_u m c t i j
  · refine (congrArg (·.1) (outsAt0_B m c t h)).trans ?_
    dsimp only
    rw [out7_B]
    exact ext2 fun i j => tile_u m c t i j

/-- One more tile of rows in the weights' gradients. -/
theorem dgq_step (t : Fin cfg0.N) (xo : Vec Ideal S1x256 .f32) (j : Fin 256)
    (h : xo (ix2 0 j) = ∑ r ∈ Finset.range (256 * t.val), dgRow c256 (CQ m c) (DQ m c) j.val r) :
    k0_pay4 (k0_pay24 (iblk m c 5 t) (k0_pay16 (iblk m c 0 t))) xo (ix2 0 j)
      = ∑ r ∈ Finset.range (256 * (t.val + 1)), dgRow c256 (CQ m c) (DQ m c) j.val r := by
  refine (dgq_apply _ _ _ j).trans ?_
  rw [h, ← sum_range_block]
  refine congrArg (_ + ·) (Finset.sum_congr rfl fun i _ => ?_)
  simp only [q_at, dq_at]
  rfl

theorem dgk_step (t : Fin cfg0.N) (xo : Vec Ideal S1x128 .f32) (j : Fin 128)
    (h : xo (ix2 0 j) = ∑ r ∈ Finset.range (256 * t.val), dgRow c128 (CL m c) (DL m c) j.val r) :
    k0_pay5 (k0_pay22 (k0_pay11 (iblk m c 6 t)) (k0_pay17 (iblk m c 0 t)) (k0_pay19 (iblk m c 0 t))) xo (ix2 0 j)
      = ∑ r ∈ Finset.range (256 * (t.val + 1)), dgRow c128 (CL m c) (DL m c) j.val r := by
  refine (dgkv_apply _ _ _ j).trans ?_
  rw [h, ← sum_range_block]
  refine congrArg (_ + ·) (Finset.sum_congr rfl fun i _ => ?_)
  simp only [l_at, dl_at]
  rfl

theorem outs8 : ∀ (n : ℕ) (h : n < cfg0.N), (outsAt0 m c n h).2.1
    = fun y : S1x256.Idx => ∑ r ∈ Finset.range (256 * (n + 1)), dgRow c256 (CQ m c) (DQ m c) (y 1).val r
  | 0, h => by
    refine (congrArg (·.2.1) (outsAt0_A m c ⟨0, h⟩ rfl)).trans ?_
    dsimp only
    rw [out8_A]
    exact ext_row fun j => dgq_step m c ⟨0, h⟩ _ j (Ideal.ofBits_zero_f32.trans (by rw [Nat.mul_zero]; rfl))
  | n + 1, h => by
    have hB : ¬(⟨n + 1, h⟩ : Fin cfg0.N).val % 32 = 0 := by have := lt32 ⟨n + 1, h⟩; dsimp only at this ⊢; omega
    refine (congrArg (·.2.1) (outsAt0_B m c ⟨n + 1, h⟩ hB)).trans ?_
    dsimp only
    rw [out8_B]
    exact ext_row fun j => dgq_step m c ⟨n + 1, h⟩ _ j (congrFun (outs8 n _) (ix2 0 j))

theorem outs9 : ∀ (n : ℕ) (h : n < cfg0.N), (outsAt0 m c n h).2.2
    = fun y : S1x128.Idx => ∑ r ∈ Finset.range (256 * (n + 1)), dgRow c128 (CL m c) (DL m c) (y 1).val r
  | 0, h => by
    refine (congrArg (·.2.2) (outsAt0_A m c ⟨0, h⟩ rfl)).trans ?_
    dsimp only
    rw [out9_A]
    exact ext_row fun j => dgk_step m c ⟨0, h⟩ _ j (Ideal.ofBits_zero_f32.trans (by rw [Nat.mul_zero]; rfl))
  | n + 1, h => by
    have hB : ¬(⟨n + 1, h⟩ : Fin cfg0.N).val % 32 = 0 := by have := lt32 ⟨n + 1, h⟩; dsimp only at this ⊢; omega
    refine (congrArg (·.2.2) (outsAt0_B m c ⟨n + 1, h⟩ hB)).trans ?_
    dsimp only
    rw [out9_B]
    exact ext_row fun j => dgk_step m c ⟨n + 1, h⟩ _ j (congrFun (outs9 n _) (ix2 0 j))

/-- The packed gradient after the run. -/
theorem final7 : (dats m 0 c).arrAt 7 cfg0.N = fun i : S8192x640.Idx => duAt m c (i 0).val (i 1).val := by
  refine (dats m 0 c).arrAt_eq_of_cover 7 _ (fun t _ => ?_) fun (i : S8192x640.Idx) => ?_
  · show (cfg0.win 7).cut (grid0.coords t) ((dats m 0 c).after 7 t) = _
    rw [after0_7, outs7]
    refine funext fun y => Eq.trans ?_ (View.read_apply _ _).symm
    have e0 : 256 * t.val + (y 0).val = win0_7.index t 0 * 256 + 1 * (y 0).val := by rw [(idxO t).1.1]; omega
    have e1 : (y 1).val = win0_7.index t 1 * 640 + 1 * (y 1).val := by rw [(idxO t).1.2]; omega
    exact congrArg₂ (duAt m c) e0 e1
  · have hi0 : (i 0).val < 8192 := (i 0).isLt
    obtain ⟨t, ht⟩ : ∃ t : Fin cfg0.N, t.val = (i 0).val / 256 := ⟨⟨(i 0).val / 256, by rw [show cfg0.N = 32 from N_0]; omega⟩, rfl⟩
    refine ⟨t, flush0_7 t, ?_⟩
    show i ∈ ((View.whole main_v40_0).slice (win0_7.rect t)).set
    rw [View.set_slice_whole, Rect.mem_set_unit]
    exact in_rows i (a := 256) (f := win0_7.index t) (by decide) ((idxO t).1.1.trans ht) (idxO t).1.2

/-- The first norm weight's gradient after the run. -/
theorem final8 : (dats m 0 c).arrAt 8 cfg0.N
    = fun y : S1x256.Idx => ∑ r ∈ Finset.range 8192, dgRow c256 (CQ m c) (DQ m c) (y 1).val r := by
  refine (dats m 0 c).arrAt_eq_of_cover 8 _ (fun t ht => ?_) fun (i : S1x256.Idx) => ?_
  · have h7 : t.val = 31 := by have := (flush0_8 t).mp ht; have := lt32 t; omega
    show (cfg0.win 8).cut (grid0.coords t) ((dats m 0 c).after 8 t) = _
    rw [after0_8, outs8, h7]
    have hz' : (fun a => win0_8.index t a * main_v40_1.ty.shape.size a) = fun _ => 0 := still (f := win0_8.index t) (idxO t).2.1.1 (idxO t).2.1.2
    exact (Memref.read_access_unit_zero (Elt Ideal) main_v40_1 hz' (fun a => by rw [congrFun hz' a]; simp) _).symm
  · obtain ⟨t, ht⟩ : ∃ t : Fin cfg0.N, t.val = 31 := ⟨⟨31, by rw [show cfg0.N = 32 from N_0]; omega⟩, rfl⟩
    refine ⟨t, (flush0_8 t).mpr (by rw [ht]), ?_⟩
    show i ∈ ((View.whole main_v40_1).slice (win0_8.rect t)).set
    rw [View.set_slice_whole, Rect.mem_set_unit]
    exact in_still i (f := win0_8.index t) (idxO t).2.1.1 (idxO t).2.1.2

/-- The second norm weight's gradient after the run. -/
theorem final9 : (dats m 0 c).arrAt 9 cfg0.N
    = fun y : S1x128.Idx => ∑ r ∈ Finset.range 8192, dgRow c128 (CL m c) (DL m c) (y 1).val r := by
  refine (dats m 0 c).arrAt_eq_of_cover 9 _ (fun t ht => ?_) fun (i : S1x128.Idx) => ?_
  · have h7 : t.val = 31 := by have := (flush0_9 t).mp ht; have := lt32 t; omega
    show (cfg0.win 9).cut (grid0.coords t) ((dats m 0 c).after 9 t) = _
    rw [after0_9, outs9, h7]
    have hz' : (fun a => win0_9.index t a * main_v40_2.ty.shape.size a) = fun _ => 0 := still (f := win0_9.index t) (idxO t).2.2.1 (idxO t).2.2.2
    exact (Memref.read_access_unit_zero (Elt Ideal) main_v40_2 hz' (fun a => by rw [congrFun hz' a]; simp) _).symm
  · obtain ⟨t, ht⟩ : ∃ t : Fin cfg0.N, t.val = 31 := ⟨⟨31, by rw [show cfg0.N = 32 from N_0]; omega⟩, rfl⟩
    refine ⟨t, (flush0_9 t).mpr (by rw [ht]), ?_⟩
    show i ∈ ((View.whole main_v40_2).slice (win0_9.rect t)).set
    rw [View.set_slice_whole, Rect.mem_set_unit]
    exact in_still i (f := win0_9.index t) (idxO t).2.2.1 (idxO t).2.2.2

/-! ## The lines after the call -/

open Cert.PrepBwdIdeal.Read

/-- The packed gradient as an array. -/
abbrev DU : FVec Ideal S8192x640 .bf16 := fun y : S8192x640.Idx => duAt m c (y 0).val (y 1).val

theorem res_q (i : Fin 8192) (j : Fin 256) : (val_main_v42 (F := Ideal) (DU m c) : FVec Ideal S8192x256 .f32) (ix2 i j)
    = dxAt c256 (CQ m c) (WQ m c) (DQ m c) i.val j := by
  have hj := j.isLt
  rw [val_main_v42_apply, val_main_v41_apply, Ideal.extf_def]
  show duAt m c i.val j.val = _
  unfold duAt
  rw [dif_pos hj]

theorem res_l (i : Fin 8192) (j : Fin 128) : (val_main_v43 (F := Ideal) (DU m c) : FVec Ideal S8192x128 .f32) (ix2 i j)
    = dxAt c128 (CL m c) (WK m c) (DL m c) i.val j := by
  have hj := j.isLt
  rw [val_main_v43_apply, val_main_v41_apply, Ideal.extf_def]
  show duAt m c i.val (256 + j.val) = _
  unfold duAt
  rw [dif_neg (by omega), dif_pos (by omega)]
  exact congrArg (dxAt c128 (CL m c) (WK m c) (DL m c) i.val) (Fin.ext (Nat.add_sub_cancel_left 256 j.val))

/-- A column of each of the two copies. -/
theorem du_c {r j : ℕ} (hr : r < 8192) (hj : j < 32) : duAt m c r (384 + j) = atN (DK m c) r j * atN (TC m c) r j := by
  unfold duAt
  rw [dif_neg (by omega), dif_neg (by omega), if_pos (by omega), Nat.add_sub_cancel_left, dA_hi _ _ hr hj]
theorem du_s {r j : ℕ} (hr : r < 8192) (hj : j < 32) : duAt m c r (512 + j) = atN (DK m c) r j * atN (TS m c) r j := by
  unfold duAt
  rw [dif_neg (by omega), dif_neg (by omega), if_neg (by omega), Nat.add_sub_cancel_left, dA_hi _ _ hr hj]

theorem v48_at {r j : ℕ} (hr : r < 8192) (hj : j < 32) : atN (val_main_v48 (F := Ideal) (DU m c) : FVec Ideal S8192x32 .f32) r j
    = if j < 16 then duAt m c r (512 + (16 + j)) else duAt m c r (512 + (j - 16)) := by
  refine (atN_beside (n := 8192) (k₁ := 16) (k₂ := 16) (k := 32) _ _ _ rfl r j).trans ?_
  split_ifs with h
  · rw [atN_pos (val_main_v46 (F := Ideal) (DU m c) : FVec Ideal S8192x16 .f32) hr h, val_main_v46_apply, val_main_v45_apply, val_main_v41_apply, Ideal.extf_def]
  · rw [atN_pos (val_main_v47 (F := Ideal) (DU m c) : FVec Ideal S8192x16 .f32) hr (by omega : j - 16 < 16), val_main_v47_apply, val_main_v45_apply,
      val_main_v41_apply, Ideal.extf_def]

theorem res_k (i : Fin 8192) (j : Fin 32) : (val_main_v49 (F := Ideal) (DU m c) : FVec Ideal S8192x32 .f32) (ix2 i j)
    = dkAt (DK m c) (cosA (PO m c)) (sinA (PO m c)) i.val j.val := by
  have hj := j.isLt
  have e1 : (val_main_v44 (F := Ideal) (DU m c) : FVec Ideal S8192x32 .f32) (ix2 i j) = duAt m c i.val (384 + j.val) := by
    rw [val_main_v44_apply, val_main_v41_apply, Ideal.extf_def]
  have e2 : (val_main_v48 (F := Ideal) (DU m c) : FVec Ideal S8192x32 .f32) (ix2 i j) = _ :=
    (atN_pos (val_main_v48 (F := Ideal) (DU m c) : FVec Ideal S8192x32 .f32) i.isLt hj).symm.trans (v48_at m c i.isLt hj)
  rw [val_main_v49_apply, Ideal.addf_def, e1, e2, du_c m c i.isLt hj]
  unfold dkAt
  split_ifs with h
  · rw [du_s m c i.isLt (by omega), tab_lo _ _ i.isLt h, tab_hi _ _ i.isLt h]
  · have e3 := tab_hi (cosA (PO m c)) (cosA (PO m c)) i.isLt (by omega : j.val - 16 < 16)
    rw [show 16 + (j.val - 16) = j.val by omega] at e3
    rw [du_s m c i.isLt (by omega), e3, tab_lo _ _ i.isLt (by omega : j.val - 16 < 16), atN_negf, neg_mul, mul_neg]

end grid

end Cert.PrepBwdIdeal.Own

namespace Cert.Prep

open Cert.Own Cert.PrepBwdIdeal.Own

/-- The reference program ends with its arguments unchanged and every counter at zero. -/
theorem ref_frame : Cert.quiescent_PrepRefIdeal (hPrepRefIdeal := Cert.PrepRefIdeal.Gen.facts) := fun m g _ =>
  (θ_run Cert.PrepRefIdeal.defs _ _).mono (fun r h => ⟨fun c => (h c).2.2.2.2.2, sem_eq_zero_of_no_sems (by decide) r.2⟩)
    (Cert.PrepRefIdeal.Value.run m g)

set_option maxHeartbeats 4000000 in
/-- Over the extended reals the program returns the derivative of the two norms and the turned columns. -/
theorem value : Cert.algebraic_PrepBwdIdeal_PrepRefIdeal (hPrepBwdIdeal := Cert.PrepBwdIdeal.Gen.facts)
    (hPrepRefIdeal := Cert.PrepRefIdeal.Gen.facts) := fun m g m' g' _ hm => by
  refine ⟨fun c => Cert.PrepBwdIdeal.Read.val_main_v42 (F := Ideal) (Cert.PrepBwdIdeal.Value.reg_main_v40_0 m c),
    fun c => Cert.PrepBwdIdeal.Read.val_main_v43 (F := Ideal) (Cert.PrepBwdIdeal.Value.reg_main_v40_0 m c),
    fun c => Cert.PrepBwdIdeal.Read.val_main_v49 (F := Ideal) (Cert.PrepBwdIdeal.Value.reg_main_v40_0 m c),
    fun c => Cert.PrepBwdIdeal.Value.reg_main_v40_1 m c, fun c => Cert.PrepBwdIdeal.Value.reg_main_v40_2 m c, ?_, ?_⟩
  · exact (θ_run Cert.PrepBwdIdeal.defs _ _).mono (fun r h c => h c) (Cert.PrepBwdIdeal.Value.run m g)
  · refine (θ_run Cert.PrepRefIdeal.defs _ _).mono (fun r h c => ?_) (Cert.PrepRefIdeal.Value.run m' g')
    obtain ⟨e0, e1, e2, e3, e4, e5, e6, e7, e8⟩ := hm c
    obtain ⟨h0, h1, h2, h3, h4, h5⟩ := h c
    refine ⟨h0.trans ?_, h1.trans ?_, h2.trans ?_, h3.trans ?_, h4.trans ?_, h5⟩
    · refine (Cert.PrepRefIdeal.Read.val_main_v108_eq (F := Ideal) _ _ _).trans ?_
      rw [e0, e3, e6]
      refine ext2 fun i j => (Cert.PrepRefIdeal.Own.v108_apply _ _ _ i j).trans ((res_q m c i j).symm.trans ?_)
      exact congrArg (fun X => Cert.PrepBwdIdeal.Read.val_main_v42 (F := Ideal) X (ix2 i j)) (final7 m c).symm
    · refine (Cert.PrepRefIdeal.Read.val_main_v88_eq (F := Ideal) _ _ _).trans ?_
      rw [e1, e4, e7]
      refine ext2 fun i j => (Cert.PrepRefIdeal.Own.v88_apply _ _ _ i j).trans ((res_l m c i j).symm.trans ?_)
      exact congrArg (fun X => Cert.PrepBwdIdeal.Read.val_main_v43 (F := Ideal) X (ix2 i j)) (final7 m c).symm
    · refine (Cert.PrepRefIdeal.Read.val_main_v68_eq (F := Ideal) _ _).trans ?_
      rw [e5, e8]
      refine ext2 fun i j => Eq.trans ?_ ((res_k m c i j).symm.trans
        (congrArg (fun X => Cert.PrepBwdIdeal.Read.val_main_v49 (F := Ideal) X (ix2 i j)) (final7 m c).symm))
      exact (atN_pos (Cert.PrepRefIdeal.Read.val_main_v68 (F := Ideal) _ _ : FVec Ideal ⟨2, ![8192, 32]⟩ .f32) i.isLt j.isLt).symm.trans
        ((Cert.PrepRefIdeal.Own.v68_at _ _ i.val j.val).trans (if_pos j.isLt))
    · refine (Cert.PrepRefIdeal.Read.val_main_v109_eq (F := Ideal) _ _).trans (Eq.trans ?_ (final8 m c).symm)
      rw [e0, e6]
      exact ext_row fun j => Cert.PrepRefIdeal.Own.v109_apply _ _ j
    · refine (Cert.PrepRefIdeal.Read.val_main_v110_eq (F := Ideal) _ _).trans (Eq.trans ?_ (final9 m c).symm)
      rw [e1, e7]
      exact ext_row fun j => Cert.PrepRefIdeal.Own.v110_apply _ _ j

end Cert.Prep
end
-- ==== Proof.XattnRef.lean ====
/-
  The gradient of the attention to the memory (`xattn_bwd`): what both programs compute, as functions of the arrays, the
  share of the largest score, and that the reference computes it.
-/
module

public import proofs.«01_k».proof.Proof.At3
public import proofs.«01_k».proof.Proof.AttnReal
public import proofs.«01_k».proof.Proof.AttnSoft
public import proofs.«01_k».proof.Proof.Gen.XattnRefIdeal.Run
public import proofs.«01_k».proof.Proof.Gen.XattnRefIdeal.Read

@[expose] public section

set_option maxRecDepth 16384

noncomputable section

open Idealize.ShloMosaic Idealize.ShloMosaic.TcCoe Idealize.SL.Sem Idealize.ShloMosaic.ValueIdx

namespace Cert.Xattn

open Cert.Own

/-- One over the root of a head's size, and one. -/
abbrev c16 : EReal := Ideal.ofBits .f32 0x3D800000#32
abbrev one : EReal := Ideal.ofBits .f32 0x3F800000#32

theorem c16_eq : c16 = ((1 / 16 : ℝ) : EReal) := by simp [Ideal.ofBits, Ideal.ieee, ← EReal.coe_mul]; norm_num
/-- Dividing by 16 is multiplying by the float 2^-4. -/
theorem div_16 (x : EReal) : Ideal.div x (Ideal.ofBits .f32 0x41800000#32) = x * c16 := by
  rw [show Ideal.ofBits .f32 0x41800000#32 = ((16 : ℝ) : EReal) by simp [Ideal.ofBits, Ideal.ieee, ← EReal.coe_mul]; norm_num, c16_eq, Ideal.div_coe (by norm_num)]

/-- The products of row `r` of `x` with the rows of `y`, in head `h`'s 256 columns. -/
def dots {a : ℕ} (x : (⟨2, ![a, 1024]⟩ : Shape).Idx → EReal) (y : (⟨2, ![256, 1024]⟩ : Shape).Idx → EReal) (h r : ℕ) (m : Fin 256) : EReal :=
  ∑ k : Fin 256, atN x r (256 * h + k.val) * atN y m.val (256 * h + k.val)
/-- The scores. -/
def scores {a : ℕ} (x : (⟨2, ![a, 1024]⟩ : Shape).Idx → EReal) (y : (⟨2, ![256, 1024]⟩ : Shape).Idx → EReal) (h r : ℕ) (m : Fin 256) : EReal :=
  dots x y h r m * c16

/-- Of a row of scores `s`: the largest, the exponentials, their sum, the weights. -/
def mx (s : Fin 256 → EReal) : EReal := Finset.univ.fold max (Ideal.ofBits .f32 0xFF800000#32) s
def ee (s : Fin 256 → EReal) (j : Fin 256) : EReal := Ideal.exp (s j - mx s)
def zz (s : Fin 256 → EReal) : EReal := ∑ k, ee s k
def pp (s : Fin 256 → EReal) (j : Fin 256) : EReal := Ideal.div (ee s j) (zz s)
/-- The gradient of the scores before their scale, `d` the weights' incoming gradient, and after it. -/
def gg (s d : Fin 256 → EReal) (j : Fin 256) : EReal :=
  (Ideal.div (d j) (zz s) + -(∑ k, d k * Ideal.div one (zz s * zz s) * ee s k)) * ee s j
def ds (s d : Fin 256 → EReal) (j : Fin 256) : EReal := gg s d j * c16

section real
variable {s d : Fin 256 → EReal} (hs : ∀ j, ∃ r : ℝ, s j = (r : EReal)) (hd : ∀ j, ∃ r : ℝ, d j = (r : EReal))
include hs

/-- The largest of a row of reals is real. -/
theorem mx_real : ∃ r : ℝ, mx s = (r : EReal) := by
  have h1 : mx s ≠ ⊤ := ne_of_lt ((Finset.fold_max_lt (c := (⊤ : EReal))).2 ⟨by rw [show Ideal.ofBits .f32 0xFF800000#32 = ⊥ from Cert.AttnRefIdeal.Own.bot_eq]; exact bot_lt_top,
    fun K _ => by obtain ⟨r, hr⟩ := hs K; rw [hr]; exact EReal.coe_lt_top _⟩)
  have h2 : mx s ≠ ⊥ := ne_of_gt ((Finset.lt_fold_max (c := (⊥ : EReal))).2 (Or.inr ⟨0, Finset.mem_univ _, by
    obtain ⟨r, hr⟩ := hs 0; rw [hr]; exact EReal.bot_lt_coe _⟩))
  exact ⟨_, (EReal.coe_toReal h1 h2).symm⟩

include hd in
/-- The gradient of a row's scores adds up to zero. -/
theorem gg_sum : (∑ j, ((0 : EReal) - gg s d j)) = 0 := by
  obtain ⟨μ, hμ⟩ := mx_real hs
  choose σ hσ using hs
  choose δ hδ using hd
  have csum : ∀ f : Fin 256 → ℝ, (∑ j, (f j : EReal)) = ((∑ j, f j : ℝ) : EReal) := fun f => (Cert.AttnBwdIdeal.Own.coe_sum _ f).symm
  have he : ∀ j, ee s j = ((Real.exp (σ j - μ) : ℝ) : EReal) := fun j => by
    unfold ee
    rw [hσ, hμ, ← EReal.coe_sub]
    exact Ideal.exp_coe _
  have hz : zz s = ((∑ k, Real.exp (σ k - μ) : ℝ) : EReal) := by unfold zz; simp only [he]; exact csum _
  have hZ : (∑ k : Fin 256, Real.exp (σ k - μ)) ≠ 0 :=
    (Finset.sum_pos (fun k _ => Real.exp_pos _) ⟨0, Finset.mem_univ _⟩).ne'
  have h1 : one = ((1 : ℝ) : EReal) := Cert.AttnRefIdeal.Own.one_eq
  obtain ⟨Z, hZe⟩ : ∃ Z, (∑ k : Fin 256, Real.exp (σ k - μ)) = Z := ⟨_, rfl⟩
  rw [hZe] at hz hZ
  have hg : ∀ j, gg s d j = (((δ j / Z + -(∑ k, δ k * (1 / (Z * Z)) * Real.exp (σ k - μ))) * Real.exp (σ j - μ) : ℝ) : EReal) := fun j => by
    unfold gg
    simp only [he, hz, hδ, h1, ← EReal.coe_mul]
    rw [Ideal.div_coe hZ, Ideal.div_coe (mul_ne_zero hZ hZ)]
    simp only [← EReal.coe_mul, one_mul]
    rw [csum, ← EReal.coe_neg, ← EReal.coe_add, ← EReal.coe_mul]
    congr 3
    rw [mul_one_div]
  have hx : ∀ j, (0 : EReal) - gg s d j = ((-((δ j / Z + -(∑ k, δ k * (1 / (Z * Z)) * Real.exp (σ k - μ))) * Real.exp (σ j - μ)) : ℝ) : EReal) := fun j => by
    rw [hg, zero_sub, EReal.coe_neg]
  have hB : (∑ k, δ k * (1 / (Z * Z)) * Real.exp (σ k - μ)) = (∑ k, δ k * Real.exp (σ k - μ)) / (Z * Z) := by
    rw [Finset.sum_div]
    exact Finset.sum_congr rfl fun k _ => by ring
  have hA : (∑ j, δ j / Z * Real.exp (σ j - μ)) = (∑ k, δ k * Real.exp (σ k - μ)) / Z := by
    rw [Finset.sum_div]
    exact Finset.sum_congr rfl fun k _ => by ring
  simp only [hx]
  rw [csum, Finset.sum_neg_distrib]
  simp only [add_mul]
  rw [Finset.sum_add_distrib, ← Finset.mul_sum, hZe, hA, hB, show (∑ k, δ k * Real.exp (σ k - μ)) / Z
    + -((∑ k, δ k * Real.exp (σ k - μ)) / (Z * Z)) * Z = 0 by field_simp; ring, neg_zero, EReal.coe_zero]

end real

/-- So the share of the largest score in the gradient is nothing, `c` the number of largest scores and `k` the mark of one. -/
theorem no_share {g c k : EReal} (hg : g = 0) (hk : c = 0 → k = 0) : Ideal.div g c * k = 0 := by
  subst hg
  by_cases hc : c = 0
  · rw [hk hc, mul_zero]
  · rw [Ideal.div, if_neg hc, zero_mul, zero_mul]

/-- The gradients of the queries, the memory's keys and its values at one place. -/
def dqAt {a : ℕ} (Q W : (⟨2, ![a, 1024]⟩ : Shape).Idx → EReal) (K V : (⟨2, ![256, 1024]⟩ : Shape).Idx → EReal) (r j : ℕ) : EReal :=
  ∑ m : Fin 256, ds (scores Q K (j / 256) r) (dots W V (j / 256) r) m * atN K m.val j
def dkRow {a : ℕ} (Q W : (⟨2, ![a, 1024]⟩ : Shape).Idx → EReal) (K V : (⟨2, ![256, 1024]⟩ : Shape).Idx → EReal) (m : Fin 256) (j r : ℕ) : EReal :=
  ds (scores Q K (j / 256) r) (dots W V (j / 256) r) m * atN Q r j
def dvRow {a : ℕ} (Q W : (⟨2, ![a, 1024]⟩ : Shape).Idx → EReal) (K : (⟨2, ![256, 1024]⟩ : Shape).Idx → EReal) (m : Fin 256) (j r : ℕ) : EReal :=
  pp (scores Q K (j / 256) r) m * atN W r j

end Cert.Xattn

namespace Cert.XattnRefIdeal.Own

open Cert.XattnRefIdeal Cert.XattnRefIdeal.Gen Cert.XattnRefIdeal.Read Cert.Own Cert.Xattn

variable (x0 x3 : (⟨S8192x1024, .f32⟩ : BufTy).Contents (Elt Ideal)) (x1 x2 : (⟨S256x1024, .f32⟩ : BufTy).Contents (Elt Ideal))

/-- The heads of the four arrays. -/
theorem v0_apply (r : Fin 8192) (h : Fin 4) (k : Fin 256) : val_main_v0 (F := Ideal) x0 (ix3 r h k) = atN x0 r.val (256 * h.val + k.val) :=
  (val_main_v0_apply x0 _).trans (eq_atN_of x0 _
    (by show ((r.val * 4 + h.val) * 256 + k.val) / 1024 = r.val; have := h.isLt; have := k.isLt; omega)
    (by show ((r.val * 4 + h.val) * 256 + k.val) % 1024 = _; have := h.isLt; have := k.isLt; omega))
theorem v1_apply (r : Fin 256) (h : Fin 4) (k : Fin 256) : val_main_v1 (F := Ideal) x1 (ix3 r h k) = atN x1 r.val (256 * h.val + k.val) :=
  (val_main_v1_apply x1 _).trans (eq_atN_of x1 _
    (by show ((r.val * 4 + h.val) * 256 + k.val) / 1024 = r.val; have := h.isLt; have := k.isLt; omega)
    (by show ((r.val * 4 + h.val) * 256 + k.val) % 1024 = _; have := h.isLt; have := k.isLt; omega))
theorem v2_apply (r : Fin 256) (h : Fin 4) (k : Fin 256) : val_main_v2 (F := Ideal) x2 (ix3 r h k) = atN x2 r.val (256 * h.val + k.val) := v1_apply x2 r h k
theorem v38_apply (h : Fin 4) (k : Fin 256) (r : Fin 8192) : val_main_v38 (F := Ideal) x3 (ix3 h k r) = atN x3 r.val (256 * h.val + k.val) :=
  (val_main_v38_apply x3 _).trans (((congrArg (val_main_v37 (F := Ideal) x3) (funext fun a => by
    match a with | ⟨0, _⟩ => rfl | ⟨1, _⟩ => rfl | ⟨2, _⟩ => rfl))).trans (v0_apply x3 r h k))

/-- The scores and the weights' incoming gradient. -/
theorem v5_apply (h : Fin 4) (r : Fin 8192) (m : Fin 256) : val_main_v5 (F := Ideal) x0 x1 (ix3 h r m) = scores x0 x1 h.val r.val m := by
  have h1 : ∀ k, lidx_main_v3 (ix3 h r m) k = ix3 r h k := fun k => funext fun a => by match a with | ⟨0, _⟩ => rfl | ⟨1, _⟩ => rfl | ⟨2, _⟩ => rfl
  have h2 : ∀ k, ridx_main_v3 (ix3 h r m) k = ix3 m h k := fun k => funext fun a => by match a with | ⟨0, _⟩ => rfl | ⟨1, _⟩ => rfl | ⟨2, _⟩ => rfl
  simp only [val_main_v5_apply, val_main_v4_apply, val_main_cst_apply, val_main_v3_apply, h1, h2, v0_apply, v1_apply, Ideal.hostDivf_def,
    Ideal.ofBits_def, div_16]
  rfl
theorem v39_apply (h : Fin 4) (r : Fin 8192) (m : Fin 256) : val_main_v39 (F := Ideal) x2 x3 (ix3 h r m) = dots x3 x2 h.val r.val m := by
  have h1 : ∀ k, lidx_main_v39 (ix3 h r m) k = ix3 h k r := fun k => funext fun a => by match a with | ⟨0, _⟩ => rfl | ⟨1, _⟩ => rfl | ⟨2, _⟩ => rfl
  have h2 : ∀ k, ridx_main_v39 (ix3 h r m) k = ix3 m h k := fun k => funext fun a => by match a with | ⟨0, _⟩ => rfl | ⟨1, _⟩ => rfl | ⟨2, _⟩ => rfl
  simp only [val_main_v39_apply, h1, h2, v38_apply, v2_apply]
  rfl

/-- A row's largest score. -/
theorem v13_apply (h : Fin 4) (r : Fin 8192) : val_main_v13 (F := Ideal) x0 x1 (ix2 h r) = mx (scores x0 x1 h.val r.val) := by
  have hR : S4x8192x256.Reduces [2] S4x8192 := by decide
  have hf := Host.reduce_eq_fold_single (FloatOps.maximumf (F := Ideal) (φ := .f32)) (val_main_v5 (F := Ideal) x0 x1) (val_main_cst_0 (F := Ideal))
    reducesTo_S4x8192x256_S4x8192_d2 hR h_S_ (ix2 h r)
  rw [val_main_v13_apply, val_main_v12_apply, val_main_cst_2_apply, Cert.AttnRefIdeal.Own.bot_eq]
  refine (max_eq_right bot_le).trans (Eq.trans (b := _) hf ?_)
  unfold mx
  refine congrArg (Finset.univ.fold max _) (funext fun k => ?_)
  refine Eq.trans (congrArg (val_main_v5 (F := Ideal) x0 x1) ?_) (v5_apply x0 x1 h r k)
  exact funext fun a => Fin.ext (by match a with | ⟨0, _⟩ => rfl | ⟨1, _⟩ => rfl | ⟨2, _⟩ => rfl)

theorem v26_apply (h : Fin 4) (r : Fin 8192) (m : Fin 256) : val_main_v26 (F := Ideal) x0 x1 (ix3 h r m) = ee (scores x0 x1 h.val r.val) m := by
  have h1 : idx_main_v23 (idx_main_v24 (ix3 h r m)) = ix2 h r := funext fun a => by match a with | ⟨0, _⟩ => rfl | ⟨1, _⟩ => rfl
  simp only [val_main_v26_apply, val_main_v25_apply, val_main_v24_apply, val_main_v23_apply, h1, v13_apply, v5_apply]
  rfl

theorem v28_apply (h : Fin 4) (r : Fin 8192) : val_main_v28 (F := Ideal) x0 x1 (ix3 h r 0) = zz (scores x0 x1 h.val r.val) := by
  have h1 : ∀ k, idx_main_v27 (idx_main_v28 (ix3 h r 0)) k = ix3 h r k := fun k => funext fun a => by match a with | ⟨0, _⟩ => rfl | ⟨1, _⟩ => rfl | ⟨2, _⟩ => rfl
  simp only [val_main_v28_apply, val_main_v27_apply, val_main_cst_8_apply, h1, v26_apply, Ideal.ofBits_def, Ideal.ofBits_zero_f32, zero_add]
  rfl

theorem v30_apply (h : Fin 4) (r : Fin 8192) (m : Fin 256) : val_main_v30 (F := Ideal) x0 x1 (ix3 h r m) = pp (scores x0 x1 h.val r.val) m := by
  have h1 : idx_main_v29 (ix3 h r m) = ix3 h r 0 := funext fun a => by match a with | ⟨0, _⟩ => rfl | ⟨1, _⟩ => rfl | ⟨2, _⟩ => rfl
  simp only [val_main_v30_apply, val_main_v29_apply, h1, v26_apply, v28_apply]
  rfl

theorem v55_apply (h : Fin 4) (r : Fin 8192) (m : Fin 256) :
    val_main_v55 (F := Ideal) x0 x1 x2 x3 (ix3 h r m) = ds (scores x0 x1 h.val r.val) (dots x3 x2 h.val r.val) m := by
  have h1 : idx_main_v48 (ix3 h r m) = ix3 h r 0 := funext fun a => by match a with | ⟨0, _⟩ => rfl | ⟨1, _⟩ => rfl | ⟨2, _⟩ => rfl
  have h2 : ∀ k, idx_main_v42 (ix3 h r k) = ix3 h r 0 := fun k => funext fun a => by match a with | ⟨0, _⟩ => rfl | ⟨1, _⟩ => rfl | ⟨2, _⟩ => rfl
  have h3 : ∀ k : Fin 1, idx_main_v50 (idx_main_v51 (ix3 h r m)) k = ix3 h r 0 := fun k => funext fun a => by
    match a with | ⟨0, _⟩ => rfl | ⟨1, _⟩ => rfl | ⟨2, _⟩ => exact Subsingleton.elim (α := Fin 1) _ _
  have h4 : ∀ k, idx_main_v45 (idx_main_v46 (ix3 h r 0)) k = ix3 h r k := fun k => funext fun a => by
    match a with
    | ⟨0, _⟩ => exact Fin.ext (by show ((h.val * 8192 + r.val) * 1 + 0) / 8192 = h.val; have := r.isLt; omega)
    | ⟨1, _⟩ => exact Fin.ext (by show ((h.val * 8192 + r.val) * 1 + 0) % 8192 = r.val; have := r.isLt; omega)
    | ⟨2, _⟩ => rfl
  simp only [val_main_v55_apply, val_main_v54_apply, val_main_cst_12_apply, val_main_v53_apply, val_main_v52_apply, val_main_v51_apply,
    val_main_v50_apply, val_main_cst_11_apply, Fin.sum_univ_one, h3, val_main_v47_apply, val_main_v46_apply, val_main_v45_apply, h4,
    val_main_cst_10_apply, val_main_v44_apply, val_main_v43_apply, val_main_v42_apply, h2, val_main_v33_apply, val_main_v32_apply,
    val_main_cst_9_apply, val_main_v31_apply, v28_apply, val_main_v49_apply, val_main_v48_apply, h1, v26_apply, v39_apply,
    Ideal.mulf_def, Ideal.addf_def, Ideal.hostDivf_def, Ideal.ofBits_def, Ideal.ofBits_zero_f32, zero_add, div_16]
  rfl

/-- The reference's three gradients. -/
theorem v63_apply (r : Fin 8192) (j : Fin 1024) : val_main_v63 (F := Ideal) x0 x1 x2 x3 (ix2 r j) = dqAt x0 x3 x1 x2 r.val j.val := by
  have hj := j.isLt
  have h1 : idx_main_v59 (idx_main_v62 (ix2 r j)) = ix3 ⟨j.val / 256, by omega⟩ r ⟨j.val % 256, by omega⟩ := funext fun a => by
    match a with
    | ⟨0, _⟩ => exact Fin.ext (by show (r.val * 1024 + j.val) / 256 % 4 = j.val / 256; omega)
    | ⟨1, _⟩ => exact Fin.ext (by show (r.val * 1024 + j.val) / 1024 = r.val; omega)
    | ⟨2, _⟩ => exact Fin.ext (by show (r.val * 1024 + j.val) % 256 = j.val % 256; omega)
  refine Eq.trans (b := val_main_v62 (F := Ideal) x0 x1 x2 x3 (ix2 r j)) rfl ?_
  rw [val_main_v62_apply, val_main_v59_apply, h1, val_main_v58_apply]
  refine Finset.sum_congr rfl fun m _ => congrArg₂ (· * ·) ?_ ?_
  · refine Eq.trans (congrArg (val_main_v55 (F := Ideal) x0 x1 x2 x3) ?_) (v55_apply x0 x3 x1 x2 ⟨j.val / 256, by omega⟩ r m)
    exact funext fun a => by match a with | ⟨0, _⟩ => rfl | ⟨1, _⟩ => rfl | ⟨2, _⟩ => rfl
  · refine Eq.trans (congrArg (val_main_v1 (F := Ideal) x1) (a₂ := ix3 m ⟨j.val / 256, by omega⟩ ⟨j.val % 256, by omega⟩) ?_) ((v1_apply x1 _ _ _).trans ?_)
    · exact funext fun a => by match a with | ⟨0, _⟩ => rfl | ⟨1, _⟩ => rfl | ⟨2, _⟩ => rfl
    · exact congrArg (atN x1 m.val) (Nat.div_add_mod j.val 256)

theorem v61_apply (m : Fin 256) (j : Fin 1024) :
    val_main_v61 (F := Ideal) x0 x1 x2 x3 (ix2 m j) = ∑ r ∈ Finset.range 8192, dkRow x0 x3 x1 x2 m j.val r := by
  have hj := j.isLt
  have h1 : idx_main_v57 (idx_main_v61 (ix2 m j)) = ix3 ⟨j.val / 256, by omega⟩ m ⟨j.val % 256, by omega⟩ := funext fun a => by
    match a with
    | ⟨0, _⟩ => exact Fin.ext (by show (m.val * 1024 + j.val) / 256 % 4 = j.val / 256; omega)
    | ⟨1, _⟩ => exact Fin.ext (by show (m.val * 1024 + j.val) / 1024 = m.val; omega)
    | ⟨2, _⟩ => exact Fin.ext (by show (m.val * 1024 + j.val) % 256 = j.val % 256; omega)
  rw [val_main_v61_apply, val_main_v57_apply, h1, val_main_v56_apply, ← sum_rows (n := 8192)]
  refine Finset.sum_congr rfl fun r _ => congrArg₂ (· * ·) ?_ ?_
  · refine Eq.trans (congrArg (val_main_v55 (F := Ideal) x0 x1 x2 x3) ?_) (v55_apply x0 x3 x1 x2 ⟨j.val / 256, by omega⟩ r m)
    exact funext fun a => by match a with | ⟨0, _⟩ => rfl | ⟨1, _⟩ => rfl | ⟨2, _⟩ => rfl
  · refine Eq.trans (congrArg (val_main_v0 (F := Ideal) x0) (a₂ := ix3 r ⟨j.val / 256, by omega⟩ ⟨j.val % 256, by omega⟩) ?_) ((v0_apply x0 _ _ _).trans ?_)
    · exact funext fun a => by match a with | ⟨0, _⟩ => rfl | ⟨1, _⟩ => rfl | ⟨2, _⟩ => rfl
    · exact congrArg (atN x0 r.val) (Nat.div_add_mod j.val 256)

theorem v60_apply (m : Fin 256) (j : Fin 1024) :
    val_main_v60 (F := Ideal) x0 x1 x3 (ix2 m j) = ∑ r ∈ Finset.range 8192, dvRow x0 x3 x1 m j.val r := by
  have hj := j.isLt
  have h1 : idx_main_v41 (idx_main_v60 (ix2 m j)) = ix3 ⟨j.val / 256, by omega⟩ ⟨j.val % 256, by omega⟩ m := funext fun a => by
    match a with
    | ⟨0, _⟩ => exact Fin.ext (by show (m.val * 1024 + j.val) / 256 % 4 = j.val / 256; omega)
    | ⟨1, _⟩ => exact Fin.ext (by show (m.val * 1024 + j.val) % 256 = j.val % 256; omega)
    | ⟨2, _⟩ => exact Fin.ext (by show (m.val * 1024 + j.val) / 1024 = m.val; omega)
  rw [val_main_v60_apply, val_main_v41_apply, h1, val_main_v40_apply, ← sum_rows (n := 8192)]
  refine Finset.sum_congr rfl fun r _ => (mul_comm _ _).trans (congrArg₂ (· * ·) ?_ ?_)
  · refine Eq.trans (congrArg (val_main_v30 (F := Ideal) x0 x1) ?_) (v30_apply x0 x1 ⟨j.val / 256, by omega⟩ r m)
    exact funext fun a => by match a with | ⟨0, _⟩ => rfl | ⟨1, _⟩ => rfl | ⟨2, _⟩ => rfl
  · refine Eq.trans (congrArg (val_main_v38 (F := Ideal) x3) (a₂ := ix3 ⟨j.val / 256, by omega⟩ ⟨j.val % 256, by omega⟩ r) ?_) ((v38_apply x3 _ _ _).trans ?_)
    · exact funext fun a => by match a with | ⟨0, _⟩ => rfl | ⟨1, _⟩ => rfl | ⟨2, _⟩ => rfl
    · exact congrArg (atN x3 r.val) (Nat.div_add_mod j.val 256)

end Cert.XattnRefIdeal.Own
end
-- ==== Proof.XattnTile.lean ====
/-
  One tile of the gradient of the attention to the memory (`xattn_bwd`): what a grid point leaves in each of its windows, and the
  entries of it over the extended reals.
-/
module

public import proofs.«01_k».proof.Proof.XattnRef
public import proofs.«01_k».proof.Proof.PrepRef
public import proofs.«01_k».proof.Proof.RowNorm
public import proofs.«01_k».proof.Proof.Gen.XattnBwdIdeal.Value
public import Idealize.ShloMosaic.Lib.MatmulPlain
public import Idealize.ShloMosaic.Lib.Tactic

@[expose] public section

set_option maxRecDepth 16384

noncomputable section

open Idealize.ShloMosaic Idealize.ShloMosaic.TcCoe Idealize.SL.Sem Idealize.ShloMosaic.ValueIdx

namespace Cert.XattnBwdIdeal.Own

open Cert.XattnBwdIdeal Cert.XattnBwdIdeal.Gen Cert.Own Cert.Xattn

section anyF
variable {F : FTy → Type} [FloatOps F]

/-! One head: `q` and `w` its columns of the rows and of their incoming gradient, `k` and `v` those of the memory. -/

section head
variable (q w : FVec F S1024x256 .f32) (k v : FVec F S256x256 .f32)

abbrev lo (q : FVec F S1024x256 .f32) : FVec F S1024x256 .bf16 := truncf .bf16 q bitsLt_bf16_f32
abbrev los (k : FVec F S256x256 .f32) : FVec F S256x256 .bf16 := truncf .bf16 k bitsLt_bf16_f32
/-- The gradient of the scores, and the weights. -/
def dsT : FVec F S1024x256 .f32 := k0_pay63 (k0_pay46 k (lo q)) (k0_pay47 k (lo q)) (k0_pay48 k (lo q)) (k0_pay61 (k0_pay49 k (lo q)) v w)
  (k0_pay62 (k0_pay48 k (lo q)) (divf (broadcast S1024x1 (Scalar.ofBits .f32 0x3F800000#32)) (mulf (k0_pay49 k (lo q)) (k0_pay49 k (lo q)))) v w)
def ppT : FVec F S1024x256 .f32 := divf (k0_pay48 k (lo q)) (broadcastTo S1024x256 (k0_pay49 k (lo q)) broadcasts_S1024x1_S1024x256)
/-- The head's part of the three gradients. -/
def dqT : FVec F S1024x256 .f32 :=
  matmul dot_S1024x256_S256x256_S1024x256_1_0_0_1_n_n none (lo (dsT q w k v)) (los k) (constant S1024x256 .f32 0x00000000#32)
def tn (x y : FVec F S1024x256 .f32) : FVec F S256x256 .f32 :=
  matmul dot_S1024x256_S1024x256_S256x256_0_0_1_1_n_n none (lo x) (lo y) (constant S256x256 .f32 0x00000000#32)
end head

/-- Four heads set side by side, each in columns of zeros, last first. -/
def join {n : ℕ} (c₁ : Shape.Concatenates [⟨2, ![n, 768]⟩, ⟨2, ![n, 256]⟩] ⟨2, ![n, 1024]⟩ 1) (c₂ : Shape.Concatenates [⟨2, ![n, 512]⟩, ⟨2, ![n, 256]⟩] ⟨2, ![n, 768]⟩ 1)
    (c₃ : Shape.Concatenates [⟨2, ![n, 256]⟩, ⟨2, ![n, 256]⟩] ⟨2, ![n, 512]⟩ 1) (c₄ : Shape.Concatenates [⟨2, ![n, 512]⟩, ⟨2, ![n, 512]⟩] ⟨2, ![n, 1024]⟩ 1)
    (c₅ : Shape.Concatenates [⟨2, ![n, 256]⟩, ⟨2, ![n, 768]⟩] ⟨2, ![n, 1024]⟩ 1) (x0 x1 x2 x3 : FVec F ⟨2, ![n, 256]⟩ .f32) : FVec F ⟨2, ![n, 1024]⟩ .f32 :=
  let z (k : ℕ) : (s : Shape) × FVec F s .f32 := ⟨⟨2, ![n, k]⟩, broadcast ⟨2, ![n, k]⟩ (Scalar.ofBits .f32 0x00000000#32)⟩
  let h (x : FVec F ⟨2, ![n, 256]⟩ .f32) : (s : Shape) × FVec F s .f32 := ⟨⟨2, ![n, 256]⟩, x⟩
  addf (addf (addf (concatenate ⟨2, ![n, 1024]⟩ 1 [z 768, h x3] c₁)
    (concatenate ⟨2, ![n, 1024]⟩ 1 [⟨⟨2, ![n, 768]⟩, concatenate ⟨2, ![n, 768]⟩ 1 [z 512, h x2] c₂⟩, z 256] c₁))
    (concatenate ⟨2, ![n, 1024]⟩ 1 [⟨⟨2, ![n, 512]⟩, concatenate ⟨2, ![n, 512]⟩ 1 [z 256, h x1] c₃⟩, z 512] c₄))
    (concatenate ⟨2, ![n, 1024]⟩ 1 [h x0, z 768] c₅)

section tile
variable (x0 x3 : Vec F S1024x1024 .bf16) (x1 x2 : Vec F S256x1024 .bf16)

/-- The columns of a head. -/
abbrev cut (o : ℕ) (h : Shape.Slices S1024x1024 ![0, o] S1024x256) (x : Vec F S1024x1024 .bf16) : FVec F S1024x256 .f32 :=
  extractStridedSlice S1024x256 ![0, o] (k0_pay4 x) h
abbrev cuts (o : ℕ) (h : Shape.Slices S256x1024 ![0, o] S256x256) (x : Vec F S256x1024 .bf16) : FVec F S256x256 .f32 :=
  extractStridedSlice S256x256 ![0, o] (k0_pay5 x) h
abbrev hd {α : Type} (f : FVec F S1024x256 .f32 → FVec F S1024x256 .f32 → FVec F S256x256 .f32 → FVec F S256x256 .f32 → α)
    (o : ℕ) (h : Shape.Slices S1024x1024 ![0, o] S1024x256) (h' : Shape.Slices S256x1024 ![0, o] S256x256) : α :=
  f (cut o h x0) (cut o h x3) (cuts o h' x1) (cuts o h' x2)
/-- A tile's three gradients. -/
def four {α β : Type} (f : FVec F S1024x256 .f32 → FVec F S1024x256 .f32 → FVec F S256x256 .f32 → FVec F S256x256 .f32 → α) (g : α → α → α → α → β) : β :=
  g (hd x0 x3 x1 x2 f 0 slices_S1024x1024_o0_0_S1024x256 slices_S256x1024_o0_0_S256x256)
    (hd x0 x3 x1 x2 f 256 slices_S1024x1024_o0_256_S1024x256 slices_S256x1024_o0_256_S256x256)
    (hd x0 x3 x1 x2 f 512 slices_S1024x1024_o0_512_S1024x256 slices_S256x1024_o0_512_S256x256)
    (hd x0 x3 x1 x2 f 768 slices_S1024x1024_o0_768_S1024x256 slices_S256x1024_o0_768_S256x256)
def dQ : FVec F S1024x1024 .bf16 := truncf .bf16 (four x0 x3 x1 x2 dqT (join concatenates_S1024x768_S1024x256_S1024x1024_d1 concatenates_S1024x512_S1024x256_S1024x768_d1
  concatenates_S1024x256_S1024x256_S1024x512_d1 concatenates_S1024x512_S1024x512_S1024x1024_d1 concatenates_S1024x256_S1024x768_S1024x1024_d1)) bitsLt_bf16_f32
abbrev joins : FVec F S256x256 .f32 → FVec F S256x256 .f32 → FVec F S256x256 .f32 → FVec F S256x256 .f32 → FVec F S256x1024 .f32 :=
  join concatenates_S256x768_S256x256_S256x1024_d1 concatenates_S256x512_S256x256_S256x768_d1 concatenates_S256x256_S256x256_S256x512_d1
    concatenates_S256x512_S256x512_S256x1024_d1 concatenates_S256x256_S256x768_S256x1024_d1
def dK : FVec F S256x1024 .f32 := four x0 x3 x1 x2 (fun q w k v => tn (dsT q w k v) q) joins
def dV : FVec F S256x1024 .f32 := four x0 x3 x1 x2 (fun q w k v => tn (ppT q k) w) joins
end tile

variable (c : Dev nD) (i : grid0.Coords) (a1 : Memref sig .tc .vmem S1024x1024 .bf16) (h1 : a1.IsWhole) (a2 : Memref sig .tc .vmem S256x1024 .bf16) (h2 : a2.IsWhole)
  (a3 : Memref sig .tc .vmem S256x1024 .bf16) (h3 : a3.IsWhole) (a4 : Memref sig .tc .vmem S1024x1024 .bf16) (h4 : a4.IsWhole)
  (a5 : Memref sig .tc .vmem S1024x1024 .bf16) (h5 : a5.IsWhole) (a6 : Memref sig .tc .vmem S256x1024 .f32) (h6 : a6.IsWhole)
  (a7 : Memref sig .tc .vmem S256x1024 .f32) (h7 : a7.IsWhole)
  (x0 x3 : Vec F S1024x1024 .bf16) (x1 x2 : Vec F S256x1024 .bf16) (xo5 xo6 : Vec F S256x1024 .f32)

/-! What a point leaves in each window, at the first tile (`A`) and at the others (`B`). -/

theorem out4_A (hc : cond0_0 i) : out0_A_4 c i a1 h1 a2 h2 a3 h3 a4 h4 a5 h5 a6 h6 a7 h7 hc x0 x1 x2 x3 = dQ x0 x3 x1 x2 := by
  unfold out0_A_4
  refine Eq.trans (View.read_writes_eq_canon _ _ _ fun _ => cover0_A_4 ..) ?_
  unfold kernelRun0_A
  dsimp only
  sl_unfold_words
  simp only [canon2, cov2, View.readAt_eq_ld, Memref.IsWhole.read_unread, ld2, *]
  rfl

theorem out4_B (hc : ¬cond0_0 i) : out0_B_4 c i a1 h1 a2 h2 a3 h3 a4 h4 a5 h5 a6 h6 a7 h7 hc x0 x1 x2 x3 xo5 xo6 = dQ x0 x3 x1 x2 := by
  unfold out0_B_4
  refine Eq.trans (View.read_writes_eq_canon _ _ _ fun _ => cover0_B_4 ..) ?_
  unfold kernelRun0_B
  dsimp only
  sl_unfold_words
  simp only [canon2, cov2, View.readAt_eq_ld, Memref.IsWhole.read_unread, ld2, *]
  rfl

theorem out5_A (hc : cond0_0 i) : out0_A_5 c i a1 h1 a2 h2 a3 h3 a4 h4 a5 h5 a6 h6 a7 h7 hc x0 x1 x2 x3 = addf (broadcast S256x1024 (Scalar.ofBits .f32 0x00000000#32)) (dK x0 x3 x1 x2) := by
  unfold out0_A_5
  refine Eq.trans (View.read_writes_eq_canon _ _ _ fun _ => cover0_A_5 ..) ?_
  unfold kernelRun0_A
  dsimp only
  sl_unfold_words
  simp only [canon2, cov2, View.readAt_eq_ld, Memref.IsWhole.read_unread, ld2, *]
  unfold k0_pay1
  rw [shapeCast_self]
  rfl

theorem out5_B (hc : ¬cond0_0 i) : out0_B_5 c i a1 h1 a2 h2 a3 h3 a4 h4 a5 h5 a6 h6 a7 h7 hc x0 x1 x2 x3 xo5 xo6 = addf (xo5) (dK x0 x3 x1 x2) := by
  unfold out0_B_5
  refine Eq.trans (View.read_writes_eq_canon _ _ _ fun _ => cover0_B_5 ..) ?_
  unfold kernelRun0_B
  dsimp only
  sl_unfold_words
  simp only [canon2, cov2, View.readAt_eq_ld, Memref.IsWhole.read_unread, ld2, *]
  unfold k0_pay1
  rw [shapeCast_self]
  rfl

theorem out6_A (hc : cond0_0 i) : out0_A_6 c i a1 h1 a2 h2 a3 h3 a4 h4 a5 h5 a6 h6 a7 h7 hc x0 x1 x2 x3 = addf (broadcast S256x1024 (Scalar.ofBits .f32 0x00000000#32)) (dV x0 x3 x1 x2) := by
  unfold out0_A_6
  refine Eq.trans (View.read_writes_eq_canon _ _ _ fun _ => cover0_A_6 ..) ?_
  unfold kernelRun0_A
  dsimp only
  sl_unfold_words
  simp only [canon2, cov2, View.readAt_eq_ld, Memref.IsWhole.read_unread, ld2, *]
  unfold k0_pay2
  rw [shapeCast_self]
  rfl

theorem out6_B (hc : ¬cond0_0 i) : out0_B_6 c i a1 h1 a2 h2 a3 h3 a4 h4 a5 h5 a6 h6 a7 h7 hc x0 x1 x2 x3 xo5 xo6 = addf (xo6) (dV x0 x3 x1 x2) := by
  unfold out0_B_6
  refine Eq.trans (View.read_writes_eq_canon _ _ _ fun _ => cover0_B_6 ..) ?_
  unfold kernelRun0_B
  dsimp only
  sl_unfold_words
  simp only [canon2, cov2, View.readAt_eq_ld, Memref.IsWhole.read_unread, ld2, *]
  unfold k0_pay2
  rw [shapeCast_self]
  rfl

end anyF
end Cert.XattnBwdIdeal.Own
end
-- ==== Proof.XattnEnt.lean ====
/-
  The entries of one tile's gradients of the attention to the memory, over the extended reals.
-/
module

public import proofs.«01_k».proof.Proof.XattnTile

@[expose] public section

set_option maxRecDepth 16384

noncomputable section

open Idealize.ShloMosaic Idealize.ShloMosaic.TcCoe Idealize.SL.Sem Idealize.ShloMosaic.ValueIdx

namespace Cert.XattnBwdIdeal.Own

open Cert.XattnBwdIdeal Cert.XattnBwdIdeal.Gen Cert.Own Cert.Xattn

/-- The largest of each row. -/
theorem max_row {a : ℕ} (x : FVec Ideal ⟨2, ![a, 256]⟩ .f32) (h : Shape.Reduces ⟨2, ![a, 256]⟩ [1] ⟨1, ![a]⟩) (hφ : FKind.Formats .f32)
    (hacc : (0xFF800000#32 : BitVec 32) = FKind.maximumf.neutral .f32 hφ) (i : Fin a) :
    multiReduction .maximumf [1] ⟨1, ![a]⟩ x 0xFF800000#32 h hφ hacc (ix1 i) = mx fun m => x (ix2 i m) :=
  (Ideal.multiReduction_maximumf_single x _ h hφ hacc (ix1 i)).trans (congrArg (Finset.univ.fold max _) (funext fun m => congrArg x (funext fun d => by
    match d with | ⟨0, _⟩ => rfl | ⟨1, _⟩ => rfl)))

section head
variable (q w : FVec Ideal S1024x256 .f32) (k v : FVec Ideal S256x256 .f32) (i : Fin 1024)

/-- The scores and the weights' incoming gradient of a head's row. -/
def dd (q : FVec Ideal S1024x256 .f32) (k : FVec Ideal S256x256 .f32) (i : Fin 1024) (m : Fin 256) : EReal := ∑ e : Fin 256, q (ix2 i e) * k (ix2 m e)
def sc (m : Fin 256) : EReal := dd q k i m * c16

theorem pay59_at (m : Fin 256) : k0_pay59 v w (ix2 i m) = dd w v i m := by
  unfold k0_pay59
  rw [show dot_S1024x256_S256x256_S1024x256_1_1_0_0_n_n = DotDims.transposedRhs 1024 256 256 from rfl]
  rw [matmul, Ideal.matmul_transposedRhs_apply, show constant (F := Ideal) S1024x256 .f32 0x00000000#32 (ix2 i m) = 0 from Ideal.ofBits_zero_f32, zero_add]
  rfl

theorem pay44_at (m : Fin 256) : k0_pay44 k (lo q) (ix2 i m) = sc q k i m := by
  unfold k0_pay44
  show k0_pay59 k q (ix2 i m) * c16 = _
  rw [pay59_at]; rfl

theorem pay45_at : k0_pay45 k (lo q) (ix1 i) = mx (sc q k i) := by
  unfold k0_pay45
  exact (max_row _ _ _ _ i).trans (congrArg mx (funext fun m => pay44_at q k i m))

theorem pay48_at (m : Fin 256) : k0_pay48 k (lo q) (ix2 i m) = ee (sc q k i) m := by
  unfold k0_pay48
  show Ideal.exp (k0_pay44 k (lo q) (ix2 i m) - broadcastTo S1024x256 _ _ (ix2 i m)) = _
  rw [bcast_col, col_apply, pay44_at, pay45_at]; rfl

theorem pay49_at : k0_pay49 k (lo q) (ix2 i (0 : Fin 1)) = zz (sc q k i) := by
  unfold k0_pay49
  simp only [col_apply, multiReduction, Ideal.reduceAdd_def, red_row, pay48_at]; rfl

theorem ppT_at (m : Fin 256) : ppT q k (ix2 i m) = pp (sc q k i) m := by
  unfold ppT
  rw [divf_apply, bcast_col, pay48_at, pay49_at]; rfl

/-- The mark of a largest score is not negative, so where the marks add up to nothing each is nothing. -/
theorem mark (m : Fin 256) (h : k0_pay47 k (lo q) (ix1 i) = 0) : k0_pay46 k (lo q) (ix2 i m) = 0 := by
  have hp : ∀ e, 0 ≤ k0_pay46 k (lo q) (ix2 i e) := fun e => by
    unfold k0_pay46
    rw [sitofp_apply, extui_apply]
    exact EReal.coe_nonneg.2 (Int.cast_nonneg ((by decide : ∀ b : BitVec 1, 0 ≤ (b.setWidth 32).toInt) _))
  unfold k0_pay47 at h
  simp only [multiReduction, Ideal.reduceAdd_def, red_row] at h
  exact (Finset.sum_eq_zero_iff_of_nonneg fun e _ => hp e).1 h m (Finset.mem_univ m)

variable (hs : ∀ m, ∃ r : ℝ, sc q k i m = (r : EReal)) (hd : ∀ m, ∃ r : ℝ, dd w v i m = (r : EReal))
include hs hd

theorem dsT_at (m : Fin 256) : dsT q w k v (ix2 i m) = ds (sc q k i) (dd w v i) m := by
  have hg : ∀ e, mulf (addf (k0_pay61 (k0_pay49 k (lo q)) v w) (k0_pay62 (k0_pay48 k (lo q)) (divf (broadcast S1024x1 (Scalar.ofBits .f32 0x3F800000#32))
      (mulf (k0_pay49 k (lo q)) (k0_pay49 k (lo q)))) v w)) (k0_pay48 k (lo q)) (ix2 i e) = gg (sc q k i) (dd w v i) e := fun e => by
    unfold k0_pay61 k0_pay62
    simp only [mulf_apply, addf_apply, subf_apply, divf_apply, broadcast_apply, bcast_col, col_apply, multiReduction, Ideal.reduceAdd_def, red_row,
      pay59_at, pay48_at, pay49_at, Fin.sum_univ_one]
    rw [show (Scalar.ofBits .f32 0x00000000#32 : Ideal .f32) = 0 from Ideal.ofBits_zero_f32]
    simp only [zero_sub]
    rfl
  unfold dsT k0_pay63
  simp only [mulf_apply _ (broadcast _ _), addf_apply _ (mulf (broadcastTo _ _ _) _), hg]
  simp only [mulf_apply (broadcastTo _ _ _), bcast_col, col_apply, divf_apply, multiReduction, Ideal.reduceAdd_def, red_row, Fin.sum_univ_one, subf_apply, hg, broadcast_apply]
  rw [show (Scalar.ofBits .f32 0x00000000#32 : Ideal .f32) = 0 from Ideal.ofBits_zero_f32]
  rw [no_share (gg_sum hs hd) fun h => mark q k i m h, add_zero]
  rfl

end head

/-- The product of columns against columns. -/
theorem tn_at (x y : FVec Ideal S1024x256 .f32) (r c : Fin 256) : tn x y (ix2 r c) = ∑ i : Fin 1024, x (ix2 i r) * y (ix2 i c) := by
  unfold tn
  rw [matmul, Ideal.matmul_constant_zero_apply, ← Equiv.sum_comp (contrEquiv1 dot_S1024x256_S1024x256_S256x256_0_0_1_1_n_n 1024 rfl rfl).symm]
  refine Finset.sum_congr rfl fun i _ => ?_
  have hk := contrEquiv1_symm_val dot_S1024x256_S1024x256_S256x256_0_0_1_1_n_n 1024 rfl rfl i
  refine congrArg₂ (· * ·) (congrArg x (funext fun a => Fin.ext ?_)) (congrArg y (funext fun a => Fin.ext ?_))
  · match a with | ⟨0, _⟩ => exact hk | ⟨1, _⟩ => rfl
  · match a with | ⟨0, _⟩ => exact hk | ⟨1, _⟩ => rfl

/-- Four heads side by side are read head by head. -/
theorem join_at {n : ℕ} (c₁ : Shape.Concatenates [⟨2, ![n, 768]⟩, ⟨2, ![n, 256]⟩] ⟨2, ![n, 1024]⟩ 1) (c₂ : Shape.Concatenates [⟨2, ![n, 512]⟩, ⟨2, ![n, 256]⟩] ⟨2, ![n, 768]⟩ 1)
    (c₃ : Shape.Concatenates [⟨2, ![n, 256]⟩, ⟨2, ![n, 256]⟩] ⟨2, ![n, 512]⟩ 1) (c₄ : Shape.Concatenates [⟨2, ![n, 512]⟩, ⟨2, ![n, 512]⟩] ⟨2, ![n, 1024]⟩ 1)
    (c₅ : Shape.Concatenates [⟨2, ![n, 256]⟩, ⟨2, ![n, 768]⟩] ⟨2, ![n, 1024]⟩ 1) (x0 x1 x2 x3 : FVec Ideal ⟨2, ![n, 256]⟩ .f32) (r j : ℕ) :
    atN (join c₁ c₂ c₃ c₄ c₅ x0 x1 x2 x3) r j
      = if j < 256 then atN x0 r j else if j < 512 then atN x1 r (j - 256) else if j < 768 then atN x2 r (j - 512) else atN x3 r (j - 768) := by
  have z : ∀ (k : ℕ) (r j : ℕ), atN (broadcast (⟨2, ![n, k]⟩ : Shape) (Scalar.ofBits .f32 0x00000000#32 : Ideal .f32)) r j = 0 := fun k r j => by
    unfold atN; split
    · exact Ideal.ofBits_zero_f32
    · rfl
  unfold join
  dsimp only
  rw [atN_addf, atN_addf, atN_addf, atN_beside _ _ c₁ rfl, atN_beside _ _ c₁ rfl, atN_beside _ _ c₂ rfl, atN_beside _ _ c₄ rfl, atN_beside _ _ c₃ rfl, atN_beside _ _ c₅ rfl]
  simp only [z]
  split_ifs <;> first | (exfalso; omega) | simp

section tile
variable (x0 x3 : Vec Ideal S1024x1024 .bf16) (x1 x2 : Vec Ideal S256x1024 .bf16)

/-- An entry of a head's columns. -/
theorem cut_at (o : ℕ) (h : Shape.Slices S1024x1024 ![0, o] S1024x256) (x : Vec Ideal S1024x1024 .bf16) (i : Fin 1024) (e : Fin 256) :
    cut o h x (ix2 i e) = atN x i.val (o + e.val) := by
  unfold cut k0_pay4
  rw [shapeCast_self]
  exact (eq_atN_of _ (ix2 i e) rfl rfl).trans (atN_cslice x h _ _ e.isLt)
theorem cuts_at (o : ℕ) (h : Shape.Slices S256x1024 ![0, o] S256x256) (x : Vec Ideal S256x1024 .bf16) (i e : Fin 256) :
    cuts o h x (ix2 i e) = atN x i.val (o + e.val) := by
  unfold cuts k0_pay5
  rw [shapeCast_self]
  exact (eq_atN_of _ (ix2 i e) rfl rfl).trans (atN_cslice x h _ _ e.isLt)

theorem dd_at (h : ℕ) (hh : Shape.Slices S1024x1024 ![0, 256 * h] S1024x256) (hh' : Shape.Slices S256x1024 ![0, 256 * h] S256x256) (i : Fin 1024) :
    dd (cut (256 * h) hh x0) (cuts (256 * h) hh' x1) i = dots x0 x1 h i.val := by
  funext m
  unfold dd dots
  exact Finset.sum_congr rfl fun e _ => by rw [cut_at, cuts_at]

/-- A tile is read head by head. -/
theorem four_at {n : ℕ} (c₁ : Shape.Concatenates [⟨2, ![n, 768]⟩, ⟨2, ![n, 256]⟩] ⟨2, ![n, 1024]⟩ 1) (c₂ : Shape.Concatenates [⟨2, ![n, 512]⟩, ⟨2, ![n, 256]⟩] ⟨2, ![n, 768]⟩ 1)
    (c₃ : Shape.Concatenates [⟨2, ![n, 256]⟩, ⟨2, ![n, 256]⟩] ⟨2, ![n, 512]⟩ 1) (c₄ : Shape.Concatenates [⟨2, ![n, 512]⟩, ⟨2, ![n, 512]⟩] ⟨2, ![n, 1024]⟩ 1)
    (c₅ : Shape.Concatenates [⟨2, ![n, 256]⟩, ⟨2, ![n, 768]⟩] ⟨2, ![n, 1024]⟩ 1)
    (f : FVec Ideal S1024x256 .f32 → FVec Ideal S1024x256 .f32 → FVec Ideal S256x256 .f32 → FVec Ideal S256x256 .f32 → FVec Ideal ⟨2, ![n, 256]⟩ .f32) (G : ℕ → EReal) (r : Fin n)
    (hf : ∀ h hh hh' (e : Fin 256), hd x0 x3 x1 x2 f (256 * h) hh hh' (ix2 r e) = G (256 * h + e.val)) (j : ℕ) (hj : j < 1024) :
    atN (four x0 x3 x1 x2 f (join c₁ c₂ c₃ c₄ c₅)) r.val j = G j := by
  have key : ∀ h hh hh', 256 * h ≤ j → j < 256 * h + 256 → atN (hd x0 x3 x1 x2 f (256 * h) hh hh') r.val (j - 256 * h) = G j := fun h hh hh' a b => by
    rw [atN_pos _ r.isLt (show j - 256 * h < 256 by omega)]
    refine (hf h hh hh' ⟨j - 256 * h, by omega⟩).trans (congrArg G ?_)
    show 256 * h + (j - 256 * h) = j
    omega
  unfold four
  rw [join_at]
  split_ifs with h1 h2 h3
  · exact key 0 _ _ (by omega) (by omega)
  · exact key 1 _ _ (by omega) (by omega)
  · exact key 2 _ _ (by omega) (by omega)
  · exact key 3 _ _ (by omega) (by omega)

/-- Each head's 256 columns. -/
theorem head_of (h : ℕ) (e : Fin 256) : (256 * h + e.val) / 256 = h := by have := e.isLt; omega

theorem dV_at (m : Fin 256) (j : ℕ) (hj : j < 1024) : atN (dV x0 x3 x1 x2) m.val j = ∑ i : Fin 1024, dvRow x0 x3 x1 m j i.val :=
  four_at x0 x3 x1 x2 _ _ _ _ _ _ (fun j => ∑ i : Fin 1024, dvRow x0 x3 x1 m j i.val) m (fun h hh hh' e => by
    unfold hd; beta_reduce
    rw [tn_at]
    refine Finset.sum_congr rfl fun i _ => ?_
    rw [ppT_at, show sc (cut (256 * h) hh x0) (cuts (256 * h) hh' x1) i = scores x0 x1 h i.val from funext fun m => congrArg (· * c16) (congrFun (dd_at x0 x1 h hh hh' i) m), cut_at]
    unfold dvRow
    rw [head_of]) j hj

/-- The arrays' entries are reals. -/
def Real4 : Prop := (∀ i, ∃ r : ℝ, x0 i = (r : EReal)) ∧ (∀ i, ∃ r : ℝ, x3 i = (r : EReal)) ∧ (∀ i, ∃ r : ℝ, x1 i = (r : EReal)) ∧ ∀ i, ∃ r : ℝ, x2 i = (r : EReal)

/-- Products of reals are reals. -/
theorem dots_real {x : Vec Ideal S1024x1024 .bf16} {y : Vec Ideal S256x1024 .bf16} (hx : ∀ i, ∃ r : ℝ, x i = (r : EReal)) (hy : ∀ i, ∃ r : ℝ, y i = (r : EReal))
    (h r : ℕ) (m : Fin 256) : ∃ t : ℝ, dots x y h r m = (t : EReal) := by
  have at_ : ∀ {a b : ℕ} {z : (⟨2, ![a, b]⟩ : Shape).Idx → EReal}, (∀ i, ∃ r : ℝ, z i = (r : EReal)) → ∀ r j, ∃ t : ℝ, atN z r j = (t : EReal) := fun hz r j => by
    unfold atN; split
    · exact hz _
    · exact ⟨0, rfl⟩
  choose X hX using fun k => at_ hx r (256 * h + k)
  choose Y hY using fun k => at_ hy m.val (256 * h + k)
  refine ⟨∑ k : Fin 256, X k * Y k, ?_⟩
  unfold dots
  rw [Cert.AttnBwdIdeal.Own.coe_sum]
  exact Finset.sum_congr rfl fun k _ => by rw [hX, hY, EReal.coe_mul]

variable (H : Real4 x0 x3 x1 x2)
include H

theorem ds_head (h : ℕ) (hh : Shape.Slices S1024x1024 ![0, 256 * h] S1024x256) (hh' : Shape.Slices S256x1024 ![0, 256 * h] S256x256) (i : Fin 1024) (m : Fin 256) :
    dsT (cut (256 * h) hh x0) (cut (256 * h) hh x3) (cuts (256 * h) hh' x1) (cuts (256 * h) hh' x2) (ix2 i m) = ds (scores x0 x1 h i.val) (dots x3 x2 h i.val) m := by
  have e1 := dd_at x0 x1 h hh hh' i
  have e2 := dd_at x3 x2 h hh hh' i
  have e3 : sc (cut (256 * h) hh x0) (cuts (256 * h) hh' x1) i = scores x0 x1 h i.val := funext fun m => congrArg (· * c16) (congrFun e1 m)
  rw [dsT_at _ _ _ _ i (fun m => by
      obtain ⟨t, ht⟩ := dots_real H.1 H.2.2.1 h i.val m
      exact ⟨t * (1 / 16), by rw [e3, scores, ht, c16_eq, EReal.coe_mul]⟩) (fun m => by rw [e2]; exact dots_real H.2.1 H.2.2.2 h i.val m), e3, e2]

theorem dQ_at (i : Fin 1024) (j : ℕ) (hj : j < 1024) : atN (dQ x0 x3 x1 x2) i.val j = dqAt x0 x3 x1 x2 i.val j :=
  four_at x0 x3 x1 x2 _ _ _ _ _ dqT (dqAt x0 x3 x1 x2 i.val) i (fun h hh hh' e => by
    unfold hd dqT
    rw [show dot_S1024x256_S256x256_S1024x256_1_0_0_1_n_n = DotDims.plain 1024 256 256 from rfl]
    rw [matmul, Ideal.matmul_plain_apply, show constant (F := Ideal) S1024x256 .f32 0x00000000#32 (ix2 i e) = 0 from Ideal.ofBits_zero_f32, zero_add]
    unfold dqAt
    rw [head_of]
    exact Finset.sum_congr rfl fun m _ => congrArg₂ (· * ·) (ds_head x0 x3 x1 x2 H h hh hh' i m) (cuts_at _ hh' x1 m e)) j hj

theorem dK_at (m : Fin 256) (j : ℕ) (hj : j < 1024) : atN (dK x0 x3 x1 x2) m.val j = ∑ i : Fin 1024, dkRow x0 x3 x1 x2 m j i.val :=
  four_at x0 x3 x1 x2 _ _ _ _ _ _ (fun j => ∑ i : Fin 1024, dkRow x0 x3 x1 x2 m j i.val) m (fun h hh hh' e => by
    unfold hd; beta_reduce
    rw [tn_at]
    refine Finset.sum_congr rfl fun i _ => ?_
    rw [ds_head x0 x3 x1 x2 H, cut_at]
    unfold dkRow
    rw [head_of]) j hj

end tile

end Cert.XattnBwdIdeal.Own
end
-- ==== Proof.Xattn.lean ====
/-
  The gradient of the attention to the memory (`xattn_bwd`): softmax of each row's scores against the memory's 256 rows, four heads.
-/
module

public import proofs.«01_k».proof.Proof.XattnEnt
public import proofs.«01_k».proof.Proof.Attn
public import proofs.«01_k».proof.Proof.Gen.Pre_xattn_finite
public import proofs.«01_k».proof.Defs

@[expose] public section

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.XattnBwdIdeal.Own

open Cert.XattnBwdIdeal Cert.XattnBwdIdeal.Gen Cert.Own Cert.Xattn

variable (m : (ℓ : Loc nD τ sig) → Buf (Elt Ideal) ℓ) (c : Dev nD)

/-- The queries, the memory's keys and values, the incoming gradient. -/
abbrev AQ : FVec Ideal S8192x1024 .f32 := m ((c.tc : Thread nD τ).loc main_arg0)
abbrev AK : FVec Ideal S256x1024 .f32 := m ((c.tc : Thread nD τ).loc main_arg1)
abbrev AV : FVec Ideal S256x1024 .f32 := m ((c.tc : Thread nD τ).loc main_arg2)
abbrev AW : FVec Ideal S8192x1024 .f32 := m ((c.tc : Thread nD τ).loc main_arg3)
def Reals : Prop := (∀ i, ∃ r : ℝ, AQ m c i = (r : EReal)) ∧ (∀ i, ∃ r : ℝ, AW m c i = (r : EReal)) ∧ (∀ i, ∃ r : ℝ, AK m c i = (r : EReal)) ∧ ∀ i, ∃ r : ℝ, AV m c i = (r : EReal)

set_option maxHeartbeats 40000000 in
/-- The host's casts leave these arrays for the call. -/
theorem V_all : (V m c main_v0 : FVec Ideal S8192x1024 .bf16) = AQ m c ∧ (V m c main_v1 : FVec Ideal S256x1024 .bf16) = AK m c
    ∧ (V m c main_v2 : FVec Ideal S256x1024 .bf16) = AV m c ∧ (V m c main_v3 : FVec Ideal S8192x1024 .bf16) = AW m c := by
  unfold V hostOps0
  refine ⟨?_, ?_, ?_, ?_⟩ <;> after_results_simp <;> rfl

theorem idx : ∀ t : Fin grid0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = t.val ∧ win0_3.index t 1 = 0)
    ∧ (win0_4.index t 0 = t.val ∧ win0_4.index t 1 = 0) ∧ (win0_5.index t 0 = 0 ∧ win0_5.index t 1 = 0)
    ∧ (win0_6.index t 0 = 0 ∧ win0_6.index t 1 = 0) := by decide +kernel

theorem lt8 (t : Fin cfg0.N) : t.val < 8 := t.isLt.trans_eq N_0

/-- The blocks a point reads: its rows of the queries and of the gradient, and the whole memory. -/
theorem blk0 (t : Fin cfg0.N) (i : Fin 1024) (k : ℕ) : atN (iblk m c 0 t : Vec Ideal S1024x1024 .bf16) i.val k = atN (AQ m c) (1024 * t.val + i.val) k := by
  by_cases hk : k < 1024
  · rw [atN_pos _ i.isLt hk, ← (V_all m c).1]
    exact eq_atN_of (V m c main_v0 : FVec Ideal S8192x1024 .bf16) _ (by show win0_0.index t 0 * 1024 + 1 * i.val = _; rw [(idx t).1.1]; omega)
      (by show win0_0.index t 1 * 1024 + 1 * k = _; rw [(idx t).1.2]; omega)
  · rw [atN_col _ (by omega), atN_col _ (by omega)]
theorem blk3 (t : Fin cfg0.N) (i : Fin 1024) (k : ℕ) : atN (iblk m c 3 t : Vec Ideal S1024x1024 .bf16) i.val k = atN (AW m c) (1024 * t.val + i.val) k := by
  by_cases hk : k < 1024
  · rw [atN_pos _ i.isLt hk, ← (V_all m c).2.2.2]
    exact eq_atN_of (V m c main_v3 : FVec Ideal S8192x1024 .bf16) _ (by show win0_3.index t 0 * 1024 + 1 * i.val = _; rw [(idx t).2.2.2.1.1]; omega)
      (by show win0_3.index t 1 * 1024 + 1 * k = _; rw [(idx t).2.2.2.1.2]; omega)
  · rw [atN_col _ (by omega), atN_col _ (by omega)]
theorem blk1 (t : Fin cfg0.N) : (iblk m c 1 t : Vec Ideal S256x1024 .bf16) = AK m c := by
  rw [← (V_all m c).2.1]
  exact ext2 fun i j => (eq_atN_of (V m c main_v1 : FVec Ideal S256x1024 .bf16) _ (r := i.val) (j := j.val) (by show win0_1.index t 0 * 256 + 1 * i.val = _; rw [(idx t).2.1.1]; omega)
      (by show win0_1.index t 1 * 1024 + 1 * j.val = _; rw [(idx t).2.1.2]; omega)).trans (atN_pos _ i.isLt j.isLt)
theorem blk2 (t : Fin cfg0.N) : (iblk m c 2 t : Vec Ideal S256x1024 .bf16) = AV m c := by
  rw [← (V_all m c).2.2.1]
  exact ext2 fun i j => (eq_atN_of (V m c main_v2 : FVec Ideal S256x1024 .bf16) _ (r := i.val) (j := j.val) (by show win0_2.index t 0 * 256 + 1 * i.val = _; rw [(idx t).2.2.1.1]; omega)
      (by show win0_2.index t 1 * 1024 + 1 * j.val = _; rw [(idx t).2.2.1.2]; omega)).trans (atN_pos _ i.isLt j.isLt)

theorem rows0 (t : Fin cfg0.N) (h : ℕ) (i : Fin 1024) : dots (iblk m c 0 t : Vec Ideal S1024x1024 .bf16) (iblk m c 1 t : Vec Ideal S256x1024 .bf16) h i.val = dots (AQ m c) (AK m c) h (1024 * t.val + i.val) :=
  funext fun e => by unfold dots; simp only [blk0]; rw [blk1]
theorem rows3 (t : Fin cfg0.N) (h : ℕ) (i : Fin 1024) : dots (iblk m c 3 t : Vec Ideal S1024x1024 .bf16) (iblk m c 2 t : Vec Ideal S256x1024 .bf16) h i.val = dots (AW m c) (AV m c) h (1024 * t.val + i.val) :=
  funext fun e => by unfold dots; simp only [blk3]; rw [blk2]
theorem srows (t : Fin cfg0.N) (h : ℕ) (i : Fin 1024) : scores (iblk m c 0 t : Vec Ideal S1024x1024 .bf16) (iblk m c 1 t : Vec Ideal S256x1024 .bf16) h i.val = scores (AQ m c) (AK m c) h (1024 * t.val + i.val) :=
  funext fun e => congrArg (· * c16) (congrFun (rows0 m c t h i) e)

theorem step6 (t : Fin cfg0.N) (xo : Vec Ideal S256x1024 .f32) (i : Fin 256) (j : Fin 1024) (h : xo (ix2 i j) = ∑ r ∈ Finset.range (1024 * t.val), dvRow (AQ m c) (AW m c) (AK m c) i j.val r) :
    addf (F := Ideal) xo (dV (iblk m c 0 t) (iblk m c 3 t) (iblk m c 1 t) (iblk m c 2 t)) (ix2 i j) = ∑ r ∈ Finset.range (1024 * (t.val + 1)), dvRow (AQ m c) (AW m c) (AK m c) i j.val r := by
  have e : dV (iblk m c 0 t) (iblk m c 3 t) (iblk m c 1 t) (iblk m c 2 t) (ix2 i j) = ∑ r : Fin 1024, dvRow (AQ m c) (AW m c) (AK m c) i j.val (1024 * t.val + r.val) := by
    refine (eq_atN_of _ (ix2 i j) rfl rfl).trans ((dV_at _ _ _ _ i j.val j.isLt).trans (Finset.sum_congr rfl fun r _ => ?_))
    unfold dvRow
    rw [srows, blk3]
  rw [addf_apply, h, e, sum_range_block]

theorem outs6 : ∀ (n : ℕ) (h : n < cfg0.N), (outsAt0 m c n h).2.2 = fun y : S256x1024.Idx => ∑ r ∈ Finset.range (1024 * (n + 1)), dvRow (AQ m c) (AW m c) (AK m c) (y 0) (y 1).val r
  | 0, h => by
    refine (congrArg (·.2.2) (outsAt0_A m c ⟨0, h⟩ rfl)).trans ?_
    dsimp only
    rw [out6_A]
    exact ext2 fun i j => step6 m c ⟨0, h⟩ _ i j (Ideal.ofBits_zero_f32.trans (by rw [Nat.mul_zero]; rfl))
  | n + 1, h => by
    have hB : ¬(⟨n + 1, h⟩ : Fin cfg0.N).val % 8 = 0 := by have := lt8 ⟨n + 1, h⟩; dsimp only at this ⊢; omega
    refine (congrArg (·.2.2) (outsAt0_B m c ⟨n + 1, h⟩ hB)).trans ?_
    dsimp only
    rw [out6_B]
    exact ext2 fun i j => step6 m c ⟨n + 1, h⟩ _ i j (congrFun (outs6 n _) (ix2 i j))

variable (R : Reals m c)
include R

theorem real4 (t : Fin cfg0.N) : Real4 (iblk m c 0 t) (iblk m c 3 t) (iblk m c 1 t) (iblk m c 2 t) := by
  have e : ∀ {x : FVec Ideal S8192x1024 .f32}, (∀ i, ∃ r : ℝ, x i = (r : EReal)) → ∀ a b, ∃ r : ℝ, atN x a b = (r : EReal) := fun hx a b => by
    unfold atN; split
    · exact hx _
    · exact ⟨0, rfl⟩
  refine ⟨fun y => ?_, fun y => ?_, by rw [blk1]; exact R.2.2.1, by rw [blk2]; exact R.2.2.2⟩
  · rw [eq_atN_of (iblk m c 0 t : Vec Ideal S1024x1024 .bf16) y rfl rfl, blk0 m c t (y 0)]; exact e R.1 _ _
  · rw [eq_atN_of (iblk m c 3 t : Vec Ideal S1024x1024 .bf16) y rfl rfl, blk3 m c t (y 0)]; exact e R.2.1 _ _

theorem step5 (t : Fin cfg0.N) (xo : Vec Ideal S256x1024 .f32) (i : Fin 256) (j : Fin 1024) (h : xo (ix2 i j) = ∑ r ∈ Finset.range (1024 * t.val), dkRow (AQ m c) (AW m c) (AK m c) (AV m c) i j.val r) :
    addf (F := Ideal) xo (dK (iblk m c 0 t) (iblk m c 3 t) (iblk m c 1 t) (iblk m c 2 t)) (ix2 i j) = ∑ r ∈ Finset.range (1024 * (t.val + 1)), dkRow (AQ m c) (AW m c) (AK m c) (AV m c) i j.val r := by
  have e : dK (iblk m c 0 t) (iblk m c 3 t) (iblk m c 1 t) (iblk m c 2 t) (ix2 i j) = ∑ r : Fin 1024, dkRow (AQ m c) (AW m c) (AK m c) (AV m c) i j.val (1024 * t.val + r.val) := by
    refine (eq_atN_of _ (ix2 i j) rfl rfl).trans ((dK_at _ _ _ _ (real4 m c R t) i j.val j.isLt).trans (Finset.sum_congr rfl fun r _ => ?_))
    unfold dkRow
    rw [srows, rows3, blk0]
  rw [addf_apply, h, e, sum_range_block]

theorem outs5 : ∀ (n : ℕ) (h : n < cfg0.N), (outsAt0 m c n h).2.1 = fun y : S256x1024.Idx => ∑ r ∈ Finset.range (1024 * (n + 1)), dkRow (AQ m c) (AW m c) (AK m c) (AV m c) (y 0) (y 1).val r
  | 0, h => by
    refine (congrArg (·.2.1) (outsAt0_A m c ⟨0, h⟩ rfl)).trans ?_
    dsimp only
    rw [out5_A]
    exact ext2 fun i j => step5 m c R ⟨0, h⟩ _ i j (Ideal.ofBits_zero_f32.trans (by rw [Nat.mul_zero]; rfl))
  | n + 1, h => by
    have hB : ¬(⟨n + 1, h⟩ : Fin cfg0.N).val % 8 = 0 := by have := lt8 ⟨n + 1, h⟩; dsimp only at this ⊢; omega
    refine (congrArg (·.2.1) (outsAt0_B m c ⟨n + 1, h⟩ hB)).trans ?_
    dsimp only
    rw [out5_B]
    exact ext2 fun i j => step5 m c R ⟨n + 1, h⟩ _ i j (congrFun (outs5 n _) (ix2 i j))

theorem tile4 (t : Fin cfg0.N) : dQ (iblk m c 0 t) (iblk m c 3 t) (iblk m c 1 t) (iblk m c 2 t)
    = fun y : S1024x1024.Idx => dqAt (AQ m c) (AW m c) (AK m c) (AV m c) (1024 * t.val + (y 0).val) (y 1).val := by
  refine ext2 fun i j => ?_
  rw [eq_atN_of (dQ (iblk m c 0 t) (iblk m c 3 t) (iblk m c 1 t) (iblk m c 2 t)) (ix2 i j) rfl rfl, dQ_at _ _ _ _ (real4 m c R t) i j.val j.isLt]
  unfold dqAt
  rw [srows, rows3, blk1]

theorem outs4 (t : Fin cfg0.N) : (outsAt0 m c t.val t.isLt).1
    = fun y : S1024x1024.Idx => dqAt (AQ m c) (AW m c) (AK m c) (AV m c) (1024 * t.val + (y 0).val) (y 1).val := by
  by_cases h : t.val % 8 = 0
  · refine (congrArg (·.1) (outsAt0_A m c t h)).trans ?_
    dsimp only
    rw [out4_A]
    exact tile4 m c R t
  · refine (congrArg (·.1) (outsAt0_B m c t h)).trans ?_
    dsimp only
    rw [out4_B]
    exact tile4 m c R t

/-- The three gradients after the run. -/
theorem final4 : (dats m 0 c).arrAt 4 cfg0.N = fun i : S8192x1024.Idx => dqAt (AQ m c) (AW m c) (AK m c) (AV m c) (i 0).val (i 1).val := by
  refine (dats m 0 c).arrAt_eq_of_cover 4 _ (fun t _ => ?_) fun (i : S8192x1024.Idx) => ?_
  · show (cfg0.win 4).cut (grid0.coords t) ((dats m 0 c).after 4 t) = _
    rw [after0_4, outs4 m c R]
    refine funext fun y => Eq.trans ?_ (View.read_apply _ _).symm
    have e0 : 1024 * t.val + (y 0).val = win0_4.index t 0 * 1024 + 1 * (y 0).val := by rw [(idx t).2.2.2.2.1.1]; omega
    have e1 : (y 1).val = win0_4.index t 1 * 1024 + 1 * (y 1).val := by rw [(idx t).2.2.2.2.1.2]; omega
    exact congrArg₂ (dqAt (AQ m c) (AW m c) (AK m c) (AV m c)) e0 e1
  · have hi0 : (i 0).val < 8192 := (i 0).isLt
    obtain ⟨t, ht⟩ : ∃ t : Fin cfg0.N, t.val = (i 0).val / 1024 := ⟨⟨(i 0).val / 1024, by rw [show cfg0.N = 8 from N_0]; omega⟩, rfl⟩
    refine ⟨t, flush0_4 t, ?_⟩
    show i ∈ ((View.whole main_v4_0).slice (win0_4.rect t)).set
    rw [View.set_slice_whole, Rect.mem_set_unit]
    exact in_rows i (a := 1024) (f := win0_4.index t) (by decide) ((idx t).2.2.2.2.1.1.trans ht) (idx t).2.2.2.2.1.2

theorem final5 : (dats m 0 c).arrAt 5 cfg0.N = fun y : S256x1024.Idx => ∑ r ∈ Finset.range 8192, dkRow (AQ m c) (AW m c) (AK m c) (AV m c) (y 0) (y 1).val r := by
  refine (dats m 0 c).arrAt_eq_of_cover 5 _ (fun t ht => ?_) fun (i : S256x1024.Idx) => ?_
  · have h7 : t.val = 7 := by have := (flush0_5 t).mp ht; have := lt8 t; omega
    show (cfg0.win 5).cut (grid0.coords t) ((dats m 0 c).after 5 t) = _
    rw [after0_5, outs5 m c R, h7]
    have hz' : (fun a => win0_5.index t a * main_v4_1.ty.shape.size a) = fun _ => 0 := still (f := win0_5.index t) (idx t).2.2.2.2.2.1.1 (idx t).2.2.2.2.2.1.2
    exact (Memref.read_access_unit_zero (Elt Ideal) main_v4_1 hz' (fun a => by rw [congrFun hz' a]; simp) _).symm
  · obtain ⟨t, ht⟩ : ∃ t : Fin cfg0.N, t.val = 7 := ⟨⟨7, by rw [show cfg0.N = 8 from N_0]; omega⟩, rfl⟩
    refine ⟨t, (flush0_5 t).mpr (by rw [ht]), ?_⟩
    show i ∈ ((View.whole main_v4_1).slice (win0_5.rect t)).set
    rw [View.set_slice_whole, Rect.mem_set_unit]
    exact in_still i (f := win0_5.index t) (idx t).2.2.2.2.2.1.1 (idx t).2.2.2.2.2.1.2

omit R in
theorem final6 : (dats m 0 c).arrAt 6 cfg0.N = fun y : S256x1024.Idx => ∑ r ∈ Finset.range 8192, dvRow (AQ m c) (AW m c) (AK m c) (y 0) (y 1).val r := by
  refine (dats m 0 c).arrAt_eq_of_cover 6 _ (fun t ht => ?_) fun (i : S256x1024.Idx) => ?_
  · have h7 : t.val = 7 := by have := (flush0_6 t).mp ht; have := lt8 t; omega
    show (cfg0.win 6).cut (grid0.coords t) ((dats m 0 c).after 6 t) = _
    rw [after0_6, outs6 m c, h7]
    have hz' : (fun a => win0_6.index t a * main_v4_2.ty.shape.size a) = fun _ => 0 := still (f := win0_6.index t) (idx t).2.2.2.2.2.2.1 (idx t).2.2.2.2.2.2.2
    exact (Memref.read_access_unit_zero (Elt Ideal) main_v4_2 hz' (fun a => by rw [congrFun hz' a]; simp) _).symm
  · obtain ⟨t, ht⟩ : ∃ t : Fin cfg0.N, t.val = 7 := ⟨⟨7, by rw [show cfg0.N = 8 from N_0]; omega⟩, rfl⟩
    refine ⟨t, (flush0_6 t).mpr (by rw [ht]), ?_⟩
    show i ∈ ((View.whole main_v4_2).slice (win0_6.rect t)).set
    rw [View.set_slice_whole, Rect.mem_set_unit]
    exact in_still i (f := win0_6.index t) (idx t).2.2.2.2.2.2.1 (idx t).2.2.2.2.2.2.2

end Cert.XattnBwdIdeal.Own

namespace Cert.Xattn

open Cert.Own Cert.XattnBwdIdeal.Own Cert.XattnRefIdeal.Read Cert.XattnRefIdeal.Own

/-- The reference program ends with its arguments unchanged and every counter at zero. -/
theorem ref_frame : Cert.quiescent_XattnRefIdeal (hXattnRefIdeal := Cert.XattnRefIdeal.Gen.facts) := fun m g _ =>
  (θ_run Cert.XattnRefIdeal.defs _ _).mono (fun r h => ⟨fun c => (h c).2.2.2, sem_eq_zero_of_no_sems (by decide) r.2⟩)
    (Cert.XattnRefIdeal.Value.run m g)

set_option maxHeartbeats 1000000 in
/-- At finite arguments, over the extended reals, the kernel returns the derivative of the attention to the memory. -/
theorem value : Cert.algebraic_XattnBwdIdeal_XattnRefIdeal_pre_xattn_finite (hXattnBwdIdeal := Cert.XattnBwdIdeal.Gen.facts)
    (hXattnRefIdeal := Cert.XattnRefIdeal.Gen.facts) (hPre_xattn_finite := Cert.Pre_xattn_finite.Gen.facts) := fun m g m' g' hf hm => by
  refine ⟨fun c => (Cert.XattnBwdIdeal.Gen.dats m 0 c).arrAt 4 Cert.XattnBwdIdeal.cfg0.N,
    fun c => (Cert.XattnBwdIdeal.Gen.dats m 0 c).arrAt 5 Cert.XattnBwdIdeal.cfg0.N,
    fun c => (Cert.XattnBwdIdeal.Gen.dats m 0 c).arrAt 6 Cert.XattnBwdIdeal.cfg0.N, ?_, ?_⟩
  · exact (θ_run Cert.XattnBwdIdeal.defs _ _).mono (fun r h c => h c) (Cert.XattnBwdIdeal.Value.run_blocks m g)
  · refine (θ_run Cert.XattnRefIdeal.defs _ _).mono (fun r h c => ?_) (Cert.XattnRefIdeal.Value.run m' g')
    obtain ⟨e0, e1, e2, e3⟩ := hm c
    obtain ⟨h0, h1, h2, h3⟩ := h c
    obtain ⟨p0, p1, p2, p3⟩ := hf c
    have R : Reals m c := ⟨fun i => Cert.Attn.real_of_finite (congrFun p0 i), fun i => Cert.Attn.real_of_finite (congrFun p3 i),
      fun i => Cert.Attn.real_of_finite (congrFun p1 i), fun i => Cert.Attn.real_of_finite (congrFun p2 i)⟩
    refine ⟨h0.trans ?_, h1.trans ?_, h2.trans ?_, h3⟩
    · refine (val_main_v63_eq (F := Ideal) m' c).trans (Eq.trans ?_ (final4 m c R).symm)
      rw [e0, e1, e2, e3]
      exact ext2 fun i j => v63_apply _ _ _ _ i j
    · refine (val_main_v61_eq (F := Ideal) m' c).trans (Eq.trans ?_ (final5 m c R).symm)
      rw [e0, e1, e2, e3]
      exact ext2 fun i j => v61_apply _ _ _ _ i j
    · refine (val_main_v60_eq (F := Ideal) _ _ _).trans (Eq.trans ?_ (final6 m c).symm)
      rw [e0, e1, e3]
      exact ext2 fun i j => v60_apply _ _ _ i j

end Cert.Xattn
end
-- ==== Proof.lean ====
/-
  The certificate's claims, each from the module of its call: the kernel's run and the reference's run, then the
  equality of the results over the extended reals.
-/
module

public import proofs.«01_k».proof.Defs
public import proofs.«01_k».proof.Proof.Gen.NormBwd.Frame
public import proofs.«01_k».proof.Proof.Gen.NormBwdIdeal.Frame
public import proofs.«01_k».proof.Proof.Gen.ConvBwd.Frame
public import proofs.«01_k».proof.Proof.Gen.ConvBwdIdeal.Frame
public import proofs.«01_k».proof.Proof.Gen.ReluBwd.Frame
public import proofs.«01_k».proof.Proof.Gen.ReluBwdIdeal.Frame
public import proofs.«01_k».proof.Proof.Gen.AttnBwd.Frame
public import proofs.«01_k».proof.Proof.Gen.AttnBwdIdeal.Frame
public import proofs.«01_k».proof.Proof.Gen.QropeBwd.Frame
public import proofs.«01_k».proof.Proof.Gen.QropeBwdIdeal.Frame
public import proofs.«01_k».proof.Proof.Gen.MemqBwd.Frame
public import proofs.«01_k».proof.Proof.Gen.MemqBwdIdeal.Frame
public import proofs.«01_k».proof.Proof.Gen.LossBwd.Frame
public import proofs.«01_k».proof.Proof.Gen.LossBwdIdeal.Frame
public import proofs.«01_k».proof.Proof.Gen.MlpupBwd.Frame
public import proofs.«01_k».proof.Proof.Gen.MlpupBwdIdeal.Frame
public import proofs.«01_k».proof.Proof.Gen.MixBwd.Frame
public import proofs.«01_k».proof.Proof.Gen.MixBwdIdeal.Frame
public import proofs.«01_k».proof.Proof.Gen.PrepBwd.Frame
public import proofs.«01_k».proof.Proof.Gen.PrepBwdIdeal.Frame
public import proofs.«01_k».proof.Proof.Gen.XattnBwd.Frame
public import proofs.«01_k».proof.Proof.Gen.XattnBwdIdeal.Frame
public import proofs.«01_k».proof.Proof.Gen.Pre_finite
public import proofs.«01_k».proof.Proof.Gen.Pre_xattn_finite
public import proofs.«01_k».proof.Proof.Gen.NormBwdIdeal.Value
public import proofs.«01_k».proof.Proof.Gen.NormRefIdeal.Run
public import proofs.«01_k».proof.Proof.Gen.NormRefIdeal.Read
public import proofs.«01_k».proof.Proof.Gen.ConvBwdIdeal.Value
public import proofs.«01_k».proof.Proof.Gen.ConvRefIdeal.Run
public import proofs.«01_k».proof.Proof.Gen.ConvRefIdeal.Read
public import proofs.«01_k».proof.Proof.Gen.ReluRefIdeal.Run
public import proofs.«01_k».proof.Proof.Gen.ReluRefIdeal.Read
public import proofs.«01_k».proof.Proof.Gen.AttnRefIdeal.Run
public import proofs.«01_k».proof.Proof.Gen.AttnRefIdeal.Read
public import proofs.«01_k».proof.Proof.Gen.QropeRefIdeal.Run
public import proofs.«01_k».proof.Proof.Gen.QropeRefIdeal.Read
public import proofs.«01_k».proof.Proof.Gen.MemqBwdIdeal.Value
public import proofs.«01_k».proof.Proof.Gen.MemqRefIdeal.Run
public import proofs.«01_k».proof.Proof.Gen.MemqRefIdeal.Read
public import proofs.«01_k».proof.Proof.Gen.LossBwdIdeal.Value
public import proofs.«01_k».proof.Proof.Gen.LossRefIdeal.Run
public import proofs.«01_k».proof.Proof.Gen.LossRefIdeal.Read
public import proofs.«01_k».proof.Proof.Gen.MlpupBwdIdeal.Value
public import proofs.«01_k».proof.Proof.Gen.MlpupRefIdeal.Run
public import proofs.«01_k».proof.Proof.Gen.MlpupRefIdeal.Read
public import proofs.«01_k».proof.Proof.Gen.MixRefIdeal.Run
public import proofs.«01_k».proof.Proof.Gen.MixRefIdeal.Read
public import proofs.«01_k».proof.Proof.Gen.PrepRefIdeal.Run
public import proofs.«01_k».proof.Proof.Gen.PrepRefIdeal.Read
public import proofs.«01_k».proof.Proof.Gen.XattnBwdIdeal.Value
public import proofs.«01_k».proof.Proof.Gen.XattnRefIdeal.Run
public import proofs.«01_k».proof.Proof.Gen.XattnRefIdeal.Read
public import proofs.«01_k».proof.Proof.Norm
public import proofs.«01_k».proof.Proof.Conv
public import proofs.«01_k».proof.Proof.Relu
public import proofs.«01_k».proof.Proof.Attn
public import proofs.«01_k».proof.Proof.Qrope
public import proofs.«01_k».proof.Proof.Memq
public import proofs.«01_k».proof.Proof.Loss
public import proofs.«01_k».proof.Proof.Mlpup
public import proofs.«01_k».proof.Proof.Mix
public import proofs.«01_k».proof.Proof.Prep
public import proofs.«01_k».proof.Proof.Xattn
public import Idealize.ShloMosaic.Adequacy
public import Idealize.ShloMosaic.Init

@[expose] public section

noncomputable section

namespace Cert.Proof

open Idealize.ShloMosaic Idealize.SL.Sem Cert.NormBwd

/-- Every claim of the certificate. -/
theorem claim : Cert.Claim := ⟨Cert.NormBwd.Gen.facts, Cert.NormBwdIdeal.Gen.facts, Cert.NormRefIdeal.Gen.facts,
  Cert.ConvBwd.Gen.facts, Cert.ConvBwdIdeal.Gen.facts, Cert.ConvRefIdeal.Gen.facts,
  Cert.ReluBwd.Gen.facts, Cert.ReluBwdIdeal.Gen.facts, Cert.ReluRefIdeal.Gen.facts,
  Cert.AttnBwd.Gen.facts, Cert.AttnBwdIdeal.Gen.facts, Cert.AttnRefIdeal.Gen.facts,
  Cert.QropeBwd.Gen.facts, Cert.QropeBwdIdeal.Gen.facts, Cert.QropeRefIdeal.Gen.facts,
  Cert.MemqBwd.Gen.facts, Cert.MemqBwdIdeal.Gen.facts, Cert.MemqRefIdeal.Gen.facts,
  Cert.LossBwd.Gen.facts, Cert.LossBwdIdeal.Gen.facts, Cert.LossRefIdeal.Gen.facts,
  Cert.MlpupBwd.Gen.facts, Cert.MlpupBwdIdeal.Gen.facts, Cert.MlpupRefIdeal.Gen.facts,
  Cert.MixBwd.Gen.facts, Cert.MixBwdIdeal.Gen.facts, Cert.MixRefIdeal.Gen.facts,
  Cert.PrepBwd.Gen.facts, Cert.PrepBwdIdeal.Gen.facts, Cert.PrepRefIdeal.Gen.facts,
  Cert.XattnBwd.Gen.facts, Cert.XattnBwdIdeal.Gen.facts, Cert.XattnRefIdeal.Gen.facts, Cert.Pre_finite.Gen.facts, Cert.Pre_xattn_finite.Gen.facts,
  fun m ρ _ => Cert.NormBwd.Gen.frame m ρ, fun m ρ _ => Cert.NormBwdIdeal.Gen.frame m ρ, Cert.Norm.ref_frame,
  fun m ρ _ => Cert.ConvBwd.Gen.frame m ρ, fun m ρ _ => Cert.ConvBwdIdeal.Gen.frame m ρ, Cert.Conv.ref_frame,
  fun m ρ _ => Cert.ReluBwd.Gen.frame m ρ, fun m ρ _ => Cert.ReluBwdIdeal.Gen.frame m ρ, Cert.Relu.ref_frame,
  Cert.Attn.frame, fun m ρ _ => Cert.AttnBwdIdeal.Own.frame m ρ, fun m ρ _ => Cert.AttnBwdIdeal.Own.frame m ρ,
  Cert.Attn.ref_frame, fun m ρ _ => Cert.Attn.ref_frame m ρ trivial,
  fun m ρ _ => Cert.QropeBwd.Gen.frame m ρ, fun m ρ _ => Cert.QropeBwdIdeal.Gen.frame m ρ, Cert.Qrope.ref_frame,
  fun m ρ _ => Cert.MemqBwd.Gen.frame m ρ, fun m ρ _ => Cert.MemqBwdIdeal.Gen.frame m ρ, Cert.Memq.ref_frame,
  fun m ρ _ => Cert.LossBwd.Gen.frame m ρ, fun m ρ _ => Cert.LossBwdIdeal.Gen.frame m ρ, Cert.Loss.ref_frame,
  fun m ρ _ => Cert.MlpupBwd.Gen.frame m ρ, fun m ρ _ => Cert.MlpupBwdIdeal.Gen.frame m ρ, Cert.Mlpup.ref_frame,
  fun m ρ _ => Cert.MixBwd.Gen.frame m ρ, fun m ρ _ => Cert.MixBwdIdeal.Gen.frame m ρ, Cert.Mix.ref_frame,
  fun m ρ _ => Cert.PrepBwd.Gen.frame m ρ, fun m ρ _ => Cert.PrepBwdIdeal.Gen.frame m ρ, Cert.Prep.ref_frame,
  fun m ρ _ => Cert.XattnBwd.Gen.frame m ρ, fun m ρ _ => Cert.XattnBwdIdeal.Gen.frame m ρ, fun m ρ _ => Cert.XattnBwdIdeal.Gen.frame m ρ,
  Cert.Xattn.ref_frame, fun m ρ _ => Cert.Xattn.ref_frame m ρ trivial,
  trivial, Cert.Norm.value, trivial, Cert.Conv.value, trivial, Cert.Relu.value, Cert.Attn.preserves, Cert.Attn.value, trivial, Cert.Qrope.value, trivial, Cert.Memq.value, trivial, Cert.Loss.value, trivial, Cert.Mlpup.value, trivial, Cert.Mix.value, trivial, Cert.Prep.value, trivial, Cert.Xattn.value⟩

end Cert.Proof

end
